-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).1 = (fun _ => 1#1)
    ∧ (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sf (m : (ℓ : Loc Cert.Sf.nD Cert.Sf.τ Cert.Sf.sig) → Buf (Elt Bits) ℓ) : Prop :=
  True

def Pre_SfIdeal (m : (ℓ : Loc Cert.SfIdeal.nD Cert.SfIdeal.τ Cert.SfIdeal.sig) → Buf (Elt Ideal) ℓ) : Prop :=
  True

def Pre_SfRefIdeal (m : (ℓ : Loc Cert.SfRefIdeal.nD Cert.SfRefIdeal.τ Cert.SfRefIdeal.sig) → Buf (Elt Ideal) ℓ) : Prop :=
  True

def Pre_Fp (m : (ℓ : Loc Cert.Fp.nD Cert.Fp.τ Cert.Fp.sig) → Buf (Elt Bits) ℓ) : Prop :=
  True

def Pre_FpIdeal (m : (ℓ : Loc Cert.FpIdeal.nD Cert.FpIdeal.τ Cert.FpIdeal.sig) → Buf (Elt Ideal) ℓ) : Prop :=
  True

def Pre_FpRefIdeal (m : (ℓ : Loc Cert.FpRefIdeal.nD Cert.FpRefIdeal.τ Cert.FpRefIdeal.sig) → Buf (Elt Ideal) ℓ) : Prop :=
  True

def Pre_Fo (m : (ℓ : Loc Cert.Fo.nD Cert.Fo.τ Cert.Fo.sig) → Buf (Elt Bits) ℓ) : Prop :=
  True

def Pre_FoIdeal (m : (ℓ : Loc Cert.FoIdeal.nD Cert.FoIdeal.τ Cert.FoIdeal.sig) → Buf (Elt Ideal) ℓ) : Prop :=
  True

def Pre_FoRefIdeal (m : (ℓ : Loc Cert.FoRefIdeal.nD Cert.FoRefIdeal.τ Cert.FoRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_Mf (m : (ℓ : Loc Cert.Mf.nD Cert.Mf.τ Cert.Mf.sig) → Buf (Elt Bits) ℓ) : Prop :=
  True

def Pre_MfIdeal (m : (ℓ : Loc Cert.MfIdeal.nD Cert.MfIdeal.τ Cert.MfIdeal.sig) → Buf (Elt Ideal) ℓ) : Prop :=
  True

def Pre_MfRefIdeal (m : (ℓ : Loc Cert.MfRefIdeal.nD Cert.MfRefIdeal.τ Cert.MfRefIdeal.sig) → Buf (Elt Ideal) ℓ) : Prop :=
  True

def Pre_Xf (m : (ℓ : Loc Cert.Xf.nD Cert.Xf.τ Cert.Xf.sig) → Buf (Elt Bits) ℓ) : Prop :=
  True

def Pre_XfIdeal (m : (ℓ : Loc Cert.XfIdeal.nD Cert.XfIdeal.τ Cert.XfIdeal.sig) → Buf (Elt Ideal) ℓ) : Prop :=
  True

def Pre_XfRefIdeal (m : (ℓ : Loc Cert.XfRefIdeal.nD Cert.XfRefIdeal.τ Cert.XfRefIdeal.sig) → Buf (Elt Ideal) ℓ) : Prop :=
  True

def Pre_Nx (m : (ℓ : Loc Cert.Nx.nD Cert.Nx.τ Cert.Nx.sig) → Buf (Elt Bits) ℓ) : Prop :=
  True

def Pre_NxIdeal (m : (ℓ : Loc Cert.NxIdeal.nD Cert.NxIdeal.τ Cert.NxIdeal.sig) → Buf (Elt Ideal) ℓ) : Prop :=
  True

def Pre_NxRefIdeal (m : (ℓ : Loc Cert.NxRefIdeal.nD Cert.NxRefIdeal.τ Cert.NxRefIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_NmRefIdeal (m : (ℓ : Loc Cert.NmRefIdeal.nD Cert.NmRefIdeal.τ Cert.NmRefIdeal.sig) → Buf (Elt Ideal) ℓ) : Prop :=
  True

def Pre_Nb (m : (ℓ : Loc Cert.Nb.nD Cert.Nb.τ Cert.Nb.sig) → Buf (Elt Bits) ℓ) : Prop :=
  True

def Pre_NbIdeal (m : (ℓ : Loc Cert.NbIdeal.nD Cert.NbIdeal.τ Cert.NbIdeal.sig) → Buf (Elt Ideal) ℓ) : Prop :=
  True

def Pre_NbRefIdeal (m : (ℓ : Loc Cert.NbRefIdeal.nD Cert.NbRefIdeal.τ Cert.NbRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_Bc (m : (ℓ : Loc Cert.Bc.nD Cert.Bc.τ Cert.Bc.sig) → Buf (Elt Bits) ℓ) : Prop :=
  True

def Pre_BcIdeal (m : (ℓ : Loc Cert.BcIdeal.nD Cert.BcIdeal.τ Cert.BcIdeal.sig) → Buf (Elt Ideal) ℓ) : Prop :=
  True

def Pre_BcRefIdeal (m : (ℓ : Loc Cert.BcRefIdeal.nD Cert.BcRefIdeal.τ Cert.BcRefIdeal.sig) → Buf (Elt Ideal) ℓ) : Prop :=
  True

def Pre_Bb (m : (ℓ : Loc Cert.Bb.nD Cert.Bb.τ Cert.Bb.sig) → Buf (Elt Bits) ℓ) : Prop :=
  True

def Pre_BbIdeal (m : (ℓ : Loc Cert.BbIdeal.nD Cert.BbIdeal.τ Cert.BbIdeal.sig) → Buf (Elt Ideal) ℓ) : Prop :=
  True

def Pre_BbRefIdeal (m : (ℓ : Loc Cert.BbRefIdeal.nD Cert.BbRefIdeal.τ Cert.BbRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2n (m : (ℓ : Loc Cert.Ff2n.nD Cert.Ff2n.τ Cert.Ff2n.sig) → Buf (Elt Bits) ℓ) : Prop :=
  True

def Pre_Ff2nIdeal (m : (ℓ : Loc Cert.Ff2nIdeal.nD Cert.Ff2nIdeal.τ Cert.Ff2nIdeal.sig) → Buf (Elt Ideal) ℓ) : Prop :=
  True

def Pre_Ff2nRefIdeal (m : (ℓ : Loc Cert.Ff2nRefIdeal.nD Cert.Ff2nRefIdeal.τ Cert.Ff2nRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Dws (m : (ℓ : Loc Cert.Dws.nD Cert.Dws.τ Cert.Dws.sig) → Buf (Elt Bits) ℓ) : Prop :=
  True

def Pre_DwsIdeal (m : (ℓ : Loc Cert.DwsIdeal.nD Cert.DwsIdeal.τ Cert.DwsIdeal.sig) → Buf (Elt Ideal) ℓ) : Prop :=
  True

def Pre_DwsRefIdeal (m : (ℓ : Loc Cert.DwsRefIdeal.nD Cert.DwsRefIdeal.τ Cert.DwsRefIdeal.sig) → Buf (Elt Ideal) ℓ) : Prop :=
  True

def Pre_Dwkv (m : (ℓ : Loc Cert.Dwkv.nD Cert.Dwkv.τ Cert.Dwkv.sig) → Buf (Elt Bits) ℓ) : Prop :=
  True

def Pre_DwkvIdeal (m : (ℓ : Loc Cert.DwkvIdeal.nD Cert.DwkvIdeal.τ Cert.DwkvIdeal.sig) → Buf (Elt Ideal) ℓ) : Prop :=
  True

def Pre_DwkvRefIdeal (m : (ℓ : Loc Cert.DwkvRefIdeal.nD Cert.DwkvRefIdeal.τ Cert.DwkvRefIdeal.sig) → Buf (Elt Ideal) ℓ) : Prop :=
  True

def Pre_Dwa (m : (ℓ : Loc Cert.Dwa.nD Cert.Dwa.τ Cert.Dwa.sig) → Buf (Elt Bits) ℓ) : Prop :=
  True

def Pre_DwaIdeal (m : (ℓ : Loc Cert.DwaIdeal.nD Cert.DwaIdeal.τ Cert.DwaIdeal.sig) → Buf (Elt Ideal) ℓ) : Prop :=
  True

def Pre_DwaRefIdeal (m : (ℓ : Loc Cert.DwaRefIdeal.nD Cert.DwaRefIdeal.τ Cert.DwaRefIdeal.sig) → Buf (Elt Ideal) ℓ) : Prop :=
  True

def Pre_Dwb (m : (ℓ : Loc Cert.Dwb.nD Cert.Dwb.τ Cert.Dwb.sig) → Buf (Elt Bits) ℓ) : Prop :=
  True

def Pre_DwbIdeal (m : (ℓ : Loc Cert.DwbIdeal.nD Cert.DwbIdeal.τ Cert.DwbIdeal.sig) → Buf (Elt Ideal) ℓ) : Prop :=
  True

def Pre_DwbRefIdeal (m : (ℓ : Loc Cert.DwbRefIdeal.nD Cert.DwbRefIdeal.τ Cert.DwbRefIdeal.sig) → Buf (Elt Ideal) ℓ) : Prop :=
  True

def Pre_Do2 (m : (ℓ : Loc Cert.Do2.nD Cert.Do2.τ Cert.Do2.sig) → Buf (Elt Bits) ℓ) : Prop :=
  True

def Pre_Do2Ideal (m : (ℓ : Loc Cert.Do2Ideal.nD Cert.Do2Ideal.τ Cert.Do2Ideal.sig) → Buf (Elt Ideal) ℓ) : Prop :=
  True

def Pre_Do2RefIdeal (m : (ℓ : Loc Cert.Do2RefIdeal.nD Cert.Do2RefIdeal.τ Cert.Do2RefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Dhm (m : (ℓ : Loc Cert.Dhm.nD Cert.Dhm.τ Cert.Dhm.sig) → Buf (Elt Bits) ℓ) : Prop :=
  True

def Pre_DhmIdeal (m : (ℓ : Loc Cert.DhmIdeal.nD Cert.DhmIdeal.τ Cert.DhmIdeal.sig) → Buf (Elt Ideal) ℓ) : Prop :=
  True

def Pre_DhmRefIdeal (m : (ℓ : Loc Cert.DhmRefIdeal.nD Cert.DhmRefIdeal.τ Cert.DhmRefIdeal.sig) → Buf (Elt Ideal) ℓ) : Prop :=
  True

def Pre_Dpa (m : (ℓ : Loc Cert.Dpa.nD Cert.Dpa.τ Cert.Dpa.sig) → Buf (Elt Bits) ℓ) : Prop :=
  True

def Pre_DpaIdeal (m : (ℓ : Loc Cert.DpaIdeal.nD Cert.DpaIdeal.τ Cert.DpaIdeal.sig) → Buf (Elt Ideal) ℓ) : Prop :=
  True

def Pre_DpaRefIdeal (m : (ℓ : Loc Cert.DpaRefIdeal.nD Cert.DpaRefIdeal.τ Cert.DpaRefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Dhf (m : (ℓ : Loc Cert.Dhf.nD Cert.Dhf.τ Cert.Dhf.sig) → Buf (Elt Bits) ℓ) : Prop :=
  True

def Pre_DhfIdeal (m : (ℓ : Loc Cert.DhfIdeal.nD Cert.DhfIdeal.τ Cert.DhfIdeal.sig) → Buf (Elt Ideal) ℓ) : Prop :=
  True

def Pre_DhfRefIdeal (m : (ℓ : Loc Cert.DhfRefIdeal.nD Cert.DhfRefIdeal.τ Cert.DhfRefIdeal.sig) → Buf (Elt Ideal) ℓ) : Prop :=
  True

def Pre_Dhx (m : (ℓ : Loc Cert.Dhx.nD Cert.Dhx.τ Cert.Dhx.sig) → Buf (Elt Bits) ℓ) : Prop :=
  True

def Pre_DhxIdeal (m : (ℓ : Loc Cert.DhxIdeal.nD Cert.DhxIdeal.τ Cert.DhxIdeal.sig) → Buf (Elt Ideal) ℓ) : Prop :=
  True

def Pre_DhxRefIdeal (m : (ℓ : Loc Cert.DhxRefIdeal.nD Cert.DhxRefIdeal.τ Cert.DhxRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_Dwrest (m : (ℓ : Loc Cert.Dwrest.nD Cert.Dwrest.τ Cert.Dwrest.sig) → Buf (Elt Bits) ℓ) : Prop :=
  True

def Pre_DwrestIdeal (m : (ℓ : Loc Cert.DwrestIdeal.nD Cert.DwrestIdeal.τ Cert.DwrestIdeal.sig) → Buf (Elt Ideal) ℓ) : Prop :=
  True

def Pre_DwrestRefIdeal (m : (ℓ : Loc Cert.DwrestRefIdeal.nD Cert.DwrestRefIdeal.τ Cert.DwrestRefIdeal.sig) → Buf (Elt Ideal) ℓ) : Prop :=
  True

def Pre_Dhqkv (m : (ℓ : Loc Cert.Dhqkv.nD Cert.Dhqkv.τ Cert.Dhqkv.sig) → Buf (Elt Bits) ℓ) : Prop :=
  True

def Pre_DhqkvIdeal (m : (ℓ : Loc Cert.DhqkvIdeal.nD Cert.DhqkvIdeal.τ Cert.DhqkvIdeal.sig) → Buf (Elt Ideal) ℓ) : Prop :=
  True

def Pre_DhqkvRefIdeal (m : (ℓ : Loc Cert.DhqkvRefIdeal.nD Cert.DhqkvRefIdeal.τ Cert.DhqkvRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Sf [hSf : Cert.Sf.Facts] : Prop :=
  ∀ (m : (ℓ : Loc Cert.Sf.nD Cert.Sf.τ Cert.Sf.sig) → Buf (Elt Bits) ℓ) (g : Dev Cert.Sf.nD → PrngReg), Pre_Sf m →
    θ_run (Cert.Sf.defs (F := Bits)) (onTc (τ := Cert.Sf.τ) (Cert.Sf.main (F := Bits))) ⟨m, fun _ => 0, g⟩ (fun r => (∀ c : Dev Cert.Sf.nD,
      r.2.mem ((c.tc : Thread Cert.Sf.nD Cert.Sf.τ).loc Cert.Sf.main_arg0) = m ((c.tc : Thread Cert.Sf.nD Cert.Sf.τ).loc Cert.Sf.main_arg0)
      ∧ r.2.mem ((c.tc : Thread Cert.Sf.nD Cert.Sf.τ).loc Cert.Sf.main_arg1) = m ((c.tc : Thread Cert.Sf.nD Cert.Sf.τ).loc Cert.Sf.main_arg1)
      ∧ r.2.mem ((c.tc : Thread Cert.Sf.nD Cert.Sf.τ).loc Cert.Sf.main_arg2) = m ((c.tc : Thread Cert.Sf.nD Cert.Sf.τ).loc Cert.Sf.main_arg2)
      ∧ r.2.mem ((c.tc : Thread Cert.Sf.nD Cert.Sf.τ).loc Cert.Sf.main_arg3) = m ((c.tc : Thread Cert.Sf.nD Cert.Sf.τ).loc Cert.Sf.main_arg3))
      ∧ r.2.sem = fun _ => 0)

def quiescent_SfIdeal [hSfIdeal : Cert.SfIdeal.Facts] : Prop :=
  ∀ (m : (ℓ : Loc Cert.SfIdeal.nD Cert.SfIdeal.τ Cert.SfIdeal.sig) → Buf (Elt Ideal) ℓ) (g : Dev Cert.SfIdeal.nD → PrngReg), Pre_SfIdeal m →
    θ_run (Cert.SfIdeal.defs (F := Ideal)) (onTc (τ := Cert.SfIdeal.τ) (Cert.SfIdeal.main (F := Ideal))) ⟨m, fun _ => 0, g⟩ (fun r => (∀ c : Dev Cert.SfIdeal.nD,
      r.2.mem ((c.tc : Thread Cert.SfIdeal.nD Cert.SfIdeal.τ).loc Cert.SfIdeal.main_arg0) = m ((c.tc : Thread Cert.SfIdeal.nD Cert.SfIdeal.τ).loc Cert.SfIdeal.main_arg0)
      ∧ r.2.mem ((c.tc : Thread Cert.SfIdeal.nD Cert.SfIdeal.τ).loc Cert.SfIdeal.main_arg1) = m ((c.tc : Thread Cert.SfIdeal.nD Cert.SfIdeal.τ).loc Cert.SfIdeal.main_arg1)
      ∧ r.2.mem ((c.tc : Thread Cert.SfIdeal.nD Cert.SfIdeal.τ).loc Cert.SfIdeal.main_arg2) = m ((c.tc : Thread Cert.SfIdeal.nD Cert.SfIdeal.τ).loc Cert.SfIdeal.main_arg2)
      ∧ r.2.mem ((c.tc : Thread Cert.SfIdeal.nD Cert.SfIdeal.τ).loc Cert.SfIdeal.main_arg3) = m ((c.tc : Thread Cert.SfIdeal.nD Cert.SfIdeal.τ).loc Cert.SfIdeal.main_arg3))
      ∧ r.2.sem = fun _ => 0)

def quiescent_SfRefIdeal [hSfRefIdeal : Cert.SfRefIdeal.Facts] : Prop :=
  ∀ (m : (ℓ : Loc Cert.SfRefIdeal.nD Cert.SfRefIdeal.τ Cert.SfRefIdeal.sig) → Buf (Elt Ideal) ℓ) (g : Dev Cert.SfRefIdeal.nD → PrngReg), Pre_SfRefIdeal m →
    θ_run (Cert.SfRefIdeal.defs (F := Ideal)) (onTc (τ := Cert.SfRefIdeal.τ) (Cert.SfRefIdeal.main (F := Ideal))) ⟨m, fun _ => 0, g⟩ (fun r => (∀ c : Dev Cert.SfRefIdeal.nD,
      r.2.mem ((c.tc : Thread Cert.SfRefIdeal.nD Cert.SfRefIdeal.τ).loc Cert.SfRefIdeal.main_arg0) = m ((c.tc : Thread Cert.SfRefIdeal.nD Cert.SfRefIdeal.τ).loc Cert.SfRefIdeal.main_arg0)
      ∧ r.2.mem ((c.tc : Thread Cert.SfRefIdeal.nD Cert.SfRefIdeal.τ).loc Cert.SfRefIdeal.main_arg1) = m ((c.tc : Thread Cert.SfRefIdeal.nD Cert.SfRefIdeal.τ).loc Cert.SfRefIdeal.main_arg1)
      ∧ r.2.mem ((c.tc : Thread Cert.SfRefIdeal.nD Cert.SfRefIdeal.τ).loc Cert.SfRefIdeal.main_arg2) = m ((c.tc : Thread Cert.SfRefIdeal.nD Cert.SfRefIdeal.τ).loc Cert.SfRefIdeal.main_arg2)
      ∧ r.2.mem ((c.tc : Thread Cert.SfRefIdeal.nD Cert.SfRefIdeal.τ).loc Cert.SfRefIdeal.main_arg3) = m ((c.tc : Thread Cert.SfRefIdeal.nD Cert.SfRefIdeal.τ).loc Cert.SfRefIdeal.main_arg3))
      ∧ r.2.sem = fun _ => 0)

def quiescent_Fp [hFp : Cert.Fp.Facts] : Prop :=
  ∀ (m : (ℓ : Loc Cert.Fp.nD Cert.Fp.τ Cert.Fp.sig) → Buf (Elt Bits) ℓ) (g : Dev Cert.Fp.nD → PrngReg), Pre_Fp m →
    θ_run (Cert.Fp.defs (F := Bits)) (onTc (τ := Cert.Fp.τ) (Cert.Fp.main (F := Bits))) ⟨m, fun _ => 0, g⟩ (fun r => (∀ c : Dev Cert.Fp.nD,
      r.2.mem ((c.tc : Thread Cert.Fp.nD Cert.Fp.τ).loc Cert.Fp.main_arg0) = m ((c.tc : Thread Cert.Fp.nD Cert.Fp.τ).loc Cert.Fp.main_arg0)
      ∧ r.2.mem ((c.tc : Thread Cert.Fp.nD Cert.Fp.τ).loc Cert.Fp.main_arg1) = m ((c.tc : Thread Cert.Fp.nD Cert.Fp.τ).loc Cert.Fp.main_arg1))
      ∧ r.2.sem = fun _ => 0)

def quiescent_FpIdeal [hFpIdeal : Cert.FpIdeal.Facts] : Prop :=
  ∀ (m : (ℓ : Loc Cert.FpIdeal.nD Cert.FpIdeal.τ Cert.FpIdeal.sig) → Buf (Elt Ideal) ℓ) (g : Dev Cert.FpIdeal.nD → PrngReg), Pre_FpIdeal m →
    θ_run (Cert.FpIdeal.defs (F := Ideal)) (onTc (τ := Cert.FpIdeal.τ) (Cert.FpIdeal.main (F := Ideal))) ⟨m, fun _ => 0, g⟩ (fun r => (∀ c : Dev Cert.FpIdeal.nD,
      r.2.mem ((c.tc : Thread Cert.FpIdeal.nD Cert.FpIdeal.τ).loc Cert.FpIdeal.main_arg0) = m ((c.tc : Thread Cert.FpIdeal.nD Cert.FpIdeal.τ).loc Cert.FpIdeal.main_arg0)
      ∧ r.2.mem ((c.tc : Thread Cert.FpIdeal.nD Cert.FpIdeal.τ).loc Cert.FpIdeal.main_arg1) = m ((c.tc : Thread Cert.FpIdeal.nD Cert.FpIdeal.τ).loc Cert.FpIdeal.main_arg1))
      ∧ r.2.sem = fun _ => 0)

def quiescent_FpRefIdeal [hFpRefIdeal : Cert.FpRefIdeal.Facts] : Prop :=
  ∀ (m : (ℓ : Loc Cert.FpRefIdeal.nD Cert.FpRefIdeal.τ Cert.FpRefIdeal.sig) → Buf (Elt Ideal) ℓ) (g : Dev Cert.FpRefIdeal.nD → PrngReg), Pre_FpRefIdeal m →
    θ_run (Cert.FpRefIdeal.defs (F := Ideal)) (onTc (τ := Cert.FpRefIdeal.τ) (Cert.FpRefIdeal.main (F := Ideal))) ⟨m, fun _ => 0, g⟩ (fun r => (∀ c : Dev Cert.FpRefIdeal.nD,
      r.2.mem ((c.tc : Thread Cert.FpRefIdeal.nD Cert.FpRefIdeal.τ).loc Cert.FpRefIdeal.main_arg0) = m ((c.tc : Thread Cert.FpRefIdeal.nD Cert.FpRefIdeal.τ).loc Cert.FpRefIdeal.main_arg0)
      ∧ r.2.mem ((c.tc : Thread Cert.FpRefIdeal.nD Cert.FpRefIdeal.τ).loc Cert.FpRefIdeal.main_arg1) = m ((c.tc : Thread Cert.FpRefIdeal.nD Cert.FpRefIdeal.τ).loc Cert.FpRefIdeal.main_arg1))
      ∧ r.2.sem = fun _ => 0)

def quiescent_Fo [hFo : Cert.Fo.Facts] : Prop :=
  ∀ (m : (ℓ : Loc Cert.Fo.nD Cert.Fo.τ Cert.Fo.sig) → Buf (Elt Bits) ℓ) (g : Dev Cert.Fo.nD → PrngReg), Pre_Fo m →
    θ_run (Cert.Fo.defs (F := Bits)) (onTc (τ := Cert.Fo.τ) (Cert.Fo.main (F := Bits))) ⟨m, fun _ => 0, g⟩ (fun r => (∀ c : Dev Cert.Fo.nD,
      r.2.mem ((c.tc : Thread Cert.Fo.nD Cert.Fo.τ).loc Cert.Fo.main_arg0) = m ((c.tc : Thread Cert.Fo.nD Cert.Fo.τ).loc Cert.Fo.main_arg0)
      ∧ r.2.mem ((c.tc : Thread Cert.Fo.nD Cert.Fo.τ).loc Cert.Fo.main_arg1) = m ((c.tc : Thread Cert.Fo.nD Cert.Fo.τ).loc Cert.Fo.main_arg1)
      ∧ r.2.mem ((c.tc : Thread Cert.Fo.nD Cert.Fo.τ).loc Cert.Fo.main_arg2) = m ((c.tc : Thread Cert.Fo.nD Cert.Fo.τ).loc Cert.Fo.main_arg2))
      ∧ r.2.sem = fun _ => 0)

def quiescent_FoIdeal [hFoIdeal : Cert.FoIdeal.Facts] : Prop :=
  ∀ (m : (ℓ : Loc Cert.FoIdeal.nD Cert.FoIdeal.τ Cert.FoIdeal.sig) → Buf (Elt Ideal) ℓ) (g : Dev Cert.FoIdeal.nD → PrngReg), Pre_FoIdeal m →
    θ_run (Cert.FoIdeal.defs (F := Ideal)) (onTc (τ := Cert.FoIdeal.τ) (Cert.FoIdeal.main (F := Ideal))) ⟨m, fun _ => 0, g⟩ (fun r => (∀ c : Dev Cert.FoIdeal.nD,
      r.2.mem ((c.tc : Thread Cert.FoIdeal.nD Cert.FoIdeal.τ).loc Cert.FoIdeal.main_arg0) = m ((c.tc : Thread Cert.FoIdeal.nD Cert.FoIdeal.τ).loc Cert.FoIdeal.main_arg0)
      ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
      ∧ r.2.mem ((c.tc : Thread Cert.FoIdeal.nD Cert.FoIdeal.τ).loc Cert.FoIdeal.main_arg2) = m ((c.tc : Thread Cert.FoIdeal.nD Cert.FoIdeal.τ).loc Cert.FoIdeal.main_arg2))
      ∧ r.2.sem = fun _ => 0)

def quiescent_FoRefIdeal [hFoRefIdeal : Cert.FoRefIdeal.Facts] : Prop :=
  ∀ (m : (ℓ : Loc Cert.FoRefIdeal.nD Cert.FoRefIdeal.τ Cert.FoRefIdeal.sig) → Buf (Elt Ideal) ℓ) (g : Dev Cert.FoRefIdeal.nD → PrngReg), Pre_FoRefIdeal m →
    θ_run (Cert.FoRefIdeal.defs (F := Ideal)) (onTc (τ := Cert.FoRefIdeal.τ) (Cert.FoRefIdeal.main (F := Ideal))) ⟨m, fun _ => 0, g⟩ (fun r => (∀ c : Dev Cert.FoRefIdeal.nD,
      r.2.mem ((c.tc : Thread Cert.FoRefIdeal.nD Cert.FoRefIdeal.τ).loc Cert.FoRefIdeal.main_arg0) = m ((c.tc : Thread Cert.FoRefIdeal.nD Cert.FoRefIdeal.τ).loc Cert.FoRefIdeal.main_arg0)
      ∧ r.2.mem ((c.tc : Thread Cert.FoRefIdeal.nD Cert.FoRefIdeal.τ).loc Cert.FoRefIdeal.main_arg1) = m ((c.tc : Thread Cert.FoRefIdeal.nD Cert.FoRefIdeal.τ).loc Cert.FoRefIdeal.main_arg1)
      ∧ r.2.mem ((c.tc : Thread Cert.FoRefIdeal.nD Cert.FoRefIdeal.τ).loc Cert.FoRefIdeal.main_arg2) = m ((c.tc : Thread Cert.FoRefIdeal.nD Cert.FoRefIdeal.τ).loc Cert.FoRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Mf [hMf : Cert.Mf.Facts] : Prop :=
  ∀ (m : (ℓ : Loc Cert.Mf.nD Cert.Mf.τ Cert.Mf.sig) → Buf (Elt Bits) ℓ) (g : Dev Cert.Mf.nD → PrngReg), Pre_Mf m →
    θ_run (Cert.Mf.defs (F := Bits)) (onTc (τ := Cert.Mf.τ) (Cert.Mf.main (F := Bits))) ⟨m, fun _ => 0, g⟩ (fun r => (∀ c : Dev Cert.Mf.nD,
      r.2.mem ((c.tc : Thread Cert.Mf.nD Cert.Mf.τ).loc Cert.Mf.main_arg0) = m ((c.tc : Thread Cert.Mf.nD Cert.Mf.τ).loc Cert.Mf.main_arg0)
      ∧ r.2.mem ((c.tc : Thread Cert.Mf.nD Cert.Mf.τ).loc Cert.Mf.main_arg1) = m ((c.tc : Thread Cert.Mf.nD Cert.Mf.τ).loc Cert.Mf.main_arg1)
      ∧ r.2.mem ((c.tc : Thread Cert.Mf.nD Cert.Mf.τ).loc Cert.Mf.main_arg2) = m ((c.tc : Thread Cert.Mf.nD Cert.Mf.τ).loc Cert.Mf.main_arg2)
      ∧ r.2.mem ((c.tc : Thread Cert.Mf.nD Cert.Mf.τ).loc Cert.Mf.main_arg3) = m ((c.tc : Thread Cert.Mf.nD Cert.Mf.τ).loc Cert.Mf.main_arg3)
      ∧ r.2.mem ((c.tc : Thread Cert.Mf.nD Cert.Mf.τ).loc Cert.Mf.main_arg4) = m ((c.tc : Thread Cert.Mf.nD Cert.Mf.τ).loc Cert.Mf.main_arg4))
      ∧ r.2.sem = fun _ => 0)

def quiescent_MfIdeal [hMfIdeal : Cert.MfIdeal.Facts] : Prop :=
  ∀ (m : (ℓ : Loc Cert.MfIdeal.nD Cert.MfIdeal.τ Cert.MfIdeal.sig) → Buf (Elt Ideal) ℓ) (g : Dev Cert.MfIdeal.nD → PrngReg), Pre_MfIdeal m →
    θ_run (Cert.MfIdeal.defs (F := Ideal)) (onTc (τ := Cert.MfIdeal.τ) (Cert.MfIdeal.main (F := Ideal))) ⟨m, fun _ => 0, g⟩ (fun r => (∀ c : Dev Cert.MfIdeal.nD,
      r.2.mem ((c.tc : Thread Cert.MfIdeal.nD Cert.MfIdeal.τ).loc Cert.MfIdeal.main_arg0) = m ((c.tc : Thread Cert.MfIdeal.nD Cert.MfIdeal.τ).loc Cert.MfIdeal.main_arg0)
      ∧ r.2.mem ((c.tc : Thread Cert.MfIdeal.nD Cert.MfIdeal.τ).loc Cert.MfIdeal.main_arg1) = m ((c.tc : Thread Cert.MfIdeal.nD Cert.MfIdeal.τ).loc Cert.MfIdeal.main_arg1)
      ∧ r.2.mem ((c.tc : Thread Cert.MfIdeal.nD Cert.MfIdeal.τ).loc Cert.MfIdeal.main_arg2) = m ((c.tc : Thread Cert.MfIdeal.nD Cert.MfIdeal.τ).loc Cert.MfIdeal.main_arg2)
      ∧ r.2.mem ((c.tc : Thread Cert.MfIdeal.nD Cert.MfIdeal.τ).loc Cert.MfIdeal.main_arg3) = m ((c.tc : Thread Cert.MfIdeal.nD Cert.MfIdeal.τ).loc Cert.MfIdeal.main_arg3)
      ∧ r.2.mem ((c.tc : Thread Cert.MfIdeal.nD Cert.MfIdeal.τ).loc Cert.MfIdeal.main_arg4) = m ((c.tc : Thread Cert.MfIdeal.nD Cert.MfIdeal.τ).loc Cert.MfIdeal.main_arg4))
      ∧ r.2.sem = fun _ => 0)

def quiescent_MfRefIdeal [hMfRefIdeal : Cert.MfRefIdeal.Facts] : Prop :=
  ∀ (m : (ℓ : Loc Cert.MfRefIdeal.nD Cert.MfRefIdeal.τ Cert.MfRefIdeal.sig) → Buf (Elt Ideal) ℓ) (g : Dev Cert.MfRefIdeal.nD → PrngReg), Pre_MfRefIdeal m →
    θ_run (Cert.MfRefIdeal.defs (F := Ideal)) (onTc (τ := Cert.MfRefIdeal.τ) (Cert.MfRefIdeal.main (F := Ideal))) ⟨m, fun _ => 0, g⟩ (fun r => (∀ c : Dev Cert.MfRefIdeal.nD,
      r.2.mem ((c.tc : Thread Cert.MfRefIdeal.nD Cert.MfRefIdeal.τ).loc Cert.MfRefIdeal.main_arg0) = m ((c.tc : Thread Cert.MfRefIdeal.nD Cert.MfRefIdeal.τ).loc Cert.MfRefIdeal.main_arg0)
      ∧ r.2.mem ((c.tc : Thread Cert.MfRefIdeal.nD Cert.MfRefIdeal.τ).loc Cert.MfRefIdeal.main_arg1) = m ((c.tc : Thread Cert.MfRefIdeal.nD Cert.MfRefIdeal.τ).loc Cert.MfRefIdeal.main_arg1)
      ∧ r.2.mem ((c.tc : Thread Cert.MfRefIdeal.nD Cert.MfRefIdeal.τ).loc Cert.MfRefIdeal.main_arg2) = m ((c.tc : Thread Cert.MfRefIdeal.nD Cert.MfRefIdeal.τ).loc Cert.MfRefIdeal.main_arg2)
      ∧ r.2.mem ((c.tc : Thread Cert.MfRefIdeal.nD Cert.MfRefIdeal.τ).loc Cert.MfRefIdeal.main_arg3) = m ((c.tc : Thread Cert.MfRefIdeal.nD Cert.MfRefIdeal.τ).loc Cert.MfRefIdeal.main_arg3)
      ∧ r.2.mem ((c.tc : Thread Cert.MfRefIdeal.nD Cert.MfRefIdeal.τ).loc Cert.MfRefIdeal.main_arg4) = m ((c.tc : Thread Cert.MfRefIdeal.nD Cert.MfRefIdeal.τ).loc Cert.MfRefIdeal.main_arg4))
      ∧ r.2.sem = fun _ => 0)

def quiescent_Xf [hXf : Cert.Xf.Facts] : Prop :=
  ∀ (m : (ℓ : Loc Cert.Xf.nD Cert.Xf.τ Cert.Xf.sig) → Buf (Elt Bits) ℓ) (g : Dev Cert.Xf.nD → PrngReg), Pre_Xf m →
    θ_run (Cert.Xf.defs (F := Bits)) (onTc (τ := Cert.Xf.τ) (Cert.Xf.main (F := Bits))) ⟨m, fun _ => 0, g⟩ (fun r => (∀ c : Dev Cert.Xf.nD,
      r.2.mem ((c.tc : Thread Cert.Xf.nD Cert.Xf.τ).loc Cert.Xf.main_arg0) = m ((c.tc : Thread Cert.Xf.nD Cert.Xf.τ).loc Cert.Xf.main_arg0)
      ∧ r.2.mem ((c.tc : Thread Cert.Xf.nD Cert.Xf.τ).loc Cert.Xf.main_arg1) = m ((c.tc : Thread Cert.Xf.nD Cert.Xf.τ).loc Cert.Xf.main_arg1))
      ∧ r.2.sem = fun _ => 0)

def quiescent_XfIdeal [hXfIdeal : Cert.XfIdeal.Facts] : Prop :=
  ∀ (m : (ℓ : Loc Cert.XfIdeal.nD Cert.XfIdeal.τ Cert.XfIdeal.sig) → Buf (Elt Ideal) ℓ) (g : Dev Cert.XfIdeal.nD → PrngReg), Pre_XfIdeal m →
    θ_run (Cert.XfIdeal.defs (F := Ideal)) (onTc (τ := Cert.XfIdeal.τ) (Cert.XfIdeal.main (F := Ideal))) ⟨m, fun _ => 0, g⟩ (fun r => (∀ c : Dev Cert.XfIdeal.nD,
      r.2.mem ((c.tc : Thread Cert.XfIdeal.nD Cert.XfIdeal.τ).loc Cert.XfIdeal.main_arg0) = m ((c.tc : Thread Cert.XfIdeal.nD Cert.XfIdeal.τ).loc Cert.XfIdeal.main_arg0)
      ∧ r.2.mem ((c.tc : Thread Cert.XfIdeal.nD Cert.XfIdeal.τ).loc Cert.XfIdeal.main_arg1) = m ((c.tc : Thread Cert.XfIdeal.nD Cert.XfIdeal.τ).loc Cert.XfIdeal.main_arg1))
      ∧ r.2.sem = fun _ => 0)

def quiescent_XfRefIdeal [hXfRefIdeal : Cert.XfRefIdeal.Facts] : Prop :=
  ∀ (m : (ℓ : Loc Cert.XfRefIdeal.nD Cert.XfRefIdeal.τ Cert.XfRefIdeal.sig) → Buf (Elt Ideal) ℓ) (g : Dev Cert.XfRefIdeal.nD → PrngReg), Pre_XfRefIdeal m →
    θ_run (Cert.XfRefIdeal.defs (F := Ideal)) (onTc (τ := Cert.XfRefIdeal.τ) (Cert.XfRefIdeal.main (F := Ideal))) ⟨m, fun _ => 0, g⟩ (fun r => (∀ c : Dev Cert.XfRefIdeal.nD,
      r.2.mem ((c.tc : Thread Cert.XfRefIdeal.nD Cert.XfRefIdeal.τ).loc Cert.XfRefIdeal.main_arg0) = m ((c.tc : Thread Cert.XfRefIdeal.nD Cert.XfRefIdeal.τ).loc Cert.XfRefIdeal.main_arg0)
      ∧ r.2.mem ((c.tc : Thread Cert.XfRefIdeal.nD Cert.XfRefIdeal.τ).loc Cert.XfRefIdeal.main_arg1) = m ((c.tc : Thread Cert.XfRefIdeal.nD Cert.XfRefIdeal.τ).loc Cert.XfRefIdeal.main_arg1))
      ∧ r.2.sem = fun _ => 0)

def quiescent_Nx [hNx : Cert.Nx.Facts] : Prop :=
  ∀ (m : (ℓ : Loc Cert.Nx.nD Cert.Nx.τ Cert.Nx.sig) → Buf (Elt Bits) ℓ) (g : Dev Cert.Nx.nD → PrngReg), Pre_Nx m →
    θ_run (Cert.Nx.defs (F := Bits)) (onTc (τ := Cert.Nx.τ) (Cert.Nx.main (F := Bits))) ⟨m, fun _ => 0, g⟩ (fun r => (∀ c : Dev Cert.Nx.nD,
      r.2.mem ((c.tc : Thread Cert.Nx.nD Cert.Nx.τ).loc Cert.Nx.main_arg0) = m ((c.tc : Thread Cert.Nx.nD Cert.Nx.τ).loc Cert.Nx.main_arg0)
      ∧ r.2.mem ((c.tc : Thread Cert.Nx.nD Cert.Nx.τ).loc Cert.Nx.main_arg1) = m ((c.tc : Thread Cert.Nx.nD Cert.Nx.τ).loc Cert.Nx.main_arg1)
      ∧ r.2.mem ((c.tc : Thread Cert.Nx.nD Cert.Nx.τ).loc Cert.Nx.main_arg2) = m ((c.tc : Thread Cert.Nx.nD Cert.Nx.τ).loc Cert.Nx.main_arg2))
      ∧ r.2.sem = fun _ => 0)

def quiescent_NxIdeal [hNxIdeal : Cert.NxIdeal.Facts] : Prop :=
  ∀ (m : (ℓ : Loc Cert.NxIdeal.nD Cert.NxIdeal.τ Cert.NxIdeal.sig) → Buf (Elt Ideal) ℓ) (g : Dev Cert.NxIdeal.nD → PrngReg), Pre_NxIdeal m →
    θ_run (Cert.NxIdeal.defs (F := Ideal)) (onTc (τ := Cert.NxIdeal.τ) (Cert.NxIdeal.main (F := Ideal))) ⟨m, fun _ => 0, g⟩ (fun r => (∀ c : Dev Cert.NxIdeal.nD,
      r.2.mem ((c.tc : Thread Cert.NxIdeal.nD Cert.NxIdeal.τ).loc Cert.NxIdeal.main_arg0) = m ((c.tc : Thread Cert.NxIdeal.nD Cert.NxIdeal.τ).loc Cert.NxIdeal.main_arg0)
      ∧ r.2.mem ((c.tc : Thread Cert.NxIdeal.nD Cert.NxIdeal.τ).loc Cert.NxIdeal.main_arg1) = m ((c.tc : Thread Cert.NxIdeal.nD Cert.NxIdeal.τ).loc Cert.NxIdeal.main_arg1)
      ∧ r.2.mem ((c.tc : Thread Cert.NxIdeal.nD Cert.NxIdeal.τ).loc Cert.NxIdeal.main_arg2) = m ((c.tc : Thread Cert.NxIdeal.nD Cert.NxIdeal.τ).loc Cert.NxIdeal.main_arg2))
      ∧ r.2.sem = fun _ => 0)

def quiescent_NxRefIdeal [hNxRefIdeal : Cert.NxRefIdeal.Facts] : Prop :=
  ∀ (m : (ℓ : Loc Cert.NxRefIdeal.nD Cert.NxRefIdeal.τ Cert.NxRefIdeal.sig) → Buf (Elt Ideal) ℓ) (g : Dev Cert.NxRefIdeal.nD → PrngReg), Pre_NxRefIdeal m →
    θ_run (Cert.NxRefIdeal.defs (F := Ideal)) (onTc (τ := Cert.NxRefIdeal.τ) (Cert.NxRefIdeal.main (F := Ideal))) ⟨m, fun _ => 0, g⟩ (fun r => (∀ c : Dev Cert.NxRefIdeal.nD,
      r.2.mem ((c.tc : Thread Cert.NxRefIdeal.nD Cert.NxRefIdeal.τ).loc Cert.NxRefIdeal.main_arg0) = m ((c.tc : Thread Cert.NxRefIdeal.nD Cert.NxRefIdeal.τ).loc Cert.NxRefIdeal.main_arg0)
      ∧ r.2.mem ((c.tc : Thread Cert.NxRefIdeal.nD Cert.NxRefIdeal.τ).loc Cert.NxRefIdeal.main_arg1) = m ((c.tc : Thread Cert.NxRefIdeal.nD Cert.NxRefIdeal.τ).loc Cert.NxRefIdeal.main_arg1)
      ∧ r.2.mem ((c.tc : Thread Cert.NxRefIdeal.nD Cert.NxRefIdeal.τ).loc Cert.NxRefIdeal.main_arg2) = m ((c.tc : Thread Cert.NxRefIdeal.nD Cert.NxRefIdeal.τ).loc Cert.NxRefIdeal.main_arg2))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1))
      ∧ r.2.sem = fun _ => 0)

def quiescent_NmRefIdeal [hNmRefIdeal : Cert.NmRefIdeal.Facts] : Prop :=
  ∀ (m : (ℓ : Loc Cert.NmRefIdeal.nD Cert.NmRefIdeal.τ Cert.NmRefIdeal.sig) → Buf (Elt Ideal) ℓ) (g : Dev Cert.NmRefIdeal.nD → PrngReg), Pre_NmRefIdeal m →
    θ_run (Cert.NmRefIdeal.defs (F := Ideal)) (onTc (τ := Cert.NmRefIdeal.τ) (Cert.NmRefIdeal.main (F := Ideal))) ⟨m, fun _ => 0, g⟩ (fun r => (∀ c : Dev Cert.NmRefIdeal.nD,
      r.2.mem ((c.tc : Thread Cert.NmRefIdeal.nD Cert.NmRefIdeal.τ).loc Cert.NmRefIdeal.main_arg0) = m ((c.tc : Thread Cert.NmRefIdeal.nD Cert.NmRefIdeal.τ).loc Cert.NmRefIdeal.main_arg0)
      ∧ r.2.mem ((c.tc : Thread Cert.NmRefIdeal.nD Cert.NmRefIdeal.τ).loc Cert.NmRefIdeal.main_arg1) = m ((c.tc : Thread Cert.NmRefIdeal.nD Cert.NmRefIdeal.τ).loc Cert.NmRefIdeal.main_arg1))
      ∧ r.2.sem = fun _ => 0)

def quiescent_Nb [hNb : Cert.Nb.Facts] : Prop :=
  ∀ (m : (ℓ : Loc Cert.Nb.nD Cert.Nb.τ Cert.Nb.sig) → Buf (Elt Bits) ℓ) (g : Dev Cert.Nb.nD → PrngReg), Pre_Nb m →
    θ_run (Cert.Nb.defs (F := Bits)) (onTc (τ := Cert.Nb.τ) (Cert.Nb.main (F := Bits))) ⟨m, fun _ => 0, g⟩ (fun r => (∀ c : Dev Cert.Nb.nD,
      r.2.mem ((c.tc : Thread Cert.Nb.nD Cert.Nb.τ).loc Cert.Nb.main_arg0) = m ((c.tc : Thread Cert.Nb.nD Cert.Nb.τ).loc Cert.Nb.main_arg0)
      ∧ r.2.mem ((c.tc : Thread Cert.Nb.nD Cert.Nb.τ).loc Cert.Nb.main_arg1) = m ((c.tc : Thread Cert.Nb.nD Cert.Nb.τ).loc Cert.Nb.main_arg1)
      ∧ r.2.mem ((c.tc : Thread Cert.Nb.nD Cert.Nb.τ).loc Cert.Nb.main_arg2) = m ((c.tc : Thread Cert.Nb.nD Cert.Nb.τ).loc Cert.Nb.main_arg2)
      ∧ r.2.mem ((c.tc : Thread Cert.Nb.nD Cert.Nb.τ).loc Cert.Nb.main_arg3) = m ((c.tc : Thread Cert.Nb.nD Cert.Nb.τ).loc Cert.Nb.main_arg3))
      ∧ r.2.sem = fun _ => 0)

def quiescent_NbIdeal [hNbIdeal : Cert.NbIdeal.Facts] : Prop :=
  ∀ (m : (ℓ : Loc Cert.NbIdeal.nD Cert.NbIdeal.τ Cert.NbIdeal.sig) → Buf (Elt Ideal) ℓ) (g : Dev Cert.NbIdeal.nD → PrngReg), Pre_NbIdeal m →
    θ_run (Cert.NbIdeal.defs (F := Ideal)) (onTc (τ := Cert.NbIdeal.τ) (Cert.NbIdeal.main (F := Ideal))) ⟨m, fun _ => 0, g⟩ (fun r => (∀ c : Dev Cert.NbIdeal.nD,
      r.2.mem ((c.tc : Thread Cert.NbIdeal.nD Cert.NbIdeal.τ).loc Cert.NbIdeal.main_arg0) = m ((c.tc : Thread Cert.NbIdeal.nD Cert.NbIdeal.τ).loc Cert.NbIdeal.main_arg0)
      ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
      ∧ r.2.mem ((c.tc : Thread Cert.NbIdeal.nD Cert.NbIdeal.τ).loc Cert.NbIdeal.main_arg2) = m ((c.tc : Thread Cert.NbIdeal.nD Cert.NbIdeal.τ).loc Cert.NbIdeal.main_arg2)
      ∧ r.2.mem ((c.tc : Thread Cert.NbIdeal.nD Cert.NbIdeal.τ).loc Cert.NbIdeal.main_arg3) = m ((c.tc : Thread Cert.NbIdeal.nD Cert.NbIdeal.τ).loc Cert.NbIdeal.main_arg3))
      ∧ r.2.sem = fun _ => 0)

def quiescent_NbRefIdeal [hNbRefIdeal : Cert.NbRefIdeal.Facts] : Prop :=
  ∀ (m : (ℓ : Loc Cert.NbRefIdeal.nD Cert.NbRefIdeal.τ Cert.NbRefIdeal.sig) → Buf (Elt Ideal) ℓ) (g : Dev Cert.NbRefIdeal.nD → PrngReg), Pre_NbRefIdeal m →
    θ_run (Cert.NbRefIdeal.defs (F := Ideal)) (onTc (τ := Cert.NbRefIdeal.τ) (Cert.NbRefIdeal.main (F := Ideal))) ⟨m, fun _ => 0, g⟩ (fun r => (∀ c : Dev Cert.NbRefIdeal.nD,
      r.2.mem ((c.tc : Thread Cert.NbRefIdeal.nD Cert.NbRefIdeal.τ).loc Cert.NbRefIdeal.main_arg0) = m ((c.tc : Thread Cert.NbRefIdeal.nD Cert.NbRefIdeal.τ).loc Cert.NbRefIdeal.main_arg0)
      ∧ r.2.mem ((c.tc : Thread Cert.NbRefIdeal.nD Cert.NbRefIdeal.τ).loc Cert.NbRefIdeal.main_arg1) = m ((c.tc : Thread Cert.NbRefIdeal.nD Cert.NbRefIdeal.τ).loc Cert.NbRefIdeal.main_arg1)
      ∧ r.2.mem ((c.tc : Thread Cert.NbRefIdeal.nD Cert.NbRefIdeal.τ).loc Cert.NbRefIdeal.main_arg2) = m ((c.tc : Thread Cert.NbRefIdeal.nD Cert.NbRefIdeal.τ).loc Cert.NbRefIdeal.main_arg2)
      ∧ r.2.mem ((c.tc : Thread Cert.NbRefIdeal.nD Cert.NbRefIdeal.τ).loc Cert.NbRefIdeal.main_arg3) = m ((c.tc : Thread Cert.NbRefIdeal.nD Cert.NbRefIdeal.τ).loc Cert.NbRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_Bc [hBc : Cert.Bc.Facts] : Prop :=
  ∀ (m : (ℓ : Loc Cert.Bc.nD Cert.Bc.τ Cert.Bc.sig) → Buf (Elt Bits) ℓ) (g : Dev Cert.Bc.nD → PrngReg), Pre_Bc m →
    θ_run (Cert.Bc.defs (F := Bits)) (onTc (τ := Cert.Bc.τ) (Cert.Bc.main (F := Bits))) ⟨m, fun _ => 0, g⟩ (fun r => (∀ c : Dev Cert.Bc.nD,
      r.2.mem ((c.tc : Thread Cert.Bc.nD Cert.Bc.τ).loc Cert.Bc.main_arg0) = m ((c.tc : Thread Cert.Bc.nD Cert.Bc.τ).loc Cert.Bc.main_arg0)
      ∧ r.2.mem ((c.tc : Thread Cert.Bc.nD Cert.Bc.τ).loc Cert.Bc.main_arg1) = m ((c.tc : Thread Cert.Bc.nD Cert.Bc.τ).loc Cert.Bc.main_arg1))
      ∧ r.2.sem = fun _ => 0)

def quiescent_BcIdeal [hBcIdeal : Cert.BcIdeal.Facts] : Prop :=
  ∀ (m : (ℓ : Loc Cert.BcIdeal.nD Cert.BcIdeal.τ Cert.BcIdeal.sig) → Buf (Elt Ideal) ℓ) (g : Dev Cert.BcIdeal.nD → PrngReg), Pre_BcIdeal m →
    θ_run (Cert.BcIdeal.defs (F := Ideal)) (onTc (τ := Cert.BcIdeal.τ) (Cert.BcIdeal.main (F := Ideal))) ⟨m, fun _ => 0, g⟩ (fun r => (∀ c : Dev Cert.BcIdeal.nD,
      r.2.mem ((c.tc : Thread Cert.BcIdeal.nD Cert.BcIdeal.τ).loc Cert.BcIdeal.main_arg0) = m ((c.tc : Thread Cert.BcIdeal.nD Cert.BcIdeal.τ).loc Cert.BcIdeal.main_arg0)
      ∧ r.2.mem ((c.tc : Thread Cert.BcIdeal.nD Cert.BcIdeal.τ).loc Cert.BcIdeal.main_arg1) = m ((c.tc : Thread Cert.BcIdeal.nD Cert.BcIdeal.τ).loc Cert.BcIdeal.main_arg1))
      ∧ r.2.sem = fun _ => 0)

def quiescent_BcRefIdeal [hBcRefIdeal : Cert.BcRefIdeal.Facts] : Prop :=
  ∀ (m : (ℓ : Loc Cert.BcRefIdeal.nD Cert.BcRefIdeal.τ Cert.BcRefIdeal.sig) → Buf (Elt Ideal) ℓ) (g : Dev Cert.BcRefIdeal.nD → PrngReg), Pre_BcRefIdeal m →
    θ_run (Cert.BcRefIdeal.defs (F := Ideal)) (onTc (τ := Cert.BcRefIdeal.τ) (Cert.BcRefIdeal.main (F := Ideal))) ⟨m, fun _ => 0, g⟩ (fun r => (∀ c : Dev Cert.BcRefIdeal.nD,
      r.2.mem ((c.tc : Thread Cert.BcRefIdeal.nD Cert.BcRefIdeal.τ).loc Cert.BcRefIdeal.main_arg0) = m ((c.tc : Thread Cert.BcRefIdeal.nD Cert.BcRefIdeal.τ).loc Cert.BcRefIdeal.main_arg0)
      ∧ r.2.mem ((c.tc : Thread Cert.BcRefIdeal.nD Cert.BcRefIdeal.τ).loc Cert.BcRefIdeal.main_arg1) = m ((c.tc : Thread Cert.BcRefIdeal.nD Cert.BcRefIdeal.τ).loc Cert.BcRefIdeal.main_arg1))
      ∧ r.2.sem = fun _ => 0)

def quiescent_Bb [hBb : Cert.Bb.Facts] : Prop :=
  ∀ (m : (ℓ : Loc Cert.Bb.nD Cert.Bb.τ Cert.Bb.sig) → Buf (Elt Bits) ℓ) (g : Dev Cert.Bb.nD → PrngReg), Pre_Bb m →
    θ_run (Cert.Bb.defs (F := Bits)) (onTc (τ := Cert.Bb.τ) (Cert.Bb.main (F := Bits))) ⟨m, fun _ => 0, g⟩ (fun r => (∀ c : Dev Cert.Bb.nD,
      r.2.mem ((c.tc : Thread Cert.Bb.nD Cert.Bb.τ).loc Cert.Bb.main_arg0) = m ((c.tc : Thread Cert.Bb.nD Cert.Bb.τ).loc Cert.Bb.main_arg0)
      ∧ r.2.mem ((c.tc : Thread Cert.Bb.nD Cert.Bb.τ).loc Cert.Bb.main_arg1) = m ((c.tc : Thread Cert.Bb.nD Cert.Bb.τ).loc Cert.Bb.main_arg1))
      ∧ r.2.sem = fun _ => 0)

def quiescent_BbIdeal [hBbIdeal : Cert.BbIdeal.Facts] : Prop :=
  ∀ (m : (ℓ : Loc Cert.BbIdeal.nD Cert.BbIdeal.τ Cert.BbIdeal.sig) → Buf (Elt Ideal) ℓ) (g : Dev Cert.BbIdeal.nD → PrngReg), Pre_BbIdeal m →
    θ_run (Cert.BbIdeal.defs (F := Ideal)) (onTc (τ := Cert.BbIdeal.τ) (Cert.BbIdeal.main (F := Ideal))) ⟨m, fun _ => 0, g⟩ (fun r => (∀ c : Dev Cert.BbIdeal.nD,
      r.2.mem ((c.tc : Thread Cert.BbIdeal.nD Cert.BbIdeal.τ).loc Cert.BbIdeal.main_arg0) = m ((c.tc : Thread Cert.BbIdeal.nD Cert.BbIdeal.τ).loc Cert.BbIdeal.main_arg0)
      ∧ r.2.mem ((c.tc : Thread Cert.BbIdeal.nD Cert.BbIdeal.τ).loc Cert.BbIdeal.main_arg1) = m ((c.tc : Thread Cert.BbIdeal.nD Cert.BbIdeal.τ).loc Cert.BbIdeal.main_arg1))
      ∧ r.2.sem = fun _ => 0)

def quiescent_BbRefIdeal [hBbRefIdeal : Cert.BbRefIdeal.Facts] : Prop :=
  ∀ (m : (ℓ : Loc Cert.BbRefIdeal.nD Cert.BbRefIdeal.τ Cert.BbRefIdeal.sig) → Buf (Elt Ideal) ℓ) (g : Dev Cert.BbRefIdeal.nD → PrngReg), Pre_BbRefIdeal m →
    θ_run (Cert.BbRefIdeal.defs (F := Ideal)) (onTc (τ := Cert.BbRefIdeal.τ) (Cert.BbRefIdeal.main (F := Ideal))) ⟨m, fun _ => 0, g⟩ (fun r => (∀ c : Dev Cert.BbRefIdeal.nD,
      r.2.mem ((c.tc : Thread Cert.BbRefIdeal.nD Cert.BbRefIdeal.τ).loc Cert.BbRefIdeal.main_arg0) = m ((c.tc : Thread Cert.BbRefIdeal.nD Cert.BbRefIdeal.τ).loc Cert.BbRefIdeal.main_arg0)
      ∧ r.2.mem ((c.tc : Thread Cert.BbRefIdeal.nD Cert.BbRefIdeal.τ).loc Cert.BbRefIdeal.main_arg1) = m ((c.tc : Thread Cert.BbRefIdeal.nD Cert.BbRefIdeal.τ).loc Cert.BbRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2n [hFf2n : Cert.Ff2n.Facts] : Prop :=
  ∀ (m : (ℓ : Loc Cert.Ff2n.nD Cert.Ff2n.τ Cert.Ff2n.sig) → Buf (Elt Bits) ℓ) (g : Dev Cert.Ff2n.nD → PrngReg), Pre_Ff2n m →
    θ_run (Cert.Ff2n.defs (F := Bits)) (onTc (τ := Cert.Ff2n.τ) (Cert.Ff2n.main (F := Bits))) ⟨m, fun _ => 0, g⟩ (fun r => (∀ c : Dev Cert.Ff2n.nD,
      r.2.mem ((c.tc : Thread Cert.Ff2n.nD Cert.Ff2n.τ).loc Cert.Ff2n.main_arg0) = m ((c.tc : Thread Cert.Ff2n.nD Cert.Ff2n.τ).loc Cert.Ff2n.main_arg0)
      ∧ r.2.mem ((c.tc : Thread Cert.Ff2n.nD Cert.Ff2n.τ).loc Cert.Ff2n.main_arg1) = m ((c.tc : Thread Cert.Ff2n.nD Cert.Ff2n.τ).loc Cert.Ff2n.main_arg1)
      ∧ r.2.mem ((c.tc : Thread Cert.Ff2n.nD Cert.Ff2n.τ).loc Cert.Ff2n.main_arg2) = m ((c.tc : Thread Cert.Ff2n.nD Cert.Ff2n.τ).loc Cert.Ff2n.main_arg2)
      ∧ r.2.mem ((c.tc : Thread Cert.Ff2n.nD Cert.Ff2n.τ).loc Cert.Ff2n.main_arg3) = m ((c.tc : Thread Cert.Ff2n.nD Cert.Ff2n.τ).loc Cert.Ff2n.main_arg3)
      ∧ r.2.mem ((c.tc : Thread Cert.Ff2n.nD Cert.Ff2n.τ).loc Cert.Ff2n.main_arg4) = m ((c.tc : Thread Cert.Ff2n.nD Cert.Ff2n.τ).loc Cert.Ff2n.main_arg4))
      ∧ r.2.sem = fun _ => 0)

def quiescent_Ff2nIdeal [hFf2nIdeal : Cert.Ff2nIdeal.Facts] : Prop :=
  ∀ (m : (ℓ : Loc Cert.Ff2nIdeal.nD Cert.Ff2nIdeal.τ Cert.Ff2nIdeal.sig) → Buf (Elt Ideal) ℓ) (g : Dev Cert.Ff2nIdeal.nD → PrngReg), Pre_Ff2nIdeal m →
    θ_run (Cert.Ff2nIdeal.defs (F := Ideal)) (onTc (τ := Cert.Ff2nIdeal.τ) (Cert.Ff2nIdeal.main (F := Ideal))) ⟨m, fun _ => 0, g⟩ (fun r => (∀ c : Dev Cert.Ff2nIdeal.nD,
      r.2.mem ((c.tc : Thread Cert.Ff2nIdeal.nD Cert.Ff2nIdeal.τ).loc Cert.Ff2nIdeal.main_arg0) = m ((c.tc : Thread Cert.Ff2nIdeal.nD Cert.Ff2nIdeal.τ).loc Cert.Ff2nIdeal.main_arg0)
      ∧ r.2.mem ((c.tc : Thread Cert.Ff2nIdeal.nD Cert.Ff2nIdeal.τ).loc Cert.Ff2nIdeal.main_arg1) = m ((c.tc : Thread Cert.Ff2nIdeal.nD Cert.Ff2nIdeal.τ).loc Cert.Ff2nIdeal.main_arg1)
      ∧ r.2.mem ((c.tc : Thread Cert.Ff2nIdeal.nD Cert.Ff2nIdeal.τ).loc Cert.Ff2nIdeal.main_arg2) = m ((c.tc : Thread Cert.Ff2nIdeal.nD Cert.Ff2nIdeal.τ).loc Cert.Ff2nIdeal.main_arg2)
      ∧ r.2.mem ((c.tc : Thread Cert.Ff2nIdeal.nD Cert.Ff2nIdeal.τ).loc Cert.Ff2nIdeal.main_arg3) = m ((c.tc : Thread Cert.Ff2nIdeal.nD Cert.Ff2nIdeal.τ).loc Cert.Ff2nIdeal.main_arg3)
      ∧ r.2.mem ((c.tc : Thread Cert.Ff2nIdeal.nD Cert.Ff2nIdeal.τ).loc Cert.Ff2nIdeal.main_arg4) = m ((c.tc : Thread Cert.Ff2nIdeal.nD Cert.Ff2nIdeal.τ).loc Cert.Ff2nIdeal.main_arg4))
      ∧ r.2.sem = fun _ => 0)

def quiescent_Ff2nRefIdeal [hFf2nRefIdeal : Cert.Ff2nRefIdeal.Facts] : Prop :=
  ∀ (m : (ℓ : Loc Cert.Ff2nRefIdeal.nD Cert.Ff2nRefIdeal.τ Cert.Ff2nRefIdeal.sig) → Buf (Elt Ideal) ℓ) (g : Dev Cert.Ff2nRefIdeal.nD → PrngReg), Pre_Ff2nRefIdeal m →
    θ_run (Cert.Ff2nRefIdeal.defs (F := Ideal)) (onTc (τ := Cert.Ff2nRefIdeal.τ) (Cert.Ff2nRefIdeal.main (F := Ideal))) ⟨m, fun _ => 0, g⟩ (fun r => (∀ c : Dev Cert.Ff2nRefIdeal.nD,
      r.2.mem ((c.tc : Thread Cert.Ff2nRefIdeal.nD Cert.Ff2nRefIdeal.τ).loc Cert.Ff2nRefIdeal.main_arg0) = m ((c.tc : Thread Cert.Ff2nRefIdeal.nD Cert.Ff2nRefIdeal.τ).loc Cert.Ff2nRefIdeal.main_arg0)
      ∧ r.2.mem ((c.tc : Thread Cert.Ff2nRefIdeal.nD Cert.Ff2nRefIdeal.τ).loc Cert.Ff2nRefIdeal.main_arg1) = m ((c.tc : Thread Cert.Ff2nRefIdeal.nD Cert.Ff2nRefIdeal.τ).loc Cert.Ff2nRefIdeal.main_arg1)
      ∧ r.2.mem ((c.tc : Thread Cert.Ff2nRefIdeal.nD Cert.Ff2nRefIdeal.τ).loc Cert.Ff2nRefIdeal.main_arg2) = m ((c.tc : Thread Cert.Ff2nRefIdeal.nD Cert.Ff2nRefIdeal.τ).loc Cert.Ff2nRefIdeal.main_arg2)
      ∧ r.2.mem ((c.tc : Thread Cert.Ff2nRefIdeal.nD Cert.Ff2nRefIdeal.τ).loc Cert.Ff2nRefIdeal.main_arg3) = m ((c.tc : Thread Cert.Ff2nRefIdeal.nD Cert.Ff2nRefIdeal.τ).loc Cert.Ff2nRefIdeal.main_arg3)
      ∧ r.2.mem ((c.tc : Thread Cert.Ff2nRefIdeal.nD Cert.Ff2nRefIdeal.τ).loc Cert.Ff2nRefIdeal.main_arg4) = m ((c.tc : Thread Cert.Ff2nRefIdeal.nD Cert.Ff2nRefIdeal.τ).loc Cert.Ff2nRefIdeal.main_arg4))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Dws [hDws : Cert.Dws.Facts] : Prop :=
  ∀ (m : (ℓ : Loc Cert.Dws.nD Cert.Dws.τ Cert.Dws.sig) → Buf (Elt Bits) ℓ) (g : Dev Cert.Dws.nD → PrngReg), Pre_Dws m →
    θ_run (Cert.Dws.defs (F := Bits)) (onTc (τ := Cert.Dws.τ) (Cert.Dws.main (F := Bits))) ⟨m, fun _ => 0, g⟩ (fun r => (∀ c : Dev Cert.Dws.nD,
      r.2.mem ((c.tc : Thread Cert.Dws.nD Cert.Dws.τ).loc Cert.Dws.main_arg0) = m ((c.tc : Thread Cert.Dws.nD Cert.Dws.τ).loc Cert.Dws.main_arg0)
      ∧ r.2.mem ((c.tc : Thread Cert.Dws.nD Cert.Dws.τ).loc Cert.Dws.main_arg1) = m ((c.tc : Thread Cert.Dws.nD Cert.Dws.τ).loc Cert.Dws.main_arg1))
      ∧ r.2.sem = fun _ => 0)

def quiescent_DwsIdeal [hDwsIdeal : Cert.DwsIdeal.Facts] : Prop :=
  ∀ (m : (ℓ : Loc Cert.DwsIdeal.nD Cert.DwsIdeal.τ Cert.DwsIdeal.sig) → Buf (Elt Ideal) ℓ) (g : Dev Cert.DwsIdeal.nD → PrngReg), Pre_DwsIdeal m →
    θ_run (Cert.DwsIdeal.defs (F := Ideal)) (onTc (τ := Cert.DwsIdeal.τ) (Cert.DwsIdeal.main (F := Ideal))) ⟨m, fun _ => 0, g⟩ (fun r => (∀ c : Dev Cert.DwsIdeal.nD,
      r.2.mem ((c.tc : Thread Cert.DwsIdeal.nD Cert.DwsIdeal.τ).loc Cert.DwsIdeal.main_arg0) = m ((c.tc : Thread Cert.DwsIdeal.nD Cert.DwsIdeal.τ).loc Cert.DwsIdeal.main_arg0)
      ∧ r.2.mem ((c.tc : Thread Cert.DwsIdeal.nD Cert.DwsIdeal.τ).loc Cert.DwsIdeal.main_arg1) = m ((c.tc : Thread Cert.DwsIdeal.nD Cert.DwsIdeal.τ).loc Cert.DwsIdeal.main_arg1))
      ∧ r.2.sem = fun _ => 0)

def quiescent_DwsRefIdeal [hDwsRefIdeal : Cert.DwsRefIdeal.Facts] : Prop :=
  ∀ (m : (ℓ : Loc Cert.DwsRefIdeal.nD Cert.DwsRefIdeal.τ Cert.DwsRefIdeal.sig) → Buf (Elt Ideal) ℓ) (g : Dev Cert.DwsRefIdeal.nD → PrngReg), Pre_DwsRefIdeal m →
    θ_run (Cert.DwsRefIdeal.defs (F := Ideal)) (onTc (τ := Cert.DwsRefIdeal.τ) (Cert.DwsRefIdeal.main (F := Ideal))) ⟨m, fun _ => 0, g⟩ (fun r => (∀ c : Dev Cert.DwsRefIdeal.nD,
      r.2.mem ((c.tc : Thread Cert.DwsRefIdeal.nD Cert.DwsRefIdeal.τ).loc Cert.DwsRefIdeal.main_arg0) = m ((c.tc : Thread Cert.DwsRefIdeal.nD Cert.DwsRefIdeal.τ).loc Cert.DwsRefIdeal.main_arg0)
      ∧ r.2.mem ((c.tc : Thread Cert.DwsRefIdeal.nD Cert.DwsRefIdeal.τ).loc Cert.DwsRefIdeal.main_arg1) = m ((c.tc : Thread Cert.DwsRefIdeal.nD Cert.DwsRefIdeal.τ).loc Cert.DwsRefIdeal.main_arg1))
      ∧ r.2.sem = fun _ => 0)

def quiescent_Dwkv [hDwkv : Cert.Dwkv.Facts] : Prop :=
  ∀ (m : (ℓ : Loc Cert.Dwkv.nD Cert.Dwkv.τ Cert.Dwkv.sig) → Buf (Elt Bits) ℓ) (g : Dev Cert.Dwkv.nD → PrngReg), Pre_Dwkv m →
    θ_run (Cert.Dwkv.defs (F := Bits)) (onTc (τ := Cert.Dwkv.τ) (Cert.Dwkv.main (F := Bits))) ⟨m, fun _ => 0, g⟩ (fun r => (∀ c : Dev Cert.Dwkv.nD,
      r.2.mem ((c.tc : Thread Cert.Dwkv.nD Cert.Dwkv.τ).loc Cert.Dwkv.main_arg0) = m ((c.tc : Thread Cert.Dwkv.nD Cert.Dwkv.τ).loc Cert.Dwkv.main_arg0)
      ∧ r.2.mem ((c.tc : Thread Cert.Dwkv.nD Cert.Dwkv.τ).loc Cert.Dwkv.main_arg1) = m ((c.tc : Thread Cert.Dwkv.nD Cert.Dwkv.τ).loc Cert.Dwkv.main_arg1))
      ∧ r.2.sem = fun _ => 0)

def quiescent_DwkvIdeal [hDwkvIdeal : Cert.DwkvIdeal.Facts] : Prop :=
  ∀ (m : (ℓ : Loc Cert.DwkvIdeal.nD Cert.DwkvIdeal.τ Cert.DwkvIdeal.sig) → Buf (Elt Ideal) ℓ) (g : Dev Cert.DwkvIdeal.nD → PrngReg), Pre_DwkvIdeal m →
    θ_run (Cert.DwkvIdeal.defs (F := Ideal)) (onTc (τ := Cert.DwkvIdeal.τ) (Cert.DwkvIdeal.main (F := Ideal))) ⟨m, fun _ => 0, g⟩ (fun r => (∀ c : Dev Cert.DwkvIdeal.nD,
      r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
      ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ r.2.sem = fun _ => 0)

def quiescent_DwkvRefIdeal [hDwkvRefIdeal : Cert.DwkvRefIdeal.Facts] : Prop :=
  ∀ (m : (ℓ : Loc Cert.DwkvRefIdeal.nD Cert.DwkvRefIdeal.τ Cert.DwkvRefIdeal.sig) → Buf (Elt Ideal) ℓ) (g : Dev Cert.DwkvRefIdeal.nD → PrngReg), Pre_DwkvRefIdeal m →
    θ_run (Cert.DwkvRefIdeal.defs (F := Ideal)) (onTc (τ := Cert.DwkvRefIdeal.τ) (Cert.DwkvRefIdeal.main (F := Ideal))) ⟨m, fun _ => 0, g⟩ (fun r => (∀ c : Dev Cert.DwkvRefIdeal.nD,
      r.2.mem ((c.tc : Thread Cert.DwkvRefIdeal.nD Cert.DwkvRefIdeal.τ).loc Cert.DwkvRefIdeal.main_arg0) = m ((c.tc : Thread Cert.DwkvRefIdeal.nD Cert.DwkvRefIdeal.τ).loc Cert.DwkvRefIdeal.main_arg0)
      ∧ r.2.mem ((c.tc : Thread Cert.DwkvRefIdeal.nD Cert.DwkvRefIdeal.τ).loc Cert.DwkvRefIdeal.main_arg1) = m ((c.tc : Thread Cert.DwkvRefIdeal.nD Cert.DwkvRefIdeal.τ).loc Cert.DwkvRefIdeal.main_arg1))
      ∧ r.2.sem = fun _ => 0)

def quiescent_Dwa [hDwa : Cert.Dwa.Facts] : Prop :=
  ∀ (m : (ℓ : Loc Cert.Dwa.nD Cert.Dwa.τ Cert.Dwa.sig) → Buf (Elt Bits) ℓ) (g : Dev Cert.Dwa.nD → PrngReg), Pre_Dwa m →
    θ_run (Cert.Dwa.defs (F := Bits)) (onTc (τ := Cert.Dwa.τ) (Cert.Dwa.main (F := Bits))) ⟨m, fun _ => 0, g⟩ (fun r => (∀ c : Dev Cert.Dwa.nD,
      r.2.mem ((c.tc : Thread Cert.Dwa.nD Cert.Dwa.τ).loc Cert.Dwa.main_arg0) = m ((c.tc : Thread Cert.Dwa.nD Cert.Dwa.τ).loc Cert.Dwa.main_arg0)
      ∧ r.2.mem ((c.tc : Thread Cert.Dwa.nD Cert.Dwa.τ).loc Cert.Dwa.main_arg1) = m ((c.tc : Thread Cert.Dwa.nD Cert.Dwa.τ).loc Cert.Dwa.main_arg1))
      ∧ r.2.sem = fun _ => 0)

def quiescent_DwaIdeal [hDwaIdeal : Cert.DwaIdeal.Facts] : Prop :=
  ∀ (m : (ℓ : Loc Cert.DwaIdeal.nD Cert.DwaIdeal.τ Cert.DwaIdeal.sig) → Buf (Elt Ideal) ℓ) (g : Dev Cert.DwaIdeal.nD → PrngReg), Pre_DwaIdeal m →
    θ_run (Cert.DwaIdeal.defs (F := Ideal)) (onTc (τ := Cert.DwaIdeal.τ) (Cert.DwaIdeal.main (F := Ideal))) ⟨m, fun _ => 0, g⟩ (fun r => (∀ c : Dev Cert.DwaIdeal.nD,
      r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
      ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ r.2.sem = fun _ => 0)

def quiescent_DwaRefIdeal [hDwaRefIdeal : Cert.DwaRefIdeal.Facts] : Prop :=
  ∀ (m : (ℓ : Loc Cert.DwaRefIdeal.nD Cert.DwaRefIdeal.τ Cert.DwaRefIdeal.sig) → Buf (Elt Ideal) ℓ) (g : Dev Cert.DwaRefIdeal.nD → PrngReg), Pre_DwaRefIdeal m →
    θ_run (Cert.DwaRefIdeal.defs (F := Ideal)) (onTc (τ := Cert.DwaRefIdeal.τ) (Cert.DwaRefIdeal.main (F := Ideal))) ⟨m, fun _ => 0, g⟩ (fun r => (∀ c : Dev Cert.DwaRefIdeal.nD,
      r.2.mem ((c.tc : Thread Cert.DwaRefIdeal.nD Cert.DwaRefIdeal.τ).loc Cert.DwaRefIdeal.main_arg0) = m ((c.tc : Thread Cert.DwaRefIdeal.nD Cert.DwaRefIdeal.τ).loc Cert.DwaRefIdeal.main_arg0)
      ∧ r.2.mem ((c.tc : Thread Cert.DwaRefIdeal.nD Cert.DwaRefIdeal.τ).loc Cert.DwaRefIdeal.main_arg1) = m ((c.tc : Thread Cert.DwaRefIdeal.nD Cert.DwaRefIdeal.τ).loc Cert.DwaRefIdeal.main_arg1))
      ∧ r.2.sem = fun _ => 0)

def quiescent_Dwb [hDwb : Cert.Dwb.Facts] : Prop :=
  ∀ (m : (ℓ : Loc Cert.Dwb.nD Cert.Dwb.τ Cert.Dwb.sig) → Buf (Elt Bits) ℓ) (g : Dev Cert.Dwb.nD → PrngReg), Pre_Dwb m →
    θ_run (Cert.Dwb.defs (F := Bits)) (onTc (τ := Cert.Dwb.τ) (Cert.Dwb.main (F := Bits))) ⟨m, fun _ => 0, g⟩ (fun r => (∀ c : Dev Cert.Dwb.nD,
      r.2.mem ((c.tc : Thread Cert.Dwb.nD Cert.Dwb.τ).loc Cert.Dwb.main_arg0) = m ((c.tc : Thread Cert.Dwb.nD Cert.Dwb.τ).loc Cert.Dwb.main_arg0)
      ∧ r.2.mem ((c.tc : Thread Cert.Dwb.nD Cert.Dwb.τ).loc Cert.Dwb.main_arg1) = m ((c.tc : Thread Cert.Dwb.nD Cert.Dwb.τ).loc Cert.Dwb.main_arg1))
      ∧ r.2.sem = fun _ => 0)

def quiescent_DwbIdeal [hDwbIdeal : Cert.DwbIdeal.Facts] : Prop :=
  ∀ (m : (ℓ : Loc Cert.DwbIdeal.nD Cert.DwbIdeal.τ Cert.DwbIdeal.sig) → Buf (Elt Ideal) ℓ) (g : Dev Cert.DwbIdeal.nD → PrngReg), Pre_DwbIdeal m →
    θ_run (Cert.DwbIdeal.defs (F := Ideal)) (onTc (τ := Cert.DwbIdeal.τ) (Cert.DwbIdeal.main (F := Ideal))) ⟨m, fun _ => 0, g⟩ (fun r => (∀ c : Dev Cert.DwbIdeal.nD,
      r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
      ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ r.2.sem = fun _ => 0)

def quiescent_DwbRefIdeal [hDwbRefIdeal : Cert.DwbRefIdeal.Facts] : Prop :=
  ∀ (m : (ℓ : Loc Cert.DwbRefIdeal.nD Cert.DwbRefIdeal.τ Cert.DwbRefIdeal.sig) → Buf (Elt Ideal) ℓ) (g : Dev Cert.DwbRefIdeal.nD → PrngReg), Pre_DwbRefIdeal m →
    θ_run (Cert.DwbRefIdeal.defs (F := Ideal)) (onTc (τ := Cert.DwbRefIdeal.τ) (Cert.DwbRefIdeal.main (F := Ideal))) ⟨m, fun _ => 0, g⟩ (fun r => (∀ c : Dev Cert.DwbRefIdeal.nD,
      r.2.mem ((c.tc : Thread Cert.DwbRefIdeal.nD Cert.DwbRefIdeal.τ).loc Cert.DwbRefIdeal.main_arg0) = m ((c.tc : Thread Cert.DwbRefIdeal.nD Cert.DwbRefIdeal.τ).loc Cert.DwbRefIdeal.main_arg0)
      ∧ r.2.mem ((c.tc : Thread Cert.DwbRefIdeal.nD Cert.DwbRefIdeal.τ).loc Cert.DwbRefIdeal.main_arg1) = m ((c.tc : Thread Cert.DwbRefIdeal.nD Cert.DwbRefIdeal.τ).loc Cert.DwbRefIdeal.main_arg1))
      ∧ r.2.sem = fun _ => 0)

def quiescent_Do2 [hDo2 : Cert.Do2.Facts] : Prop :=
  ∀ (m : (ℓ : Loc Cert.Do2.nD Cert.Do2.τ Cert.Do2.sig) → Buf (Elt Bits) ℓ) (g : Dev Cert.Do2.nD → PrngReg), Pre_Do2 m →
    θ_run (Cert.Do2.defs (F := Bits)) (onTc (τ := Cert.Do2.τ) (Cert.Do2.main (F := Bits))) ⟨m, fun _ => 0, g⟩ (fun r => (∀ c : Dev Cert.Do2.nD,
      r.2.mem ((c.tc : Thread Cert.Do2.nD Cert.Do2.τ).loc Cert.Do2.main_arg0) = m ((c.tc : Thread Cert.Do2.nD Cert.Do2.τ).loc Cert.Do2.main_arg0)
      ∧ r.2.mem ((c.tc : Thread Cert.Do2.nD Cert.Do2.τ).loc Cert.Do2.main_arg1) = m ((c.tc : Thread Cert.Do2.nD Cert.Do2.τ).loc Cert.Do2.main_arg1))
      ∧ r.2.sem = fun _ => 0)

def quiescent_Do2Ideal [hDo2Ideal : Cert.Do2Ideal.Facts] : Prop :=
  ∀ (m : (ℓ : Loc Cert.Do2Ideal.nD Cert.Do2Ideal.τ Cert.Do2Ideal.sig) → Buf (Elt Ideal) ℓ) (g : Dev Cert.Do2Ideal.nD → PrngReg), Pre_Do2Ideal m →
    θ_run (Cert.Do2Ideal.defs (F := Ideal)) (onTc (τ := Cert.Do2Ideal.τ) (Cert.Do2Ideal.main (F := Ideal))) ⟨m, fun _ => 0, g⟩ (fun r => (∀ c : Dev Cert.Do2Ideal.nD,
      r.2.mem ((c.tc : Thread Cert.Do2Ideal.nD Cert.Do2Ideal.τ).loc Cert.Do2Ideal.main_arg0) = m ((c.tc : Thread Cert.Do2Ideal.nD Cert.Do2Ideal.τ).loc Cert.Do2Ideal.main_arg0)
      ∧ r.2.mem ((c.tc : Thread Cert.Do2Ideal.nD Cert.Do2Ideal.τ).loc Cert.Do2Ideal.main_arg1) = m ((c.tc : Thread Cert.Do2Ideal.nD Cert.Do2Ideal.τ).loc Cert.Do2Ideal.main_arg1))
      ∧ r.2.sem = fun _ => 0)

def quiescent_Do2RefIdeal [hDo2RefIdeal : Cert.Do2RefIdeal.Facts] : Prop :=
  ∀ (m : (ℓ : Loc Cert.Do2RefIdeal.nD Cert.Do2RefIdeal.τ Cert.Do2RefIdeal.sig) → Buf (Elt Ideal) ℓ) (g : Dev Cert.Do2RefIdeal.nD → PrngReg), Pre_Do2RefIdeal m →
    θ_run (Cert.Do2RefIdeal.defs (F := Ideal)) (onTc (τ := Cert.Do2RefIdeal.τ) (Cert.Do2RefIdeal.main (F := Ideal))) ⟨m, fun _ => 0, g⟩ (fun r => (∀ c : Dev Cert.Do2RefIdeal.nD,
      r.2.mem ((c.tc : Thread Cert.Do2RefIdeal.nD Cert.Do2RefIdeal.τ).loc Cert.Do2RefIdeal.main_arg0) = m ((c.tc : Thread Cert.Do2RefIdeal.nD Cert.Do2RefIdeal.τ).loc Cert.Do2RefIdeal.main_arg0)
      ∧ r.2.mem ((c.tc : Thread Cert.Do2RefIdeal.nD Cert.Do2RefIdeal.τ).loc Cert.Do2RefIdeal.main_arg1) = m ((c.tc : Thread Cert.Do2RefIdeal.nD Cert.Do2RefIdeal.τ).loc Cert.Do2RefIdeal.main_arg1))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1)
      ∧ r.2.mem ((c.tc : Thread Cert.Dm.nD Cert.Dm.τ).loc Cert.Dm.main_arg2) = m ((c.tc : Thread Cert.Dm.nD Cert.Dm.τ).loc Cert.Dm.main_arg2))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1)
      ∧ r.2.mem ((c.tc : Thread Cert.DmRefIdeal.nD Cert.DmRefIdeal.τ).loc Cert.DmRefIdeal.main_arg2) = m ((c.tc : Thread Cert.DmRefIdeal.nD Cert.DmRefIdeal.τ).loc Cert.DmRefIdeal.main_arg2))
      ∧ r.2.sem = fun _ => 0)

def quiescent_Dhm [hDhm : Cert.Dhm.Facts] : Prop :=
  ∀ (m : (ℓ : Loc Cert.Dhm.nD Cert.Dhm.τ Cert.Dhm.sig) → Buf (Elt Bits) ℓ) (g : Dev Cert.Dhm.nD → PrngReg), Pre_Dhm m →
    θ_run (Cert.Dhm.defs (F := Bits)) (onTc (τ := Cert.Dhm.τ) (Cert.Dhm.main (F := Bits))) ⟨m, fun _ => 0, g⟩ (fun r => (∀ c : Dev Cert.Dhm.nD,
      r.2.mem ((c.tc : Thread Cert.Dhm.nD Cert.Dhm.τ).loc Cert.Dhm.main_arg0) = m ((c.tc : Thread Cert.Dhm.nD Cert.Dhm.τ).loc Cert.Dhm.main_arg0)
      ∧ r.2.mem ((c.tc : Thread Cert.Dhm.nD Cert.Dhm.τ).loc Cert.Dhm.main_arg1) = m ((c.tc : Thread Cert.Dhm.nD Cert.Dhm.τ).loc Cert.Dhm.main_arg1))
      ∧ r.2.sem = fun _ => 0)

def quiescent_DhmIdeal [hDhmIdeal : Cert.DhmIdeal.Facts] : Prop :=
  ∀ (m : (ℓ : Loc Cert.DhmIdeal.nD Cert.DhmIdeal.τ Cert.DhmIdeal.sig) → Buf (Elt Ideal) ℓ) (g : Dev Cert.DhmIdeal.nD → PrngReg), Pre_DhmIdeal m →
    θ_run (Cert.DhmIdeal.defs (F := Ideal)) (onTc (τ := Cert.DhmIdeal.τ) (Cert.DhmIdeal.main (F := Ideal))) ⟨m, fun _ => 0, g⟩ (fun r => (∀ c : Dev Cert.DhmIdeal.nD,
      r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
      ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ r.2.sem = fun _ => 0)

def quiescent_DhmRefIdeal [hDhmRefIdeal : Cert.DhmRefIdeal.Facts] : Prop :=
  ∀ (m : (ℓ : Loc Cert.DhmRefIdeal.nD Cert.DhmRefIdeal.τ Cert.DhmRefIdeal.sig) → Buf (Elt Ideal) ℓ) (g : Dev Cert.DhmRefIdeal.nD → PrngReg), Pre_DhmRefIdeal m →
    θ_run (Cert.DhmRefIdeal.defs (F := Ideal)) (onTc (τ := Cert.DhmRefIdeal.τ) (Cert.DhmRefIdeal.main (F := Ideal))) ⟨m, fun _ => 0, g⟩ (fun r => (∀ c : Dev Cert.DhmRefIdeal.nD,
      r.2.mem ((c.tc : Thread Cert.DhmRefIdeal.nD Cert.DhmRefIdeal.τ).loc Cert.DhmRefIdeal.main_arg0) = m ((c.tc : Thread Cert.DhmRefIdeal.nD Cert.DhmRefIdeal.τ).loc Cert.DhmRefIdeal.main_arg0)
      ∧ r.2.mem ((c.tc : Thread Cert.DhmRefIdeal.nD Cert.DhmRefIdeal.τ).loc Cert.DhmRefIdeal.main_arg1) = m ((c.tc : Thread Cert.DhmRefIdeal.nD Cert.DhmRefIdeal.τ).loc Cert.DhmRefIdeal.main_arg1))
      ∧ r.2.sem = fun _ => 0)

def quiescent_Dpa [hDpa : Cert.Dpa.Facts] : Prop :=
  ∀ (m : (ℓ : Loc Cert.Dpa.nD Cert.Dpa.τ Cert.Dpa.sig) → Buf (Elt Bits) ℓ) (g : Dev Cert.Dpa.nD → PrngReg), Pre_Dpa m →
    θ_run (Cert.Dpa.defs (F := Bits)) (onTc (τ := Cert.Dpa.τ) (Cert.Dpa.main (F := Bits))) ⟨m, fun _ => 0, g⟩ (fun r => (∀ c : Dev Cert.Dpa.nD,
      r.2.mem ((c.tc : Thread Cert.Dpa.nD Cert.Dpa.τ).loc Cert.Dpa.main_arg0) = m ((c.tc : Thread Cert.Dpa.nD Cert.Dpa.τ).loc Cert.Dpa.main_arg0)
      ∧ r.2.mem ((c.tc : Thread Cert.Dpa.nD Cert.Dpa.τ).loc Cert.Dpa.main_arg1) = m ((c.tc : Thread Cert.Dpa.nD Cert.Dpa.τ).loc Cert.Dpa.main_arg1))
      ∧ r.2.sem = fun _ => 0)

def quiescent_DpaIdeal [hDpaIdeal : Cert.DpaIdeal.Facts] : Prop :=
  ∀ (m : (ℓ : Loc Cert.DpaIdeal.nD Cert.DpaIdeal.τ Cert.DpaIdeal.sig) → Buf (Elt Ideal) ℓ) (g : Dev Cert.DpaIdeal.nD → PrngReg), Pre_DpaIdeal m →
    θ_run (Cert.DpaIdeal.defs (F := Ideal)) (onTc (τ := Cert.DpaIdeal.τ) (Cert.DpaIdeal.main (F := Ideal))) ⟨m, fun _ => 0, g⟩ (fun r => (∀ c : Dev Cert.DpaIdeal.nD,
      r.2.mem ((c.tc : Thread Cert.DpaIdeal.nD Cert.DpaIdeal.τ).loc Cert.DpaIdeal.main_arg0) = m ((c.tc : Thread Cert.DpaIdeal.nD Cert.DpaIdeal.τ).loc Cert.DpaIdeal.main_arg0)
      ∧ r.2.mem ((c.tc : Thread Cert.DpaIdeal.nD Cert.DpaIdeal.τ).loc Cert.DpaIdeal.main_arg1) = m ((c.tc : Thread Cert.DpaIdeal.nD Cert.DpaIdeal.τ).loc Cert.DpaIdeal.main_arg1))
      ∧ r.2.sem = fun _ => 0)

def quiescent_DpaRefIdeal [hDpaRefIdeal : Cert.DpaRefIdeal.Facts] : Prop :=
  ∀ (m : (ℓ : Loc Cert.DpaRefIdeal.nD Cert.DpaRefIdeal.τ Cert.DpaRefIdeal.sig) → Buf (Elt Ideal) ℓ) (g : Dev Cert.DpaRefIdeal.nD → PrngReg), Pre_DpaRefIdeal m →
    θ_run (Cert.DpaRefIdeal.defs (F := Ideal)) (onTc (τ := Cert.DpaRefIdeal.τ) (Cert.DpaRefIdeal.main (F := Ideal))) ⟨m, fun _ => 0, g⟩ (fun r => (∀ c : Dev Cert.DpaRefIdeal.nD,
      r.2.mem ((c.tc : Thread Cert.DpaRefIdeal.nD Cert.DpaRefIdeal.τ).loc Cert.DpaRefIdeal.main_arg0) = m ((c.tc : Thread Cert.DpaRefIdeal.nD Cert.DpaRefIdeal.τ).loc Cert.DpaRefIdeal.main_arg0)
      ∧ r.2.mem ((c.tc : Thread Cert.DpaRefIdeal.nD Cert.DpaRefIdeal.τ).loc Cert.DpaRefIdeal.main_arg1) = m ((c.tc : Thread Cert.DpaRefIdeal.nD Cert.DpaRefIdeal.τ).loc Cert.DpaRefIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1)
      ∧ r.2.mem ((c.tc : Thread Cert.Do.nD Cert.Do.τ).loc Cert.Do.main_arg2) = m ((c.tc : Thread Cert.Do.nD Cert.Do.τ).loc Cert.Do.main_arg2))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
      ∧ r.2.mem ((c.tc : Thread Cert.DoIdeal.nD Cert.DoIdeal.τ).loc Cert.DoIdeal.main_arg2) = m ((c.tc : Thread Cert.DoIdeal.nD Cert.DoIdeal.τ).loc Cert.DoIdeal.main_arg2))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1)
      ∧ r.2.mem ((c.tc : Thread Cert.DoRefIdeal.nD Cert.DoRefIdeal.τ).loc Cert.DoRefIdeal.main_arg2) = m ((c.tc : Thread Cert.DoRefIdeal.nD Cert.DoRefIdeal.τ).loc Cert.DoRefIdeal.main_arg2))
      ∧ r.2.sem = fun _ => 0)

def quiescent_Dhf [hDhf : Cert.Dhf.Facts] : Prop :=
  ∀ (m : (ℓ : Loc Cert.Dhf.nD Cert.Dhf.τ Cert.Dhf.sig) → Buf (Elt Bits) ℓ) (g : Dev Cert.Dhf.nD → PrngReg), Pre_Dhf m →
    θ_run (Cert.Dhf.defs (F := Bits)) (onTc (τ := Cert.Dhf.τ) (Cert.Dhf.main (F := Bits))) ⟨m, fun _ => 0, g⟩ (fun r => (∀ c : Dev Cert.Dhf.nD,
      r.2.mem ((c.tc : Thread Cert.Dhf.nD Cert.Dhf.τ).loc Cert.Dhf.main_arg0) = m ((c.tc : Thread Cert.Dhf.nD Cert.Dhf.τ).loc Cert.Dhf.main_arg0)
      ∧ r.2.mem ((c.tc : Thread Cert.Dhf.nD Cert.Dhf.τ).loc Cert.Dhf.main_arg1) = m ((c.tc : Thread Cert.Dhf.nD Cert.Dhf.τ).loc Cert.Dhf.main_arg1)
      ∧ r.2.mem ((c.tc : Thread Cert.Dhf.nD Cert.Dhf.τ).loc Cert.Dhf.main_arg2) = m ((c.tc : Thread Cert.Dhf.nD Cert.Dhf.τ).loc Cert.Dhf.main_arg2)
      ∧ r.2.mem ((c.tc : Thread Cert.Dhf.nD Cert.Dhf.τ).loc Cert.Dhf.main_arg3) = m ((c.tc : Thread Cert.Dhf.nD Cert.Dhf.τ).loc Cert.Dhf.main_arg3)
      ∧ r.2.mem ((c.tc : Thread Cert.Dhf.nD Cert.Dhf.τ).loc Cert.Dhf.main_arg4) = m ((c.tc : Thread Cert.Dhf.nD Cert.Dhf.τ).loc Cert.Dhf.main_arg4))
      ∧ r.2.sem = fun _ => 0)

def quiescent_DhfIdeal [hDhfIdeal : Cert.DhfIdeal.Facts] : Prop :=
  ∀ (m : (ℓ : Loc Cert.DhfIdeal.nD Cert.DhfIdeal.τ Cert.DhfIdeal.sig) → Buf (Elt Ideal) ℓ) (g : Dev Cert.DhfIdeal.nD → PrngReg), Pre_DhfIdeal m →
    θ_run (Cert.DhfIdeal.defs (F := Ideal)) (onTc (τ := Cert.DhfIdeal.τ) (Cert.DhfIdeal.main (F := Ideal))) ⟨m, fun _ => 0, g⟩ (fun r => (∀ c : Dev Cert.DhfIdeal.nD,
      r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
      ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
      ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
      ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
      ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4))
      ∧ r.2.sem = fun _ => 0)

def quiescent_DhfRefIdeal [hDhfRefIdeal : Cert.DhfRefIdeal.Facts] : Prop :=
  ∀ (m : (ℓ : Loc Cert.DhfRefIdeal.nD Cert.DhfRefIdeal.τ Cert.DhfRefIdeal.sig) → Buf (Elt Ideal) ℓ) (g : Dev Cert.DhfRefIdeal.nD → PrngReg), Pre_DhfRefIdeal m →
    θ_run (Cert.DhfRefIdeal.defs (F := Ideal)) (onTc (τ := Cert.DhfRefIdeal.τ) (Cert.DhfRefIdeal.main (F := Ideal))) ⟨m, fun _ => 0, g⟩ (fun r => (∀ c : Dev Cert.DhfRefIdeal.nD,
      r.2.mem ((c.tc : Thread Cert.DhfRefIdeal.nD Cert.DhfRefIdeal.τ).loc Cert.DhfRefIdeal.main_arg0) = m ((c.tc : Thread Cert.DhfRefIdeal.nD Cert.DhfRefIdeal.τ).loc Cert.DhfRefIdeal.main_arg0)
      ∧ r.2.mem ((c.tc : Thread Cert.DhfRefIdeal.nD Cert.DhfRefIdeal.τ).loc Cert.DhfRefIdeal.main_arg1) = m ((c.tc : Thread Cert.DhfRefIdeal.nD Cert.DhfRefIdeal.τ).loc Cert.DhfRefIdeal.main_arg1)
      ∧ r.2.mem ((c.tc : Thread Cert.DhfRefIdeal.nD Cert.DhfRefIdeal.τ).loc Cert.DhfRefIdeal.main_arg2) = m ((c.tc : Thread Cert.DhfRefIdeal.nD Cert.DhfRefIdeal.τ).loc Cert.DhfRefIdeal.main_arg2)
      ∧ r.2.mem ((c.tc : Thread Cert.DhfRefIdeal.nD Cert.DhfRefIdeal.τ).loc Cert.DhfRefIdeal.main_arg3) = m ((c.tc : Thread Cert.DhfRefIdeal.nD Cert.DhfRefIdeal.τ).loc Cert.DhfRefIdeal.main_arg3)
      ∧ r.2.mem ((c.tc : Thread Cert.DhfRefIdeal.nD Cert.DhfRefIdeal.τ).loc Cert.DhfRefIdeal.main_arg4) = m ((c.tc : Thread Cert.DhfRefIdeal.nD Cert.DhfRefIdeal.τ).loc Cert.DhfRefIdeal.main_arg4))
      ∧ r.2.sem = fun _ => 0)

def quiescent_Dhx [hDhx : Cert.Dhx.Facts] : Prop :=
  ∀ (m : (ℓ : Loc Cert.Dhx.nD Cert.Dhx.τ Cert.Dhx.sig) → Buf (Elt Bits) ℓ) (g : Dev Cert.Dhx.nD → PrngReg), Pre_Dhx m →
    θ_run (Cert.Dhx.defs (F := Bits)) (onTc (τ := Cert.Dhx.τ) (Cert.Dhx.main (F := Bits))) ⟨m, fun _ => 0, g⟩ (fun r => (∀ c : Dev Cert.Dhx.nD,
      r.2.mem ((c.tc : Thread Cert.Dhx.nD Cert.Dhx.τ).loc Cert.Dhx.main_arg0) = m ((c.tc : Thread Cert.Dhx.nD Cert.Dhx.τ).loc Cert.Dhx.main_arg0)
      ∧ r.2.mem ((c.tc : Thread Cert.Dhx.nD Cert.Dhx.τ).loc Cert.Dhx.main_arg1) = m ((c.tc : Thread Cert.Dhx.nD Cert.Dhx.τ).loc Cert.Dhx.main_arg1)
      ∧ r.2.mem ((c.tc : Thread Cert.Dhx.nD Cert.Dhx.τ).loc Cert.Dhx.main_arg2) = m ((c.tc : Thread Cert.Dhx.nD Cert.Dhx.τ).loc Cert.Dhx.main_arg2)
      ∧ r.2.mem ((c.tc : Thread Cert.Dhx.nD Cert.Dhx.τ).loc Cert.Dhx.main_arg3) = m ((c.tc : Thread Cert.Dhx.nD Cert.Dhx.τ).loc Cert.Dhx.main_arg3)
      ∧ r.2.mem ((c.tc : Thread Cert.Dhx.nD Cert.Dhx.τ).loc Cert.Dhx.main_arg4) = m ((c.tc : Thread Cert.Dhx.nD Cert.Dhx.τ).loc Cert.Dhx.main_arg4))
      ∧ r.2.sem = fun _ => 0)

def quiescent_DhxIdeal [hDhxIdeal : Cert.DhxIdeal.Facts] : Prop :=
  ∀ (m : (ℓ : Loc Cert.DhxIdeal.nD Cert.DhxIdeal.τ Cert.DhxIdeal.sig) → Buf (Elt Ideal) ℓ) (g : Dev Cert.DhxIdeal.nD → PrngReg), Pre_DhxIdeal m →
    θ_run (Cert.DhxIdeal.defs (F := Ideal)) (onTc (τ := Cert.DhxIdeal.τ) (Cert.DhxIdeal.main (F := Ideal))) ⟨m, fun _ => 0, g⟩ (fun r => (∀ c : Dev Cert.DhxIdeal.nD,
      r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
      ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
      ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2)
      ∧ r.2.mem ((c.tc : Thread Cert.DhxIdeal.nD Cert.DhxIdeal.τ).loc Cert.DhxIdeal.main_arg3) = m ((c.tc : Thread Cert.DhxIdeal.nD Cert.DhxIdeal.τ).loc Cert.DhxIdeal.main_arg3)
      ∧ r.2.mem ((c.tc : Thread Cert.DhxIdeal.nD Cert.DhxIdeal.τ).loc Cert.DhxIdeal.main_arg4) = m ((c.tc : Thread Cert.DhxIdeal.nD Cert.DhxIdeal.τ).loc Cert.DhxIdeal.main_arg4))
      ∧ r.2.sem = fun _ => 0)

def quiescent_DhxRefIdeal [hDhxRefIdeal : Cert.DhxRefIdeal.Facts] : Prop :=
  ∀ (m : (ℓ : Loc Cert.DhxRefIdeal.nD Cert.DhxRefIdeal.τ Cert.DhxRefIdeal.sig) → Buf (Elt Ideal) ℓ) (g : Dev Cert.DhxRefIdeal.nD → PrngReg), Pre_DhxRefIdeal m →
    θ_run (Cert.DhxRefIdeal.defs (F := Ideal)) (onTc (τ := Cert.DhxRefIdeal.τ) (Cert.DhxRefIdeal.main (F := Ideal))) ⟨m, fun _ => 0, g⟩ (fun r => (∀ c : Dev Cert.DhxRefIdeal.nD,
      r.2.mem ((c.tc : Thread Cert.DhxRefIdeal.nD Cert.DhxRefIdeal.τ).loc Cert.DhxRefIdeal.main_arg0) = m ((c.tc : Thread Cert.DhxRefIdeal.nD Cert.DhxRefIdeal.τ).loc Cert.DhxRefIdeal.main_arg0)
      ∧ r.2.mem ((c.tc : Thread Cert.DhxRefIdeal.nD Cert.DhxRefIdeal.τ).loc Cert.DhxRefIdeal.main_arg1) = m ((c.tc : Thread Cert.DhxRefIdeal.nD Cert.DhxRefIdeal.τ).loc Cert.DhxRefIdeal.main_arg1)
      ∧ r.2.mem ((c.tc : Thread Cert.DhxRefIdeal.nD Cert.DhxRefIdeal.τ).loc Cert.DhxRefIdeal.main_arg2) = m ((c.tc : Thread Cert.DhxRefIdeal.nD Cert.DhxRefIdeal.τ).loc Cert.DhxRefIdeal.main_arg2)
      ∧ r.2.mem ((c.tc : Thread Cert.DhxRefIdeal.nD Cert.DhxRefIdeal.τ).loc Cert.DhxRefIdeal.main_arg3) = m ((c.tc : Thread Cert.DhxRefIdeal.nD Cert.DhxRefIdeal.τ).loc Cert.DhxRefIdeal.main_arg3)
      ∧ r.2.mem ((c.tc : Thread Cert.DhxRefIdeal.nD Cert.DhxRefIdeal.τ).loc Cert.DhxRefIdeal.main_arg4) = m ((c.tc : Thread Cert.DhxRefIdeal.nD Cert.DhxRefIdeal.τ).loc Cert.DhxRefIdeal.main_arg4))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1)
      ∧ r.2.mem ((c.tc : Thread Cert.Dwqkv.nD Cert.Dwqkv.τ).loc Cert.Dwqkv.main_arg2) = m ((c.tc : Thread Cert.Dwqkv.nD Cert.Dwqkv.τ).loc Cert.Dwqkv.main_arg2)
      ∧ r.2.mem ((c.tc : Thread Cert.Dwqkv.nD Cert.Dwqkv.τ).loc Cert.Dwqkv.main_arg3) = m ((c.tc : Thread Cert.Dwqkv.nD Cert.Dwqkv.τ).loc Cert.Dwqkv.main_arg3))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
      ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
      ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1)
      ∧ r.2.mem ((c.tc : Thread Cert.DwqkvRefIdeal.nD Cert.DwqkvRefIdeal.τ).loc Cert.DwqkvRefIdeal.main_arg2) = m ((c.tc : Thread Cert.DwqkvRefIdeal.nD Cert.DwqkvRefIdeal.τ).loc Cert.DwqkvRefIdeal.main_arg2)
      ∧ r.2.mem ((c.tc : Thread Cert.DwqkvRefIdeal.nD Cert.DwqkvRefIdeal.τ).loc Cert.DwqkvRefIdeal.main_arg3) = m ((c.tc : Thread Cert.DwqkvRefIdeal.nD Cert.DwqkvRefIdeal.τ).loc Cert.DwqkvRefIdeal.main_arg3))
      ∧ r.2.sem = fun _ => 0)

def quiescent_Dwrest [hDwrest : Cert.Dwrest.Facts] : Prop :=
  ∀ (m : (ℓ : Loc Cert.Dwrest.nD Cert.Dwrest.τ Cert.Dwrest.sig) → Buf (Elt Bits) ℓ) (g : Dev Cert.Dwrest.nD → PrngReg), Pre_Dwrest m →
    θ_run (Cert.Dwrest.defs (F := Bits)) (onTc (τ := Cert.Dwrest.τ) (Cert.Dwrest.main (F := Bits))) ⟨m, fun _ => 0, g⟩ (fun r => (∀ c : Dev Cert.Dwrest.nD,
      r.2.mem ((c.tc : Thread Cert.Dwrest.nD Cert.Dwrest.τ).loc Cert.Dwrest.main_arg0) = m ((c.tc : Thread Cert.Dwrest.nD Cert.Dwrest.τ).loc Cert.Dwrest.main_arg0)
      ∧ r.2.mem ((c.tc : Thread Cert.Dwrest.nD Cert.Dwrest.τ).loc Cert.Dwrest.main_arg1) = m ((c.tc : Thread Cert.Dwrest.nD Cert.Dwrest.τ).loc Cert.Dwrest.main_arg1)
      ∧ r.2.mem ((c.tc : Thread Cert.Dwrest.nD Cert.Dwrest.τ).loc Cert.Dwrest.main_arg2) = m ((c.tc : Thread Cert.Dwrest.nD Cert.Dwrest.τ).loc Cert.Dwrest.main_arg2)
      ∧ r.2.mem ((c.tc : Thread Cert.Dwrest.nD Cert.Dwrest.τ).loc Cert.Dwrest.main_arg3) = m ((c.tc : Thread Cert.Dwrest.nD Cert.Dwrest.τ).loc Cert.Dwrest.main_arg3)
      ∧ r.2.mem ((c.tc : Thread Cert.Dwrest.nD Cert.Dwrest.τ).loc Cert.Dwrest.main_arg4) = m ((c.tc : Thread Cert.Dwrest.nD Cert.Dwrest.τ).loc Cert.Dwrest.main_arg4))
      ∧ r.2.sem = fun _ => 0)

def quiescent_DwrestIdeal [hDwrestIdeal : Cert.DwrestIdeal.Facts] : Prop :=
  ∀ (m : (ℓ : Loc Cert.DwrestIdeal.nD Cert.DwrestIdeal.τ Cert.DwrestIdeal.sig) → Buf (Elt Ideal) ℓ) (g : Dev Cert.DwrestIdeal.nD → PrngReg), Pre_DwrestIdeal m →
    θ_run (Cert.DwrestIdeal.defs (F := Ideal)) (onTc (τ := Cert.DwrestIdeal.τ) (Cert.DwrestIdeal.main (F := Ideal))) ⟨m, fun _ => 0, g⟩ (fun r => (∀ c : Dev Cert.DwrestIdeal.nD,
      r.2.mem ((c.tc : Thread Cert.DwrestIdeal.nD Cert.DwrestIdeal.τ).loc Cert.DwrestIdeal.main_arg0) = m ((c.tc : Thread Cert.DwrestIdeal.nD Cert.DwrestIdeal.τ).loc Cert.DwrestIdeal.main_arg0)
      ∧ r.2.mem ((c.tc : Thread Cert.DwrestIdeal.nD Cert.DwrestIdeal.τ).loc Cert.DwrestIdeal.main_arg1) = m ((c.tc : Thread Cert.DwrestIdeal.nD Cert.DwrestIdeal.τ).loc Cert.DwrestIdeal.main_arg1)
      ∧ r.2.mem ((c.tc : Thread Cert.DwrestIdeal.nD Cert.DwrestIdeal.τ).loc Cert.DwrestIdeal.main_arg2) = m ((c.tc : Thread Cert.DwrestIdeal.nD Cert.DwrestIdeal.τ).loc Cert.DwrestIdeal.main_arg2)
      ∧ r.2.mem ((c.tc : Thread Cert.DwrestIdeal.nD Cert.DwrestIdeal.τ).loc Cert.DwrestIdeal.main_arg3) = m ((c.tc : Thread Cert.DwrestIdeal.nD Cert.DwrestIdeal.τ).loc Cert.DwrestIdeal.main_arg3)
      ∧ r.2.mem ((c.tc : Thread Cert.DwrestIdeal.nD Cert.DwrestIdeal.τ).loc Cert.DwrestIdeal.main_arg4) = m ((c.tc : Thread Cert.DwrestIdeal.nD Cert.DwrestIdeal.τ).loc Cert.DwrestIdeal.main_arg4))
      ∧ r.2.sem = fun _ => 0)

def quiescent_DwrestRefIdeal [hDwrestRefIdeal : Cert.DwrestRefIdeal.Facts] : Prop :=
  ∀ (m : (ℓ : Loc Cert.DwrestRefIdeal.nD Cert.DwrestRefIdeal.τ Cert.DwrestRefIdeal.sig) → Buf (Elt Ideal) ℓ) (g : Dev Cert.DwrestRefIdeal.nD → PrngReg), Pre_DwrestRefIdeal m →
    θ_run (Cert.DwrestRefIdeal.defs (F := Ideal)) (onTc (τ := Cert.DwrestRefIdeal.τ) (Cert.DwrestRefIdeal.main (F := Ideal))) ⟨m, fun _ => 0, g⟩ (fun r => (∀ c : Dev Cert.DwrestRefIdeal.nD,
      r.2.mem ((c.tc : Thread Cert.DwrestRefIdeal.nD Cert.DwrestRefIdeal.τ).loc Cert.DwrestRefIdeal.main_arg0) = m ((c.tc : Thread Cert.DwrestRefIdeal.nD Cert.DwrestRefIdeal.τ).loc Cert.DwrestRefIdeal.main_arg0)
      ∧ r.2.mem ((c.tc : Thread Cert.DwrestRefIdeal.nD Cert.DwrestRefIdeal.τ).loc Cert.DwrestRefIdeal.main_arg1) = m ((c.tc : Thread Cert.DwrestRefIdeal.nD Cert.DwrestRefIdeal.τ).loc Cert.DwrestRefIdeal.main_arg1)
      ∧ r.2.mem ((c.tc : Thread Cert.DwrestRefIdeal.nD Cert.DwrestRefIdeal.τ).loc Cert.DwrestRefIdeal.main_arg2) = m ((c.tc : Thread Cert.DwrestRefIdeal.nD Cert.DwrestRefIdeal.τ).loc Cert.DwrestRefIdeal.main_arg2)
      ∧ r.2.mem ((c.tc : Thread Cert.DwrestRefIdeal.nD Cert.DwrestRefIdeal.τ).loc Cert.DwrestRefIdeal.main_arg3) = m ((c.tc : Thread Cert.DwrestRefIdeal.nD Cert.DwrestRefIdeal.τ).loc Cert.DwrestRefIdeal.main_arg3)
      ∧ r.2.mem ((c.tc : Thread Cert.DwrestRefIdeal.nD Cert.DwrestRefIdeal.τ).loc Cert.DwrestRefIdeal.main_arg4) = m ((c.tc : Thread Cert.DwrestRefIdeal.nD Cert.DwrestRefIdeal.τ).loc Cert.DwrestRefIdeal.main_arg4))
      ∧ r.2.sem = fun _ => 0)

def quiescent_Dhqkv [hDhqkv : Cert.Dhqkv.Facts] : Prop :=
  ∀ (m : (ℓ : Loc Cert.Dhqkv.nD Cert.Dhqkv.τ Cert.Dhqkv.sig) → Buf (Elt Bits) ℓ) (g : Dev Cert.Dhqkv.nD → PrngReg), Pre_Dhqkv m →
    θ_run (Cert.Dhqkv.defs (F := Bits)) (onTc (τ := Cert.Dhqkv.τ) (Cert.Dhqkv.main (F := Bits))) ⟨m, fun _ => 0, g⟩ (fun r => (∀ c : Dev Cert.Dhqkv.nD,
      r.2.mem ((c.tc : Thread Cert.Dhqkv.nD Cert.Dhqkv.τ).loc Cert.Dhqkv.main_arg0) = m ((c.tc : Thread Cert.Dhqkv.nD Cert.Dhqkv.τ).loc Cert.Dhqkv.main_arg0)
      ∧ r.2.mem ((c.tc : Thread Cert.Dhqkv.nD Cert.Dhqkv.τ).loc Cert.Dhqkv.main_arg1) = m ((c.tc : Thread Cert.Dhqkv.nD Cert.Dhqkv.τ).loc Cert.Dhqkv.main_arg1)
      ∧ r.2.mem ((c.tc : Thread Cert.Dhqkv.nD Cert.Dhqkv.τ).loc Cert.Dhqkv.main_arg2) = m ((c.tc : Thread Cert.Dhqkv.nD Cert.Dhqkv.τ).loc Cert.Dhqkv.main_arg2)
      ∧ r.2.mem ((c.tc : Thread Cert.Dhqkv.nD Cert.Dhqkv.τ).loc Cert.Dhqkv.main_arg3) = m ((c.tc : Thread Cert.Dhqkv.nD Cert.Dhqkv.τ).loc Cert.Dhqkv.main_arg3)
      ∧ r.2.mem ((c.tc : Thread Cert.Dhqkv.nD Cert.Dhqkv.τ).loc Cert.Dhqkv.main_arg4) = m ((c.tc : Thread Cert.Dhqkv.nD Cert.Dhqkv.τ).loc Cert.Dhqkv.main_arg4))
      ∧ r.2.sem = fun _ => 0)

def quiescent_DhqkvIdeal [hDhqkvIdeal : Cert.DhqkvIdeal.Facts] : Prop :=
  ∀ (m : (ℓ : Loc Cert.DhqkvIdeal.nD Cert.DhqkvIdeal.τ Cert.DhqkvIdeal.sig) → Buf (Elt Ideal) ℓ) (g : Dev Cert.DhqkvIdeal.nD → PrngReg), Pre_DhqkvIdeal m →
    θ_run (Cert.DhqkvIdeal.defs (F := Ideal)) (onTc (τ := Cert.DhqkvIdeal.τ) (Cert.DhqkvIdeal.main (F := Ideal))) ⟨m, fun _ => 0, g⟩ (fun r => (∀ c : Dev Cert.DhqkvIdeal.nD,
      r.2.mem ((c.tc : Thread Cert.DhqkvIdeal.nD Cert.DhqkvIdeal.τ).loc Cert.DhqkvIdeal.main_arg0) = m ((c.tc : Thread Cert.DhqkvIdeal.nD Cert.DhqkvIdeal.τ).loc Cert.DhqkvIdeal.main_arg0)
      ∧ r.2.mem ((c.tc : Thread Cert.DhqkvIdeal.nD Cert.DhqkvIdeal.τ).loc Cert.DhqkvIdeal.main_arg1) = m ((c.tc : Thread Cert.DhqkvIdeal.nD Cert.DhqkvIdeal.τ).loc Cert.DhqkvIdeal.main_arg1)
      ∧ r.2.mem ((c.tc : Thread Cert.DhqkvIdeal.nD Cert.DhqkvIdeal.τ).loc Cert.DhqkvIdeal.main_arg2) = m ((c.tc : Thread Cert.DhqkvIdeal.nD Cert.DhqkvIdeal.τ).loc Cert.DhqkvIdeal.main_arg2)
      ∧ r.2.mem ((c.tc : Thread Cert.DhqkvIdeal.nD Cert.DhqkvIdeal.τ).loc Cert.DhqkvIdeal.main_arg3) = m ((c.tc : Thread Cert.DhqkvIdeal.nD Cert.DhqkvIdeal.τ).loc Cert.DhqkvIdeal.main_arg3)
      ∧ r.2.mem ((c.tc : Thread Cert.DhqkvIdeal.nD Cert.DhqkvIdeal.τ).loc Cert.DhqkvIdeal.main_arg4) = m ((c.tc : Thread Cert.DhqkvIdeal.nD Cert.DhqkvIdeal.τ).loc Cert.DhqkvIdeal.main_arg4))
      ∧ r.2.sem = fun _ => 0)

def quiescent_DhqkvRefIdeal [hDhqkvRefIdeal : Cert.DhqkvRefIdeal.Facts] : Prop :=
  ∀ (m : (ℓ : Loc Cert.DhqkvRefIdeal.nD Cert.DhqkvRefIdeal.τ Cert.DhqkvRefIdeal.sig) → Buf (Elt Ideal) ℓ) (g : Dev Cert.DhqkvRefIdeal.nD → PrngReg), Pre_DhqkvRefIdeal m →
    θ_run (Cert.DhqkvRefIdeal.defs (F := Ideal)) (onTc (τ := Cert.DhqkvRefIdeal.τ) (Cert.DhqkvRefIdeal.main (F := Ideal))) ⟨m, fun _ => 0, g⟩ (fun r => (∀ c : Dev Cert.DhqkvRefIdeal.nD,
      r.2.mem ((c.tc : Thread Cert.DhqkvRefIdeal.nD Cert.DhqkvRefIdeal.τ).loc Cert.DhqkvRefIdeal.main_arg0) = m ((c.tc : Thread Cert.DhqkvRefIdeal.nD Cert.DhqkvRefIdeal.τ).loc Cert.DhqkvRefIdeal.main_arg0)
      ∧ r.2.mem ((c.tc : Thread Cert.DhqkvRefIdeal.nD Cert.DhqkvRefIdeal.τ).loc Cert.DhqkvRefIdeal.main_arg1) = m ((c.tc : Thread Cert.DhqkvRefIdeal.nD Cert.DhqkvRefIdeal.τ).loc Cert.DhqkvRefIdeal.main_arg1)
      ∧ r.2.mem ((c.tc : Thread Cert.DhqkvRefIdeal.nD Cert.DhqkvRefIdeal.τ).loc Cert.DhqkvRefIdeal.main_arg2) = m ((c.tc : Thread Cert.DhqkvRefIdeal.nD Cert.DhqkvRefIdeal.τ).loc Cert.DhqkvRefIdeal.main_arg2)
      ∧ r.2.mem ((c.tc : Thread Cert.DhqkvRefIdeal.nD Cert.DhqkvRefIdeal.τ).loc Cert.DhqkvRefIdeal.main_arg3) = m ((c.tc : Thread Cert.DhqkvRefIdeal.nD Cert.DhqkvRefIdeal.τ).loc Cert.DhqkvRefIdeal.main_arg3)
      ∧ r.2.mem ((c.tc : Thread Cert.DhqkvRefIdeal.nD Cert.DhqkvRefIdeal.τ).loc Cert.DhqkvRefIdeal.main_arg4) = m ((c.tc : Thread Cert.DhqkvRefIdeal.nD Cert.DhqkvRefIdeal.τ).loc Cert.DhqkvRefIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8))
      ∧ r.2.sem = fun _ => 0)

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)) (v2 : (c : Dev Cert.XattnIdeal.nD) → Buf (Elt Ideal) ((c.tc : Thread Cert.XattnIdeal.nD Cert.XattnIdeal.τ).loc Cert.XattnIdeal.main_v0_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_v0_2) = v2 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v68) = v0 c
          ∧ r.2.mem ((c.tc : Thread Cert.XattnRefIdeal.nD Cert.XattnRefIdeal.τ).loc Cert.XattnRefIdeal.main_v66) = v1 c
          ∧ r.2.mem ((c.tc : Thread Cert.XattnRefIdeal.nD Cert.XattnRefIdeal.τ).loc Cert.XattnRefIdeal.main_v65) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)) (v5 : (c : Dev Cert.MergeIdeal.nD) → Buf (Elt Ideal) ((c.tc : Thread Cert.MergeIdeal.nD Cert.MergeIdeal.τ).loc Cert.MergeIdeal.main_v1_5)) (v6 : (c : Dev Cert.MergeIdeal.nD) → Buf (Elt Ideal) ((c.tc : Thread Cert.MergeIdeal.nD Cert.MergeIdeal.τ).loc Cert.MergeIdeal.main_v1_6)) (v7 : (c : Dev Cert.MergeIdeal.nD) → Buf (Elt Ideal) ((c.tc : Thread Cert.MergeIdeal.nD Cert.MergeIdeal.τ).loc Cert.MergeIdeal.main_v1_7)) (v8 : (c : Dev Cert.MergeIdeal.nD) → Buf (Elt Ideal) ((c.tc : Thread Cert.MergeIdeal.nD Cert.MergeIdeal.τ).loc Cert.MergeIdeal.main_v1_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_v1_5) = v5 c
          ∧ r.2.mem ((c.tc : Thread Cert.MergeIdeal.nD Cert.MergeIdeal.τ).loc Cert.MergeIdeal.main_v1_6) = v6 c
          ∧ r.2.mem ((c.tc : Thread Cert.MergeIdeal.nD Cert.MergeIdeal.τ).loc Cert.MergeIdeal.main_v1_7) = v7 c
          ∧ r.2.mem ((c.tc : Thread Cert.MergeIdeal.nD Cert.MergeIdeal.τ).loc Cert.MergeIdeal.main_v1_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_v44) = v2 c
          ∧ r.2.mem ((c.tc : Thread Cert.MergeRefIdeal.nD Cert.MergeRefIdeal.τ).loc Cert.MergeRefIdeal.main_v45) = v3 c
          ∧ r.2.mem ((c.tc : Thread Cert.MergeRefIdeal.nD Cert.MergeRefIdeal.τ).loc Cert.MergeRefIdeal.main_v46) = v4 c
          ∧ r.2.mem ((c.tc : Thread Cert.MergeRefIdeal.nD Cert.MergeRefIdeal.τ).loc Cert.MergeRefIdeal.main_v47) = v5 c
          ∧ r.2.mem ((c.tc : Thread Cert.MergeRefIdeal.nD Cert.MergeRefIdeal.τ).loc Cert.MergeRefIdeal.main_v49) = v6 c
          ∧ r.2.mem ((c.tc : Thread Cert.MergeRefIdeal.nD Cert.MergeRefIdeal.τ).loc Cert.MergeRefIdeal.main_v51) = v7 c
          ∧ r.2.mem ((c.tc : Thread Cert.MergeRefIdeal.nD Cert.MergeRefIdeal.τ).loc Cert.MergeRefIdeal.main_v53) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Sf_SfIdeal : Prop :=
  True

def algebraic_SfIdeal_SfRefIdeal [hSfIdeal : Cert.SfIdeal.Facts] [hSfRefIdeal : Cert.SfRefIdeal.Facts] : Prop :=
  ∀ (m : (ℓ : Loc Cert.SfIdeal.nD Cert.SfIdeal.τ Cert.SfIdeal.sig) → Buf (Elt Ideal) ℓ) (g : Dev Cert.SfIdeal.nD → PrngReg)
    (m' : (ℓ : Loc Cert.SfRefIdeal.nD Cert.SfRefIdeal.τ Cert.SfRefIdeal.sig) → Buf (Elt Ideal) ℓ) (g' : Dev Cert.SfRefIdeal.nD → PrngReg), Pre_SfIdeal m →
    (∀ c : Dev Cert.SfIdeal.nD,
      m' ((c.tc : Thread Cert.SfRefIdeal.nD Cert.SfRefIdeal.τ).loc Cert.SfRefIdeal.main_arg0) = m ((c.tc : Thread Cert.SfIdeal.nD Cert.SfIdeal.τ).loc Cert.SfIdeal.main_arg0)
      ∧ m' ((c.tc : Thread Cert.SfRefIdeal.nD Cert.SfRefIdeal.τ).loc Cert.SfRefIdeal.main_arg1) = m ((c.tc : Thread Cert.SfIdeal.nD Cert.SfIdeal.τ).loc Cert.SfIdeal.main_arg1)
      ∧ m' ((c.tc : Thread Cert.SfRefIdeal.nD Cert.SfRefIdeal.τ).loc Cert.SfRefIdeal.main_arg2) = m ((c.tc : Thread Cert.SfIdeal.nD Cert.SfIdeal.τ).loc Cert.SfIdeal.main_arg2)
      ∧ m' ((c.tc : Thread Cert.SfRefIdeal.nD Cert.SfRefIdeal.τ).loc Cert.SfRefIdeal.main_arg3) = m ((c.tc : Thread Cert.SfIdeal.nD Cert.SfIdeal.τ).loc Cert.SfIdeal.main_arg3)) →
    ∃ (v0 : (c : Dev Cert.SfIdeal.nD) → Buf (Elt Ideal) ((c.tc : Thread Cert.SfIdeal.nD Cert.SfIdeal.τ).loc Cert.SfIdeal.main_v10)),
      θ_run (Cert.SfIdeal.defs (F := Ideal)) (onTc (τ := Cert.SfIdeal.τ) (Cert.SfIdeal.main (F := Ideal))) ⟨m, fun _ => 0, g⟩ (fun r => ∀ c : Dev Cert.SfIdeal.nD,
          r.2.mem ((c.tc : Thread Cert.SfIdeal.nD Cert.SfIdeal.τ).loc Cert.SfIdeal.main_v10) = v0 c
          ∧ r.2.mem ((c.tc : Thread Cert.SfIdeal.nD Cert.SfIdeal.τ).loc Cert.SfIdeal.main_arg0) = m ((c.tc : Thread Cert.SfIdeal.nD Cert.SfIdeal.τ).loc Cert.SfIdeal.main_arg0)
          ∧ r.2.mem ((c.tc : Thread Cert.SfIdeal.nD Cert.SfIdeal.τ).loc Cert.SfIdeal.main_arg1) = m ((c.tc : Thread Cert.SfIdeal.nD Cert.SfIdeal.τ).loc Cert.SfIdeal.main_arg1)
          ∧ r.2.mem ((c.tc : Thread Cert.SfIdeal.nD Cert.SfIdeal.τ).loc Cert.SfIdeal.main_arg2) = m ((c.tc : Thread Cert.SfIdeal.nD Cert.SfIdeal.τ).loc Cert.SfIdeal.main_arg2)
          ∧ r.2.mem ((c.tc : Thread Cert.SfIdeal.nD Cert.SfIdeal.τ).loc Cert.SfIdeal.main_arg3) = m ((c.tc : Thread Cert.SfIdeal.nD Cert.SfIdeal.τ).loc Cert.SfIdeal.main_arg3))
      ∧ θ_run (Cert.SfRefIdeal.defs (F := Ideal)) (onTc (τ := Cert.SfRefIdeal.τ) (Cert.SfRefIdeal.main (F := Ideal))) ⟨m', fun _ => 0, g'⟩ (fun r => ∀ c : Dev Cert.SfRefIdeal.nD,
          r.2.mem ((c.tc : Thread Cert.SfRefIdeal.nD Cert.SfRefIdeal.τ).loc Cert.SfRefIdeal.main_v43) = v0 c
          ∧ r.2.mem ((c.tc : Thread Cert.SfRefIdeal.nD Cert.SfRefIdeal.τ).loc Cert.SfRefIdeal.main_arg0) = m' ((c.tc : Thread Cert.SfRefIdeal.nD Cert.SfRefIdeal.τ).loc Cert.SfRefIdeal.main_arg0)
          ∧ r.2.mem ((c.tc : Thread Cert.SfRefIdeal.nD Cert.SfRefIdeal.τ).loc Cert.SfRefIdeal.main_arg1) = m' ((c.tc : Thread Cert.SfRefIdeal.nD Cert.SfRefIdeal.τ).loc Cert.SfRefIdeal.main_arg1)
          ∧ r.2.mem ((c.tc : Thread Cert.SfRefIdeal.nD Cert.SfRefIdeal.τ).loc Cert.SfRefIdeal.main_arg2) = m' ((c.tc : Thread Cert.SfRefIdeal.nD Cert.SfRefIdeal.τ).loc Cert.SfRefIdeal.main_arg2)
          ∧ r.2.mem ((c.tc : Thread Cert.SfRefIdeal.nD Cert.SfRefIdeal.τ).loc Cert.SfRefIdeal.main_arg3) = m' ((c.tc : Thread Cert.SfRefIdeal.nD Cert.SfRefIdeal.τ).loc Cert.SfRefIdeal.main_arg3))

def preserves_Fp_FpIdeal : Prop :=
  True

def algebraic_FpIdeal_FpRefIdeal [hFpIdeal : Cert.FpIdeal.Facts] [hFpRefIdeal : Cert.FpRefIdeal.Facts] : Prop :=
  ∀ (m : (ℓ : Loc Cert.FpIdeal.nD Cert.FpIdeal.τ Cert.FpIdeal.sig) → Buf (Elt Ideal) ℓ) (g : Dev Cert.FpIdeal.nD → PrngReg)
    (m' : (ℓ : Loc Cert.FpRefIdeal.nD Cert.FpRefIdeal.τ Cert.FpRefIdeal.sig) → Buf (Elt Ideal) ℓ) (g' : Dev Cert.FpRefIdeal.nD → PrngReg), Pre_FpIdeal m →
    (∀ c : Dev Cert.FpIdeal.nD,
      m' ((c.tc : Thread Cert.FpRefIdeal.nD Cert.FpRefIdeal.τ).loc Cert.FpRefIdeal.main_arg0) = m ((c.tc : Thread Cert.FpIdeal.nD Cert.FpIdeal.τ).loc Cert.FpIdeal.main_arg0)
      ∧ m' ((c.tc : Thread Cert.FpRefIdeal.nD Cert.FpRefIdeal.τ).loc Cert.FpRefIdeal.main_arg1) = m ((c.tc : Thread Cert.FpIdeal.nD Cert.FpIdeal.τ).loc Cert.FpIdeal.main_arg1)) →
    ∃ (v0 : (c : Dev Cert.FpIdeal.nD) → Buf (Elt Ideal) ((c.tc : Thread Cert.FpIdeal.nD Cert.FpIdeal.τ).loc Cert.FpIdeal.main_v2_0)) (v1 : (c : Dev Cert.FpIdeal.nD) → Buf (Elt Ideal) ((c.tc : Thread Cert.FpIdeal.nD Cert.FpIdeal.τ).loc Cert.FpIdeal.main_v2_1)),
      θ_run (Cert.FpIdeal.defs (F := Ideal)) (onTc (τ := Cert.FpIdeal.τ) (Cert.FpIdeal.main (F := Ideal))) ⟨m, fun _ => 0, g⟩ (fun r => ∀ c : Dev Cert.FpIdeal.nD,
          r.2.mem ((c.tc : Thread Cert.FpIdeal.nD Cert.FpIdeal.τ).loc Cert.FpIdeal.main_v2_0) = v0 c
          ∧ r.2.mem ((c.tc : Thread Cert.FpIdeal.nD Cert.FpIdeal.τ).loc Cert.FpIdeal.main_v2_1) = v1 c
          ∧ r.2.mem ((c.tc : Thread Cert.FpIdeal.nD Cert.FpIdeal.τ).loc Cert.FpIdeal.main_arg0) = m ((c.tc : Thread Cert.FpIdeal.nD Cert.FpIdeal.τ).loc Cert.FpIdeal.main_arg0)
          ∧ r.2.mem ((c.tc : Thread Cert.FpIdeal.nD Cert.FpIdeal.τ).loc Cert.FpIdeal.main_arg1) = m ((c.tc : Thread Cert.FpIdeal.nD Cert.FpIdeal.τ).loc Cert.FpIdeal.main_arg1))
      ∧ θ_run (Cert.FpRefIdeal.defs (F := Ideal)) (onTc (τ := Cert.FpRefIdeal.τ) (Cert.FpRefIdeal.main (F := Ideal))) ⟨m', fun _ => 0, g'⟩ (fun r => ∀ c : Dev Cert.FpRefIdeal.nD,
          r.2.mem ((c.tc : Thread Cert.FpRefIdeal.nD Cert.FpRefIdeal.τ).loc Cert.FpRefIdeal.main_v6) = v0 c
          ∧ r.2.mem ((c.tc : Thread Cert.FpRefIdeal.nD Cert.FpRefIdeal.τ).loc Cert.FpRefIdeal.main_v7) = v1 c
          ∧ r.2.mem ((c.tc : Thread Cert.FpRefIdeal.nD Cert.FpRefIdeal.τ).loc Cert.FpRefIdeal.main_arg0) = m' ((c.tc : Thread Cert.FpRefIdeal.nD Cert.FpRefIdeal.τ).loc Cert.FpRefIdeal.main_arg0)
          ∧ r.2.mem ((c.tc : Thread Cert.FpRefIdeal.nD Cert.FpRefIdeal.τ).loc Cert.FpRefIdeal.main_arg1) = m' ((c.tc : Thread Cert.FpRefIdeal.nD Cert.FpRefIdeal.τ).loc Cert.FpRefIdeal.main_arg1))

def preserves_Fo_FoIdeal : Prop :=
  True

def algebraic_FoIdeal_FoRefIdeal [hFoIdeal : Cert.FoIdeal.Facts] [hFoRefIdeal : Cert.FoRefIdeal.Facts] : Prop :=
  ∀ (m : (ℓ : Loc Cert.FoIdeal.nD Cert.FoIdeal.τ Cert.FoIdeal.sig) → Buf (Elt Ideal) ℓ) (g : Dev Cert.FoIdeal.nD → PrngReg)
    (m' : (ℓ : Loc Cert.FoRefIdeal.nD Cert.FoRefIdeal.τ Cert.FoRefIdeal.sig) → Buf (Elt Ideal) ℓ) (g' : Dev Cert.FoRefIdeal.nD → PrngReg), Pre_FoIdeal m →
    (∀ c : Dev Cert.FoIdeal.nD,
      m' ((c.tc : Thread Cert.FoRefIdeal.nD Cert.FoRefIdeal.τ).loc Cert.FoRefIdeal.main_arg0) = m ((c.tc : Thread Cert.FoIdeal.nD Cert.FoIdeal.τ).loc Cert.FoIdeal.main_arg0)
      ∧ m' ((c.tc : Thread Cert.FoRefIdeal.nD Cert.FoRefIdeal.τ).loc Cert.FoRefIdeal.main_arg1) = m ((c.tc : Thread Cert.FoIdeal.nD Cert.FoIdeal.τ).loc Cert.FoIdeal.main_arg1)
      ∧ m' ((c.tc : Thread Cert.FoRefIdeal.nD Cert.FoRefIdeal.τ).loc Cert.FoRefIdeal.main_arg2) = m ((c.tc : Thread Cert.FoIdeal.nD Cert.FoIdeal.τ).loc Cert.FoIdeal.main_arg2)) →
    ∃ (v0 : (c : Dev Cert.FoIdeal.nD) → Buf (Elt Ideal) ((c.tc : Thread Cert.FoIdeal.nD Cert.FoIdeal.τ).loc Cert.FoIdeal.main_v2_0)) (v1 : (c : Dev Cert.FoIdeal.nD) → Buf (Elt Ideal) ((c.tc : Thread Cert.FoIdeal.nD Cert.FoIdeal.τ).loc Cert.FoIdeal.main_v2_1)),
      θ_run (Cert.FoIdeal.defs (F := Ideal)) (onTc (τ := Cert.FoIdeal.τ) (Cert.FoIdeal.main (F := Ideal))) ⟨m, fun _ => 0, g⟩ (fun r => ∀ c : Dev Cert.FoIdeal.nD,
          r.2.mem ((c.tc : Thread Cert.FoIdeal.nD Cert.FoIdeal.τ).loc Cert.FoIdeal.main_v2_0) = v0 c
          ∧ r.2.mem ((c.tc : Thread Cert.FoIdeal.nD Cert.FoIdeal.τ).loc Cert.FoIdeal.main_v2_1) = v1 c
          ∧ r.2.mem ((c.tc : Thread Cert.FoIdeal.nD Cert.FoIdeal.τ).loc Cert.FoIdeal.main_arg0) = m ((c.tc : Thread Cert.FoIdeal.nD Cert.FoIdeal.τ).loc Cert.FoIdeal.main_arg0)
          ∧ r.2.mem ((c.tc : Thread Cert.FoIdeal.nD Cert.FoIdeal.τ).loc Cert.FoIdeal.main_arg1) = m ((c.tc : Thread Cert.FoIdeal.nD Cert.FoIdeal.τ).loc Cert.FoIdeal.main_arg1)
          ∧ r.2.mem ((c.tc : Thread Cert.FoIdeal.nD Cert.FoIdeal.τ).loc Cert.FoIdeal.main_arg2) = m ((c.tc : Thread Cert.FoIdeal.nD Cert.FoIdeal.τ).loc Cert.FoIdeal.main_arg2))
      ∧ θ_run (Cert.FoRefIdeal.defs (F := Ideal)) (onTc (τ := Cert.FoRefIdeal.τ) (Cert.FoRefIdeal.main (F := Ideal))) ⟨m', fun _ => 0, g'⟩ (fun r => ∀ c : Dev Cert.FoRefIdeal.nD,
          r.2.mem ((c.tc : Thread Cert.FoRefIdeal.nD Cert.FoRefIdeal.τ).loc Cert.FoRefIdeal.main_v12) = v0 c
          ∧ r.2.mem ((c.tc : Thread Cert.FoRefIdeal.nD Cert.FoRefIdeal.τ).loc Cert.FoRefIdeal.main_v13) = v1 c
          ∧ r.2.mem ((c.tc : Thread Cert.FoRefIdeal.nD Cert.FoRefIdeal.τ).loc Cert.FoRefIdeal.main_arg0) = m' ((c.tc : Thread Cert.FoRefIdeal.nD Cert.FoRefIdeal.τ).loc Cert.FoRefIdeal.main_arg0)
          ∧ r.2.mem ((c.tc : Thread Cert.FoRefIdeal.nD Cert.FoRefIdeal.τ).loc Cert.FoRefIdeal.main_arg1) = m' ((c.tc : Thread Cert.FoRefIdeal.nD Cert.FoRefIdeal.τ).loc Cert.FoRefIdeal.main_arg1)
          ∧ r.2.mem ((c.tc : Thread Cert.FoRefIdeal.nD Cert.FoRefIdeal.τ).loc Cert.FoRefIdeal.main_arg2) = m' ((c.tc : Thread Cert.FoRefIdeal.nD Cert.FoRefIdeal.τ).loc Cert.FoRefIdeal.main_arg2))

def preserves_Sb_SbIdeal : Prop :=
  True

def algebraic_SbIdeal_SbRefIdeal [hSbIdeal : Cert.SbIdeal.Facts] [hSbRefIdeal : Cert.SbRefIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v0) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Mf_MfIdeal : Prop :=
  True

def algebraic_MfIdeal_MfRefIdeal [hMfIdeal : Cert.MfIdeal.Facts] [hMfRefIdeal : Cert.MfRefIdeal.Facts] : Prop :=
  ∀ (m : (ℓ : Loc Cert.MfIdeal.nD Cert.MfIdeal.τ Cert.MfIdeal.sig) → Buf (Elt Ideal) ℓ) (g : Dev Cert.MfIdeal.nD → PrngReg)
    (m' : (ℓ : Loc Cert.MfRefIdeal.nD Cert.MfRefIdeal.τ Cert.MfRefIdeal.sig) → Buf (Elt Ideal) ℓ) (g' : Dev Cert.MfRefIdeal.nD → PrngReg), Pre_MfIdeal m →
    (∀ c : Dev Cert.MfIdeal.nD,
      m' ((c.tc : Thread Cert.MfRefIdeal.nD Cert.MfRefIdeal.τ).loc Cert.MfRefIdeal.main_arg0) = m ((c.tc : Thread Cert.MfIdeal.nD Cert.MfIdeal.τ).loc Cert.MfIdeal.main_arg0)
      ∧ m' ((c.tc : Thread Cert.MfRefIdeal.nD Cert.MfRefIdeal.τ).loc Cert.MfRefIdeal.main_arg1) = m ((c.tc : Thread Cert.MfIdeal.nD Cert.MfIdeal.τ).loc Cert.MfIdeal.main_arg1)
      ∧ m' ((c.tc : Thread Cert.MfRefIdeal.nD Cert.MfRefIdeal.τ).loc Cert.MfRefIdeal.main_arg2) = m ((c.tc : Thread Cert.MfIdeal.nD Cert.MfIdeal.τ).loc Cert.MfIdeal.main_arg2)
      ∧ m' ((c.tc : Thread Cert.MfRefIdeal.nD Cert.MfRefIdeal.τ).loc Cert.MfRefIdeal.main_arg3) = m ((c.tc : Thread Cert.MfIdeal.nD Cert.MfIdeal.τ).loc Cert.MfIdeal.main_arg3)
      ∧ m' ((c.tc : Thread Cert.MfRefIdeal.nD Cert.MfRefIdeal.τ).loc Cert.MfRefIdeal.main_arg4) = m ((c.tc : Thread Cert.MfIdeal.nD Cert.MfIdeal.τ).loc Cert.MfIdeal.main_arg4)) →
    ∃ (v0 : (c : Dev Cert.MfIdeal.nD) → Buf (Elt Ideal) ((c.tc : Thread Cert.MfIdeal.nD Cert.MfIdeal.τ).loc Cert.MfIdeal.main_v1)),
      θ_run (Cert.MfIdeal.defs (F := Ideal)) (onTc (τ := Cert.MfIdeal.τ) (Cert.MfIdeal.main (F := Ideal))) ⟨m, fun _ => 0, g⟩ (fun r => ∀ c : Dev Cert.MfIdeal.nD,
          r.2.mem ((c.tc : Thread Cert.MfIdeal.nD Cert.MfIdeal.τ).loc Cert.MfIdeal.main_v1) = v0 c
          ∧ r.2.mem ((c.tc : Thread Cert.MfIdeal.nD Cert.MfIdeal.τ).loc Cert.MfIdeal.main_arg0) = m ((c.tc : Thread Cert.MfIdeal.nD Cert.MfIdeal.τ).loc Cert.MfIdeal.main_arg0)
          ∧ r.2.mem ((c.tc : Thread Cert.MfIdeal.nD Cert.MfIdeal.τ).loc Cert.MfIdeal.main_arg1) = m ((c.tc : Thread Cert.MfIdeal.nD Cert.MfIdeal.τ).loc Cert.MfIdeal.main_arg1)
          ∧ r.2.mem ((c.tc : Thread Cert.MfIdeal.nD Cert.MfIdeal.τ).loc Cert.MfIdeal.main_arg2) = m ((c.tc : Thread Cert.MfIdeal.nD Cert.MfIdeal.τ).loc Cert.MfIdeal.main_arg2)
          ∧ r.2.mem ((c.tc : Thread Cert.MfIdeal.nD Cert.MfIdeal.τ).loc Cert.MfIdeal.main_arg3) = m ((c.tc : Thread Cert.MfIdeal.nD Cert.MfIdeal.τ).loc Cert.MfIdeal.main_arg3)
          ∧ r.2.mem ((c.tc : Thread Cert.MfIdeal.nD Cert.MfIdeal.τ).loc Cert.MfIdeal.main_arg4) = m ((c.tc : Thread Cert.MfIdeal.nD Cert.MfIdeal.τ).loc Cert.MfIdeal.main_arg4))
      ∧ θ_run (Cert.MfRefIdeal.defs (F := Ideal)) (onTc (τ := Cert.MfRefIdeal.τ) (Cert.MfRefIdeal.main (F := Ideal))) ⟨m', fun _ => 0, g'⟩ (fun r => ∀ c : Dev Cert.MfRefIdeal.nD,
          r.2.mem ((c.tc : Thread Cert.MfRefIdeal.nD Cert.MfRefIdeal.τ).loc Cert.MfRefIdeal.main_v21) = v0 c
          ∧ r.2.mem ((c.tc : Thread Cert.MfRefIdeal.nD Cert.MfRefIdeal.τ).loc Cert.MfRefIdeal.main_arg0) = m' ((c.tc : Thread Cert.MfRefIdeal.nD Cert.MfRefIdeal.τ).loc Cert.MfRefIdeal.main_arg0)
          ∧ r.2.mem ((c.tc : Thread Cert.MfRefIdeal.nD Cert.MfRefIdeal.τ).loc Cert.MfRefIdeal.main_arg1) = m' ((c.tc : Thread Cert.MfRefIdeal.nD Cert.MfRefIdeal.τ).loc Cert.MfRefIdeal.main_arg1)
          ∧ r.2.mem ((c.tc : Thread Cert.MfRefIdeal.nD Cert.MfRefIdeal.τ).loc Cert.MfRefIdeal.main_arg2) = m' ((c.tc : Thread Cert.MfRefIdeal.nD Cert.MfRefIdeal.τ).loc Cert.MfRefIdeal.main_arg2)
          ∧ r.2.mem ((c.tc : Thread Cert.MfRefIdeal.nD Cert.MfRefIdeal.τ).loc Cert.MfRefIdeal.main_arg3) = m' ((c.tc : Thread Cert.MfRefIdeal.nD Cert.MfRefIdeal.τ).loc Cert.MfRefIdeal.main_arg3)
          ∧ r.2.mem ((c.tc : Thread Cert.MfRefIdeal.nD Cert.MfRefIdeal.τ).loc Cert.MfRefIdeal.main_arg4) = m' ((c.tc : Thread Cert.MfRefIdeal.nD Cert.MfRefIdeal.τ).loc Cert.MfRefIdeal.main_arg4))

def preserves_Xf_XfIdeal : Prop :=
  True

def algebraic_XfIdeal_XfRefIdeal [hXfIdeal : Cert.XfIdeal.Facts] [hXfRefIdeal : Cert.XfRefIdeal.Facts] : Prop :=
  ∀ (m : (ℓ : Loc Cert.XfIdeal.nD Cert.XfIdeal.τ Cert.XfIdeal.sig) → Buf (Elt Ideal) ℓ) (g : Dev Cert.XfIdeal.nD → PrngReg)
    (m' : (ℓ : Loc Cert.XfRefIdeal.nD Cert.XfRefIdeal.τ Cert.XfRefIdeal.sig) → Buf (Elt Ideal) ℓ) (g' : Dev Cert.XfRefIdeal.nD → PrngReg), Pre_XfIdeal m →
    (∀ c : Dev Cert.XfIdeal.nD,
      m' ((c.tc : Thread Cert.XfRefIdeal.nD Cert.XfRefIdeal.τ).loc Cert.XfRefIdeal.main_arg0) = m ((c.tc : Thread Cert.XfIdeal.nD Cert.XfIdeal.τ).loc Cert.XfIdeal.main_arg0)
      ∧ m' ((c.tc : Thread Cert.XfRefIdeal.nD Cert.XfRefIdeal.τ).loc Cert.XfRefIdeal.main_arg1) = m ((c.tc : Thread Cert.XfIdeal.nD Cert.XfIdeal.τ).loc Cert.XfIdeal.main_arg1)) →
    ∃ (v0 : (c : Dev Cert.XfIdeal.nD) → Buf (Elt Ideal) ((c.tc : Thread Cert.XfIdeal.nD Cert.XfIdeal.τ).loc Cert.XfIdeal.main_v0)),
      θ_run (Cert.XfIdeal.defs (F := Ideal)) (onTc (τ := Cert.XfIdeal.τ) (Cert.XfIdeal.main (F := Ideal))) ⟨m, fun _ => 0, g⟩ (fun r => ∀ c : Dev Cert.XfIdeal.nD,
          r.2.mem ((c.tc : Thread Cert.XfIdeal.nD Cert.XfIdeal.τ).loc Cert.XfIdeal.main_v0) = v0 c
          ∧ r.2.mem ((c.tc : Thread Cert.XfIdeal.nD Cert.XfIdeal.τ).loc Cert.XfIdeal.main_arg0) = m ((c.tc : Thread Cert.XfIdeal.nD Cert.XfIdeal.τ).loc Cert.XfIdeal.main_arg0)
          ∧ r.2.mem ((c.tc : Thread Cert.XfIdeal.nD Cert.XfIdeal.τ).loc Cert.XfIdeal.main_arg1) = m ((c.tc : Thread Cert.XfIdeal.nD Cert.XfIdeal.τ).loc Cert.XfIdeal.main_arg1))
      ∧ θ_run (Cert.XfRefIdeal.defs (F := Ideal)) (onTc (τ := Cert.XfRefIdeal.τ) (Cert.XfRefIdeal.main (F := Ideal))) ⟨m', fun _ => 0, g'⟩ (fun r => ∀ c : Dev Cert.XfRefIdeal.nD,
          r.2.mem ((c.tc : Thread Cert.XfRefIdeal.nD Cert.XfRefIdeal.τ).loc Cert.XfRefIdeal.main_v24) = v0 c
          ∧ r.2.mem ((c.tc : Thread Cert.XfRefIdeal.nD Cert.XfRefIdeal.τ).loc Cert.XfRefIdeal.main_arg0) = m' ((c.tc : Thread Cert.XfRefIdeal.nD Cert.XfRefIdeal.τ).loc Cert.XfRefIdeal.main_arg0)
          ∧ r.2.mem ((c.tc : Thread Cert.XfRefIdeal.nD Cert.XfRefIdeal.τ).loc Cert.XfRefIdeal.main_arg1) = m' ((c.tc : Thread Cert.XfRefIdeal.nD Cert.XfRefIdeal.τ).loc Cert.XfRefIdeal.main_arg1))

def preserves_Nx_NxIdeal : Prop :=
  True

def algebraic_NxIdeal_NxRefIdeal [hNxIdeal : Cert.NxIdeal.Facts] [hNxRefIdeal : Cert.NxRefIdeal.Facts] : Prop :=
  ∀ (m : (ℓ : Loc Cert.NxIdeal.nD Cert.NxIdeal.τ Cert.NxIdeal.sig) → Buf (Elt Ideal) ℓ) (g : Dev Cert.NxIdeal.nD → PrngReg)
    (m' : (ℓ : Loc Cert.NxRefIdeal.nD Cert.NxRefIdeal.τ Cert.NxRefIdeal.sig) → Buf (Elt Ideal) ℓ) (g' : Dev Cert.NxRefIdeal.nD → PrngReg), Pre_NxIdeal m →
    (∀ c : Dev Cert.NxIdeal.nD,
      m' ((c.tc : Thread Cert.NxRefIdeal.nD Cert.NxRefIdeal.τ).loc Cert.NxRefIdeal.main_arg0) = m ((c.tc : Thread Cert.NxIdeal.nD Cert.NxIdeal.τ).loc Cert.NxIdeal.main_arg0)
      ∧ m' ((c.tc : Thread Cert.NxRefIdeal.nD Cert.NxRefIdeal.τ).loc Cert.NxRefIdeal.main_arg1) = m ((c.tc : Thread Cert.NxIdeal.nD Cert.NxIdeal.τ).loc Cert.NxIdeal.main_arg1)
      ∧ m' ((c.tc : Thread Cert.NxRefIdeal.nD Cert.NxRefIdeal.τ).loc Cert.NxRefIdeal.main_arg2) = m ((c.tc : Thread Cert.NxIdeal.nD Cert.NxIdeal.τ).loc Cert.NxIdeal.main_arg2)) →
    ∃ (v0 : (c : Dev Cert.NxIdeal.nD) → Buf (Elt Ideal) ((c.tc : Thread Cert.NxIdeal.nD Cert.NxIdeal.τ).loc Cert.NxIdeal.main_v1)),
      θ_run (Cert.NxIdeal.defs (F := Ideal)) (onTc (τ := Cert.NxIdeal.τ) (Cert.NxIdeal.main (F := Ideal))) ⟨m, fun _ => 0, g⟩ (fun r => ∀ c : Dev Cert.NxIdeal.nD,
          r.2.mem ((c.tc : Thread Cert.NxIdeal.nD Cert.NxIdeal.τ).loc Cert.NxIdeal.main_v1) = v0 c
          ∧ r.2.mem ((c.tc : Thread Cert.NxIdeal.nD Cert.NxIdeal.τ).loc Cert.NxIdeal.main_arg0) = m ((c.tc : Thread Cert.NxIdeal.nD Cert.NxIdeal.τ).loc Cert.NxIdeal.main_arg0)
          ∧ r.2.mem ((c.tc : Thread Cert.NxIdeal.nD Cert.NxIdeal.τ).loc Cert.NxIdeal.main_arg1) = m ((c.tc : Thread Cert.NxIdeal.nD Cert.NxIdeal.τ).loc Cert.NxIdeal.main_arg1)
          ∧ r.2.mem ((c.tc : Thread Cert.NxIdeal.nD Cert.NxIdeal.τ).loc Cert.NxIdeal.main_arg2) = m ((c.tc : Thread Cert.NxIdeal.nD Cert.NxIdeal.τ).loc Cert.NxIdeal.main_arg2))
      ∧ θ_run (Cert.NxRefIdeal.defs (F := Ideal)) (onTc (τ := Cert.NxRefIdeal.τ) (Cert.NxRefIdeal.main (F := Ideal))) ⟨m', fun _ => 0, g'⟩ (fun r => ∀ c : Dev Cert.NxRefIdeal.nD,
          r.2.mem ((c.tc : Thread Cert.NxRefIdeal.nD Cert.NxRefIdeal.τ).loc Cert.NxRefIdeal.main_v13) = v0 c
          ∧ r.2.mem ((c.tc : Thread Cert.NxRefIdeal.nD Cert.NxRefIdeal.τ).loc Cert.NxRefIdeal.main_arg0) = m' ((c.tc : Thread Cert.NxRefIdeal.nD Cert.NxRefIdeal.τ).loc Cert.NxRefIdeal.main_arg0)
          ∧ r.2.mem ((c.tc : Thread Cert.NxRefIdeal.nD Cert.NxRefIdeal.τ).loc Cert.NxRefIdeal.main_arg1) = m' ((c.tc : Thread Cert.NxRefIdeal.nD Cert.NxRefIdeal.τ).loc Cert.NxRefIdeal.main_arg1)
          ∧ r.2.mem ((c.tc : Thread Cert.NxRefIdeal.nD Cert.NxRefIdeal.τ).loc Cert.NxRefIdeal.main_arg2) = m' ((c.tc : Thread Cert.NxRefIdeal.nD Cert.NxRefIdeal.τ).loc Cert.NxRefIdeal.main_arg2))

def preserves_Nm_NmIdeal : Prop :=
  True

def algebraic_NmIdeal_NmRefIdeal [hNmIdeal : Cert.NmIdeal.Facts] [hNmRefIdeal : Cert.NmRefIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.NmRefIdeal.nD Cert.NmRefIdeal.τ Cert.NmRefIdeal.sig) → Buf (Elt Ideal) ℓ) (g' : Dev Cert.NmRefIdeal.nD → PrngReg), Pre_NmIdeal m →
    (∀ c : Dev Cert.NmIdeal.nD,
      m' ((c.tc : Thread Cert.NmRefIdeal.nD Cert.NmRefIdeal.τ).loc Cert.NmRefIdeal.main_arg0) = m ((c.tc : Thread Cert.NmIdeal.nD Cert.NmIdeal.τ).loc Cert.NmIdeal.main_arg0)
      ∧ m' ((c.tc : Thread Cert.NmRefIdeal.nD Cert.NmRefIdeal.τ).loc Cert.NmRefIdeal.main_arg1) = m ((c.tc : Thread Cert.NmIdeal.nD Cert.NmIdeal.τ).loc Cert.NmIdeal.main_arg1)) →
    ∃ (v0 : (c : Dev Cert.NmIdeal.nD) → Buf (Elt Ideal) ((c.tc : Thread Cert.NmIdeal.nD Cert.NmIdeal.τ).loc Cert.NmIdeal.main_v1)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v1) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1))
      ∧ θ_run (Cert.NmRefIdeal.defs (F := Ideal)) (onTc (τ := Cert.NmRefIdeal.τ) (Cert.NmRefIdeal.main (F := Ideal))) ⟨m', fun _ => 0, g'⟩ (fun r => ∀ c : Dev Cert.NmRefIdeal.nD,
          r.2.mem ((c.tc : Thread Cert.NmRefIdeal.nD Cert.NmRefIdeal.τ).loc Cert.NmRefIdeal.main_v13) = v0 c
          ∧ r.2.mem ((c.tc : Thread Cert.NmRefIdeal.nD Cert.NmRefIdeal.τ).loc Cert.NmRefIdeal.main_arg0) = m' ((c.tc : Thread Cert.NmRefIdeal.nD Cert.NmRefIdeal.τ).loc Cert.NmRefIdeal.main_arg0)
          ∧ r.2.mem ((c.tc : Thread Cert.NmRefIdeal.nD Cert.NmRefIdeal.τ).loc Cert.NmRefIdeal.main_arg1) = m' ((c.tc : Thread Cert.NmRefIdeal.nD Cert.NmRefIdeal.τ).loc Cert.NmRefIdeal.main_arg1))

def preserves_Nb_NbIdeal : Prop :=
  True

def algebraic_NbIdeal_NbRefIdeal [hNbIdeal : Cert.NbIdeal.Facts] [hNbRefIdeal : Cert.NbRefIdeal.Facts] : Prop :=
  ∀ (m : (ℓ : Loc Cert.NbIdeal.nD Cert.NbIdeal.τ Cert.NbIdeal.sig) → Buf (Elt Ideal) ℓ) (g : Dev Cert.NbIdeal.nD → PrngReg)
    (m' : (ℓ : Loc Cert.NbRefIdeal.nD Cert.NbRefIdeal.τ Cert.NbRefIdeal.sig) → Buf (Elt Ideal) ℓ) (g' : Dev Cert.NbRefIdeal.nD → PrngReg), Pre_NbIdeal m →
    (∀ c : Dev Cert.NbIdeal.nD,
      m' ((c.tc : Thread Cert.NbRefIdeal.nD Cert.NbRefIdeal.τ).loc Cert.NbRefIdeal.main_arg0) = m ((c.tc : Thread Cert.NbIdeal.nD Cert.NbIdeal.τ).loc Cert.NbIdeal.main_arg0)
      ∧ m' ((c.tc : Thread Cert.NbRefIdeal.nD Cert.NbRefIdeal.τ).loc Cert.NbRefIdeal.main_arg1) = m ((c.tc : Thread Cert.NbIdeal.nD Cert.NbIdeal.τ).loc Cert.NbIdeal.main_arg1)
      ∧ m' ((c.tc : Thread Cert.NbRefIdeal.nD Cert.NbRefIdeal.τ).loc Cert.NbRefIdeal.main_arg2) = m ((c.tc : Thread Cert.NbIdeal.nD Cert.NbIdeal.τ).loc Cert.NbIdeal.main_arg2)
      ∧ m' ((c.tc : Thread Cert.NbRefIdeal.nD Cert.NbRefIdeal.τ).loc Cert.NbRefIdeal.main_arg3) = m ((c.tc : Thread Cert.NbIdeal.nD Cert.NbIdeal.τ).loc Cert.NbIdeal.main_arg3)) →
    ∃ (v0 : (c : Dev Cert.NbIdeal.nD) → Buf (Elt Ideal) ((c.tc : Thread Cert.NbIdeal.nD Cert.NbIdeal.τ).loc Cert.NbIdeal.main_v1_0)) (v1 : (c : Dev Cert.NbIdeal.nD) → Buf (Elt Ideal) ((c.tc : Thread Cert.NbIdeal.nD Cert.NbIdeal.τ).loc Cert.NbIdeal.main_v1_1)),
      θ_run (Cert.NbIdeal.defs (F := Ideal)) (onTc (τ := Cert.NbIdeal.τ) (Cert.NbIdeal.main (F := Ideal))) ⟨m, fun _ => 0, g⟩ (fun r => ∀ c : Dev Cert.NbIdeal.nD,
          r.2.mem ((c.tc : Thread Cert.NbIdeal.nD Cert.NbIdeal.τ).loc Cert.NbIdeal.main_v1_0) = v0 c
          ∧ r.2.mem ((c.tc : Thread Cert.NbIdeal.nD Cert.NbIdeal.τ).loc Cert.NbIdeal.main_v1_1) = v1 c
          ∧ r.2.mem ((c.tc : Thread Cert.NbIdeal.nD Cert.NbIdeal.τ).loc Cert.NbIdeal.main_arg0) = m ((c.tc : Thread Cert.NbIdeal.nD Cert.NbIdeal.τ).loc Cert.NbIdeal.main_arg0)
          ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
          ∧ r.2.mem ((c.tc : Thread Cert.NbIdeal.nD Cert.NbIdeal.τ).loc Cert.NbIdeal.main_arg2) = m ((c.tc : Thread Cert.NbIdeal.nD Cert.NbIdeal.τ).loc Cert.NbIdeal.main_arg2)
          ∧ r.2.mem ((c.tc : Thread Cert.NbIdeal.nD Cert.NbIdeal.τ).loc Cert.NbIdeal.main_arg3) = m ((c.tc : Thread Cert.NbIdeal.nD Cert.NbIdeal.τ).loc Cert.NbIdeal.main_arg3))
      ∧ θ_run (Cert.NbRefIdeal.defs (F := Ideal)) (onTc (τ := Cert.NbRefIdeal.τ) (Cert.NbRefIdeal.main (F := Ideal))) ⟨m', fun _ => 0, g'⟩ (fun r => ∀ c : Dev Cert.NbRefIdeal.nD,
          r.2.mem ((c.tc : Thread Cert.NbRefIdeal.nD Cert.NbRefIdeal.τ).loc Cert.NbRefIdeal.main_v36) = v0 c
          ∧ r.2.mem ((c.tc : Thread Cert.NbRefIdeal.nD Cert.NbRefIdeal.τ).loc Cert.NbRefIdeal.main_v37) = v1 c
          ∧ r.2.mem ((c.tc : Thread Cert.NbRefIdeal.nD Cert.NbRefIdeal.τ).loc Cert.NbRefIdeal.main_arg0) = m' ((c.tc : Thread Cert.NbRefIdeal.nD Cert.NbRefIdeal.τ).loc Cert.NbRefIdeal.main_arg0)
          ∧ r.2.mem ((c.tc : Thread Cert.NbRefIdeal.nD Cert.NbRefIdeal.τ).loc Cert.NbRefIdeal.main_arg1) = m' ((c.tc : Thread Cert.NbRefIdeal.nD Cert.NbRefIdeal.τ).loc Cert.NbRefIdeal.main_arg1)
          ∧ r.2.mem ((c.tc : Thread Cert.NbRefIdeal.nD Cert.NbRefIdeal.τ).loc Cert.NbRefIdeal.main_arg2) = m' ((c.tc : Thread Cert.NbRefIdeal.nD Cert.NbRefIdeal.τ).loc Cert.NbRefIdeal.main_arg2)
          ∧ r.2.mem ((c.tc : Thread Cert.NbRefIdeal.nD Cert.NbRefIdeal.τ).loc Cert.NbRefIdeal.main_arg3) = m' ((c.tc : Thread Cert.NbRefIdeal.nD Cert.NbRefIdeal.τ).loc Cert.NbRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v6) = v0 c
          ∧ r.2.mem ((c.tc : Thread Cert.AdamRefIdeal.nD Cert.AdamRefIdeal.τ).loc Cert.AdamRefIdeal.main_v30) = v1 c
          ∧ r.2.mem ((c.tc : Thread Cert.AdamRefIdeal.nD Cert.AdamRefIdeal.τ).loc Cert.AdamRefIdeal.main_v11) = v2 c
          ∧ r.2.mem ((c.tc : Thread Cert.AdamRefIdeal.nD Cert.AdamRefIdeal.τ).loc Cert.AdamRefIdeal.main_v17) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)
      ∧ m' ((c.tc : Thread Cert.DzRefIdeal.nD Cert.DzRefIdeal.τ).loc Cert.DzRefIdeal.main_arg2) = m ((c.tc : Thread Cert.DzIdeal.nD Cert.DzIdeal.τ).loc Cert.DzIdeal.main_arg2)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v15) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1)
          ∧ r.2.mem ((c.tc : Thread Cert.DzRefIdeal.nD Cert.DzRefIdeal.τ).loc Cert.DzRefIdeal.main_arg2) = m' ((c.tc : Thread Cert.DzRefIdeal.nD Cert.DzRefIdeal.τ).loc Cert.DzRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v6) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v8) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)) →
    ∃ (v0 : (c : Dev Cert.RestIdeal.nD) → Buf (Elt Ideal) ((c.tc : Thread Cert.RestIdeal.nD Cert.RestIdeal.τ).loc Cert.RestIdeal.main_v0)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v0) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v2) = v0 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v3) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_Bc_BcIdeal : Prop :=
  True

def algebraic_BcIdeal_BcRefIdeal [hBcIdeal : Cert.BcIdeal.Facts] [hBcRefIdeal : Cert.BcRefIdeal.Facts] : Prop :=
  ∀ (m : (ℓ : Loc Cert.BcIdeal.nD Cert.BcIdeal.τ Cert.BcIdeal.sig) → Buf (Elt Ideal) ℓ) (g : Dev Cert.BcIdeal.nD → PrngReg)
    (m' : (ℓ : Loc Cert.BcRefIdeal.nD Cert.BcRefIdeal.τ Cert.BcRefIdeal.sig) → Buf (Elt Ideal) ℓ) (g' : Dev Cert.BcRefIdeal.nD → PrngReg), Pre_BcIdeal m →
    (∀ c : Dev Cert.BcIdeal.nD,
      m' ((c.tc : Thread Cert.BcRefIdeal.nD Cert.BcRefIdeal.τ).loc Cert.BcRefIdeal.main_arg0) = m ((c.tc : Thread Cert.BcIdeal.nD Cert.BcIdeal.τ).loc Cert.BcIdeal.main_arg0)
      ∧ m' ((c.tc : Thread Cert.BcRefIdeal.nD Cert.BcRefIdeal.τ).loc Cert.BcRefIdeal.main_arg1) = m ((c.tc : Thread Cert.BcIdeal.nD Cert.BcIdeal.τ).loc Cert.BcIdeal.main_arg1)) →
    ∃ (v0 : (c : Dev Cert.BcIdeal.nD) → Buf (Elt Ideal) ((c.tc : Thread Cert.BcIdeal.nD Cert.BcIdeal.τ).loc Cert.BcIdeal.main_v0)),
      θ_run (Cert.BcIdeal.defs (F := Ideal)) (onTc (τ := Cert.BcIdeal.τ) (Cert.BcIdeal.main (F := Ideal))) ⟨m, fun _ => 0, g⟩ (fun r => ∀ c : Dev Cert.BcIdeal.nD,
          r.2.mem ((c.tc : Thread Cert.BcIdeal.nD Cert.BcIdeal.τ).loc Cert.BcIdeal.main_v0) = v0 c
          ∧ r.2.mem ((c.tc : Thread Cert.BcIdeal.nD Cert.BcIdeal.τ).loc Cert.BcIdeal.main_arg0) = m ((c.tc : Thread Cert.BcIdeal.nD Cert.BcIdeal.τ).loc Cert.BcIdeal.main_arg0)
          ∧ r.2.mem ((c.tc : Thread Cert.BcIdeal.nD Cert.BcIdeal.τ).loc Cert.BcIdeal.main_arg1) = m ((c.tc : Thread Cert.BcIdeal.nD Cert.BcIdeal.τ).loc Cert.BcIdeal.main_arg1))
      ∧ θ_run (Cert.BcRefIdeal.defs (F := Ideal)) (onTc (τ := Cert.BcRefIdeal.τ) (Cert.BcRefIdeal.main (F := Ideal))) ⟨m', fun _ => 0, g'⟩ (fun r => ∀ c : Dev Cert.BcRefIdeal.nD,
          r.2.mem ((c.tc : Thread Cert.BcRefIdeal.nD Cert.BcRefIdeal.τ).loc Cert.BcRefIdeal.main_v5) = v0 c
          ∧ r.2.mem ((c.tc : Thread Cert.BcRefIdeal.nD Cert.BcRefIdeal.τ).loc Cert.BcRefIdeal.main_arg0) = m' ((c.tc : Thread Cert.BcRefIdeal.nD Cert.BcRefIdeal.τ).loc Cert.BcRefIdeal.main_arg0)
          ∧ r.2.mem ((c.tc : Thread Cert.BcRefIdeal.nD Cert.BcRefIdeal.τ).loc Cert.BcRefIdeal.main_arg1) = m' ((c.tc : Thread Cert.BcRefIdeal.nD Cert.BcRefIdeal.τ).loc Cert.BcRefIdeal.main_arg1))

def preserves_Bb_BbIdeal : Prop :=
  True

def algebraic_BbIdeal_BbRefIdeal [hBbIdeal : Cert.BbIdeal.Facts] [hBbRefIdeal : Cert.BbRefIdeal.Facts] : Prop :=
  ∀ (m : (ℓ : Loc Cert.BbIdeal.nD Cert.BbIdeal.τ Cert.BbIdeal.sig) → Buf (Elt Ideal) ℓ) (g : Dev Cert.BbIdeal.nD → PrngReg)
    (m' : (ℓ : Loc Cert.BbRefIdeal.nD Cert.BbRefIdeal.τ Cert.BbRefIdeal.sig) → Buf (Elt Ideal) ℓ) (g' : Dev Cert.BbRefIdeal.nD → PrngReg), Pre_BbIdeal m →
    (∀ c : Dev Cert.BbIdeal.nD,
      m' ((c.tc : Thread Cert.BbRefIdeal.nD Cert.BbRefIdeal.τ).loc Cert.BbRefIdeal.main_arg0) = m ((c.tc : Thread Cert.BbIdeal.nD Cert.BbIdeal.τ).loc Cert.BbIdeal.main_arg0)
      ∧ m' ((c.tc : Thread Cert.BbRefIdeal.nD Cert.BbRefIdeal.τ).loc Cert.BbRefIdeal.main_arg1) = m ((c.tc : Thread Cert.BbIdeal.nD Cert.BbIdeal.τ).loc Cert.BbIdeal.main_arg1)) →
    ∃ (v0 : (c : Dev Cert.BbIdeal.nD) → Buf (Elt Ideal) ((c.tc : Thread Cert.BbIdeal.nD Cert.BbIdeal.τ).loc Cert.BbIdeal.main_v0)),
      θ_run (Cert.BbIdeal.defs (F := Ideal)) (onTc (τ := Cert.BbIdeal.τ) (Cert.BbIdeal.main (F := Ideal))) ⟨m, fun _ => 0, g⟩ (fun r => ∀ c : Dev Cert.BbIdeal.nD,
          r.2.mem ((c.tc : Thread Cert.BbIdeal.nD Cert.BbIdeal.τ).loc Cert.BbIdeal.main_v0) = v0 c
          ∧ r.2.mem ((c.tc : Thread Cert.BbIdeal.nD Cert.BbIdeal.τ).loc Cert.BbIdeal.main_arg0) = m ((c.tc : Thread Cert.BbIdeal.nD Cert.BbIdeal.τ).loc Cert.BbIdeal.main_arg0)
          ∧ r.2.mem ((c.tc : Thread Cert.BbIdeal.nD Cert.BbIdeal.τ).loc Cert.BbIdeal.main_arg1) = m ((c.tc : Thread Cert.BbIdeal.nD Cert.BbIdeal.τ).loc Cert.BbIdeal.main_arg1))
      ∧ θ_run (Cert.BbRefIdeal.defs (F := Ideal)) (onTc (τ := Cert.BbRefIdeal.τ) (Cert.BbRefIdeal.main (F := Ideal))) ⟨m', fun _ => 0, g'⟩ (fun r => ∀ c : Dev Cert.BbRefIdeal.nD,
          r.2.mem ((c.tc : Thread Cert.BbRefIdeal.nD Cert.BbRefIdeal.τ).loc Cert.BbRefIdeal.main_v5) = v0 c
          ∧ r.2.mem ((c.tc : Thread Cert.BbRefIdeal.nD Cert.BbRefIdeal.τ).loc Cert.BbRefIdeal.main_arg0) = m' ((c.tc : Thread Cert.BbRefIdeal.nD Cert.BbRefIdeal.τ).loc Cert.BbRefIdeal.main_arg0)
          ∧ r.2.mem ((c.tc : Thread Cert.BbRefIdeal.nD Cert.BbRefIdeal.τ).loc Cert.BbRefIdeal.main_arg1) = m' ((c.tc : Thread Cert.BbRefIdeal.nD Cert.BbRefIdeal.τ).loc Cert.BbRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v5) = v0 c
          ∧ r.2.mem ((c.tc : Thread Cert.Ff1RefIdeal.nD Cert.Ff1RefIdeal.τ).loc Cert.Ff1RefIdeal.main_v8) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2n_Ff2nIdeal : Prop :=
  True

def algebraic_Ff2nIdeal_Ff2nRefIdeal [hFf2nIdeal : Cert.Ff2nIdeal.Facts] [hFf2nRefIdeal : Cert.Ff2nRefIdeal.Facts] : Prop :=
  ∀ (m : (ℓ : Loc Cert.Ff2nIdeal.nD Cert.Ff2nIdeal.τ Cert.Ff2nIdeal.sig) → Buf (Elt Ideal) ℓ) (g : Dev Cert.Ff2nIdeal.nD → PrngReg)
    (m' : (ℓ : Loc Cert.Ff2nRefIdeal.nD Cert.Ff2nRefIdeal.τ Cert.Ff2nRefIdeal.sig) → Buf (Elt Ideal) ℓ) (g' : Dev Cert.Ff2nRefIdeal.nD → PrngReg), Pre_Ff2nIdeal m →
    (∀ c : Dev Cert.Ff2nIdeal.nD,
      m' ((c.tc : Thread Cert.Ff2nRefIdeal.nD Cert.Ff2nRefIdeal.τ).loc Cert.Ff2nRefIdeal.main_arg0) = m ((c.tc : Thread Cert.Ff2nIdeal.nD Cert.Ff2nIdeal.τ).loc Cert.Ff2nIdeal.main_arg0)
      ∧ m' ((c.tc : Thread Cert.Ff2nRefIdeal.nD Cert.Ff2nRefIdeal.τ).loc Cert.Ff2nRefIdeal.main_arg1) = m ((c.tc : Thread Cert.Ff2nIdeal.nD Cert.Ff2nIdeal.τ).loc Cert.Ff2nIdeal.main_arg1)
      ∧ m' ((c.tc : Thread Cert.Ff2nRefIdeal.nD Cert.Ff2nRefIdeal.τ).loc Cert.Ff2nRefIdeal.main_arg2) = m ((c.tc : Thread Cert.Ff2nIdeal.nD Cert.Ff2nIdeal.τ).loc Cert.Ff2nIdeal.main_arg2)
      ∧ m' ((c.tc : Thread Cert.Ff2nRefIdeal.nD Cert.Ff2nRefIdeal.τ).loc Cert.Ff2nRefIdeal.main_arg3) = m ((c.tc : Thread Cert.Ff2nIdeal.nD Cert.Ff2nIdeal.τ).loc Cert.Ff2nIdeal.main_arg3)
      ∧ m' ((c.tc : Thread Cert.Ff2nRefIdeal.nD Cert.Ff2nRefIdeal.τ).loc Cert.Ff2nRefIdeal.main_arg4) = m ((c.tc : Thread Cert.Ff2nIdeal.nD Cert.Ff2nIdeal.τ).loc Cert.Ff2nIdeal.main_arg4)) →
    ∃ (v0 : (c : Dev Cert.Ff2nIdeal.nD) → Buf (Elt Ideal) ((c.tc : Thread Cert.Ff2nIdeal.nD Cert.Ff2nIdeal.τ).loc Cert.Ff2nIdeal.main_v1_0)) (v1 : (c : Dev Cert.Ff2nIdeal.nD) → Buf (Elt Ideal) ((c.tc : Thread Cert.Ff2nIdeal.nD Cert.Ff2nIdeal.τ).loc Cert.Ff2nIdeal.main_v1_1)),
      θ_run (Cert.Ff2nIdeal.defs (F := Ideal)) (onTc (τ := Cert.Ff2nIdeal.τ) (Cert.Ff2nIdeal.main (F := Ideal))) ⟨m, fun _ => 0, g⟩ (fun r => ∀ c : Dev Cert.Ff2nIdeal.nD,
          r.2.mem ((c.tc : Thread Cert.Ff2nIdeal.nD Cert.Ff2nIdeal.τ).loc Cert.Ff2nIdeal.main_v1_0) = v0 c
          ∧ r.2.mem ((c.tc : Thread Cert.Ff2nIdeal.nD Cert.Ff2nIdeal.τ).loc Cert.Ff2nIdeal.main_v1_1) = v1 c
          ∧ r.2.mem ((c.tc : Thread Cert.Ff2nIdeal.nD Cert.Ff2nIdeal.τ).loc Cert.Ff2nIdeal.main_arg0) = m ((c.tc : Thread Cert.Ff2nIdeal.nD Cert.Ff2nIdeal.τ).loc Cert.Ff2nIdeal.main_arg0)
          ∧ r.2.mem ((c.tc : Thread Cert.Ff2nIdeal.nD Cert.Ff2nIdeal.τ).loc Cert.Ff2nIdeal.main_arg1) = m ((c.tc : Thread Cert.Ff2nIdeal.nD Cert.Ff2nIdeal.τ).loc Cert.Ff2nIdeal.main_arg1)
          ∧ r.2.mem ((c.tc : Thread Cert.Ff2nIdeal.nD Cert.Ff2nIdeal.τ).loc Cert.Ff2nIdeal.main_arg2) = m ((c.tc : Thread Cert.Ff2nIdeal.nD Cert.Ff2nIdeal.τ).loc Cert.Ff2nIdeal.main_arg2)
          ∧ r.2.mem ((c.tc : Thread Cert.Ff2nIdeal.nD Cert.Ff2nIdeal.τ).loc Cert.Ff2nIdeal.main_arg3) = m ((c.tc : Thread Cert.Ff2nIdeal.nD Cert.Ff2nIdeal.τ).loc Cert.Ff2nIdeal.main_arg3)
          ∧ r.2.mem ((c.tc : Thread Cert.Ff2nIdeal.nD Cert.Ff2nIdeal.τ).loc Cert.Ff2nIdeal.main_arg4) = m ((c.tc : Thread Cert.Ff2nIdeal.nD Cert.Ff2nIdeal.τ).loc Cert.Ff2nIdeal.main_arg4))
      ∧ θ_run (Cert.Ff2nRefIdeal.defs (F := Ideal)) (onTc (τ := Cert.Ff2nRefIdeal.τ) (Cert.Ff2nRefIdeal.main (F := Ideal))) ⟨m', fun _ => 0, g'⟩ (fun r => ∀ c : Dev Cert.Ff2nRefIdeal.nD,
          r.2.mem ((c.tc : Thread Cert.Ff2nRefIdeal.nD Cert.Ff2nRefIdeal.τ).loc Cert.Ff2nRefIdeal.main_v3) = v0 c
          ∧ r.2.mem ((c.tc : Thread Cert.Ff2nRefIdeal.nD Cert.Ff2nRefIdeal.τ).loc Cert.Ff2nRefIdeal.main_v17) = v1 c
          ∧ r.2.mem ((c.tc : Thread Cert.Ff2nRefIdeal.nD Cert.Ff2nRefIdeal.τ).loc Cert.Ff2nRefIdeal.main_arg0) = m' ((c.tc : Thread Cert.Ff2nRefIdeal.nD Cert.Ff2nRefIdeal.τ).loc Cert.Ff2nRefIdeal.main_arg0)
          ∧ r.2.mem ((c.tc : Thread Cert.Ff2nRefIdeal.nD Cert.Ff2nRefIdeal.τ).loc Cert.Ff2nRefIdeal.main_arg1) = m' ((c.tc : Thread Cert.Ff2nRefIdeal.nD Cert.Ff2nRefIdeal.τ).loc Cert.Ff2nRefIdeal.main_arg1)
          ∧ r.2.mem ((c.tc : Thread Cert.Ff2nRefIdeal.nD Cert.Ff2nRefIdeal.τ).loc Cert.Ff2nRefIdeal.main_arg2) = m' ((c.tc : Thread Cert.Ff2nRefIdeal.nD Cert.Ff2nRefIdeal.τ).loc Cert.Ff2nRefIdeal.main_arg2)
          ∧ r.2.mem ((c.tc : Thread Cert.Ff2nRefIdeal.nD Cert.Ff2nRefIdeal.τ).loc Cert.Ff2nRefIdeal.main_arg3) = m' ((c.tc : Thread Cert.Ff2nRefIdeal.nD Cert.Ff2nRefIdeal.τ).loc Cert.Ff2nRefIdeal.main_arg3)
          ∧ r.2.mem ((c.tc : Thread Cert.Ff2nRefIdeal.nD Cert.Ff2nRefIdeal.τ).loc Cert.Ff2nRefIdeal.main_arg4) = m' ((c.tc : Thread Cert.Ff2nRefIdeal.nD Cert.Ff2nRefIdeal.τ).loc Cert.Ff2nRefIdeal.main_arg4))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Dws_DwsIdeal : Prop :=
  True

def algebraic_DwsIdeal_DwsRefIdeal [hDwsIdeal : Cert.DwsIdeal.Facts] [hDwsRefIdeal : Cert.DwsRefIdeal.Facts] : Prop :=
  ∀ (m : (ℓ : Loc Cert.DwsIdeal.nD Cert.DwsIdeal.τ Cert.DwsIdeal.sig) → Buf (Elt Ideal) ℓ) (g : Dev Cert.DwsIdeal.nD → PrngReg)
    (m' : (ℓ : Loc Cert.DwsRefIdeal.nD Cert.DwsRefIdeal.τ Cert.DwsRefIdeal.sig) → Buf (Elt Ideal) ℓ) (g' : Dev Cert.DwsRefIdeal.nD → PrngReg), Pre_DwsIdeal m →
    (∀ c : Dev Cert.DwsIdeal.nD,
      m' ((c.tc : Thread Cert.DwsRefIdeal.nD Cert.DwsRefIdeal.τ).loc Cert.DwsRefIdeal.main_arg0) = m ((c.tc : Thread Cert.DwsIdeal.nD Cert.DwsIdeal.τ).loc Cert.DwsIdeal.main_arg0)
      ∧ m' ((c.tc : Thread Cert.DwsRefIdeal.nD Cert.DwsRefIdeal.τ).loc Cert.DwsRefIdeal.main_arg1) = m ((c.tc : Thread Cert.DwsIdeal.nD Cert.DwsIdeal.τ).loc Cert.DwsIdeal.main_arg1)) →
    ∃ (v0 : (c : Dev Cert.DwsIdeal.nD) → Buf (Elt Ideal) ((c.tc : Thread Cert.DwsIdeal.nD Cert.DwsIdeal.τ).loc Cert.DwsIdeal.main_v0)),
      θ_run (Cert.DwsIdeal.defs (F := Ideal)) (onTc (τ := Cert.DwsIdeal.τ) (Cert.DwsIdeal.main (F := Ideal))) ⟨m, fun _ => 0, g⟩ (fun r => ∀ c : Dev Cert.DwsIdeal.nD,
          r.2.mem ((c.tc : Thread Cert.DwsIdeal.nD Cert.DwsIdeal.τ).loc Cert.DwsIdeal.main_v0) = v0 c
          ∧ r.2.mem ((c.tc : Thread Cert.DwsIdeal.nD Cert.DwsIdeal.τ).loc Cert.DwsIdeal.main_arg0) = m ((c.tc : Thread Cert.DwsIdeal.nD Cert.DwsIdeal.τ).loc Cert.DwsIdeal.main_arg0)
          ∧ r.2.mem ((c.tc : Thread Cert.DwsIdeal.nD Cert.DwsIdeal.τ).loc Cert.DwsIdeal.main_arg1) = m ((c.tc : Thread Cert.DwsIdeal.nD Cert.DwsIdeal.τ).loc Cert.DwsIdeal.main_arg1))
      ∧ θ_run (Cert.DwsRefIdeal.defs (F := Ideal)) (onTc (τ := Cert.DwsRefIdeal.τ) (Cert.DwsRefIdeal.main (F := Ideal))) ⟨m', fun _ => 0, g'⟩ (fun r => ∀ c : Dev Cert.DwsRefIdeal.nD,
          r.2.mem ((c.tc : Thread Cert.DwsRefIdeal.nD Cert.DwsRefIdeal.τ).loc Cert.DwsRefIdeal.main_v6) = v0 c
          ∧ r.2.mem ((c.tc : Thread Cert.DwsRefIdeal.nD Cert.DwsRefIdeal.τ).loc Cert.DwsRefIdeal.main_arg0) = m' ((c.tc : Thread Cert.DwsRefIdeal.nD Cert.DwsRefIdeal.τ).loc Cert.DwsRefIdeal.main_arg0)
          ∧ r.2.mem ((c.tc : Thread Cert.DwsRefIdeal.nD Cert.DwsRefIdeal.τ).loc Cert.DwsRefIdeal.main_arg1) = m' ((c.tc : Thread Cert.DwsRefIdeal.nD Cert.DwsRefIdeal.τ).loc Cert.DwsRefIdeal.main_arg1))

def preserves_Dwkv_DwkvIdeal : Prop :=
  True

def algebraic_DwkvIdeal_DwkvRefIdeal [hDwkvIdeal : Cert.DwkvIdeal.Facts] [hDwkvRefIdeal : Cert.DwkvRefIdeal.Facts] : Prop :=
  ∀ (m : (ℓ : Loc Cert.DwkvIdeal.nD Cert.DwkvIdeal.τ Cert.DwkvIdeal.sig) → Buf (Elt Ideal) ℓ) (g : Dev Cert.DwkvIdeal.nD → PrngReg)
    (m' : (ℓ : Loc Cert.DwkvRefIdeal.nD Cert.DwkvRefIdeal.τ Cert.DwkvRefIdeal.sig) → Buf (Elt Ideal) ℓ) (g' : Dev Cert.DwkvRefIdeal.nD → PrngReg), Pre_DwkvIdeal m →
    (∀ c : Dev Cert.DwkvIdeal.nD,
      m' ((c.tc : Thread Cert.DwkvRefIdeal.nD Cert.DwkvRefIdeal.τ).loc Cert.DwkvRefIdeal.main_arg0) = m ((c.tc : Thread Cert.DwkvIdeal.nD Cert.DwkvIdeal.τ).loc Cert.DwkvIdeal.main_arg0)
      ∧ m' ((c.tc : Thread Cert.DwkvRefIdeal.nD Cert.DwkvRefIdeal.τ).loc Cert.DwkvRefIdeal.main_arg1) = m ((c.tc : Thread Cert.DwkvIdeal.nD Cert.DwkvIdeal.τ).loc Cert.DwkvIdeal.main_arg1)) →
    ∃ (v0 : (c : Dev Cert.DwkvIdeal.nD) → Buf (Elt Ideal) ((c.tc : Thread Cert.DwkvIdeal.nD Cert.DwkvIdeal.τ).loc Cert.DwkvIdeal.main_v0)),
      θ_run (Cert.DwkvIdeal.defs (F := Ideal)) (onTc (τ := Cert.DwkvIdeal.τ) (Cert.DwkvIdeal.main (F := Ideal))) ⟨m, fun _ => 0, g⟩ (fun r => ∀ c : Dev Cert.DwkvIdeal.nD,
          r.2.mem ((c.tc : Thread Cert.DwkvIdeal.nD Cert.DwkvIdeal.τ).loc Cert.DwkvIdeal.main_v0) = v0 c
          ∧ r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
          ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ θ_run (Cert.DwkvRefIdeal.defs (F := Ideal)) (onTc (τ := Cert.DwkvRefIdeal.τ) (Cert.DwkvRefIdeal.main (F := Ideal))) ⟨m', fun _ => 0, g'⟩ (fun r => ∀ c : Dev Cert.DwkvRefIdeal.nD,
          r.2.mem ((c.tc : Thread Cert.DwkvRefIdeal.nD Cert.DwkvRefIdeal.τ).loc Cert.DwkvRefIdeal.main_v7) = v0 c
          ∧ r.2.mem ((c.tc : Thread Cert.DwkvRefIdeal.nD Cert.DwkvRefIdeal.τ).loc Cert.DwkvRefIdeal.main_arg0) = m' ((c.tc : Thread Cert.DwkvRefIdeal.nD Cert.DwkvRefIdeal.τ).loc Cert.DwkvRefIdeal.main_arg0)
          ∧ r.2.mem ((c.tc : Thread Cert.DwkvRefIdeal.nD Cert.DwkvRefIdeal.τ).loc Cert.DwkvRefIdeal.main_arg1) = m' ((c.tc : Thread Cert.DwkvRefIdeal.nD Cert.DwkvRefIdeal.τ).loc Cert.DwkvRefIdeal.main_arg1))

def preserves_Dwa_DwaIdeal : Prop :=
  True

def algebraic_DwaIdeal_DwaRefIdeal [hDwaIdeal : Cert.DwaIdeal.Facts] [hDwaRefIdeal : Cert.DwaRefIdeal.Facts] : Prop :=
  ∀ (m : (ℓ : Loc Cert.DwaIdeal.nD Cert.DwaIdeal.τ Cert.DwaIdeal.sig) → Buf (Elt Ideal) ℓ) (g : Dev Cert.DwaIdeal.nD → PrngReg)
    (m' : (ℓ : Loc Cert.DwaRefIdeal.nD Cert.DwaRefIdeal.τ Cert.DwaRefIdeal.sig) → Buf (Elt Ideal) ℓ) (g' : Dev Cert.DwaRefIdeal.nD → PrngReg), Pre_DwaIdeal m →
    (∀ c : Dev Cert.DwaIdeal.nD,
      m' ((c.tc : Thread Cert.DwaRefIdeal.nD Cert.DwaRefIdeal.τ).loc Cert.DwaRefIdeal.main_arg0) = m ((c.tc : Thread Cert.DwaIdeal.nD Cert.DwaIdeal.τ).loc Cert.DwaIdeal.main_arg0)
      ∧ m' ((c.tc : Thread Cert.DwaRefIdeal.nD Cert.DwaRefIdeal.τ).loc Cert.DwaRefIdeal.main_arg1) = m ((c.tc : Thread Cert.DwaIdeal.nD Cert.DwaIdeal.τ).loc Cert.DwaIdeal.main_arg1)) →
    ∃ (v0 : (c : Dev Cert.DwaIdeal.nD) → Buf (Elt Ideal) ((c.tc : Thread Cert.DwaIdeal.nD Cert.DwaIdeal.τ).loc Cert.DwaIdeal.main_v0)),
      θ_run (Cert.DwaIdeal.defs (F := Ideal)) (onTc (τ := Cert.DwaIdeal.τ) (Cert.DwaIdeal.main (F := Ideal))) ⟨m, fun _ => 0, g⟩ (fun r => ∀ c : Dev Cert.DwaIdeal.nD,
          r.2.mem ((c.tc : Thread Cert.DwaIdeal.nD Cert.DwaIdeal.τ).loc Cert.DwaIdeal.main_v0) = v0 c
          ∧ r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
          ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ θ_run (Cert.DwaRefIdeal.defs (F := Ideal)) (onTc (τ := Cert.DwaRefIdeal.τ) (Cert.DwaRefIdeal.main (F := Ideal))) ⟨m', fun _ => 0, g'⟩ (fun r => ∀ c : Dev Cert.DwaRefIdeal.nD,
          r.2.mem ((c.tc : Thread Cert.DwaRefIdeal.nD Cert.DwaRefIdeal.τ).loc Cert.DwaRefIdeal.main_v8) = v0 c
          ∧ r.2.mem ((c.tc : Thread Cert.DwaRefIdeal.nD Cert.DwaRefIdeal.τ).loc Cert.DwaRefIdeal.main_arg0) = m' ((c.tc : Thread Cert.DwaRefIdeal.nD Cert.DwaRefIdeal.τ).loc Cert.DwaRefIdeal.main_arg0)
          ∧ r.2.mem ((c.tc : Thread Cert.DwaRefIdeal.nD Cert.DwaRefIdeal.τ).loc Cert.DwaRefIdeal.main_arg1) = m' ((c.tc : Thread Cert.DwaRefIdeal.nD Cert.DwaRefIdeal.τ).loc Cert.DwaRefIdeal.main_arg1))

def preserves_Dwb_DwbIdeal : Prop :=
  True

def algebraic_DwbIdeal_DwbRefIdeal [hDwbIdeal : Cert.DwbIdeal.Facts] [hDwbRefIdeal : Cert.DwbRefIdeal.Facts] : Prop :=
  ∀ (m : (ℓ : Loc Cert.DwbIdeal.nD Cert.DwbIdeal.τ Cert.DwbIdeal.sig) → Buf (Elt Ideal) ℓ) (g : Dev Cert.DwbIdeal.nD → PrngReg)
    (m' : (ℓ : Loc Cert.DwbRefIdeal.nD Cert.DwbRefIdeal.τ Cert.DwbRefIdeal.sig) → Buf (Elt Ideal) ℓ) (g' : Dev Cert.DwbRefIdeal.nD → PrngReg), Pre_DwbIdeal m →
    (∀ c : Dev Cert.DwbIdeal.nD,
      m' ((c.tc : Thread Cert.DwbRefIdeal.nD Cert.DwbRefIdeal.τ).loc Cert.DwbRefIdeal.main_arg0) = m ((c.tc : Thread Cert.DwbIdeal.nD Cert.DwbIdeal.τ).loc Cert.DwbIdeal.main_arg0)
      ∧ m' ((c.tc : Thread Cert.DwbRefIdeal.nD Cert.DwbRefIdeal.τ).loc Cert.DwbRefIdeal.main_arg1) = m ((c.tc : Thread Cert.DwbIdeal.nD Cert.DwbIdeal.τ).loc Cert.DwbIdeal.main_arg1)) →
    ∃ (v0 : (c : Dev Cert.DwbIdeal.nD) → Buf (Elt Ideal) ((c.tc : Thread Cert.DwbIdeal.nD Cert.DwbIdeal.τ).loc Cert.DwbIdeal.main_v0)),
      θ_run (Cert.DwbIdeal.defs (F := Ideal)) (onTc (τ := Cert.DwbIdeal.τ) (Cert.DwbIdeal.main (F := Ideal))) ⟨m, fun _ => 0, g⟩ (fun r => ∀ c : Dev Cert.DwbIdeal.nD,
          r.2.mem ((c.tc : Thread Cert.DwbIdeal.nD Cert.DwbIdeal.τ).loc Cert.DwbIdeal.main_v0) = v0 c
          ∧ r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
          ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ θ_run (Cert.DwbRefIdeal.defs (F := Ideal)) (onTc (τ := Cert.DwbRefIdeal.τ) (Cert.DwbRefIdeal.main (F := Ideal))) ⟨m', fun _ => 0, g'⟩ (fun r => ∀ c : Dev Cert.DwbRefIdeal.nD,
          r.2.mem ((c.tc : Thread Cert.DwbRefIdeal.nD Cert.DwbRefIdeal.τ).loc Cert.DwbRefIdeal.main_v8) = v0 c
          ∧ r.2.mem ((c.tc : Thread Cert.DwbRefIdeal.nD Cert.DwbRefIdeal.τ).loc Cert.DwbRefIdeal.main_arg0) = m' ((c.tc : Thread Cert.DwbRefIdeal.nD Cert.DwbRefIdeal.τ).loc Cert.DwbRefIdeal.main_arg0)
          ∧ r.2.mem ((c.tc : Thread Cert.DwbRefIdeal.nD Cert.DwbRefIdeal.τ).loc Cert.DwbRefIdeal.main_arg1) = m' ((c.tc : Thread Cert.DwbRefIdeal.nD Cert.DwbRefIdeal.τ).loc Cert.DwbRefIdeal.main_arg1))

def preserves_Do2_Do2Ideal : Prop :=
  True

def algebraic_Do2Ideal_Do2RefIdeal [hDo2Ideal : Cert.Do2Ideal.Facts] [hDo2RefIdeal : Cert.Do2RefIdeal.Facts] : Prop :=
  ∀ (m : (ℓ : Loc Cert.Do2Ideal.nD Cert.Do2Ideal.τ Cert.Do2Ideal.sig) → Buf (Elt Ideal) ℓ) (g : Dev Cert.Do2Ideal.nD → PrngReg)
    (m' : (ℓ : Loc Cert.Do2RefIdeal.nD Cert.Do2RefIdeal.τ Cert.Do2RefIdeal.sig) → Buf (Elt Ideal) ℓ) (g' : Dev Cert.Do2RefIdeal.nD → PrngReg), Pre_Do2Ideal m →
    (∀ c : Dev Cert.Do2Ideal.nD,
      m' ((c.tc : Thread Cert.Do2RefIdeal.nD Cert.Do2RefIdeal.τ).loc Cert.Do2RefIdeal.main_arg0) = m ((c.tc : Thread Cert.Do2Ideal.nD Cert.Do2Ideal.τ).loc Cert.Do2Ideal.main_arg0)
      ∧ m' ((c.tc : Thread Cert.Do2RefIdeal.nD Cert.Do2RefIdeal.τ).loc Cert.Do2RefIdeal.main_arg1) = m ((c.tc : Thread Cert.Do2Ideal.nD Cert.Do2Ideal.τ).loc Cert.Do2Ideal.main_arg1)) →
    ∃ (v0 : (c : Dev Cert.Do2Ideal.nD) → Buf (Elt Ideal) ((c.tc : Thread Cert.Do2Ideal.nD Cert.Do2Ideal.τ).loc Cert.Do2Ideal.main_v0)),
      θ_run (Cert.Do2Ideal.defs (F := Ideal)) (onTc (τ := Cert.Do2Ideal.τ) (Cert.Do2Ideal.main (F := Ideal))) ⟨m, fun _ => 0, g⟩ (fun r => ∀ c : Dev Cert.Do2Ideal.nD,
          r.2.mem ((c.tc : Thread Cert.Do2Ideal.nD Cert.Do2Ideal.τ).loc Cert.Do2Ideal.main_v0) = v0 c
          ∧ r.2.mem ((c.tc : Thread Cert.Do2Ideal.nD Cert.Do2Ideal.τ).loc Cert.Do2Ideal.main_arg0) = m ((c.tc : Thread Cert.Do2Ideal.nD Cert.Do2Ideal.τ).loc Cert.Do2Ideal.main_arg0)
          ∧ r.2.mem ((c.tc : Thread Cert.Do2Ideal.nD Cert.Do2Ideal.τ).loc Cert.Do2Ideal.main_arg1) = m ((c.tc : Thread Cert.Do2Ideal.nD Cert.Do2Ideal.τ).loc Cert.Do2Ideal.main_arg1))
      ∧ θ_run (Cert.Do2RefIdeal.defs (F := Ideal)) (onTc (τ := Cert.Do2RefIdeal.τ) (Cert.Do2RefIdeal.main (F := Ideal))) ⟨m', fun _ => 0, g'⟩ (fun r => ∀ c : Dev Cert.Do2RefIdeal.nD,
          r.2.mem ((c.tc : Thread Cert.Do2RefIdeal.nD Cert.Do2RefIdeal.τ).loc Cert.Do2RefIdeal.main_v5) = v0 c
          ∧ r.2.mem ((c.tc : Thread Cert.Do2RefIdeal.nD Cert.Do2RefIdeal.τ).loc Cert.Do2RefIdeal.main_arg0) = m' ((c.tc : Thread Cert.Do2RefIdeal.nD Cert.Do2RefIdeal.τ).loc Cert.Do2RefIdeal.main_arg0)
          ∧ r.2.mem ((c.tc : Thread Cert.Do2RefIdeal.nD Cert.Do2RefIdeal.τ).loc Cert.Do2RefIdeal.main_arg1) = m' ((c.tc : Thread Cert.Do2RefIdeal.nD Cert.Do2RefIdeal.τ).loc Cert.Do2RefIdeal.main_arg1))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)
      ∧ m' ((c.tc : Thread Cert.DmRefIdeal.nD Cert.DmRefIdeal.τ).loc Cert.DmRefIdeal.main_arg2) = m ((c.tc : Thread Cert.DmIdeal.nD Cert.DmIdeal.τ).loc Cert.DmIdeal.main_arg2)) →
    ∃ (v0 : (c : Dev Cert.DmIdeal.nD) → Buf (Elt Ideal) ((c.tc : Thread Cert.DmIdeal.nD Cert.DmIdeal.τ).loc Cert.DmIdeal.main_v0)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v0) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
          ∧ r.2.mem ((c.tc : Thread Cert.DmIdeal.nD Cert.DmIdeal.τ).loc Cert.DmIdeal.main_arg2) = m ((c.tc : Thread Cert.DmIdeal.nD Cert.DmIdeal.τ).loc Cert.DmIdeal.main_arg2))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v4) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1)
          ∧ r.2.mem ((c.tc : Thread Cert.DmRefIdeal.nD Cert.DmRefIdeal.τ).loc Cert.DmRefIdeal.main_arg2) = m' ((c.tc : Thread Cert.DmRefIdeal.nD Cert.DmRefIdeal.τ).loc Cert.DmRefIdeal.main_arg2))

def preserves_Dhm_DhmIdeal : Prop :=
  True

def algebraic_DhmIdeal_DhmRefIdeal [hDhmIdeal : Cert.DhmIdeal.Facts] [hDhmRefIdeal : Cert.DhmRefIdeal.Facts] : Prop :=
  ∀ (m : (ℓ : Loc Cert.DhmIdeal.nD Cert.DhmIdeal.τ Cert.DhmIdeal.sig) → Buf (Elt Ideal) ℓ) (g : Dev Cert.DhmIdeal.nD → PrngReg)
    (m' : (ℓ : Loc Cert.DhmRefIdeal.nD Cert.DhmRefIdeal.τ Cert.DhmRefIdeal.sig) → Buf (Elt Ideal) ℓ) (g' : Dev Cert.DhmRefIdeal.nD → PrngReg), Pre_DhmIdeal m →
    (∀ c : Dev Cert.DhmIdeal.nD,
      m' ((c.tc : Thread Cert.DhmRefIdeal.nD Cert.DhmRefIdeal.τ).loc Cert.DhmRefIdeal.main_arg0) = m ((c.tc : Thread Cert.DhmIdeal.nD Cert.DhmIdeal.τ).loc Cert.DhmIdeal.main_arg0)
      ∧ m' ((c.tc : Thread Cert.DhmRefIdeal.nD Cert.DhmRefIdeal.τ).loc Cert.DhmRefIdeal.main_arg1) = m ((c.tc : Thread Cert.DhmIdeal.nD Cert.DhmIdeal.τ).loc Cert.DhmIdeal.main_arg1)) →
    ∃ (v0 : (c : Dev Cert.DhmIdeal.nD) → Buf (Elt Ideal) ((c.tc : Thread Cert.DhmIdeal.nD Cert.DhmIdeal.τ).loc Cert.DhmIdeal.main_v0)),
      θ_run (Cert.DhmIdeal.defs (F := Ideal)) (onTc (τ := Cert.DhmIdeal.τ) (Cert.DhmIdeal.main (F := Ideal))) ⟨m, fun _ => 0, g⟩ (fun r => ∀ c : Dev Cert.DhmIdeal.nD,
          r.2.mem ((c.tc : Thread Cert.DhmIdeal.nD Cert.DhmIdeal.τ).loc Cert.DhmIdeal.main_v0) = v0 c
          ∧ r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
          ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ θ_run (Cert.DhmRefIdeal.defs (F := Ideal)) (onTc (τ := Cert.DhmRefIdeal.τ) (Cert.DhmRefIdeal.main (F := Ideal))) ⟨m', fun _ => 0, g'⟩ (fun r => ∀ c : Dev Cert.DhmRefIdeal.nD,
          r.2.mem ((c.tc : Thread Cert.DhmRefIdeal.nD Cert.DhmRefIdeal.τ).loc Cert.DhmRefIdeal.main_v3) = v0 c
          ∧ r.2.mem ((c.tc : Thread Cert.DhmRefIdeal.nD Cert.DhmRefIdeal.τ).loc Cert.DhmRefIdeal.main_arg0) = m' ((c.tc : Thread Cert.DhmRefIdeal.nD Cert.DhmRefIdeal.τ).loc Cert.DhmRefIdeal.main_arg0)
          ∧ r.2.mem ((c.tc : Thread Cert.DhmRefIdeal.nD Cert.DhmRefIdeal.τ).loc Cert.DhmRefIdeal.main_arg1) = m' ((c.tc : Thread Cert.DhmRefIdeal.nD Cert.DhmRefIdeal.τ).loc Cert.DhmRefIdeal.main_arg1))

def preserves_Dpa_DpaIdeal : Prop :=
  True

def algebraic_DpaIdeal_DpaRefIdeal [hDpaIdeal : Cert.DpaIdeal.Facts] [hDpaRefIdeal : Cert.DpaRefIdeal.Facts] : Prop :=
  ∀ (m : (ℓ : Loc Cert.DpaIdeal.nD Cert.DpaIdeal.τ Cert.DpaIdeal.sig) → Buf (Elt Ideal) ℓ) (g : Dev Cert.DpaIdeal.nD → PrngReg)
    (m' : (ℓ : Loc Cert.DpaRefIdeal.nD Cert.DpaRefIdeal.τ Cert.DpaRefIdeal.sig) → Buf (Elt Ideal) ℓ) (g' : Dev Cert.DpaRefIdeal.nD → PrngReg), Pre_DpaIdeal m →
    (∀ c : Dev Cert.DpaIdeal.nD,
      m' ((c.tc : Thread Cert.DpaRefIdeal.nD Cert.DpaRefIdeal.τ).loc Cert.DpaRefIdeal.main_arg0) = m ((c.tc : Thread Cert.DpaIdeal.nD Cert.DpaIdeal.τ).loc Cert.DpaIdeal.main_arg0)
      ∧ m' ((c.tc : Thread Cert.DpaRefIdeal.nD Cert.DpaRefIdeal.τ).loc Cert.DpaRefIdeal.main_arg1) = m ((c.tc : Thread Cert.DpaIdeal.nD Cert.DpaIdeal.τ).loc Cert.DpaIdeal.main_arg1)) →
    ∃ (v0 : (c : Dev Cert.DpaIdeal.nD) → Buf (Elt Ideal) ((c.tc : Thread Cert.DpaIdeal.nD Cert.DpaIdeal.τ).loc Cert.DpaIdeal.main_v0)),
      θ_run (Cert.DpaIdeal.defs (F := Ideal)) (onTc (τ := Cert.DpaIdeal.τ) (Cert.DpaIdeal.main (F := Ideal))) ⟨m, fun _ => 0, g⟩ (fun r => ∀ c : Dev Cert.DpaIdeal.nD,
          r.2.mem ((c.tc : Thread Cert.DpaIdeal.nD Cert.DpaIdeal.τ).loc Cert.DpaIdeal.main_v0) = v0 c
          ∧ r.2.mem ((c.tc : Thread Cert.DpaIdeal.nD Cert.DpaIdeal.τ).loc Cert.DpaIdeal.main_arg0) = m ((c.tc : Thread Cert.DpaIdeal.nD Cert.DpaIdeal.τ).loc Cert.DpaIdeal.main_arg0)
          ∧ r.2.mem ((c.tc : Thread Cert.DpaIdeal.nD Cert.DpaIdeal.τ).loc Cert.DpaIdeal.main_arg1) = m ((c.tc : Thread Cert.DpaIdeal.nD Cert.DpaIdeal.τ).loc Cert.DpaIdeal.main_arg1))
      ∧ θ_run (Cert.DpaRefIdeal.defs (F := Ideal)) (onTc (τ := Cert.DpaRefIdeal.τ) (Cert.DpaRefIdeal.main (F := Ideal))) ⟨m', fun _ => 0, g'⟩ (fun r => ∀ c : Dev Cert.DpaRefIdeal.nD,
          r.2.mem ((c.tc : Thread Cert.DpaRefIdeal.nD Cert.DpaRefIdeal.τ).loc Cert.DpaRefIdeal.main_v6) = v0 c
          ∧ r.2.mem ((c.tc : Thread Cert.DpaRefIdeal.nD Cert.DpaRefIdeal.τ).loc Cert.DpaRefIdeal.main_arg0) = m' ((c.tc : Thread Cert.DpaRefIdeal.nD Cert.DpaRefIdeal.τ).loc Cert.DpaRefIdeal.main_arg0)
          ∧ r.2.mem ((c.tc : Thread Cert.DpaRefIdeal.nD Cert.DpaRefIdeal.τ).loc Cert.DpaRefIdeal.main_arg1) = m' ((c.tc : Thread Cert.DpaRefIdeal.nD Cert.DpaRefIdeal.τ).loc Cert.DpaRefIdeal.main_arg1))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)
      ∧ m' ((c.tc : Thread Cert.DoRefIdeal.nD Cert.DoRefIdeal.τ).loc Cert.DoRefIdeal.main_arg2) = m ((c.tc : Thread Cert.DoIdeal.nD Cert.DoIdeal.τ).loc Cert.DoIdeal.main_arg2)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
          ∧ r.2.mem ((c.tc : Thread Cert.DoIdeal.nD Cert.DoIdeal.τ).loc Cert.DoIdeal.main_arg2) = m ((c.tc : Thread Cert.DoIdeal.nD Cert.DoIdeal.τ).loc Cert.DoIdeal.main_arg2))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v7) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1)
          ∧ r.2.mem ((c.tc : Thread Cert.DoRefIdeal.nD Cert.DoRefIdeal.τ).loc Cert.DoRefIdeal.main_arg2) = m' ((c.tc : Thread Cert.DoRefIdeal.nD Cert.DoRefIdeal.τ).loc Cert.DoRefIdeal.main_arg2))

def preserves_Dhf_DhfIdeal : Prop :=
  True

def algebraic_DhfIdeal_DhfRefIdeal [hDhfIdeal : Cert.DhfIdeal.Facts] [hDhfRefIdeal : Cert.DhfRefIdeal.Facts] : Prop :=
  ∀ (m : (ℓ : Loc Cert.DhfIdeal.nD Cert.DhfIdeal.τ Cert.DhfIdeal.sig) → Buf (Elt Ideal) ℓ) (g : Dev Cert.DhfIdeal.nD → PrngReg)
    (m' : (ℓ : Loc Cert.DhfRefIdeal.nD Cert.DhfRefIdeal.τ Cert.DhfRefIdeal.sig) → Buf (Elt Ideal) ℓ) (g' : Dev Cert.DhfRefIdeal.nD → PrngReg), Pre_DhfIdeal m →
    (∀ c : Dev Cert.DhfIdeal.nD,
      m' ((c.tc : Thread Cert.DhfRefIdeal.nD Cert.DhfRefIdeal.τ).loc Cert.DhfRefIdeal.main_arg0) = m ((c.tc : Thread Cert.DhfIdeal.nD Cert.DhfIdeal.τ).loc Cert.DhfIdeal.main_arg0)
      ∧ m' ((c.tc : Thread Cert.DhfRefIdeal.nD Cert.DhfRefIdeal.τ).loc Cert.DhfRefIdeal.main_arg1) = m ((c.tc : Thread Cert.DhfIdeal.nD Cert.DhfIdeal.τ).loc Cert.DhfIdeal.main_arg1)
      ∧ m' ((c.tc : Thread Cert.DhfRefIdeal.nD Cert.DhfRefIdeal.τ).loc Cert.DhfRefIdeal.main_arg2) = m ((c.tc : Thread Cert.DhfIdeal.nD Cert.DhfIdeal.τ).loc Cert.DhfIdeal.main_arg2)
      ∧ m' ((c.tc : Thread Cert.DhfRefIdeal.nD Cert.DhfRefIdeal.τ).loc Cert.DhfRefIdeal.main_arg3) = m ((c.tc : Thread Cert.DhfIdeal.nD Cert.DhfIdeal.τ).loc Cert.DhfIdeal.main_arg3)
      ∧ m' ((c.tc : Thread Cert.DhfRefIdeal.nD Cert.DhfRefIdeal.τ).loc Cert.DhfRefIdeal.main_arg4) = m ((c.tc : Thread Cert.DhfIdeal.nD Cert.DhfIdeal.τ).loc Cert.DhfIdeal.main_arg4)) →
    ∃ (v0 : (c : Dev Cert.DhfIdeal.nD) → Buf (Elt Ideal) ((c.tc : Thread Cert.DhfIdeal.nD Cert.DhfIdeal.τ).loc Cert.DhfIdeal.main_v1_0)) (v1 : (c : Dev Cert.DhfIdeal.nD) → Buf (Elt Ideal) ((c.tc : Thread Cert.DhfIdeal.nD Cert.DhfIdeal.τ).loc Cert.DhfIdeal.main_v1_1)) (v2 : (c : Dev Cert.DhfIdeal.nD) → Buf (Elt Ideal) ((c.tc : Thread Cert.DhfIdeal.nD Cert.DhfIdeal.τ).loc Cert.DhfIdeal.main_v1_2)),
      θ_run (Cert.DhfIdeal.defs (F := Ideal)) (onTc (τ := Cert.DhfIdeal.τ) (Cert.DhfIdeal.main (F := Ideal))) ⟨m, fun _ => 0, g⟩ (fun r => ∀ c : Dev Cert.DhfIdeal.nD,
          r.2.mem ((c.tc : Thread Cert.DhfIdeal.nD Cert.DhfIdeal.τ).loc Cert.DhfIdeal.main_v1_0) = v0 c
          ∧ r.2.mem ((c.tc : Thread Cert.DhfIdeal.nD Cert.DhfIdeal.τ).loc Cert.DhfIdeal.main_v1_1) = v1 c
          ∧ r.2.mem ((c.tc : Thread Cert.DhfIdeal.nD Cert.DhfIdeal.τ).loc Cert.DhfIdeal.main_v1_2) = v2 c
          ∧ r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
          ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
          ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
          ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
          ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4))
      ∧ θ_run (Cert.DhfRefIdeal.defs (F := Ideal)) (onTc (τ := Cert.DhfRefIdeal.τ) (Cert.DhfRefIdeal.main (F := Ideal))) ⟨m', fun _ => 0, g'⟩ (fun r => ∀ c : Dev Cert.DhfRefIdeal.nD,
          r.2.mem ((c.tc : Thread Cert.DhfRefIdeal.nD Cert.DhfRefIdeal.τ).loc Cert.DhfRefIdeal.main_v42) = v0 c
          ∧ r.2.mem ((c.tc : Thread Cert.DhfRefIdeal.nD Cert.DhfRefIdeal.τ).loc Cert.DhfRefIdeal.main_v43) = v1 c
          ∧ r.2.mem ((c.tc : Thread Cert.DhfRefIdeal.nD Cert.DhfRefIdeal.τ).loc Cert.DhfRefIdeal.main_v44) = v2 c
          ∧ r.2.mem ((c.tc : Thread Cert.DhfRefIdeal.nD Cert.DhfRefIdeal.τ).loc Cert.DhfRefIdeal.main_arg0) = m' ((c.tc : Thread Cert.DhfRefIdeal.nD Cert.DhfRefIdeal.τ).loc Cert.DhfRefIdeal.main_arg0)
          ∧ r.2.mem ((c.tc : Thread Cert.DhfRefIdeal.nD Cert.DhfRefIdeal.τ).loc Cert.DhfRefIdeal.main_arg1) = m' ((c.tc : Thread Cert.DhfRefIdeal.nD Cert.DhfRefIdeal.τ).loc Cert.DhfRefIdeal.main_arg1)
          ∧ r.2.mem ((c.tc : Thread Cert.DhfRefIdeal.nD Cert.DhfRefIdeal.τ).loc Cert.DhfRefIdeal.main_arg2) = m' ((c.tc : Thread Cert.DhfRefIdeal.nD Cert.DhfRefIdeal.τ).loc Cert.DhfRefIdeal.main_arg2)
          ∧ r.2.mem ((c.tc : Thread Cert.DhfRefIdeal.nD Cert.DhfRefIdeal.τ).loc Cert.DhfRefIdeal.main_arg3) = m' ((c.tc : Thread Cert.DhfRefIdeal.nD Cert.DhfRefIdeal.τ).loc Cert.DhfRefIdeal.main_arg3)
          ∧ r.2.mem ((c.tc : Thread Cert.DhfRefIdeal.nD Cert.DhfRefIdeal.τ).loc Cert.DhfRefIdeal.main_arg4) = m' ((c.tc : Thread Cert.DhfRefIdeal.nD Cert.DhfRefIdeal.τ).loc Cert.DhfRefIdeal.main_arg4))

def preserves_Dhx_DhxIdeal : Prop :=
  True

def algebraic_DhxIdeal_DhxRefIdeal [hDhxIdeal : Cert.DhxIdeal.Facts] [hDhxRefIdeal : Cert.DhxRefIdeal.Facts] : Prop :=
  ∀ (m : (ℓ : Loc Cert.DhxIdeal.nD Cert.DhxIdeal.τ Cert.DhxIdeal.sig) → Buf (Elt Ideal) ℓ) (g : Dev Cert.DhxIdeal.nD → PrngReg)
    (m' : (ℓ : Loc Cert.DhxRefIdeal.nD Cert.DhxRefIdeal.τ Cert.DhxRefIdeal.sig) → Buf (Elt Ideal) ℓ) (g' : Dev Cert.DhxRefIdeal.nD → PrngReg), Pre_DhxIdeal m →
    (∀ c : Dev Cert.DhxIdeal.nD,
      m' ((c.tc : Thread Cert.DhxRefIdeal.nD Cert.DhxRefIdeal.τ).loc Cert.DhxRefIdeal.main_arg0) = m ((c.tc : Thread Cert.DhxIdeal.nD Cert.DhxIdeal.τ).loc Cert.DhxIdeal.main_arg0)
      ∧ m' ((c.tc : Thread Cert.DhxRefIdeal.nD Cert.DhxRefIdeal.τ).loc Cert.DhxRefIdeal.main_arg1) = m ((c.tc : Thread Cert.DhxIdeal.nD Cert.DhxIdeal.τ).loc Cert.DhxIdeal.main_arg1)
      ∧ m' ((c.tc : Thread Cert.DhxRefIdeal.nD Cert.DhxRefIdeal.τ).loc Cert.DhxRefIdeal.main_arg2) = m ((c.tc : Thread Cert.DhxIdeal.nD Cert.DhxIdeal.τ).loc Cert.DhxIdeal.main_arg2)
      ∧ m' ((c.tc : Thread Cert.DhxRefIdeal.nD Cert.DhxRefIdeal.τ).loc Cert.DhxRefIdeal.main_arg3) = m ((c.tc : Thread Cert.DhxIdeal.nD Cert.DhxIdeal.τ).loc Cert.DhxIdeal.main_arg3)
      ∧ m' ((c.tc : Thread Cert.DhxRefIdeal.nD Cert.DhxRefIdeal.τ).loc Cert.DhxRefIdeal.main_arg4) = m ((c.tc : Thread Cert.DhxIdeal.nD Cert.DhxIdeal.τ).loc Cert.DhxIdeal.main_arg4)) →
    ∃ (v0 : (c : Dev Cert.DhxIdeal.nD) → Buf (Elt Ideal) ((c.tc : Thread Cert.DhxIdeal.nD Cert.DhxIdeal.τ).loc Cert.DhxIdeal.main_v1_0)) (v1 : (c : Dev Cert.DhxIdeal.nD) → Buf (Elt Ideal) ((c.tc : Thread Cert.DhxIdeal.nD Cert.DhxIdeal.τ).loc Cert.DhxIdeal.main_v1_1)) (v2 : (c : Dev Cert.DhxIdeal.nD) → Buf (Elt Ideal) ((c.tc : Thread Cert.DhxIdeal.nD Cert.DhxIdeal.τ).loc Cert.DhxIdeal.main_v1_2)),
      θ_run (Cert.DhxIdeal.defs (F := Ideal)) (onTc (τ := Cert.DhxIdeal.τ) (Cert.DhxIdeal.main (F := Ideal))) ⟨m, fun _ => 0, g⟩ (fun r => ∀ c : Dev Cert.DhxIdeal.nD,
          r.2.mem ((c.tc : Thread Cert.DhxIdeal.nD Cert.DhxIdeal.τ).loc Cert.DhxIdeal.main_v1_0) = v0 c
          ∧ r.2.mem ((c.tc : Thread Cert.DhxIdeal.nD Cert.DhxIdeal.τ).loc Cert.DhxIdeal.main_v1_1) = v1 c
          ∧ r.2.mem ((c.tc : Thread Cert.DhxIdeal.nD Cert.DhxIdeal.τ).loc Cert.DhxIdeal.main_v1_2) = v2 c
          ∧ r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
          ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1)
          ∧ r.2.mem ((c.tc : Thread Cert.DhxIdeal.nD Cert.DhxIdeal.τ).loc Cert.DhxIdeal.main_arg2) = m ((c.tc : Thread Cert.DhxIdeal.nD Cert.DhxIdeal.τ).loc Cert.DhxIdeal.main_arg2)
          ∧ r.2.mem ((c.tc : Thread Cert.DhxIdeal.nD Cert.DhxIdeal.τ).loc Cert.DhxIdeal.main_arg3) = m ((c.tc : Thread Cert.DhxIdeal.nD Cert.DhxIdeal.τ).loc Cert.DhxIdeal.main_arg3)
          ∧ r.2.mem ((c.tc : Thread Cert.DhxIdeal.nD Cert.DhxIdeal.τ).loc Cert.DhxIdeal.main_arg4) = m ((c.tc : Thread Cert.DhxIdeal.nD Cert.DhxIdeal.τ).loc Cert.DhxIdeal.main_arg4))
      ∧ θ_run (Cert.DhxRefIdeal.defs (F := Ideal)) (onTc (τ := Cert.DhxRefIdeal.τ) (Cert.DhxRefIdeal.main (F := Ideal))) ⟨m', fun _ => 0, g'⟩ (fun r => ∀ c : Dev Cert.DhxRefIdeal.nD,
          r.2.mem ((c.tc : Thread Cert.DhxRefIdeal.nD Cert.DhxRefIdeal.τ).loc Cert.DhxRefIdeal.main_v40) = v0 c
          ∧ r.2.mem ((c.tc : Thread Cert.DhxRefIdeal.nD Cert.DhxRefIdeal.τ).loc Cert.DhxRefIdeal.main_v41) = v1 c
          ∧ r.2.mem ((c.tc : Thread Cert.DhxRefIdeal.nD Cert.DhxRefIdeal.τ).loc Cert.DhxRefIdeal.main_v42) = v2 c
          ∧ r.2.mem ((c.tc : Thread Cert.DhxRefIdeal.nD Cert.DhxRefIdeal.τ).loc Cert.DhxRefIdeal.main_arg0) = m' ((c.tc : Thread Cert.DhxRefIdeal.nD Cert.DhxRefIdeal.τ).loc Cert.DhxRefIdeal.main_arg0)
          ∧ r.2.mem ((c.tc : Thread Cert.DhxRefIdeal.nD Cert.DhxRefIdeal.τ).loc Cert.DhxRefIdeal.main_arg1) = m' ((c.tc : Thread Cert.DhxRefIdeal.nD Cert.DhxRefIdeal.τ).loc Cert.DhxRefIdeal.main_arg1)
          ∧ r.2.mem ((c.tc : Thread Cert.DhxRefIdeal.nD Cert.DhxRefIdeal.τ).loc Cert.DhxRefIdeal.main_arg2) = m' ((c.tc : Thread Cert.DhxRefIdeal.nD Cert.DhxRefIdeal.τ).loc Cert.DhxRefIdeal.main_arg2)
          ∧ r.2.mem ((c.tc : Thread Cert.DhxRefIdeal.nD Cert.DhxRefIdeal.τ).loc Cert.DhxRefIdeal.main_arg3) = m' ((c.tc : Thread Cert.DhxRefIdeal.nD Cert.DhxRefIdeal.τ).loc Cert.DhxRefIdeal.main_arg3)
          ∧ r.2.mem ((c.tc : Thread Cert.DhxRefIdeal.nD Cert.DhxRefIdeal.τ).loc Cert.DhxRefIdeal.main_arg4) = m' ((c.tc : Thread Cert.DhxRefIdeal.nD Cert.DhxRefIdeal.τ).loc Cert.DhxRefIdeal.main_arg4))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)
      ∧ m' ((c.tc : Thread Cert.DwqkvRefIdeal.nD Cert.DwqkvRefIdeal.τ).loc Cert.DwqkvRefIdeal.main_arg2) = m ((c.tc : Thread Cert.DwqkvIdeal.nD Cert.DwqkvIdeal.τ).loc Cert.DwqkvIdeal.main_arg2)
      ∧ m' ((c.tc : Thread Cert.DwqkvRefIdeal.nD Cert.DwqkvRefIdeal.τ).loc Cert.DwqkvRefIdeal.main_arg3) = m ((c.tc : Thread Cert.DwqkvIdeal.nD Cert.DwqkvIdeal.τ).loc Cert.DwqkvIdeal.main_arg3)) →
    ∃ (v0 : (c : Dev Cert.DwqkvIdeal.nD) → Buf (Elt Ideal) ((c.tc : Thread Cert.DwqkvIdeal.nD Cert.DwqkvIdeal.τ).loc Cert.DwqkvIdeal.main_v0)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v0) = v0 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
          ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
          ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v7) = v0 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1)
          ∧ r.2.mem ((c.tc : Thread Cert.DwqkvRefIdeal.nD Cert.DwqkvRefIdeal.τ).loc Cert.DwqkvRefIdeal.main_arg2) = m' ((c.tc : Thread Cert.DwqkvRefIdeal.nD Cert.DwqkvRefIdeal.τ).loc Cert.DwqkvRefIdeal.main_arg2)
          ∧ r.2.mem ((c.tc : Thread Cert.DwqkvRefIdeal.nD Cert.DwqkvRefIdeal.τ).loc Cert.DwqkvRefIdeal.main_arg3) = m' ((c.tc : Thread Cert.DwqkvRefIdeal.nD Cert.DwqkvRefIdeal.τ).loc Cert.DwqkvRefIdeal.main_arg3))

def preserves_Dwrest_DwrestIdeal : Prop :=
  True

def algebraic_DwrestIdeal_DwrestRefIdeal [hDwrestIdeal : Cert.DwrestIdeal.Facts] [hDwrestRefIdeal : Cert.DwrestRefIdeal.Facts] : Prop :=
  ∀ (m : (ℓ : Loc Cert.DwrestIdeal.nD Cert.DwrestIdeal.τ Cert.DwrestIdeal.sig) → Buf (Elt Ideal) ℓ) (g : Dev Cert.DwrestIdeal.nD → PrngReg)
    (m' : (ℓ : Loc Cert.DwrestRefIdeal.nD Cert.DwrestRefIdeal.τ Cert.DwrestRefIdeal.sig) → Buf (Elt Ideal) ℓ) (g' : Dev Cert.DwrestRefIdeal.nD → PrngReg), Pre_DwrestIdeal m →
    (∀ c : Dev Cert.DwrestIdeal.nD,
      m' ((c.tc : Thread Cert.DwrestRefIdeal.nD Cert.DwrestRefIdeal.τ).loc Cert.DwrestRefIdeal.main_arg0) = m ((c.tc : Thread Cert.DwrestIdeal.nD Cert.DwrestIdeal.τ).loc Cert.DwrestIdeal.main_arg0)
      ∧ m' ((c.tc : Thread Cert.DwrestRefIdeal.nD Cert.DwrestRefIdeal.τ).loc Cert.DwrestRefIdeal.main_arg1) = m ((c.tc : Thread Cert.DwrestIdeal.nD Cert.DwrestIdeal.τ).loc Cert.DwrestIdeal.main_arg1)
      ∧ m' ((c.tc : Thread Cert.DwrestRefIdeal.nD Cert.DwrestRefIdeal.τ).loc Cert.DwrestRefIdeal.main_arg2) = m ((c.tc : Thread Cert.DwrestIdeal.nD Cert.DwrestIdeal.τ).loc Cert.DwrestIdeal.main_arg2)
      ∧ m' ((c.tc : Thread Cert.DwrestRefIdeal.nD Cert.DwrestRefIdeal.τ).loc Cert.DwrestRefIdeal.main_arg3) = m ((c.tc : Thread Cert.DwrestIdeal.nD Cert.DwrestIdeal.τ).loc Cert.DwrestIdeal.main_arg3)
      ∧ m' ((c.tc : Thread Cert.DwrestRefIdeal.nD Cert.DwrestRefIdeal.τ).loc Cert.DwrestRefIdeal.main_arg4) = m ((c.tc : Thread Cert.DwrestIdeal.nD Cert.DwrestIdeal.τ).loc Cert.DwrestIdeal.main_arg4)) →
    ∃ (v0 : (c : Dev Cert.DwrestIdeal.nD) → Buf (Elt Ideal) ((c.tc : Thread Cert.DwrestIdeal.nD Cert.DwrestIdeal.τ).loc Cert.DwrestIdeal.main_v0)),
      θ_run (Cert.DwrestIdeal.defs (F := Ideal)) (onTc (τ := Cert.DwrestIdeal.τ) (Cert.DwrestIdeal.main (F := Ideal))) ⟨m, fun _ => 0, g⟩ (fun r => ∀ c : Dev Cert.DwrestIdeal.nD,
          r.2.mem ((c.tc : Thread Cert.DwrestIdeal.nD Cert.DwrestIdeal.τ).loc Cert.DwrestIdeal.main_v0) = v0 c
          ∧ r.2.mem ((c.tc : Thread Cert.DwrestIdeal.nD Cert.DwrestIdeal.τ).loc Cert.DwrestIdeal.main_arg0) = m ((c.tc : Thread Cert.DwrestIdeal.nD Cert.DwrestIdeal.τ).loc Cert.DwrestIdeal.main_arg0)
          ∧ r.2.mem ((c.tc : Thread Cert.DwrestIdeal.nD Cert.DwrestIdeal.τ).loc Cert.DwrestIdeal.main_arg1) = m ((c.tc : Thread Cert.DwrestIdeal.nD Cert.DwrestIdeal.τ).loc Cert.DwrestIdeal.main_arg1)
          ∧ r.2.mem ((c.tc : Thread Cert.DwrestIdeal.nD Cert.DwrestIdeal.τ).loc Cert.DwrestIdeal.main_arg2) = m ((c.tc : Thread Cert.DwrestIdeal.nD Cert.DwrestIdeal.τ).loc Cert.DwrestIdeal.main_arg2)
          ∧ r.2.mem ((c.tc : Thread Cert.DwrestIdeal.nD Cert.DwrestIdeal.τ).loc Cert.DwrestIdeal.main_arg3) = m ((c.tc : Thread Cert.DwrestIdeal.nD Cert.DwrestIdeal.τ).loc Cert.DwrestIdeal.main_arg3)
          ∧ r.2.mem ((c.tc : Thread Cert.DwrestIdeal.nD Cert.DwrestIdeal.τ).loc Cert.DwrestIdeal.main_arg4) = m ((c.tc : Thread Cert.DwrestIdeal.nD Cert.DwrestIdeal.τ).loc Cert.DwrestIdeal.main_arg4))
      ∧ θ_run (Cert.DwrestRefIdeal.defs (F := Ideal)) (onTc (τ := Cert.DwrestRefIdeal.τ) (Cert.DwrestRefIdeal.main (F := Ideal))) ⟨m', fun _ => 0, g'⟩ (fun r => ∀ c : Dev Cert.DwrestRefIdeal.nD,
          r.2.mem ((c.tc : Thread Cert.DwrestRefIdeal.nD Cert.DwrestRefIdeal.τ).loc Cert.DwrestRefIdeal.main_v7) = v0 c
          ∧ r.2.mem ((c.tc : Thread Cert.DwrestRefIdeal.nD Cert.DwrestRefIdeal.τ).loc Cert.DwrestRefIdeal.main_arg0) = m' ((c.tc : Thread Cert.DwrestRefIdeal.nD Cert.DwrestRefIdeal.τ).loc Cert.DwrestRefIdeal.main_arg0)
          ∧ r.2.mem ((c.tc : Thread Cert.DwrestRefIdeal.nD Cert.DwrestRefIdeal.τ).loc Cert.DwrestRefIdeal.main_arg1) = m' ((c.tc : Thread Cert.DwrestRefIdeal.nD Cert.DwrestRefIdeal.τ).loc Cert.DwrestRefIdeal.main_arg1)
          ∧ r.2.mem ((c.tc : Thread Cert.DwrestRefIdeal.nD Cert.DwrestRefIdeal.τ).loc Cert.DwrestRefIdeal.main_arg2) = m' ((c.tc : Thread Cert.DwrestRefIdeal.nD Cert.DwrestRefIdeal.τ).loc Cert.DwrestRefIdeal.main_arg2)
          ∧ r.2.mem ((c.tc : Thread Cert.DwrestRefIdeal.nD Cert.DwrestRefIdeal.τ).loc Cert.DwrestRefIdeal.main_arg3) = m' ((c.tc : Thread Cert.DwrestRefIdeal.nD Cert.DwrestRefIdeal.τ).loc Cert.DwrestRefIdeal.main_arg3)
          ∧ r.2.mem ((c.tc : Thread Cert.DwrestRefIdeal.nD Cert.DwrestRefIdeal.τ).loc Cert.DwrestRefIdeal.main_arg4) = m' ((c.tc : Thread Cert.DwrestRefIdeal.nD Cert.DwrestRefIdeal.τ).loc Cert.DwrestRefIdeal.main_arg4))

def preserves_Dhqkv_DhqkvIdeal : Prop :=
  True

def algebraic_DhqkvIdeal_DhqkvRefIdeal [hDhqkvIdeal : Cert.DhqkvIdeal.Facts] [hDhqkvRefIdeal : Cert.DhqkvRefIdeal.Facts] : Prop :=
  ∀ (m : (ℓ : Loc Cert.DhqkvIdeal.nD Cert.DhqkvIdeal.τ Cert.DhqkvIdeal.sig) → Buf (Elt Ideal) ℓ) (g : Dev Cert.DhqkvIdeal.nD → PrngReg)
    (m' : (ℓ : Loc Cert.DhqkvRefIdeal.nD Cert.DhqkvRefIdeal.τ Cert.DhqkvRefIdeal.sig) → Buf (Elt Ideal) ℓ) (g' : Dev Cert.DhqkvRefIdeal.nD → PrngReg), Pre_DhqkvIdeal m →
    (∀ c : Dev Cert.DhqkvIdeal.nD,
      m' ((c.tc : Thread Cert.DhqkvRefIdeal.nD Cert.DhqkvRefIdeal.τ).loc Cert.DhqkvRefIdeal.main_arg0) = m ((c.tc : Thread Cert.DhqkvIdeal.nD Cert.DhqkvIdeal.τ).loc Cert.DhqkvIdeal.main_arg0)
      ∧ m' ((c.tc : Thread Cert.DhqkvRefIdeal.nD Cert.DhqkvRefIdeal.τ).loc Cert.DhqkvRefIdeal.main_arg1) = m ((c.tc : Thread Cert.DhqkvIdeal.nD Cert.DhqkvIdeal.τ).loc Cert.DhqkvIdeal.main_arg1)
      ∧ m' ((c.tc : Thread Cert.DhqkvRefIdeal.nD Cert.DhqkvRefIdeal.τ).loc Cert.DhqkvRefIdeal.main_arg2) = m ((c.tc : Thread Cert.DhqkvIdeal.nD Cert.DhqkvIdeal.τ).loc Cert.DhqkvIdeal.main_arg2)
      ∧ m' ((c.tc : Thread Cert.DhqkvRefIdeal.nD Cert.DhqkvRefIdeal.τ).loc Cert.DhqkvRefIdeal.main_arg3) = m ((c.tc : Thread Cert.DhqkvIdeal.nD Cert.DhqkvIdeal.τ).loc Cert.DhqkvIdeal.main_arg3)
      ∧ m' ((c.tc : Thread Cert.DhqkvRefIdeal.nD Cert.DhqkvRefIdeal.τ).loc Cert.DhqkvRefIdeal.main_arg4) = m ((c.tc : Thread Cert.DhqkvIdeal.nD Cert.DhqkvIdeal.τ).loc Cert.DhqkvIdeal.main_arg4)) →
    ∃ (v0 : (c : Dev Cert.DhqkvIdeal.nD) → Buf (Elt Ideal) ((c.tc : Thread Cert.DhqkvIdeal.nD Cert.DhqkvIdeal.τ).loc Cert.DhqkvIdeal.main_v0)),
      θ_run (Cert.DhqkvIdeal.defs (F := Ideal)) (onTc (τ := Cert.DhqkvIdeal.τ) (Cert.DhqkvIdeal.main (F := Ideal))) ⟨m, fun _ => 0, g⟩ (fun r => ∀ c : Dev Cert.DhqkvIdeal.nD,
          r.2.mem ((c.tc : Thread Cert.DhqkvIdeal.nD Cert.DhqkvIdeal.τ).loc Cert.DhqkvIdeal.main_v0) = v0 c
          ∧ r.2.mem ((c.tc : Thread Cert.DhqkvIdeal.nD Cert.DhqkvIdeal.τ).loc Cert.DhqkvIdeal.main_arg0) = m ((c.tc : Thread Cert.DhqkvIdeal.nD Cert.DhqkvIdeal.τ).loc Cert.DhqkvIdeal.main_arg0)
          ∧ r.2.mem ((c.tc : Thread Cert.DhqkvIdeal.nD Cert.DhqkvIdeal.τ).loc Cert.DhqkvIdeal.main_arg1) = m ((c.tc : Thread Cert.DhqkvIdeal.nD Cert.DhqkvIdeal.τ).loc Cert.DhqkvIdeal.main_arg1)
          ∧ r.2.mem ((c.tc : Thread Cert.DhqkvIdeal.nD Cert.DhqkvIdeal.τ).loc Cert.DhqkvIdeal.main_arg2) = m ((c.tc : Thread Cert.DhqkvIdeal.nD Cert.DhqkvIdeal.τ).loc Cert.DhqkvIdeal.main_arg2)
          ∧ r.2.mem ((c.tc : Thread Cert.DhqkvIdeal.nD Cert.DhqkvIdeal.τ).loc Cert.DhqkvIdeal.main_arg3) = m ((c.tc : Thread Cert.DhqkvIdeal.nD Cert.DhqkvIdeal.τ).loc Cert.DhqkvIdeal.main_arg3)
          ∧ r.2.mem ((c.tc : Thread Cert.DhqkvIdeal.nD Cert.DhqkvIdeal.τ).loc Cert.DhqkvIdeal.main_arg4) = m ((c.tc : Thread Cert.DhqkvIdeal.nD Cert.DhqkvIdeal.τ).loc Cert.DhqkvIdeal.main_arg4))
      ∧ θ_run (Cert.DhqkvRefIdeal.defs (F := Ideal)) (onTc (τ := Cert.DhqkvRefIdeal.τ) (Cert.DhqkvRefIdeal.main (F := Ideal))) ⟨m', fun _ => 0, g'⟩ (fun r => ∀ c : Dev Cert.DhqkvRefIdeal.nD,
          r.2.mem ((c.tc : Thread Cert.DhqkvRefIdeal.nD Cert.DhqkvRefIdeal.τ).loc Cert.DhqkvRefIdeal.main_v5) = v0 c
          ∧ r.2.mem ((c.tc : Thread Cert.DhqkvRefIdeal.nD Cert.DhqkvRefIdeal.τ).loc Cert.DhqkvRefIdeal.main_arg0) = m' ((c.tc : Thread Cert.DhqkvRefIdeal.nD Cert.DhqkvRefIdeal.τ).loc Cert.DhqkvRefIdeal.main_arg0)
          ∧ r.2.mem ((c.tc : Thread Cert.DhqkvRefIdeal.nD Cert.DhqkvRefIdeal.τ).loc Cert.DhqkvRefIdeal.main_arg1) = m' ((c.tc : Thread Cert.DhqkvRefIdeal.nD Cert.DhqkvRefIdeal.τ).loc Cert.DhqkvRefIdeal.main_arg1)
          ∧ r.2.mem ((c.tc : Thread Cert.DhqkvRefIdeal.nD Cert.DhqkvRefIdeal.τ).loc Cert.DhqkvRefIdeal.main_arg2) = m' ((c.tc : Thread Cert.DhqkvRefIdeal.nD Cert.DhqkvRefIdeal.τ).loc Cert.DhqkvRefIdeal.main_arg2)
          ∧ r.2.mem ((c.tc : Thread Cert.DhqkvRefIdeal.nD Cert.DhqkvRefIdeal.τ).loc Cert.DhqkvRefIdeal.main_arg3) = m' ((c.tc : Thread Cert.DhqkvRefIdeal.nD Cert.DhqkvRefIdeal.τ).loc Cert.DhqkvRefIdeal.main_arg3)
          ∧ r.2.mem ((c.tc : Thread Cert.DhqkvRefIdeal.nD Cert.DhqkvRefIdeal.τ).loc Cert.DhqkvRefIdeal.main_arg4) = m' ((c.tc : Thread Cert.DhqkvRefIdeal.nD Cert.DhqkvRefIdeal.τ).loc Cert.DhqkvRefIdeal.main_arg4))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)
      ∧ m' ((c.tc : Thread Cert.DhRefIdeal.nD Cert.DhRefIdeal.τ).loc Cert.DhRefIdeal.main_arg6) = m ((c.tc : Thread Cert.DhIdeal.nD Cert.DhIdeal.τ).loc Cert.DhIdeal.main_arg6)
      ∧ m' ((c.tc : Thread Cert.DhRefIdeal.nD Cert.DhRefIdeal.τ).loc Cert.DhRefIdeal.main_arg7) = m ((c.tc : Thread Cert.DhIdeal.nD Cert.DhIdeal.τ).loc Cert.DhIdeal.main_arg7)
      ∧ m' ((c.tc : Thread Cert.DhRefIdeal.nD Cert.DhRefIdeal.τ).loc Cert.DhRefIdeal.main_arg8) = m ((c.tc : Thread Cert.DhIdeal.nD Cert.DhIdeal.τ).loc Cert.DhIdeal.main_arg8)) →
    ∃ (v0 : (c : Dev Cert.DhIdeal.nD) → Buf (Elt Ideal) ((c.tc : Thread Cert.DhIdeal.nD Cert.DhIdeal.τ).loc Cert.DhIdeal.main_v1_0)) (v1 : (c : Dev Cert.DhIdeal.nD) → Buf (Elt Ideal) ((c.tc : Thread Cert.DhIdeal.nD Cert.DhIdeal.τ).loc Cert.DhIdeal.main_v1_1)) (v2 : (c : Dev Cert.DhIdeal.nD) → Buf (Elt Ideal) ((c.tc : Thread Cert.DhIdeal.nD Cert.DhIdeal.τ).loc Cert.DhIdeal.main_v1_2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v1_0) = v0 c
          ∧ r.2.mem ((c.tc : Thread Cert.DhIdeal.nD Cert.DhIdeal.τ).loc Cert.DhIdeal.main_v1_1) = v1 c
          ∧ r.2.mem ((c.tc : Thread Cert.DhIdeal.nD Cert.DhIdeal.τ).loc Cert.DhIdeal.main_v1_2) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v42) = v0 c
          ∧ r.2.mem ((c.tc : Thread Cert.DhRefIdeal.nD Cert.DhRefIdeal.τ).loc Cert.DhRefIdeal.main_v43) = v1 c
          ∧ r.2.mem ((c.tc : Thread Cert.DhRefIdeal.nD Cert.DhRefIdeal.τ).loc Cert.DhRefIdeal.main_v44) = v2 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8))

def Claim : Prop :=
  ∃ (hXattn : Cert.Xattn.Facts) (hXattnIdeal : Cert.XattnIdeal.Facts) (hXattnRefIdeal : Cert.XattnRefIdeal.Facts) (hMerge : Cert.Merge.Facts) (hMergeIdeal : Cert.MergeIdeal.Facts) (hMergeRefIdeal : Cert.MergeRefIdeal.Facts) (hSf : Cert.Sf.Facts) (hSfIdeal : Cert.SfIdeal.Facts) (hSfRefIdeal : Cert.SfRefIdeal.Facts) (hFp : Cert.Fp.Facts) (hFpIdeal : Cert.FpIdeal.Facts) (hFpRefIdeal : Cert.FpRefIdeal.Facts) (hFo : Cert.Fo.Facts) (hFoIdeal : Cert.FoIdeal.Facts) (hFoRefIdeal : Cert.FoRefIdeal.Facts) (hSb : Cert.Sb.Facts) (hSbIdeal : Cert.SbIdeal.Facts) (hSbRefIdeal : Cert.SbRefIdeal.Facts) (hMf : Cert.Mf.Facts) (hMfIdeal : Cert.MfIdeal.Facts) (hMfRefIdeal : Cert.MfRefIdeal.Facts) (hXf : Cert.Xf.Facts) (hXfIdeal : Cert.XfIdeal.Facts) (hXfRefIdeal : Cert.XfRefIdeal.Facts) (hNx : Cert.Nx.Facts) (hNxIdeal : Cert.NxIdeal.Facts) (hNxRefIdeal : Cert.NxRefIdeal.Facts) (hNm : Cert.Nm.Facts) (hNmIdeal : Cert.NmIdeal.Facts) (hNmRefIdeal : Cert.NmRefIdeal.Facts) (hNb : Cert.Nb.Facts) (hNbIdeal : Cert.NbIdeal.Facts) (hNbRefIdeal : Cert.NbRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hDz : Cert.Dz.Facts) (hDzIdeal : Cert.DzIdeal.Facts) (hDzRefIdeal : Cert.DzRefIdeal.Facts) (hDw2 : Cert.Dw2.Facts) (hDw2Ideal : Cert.Dw2Ideal.Facts) (hDw2RefIdeal : Cert.Dw2RefIdeal.Facts) (hDw1 : Cert.Dw1.Facts) (hDw1Ideal : Cert.Dw1Ideal.Facts) (hDw1RefIdeal : Cert.Dw1RefIdeal.Facts) (hRest : Cert.Rest.Facts) (hRestIdeal : Cert.RestIdeal.Facts) (hRestRefIdeal : Cert.RestRefIdeal.Facts) (hQkv : Cert.Qkv.Facts) (hQkvIdeal : Cert.QkvIdeal.Facts) (hQkvRefIdeal : Cert.QkvRefIdeal.Facts) (hXq : Cert.Xq.Facts) (hXqIdeal : Cert.XqIdeal.Facts) (hXqRefIdeal : Cert.XqRefIdeal.Facts) (hXkv : Cert.Xkv.Facts) (hXkvIdeal : Cert.XkvIdeal.Facts) (hXkvRefIdeal : Cert.XkvRefIdeal.Facts) (hBc : Cert.Bc.Facts) (hBcIdeal : Cert.BcIdeal.Facts) (hBcRefIdeal : Cert.BcRefIdeal.Facts) (hBb : Cert.Bb.Facts) (hBbIdeal : Cert.BbIdeal.Facts) (hBbRefIdeal : Cert.BbRefIdeal.Facts) (hOut : Cert.Out.Facts) (hOutIdeal : Cert.OutIdeal.Facts) (hOutRefIdeal : Cert.OutRefIdeal.Facts) (hFf1 : Cert.Ff1.Facts) (hFf1Ideal : Cert.Ff1Ideal.Facts) (hFf1RefIdeal : Cert.Ff1RefIdeal.Facts) (hFf2n : Cert.Ff2n.Facts) (hFf2nIdeal : Cert.Ff2nIdeal.Facts) (hFf2nRefIdeal : Cert.Ff2nRefIdeal.Facts) (hFf2 : Cert.Ff2.Facts) (hFf2Ideal : Cert.Ff2Ideal.Facts) (hFf2RefIdeal : Cert.Ff2RefIdeal.Facts) (hDws : Cert.Dws.Facts) (hDwsIdeal : Cert.DwsIdeal.Facts) (hDwsRefIdeal : Cert.DwsRefIdeal.Facts) (hDwkv : Cert.Dwkv.Facts) (hDwkvIdeal : Cert.DwkvIdeal.Facts) (hDwkvRefIdeal : Cert.DwkvRefIdeal.Facts) (hDwa : Cert.Dwa.Facts) (hDwaIdeal : Cert.DwaIdeal.Facts) (hDwaRefIdeal : Cert.DwaRefIdeal.Facts) (hDwb : Cert.Dwb.Facts) (hDwbIdeal : Cert.DwbIdeal.Facts) (hDwbRefIdeal : Cert.DwbRefIdeal.Facts) (hDo2 : Cert.Do2.Facts) (hDo2Ideal : Cert.Do2Ideal.Facts) (hDo2RefIdeal : Cert.Do2RefIdeal.Facts) (hDm : Cert.Dm.Facts) (hDmIdeal : Cert.DmIdeal.Facts) (hDmRefIdeal : Cert.DmRefIdeal.Facts) (hDhm : Cert.Dhm.Facts) (hDhmIdeal : Cert.DhmIdeal.Facts) (hDhmRefIdeal : Cert.DhmRefIdeal.Facts) (hDpa : Cert.Dpa.Facts) (hDpaIdeal : Cert.DpaIdeal.Facts) (hDpaRefIdeal : Cert.DpaRefIdeal.Facts) (hDo : Cert.Do.Facts) (hDoIdeal : Cert.DoIdeal.Facts) (hDoRefIdeal : Cert.DoRefIdeal.Facts) (hDhf : Cert.Dhf.Facts) (hDhfIdeal : Cert.DhfIdeal.Facts) (hDhfRefIdeal : Cert.DhfRefIdeal.Facts) (hDhx : Cert.Dhx.Facts) (hDhxIdeal : Cert.DhxIdeal.Facts) (hDhxRefIdeal : Cert.DhxRefIdeal.Facts) (hDwqkv : Cert.Dwqkv.Facts) (hDwqkvIdeal : Cert.DwqkvIdeal.Facts) (hDwqkvRefIdeal : Cert.DwqkvRefIdeal.Facts) (hDwrest : Cert.Dwrest.Facts) (hDwrestIdeal : Cert.DwrestIdeal.Facts) (hDwrestRefIdeal : Cert.DwrestRefIdeal.Facts) (hDhqkv : Cert.Dhqkv.Facts) (hDhqkvIdeal : Cert.DhqkvIdeal.Facts) (hDhqkvRefIdeal : Cert.DhqkvRefIdeal.Facts) (hDh : Cert.Dh.Facts) (hDhIdeal : Cert.DhIdeal.Facts) (hDhRefIdeal : Cert.DhRefIdeal.Facts) (hPre_xattn_finite : Cert.Pre_xattn_finite.Facts),
    quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Merge (hMerge := hMerge)
    ∧ quiescent_MergeIdeal (hMergeIdeal := hMergeIdeal)
    ∧ quiescent_MergeRefIdeal (hMergeRefIdeal := hMergeRefIdeal)
    ∧ quiescent_Sf (hSf := hSf)
    ∧ quiescent_SfIdeal (hSfIdeal := hSfIdeal)
    ∧ quiescent_SfRefIdeal (hSfRefIdeal := hSfRefIdeal)
    ∧ quiescent_Fp (hFp := hFp)
    ∧ quiescent_FpIdeal (hFpIdeal := hFpIdeal)
    ∧ quiescent_FpRefIdeal (hFpRefIdeal := hFpRefIdeal)
    ∧ quiescent_Fo (hFo := hFo)
    ∧ quiescent_FoIdeal (hFoIdeal := hFoIdeal)
    ∧ quiescent_FoRefIdeal (hFoRefIdeal := hFoRefIdeal)
    ∧ quiescent_Sb (hSb := hSb)
    ∧ quiescent_SbIdeal (hSbIdeal := hSbIdeal)
    ∧ quiescent_SbRefIdeal (hSbRefIdeal := hSbRefIdeal)
    ∧ quiescent_Mf (hMf := hMf)
    ∧ quiescent_MfIdeal (hMfIdeal := hMfIdeal)
    ∧ quiescent_MfRefIdeal (hMfRefIdeal := hMfRefIdeal)
    ∧ quiescent_Xf (hXf := hXf)
    ∧ quiescent_XfIdeal (hXfIdeal := hXfIdeal)
    ∧ quiescent_XfRefIdeal (hXfRefIdeal := hXfRefIdeal)
    ∧ quiescent_Nx (hNx := hNx)
    ∧ quiescent_NxIdeal (hNxIdeal := hNxIdeal)
    ∧ quiescent_NxRefIdeal (hNxRefIdeal := hNxRefIdeal)
    ∧ quiescent_Nm (hNm := hNm)
    ∧ quiescent_NmIdeal (hNmIdeal := hNmIdeal)
    ∧ quiescent_NmRefIdeal (hNmRefIdeal := hNmRefIdeal)
    ∧ quiescent_Nb (hNb := hNb)
    ∧ quiescent_NbIdeal (hNbIdeal := hNbIdeal)
    ∧ quiescent_NbRefIdeal (hNbRefIdeal := hNbRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_Dz (hDz := hDz)
    ∧ quiescent_DzIdeal (hDzIdeal := hDzIdeal)
    ∧ quiescent_DzRefIdeal (hDzRefIdeal := hDzRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Rest (hRest := hRest)
    ∧ quiescent_RestIdeal (hRestIdeal := hRestIdeal)
    ∧ quiescent_RestRefIdeal (hRestRefIdeal := hRestRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Xq (hXq := hXq)
    ∧ quiescent_XqIdeal (hXqIdeal := hXqIdeal)
    ∧ quiescent_XqRefIdeal (hXqRefIdeal := hXqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_Bc (hBc := hBc)
    ∧ quiescent_BcIdeal (hBcIdeal := hBcIdeal)
    ∧ quiescent_BcRefIdeal (hBcRefIdeal := hBcRefIdeal)
    ∧ quiescent_Bb (hBb := hBb)
    ∧ quiescent_BbIdeal (hBbIdeal := hBbIdeal)
    ∧ quiescent_BbRefIdeal (hBbRefIdeal := hBbRefIdeal)
    ∧ quiescent_Out (hOut := hOut)
    ∧ quiescent_OutIdeal (hOutIdeal := hOutIdeal)
    ∧ quiescent_OutRefIdeal (hOutRefIdeal := hOutRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2n (hFf2n := hFf2n)
    ∧ quiescent_Ff2nIdeal (hFf2nIdeal := hFf2nIdeal)
    ∧ quiescent_Ff2nRefIdeal (hFf2nRefIdeal := hFf2nRefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Dws (hDws := hDws)
    ∧ quiescent_DwsIdeal (hDwsIdeal := hDwsIdeal)
    ∧ quiescent_DwsRefIdeal (hDwsRefIdeal := hDwsRefIdeal)
    ∧ quiescent_Dwkv (hDwkv := hDwkv)
    ∧ quiescent_DwkvIdeal (hDwkvIdeal := hDwkvIdeal)
    ∧ quiescent_DwkvRefIdeal (hDwkvRefIdeal := hDwkvRefIdeal)
    ∧ quiescent_Dwa (hDwa := hDwa)
    ∧ quiescent_DwaIdeal (hDwaIdeal := hDwaIdeal)
    ∧ quiescent_DwaRefIdeal (hDwaRefIdeal := hDwaRefIdeal)
    ∧ quiescent_Dwb (hDwb := hDwb)
    ∧ quiescent_DwbIdeal (hDwbIdeal := hDwbIdeal)
    ∧ quiescent_DwbRefIdeal (hDwbRefIdeal := hDwbRefIdeal)
    ∧ quiescent_Do2 (hDo2 := hDo2)
    ∧ quiescent_Do2Ideal (hDo2Ideal := hDo2Ideal)
    ∧ quiescent_Do2RefIdeal (hDo2RefIdeal := hDo2RefIdeal)
    ∧ quiescent_Dm (hDm := hDm)
    ∧ quiescent_DmIdeal (hDmIdeal := hDmIdeal)
    ∧ quiescent_DmRefIdeal (hDmRefIdeal := hDmRefIdeal)
    ∧ quiescent_Dhm (hDhm := hDhm)
    ∧ quiescent_DhmIdeal (hDhmIdeal := hDhmIdeal)
    ∧ quiescent_DhmRefIdeal (hDhmRefIdeal := hDhmRefIdeal)
    ∧ quiescent_Dpa (hDpa := hDpa)
    ∧ quiescent_DpaIdeal (hDpaIdeal := hDpaIdeal)
    ∧ quiescent_DpaRefIdeal (hDpaRefIdeal := hDpaRefIdeal)
    ∧ quiescent_Do (hDo := hDo)
    ∧ quiescent_DoIdeal (hDoIdeal := hDoIdeal)
    ∧ quiescent_DoRefIdeal (hDoRefIdeal := hDoRefIdeal)
    ∧ quiescent_Dhf (hDhf := hDhf)
    ∧ quiescent_DhfIdeal (hDhfIdeal := hDhfIdeal)
    ∧ quiescent_DhfRefIdeal (hDhfRefIdeal := hDhfRefIdeal)
    ∧ quiescent_Dhx (hDhx := hDhx)
    ∧ quiescent_DhxIdeal (hDhxIdeal := hDhxIdeal)
    ∧ quiescent_DhxRefIdeal (hDhxRefIdeal := hDhxRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_Dwrest (hDwrest := hDwrest)
    ∧ quiescent_DwrestIdeal (hDwrestIdeal := hDwrestIdeal)
    ∧ quiescent_DwrestRefIdeal (hDwrestRefIdeal := hDwrestRefIdeal)
    ∧ quiescent_Dhqkv (hDhqkv := hDhqkv)
    ∧ quiescent_DhqkvIdeal (hDhqkvIdeal := hDhqkvIdeal)
    ∧ quiescent_DhqkvRefIdeal (hDhqkvRefIdeal := hDhqkvRefIdeal)
    ∧ quiescent_Dh (hDh := hDh)
    ∧ quiescent_DhIdeal (hDhIdeal := hDhIdeal)
    ∧ quiescent_DhRefIdeal (hDhRefIdeal := hDhRefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Merge_MergeIdeal
    ∧ algebraic_MergeIdeal_MergeRefIdeal (hMergeIdeal := hMergeIdeal) (hMergeRefIdeal := hMergeRefIdeal)
    ∧ preserves_Sf_SfIdeal
    ∧ algebraic_SfIdeal_SfRefIdeal (hSfIdeal := hSfIdeal) (hSfRefIdeal := hSfRefIdeal)
    ∧ preserves_Fp_FpIdeal
    ∧ algebraic_FpIdeal_FpRefIdeal (hFpIdeal := hFpIdeal) (hFpRefIdeal := hFpRefIdeal)
    ∧ preserves_Fo_FoIdeal
    ∧ algebraic_FoIdeal_FoRefIdeal (hFoIdeal := hFoIdeal) (hFoRefIdeal := hFoRefIdeal)
    ∧ preserves_Sb_SbIdeal
    ∧ algebraic_SbIdeal_SbRefIdeal (hSbIdeal := hSbIdeal) (hSbRefIdeal := hSbRefIdeal)
    ∧ preserves_Mf_MfIdeal
    ∧ algebraic_MfIdeal_MfRefIdeal (hMfIdeal := hMfIdeal) (hMfRefIdeal := hMfRefIdeal)
    ∧ preserves_Xf_XfIdeal
    ∧ algebraic_XfIdeal_XfRefIdeal (hXfIdeal := hXfIdeal) (hXfRefIdeal := hXfRefIdeal)
    ∧ preserves_Nx_NxIdeal
    ∧ algebraic_NxIdeal_NxRefIdeal (hNxIdeal := hNxIdeal) (hNxRefIdeal := hNxRefIdeal)
    ∧ preserves_Nm_NmIdeal
    ∧ algebraic_NmIdeal_NmRefIdeal (hNmIdeal := hNmIdeal) (hNmRefIdeal := hNmRefIdeal)
    ∧ preserves_Nb_NbIdeal
    ∧ algebraic_NbIdeal_NbRefIdeal (hNbIdeal := hNbIdeal) (hNbRefIdeal := hNbRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_Dz_DzIdeal
    ∧ algebraic_DzIdeal_DzRefIdeal (hDzIdeal := hDzIdeal) (hDzRefIdeal := hDzRefIdeal)
    ∧ preserves_Dw2_Dw2Ideal
    ∧ algebraic_Dw2Ideal_Dw2RefIdeal (hDw2Ideal := hDw2Ideal) (hDw2RefIdeal := hDw2RefIdeal)
    ∧ preserves_Dw1_Dw1Ideal
    ∧ algebraic_Dw1Ideal_Dw1RefIdeal (hDw1Ideal := hDw1Ideal) (hDw1RefIdeal := hDw1RefIdeal)
    ∧ preserves_Rest_RestIdeal
    ∧ algebraic_RestIdeal_RestRefIdeal (hRestIdeal := hRestIdeal) (hRestRefIdeal := hRestRefIdeal)
    ∧ preserves_Qkv_QkvIdeal
    ∧ algebraic_QkvIdeal_QkvRefIdeal (hQkvIdeal := hQkvIdeal) (hQkvRefIdeal := hQkvRefIdeal)
    ∧ preserves_Xq_XqIdeal
    ∧ algebraic_XqIdeal_XqRefIdeal (hXqIdeal := hXqIdeal) (hXqRefIdeal := hXqRefIdeal)
    ∧ preserves_Xkv_XkvIdeal
    ∧ algebraic_XkvIdeal_XkvRefIdeal (hXkvIdeal := hXkvIdeal) (hXkvRefIdeal := hXkvRefIdeal)
    ∧ preserves_Bc_BcIdeal
    ∧ algebraic_BcIdeal_BcRefIdeal (hBcIdeal := hBcIdeal) (hBcRefIdeal := hBcRefIdeal)
    ∧ preserves_Bb_BbIdeal
    ∧ algebraic_BbIdeal_BbRefIdeal (hBbIdeal := hBbIdeal) (hBbRefIdeal := hBbRefIdeal)
    ∧ preserves_Out_OutIdeal
    ∧ algebraic_OutIdeal_OutRefIdeal (hOutIdeal := hOutIdeal) (hOutRefIdeal := hOutRefIdeal)
    ∧ preserves_Ff1_Ff1Ideal
    ∧ algebraic_Ff1Ideal_Ff1RefIdeal (hFf1Ideal := hFf1Ideal) (hFf1RefIdeal := hFf1RefIdeal)
    ∧ preserves_Ff2n_Ff2nIdeal
    ∧ algebraic_Ff2nIdeal_Ff2nRefIdeal (hFf2nIdeal := hFf2nIdeal) (hFf2nRefIdeal := hFf2nRefIdeal)
    ∧ preserves_Ff2_Ff2Ideal
    ∧ algebraic_Ff2Ideal_Ff2RefIdeal (hFf2Ideal := hFf2Ideal) (hFf2RefIdeal := hFf2RefIdeal)
    ∧ preserves_Dws_DwsIdeal
    ∧ algebraic_DwsIdeal_DwsRefIdeal (hDwsIdeal := hDwsIdeal) (hDwsRefIdeal := hDwsRefIdeal)
    ∧ preserves_Dwkv_DwkvIdeal
    ∧ algebraic_DwkvIdeal_DwkvRefIdeal (hDwkvIdeal := hDwkvIdeal) (hDwkvRefIdeal := hDwkvRefIdeal)
    ∧ preserves_Dwa_DwaIdeal
    ∧ algebraic_DwaIdeal_DwaRefIdeal (hDwaIdeal := hDwaIdeal) (hDwaRefIdeal := hDwaRefIdeal)
    ∧ preserves_Dwb_DwbIdeal
    ∧ algebraic_DwbIdeal_DwbRefIdeal (hDwbIdeal := hDwbIdeal) (hDwbRefIdeal := hDwbRefIdeal)
    ∧ preserves_Do2_Do2Ideal
    ∧ algebraic_Do2Ideal_Do2RefIdeal (hDo2Ideal := hDo2Ideal) (hDo2RefIdeal := hDo2RefIdeal)
    ∧ preserves_Dm_DmIdeal
    ∧ algebraic_DmIdeal_DmRefIdeal (hDmIdeal := hDmIdeal) (hDmRefIdeal := hDmRefIdeal)
    ∧ preserves_Dhm_DhmIdeal
    ∧ algebraic_DhmIdeal_DhmRefIdeal (hDhmIdeal := hDhmIdeal) (hDhmRefIdeal := hDhmRefIdeal)
    ∧ preserves_Dpa_DpaIdeal
    ∧ algebraic_DpaIdeal_DpaRefIdeal (hDpaIdeal := hDpaIdeal) (hDpaRefIdeal := hDpaRefIdeal)
    ∧ preserves_Do_DoIdeal
    ∧ algebraic_DoIdeal_DoRefIdeal (hDoIdeal := hDoIdeal) (hDoRefIdeal := hDoRefIdeal)
    ∧ preserves_Dhf_DhfIdeal
    ∧ algebraic_DhfIdeal_DhfRefIdeal (hDhfIdeal := hDhfIdeal) (hDhfRefIdeal := hDhfRefIdeal)
    ∧ preserves_Dhx_DhxIdeal
    ∧ algebraic_DhxIdeal_DhxRefIdeal (hDhxIdeal := hDhxIdeal) (hDhxRefIdeal := hDhxRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_Dwrest_DwrestIdeal
    ∧ algebraic_DwrestIdeal_DwrestRefIdeal (hDwrestIdeal := hDwrestIdeal) (hDwrestRefIdeal := hDwrestRefIdeal)
    ∧ preserves_Dhqkv_DhqkvIdeal
    ∧ algebraic_DhqkvIdeal_DhqkvRefIdeal (hDhqkvIdeal := hDhqkvIdeal) (hDhqkvRefIdeal := hDhqkvRefIdeal)
    ∧ preserves_Dh_DhIdeal
    ∧ algebraic_DhIdeal_DhRefIdeal (hDhIdeal := hDhIdeal) (hDhRefIdeal := hDhRefIdeal)
-- ==== Pre_xattn_finite.lean ====
abbrev S2048x1024 : Shape := ⟨2, ![2048, 1024]⟩
abbrev S256x2048 : Shape := ⟨2, ![256, 2048]⟩
abbrev S_ : Shape := ⟨0, ![]⟩
abbrev S256x1024 : Shape := ⟨2, ![256, 1024]⟩

class Facts : Prop where
  bcast_S_S2048x1024 : S_.BroadcastsInDim S2048x1024 (![] : Fin 0 → Fin S2048x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S2048x1024 .bf16) (main_arg1 : FVec F S256x2048 .bf16) (main_arg2 : FVec F S2048x1024 .bf16) : IVec S2048x1024 1 × IVec S256x1024 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S256x1024 .bf16 := (extractStridedSlice S256x1024 ![0, 0] · slices_S256x2048_S256x1024_0_0) main_arg1
  let main_v4 : FVec F S256x1024 .bf16 := Host.absf main_v3
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  (main_v2, main_v6)
-- ==== Xattn.lean ====
abbrev S2048x1024 : Shape := ⟨2, ![2048, 1024]⟩
abbrev S256x2048 : Shape := ⟨2, ![256, 2048]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x1024, .f32⟩
  | .hbm, ⟨5, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v32 : BitVec 1 := Scalar.cmpi .eq arg1 c0_i32
  let v33 : BitVec 32 := Scalar.extui v32
  let c0_i32_18 : BitVec 32 := 0#32
  let v34 : BitVec 1 := Scalar.cmpi .ne v33 c0_i32_18
  v34

def k0_cond2 (i : grid0.Coords) : BitVec 1 :=
  let arg1 : BitVec 32 := BitVec.ofNat 32 (i 1).val
  let c0_i32_19 : BitVec 32 := 0#32
  let v35 : BitVec 1 := Scalar.cmpi .sgt arg1 c0_i32_19
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XattnRefIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x1024, .f32⟩
  | .hbm, ⟨7, _⟩ => ⟨S2048x4x256, .f32⟩
  | .hbm, ⟨8, _⟩ => ⟨S256x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x4x256, .f32⟩
  | .hbm, ⟨57, _⟩ => ⟨S4x256x2048, .f32⟩
  | .hbm, ⟨58, _⟩ => ⟨S4x2048x256, .f32⟩
  | .hbm, ⟨59, _⟩ => ⟨S4x256x256, .f32⟩
  | .hbm, ⟨60, _⟩ => ⟨S256x4x256, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x256, .f32⟩
  | .hbm, ⟨79, _⟩ => ⟨S256x4x256, .f32⟩
  | .hbm, ⟨80, _⟩ => ⟨S4x2048x256, .f32⟩
  | .hbm, ⟨81, _⟩ => ⟨S2048x4x256, .f32⟩
  | .hbm, ⟨82, _⟩ => ⟨S256x1024, .f32⟩
  | .hbm, ⟨83, _⟩ => ⟨S256x1024, .f32⟩
  | .hbm, ⟨84, _⟩ => ⟨S2048x1024, .f32⟩
  | .hbm, ⟨85, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Merge.lean ====
abbrev S2048x4096 : Shape := ⟨2, ![2048, 4096]⟩
abbrev S3072 : Shape := ⟨1, ![3072]⟩
abbrev S2048x1024 : Shape := ⟨2, ![2048, 1024]⟩
abbrev S1x3072 : Shape := ⟨2, ![1, 3072]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩

abbrev nBuf : Space → Nat
  | .hbm => 16
  | .vmem => 38
  | .smem => 0
  | _ => 0

abbrev bufTy : (tb : Table) → Fin (tcTables nBuf tb) → BufTy
  | .hbm, ⟨0, _⟩ => ⟨S2048x4096, .f32⟩
  | .hbm, ⟨1, _⟩ => ⟨S3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S1x3072, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev main_v1_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v28 : BitVec 32 := Scalar.extui v0
  let c0_i32_15 : BitVec 32 := 0#32
  let v29 : BitVec 1 := Scalar.cmpi .ne v28 c0_i32_15
  v29

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v30 : BitVec 1 := Scalar.xori v0 v_true
  let v31 : BitVec 32 := Scalar.extui v30
  let c0_i32_16 : BitVec 32 := 0#32
  let v32 : BitVec 1 := Scalar.cmpi .ne v31 c0_i32_16
  v32

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v59 : BitVec 32 := Scalar.extui v0
  let c0_i32_32 : BitVec 32 := 0#32
  let v60 : BitVec 1 := Scalar.cmpi .ne v59 c0_i32_32
  v60

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_33 : BitVec 1 := 1#1
  let v61 : BitVec 1 := Scalar.xori v0 true_33
  let v62 : BitVec 32 := Scalar.extui v61
  let c0_i32_34 : BitVec 32 := 0#32
  let v63 : BitVec 1 := Scalar.cmpi .ne v62 c0_i32_34
  v63

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v90 : BitVec 32 := Scalar.extui v0
  let c0_i32_50 : BitVec 32 := 0#32
  let v91 : BitVec 1 := Scalar.cmpi .ne v90 c0_i32_50
  v91

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_51 : BitVec 1 := 1#1
  let v92 : BitVec 1 := Scalar.xori v0 true_51
  let v93 : BitVec 32 := Scalar.extui v92
  let c0_i32_52 : BitVec 32 := 0#32
  let v94 : BitVec 1 := Scalar.cmpi .ne v93 c0_i32_52
  v94

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== MergeRefIdeal.lean ====
abbrev S2048x4096 : Shape := ⟨2, ![2048, 4096]⟩
abbrev S3072 : Shape := ⟨1, ![3072]⟩
abbrev S2048x1024 : Shape := ⟨2, ![2048, 1024]⟩
abbrev S2048x3072 : Shape := ⟨2, ![2048, 3072]⟩
abbrev S1x3072 : Shape := ⟨2, ![1, 3072]⟩
abbrev S_ : Shape := ⟨0, ![]⟩
abbrev S1024 : Shape := ⟨1, ![1024]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x3072, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1x3072, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S_, .f32⟩
  | .hbm, ⟨19, _⟩ => ⟨S2048x3072, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x3072, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x3072, .f32⟩
  | .hbm, ⟨48, _⟩ => ⟨S2048x3072, .f32⟩
  | .hbm, ⟨49, _⟩ => ⟨S2048x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S_, .f32⟩
  | .hbm, ⟨54, _⟩ => ⟨S3072, .f32⟩
  | .hbm, ⟨55, _⟩ => ⟨S2048x3072, .bf16⟩
  | .hbm, ⟨56, _⟩ => ⟨S2048x1024, .bf16⟩
  | .hbm, ⟨57, _⟩ => ⟨S2048x1024, .bf16⟩
  | .hbm, ⟨58, _⟩ => ⟨S2048x1024, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | .hbm, ⟨62, _⟩ => ⟨S1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S1x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Sf.lean ====
abbrev S2048x4096 : Shape := ⟨2, ![2048, 4096]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 24
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S_, .f32⟩
  | .hbm, ⟨5, _⟩ => ⟨S128x128, .f32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S1x128x128, .f32⟩
  | .hbm, ⟨16, _⟩ => ⟨S4x128x128, .f32⟩
  | .hbm, ⟨17, _⟩ => ⟨S4x128x128, .f32⟩
  | .hbm, ⟨18, _⟩ => ⟨S4x128x128, .bf16⟩
  | .hbm, ⟨19, _⟩ => ⟨S128x4, .f32⟩
  | .hbm, ⟨20, _⟩ => ⟨S128x4x64, .f32⟩
  | .hbm, ⟨21, _⟩ => ⟨S128x256, .f32⟩
  | .hbm, ⟨22, _⟩ => ⟨S1x256, .f32⟩
  | .hbm, ⟨23, _⟩ => ⟨S2048x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S4x128x128, .bf16⟩
  | .local _ .vmem, ⟨6, _⟩ => ⟨S128x256, .f32⟩
  | .local _ .vmem, ⟨7, _⟩ => ⟨S512x256, .bf16⟩
  | .local _ .vmem, ⟨8, _⟩ => ⟨S512x256, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SfRefIdeal.lean ====
abbrev S2048x4096 : Shape := ⟨2, ![2048, 4096]⟩
abbrev S256 : Shape := ⟨1, ![256]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S16x128x4x64 : Shape := ⟨4, ![16, 128, 4, 64]⟩
abbrev S128x128 : Shape := ⟨2, ![128, 128]⟩
abbrev S1x128x128 : Shape := ⟨3, ![1, 128, 128]⟩
abbrev S4x16x64x128 : Shape := ⟨4, ![4, 16, 64, 128]⟩
abbrev S128x4 : Shape := ⟨2, ![128, 4]⟩
abbrev S1x128x4x1 : Shape := ⟨4, ![1, 128, 4, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S1x256, .f32⟩
  | .hbm, ⟨38, _⟩ => ⟨S2048x256, .f32⟩
  | .hbm, ⟨39, _⟩ => ⟨S2048x256, .f32⟩
  | .hbm, ⟨40, _⟩ => ⟨S16x128x4x64, .f32⟩
  | .hbm, ⟨41, _⟩ => ⟨S_, .f32⟩
  | .hbm, ⟨42, _⟩ => ⟨S128x128, .f32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S4x128x128, .f32⟩
  | .hbm, ⟨54, _⟩ => ⟨S4x128x128, .f32⟩
  | .hbm, ⟨55, _⟩ => ⟨S4x16x64x128, .f32⟩
  | .hbm, ⟨56, _⟩ => ⟨S16x128x4x64, .f32⟩
  | .hbm, ⟨57, _⟩ => ⟨S128x4, .f32⟩
  | .hbm, ⟨58, _⟩ => ⟨S1x128x4x1, .f32⟩
  | .hbm, ⟨59, _⟩ => ⟨S16x128x4x64, .f32⟩
  | .hbm, ⟨60, _⟩ => ⟨S16x128x4x64, .f32⟩
  | .hbm, ⟨61, _⟩ => ⟨S2048x256, .f32⟩
  | .hbm, ⟨62, _⟩ => ⟨S2048x256, .f32⟩
  | .hbm, ⟨63, _⟩ => ⟨S2048x256, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_cst : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Fp.lean ====
abbrev S2048x4096 : Shape := ⟨2, ![2048, 4096]⟩
abbrev S8 : Shape := ⟨1, ![8]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S128x2048 : Shape := ⟨2, ![128, 2048]⟩

abbrev nBuf : Space → Nat
  | .hbm => 8
  | .vmem => 4
  | .smem => 0
  | _ => 0

abbrev bufTy : (tb : Table) → Fin (tcTables nBuf tb) → BufTy
  | .hbm, ⟨0, _⟩ => ⟨S2048x4096, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S2048x128, .f32⟩
  | .hbm, ⟨7, _⟩ => ⟨S128x2048, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FpRefIdeal.lean ====
abbrev S2048x4096 : Shape := ⟨2, ![2048, 4096]⟩
abbrev S8 : Shape := ⟨1, ![8]⟩
abbrev S2048x128 : Shape := ⟨2, ![2048, 128]⟩
abbrev S_ : Shape := ⟨0, ![]⟩
abbrev S128 : Shape := ⟨1, ![128]⟩
abbrev S1x128 : Shape := ⟨2, ![1, 128]⟩
abbrev S128x2048 : Shape := ⟨2, ![128, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8, .f32⟩
  | .hbm, ⟨2, _⟩ => ⟨S2048x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .i1⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S_, .f32⟩
  | .hbm, ⟨27, _⟩ => ⟨S2048x128, .f32⟩
  | .hbm, ⟨28, _⟩ => ⟨S128x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Fo.lean ====
abbrev S2048x4096 : Shape := ⟨2, ![2048, 4096]⟩
abbrev S8 : Shape := ⟨1, ![8]⟩
abbrev S2048x128 : Shape := ⟨2, ![2048, 128]⟩
abbrev S_ : Shape := ⟨0, ![]⟩
abbrev S128 : Shape := ⟨1, ![128]⟩
abbrev S1x128 : Shape := ⟨2, ![1, 128]⟩

abbrev nBuf : Space → Nat
  | .hbm => 9
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S8, .f32⟩
  | .hbm, ⟨2, _⟩ => ⟨S2048x128, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S2048x128, .bf16⟩
  | .hbm, ⟨8, _⟩ => ⟨S1x128, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S2048x128, .bf16⟩
  | .local _ .vmem, ⟨4, _⟩ => ⟨S1x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoRefIdeal.lean ====
abbrev S2048x4096 : Shape := ⟨2, ![2048, 4096]⟩
abbrev S8 : Shape := ⟨1, ![8]⟩
abbrev S2048x128 : Shape := ⟨2, ![2048, 128]⟩
abbrev S_ : Shape := ⟨0, ![]⟩
abbrev S128 : Shape := ⟨1, ![128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8, .f32⟩
  | .hbm, ⟨2, _⟩ => ⟨S2048x128, .f32⟩
  | .hbm, ⟨3, _⟩ => ⟨S2048x128, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .i1⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .i1⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S_, .f32⟩
  | .hbm, ⟨32, _⟩ => ⟨S2048x128, .f32⟩
  | .hbm, ⟨33, _⟩ => ⟨S2048x128, .i1⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048x128, .f32⟩
  | .hbm, ⟨47, _⟩ => ⟨S2048x128, .i1⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S_, .f32⟩
  | .hbm, ⟨59, _⟩ => ⟨S_, .f32⟩
  | .hbm, ⟨60, _⟩ => ⟨S2048x128, .f32⟩
  | .hbm, ⟨61, _⟩ => ⟨S_, .f32⟩
  | .hbm, ⟨62, _⟩ => ⟨S_, .f32⟩
  | .hbm, ⟨63, _⟩ => ⟨S2048x128, .f32⟩
  | .hbm, ⟨64, _⟩ => ⟨S2048x128, .f32⟩
  | .hbm, ⟨65, _⟩ => ⟨S2048x128, .f32⟩
  | .hbm, ⟨66, _⟩ => ⟨S2048x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S128, .f32⟩
  | .hbm, ⟨72, _⟩ => ⟨S2048x128, .bf16⟩
  | .hbm, ⟨73, _⟩ => ⟨S1x128, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1_0 : Ref sig .tc := ⟨.hbm, 24, rfl⟩
abbrev main_call1_call0_cst_0 : Ref sig .tc := ⟨.hbm, 25, rfl⟩
abbrev main_call1_call0_v13 : Ref sig .tc := ⟨.hbm, 26, rfl⟩
abbrev main_call1_call0_v14 : Ref sig .tc := ⟨.hbm, 27, rfl⟩
abbrev main_call1_call0_cst_1 : Ref sig .tc := ⟨.hbm, 28, rfl⟩
abbrev main_call1_call0_v15 : Ref sig .tc := ⟨.hbm, 29, rfl⟩
abbrev main_call1_call0_v16 : Ref sig .tc := ⟨.hbm, 30, rfl⟩
abbrev main_call1_call0_cst_2 : Ref sig .tc := ⟨.hbm, 31, rfl⟩
abbrev main_call1_call0_v17 : Ref sig .tc := ⟨.hbm, 32, rfl⟩
abbrev main_call1_call0_v18 : Ref sig .tc := ⟨.hbm, 33, rfl⟩
abbrev main_call1_call0_cst_3 : Ref sig .tc := ⟨.hbm, 34, rfl⟩
abbrev main_call1_call0_v19 : Ref sig .tc := ⟨.hbm, 35, rfl⟩
abbrev main_call1_call0_v20 : Ref sig .tc := ⟨.hbm, 36, rfl⟩
abbrev main_call1_call0_v21 : Ref sig .tc := ⟨.hbm, 37, rfl⟩
abbrev main_v5_1 : Ref sig .tc := ⟨.hbm, 38, rfl⟩
abbrev main_call1_call0_cst_4 : Ref sig .tc := ⟨.hbm, 39, rfl⟩
abbrev main_call1_call0_cst_5 : Ref sig .tc := ⟨.hbm, 40, rfl⟩
abbrev main_call1_call0_v23 : Ref sig .tc := ⟨.hbm, 41, rfl⟩
abbrev main_call1_call0_cst_6 : Ref sig .tc := ⟨.hbm, 42, rfl⟩
abbrev main_call1_call0_cst_7 : Ref sig .tc := ⟨.hbm, 43, rfl⟩
abbrev main_call1_call0_v24 : Ref sig .tc := ⟨.hbm, 44, rfl⟩
abbrev main_call1_call0_cst_8 : Ref sig .tc := ⟨.hbm, 45, rfl⟩
abbrev main_call1_call0_v25 : Ref sig .tc := ⟨.hbm, 46, rfl⟩
abbrev main_call1_call0_v26 : Ref sig .tc := ⟨.hbm, 47, rfl⟩
abbrev main_call1_call0_cst_9 : Ref sig .tc := ⟨.hbm, 48, rfl⟩
abbrev main_call1_call0_v27 : Ref sig .tc := ⟨.hbm, 49, rfl⟩
abbrev main_call1_call0_v28 : Ref sig .tc := ⟨.hbm, 50, rfl⟩
abbrev main_call1_call0_v29 : Ref sig .tc := ⟨.hbm, 51, rfl⟩
abbrev main_call1_call0_v30 : Ref sig .tc := ⟨.hbm, 52, rfl⟩
abbrev main_call1_call0_v31 : Ref sig .tc := ⟨.hbm, 53, rfl⟩
abbrev main_call1_call0_cst_10 : Ref sig .tc := ⟨.hbm, 54, rfl⟩
abbrev main_call1_call0_v32 : Ref sig .tc := ⟨.hbm, 55, rfl⟩
abbrev main_v5_2 : Ref sig .tc := ⟨.hbm, 56, rfl⟩
abbrev main_v5_0 : Ref sig .tc := ⟨.hbm, 57, rfl⟩
abbrev main_call2_call0_cst : Ref sig .tc := ⟨.hbm, 58, rfl⟩
abbrev main_call2_call0_v0 : Ref sig .tc := ⟨.hbm, 59, rfl⟩
abbrev main_v6 : Ref sig .tc := ⟨.hbm, 60, rfl⟩
abbrev main_call3_call0_cst : Ref sig .tc := ⟨.hbm, 61, rfl⟩
abbrev main_call3_call0_v0 : Ref sig .tc := ⟨.hbm, 62, rfl⟩
abbrev main_v7 : Ref sig .tc := ⟨.hbm, 63, rfl⟩
abbrev main_call4_v0 : Ref sig .tc := ⟨.hbm, 64, rfl⟩
abbrev main_call4_v1 : Ref sig .tc := ⟨.hbm, 65, rfl⟩
abbrev main_v8 : Ref sig .tc := ⟨.hbm, 66, rfl⟩
abbrev main_cst : Ref sig .tc := ⟨.hbm, 67, rfl⟩
abbrev main_v9 : Ref sig .tc := ⟨.hbm, 68, rfl⟩
abbrev main_v10 : Ref sig .tc := ⟨.hbm, 69, rfl⟩
abbrev main_cst_0 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩

abbrev nD : Nat := 1
abbrev τ : Topo := Topo.v7x

variable {F : FTy → Type} [FloatOps F]
-- ==== Sb.lean ====
abbrev S8x184x128 : Shape := ⟨3, ![8, 184, 128]⟩
abbrev S184x128 : Shape := ⟨2, ![184, 128]⟩
abbrev S1x184x128 : Shape := ⟨3, ![1, 184, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .local _ .vmem, ⟨0, _⟩ => ⟨S8x184x128, .f32⟩
  | .local _ .vmem, ⟨1, _⟩ => ⟨S184x128, .f32⟩
  | _, _ => ⟨S8x184x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SbRefIdeal.lean ====
abbrev S8x184x128 : Shape := ⟨3, ![8, 184, 128]⟩
abbrev S_ : Shape := ⟨0, ![]⟩
abbrev S184x128 : Shape := ⟨2, ![184, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x184x128, .f32⟩
  | .hbm, ⟨1, _⟩ => ⟨S_, .f32⟩
  | .hbm, ⟨2, _⟩ => ⟨S184x128, .f32⟩
  | _, _ => ⟨S8x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mf.lean ====
abbrev S2048x4096 : Shape := ⟨2, ![2048, 4096]⟩
abbrev S3072 : Shape := ⟨1, ![3072]⟩
abbrev S2048x1024 : Shape := ⟨2, ![2048, 1024]⟩
abbrev S1x3072 : Shape := ⟨2, ![1, 3072]⟩
abbrev S512x512 : Shape := ⟨2, ![512, 512]⟩
abbrev S1x512 : Shape := ⟨2, ![1, 512]⟩

abbrev nBuf : Space → Nat
  | .hbm => 7
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S1x3072, .f32⟩
  | .hbm, ⟨6, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MfRefIdeal.lean ====
abbrev S2048x4096 : Shape := ⟨2, ![2048, 4096]⟩
abbrev S3072 : Shape := ⟨1, ![3072]⟩
abbrev S2048x1024 : Shape := ⟨2, ![2048, 1024]⟩
abbrev S2048x3072 : Shape := ⟨2, ![2048, 3072]⟩
abbrev S1x3072 : Shape := ⟨2, ![1, 3072]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S3072, .f32⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x3072, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Xf.lean ====
abbrev S2048x1024 : Shape := ⟨2, ![2048, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XfRefIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S256x2048, .f32⟩
  | .hbm, ⟨3, _⟩ => ⟨S2048x1024, .f32⟩
  | .hbm, ⟨4, _⟩ => ⟨S256x1024, .f32⟩
  | .hbm, ⟨5, _⟩ => ⟨S256x1024, .f32⟩
  | .hbm, ⟨6, _⟩ => ⟨S2048x4x256, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x256x2048, .f32⟩
  | .hbm, ⟨28, _⟩ => ⟨S2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Nx.lean ====
abbrev S2048x1024 : Shape := ⟨2, ![2048, 1024]⟩
abbrev S1024 : Shape := ⟨1, ![1024]⟩
abbrev S8x128 : Shape := ⟨2, ![8, 128]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S1x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x128, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NxRefIdeal.lean ====
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Nm.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NmRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Nb.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NbRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Loss.lean ====
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x1, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32_19 : BitVec 32 := 0#32
  let v47 : BitVec 1 := Scalar.cmpi .sgt arg0 c0_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1, .f32⟩
  | .hbm, ⟨72, _⟩ => ⟨S2048x1024, .bf16⟩
  | .hbm, ⟨73, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Adam.lean ====
abbrev S8x512x1024 : Shape := ⟨3, ![8, 512, 1024]⟩
abbrev S2x512x1024 : Shape := ⟨3, ![2, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  let c0_i32_2 : BitVec 32 := 0#32
  ![c0_i32.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Dz.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DzRefIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S4096x1024, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dw2.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dw1.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Rest.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RestRefIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S2048x1024 : Shape := ⟨2, ![2048, 1024]⟩
abbrev S1024x1536 : Shape := ⟨2, ![1024, 1536]⟩
abbrev S2048x1536 : Shape := ⟨2, ![2048, 1536]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1536, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1024, .f32⟩
  | .hbm, ⟨3, _⟩ => ⟨S1024x1536, .f32⟩
  | .hbm, ⟨4, _⟩ => ⟨S2048x1536, .f32⟩
  | .hbm, ⟨5, _⟩ => ⟨S2048x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xq.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xkv.lean ====
abbrev S256x1024 : Shape := ⟨2, ![256, 1024]⟩
abbrev S1024x2048 : Shape := ⟨2, ![1024, 2048]⟩
abbrev S256x2048 : Shape := ⟨2, ![256, 2048]⟩
abbrev S1024x512 : Shape := ⟨2, ![1024, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x512, .bf16⟩
  | .local _ .vmem, ⟨2, _⟩ => ⟨S1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Bc.lean ====
abbrev S2048x256 : Shape := ⟨2, ![2048, 256]⟩
abbrev S8x256x128 : Shape := ⟨3, ![8, 256, 128]⟩
abbrev S2048x1024 : Shape := ⟨2, ![2048, 1024]⟩
abbrev S1x256x128 : Shape := ⟨3, ![1, 256, 128]⟩
abbrev S2048x128 : Shape := ⟨2, ![2048, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S8x256x128, .bf16⟩
  | .hbm, ⟨2, _⟩ => ⟨S2048x1024, .bf16⟩
  | .local _ .vmem, ⟨0, _⟩ => ⟨S2048x256, .bf16⟩
  | .local _ .vmem, ⟨1, _⟩ => ⟨S1x256x128, .bf16⟩
  | .local _ .vmem, ⟨2, _⟩ => ⟨S1x256x128, .bf16⟩
  | .local _ .vmem, ⟨3, _⟩ => ⟨S2048x128, .bf16⟩
  | .local _ .vmem, ⟨4, _⟩ => ⟨S2048x128, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BcIdeal.lean ====
abbrev S2048x256 : Shape := ⟨2, ![2048, 256]⟩
abbrev S8x256x128 : Shape := ⟨3, ![8, 256, 128]⟩
abbrev S2048x1024 : Shape := ⟨2, ![2048, 1024]⟩
abbrev S1x256x128 : Shape := ⟨3, ![1, 256, 128]⟩
abbrev S2048x128 : Shape := ⟨2, ![2048, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S8x256x128, .bf16⟩
  | .hbm, ⟨2, _⟩ => ⟨S2048x1024, .bf16⟩
  | .local _ .vmem, ⟨0, _⟩ => ⟨S2048x256, .bf16⟩
  | .local _ .vmem, ⟨1, _⟩ => ⟨S1x256x128, .bf16⟩
  | .local _ .vmem, ⟨2, _⟩ => ⟨S1x256x128, .bf16⟩
  | .local _ .vmem, ⟨3, _⟩ => ⟨S2048x128, .bf16⟩
  | .local _ .vmem, ⟨4, _⟩ => ⟨S2048x128, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BcRefIdeal.lean ====
abbrev S2048x256 : Shape := ⟨2, ![2048, 256]⟩
abbrev S8x256x128 : Shape := ⟨3, ![8, 256, 128]⟩
abbrev S256x8x128 : Shape := ⟨3, ![256, 8, 128]⟩
abbrev S256x1024 : Shape := ⟨2, ![256, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S8x256x128, .bf16⟩
  | .hbm, ⟨2, _⟩ => ⟨S2048x256, .f32⟩
  | .hbm, ⟨3, _⟩ => ⟨S8x256x128, .f32⟩
  | .hbm, ⟨4, _⟩ => ⟨S256x8x128, .f32⟩
  | .hbm, ⟨5, _⟩ => ⟨S256x1024, .f32⟩
  | .hbm, ⟨6, _⟩ => ⟨S2048x1024, .f32⟩
  | .hbm, ⟨7, _⟩ => ⟨S2048x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Bb.lean ====
abbrev S2048x512 : Shape := ⟨2, ![2048, 512]⟩
abbrev S8x512x128 : Shape := ⟨3, ![8, 512, 128]⟩
abbrev S2048x1024 : Shape := ⟨2, ![2048, 1024]⟩
abbrev S1x512x128 : Shape := ⟨3, ![1, 512, 128]⟩
abbrev S2048x128 : Shape := ⟨2, ![2048, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S8x512x128, .bf16⟩
  | .hbm, ⟨2, _⟩ => ⟨S2048x1024, .bf16⟩
  | .local _ .vmem, ⟨0, _⟩ => ⟨S2048x512, .bf16⟩
  | .local _ .vmem, ⟨1, _⟩ => ⟨S1x512x128, .bf16⟩
  | .local _ .vmem, ⟨2, _⟩ => ⟨S1x512x128, .bf16⟩
  | .local _ .vmem, ⟨3, _⟩ => ⟨S2048x128, .bf16⟩
  | .local _ .vmem, ⟨4, _⟩ => ⟨S2048x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BbRefIdeal.lean ====
abbrev S2048x512 : Shape := ⟨2, ![2048, 512]⟩
abbrev S8x512x128 : Shape := ⟨3, ![8, 512, 128]⟩
abbrev S512x8x128 : Shape := ⟨3, ![512, 8, 128]⟩
abbrev S512x1024 : Shape := ⟨2, ![512, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x512x128, .bf16⟩
  | .hbm, ⟨2, _⟩ => ⟨S2048x512, .f32⟩
  | .hbm, ⟨3, _⟩ => ⟨S8x512x128, .f32⟩
  | .hbm, ⟨4, _⟩ => ⟨S512x8x128, .f32⟩
  | .hbm, ⟨5, _⟩ => ⟨S512x1024, .f32⟩
  | .hbm, ⟨6, _⟩ => ⟨S2048x1024, .f32⟩
  | .hbm, ⟨7, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Ff1.lean ====
abbrev S2048x1024 : Shape := ⟨2, ![2048, 1024]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S2048x1024 : Shape := ⟨2, ![2048, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S2048x4096 : Shape := ⟨2, ![2048, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x512, .bf16⟩
  | .hbm, ⟨2, _⟩ => ⟨S2048x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S2048x4096, .f32⟩
  | .hbm, ⟨7, _⟩ => ⟨S2048x4096, .bf16⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ff2n.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S8x128 : Shape := ⟨2, ![8, 128]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S8x128, .f32⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S8x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Ff2nRefIdeal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S8x128, .f32⟩
  | .hbm, ⟨5, _⟩ => ⟨S2048x4096, .f32⟩
  | .hbm, ⟨6, _⟩ => ⟨S4096x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Ff2.lean ====
abbrev S2048x4096 : Shape := ⟨2, ![2048, 4096]⟩
abbrev S4096x1024 : Shape := ⟨2, ![4096, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2RefIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S2048x1024, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dws.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwsRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwkv.lean ====
abbrev S256x1024 : Shape := ⟨2, ![256, 1024]⟩
abbrev S256x2048 : Shape := ⟨2, ![256, 2048]⟩
abbrev S8x1024x256 : Shape := ⟨3, ![8, 1024, 256]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S8x1024x256, .bf16⟩
  | .local _ .vmem, ⟨0, _⟩ => ⟨S256x1024, .bf16⟩
  | .local _ .vmem, ⟨1, _⟩ => ⟨S256x256, .f32⟩
  | .local _ .vmem, ⟨2, _⟩ => ⟨S256x256, .f32⟩
  | .local _ .vmem, ⟨3, _⟩ => ⟨S1x1024x256, .bf16⟩
  | .local _ .vmem, ⟨4, _⟩ => ⟨S1x1024x256, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwkvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S1024x8x256, .bf16⟩
  | .hbm, ⟨10, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwa.lean ====
abbrev S2048x256 : Shape := ⟨2, ![2048, 256]⟩
abbrev S2048x1024 : Shape := ⟨2, ![2048, 1024]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S8x256x128, .bf16⟩
  | .local _ .vmem, ⟨0, _⟩ => ⟨S2048x256, .bf16⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwaIdeal.lean ====
abbrev S2048x256 : Shape := ⟨2, ![2048, 256]⟩
abbrev S2048x1024 : Shape := ⟨2, ![2048, 1024]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S8x256x128, .bf16⟩
  | .local _ .vmem, ⟨0, _⟩ => ⟨S2048x256, .bf16⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwaRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S256x8x128, .bf16⟩
  | .hbm, ⟨11, _⟩ => ⟨S8x256x128, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwb.lean ====
abbrev S2048x512 : Shape := ⟨2, ![2048, 512]⟩
abbrev S2048x1024 : Shape := ⟨2, ![2048, 1024]⟩
abbrev S8x512x128 : Shape := ⟨3, ![8, 512, 128]⟩
abbrev S2048x128 : Shape := ⟨2, ![2048, 128]⟩
abbrev S1x512x128 : Shape := ⟨3, ![1, 512, 128]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S8x512x128, .bf16⟩
  | .local _ .vmem, ⟨0, _⟩ => ⟨S2048x512, .bf16⟩
  | .local _ .vmem, ⟨1, _⟩ => ⟨S2048x128, .bf16⟩
  | .local _ .vmem, ⟨2, _⟩ => ⟨S2048x128, .bf16⟩
  | .local _ .vmem, ⟨3, _⟩ => ⟨S1x512x128, .bf16⟩
  | .local _ .vmem, ⟨4, _⟩ => ⟨S1x512x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x8x128, .bf16⟩
  | .hbm, ⟨11, _⟩ => ⟨S8x512x128, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Do2.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Do2RefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dm.lean ====
abbrev S2048x1024 : Shape := ⟨2, ![2048, 1024]⟩
abbrev S1024x1024 : Shape := ⟨2, ![1024, 1024]⟩
abbrev S8x128 : Shape := ⟨2, ![8, 128]⟩
abbrev S512x1024 : Shape := ⟨2, ![512, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S8x128, .f32⟩
  | .hbm, ⟨3, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S8x128, .f32⟩
  | .local _ .vmem, ⟨4, _⟩ => ⟨S2048x512, .f32⟩
  | .local _ .vmem, ⟨5, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DmRefIdeal.lean ====
abbrev S2048x1024 : Shape := ⟨2, ![2048, 1024]⟩
abbrev S1024x1024 : Shape := ⟨2, ![1024, 1024]⟩
abbrev S8x128 : Shape := ⟨2, ![8, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S8x128, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Dhm.lean ====
abbrev S256x2048 : Shape := ⟨2, ![256, 2048]⟩
abbrev S1024x2048 : Shape := ⟨2, ![1024, 2048]⟩
abbrev S256x1024 : Shape := ⟨2, ![256, 1024]⟩
abbrev S512x2048 : Shape := ⟨2, ![512, 2048]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x2048, .f32⟩
  | .local _ .vmem, ⟨1, _⟩ => ⟨S512x2048, .bf16⟩
  | .local _ .vmem, ⟨2, _⟩ => ⟨S512x2048, .bf16⟩
  | .local _ .vmem, ⟨3, _⟩ => ⟨S256x512, .f32⟩
  | .local _ .vmem, ⟨4, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhmRefIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dpa.lean ====
abbrev S2048x1024 : Shape := ⟨2, ![2048, 1024]⟩
abbrev S8x256x128 : Shape := ⟨3, ![8, 256, 128]⟩
abbrev S2048x256 : Shape := ⟨2, ![2048, 256]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x256x128, .bf16⟩
  | .hbm, ⟨2, _⟩ => ⟨S2048x256, .f32⟩
  | .local _ .vmem, ⟨0, _⟩ => ⟨S2048x128, .bf16⟩
  | .local _ .vmem, ⟨1, _⟩ => ⟨S2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S2048x256, .f32⟩
  | .local _ .vmem, ⟨5, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DpaRefIdeal.lean ====
abbrev S2048x1024 : Shape := ⟨2, ![2048, 1024]⟩
abbrev S8x256x128 : Shape := ⟨3, ![8, 256, 128]⟩
abbrev S256x8x128 : Shape := ⟨3, ![256, 8, 128]⟩
abbrev S256x1024 : Shape := ⟨2, ![256, 1024]⟩
abbrev S_ : Shape := ⟨0, ![]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x256x128, .bf16⟩
  | .hbm, ⟨2, _⟩ => ⟨S8x256x128, .f32⟩
  | .hbm, ⟨3, _⟩ => ⟨S256x8x128, .f32⟩
  | .hbm, ⟨4, _⟩ => ⟨S256x1024, .f32⟩
  | .hbm, ⟨5, _⟩ => ⟨S_, .f32⟩
  | .hbm, ⟨6, _⟩ => ⟨S2048x256, .f32⟩
  | .hbm, ⟨7, _⟩ => ⟨S2048x1024, .f32⟩
  | .hbm, ⟨8, _⟩ => ⟨S2048x1024, .f32⟩
  | .hbm, ⟨9, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Do.lean ====
abbrev S2048x1024 : Shape := ⟨2, ![2048, 1024]⟩
abbrev S8x512x128 : Shape := ⟨3, ![8, 512, 128]⟩
abbrev S8x128 : Shape := ⟨2, ![8, 128]⟩
abbrev S2048x512 : Shape := ⟨2, ![2048, 512]⟩
abbrev S2048x128 : Shape := ⟨2, ![2048, 128]⟩
abbrev S1x512x128 : Shape := ⟨3, ![1, 512, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x512x128, .bf16⟩
  | .hbm, ⟨2, _⟩ => ⟨S8x128, .f32⟩
  | .hbm, ⟨3, _⟩ => ⟨S2048x512, .bf16⟩
  | .local _ .vmem, ⟨0, _⟩ => ⟨S2048x128, .bf16⟩
  | .local _ .vmem, ⟨1, _⟩ => ⟨S2048x128, .bf16⟩
  | .local _ .vmem, ⟨2, _⟩ => ⟨S1x512x128, .bf16⟩
  | .local _ .vmem, ⟨3, _⟩ => ⟨S1x512x128, .bf16⟩
  | .local _ .vmem, ⟨4, _⟩ => ⟨S8x128, .f32⟩
  | .local _ .vmem, ⟨5, _⟩ => ⟨S2048x512, .bf16⟩
  | .local _ .vmem, ⟨6, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DoRefIdeal.lean ====
abbrev S2048x1024 : Shape := ⟨2, ![2048, 1024]⟩
abbrev S8x512x128 : Shape := ⟨3, ![8, 512, 128]⟩
abbrev S8x128 : Shape := ⟨2, ![8, 128]⟩
abbrev S512x8x128 : Shape := ⟨3, ![512, 8, 128]⟩
abbrev S512x1024 : Shape := ⟨2, ![512, 1024]⟩
abbrev S_ : Shape := ⟨0, ![]⟩
abbrev S2048x512 : Shape := ⟨2, ![2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x512x128, .bf16⟩
  | .hbm, ⟨2, _⟩ => ⟨S8x128, .f32⟩
  | .hbm, ⟨3, _⟩ => ⟨S8x512x128, .f32⟩
  | .hbm, ⟨4, _⟩ => ⟨S512x8x128, .f32⟩
  | .hbm, ⟨5, _⟩ => ⟨S512x1024, .f32⟩
  | .hbm, ⟨6, _⟩ => ⟨S_, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S2048x512, .f32⟩
  | .hbm, ⟨11, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Dhf.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S1x1024 : Shape := ⟨2, ![1, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DhfRefIdeal.lean ====
abbrev S2048x4096 : Shape := ⟨2, ![2048, 4096]⟩
abbrev S8x1024x512 : Shape := ⟨3, ![8, 1024, 512]⟩
abbrev S2048x1024 : Shape := ⟨2, ![2048, 1024]⟩
abbrev S1024 : Shape := ⟨1, ![1024]⟩
abbrev S1024x8x512 : Shape := ⟨3, ![1024, 8, 512]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x1024x512, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S2048x4096, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Dhx.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DhxRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Dwqkv.lean ====
abbrev S2048x1024 : Shape := ⟨2, ![2048, 1024]⟩
abbrev S2048x512 : Shape := ⟨2, ![2048, 512]⟩
abbrev S1024x1536 : Shape := ⟨2, ![1024, 1536]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1024x1536, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![1, 3, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_8 : BitVec 32 := 0#32
  let v21 : BitVec 1 := Scalar.cmpi .sgt arg1 c0_i32_8
  let v22 : BitVec 32 := Scalar.extui v21
  let c0_i32_9 : BitVec 32 := 0#32
  let v23 : BitVec 1 := Scalar.cmpi .slt arg1 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg1 c1_i32_7
  let c0_i32_12 : BitVec 32 := 0#32
  let v33 : BitVec 1 := Scalar.cmpi .ne v32 c0_i32_12
  let v34 : BitVec 1 := Scalar.andi v31 v33
  let v20 : BitVec 32 := Scalar.divsi arg1 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond3 (i : grid0.Coords) : BitVec 1 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c1_i32_16 : BitVec 32 := 1#32
  let c0_i32_19 : BitVec 32 := 0#32
  let v46 : BitVec 1 := Scalar.cmpi .sgt c1_i32_16 c0_i32_19
  let v47 : BitVec 32 := Scalar.extui v46
  let c0_i32_20 : BitVec 32 := 0#32
  let v48 : BitVec 1 := Scalar.cmpi .slt c1_i32_16 c0_i32_20
  let v49 : BitVec 32 := Scalar.extui v48
  let v50 : BitVec 32 := Scalar.subi v47 v49
  let v51 : BitVec 1 := Scalar.cmpi .ne v45 v50
  let v52 : BitVec 32 := Scalar.remsi arg1 c1_i32_16
  let c0_i32_21 : BitVec 32 := 0#32
  let v53 : BitVec 1 := Scalar.cmpi .ne v52 c0_i32_21
  let v54 : BitVec 1 := Scalar.andi v51 v53
  let v40 : BitVec 32 := Scalar.divsi arg1 c1_i32_16
  let c1_i32_22 : BitVec 32 := 1#32
  let v55 : BitVec 32 := Scalar.subi v40 c1_i32_22
  let v56 : BitVec 32 := Scalar.select v54 v55 v40
  let c2_i32 : BitVec 32 := 2#32
  let v57 : BitVec 1 := Scalar.cmpi .eq v56 c2_i32
  let v58 : BitVec 32 := Scalar.extui v57
  let c0_i32_23 : BitVec 32 := 0#32
  let v59 : BitVec 1 := Scalar.cmpi .ne v58 c0_i32_23
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwqkvRefIdeal.lean ====
abbrev S2048x1024 : Shape := ⟨2, ![2048, 1024]⟩
abbrev S2048x512 : Shape := ⟨2, ![2048, 512]⟩
abbrev S2048x1536 : Shape := ⟨2, ![2048, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x1536, .bf16⟩
  | .hbm, ⟨5, _⟩ => ⟨S_, .f32⟩
  | .hbm, ⟨6, _⟩ => ⟨S1024x1536, .f32⟩
  | .hbm, ⟨7, _⟩ => ⟨S2048x1024, .f32⟩
  | .hbm, ⟨8, _⟩ => ⟨S2048x1536, .f32⟩
  | .hbm, ⟨9, _⟩ => ⟨S2048x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dwrest.lean ====
abbrev S2048x1024 : Shape := ⟨2, ![2048, 1024]⟩
abbrev S1024x4096 : Shape := ⟨2, ![1024, 4096]⟩
abbrev S2048x512 : Shape := ⟨2, ![2048, 512]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S1024x4096, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg1 : BitVec 32 := BitVec.ofNat 32 (i 1).val
  let c0_i32_16 : BitVec 32 := 0#32
  let v41 : BitVec 1 := Scalar.cmpi .sgt arg1 c0_i32_16
  let v42 : BitVec 32 := Scalar.extui v41
  let c0_i32_17 : BitVec 32 := 0#32
  let v43 : BitVec 1 := Scalar.cmpi .slt arg1 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg1 c2_i32_15
  let c0_i32_20 : BitVec 32 := 0#32
  let v53 : BitVec 1 := Scalar.cmpi .ne v52 c0_i32_20
  let v54 : BitVec 1 := Scalar.andi v51 v53
  let v40 : BitVec 32 := Scalar.divsi arg1 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg1 c2_i32_24
  let c0_i32_29 : BitVec 32 := 0#32
  let v73 : BitVec 1 := Scalar.cmpi .ne v72 c0_i32_29
  let v74 : BitVec 1 := Scalar.andi v71 v73
  let v60 : BitVec 32 := Scalar.divsi arg1 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DwrestRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x4096, .bf16⟩
  | .hbm, ⟨6, _⟩ => ⟨S_, .f32⟩
  | .hbm, ⟨7, _⟩ => ⟨S1024x4096, .f32⟩
  | .hbm, ⟨8, _⟩ => ⟨S2048x1024, .f32⟩
  | .hbm, ⟨9, _⟩ => ⟨S2048x4096, .f32⟩
  | .hbm, ⟨10, _⟩ => ⟨S2048x4096, .f32⟩
  | .hbm, ⟨11, _⟩ => ⟨S4096x1024, .f32⟩
  | .hbm, ⟨12, _⟩ => ⟨S1024x4096, .f32⟩
  | .hbm, ⟨13, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Dhqkv.lean ====
abbrev S2048x512 : Shape := ⟨2, ![2048, 512]⟩
abbrev S1024x1536 : Shape := ⟨2, ![1024, 1536]⟩
abbrev S8x128 : Shape := ⟨2, ![8, 128]⟩
abbrev S2048x1024 : Shape := ⟨2, ![2048, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S1024x1536, .bf16⟩
  | .hbm, ⟨4, _⟩ => ⟨S8x128, .f32⟩
  | .hbm, ⟨5, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | .local _ .vmem, ⟨5, _⟩ => ⟨S8x128, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![1, 2, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg2 : BitVec 32 := BitVec.ofNat 32 (i 2).val
  let c2_i32_10 : BitVec 32 := 2#32
  let v18 : BitVec 1 := Scalar.cmpi .eq arg2 c2_i32_10
  let v19 : BitVec 32 := Scalar.extui v18
  let c0_i32_11 : BitVec 32 := 0#32
  let v20 : BitVec 1 := Scalar.cmpi .ne v19 c0_i32_11
  v20

def k0_cond5 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c2_i32_10 : BitVec 32 := 2#32
  let v18 : BitVec 1 := Scalar.cmpi .eq arg2 c2_i32_10
  let v19 : BitVec 32 := Scalar.extui v18
  let c0_i32_11 : BitVec 32 := 0#32
  let v20 : BitVec 1 := Scalar.cmpi .ne v19 c0_i32_11
  v20

def k0_cond9 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond12 (i : grid0.Coords) : BitVec 1 :=
  let arg2 : BitVec 32 := BitVec.ofNat 32 (i 2).val
  let c2_i32_10 : BitVec 32 := 2#32
  let v18 : BitVec 1 := Scalar.cmpi .eq arg2 c2_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DhqkvRefIdeal.lean ====
abbrev S2048x512 : Shape := ⟨2, ![2048, 512]⟩
abbrev S1024x1536 : Shape := ⟨2, ![1024, 1536]⟩
abbrev S8x128 : Shape := ⟨2, ![8, 128]⟩
abbrev S2048x1536 : Shape := ⟨2, ![2048, 1536]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S1024x1536, .bf16⟩
  | .hbm, ⟨4, _⟩ => ⟨S8x128, .f32⟩
  | .hbm, ⟨5, _⟩ => ⟨S2048x1536, .bf16⟩
  | .hbm, ⟨6, _⟩ => ⟨S_, .f32⟩
  | .hbm, ⟨7, _⟩ => ⟨S2048x1024, .f32⟩
  | .hbm, ⟨8, _⟩ => ⟨S1024x1536, .f32⟩
  | .hbm, ⟨9, _⟩ => ⟨S2048x1536, .f32⟩
  | .hbm, ⟨10, _⟩ => ⟨S2048x1536, .f32⟩
  | .hbm, ⟨11, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Dh.lean ====
abbrev S2048x1024 : Shape := ⟨2, ![2048, 1024]⟩
abbrev S1024x4096 : Shape := ⟨2, ![1024, 4096]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S1024x4096, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def k0_cond5 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def k0_cond9 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond12 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def k0_cond13 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond16 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]
-- ==== DhRefIdeal.lean ====
abbrev S2048x1024 : Shape := ⟨2, ![2048, 1024]⟩
abbrev S1024x4096 : Shape := ⟨2, ![1024, 4096]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S1024x4096, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1024x4096, .f32⟩
  | .hbm, ⟨30, _⟩ => ⟨S2048x4096, .f32⟩
  | .hbm, ⟨31, _⟩ => ⟨S2048x4096, .bf16⟩
  | .hbm, ⟨32, _⟩ => ⟨S2048x4096, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .bf16⟩
  | .hbm, ⟨62, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Real.lean ====
/- Facts about the extended reals that the value proofs share: sums, products and quotients of finite
   values, and where a product distributes over a sum. -/
module

public import Idealize.ShloMosaic.PureOps.Ideal
public import Idealize.ShloMosaic.PureOps.Ideal.Laws
public import Idealize.ShloMosaic.Lib.IdealHost

@[expose] public section

noncomputable section

namespace Cert.Real

open Idealize.ShloMosaic

/-- A finite extended real. -/
def Fin' (x : EReal) : Prop := ∃ r : ℝ, x = (r : EReal)

theorem Fin'.coe (r : ℝ) : Fin' (r : EReal) := ⟨r, rfl⟩
theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.neg {x : EReal} (hx : Fin' x) : Fin' (-x) := by
  obtain ⟨a, rfl⟩ := hx; exact ⟨-a, by push_cast; rfl⟩
theorem Fin'.sub {x y : EReal} (hx : Fin' x) (hy : Fin' y) : Fin' (x - y) := by
  obtain ⟨a, rfl⟩ := hx; obtain ⟨b, rfl⟩ := hy; exact ⟨a - b, by push_cast; rfl⟩
theorem Fin'.sum {ι : Type} (s : Finset ι) {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum of finite values is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A value whose absolute value is below infinity is finite. -/
theorem Fin'.of_abs_lt {x : EReal} (h : max x (-x) < ⊤) : Fin' x := by
  induction x with
  | bot => simp at h
  | top => simp at h
  | coe r => exact ⟨r, rfl⟩

/-- A nonnegative finite factor distributes over a sum. -/
theorem mul_sum_of_nonneg {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem div_coe (x : EReal) {z : ℝ} (hz : z ≠ 0) : Ideal.div x (z : EReal) = x * ((z⁻¹ : ℝ) : EReal) := by
  unfold Ideal.div
  rw [if_neg (by exact_mod_cast hz), EReal.coe_inv]

theorem exp_coe (r : ℝ) : Ideal.exp (r : EReal) = ((Real.exp r : ℝ) : EReal) := rfl

/-- The maximum of finitely many finite values, over a start of −∞, is finite where there is one. -/
theorem fold_max_fin {ι : Type} (s : Finset ι) (hs : s.Nonempty) (f : ι → EReal) (hf : ∀ i ∈ s, Fin' (f i)) :
    Fin' (s.fold max ⊥ f) := by
  classical
  induction s using Finset.induction_on with
  | empty => exact absurd hs (by simp)
  | insert a s ha ih =>
    rw [Finset.fold_insert ha]
    obtain ⟨x, hx⟩ := hf a (Finset.mem_insert_self a s)
    rcases s.eq_empty_or_nonempty with rfl | hne
    · exact ⟨x, by simp [hx]⟩
    · obtain ⟨y, hy⟩ := ih hne fun i hi => hf i (Finset.mem_insert_of_mem hi)
      rcases le_total x y with h | h
      · exact ⟨y, by rw [hx, hy, max_eq_right (by exact_mod_cast h)]⟩
      · exact ⟨x, by rw [hx, hy, max_eq_left (by exact_mod_cast h)]⟩

/-- A float word whose exponent is not all ones is finite. -/
theorem ofBits_f32_fin (b : BitVec 32) (h : (b.extractLsb' 23 8).toNat ≠ 255) : Fin' (Ideal.ofBits .f32 b) := by
  show Fin' (Ideal.ieee 8 23 b)
  unfold Ideal.ieee
  dsimp only
  rw [if_neg (by simpa using h)]
  split
  · exact ⟨_, rfl⟩
  · exact ⟨_, rfl⟩

/-- The word of negative infinity. -/
theorem ofBits_neg_inf_f32 : Ideal.ofBits .f32 0xFF800000#32 = ⊥ := by
  simp [Ideal.ofBits, Ideal.ieee]

/-- The word of positive infinity, in the short format. -/
theorem ofBits_inf_bf16 : Ideal.ofBits .bf16 0x7F80#16 = ⊤ := by
  simp [Ideal.ofBits, Ideal.ieee]

/-- The word of positive infinity. -/
theorem ofBits_inf_f32 : Ideal.ofBits .f32 0x7F800000#32 = ⊤ := by
  simp [Ideal.ofBits, Ideal.ieee]

end Cert.Real

end
-- ==== Proof.XattnMath.lean ====
/- The gradient of a softmax row, as the kernel writes it and as differentiating the quotient of exponentials
   writes it: the two agree where every score of the row is finite. -/
module

public import proofs.«01_k».proof.Proof.Real
public import Idealize.ShloMosaic.Lib.Pointwise

@[expose] public section

noncomputable section

namespace Cert.XattnMath

open Idealize.ShloMosaic Cert.Real

variable {n : ℕ}

/-- The exponentials of a row of scores under its maximum. -/
def expRow (s : Fin n → EReal) (j : Fin n) : EReal := Ideal.exp (s j - Finset.univ.fold max ⊥ s)

/-- The softmax of a row. -/
def prob (s : Fin n → EReal) (j : Fin n) : EReal := Ideal.div (expRow s j) (∑ k, expRow s k)

/-- The gradient with respect to the scores, from the softmax: `p (g - Σ p g) c`. -/
def grad (c : EReal) (s g : Fin n → EReal) (j : Fin n) : EReal :=
  prob s j * (g j - ∑ k, prob s k * g k) * c

/-- The same, from the quotient of exponentials. -/
def gradQuot (c : EReal) (s g : Fin n → EReal) (j : Fin n) : EReal :=
  (Ideal.div (g j) (∑ k, expRow s k)
    + -∑ k, g k * Ideal.div 1 ((∑ k, expRow s k) * ∑ k, expRow s k) * expRow s k) * expRow s j * c

/-- On a row of finite scores the two gradients are equal, whatever the incoming gradient. -/
theorem gradQuot_eq (hn : 0 < n) (c : EReal) (s g : Fin n → EReal) (hs : ∀ j, Fin' (s j)) (j : Fin n) :
    gradQuot c s g j = grad c s g j := by
  have hne : (Finset.univ : Finset (Fin n)).Nonempty := ⟨⟨0, hn⟩, Finset.mem_univ _⟩
  obtain ⟨M, hM⟩ := fold_max_fin Finset.univ hne s fun i _ => hs i
  choose r hr using hs
  have hE : ∀ k, expRow s k = ((Real.exp (r k - M) : ℝ) : EReal) := fun k => by
    unfold expRow
    rw [hM, hr k, ← EReal.coe_sub, exp_coe]
  have hZ : ∑ k, expRow s k = ((∑ k, Real.exp (r k - M) : ℝ) : EReal) := by
    rw [coe_sum]; exact Finset.sum_congr rfl fun k _ => hE k
  set Z : ℝ := ∑ k, Real.exp (r k - M) with hZd
  have hZpos : 0 < Z := Finset.sum_pos (fun k _ => Real.exp_pos _) hne
  have hP : ∀ k, prob s k = ((Real.exp (r k - M) * Z⁻¹ : ℝ) : EReal) := fun k => by
    unfold prob
    rw [hZ, hE, div_coe _ hZpos.ne', EReal.coe_mul]
  unfold gradQuot grad
  congr 1
  rw [hZ, ← EReal.coe_mul, div_coe _ hZpos.ne', div_coe _ (mul_pos hZpos hZpos).ne', hE j, hP j, one_mul]
  have hsum : ∑ k, g k * ((((Z * Z)⁻¹ : ℝ)) : EReal) * expRow s k = ((Z⁻¹ : ℝ) : EReal) * ∑ k, prob s k * g k := by
    rw [mul_sum_of_nonneg _ _ _ (inv_nonneg.mpr hZpos.le)]
    refine Finset.sum_congr rfl fun k _ => ?_
    rw [hE k, hP k, mul_inv, EReal.coe_mul, EReal.coe_mul]
    ac_rfl
  rw [hsum, sub_eq_add_neg, mul_comm (g j), ← mul_neg,
    ← EReal.left_distrib_of_nonneg_of_ne_top (by exact_mod_cast (inv_nonneg.mpr hZpos.le)) (EReal.coe_ne_top _), EReal.coe_mul]
  ac_rfl

/-! ## The three gradients of the whole call -/

/-- The scale of the scores, `1/16`. -/
def scale : EReal := Ideal.ofBits .f32 1031798784#32

theorem scale_fin : Fin' scale := by
  unfold scale
  exact ofBits_f32_fin _ (by decide)

/-- Column `d` of head `h`. -/
abbrev col (h : Fin 4) (d : Fin 256) : Fin 1024 := ⟨h.val * 256 + d.val, by omega⟩
/-- Column `d` of head `h` among the keys, the first half of the keys and values. -/
abbrev kcol (h : Fin 4) (d : Fin 256) : Fin 2048 := ⟨h.val * 256 + d.val, by omega⟩
/-- Column `d` of head `h` among the values, the second half. -/
abbrev vcol (h : Fin 4) (d : Fin 256) : Fin 2048 := ⟨1024 + (h.val * 256 + d.val), by omega⟩
/-- The head of a column. -/
abbrev head (e : Fin 1024) : Fin 4 := ⟨e.val / 256, by omega⟩

variable (X : FVec Ideal ⟨2, ![2048, 1024]⟩ .bf16) (KV : FVec Ideal ⟨2, ![256, 2048]⟩ .bf16) (DO : FVec Ideal ⟨2, ![2048, 1024]⟩ .bf16)

/-- The scaled score of query `q` against key `j` in head `h`. -/
def score (h : Fin 4) (q : Fin 2048) (j : Fin 256) : EReal :=
  (∑ d : Fin 256, X (ix2 q (col h d)) * KV (ix2 j (kcol h d))) * scale

/-- The gradient that reaches the softmax: the incoming gradient against the values. -/
def inGrad (h : Fin 4) (q : Fin 2048) (j : Fin 256) : EReal :=
  ∑ d : Fin 256, DO (ix2 q (col h d)) * KV (ix2 j (vcol h d))

/-- The gradient with respect to the scores. -/
def scoreGrad (h : Fin 4) (q : Fin 2048) (j : Fin 256) : EReal :=
  grad scale (score X KV h q) (inGrad KV DO h q) j

def dq (q : Fin 2048) (e : Fin 1024) : EReal :=
  ∑ j : Fin 256, scoreGrad X KV DO (head e) q j * KV (ix2 j (⟨e.val, by omega⟩ : Fin 2048))
def dk (j : Fin 256) (e : Fin 1024) : EReal :=
  ∑ q : Fin 2048, scoreGrad X KV DO (head e) q j * X (ix2 q e)
def dv (j : Fin 256) (e : Fin 1024) : EReal :=
  ∑ q : Fin 2048, prob (score X KV (head e) q) j * DO (ix2 q e)

/-- Scores of finite queries and keys are finite. -/
theorem score_fin (hX : ∀ q e, Fin' (X (ix2 q e))) (hK : ∀ j h d, Fin' (KV (ix2 j (kcol h d)))) (h : Fin 4) (q : Fin 2048) (j : Fin 256) :
    Fin' (score X KV h q j) :=
  (Fin'.sum _ fun d _ => (hX _ _).mul (hK _ _ _)).mul scale_fin

end Cert.XattnMath

end
-- ==== Proof.XattnKernel.lean ====
/- What the cross-attention kernel leaves in its three result arrays: block by block, then whole. -/
module

public import proofs.«01_k».proof.Proof.Gen.XattnIdeal.Value
public import proofs.«01_k».proof.Proof.XattnMath
public import Idealize.ShloMosaic.Lib.Pipeline.ValueKit
public import Idealize.ShloMosaic.Lib.Pointwise

@[expose] public section

set_option maxRecDepth 16384

noncomputable section

namespace Cert.XattnKernel

open Cert.XattnIdeal Cert.XattnIdeal.Gen Cert.XattnMath Cert.Real
open Idealize.ShloMosaic Idealize.ShloMosaic.TcCoe Idealize.SL.Sem
open Idealize.ShloMosaic.Pipeline (Dat)

/-! ## One block -/

section Block

variable (q : Vec Ideal S512x256 .bf16) (k : Vec Ideal S256x256 .bf16) (o : Vec Ideal S512x256 .bf16) (v : Vec Ideal S256x256 .bf16)

/-- The block's scaled scores. -/
def bscore (r : Fin 512) (j : Fin 256) : EReal := (∑ d : Fin 256, q (ix2 r d) * k (ix2 j d)) * scale
/-- The block's gradient at the softmax. -/
def bgrad (r : Fin 512) (j : Fin 256) : EReal := ∑ d : Fin 256, o (ix2 r d) * v (ix2 j d)

theorem prob_apply (r : Fin 512) (j : Fin 256) : k0_pay3 (F := Ideal) q k (ix2 r j) = prob (bscore q k r) j := by
  pointwise [k0_pay3]
  rw [ofBits_neg_inf_f32]
  rfl

theorem ds_apply (r : Fin 512) (j : Fin 256) :
    k0_pay4 (F := Ideal) q k o v (ix2 r j) = grad scale (bscore q k r) (bgrad o v r) j := by
  pointwise [k0_pay4]
  simp only [prob_apply]
  rfl

theorem dq_apply (r : Fin 512) (e : Fin 256) :
    k0_pay5 (F := Ideal) q k o v (ix2 r e) = ∑ j : Fin 256, grad scale (bscore q k r) (bgrad o v r) j * k (ix2 j e) := by
  pointwise [k0_pay5]
  simp only [ds_apply]

theorem dk_apply (j e : Fin 256) :
    k0_pay6 (F := Ideal) q k o v (ix2 j e) = ∑ r : Fin 512, grad scale (bscore q k r) (bgrad o v r) j * q (ix2 r e) := by
  pointwise [k0_pay6]
  simp only [ds_apply]

theorem dv_apply (j e : Fin 256) :
    k0_pay7 (F := Ideal) q k o (ix2 j e) = ∑ r : Fin 512, prob (bscore q k r) j * o (ix2 r e) := by
  pointwise [k0_pay7]
  simp only [prob_apply]

theorem acc_apply (a x : Vec Ideal S256x256 .f32) (i : S256x256.Idx) :
    k0_pay1 (F := Ideal) x a i = a i + x i := by pointwise [k0_pay1]
theorem acc_apply' (a x : Vec Ideal S256x256 .f32) (i : S256x256.Idx) :
    k0_pay2 (F := Ideal) x a i = a i + x i := by pointwise [k0_pay2]

end Block

/-! ## The blocks of the arguments -/

variable (m : (ℓ : Loc nD τ sig) → Buf (Elt Ideal) ℓ)

theorem idx : ∀ t : Fin cfg0.N, win0_0.index t = ![t.val % 4, t.val / 4] ∧ win0_1.index t = ![0, t.val / 4]
    ∧ win0_2.index t = ![0, t.val / 4 + 4] ∧ win0_3.index t = ![t.val % 4, t.val / 4]
    ∧ win0_4.index t = ![t.val % 4, t.val / 4] ∧ win0_5.index t = ![0, t.val / 4] ∧ win0_6.index t = ![0, t.val / 4]
    ∧ t.val < 16 :=
  (by decide +kernel : ∀ t : Fin grid0.N, _)

abbrev X (c : Dev nD) : FVec Ideal S2048x1024 .bf16 := m ((c : Thread nD τ).loc main_arg0)
abbrev KV (c : Dev nD) : FVec Ideal S256x2048 .bf16 := m ((c : Thread nD τ).loc main_arg1)
abbrev DO (c : Dev nD) : FVec Ideal S2048x1024 .bf16 := m ((c : Thread nD τ).loc main_arg2)

abbrev hd (t : Fin cfg0.N) : Fin 4 := ⟨t.val / 4, by have := (idx t).2.2.2.2.2.2.2; omega⟩
abbrev row (t : Fin cfg0.N) (r : Fin 512) : Fin 2048 := ⟨t.val % 4 * 512 + r.val, by omega⟩

theorem q_read (c : Dev nD) (t : Fin cfg0.N) (r : Fin 512) (d : Fin 256) :
    (show Vec Ideal S512x256 .bf16 from iblk m c 0 t) (ix2 r d) = X m c (ix2 (row t r) (col (hd t) d)) := by
  blk_ext [iblk, V, idx t]
theorem k_read (c : Dev nD) (t : Fin cfg0.N) (j d : Fin 256) :
    (show Vec Ideal S256x256 .bf16 from iblk m c 1 t) (ix2 j d) = KV m c (ix2 j (kcol (hd t) d)) := by
  blk_ext [iblk, V, idx t]
theorem v_read (c : Dev nD) (t : Fin cfg0.N) (j d : Fin 256) :
    (show Vec Ideal S256x256 .bf16 from iblk m c 2 t) (ix2 j d) = KV m c (ix2 j (vcol (hd t) d)) := by
  blk_ext [iblk, V, idx t]
theorem o_read (c : Dev nD) (t : Fin cfg0.N) (r : Fin 512) (d : Fin 256) :
    (show Vec Ideal S512x256 .bf16 from iblk m c 3 t) (ix2 r d) = DO m c (ix2 (row t r) (col (hd t) d)) := by
  blk_ext [iblk, V, idx t]

theorem bscore_eq (c : Dev nD) (t : Fin cfg0.N) (r : Fin 512) :
    bscore (iblk m c 0 t) (iblk m c 1 t) r = score (X m c) (KV m c) (hd t) (row t r) := by
  funext j
  unfold bscore score
  exact congrArg (· * scale) (Finset.sum_congr rfl fun d _ => congrArg₂ (· * ·) (q_read m c t r d) (k_read m c t j d))
theorem bgrad_eq (c : Dev nD) (t : Fin cfg0.N) (r : Fin 512) :
    bgrad (iblk m c 3 t) (iblk m c 2 t) r = inGrad (KV m c) (DO m c) (hd t) (row t r) := by
  funext j
  unfold bgrad inGrad
  exact Finset.sum_congr rfl fun d _ => congrArg₂ (· * ·) (o_read m c t r d) (v_read m c t j d)

/-! ## The gradient of the queries: every point writes its own block -/

theorem point_dq (c : Dev nD) (t : Fin cfg0.N) (r : Fin 512) (e : Fin 256) :
    k0_pay5 (F := Ideal) (iblk m c 0 t) (iblk m c 1 t) (iblk m c 3 t) (iblk m c 2 t) (ix2 r e)
      = dq (X m c) (KV m c) (DO m c) (row t r) (col (hd t) e) := by
  rw [dq_apply, bscore_eq, bgrad_eq]
  unfold dq scoreGrad
  refine Finset.sum_congr rfl fun j _ => ?_
  have hh : head (col (hd t) e) = hd t := Fin.ext (by show (t.val / 4 * 256 + e.val) / 256 = t.val / 4; omega)
  rw [hh]
  exact congrArg _ (k_read m c t j e)

/-- What a point leaves for the gradient of the queries. -/
theorem left_dq (c : Dev nD) (t : Fin cfg0.N) : (outsAt0 m c t.val t.isLt).1
    = k0_pay5 (F := Ideal) (iblk m c 0 t) (iblk m c 1 t) (iblk m c 3 t) (iblk m c 2 t) := by
  by_cases h0 : t.val % 4 = 0
  · rw [outsAt0_A m c t h0 (by omega)]; frame_out
  · rw [outsAt0_B m c t h0 (by omega)]; frame_out

theorem final_dq (c : Dev nD) :
    (dats m 0 c).arrAt 4 (cfgs 0).N = fun i : S2048x1024.Idx => dq (X m c) (KV m c) (DO m c) (i 0) (i 1) := by
  refine (dats m 0 c).arrAt_eq_of_covers 4 _ (by decide +kernel) fun t _ y => ?_
  blk_simp
  rw [after0_4, left_dq]
  obtain ⟨r, e, rfl⟩ : ∃ (r : Fin 512) (e : Fin 256), y = ix2 r e := ⟨y 0, y 1, eq_ix2 y⟩
  refine (point_dq m c t r e).trans (congrArg₂ (dq (X m c) (KV m c) (DO m c)) (Fin.ext ?_) (Fin.ext ?_))
  · blk_simp [idx t]
  · blk_simp [idx t]

/-! ## The gradients of the keys and the values: four points add up -/

theorem point_dk (c : Dev nD) (t : Fin cfg0.N) (j e : Fin 256) :
    k0_pay6 (F := Ideal) (iblk m c 0 t) (iblk m c 1 t) (iblk m c 3 t) (iblk m c 2 t) (ix2 j e)
      = ∑ r : Fin 512, scoreGrad (X m c) (KV m c) (DO m c) (hd t) (row t r) j * X m c (ix2 (row t r) (col (hd t) e)) := by
  rw [dk_apply]
  refine Finset.sum_congr rfl fun r _ => ?_
  rw [bscore_eq, bgrad_eq]
  exact congrArg _ (q_read m c t r e)

theorem point_dv (c : Dev nD) (t : Fin cfg0.N) (j e : Fin 256) :
    k0_pay7 (F := Ideal) (iblk m c 0 t) (iblk m c 1 t) (iblk m c 3 t) (ix2 j e)
      = ∑ r : Fin 512, prob (score (X m c) (KV m c) (hd t) (row t r)) j * DO m c (ix2 (row t r) (col (hd t) e)) := by
  rw [dv_apply]
  refine Finset.sum_congr rfl fun r _ => ?_
  rw [bscore_eq]
  exact congrArg _ (o_read m c t r e)

/-- The queries of a run of four points, tile after tile, are all the queries. -/
theorem sum_tiles (t : Fin cfg0.N) (ht : t.val % 4 = 4 - 1) (f : Fin 4 → Fin 2048 → EReal) :
    ∑ s : Fin 4, ∑ r : Fin 512, f (hd ⟨4 * (t.val / 4) + s.val, Pipeline.run_point_lt_of_flush t ht s⟩)
        (row ⟨4 * (t.val / 4) + s.val, Pipeline.run_point_lt_of_flush t ht s⟩ r)
      = ∑ q : Fin 2048, f (hd t) q := by
  refine Fin.sum_mul_add_congr fun s k hl => ?_
  refine congrArg₂ f (Fin.ext ?_) (Fin.ext ?_)
  · show (4 * (t.val / 4) + s.val) / 4 = t.val / 4
    omega
  · show (4 * (t.val / 4) + s.val) % 4 * 512 + k.val = s.val * 512 + k.val
    omega

theorem final_dk (c : Dev nD) :
    (dats m 0 c).arrAt 5 (cfgs 0).N = fun i : S256x1024.Idx => dk (X m c) (KV m c) (DO m c) (i 0) (i 1) := by
  refine (dats m 0 c).arrAt_eq_of_covers 5 _ (by decide +kernel) fun t hf y => ?_
  blk_simp
  rw [after0_5, Pipeline.eq_sum_fin_of_reset_step_apply_of_flush (fun n h => (outsAt0 m c n h).2.1) 4 (fun _ => 0)
    (fun t => k0_pay6 (F := Ideal) (iblk m c 0 t) (iblk m c 1 t) (iblk m c 3 t) (iblk m c 2 t))
    (fun t h j => by rw [outsAt0_A m c t h (by omega)]; frame_out; rw [zero_add])
    (fun t h j => by rw [outsAt0_B m c t h (by omega)]; frame_out; rw [acc_apply])
    t ((flush0_5 t).mp hf) _, zero_add]
  obtain ⟨j, e, rfl⟩ : ∃ (j e : Fin 256), y = ix2 j e := ⟨y 0, y 1, eq_ix2 y⟩
  refine ((Fin.sum_fin_congr fun s => point_dk m c _ j e).trans
    (sum_tiles t ((flush0_5 t).mp hf) fun h q => scoreGrad (X m c) (KV m c) (DO m c) h q j * X m c (ix2 q (col h e)))).trans ?_
  have hj : ((win0_5.blk t).view.emb (ix2 j e) 0) = j := Fin.ext (by blk_simp [idx t])
  have he : ((win0_5.blk t).view.emb (ix2 j e) 1) = col (hd t) e := Fin.ext (by blk_simp [idx t])
  have hh : head (col (hd t) e) = hd t := Fin.ext (by show (t.val / 4 * 256 + e.val) / 256 = t.val / 4; omega)
  show _ = dk (X m c) (KV m c) (DO m c) ((win0_5.blk t).view.emb (ix2 j e) 0) ((win0_5.blk t).view.emb (ix2 j e) 1)
  rw [hj, he]
  unfold dk
  rw [hh]

theorem final_dv (c : Dev nD) :
    (dats m 0 c).arrAt 6 (cfgs 0).N = fun i : S256x1024.Idx => dv (X m c) (KV m c) (DO m c) (i 0) (i 1) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0)
    (fun t => k0_pay7 (F := Ideal) (iblk m c 0 t) (iblk m c 1 t) (iblk m c 3 t))
    (fun t h j => by rw [outsAt0_A m c t h (by omega)]; frame_out; rw [zero_add])
    (fun t h j => by rw [outsAt0_B m c t h (by omega)]; frame_out; rw [acc_apply'])
    t ((flush0_6 t).mp hf) _, zero_add]
  obtain ⟨j, e, rfl⟩ : ∃ (j e : Fin 256), y = ix2 j e := ⟨y 0, y 1, eq_ix2 y⟩
  refine ((Fin.sum_fin_congr fun s => point_dv m c _ j e).trans
    (sum_tiles t ((flush0_6 t).mp hf) fun h q => prob (score (X m c) (KV m c) h q) j * DO m c (ix2 q (col h e)))).trans ?_
  have hj : ((win0_6.blk t).view.emb (ix2 j e) 0) = j := Fin.ext (by blk_simp [idx t])
  have he : ((win0_6.blk t).view.emb (ix2 j e) 1) = col (hd t) e := Fin.ext (by blk_simp [idx t])
  have hh : head (col (hd t) e) = hd t := Fin.ext (by show (t.val / 4 * 256 + e.val) / 256 = t.val / 4; omega)
  show _ = dv (X m c) (KV m c) (DO m c) ((win0_6.blk t).view.emb (ix2 j e) 0) ((win0_6.blk t).view.emb (ix2 j e) 1)
  rw [hj, he]
  unfold dv
  rw [hh]

end Cert.XattnKernel

end
-- ==== Proof.XattnRef.lean ====
/- What the reference of the cross-attention's backward call computes, at an index. -/
module

public import proofs.«01_k».proof.Proof.Gen.XattnRefIdeal.Read
public import proofs.«01_k».proof.Proof.XattnMath
public import Idealize.ShloMosaic.Lib.Pointwise

@[expose] public section

set_option maxRecDepth 16384

noncomputable section

namespace Cert.XattnRef

open Cert.XattnRefIdeal Cert.XattnRefIdeal.Gen Cert.XattnRefIdeal.Read Cert.XattnMath Cert.Real
open Idealize.ShloMosaic Idealize.ShloMosaic.TcCoe Idealize.SL.Sem

variable (X : FVec Ideal S2048x1024 .bf16) (KV : FVec Ideal S256x2048 .bf16) (DO : FVec Ideal S2048x1024 .bf16)

theorem score_apply (h : Fin 4) (q : Fin 2048) (j : Fin 256) :
    val_main_v9 (F := Ideal) X KV (ix3 h q j) = score X KV h q j := by
  pointwise [val_main_v9, val_main_v8, val_main_v7, val_main_v5, val_main_v4, val_main_v2, val_main_v0, val_main_v1, val_main_cst]
  rfl

theorem exp_apply (h : Fin 4) (q : Fin 2048) (j : Fin 256) :
    val_main_v30 (F := Ideal) X KV (ix3 h q j) = expRow (score X KV h q) j := by
  pointwise [val_main_v30, val_main_v29, val_main_v28, val_main_v27, val_main_v17, val_main_v16, val_main_cst_2, val_main_v10, val_main_cst_0]
  simp only [score_apply, ofBits_neg_inf_f32, bot_le, sup_of_le_right]
  rfl

theorem inGrad_apply (h : Fin 4) (q : Fin 2048) (j : Fin 256) :
    val_main_v44 (F := Ideal) KV DO (ix3 h q j) = inGrad KV DO h q j := by
  pointwise [val_main_v44, val_main_v43, val_main_v42, val_main_v41, val_main_v6, val_main_v3, val_main_v0]
  rfl

theorem grad_apply (h : Fin 4) (q : Fin 2048) (j : Fin 256) :
    val_main_v60 (F := Ideal) X KV DO (ix3 h q j) = gradQuot scale (score X KV h q) (inGrad KV DO h q) j := by
  pointwise [val_main_v60, val_main_v59, val_main_v58, val_main_v57, val_main_v56, val_main_v55, val_main_v54, val_main_v53, val_main_v52, val_main_v51, val_main_v50, val_main_v49, val_main_v48, val_main_v47,val_main_v37,val_main_v36,val_main_v35,val_main_v32,val_main_v31,val_main_cst_8,val_main_cst_9,val_main_cst_10,val_main_cst_11,val_main_cst_12]
  simp only [exp_apply, inGrad_apply, Fin.sum_univ_one, Fin.isValue]
  rfl

variable (hX : ∀ q e, Fin' (X (ix2 q e))) (hK : ∀ j h d, Fin' (KV (ix2 j (kcol h d))))
include hX hK

theorem scoreGrad_apply (h : Fin 4) (q : Fin 2048) (j : Fin 256) :
    val_main_v60 (F := Ideal) X KV DO (ix3 h q j) = scoreGrad X KV DO h q j :=
  (grad_apply X KV DO h q j).trans (gradQuot_eq (by decide) _ _ _ (score_fin X KV hX hK h q) j)

theorem dq_eq (q : Fin 2048) (e : Fin 1024) : val_main_v68 (F := Ideal) X KV DO (ix2 q e) = dq X KV DO q e := by
  pointwise [val_main_v68, val_main_v67, val_main_v64, val_main_v63, val_main_v5, val_main_v2, val_main_v0]
  exact Finset.sum_congr rfl fun j _ => congrArg (· * _) (scoreGrad_apply X KV DO hX hK _ q j)

theorem dk_eq (j : Fin 256) (e : Fin 1024) : val_main_v66 (F := Ideal) X KV DO (ix2 j e) = dk X KV DO j e := by
  pointwise [val_main_v66, val_main_v62, val_main_v61, val_main_v4, val_main_v1]
  exact Finset.sum_congr rfl fun q _ => congrArg (· * _) (scoreGrad_apply X KV DO hX hK _ q j)

omit hX hK in
theorem dv_eq (j : Fin 256) (e : Fin 1024) : val_main_v65 (F := Ideal) X KV DO (ix2 j e) = dv X KV DO j e := by
  pointwise [val_main_v65, val_main_v46, val_main_v45, val_main_v43, val_main_v42, val_main_v41, val_main_v34, val_main_v33, val_main_v32, val_main_v31, val_main_cst_8]
  simp only [exp_apply]
  exact Finset.sum_congr rfl fun q _ => mul_comm _ _

end Cert.XattnRef

end
-- ==== Proof.Xattn.lean ====
/- The claims about the backward call of the cross-attention: the kernel's three arrays are the
   reference's, element by element, whenever queries and keys are finite. -/
module

public import proofs.«01_k».proof.Defs
public import proofs.«01_k».proof.Proof.Gen.Xattn.Frame
public import proofs.«01_k».proof.Proof.Gen.XattnIdeal.Frame
public import proofs.«01_k».proof.Proof.Gen.XattnIdeal.Value
public import proofs.«01_k».proof.Proof.Gen.XattnRefIdeal.Run
public import proofs.«01_k».proof.Proof.XattnKernel
public import proofs.«01_k».proof.Proof.XattnRef
public import Idealize.ShloMosaic.Lib.Pointwise

@[expose] public section

set_option maxRecDepth 16384

noncomputable section

namespace Cert.XattnProof

open Cert.XattnMath Cert.Real
open Idealize.ShloMosaic Idealize.ShloMosaic.TcCoe Idealize.SL.Sem

/-- The shape facts the precondition's text states. -/
instance preFacts : Cert.Pre_xattn_finite.Facts where
  bcast_S_S2048x1024 := by decide
  slices_S256x2048_S256x1024_0_0 := by decide
  bcast_S_S256x1024 := by decide

/-- The comparison the precondition prints, read as finiteness. -/
theorem fin_of_word (x : EReal) (h : BitVec.ofBool (decide (max x (-x) < Ideal.ofBits .bf16 0x7F80#16)) = 1#1) : Fin' x := by
  rw [ofBits_inf_bf16] at h
  refine Fin'.of_abs_lt ?_
  by_contra hn
  rw [decide_eq_false hn] at h
  exact absurd h (by decide)

section
open Cert.XattnIdeal
variable (m : (ℓ : Loc nD τ sig) → Buf (Elt Ideal) ℓ)

theorem queries_fin (h : Cert.Pre_XattnIdeal_xattn_finite m) (c : Dev nD) (q : Fin 2048) (e : Fin 1024) :
    Fin' (XattnKernel.X m c (ix2 q e)) :=
  fin_of_word _ (congrFun (h c).1 (ix2 q e))

theorem keys_fin (h : Cert.Pre_XattnIdeal_xattn_finite m) (c : Dev nD) (j : Fin 256) (a : Fin 4) (d : Fin 256) :
    Fin' (XattnKernel.KV m c (ix2 j (kcol a d))) := by
  have e : extractStridedSlice (s := ⟨2, ![256, 2048]⟩) ⟨2, ![256, 1024]⟩ ![0, 0] (XattnKernel.KV m c)
      Cert.Pre_xattn_finite.Facts.slices_S256x2048_S256x1024_0_0 (ix2 j (col a d)) = XattnKernel.KV m c (ix2 j (kcol a d)) := by
    pointwise []
  exact e ▸ fin_of_word _ (congrFun (h c).2 (ix2 j (col a d)))

end

section
open Cert.XattnRefIdeal

/-- The reference's run, its semaphores included. -/
theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2, sem_eq_zero_of_no_sems (by decide) r.2⟩) (Cert.XattnRefIdeal.Value.run m ρ)

end

theorem algebraic : Cert.algebraic_XattnIdeal_XattnRefIdeal_pre_xattn_finite := by
  intro m ρ m' ρ' hpre hag
  refine ⟨fun c i => dq (XattnKernel.X m c) (XattnKernel.KV m c) (XattnKernel.DO m c) (i 0) (i 1),
    fun c i => dk (XattnKernel.X m c) (XattnKernel.KV m c) (XattnKernel.DO m c) (i 0) (i 1),
    fun c i => dv (XattnKernel.X m c) (XattnKernel.KV m c) (XattnKernel.DO m c) (i 0) (i 1),
    (θ_run _ _ _).mono (fun r h c => ?_) (Cert.XattnIdeal.Value.run_blocks m ρ),
    (θ_run _ _ _).mono (fun r h c => ?_) (Cert.XattnRefIdeal.Value.run m' ρ')⟩
  · exact ⟨(h c).1.trans (XattnKernel.final_dq m c), (h c).2.1.trans (XattnKernel.final_dk m c),
      (h c).2.2.1.trans (XattnKernel.final_dv m c), (h c).2.2.2⟩
  · have hX := queries_fin m hpre c
    have hK := keys_fin m hpre c
    refine ⟨(h c).1.trans ?_, (h c).2.1.trans ?_, (h c).2.2.1.trans ?_, (h c).2.2.2⟩
    · rw [Cert.XattnRefIdeal.Read.val_main_v68_eq, (hag c).1, (hag c).2.1, (hag c).2.2]
      funext i
      exact (congrArg _ (eq_ix2 i)).trans (XattnRef.dq_eq _ _ _ hX hK (i 0) (i 1))
    · rw [Cert.XattnRefIdeal.Read.val_main_v66_eq, (hag c).1, (hag c).2.1, (hag c).2.2]
      funext i
      exact (congrArg _ (eq_ix2 i)).trans (XattnRef.dk_eq _ _ _ hX hK (i 0) (i 1))
    · rw [Cert.XattnRefIdeal.Read.val_main_v65_eq, (hag c).1, (hag c).2.1, (hag c).2.2]
      funext i
      exact (congrArg _ (eq_ix2 i)).trans (XattnRef.dv_eq _ _ _ (i 0) (i 1))

end Cert.XattnProof

end
-- ==== Proof.Merge.lean ====
/- The gate merge's backward call: the gradients of the three branches, of the gates before the sigmoid and of the gates' biases. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit

@[expose] public section

set_option maxRecDepth 16384

noncomputable section

namespace Cert.MergeProof

open Idealize.ShloMosaic Idealize.ShloMosaic.TcCoe Idealize.SL.Sem

/-- The sigmoid. -/
def sigm (x : EReal) : EReal := Ideal.div 1 (1 + Ideal.exp (-x))

/-- Column `j` of part `k` of the gates. -/
abbrev part (k : Fin 3) (j : Fin 1024) : Fin 3072 := ⟨k.val * 1024 + j.val, by omega⟩
/-- The same column in the projection, which holds the gates from column 1024 on. -/
abbrev wide (c : Fin 3072) : Fin 4096 := ⟨1024 + c.val, by omega⟩

/-- The gate at row `i` and gate column `c`. -/
def gate (R : FVec Ideal ⟨2, ![2048, 4096]⟩ .f32) (B : FVec Ideal ⟨1, ![3072]⟩ .f32) (i : Fin 2048) (c : Fin 3072) : EReal :=
  sigm (R (ix2 i (wide c)) + B (ix1 c))

/-- The gradient of a branch. -/
def dbranch (R : FVec Ideal ⟨2, ![2048, 4096]⟩ .f32) (B : FVec Ideal ⟨1, ![3072]⟩ .f32) (M : FVec Ideal ⟨2, ![2048, 1024]⟩ .f32)
    (k : Fin 3) (i : Fin 2048) (j : Fin 1024) : EReal :=
  M (ix2 i j) * gate R B i (part k j)

/-- The gradient of a gate before the sigmoid. -/
def dgate (R : FVec Ideal ⟨2, ![2048, 4096]⟩ .f32) (B : FVec Ideal ⟨1, ![3072]⟩ .f32) (M : FVec Ideal ⟨2, ![2048, 1024]⟩ .f32)
    (Y : FVec Ideal ⟨2, ![2048, 1024]⟩ .bf16) (k : Fin 3) (i : Fin 2048) (j : Fin 1024) : EReal :=
  M (ix2 i j) * Y (ix2 i j) * gate R B i (part k j) * (1 - gate R B i (part k j))

section Kernel

open Cert.MergeIdeal Cert.MergeIdeal.Gen

section Block

variable (d g : Vec Ideal S512x512 .f32) (b : Vec Ideal S1x512 .f32) (y : Vec Ideal S512x512 .bf16)

theorem same_bias : k0_pay19 (F := Ideal) b = b := by
  funext i
  obtain ⟨z, e, rfl⟩ : ∃ (z : Fin 1) (e : Fin 512), i = ix2 z e := ⟨i 0, i 1, eq_ix2 i⟩
  pointwise [k0_pay19]

theorem gate_apply (r e : Fin 512) : k0_pay1 (F := Ideal) g b (ix2 r e) = sigm (g (ix2 r e) + b (ix2 0 e)) := by
  pointwise [k0_pay1]
  rw [zero_sub]
  rfl

theorem branch_apply (r e : Fin 512) :
    k0_pay2 (F := Ideal) d g b (ix2 r e) = d (ix2 r e) * sigm (g (ix2 r e) + b (ix2 0 e)) := by
  pointwise [k0_pay2]
  rw [gate_apply]

theorem pre_apply (r e : Fin 512) :
    k0_pay3 (F := Ideal) d g b y (ix2 r e) = d (ix2 r e) * y (ix2 r e) * sigm (g (ix2 r e) + b (ix2 0 e))
      * (1 - sigm (g (ix2 r e) + b (ix2 0 e))) := by
  pointwise [k0_pay3]
  rw [gate_apply]

theorem sum_apply (e : Fin 512) :
    k0_pay5 (F := Ideal) d g b y (ix2 0 e) = ∑ r : Fin 512, k0_pay3 (F := Ideal) d g b y (ix2 r e) := by
  pointwise [k0_pay5]

theorem acc_apply (a : Vec Ideal S1x512 .f32) (i : S1x512.Idx) :
    k0_pay6 (F := Ideal) d g b y a i = a i + k0_pay5 (F := Ideal) d g b y i := by
  pointwise [k0_pay6]

/-- The first and the second branch are computed as the third is. -/
theorem branch_first : k0_pay8 (F := Ideal) d g b = k0_pay2 (F := Ideal) d g b := by
  rw [← congrArg (k0_pay2 (F := Ideal) d g) (same_bias b)]; rfl
theorem branch_second : k0_pay14 (F := Ideal) d g b = k0_pay2 (F := Ideal) d g b := by
  rw [← congrArg (k0_pay2 (F := Ideal) d g) (same_bias b)]; rfl
theorem gate_first : k0_pay10 (F := Ideal) d g b y = k0_pay4 (F := Ideal) d g b y := by
  rw [← congrArg (k0_pay4 (F := Ideal) d g · y) (same_bias b)]; rfl
theorem gate_second : k0_pay16 (F := Ideal) d g b y = k0_pay4 (F := Ideal) d g b y := by
  rw [← congrArg (k0_pay4 (F := Ideal) d g · y) (same_bias b)]; rfl
theorem sum_first : k0_pay11 (F := Ideal) d g b y = k0_pay5 (F := Ideal) d g b y := by
  rw [← congrArg (k0_pay5 (F := Ideal) d g · y) (same_bias b)]; rfl
theorem sum_second : k0_pay17 (F := Ideal) d g b y = k0_pay5 (F := Ideal) d g b y := by
  rw [← congrArg (k0_pay5 (F := Ideal) d g · y) (same_bias b)]; rfl
theorem acc_first (a : Vec Ideal S1x512 .f32) : k0_pay12 (F := Ideal) d g b y a = k0_pay6 (F := Ideal) d g b y a := by
  rw [← congrArg (k0_pay6 (F := Ideal) d g · y a) (same_bias b)]; rfl
theorem acc_second (a : Vec Ideal S1x512 .f32) : k0_pay18 (F := Ideal) d g b y a = k0_pay6 (F := Ideal) d g b y a := by
  rw [← congrArg (k0_pay6 (F := Ideal) d g · y a) (same_bias b)]; rfl

end Block

variable (m : (ℓ : Loc nD τ sig) → Buf (Elt Ideal) ℓ)

theorem idx : ∀ t : Fin cfg0.N, win0_0.index t = ![t.val % 4, 2 + t.val / 4] ∧ win0_1.index t = ![t.val % 4, 4 + t.val / 4]
    ∧ win0_2.index t = ![t.val % 4, 6 + t.val / 4] ∧ win0_3.index t = ![0, t.val / 4] ∧ win0_4.index t = ![0, 2 + t.val / 4]
    ∧ win0_5.index t = ![0, 4 + t.val / 4] ∧ win0_6.index t = ![t.val % 4, t.val / 4] ∧ win0_7.index t = ![t.val % 4, t.val / 4]
    ∧ win0_8.index t = ![t.val % 4, t.val / 4] ∧ win0_9.index t = ![t.val % 4, t.val / 4] ∧ t.val < 8 :=
  (by decide +kernel : ∀ t : Fin grid0.N, _)

theorem idx_out : ∀ t : Fin cfg0.N, win0_10.index t = ![t.val % 4, t.val / 4] ∧ win0_11.index t = ![t.val % 4, t.val / 4]
    ∧ win0_12.index t = ![t.val % 4, t.val / 4] ∧ win0_13.index t = ![t.val % 4, t.val / 4] ∧ win0_14.index t = ![t.val % 4, t.val / 4]
    ∧ win0_15.index t = ![t.val % 4, t.val / 4] ∧ win0_16.index t = ![0, t.val / 4] ∧ win0_17.index t = ![0, t.val / 4]
    ∧ win0_18.index t = ![0, t.val / 4] :=
  (by decide +kernel : ∀ t : Fin grid0.N, _)

abbrev R (c : Dev nD) : FVec Ideal S2048x4096 .f32 := m ((c : Thread nD τ).loc main_arg0)
abbrev B (c : Dev nD) : FVec Ideal S3072 .f32 := m ((c : Thread nD τ).loc main_arg1)
abbrev Y1 (c : Dev nD) : FVec Ideal S2048x1024 .bf16 := m ((c : Thread nD τ).loc main_arg2)
abbrev Y2 (c : Dev nD) : FVec Ideal S2048x1024 .bf16 := m ((c : Thread nD τ).loc main_arg3)
abbrev Y3 (c : Dev nD) : FVec Ideal S2048x1024 .bf16 := m ((c : Thread nD τ).loc main_arg4)
abbrev M (c : Dev nD) : FVec Ideal S2048x1024 .f32 := m ((c : Thread nD τ).loc main_arg5)

abbrev row (t : Fin cfg0.N) (r : Fin 512) : Fin 2048 := ⟨t.val % 4 * 512 + r.val, by omega⟩
abbrev col (t : Fin cfg0.N) (e : Fin 512) : Fin 1024 := ⟨t.val / 4 * 512 + e.val, by have := (idx t).2.2.2.2.2.2.2.2.2.2; omega⟩

theorem g1_read (c : Dev nD) (t : Fin cfg0.N) (r e : Fin 512) :
    (show Vec Ideal S512x512 .f32 from iblk m c 0 t) (ix2 r e) = R m c (ix2 (row t r) (wide (part 0 (col t e)))) := by
  blk_ext [iblk, V, idx t]
theorem g2_read (c : Dev nD) (t : Fin cfg0.N) (r e : Fin 512) :
    (show Vec Ideal S512x512 .f32 from iblk m c 1 t) (ix2 r e) = R m c (ix2 (row t r) (wide (part 1 (col t e)))) := by
  blk_ext [iblk, V, idx t]
theorem g3_read (c : Dev nD) (t : Fin cfg0.N) (r e : Fin 512) :
    (show Vec Ideal S512x512 .f32 from iblk m c 2 t) (ix2 r e) = R m c (ix2 (row t r) (wide (part 2 (col t e)))) := by
  blk_ext [iblk, V, idx t]
theorem bias_eq (c : Dev nD) (j : Fin 3072) : V m c main_v0 (ix2 0 j) = B m c (ix1 j) := by
  have h : V m c main_v0 = shapeCast S1x3072 (B m c) shapeCasts_S3072_S1x3072 := by
    unfold_abbrev_sides
    after_results
    rfl
  rw [h]
  pointwise []
theorem b1_read (c : Dev nD) (t : Fin cfg0.N) (e : Fin 512) :
    (show Vec Ideal S1x512 .f32 from iblk m c 3 t) (ix2 0 e) = B m c (ix1 (part 0 (col t e))) := by
  refine Eq.trans ?_ (bias_eq m c _)
  blk_ext [iblk, idx t]
theorem b2_read (c : Dev nD) (t : Fin cfg0.N) (e : Fin 512) :
    (show Vec Ideal S1x512 .f32 from iblk m c 4 t) (ix2 0 e) = B m c (ix1 (part 1 (col t e))) := by
  refine Eq.trans ?_ (bias_eq m c _)
  blk_ext [iblk, idx t]
theorem b3_read (c : Dev nD) (t : Fin cfg0.N) (e : Fin 512) :
    (show Vec Ideal S1x512 .f32 from iblk m c 5 t) (ix2 0 e) = B m c (ix1 (part 2 (col t e))) := by
  refine Eq.trans ?_ (bias_eq m c _)
  blk_ext [iblk, idx t]
theorem y1_read (c : Dev nD) (t : Fin cfg0.N) (r e : Fin 512) :
    (show Vec Ideal S512x512 .bf16 from iblk m c 6 t) (ix2 r e) = Y1 m c (ix2 (row t r) (col t e)) := by
  blk_ext [iblk, V, idx t]
theorem y2_read (c : Dev nD) (t : Fin cfg0.N) (r e : Fin 512) :
    (show Vec Ideal S512x512 .bf16 from iblk m c 7 t) (ix2 r e) = Y2 m c (ix2 (row t r) (col t e)) := by
  blk_ext [iblk, V, idx t]
theorem y3_read (c : Dev nD) (t : Fin cfg0.N) (r e : Fin 512) :
    (show Vec Ideal S512x512 .bf16 from iblk m c 8 t) (ix2 r e) = Y3 m c (ix2 (row t r) (col t e)) := by
  blk_ext [iblk, V, idx t]
theorem m_read (c : Dev nD) (t : Fin cfg0.N) (r e : Fin 512) :
    (show Vec Ideal S512x512 .f32 from iblk m c 9 t) (ix2 r e) = M m c (ix2 (row t r) (col t e)) := by
  blk_ext [iblk, V, idx t]

/-! ## One point's values -/

section Point

variable (c : Dev nD) (t : Fin cfg0.N) (k : Fin 3) (g : Vec Ideal S512x512 .f32) (b : Vec Ideal S1x512 .f32) (y : Vec Ideal S512x512 .bf16)
  (Y : FVec Ideal S2048x1024 .bf16)
  (hg : ∀ r e, g (ix2 r e) = R m c (ix2 (row t r) (wide (part k (col t e))))) (hb : ∀ e, b (ix2 0 e) = B m c (ix1 (part k (col t e))))
  (hy : ∀ r e, y (ix2 r e) = Y (ix2 (row t r) (col t e)))

include hg hb in
theorem point_branch (r e : Fin 512) :
    k0_pay2 (F := Ideal) (iblk m c 9 t) g b (ix2 r e) = dbranch (R m c) (B m c) (M m c) k (row t r) (col t e) := by
  refine (branch_apply _ _ _ r e).trans ?_
  rw [hg, hb]
  exact congrArg (· * _) (m_read m c t r e)

include hg hb hy in
theorem point_pre (r e : Fin 512) :
    k0_pay3 (F := Ideal) (iblk m c 9 t) g b y (ix2 r e) = dgate (R m c) (B m c) (M m c) Y k (row t r) (col t e) := by
  refine (pre_apply _ _ _ _ r e).trans ?_
  rw [hg, hb, hy]
  exact congrArg (· * _ * _ * _) (m_read m c t r e)

include hg hb hy in
theorem point_gate (r e : Fin 512) :
    k0_pay4 (F := Ideal) (iblk m c 9 t) g b y (ix2 r e) = dgate (R m c) (B m c) (M m c) Y k (row t r) (col t e) := by
  refine Eq.trans ?_ (point_pre m c t k g b y Y hg hb hy r e)
  pointwise [k0_pay4]

include hg hb hy in
theorem point_sum (e : Fin 512) :
    k0_pay5 (F := Ideal) (iblk m c 9 t) g b y (ix2 0 e) = ∑ r : Fin 512, dgate (R m c) (B m c) (M m c) Y k (row t r) (col t e) :=
  (sum_apply _ _ _ _ e).trans (Finset.sum_congr rfl fun r _ => point_pre m c t k g b y Y hg hb hy r e)

end Point

/-! ## What a point leaves -/

theorem left10 (c : Dev nD) (t : Fin cfg0.N) :
    (dats m 0 c).after 10 t = k0_pay2 (F := Ideal) (iblk m c 9 t) (iblk m c 0 t) (iblk m c 3 t) := by
  rw [after0_10]
  by_cases h0 : t.val % 4 = 0
  · rw [outsAt0_A m c t h0 (by omega) h0 (by omega) h0 (by omega)]; refine Eq.trans ?_ (branch_first _ _ _); frame_out
  · rw [outsAt0_B m c t h0 (by omega) h0 (by omega) h0 (by omega)]; refine Eq.trans ?_ (branch_first _ _ _); frame_out
theorem left11 (c : Dev nD) (t : Fin cfg0.N) :
    (dats m 0 c).after 11 t = k0_pay2 (F := Ideal) (iblk m c 9 t) (iblk m c 1 t) (iblk m c 4 t) := by
  rw [after0_11]
  by_cases h0 : t.val % 4 = 0
  · rw [outsAt0_A m c t h0 (by omega) h0 (by omega) h0 (by omega)]; refine Eq.trans ?_ (branch_second _ _ _); frame_out
  · rw [outsAt0_B m c t h0 (by omega) h0 (by omega) h0 (by omega)]; refine Eq.trans ?_ (branch_second _ _ _); frame_out
theorem left12 (c : Dev nD) (t : Fin cfg0.N) :
    (dats m 0 c).after 12 t = k0_pay2 (F := Ideal) (iblk m c 9 t) (iblk m c 2 t) (iblk m c 5 t) := by
  rw [after0_12]
  by_cases h0 : t.val % 4 = 0
  · rw [outsAt0_A m c t h0 (by omega) h0 (by omega) h0 (by omega)]; refine Eq.trans ?_ (congrArg (k0_pay2 (F := Ideal) _ _) (same_bias _)); frame_out
  · rw [outsAt0_B m c t h0 (by omega) h0 (by omega) h0 (by omega)]; refine Eq.trans ?_ (congrArg (k0_pay2 (F := Ideal) _ _) (same_bias _)); frame_out
theorem left13 (c : Dev nD) (t : Fin cfg0.N) :
    (dats m 0 c).after 13 t = k0_pay4 (F := Ideal) (iblk m c 9 t) (iblk m c 0 t) (iblk m c 3 t) (iblk m c 6 t) := by
  rw [after0_13]
  by_cases h0 : t.val % 4 = 0
  · rw [outsAt0_A m c t h0 (by omega) h0 (by omega) h0 (by omega)]; refine Eq.trans ?_ (gate_first _ _ _ _); frame_out
  · rw [outsAt0_B m c t h0 (by omega) h0 (by omega) h0 (by omega)]; refine Eq.trans ?_ (gate_first _ _ _ _); frame_out
theorem left14 (c : Dev nD) (t : Fin cfg0.N) :
    (dats m 0 c).after 14 t = k0_pay4 (F := Ideal) (iblk m c 9 t) (iblk m c 1 t) (iblk m c 4 t) (iblk m c 7 t) := by
  rw [after0_14]
  by_cases h0 : t.val % 4 = 0
  · rw [outsAt0_A m c t h0 (by omega) h0 (by omega) h0 (by omega)]; refine Eq.trans ?_ (gate_second _ _ _ _); frame_out
  · rw [outsAt0_B m c t h0 (by omega) h0 (by omega) h0 (by omega)]; refine Eq.trans ?_ (gate_second _ _ _ _); frame_out
theorem left15 (c : Dev nD) (t : Fin cfg0.N) :
    (dats m 0 c).after 15 t = k0_pay4 (F := Ideal) (iblk m c 9 t) (iblk m c 2 t) (iblk m c 5 t) (iblk m c 8 t) := by
  rw [after0_15]
  by_cases h0 : t.val % 4 = 0
  · rw [outsAt0_A m c t h0 (by omega) h0 (by omega) h0 (by omega)]; refine Eq.trans ?_ (congrArg (k0_pay4 (F := Ideal) _ _ · _) (same_bias _)); frame_out
  · rw [outsAt0_B m c t h0 (by omega) h0 (by omega) h0 (by omega)]; refine Eq.trans ?_ (congrArg (k0_pay4 (F := Ideal) _ _ · _) (same_bias _)); frame_out

/-! ## The result arrays -/

section Whole

variable (c : Dev nD) (W : Fin cfg0.N → S512x512.Idx → EReal) (f : Fin 2048 → Fin 1024 → EReal)

/-- A block whose entries are the array's, read at any of the six windows of branch and gate gradients. -/
theorem block_entry (hW : ∀ t r e, W t (ix2 r e) = f (row t r) (col t e)) (t : Fin cfg0.N) (y : S512x512.Idx) (i : S2048x1024.Idx)
    (h0 : (i 0).val = t.val % 4 * 512 + (y 0).val) (h1 : (i 1).val = t.val / 4 * 512 + (y 1).val) : W t y = f (i 0) (i 1) := by
  obtain ⟨r, e, rfl⟩ : ∃ (r e : Fin 512), y = ix2 r e := ⟨y 0, y 1, eq_ix2 y⟩
  exact (hW t r e).trans (congrArg₂ f (Fin.ext h0.symm) (Fin.ext h1.symm))

end Whole

theorem final10 (c : Dev nD) : (dats m 0 c).arrAt 10 (cfgs 0).N
    = fun i : S2048x1024.Idx => dbranch (R m c) (B m c) (M m c) 0 (i 0) (i 1) := by
  refine (dats m 0 c).arrAt_eq_of_covers 10 _ (by decide +kernel) fun t _ y => ?_
  blk_simp
  rw [left10]
  refine block_entry (fun t => k0_pay2 (F := Ideal) (iblk m c 9 t) (iblk m c 0 t) (iblk m c 3 t)) (dbranch (R m c) (B m c) (M m c) 0)
    (fun t => point_branch m c t 0 _ _ (g1_read m c t) (b1_read m c t)) t y _ ?_ ?_ <;> blk_simp [idx_out t]

theorem final11 (c : Dev nD) : (dats m 0 c).arrAt 11 (cfgs 0).N
    = fun i : S2048x1024.Idx => dbranch (R m c) (B m c) (M m c) 1 (i 0) (i 1) := by
  refine (dats m 0 c).arrAt_eq_of_covers 11 _ (by decide +kernel) fun t _ y => ?_
  blk_simp
  rw [left11]
  refine block_entry (fun t => k0_pay2 (F := Ideal) (iblk m c 9 t) (iblk m c 1 t) (iblk m c 4 t)) (dbranch (R m c) (B m c) (M m c) 1)
    (fun t => point_branch m c t 1 _ _ (g2_read m c t) (b2_read m c t)) t y _ ?_ ?_ <;> blk_simp [idx_out t]

theorem final12 (c : Dev nD) : (dats m 0 c).arrAt 12 (cfgs 0).N
    = fun i : S2048x1024.Idx => dbranch (R m c) (B m c) (M m c) 2 (i 0) (i 1) := by
  refine (dats m 0 c).arrAt_eq_of_covers 12 _ (by decide +kernel) fun t _ y => ?_
  blk_simp
  rw [left12]
  refine block_entry (fun t => k0_pay2 (F := Ideal) (iblk m c 9 t) (iblk m c 2 t) (iblk m c 5 t)) (dbranch (R m c) (B m c) (M m c) 2)
    (fun t => point_branch m c t 2 _ _ (g3_read m c t) (b3_read m c t)) t y _ ?_ ?_ <;> blk_simp [idx_out t]

theorem final13 (c : Dev nD) : (dats m 0 c).arrAt 13 (cfgs 0).N
    = fun i : S2048x1024.Idx => dgate (R m c) (B m c) (M m c) (Y1 m c) 0 (i 0) (i 1) := by
  refine (dats m 0 c).arrAt_eq_of_covers 13 _ (by decide +kernel) fun t _ y => ?_
  blk_simp
  rw [left13]
  refine block_entry (fun t => k0_pay4 (F := Ideal) (iblk m c 9 t) (iblk m c 0 t) (iblk m c 3 t) (iblk m c 6 t))
    (dgate (R m c) (B m c) (M m c) (Y1 m c) 0)
    (fun t => point_gate m c t 0 _ _ _ _ (g1_read m c t) (b1_read m c t) (y1_read m c t)) t y _ ?_ ?_ <;> blk_simp [idx_out t]

theorem final14 (c : Dev nD) : (dats m 0 c).arrAt 14 (cfgs 0).N
    = fun i : S2048x1024.Idx => dgate (R m c) (B m c) (M m c) (Y2 m c) 1 (i 0) (i 1) := by
  refine (dats m 0 c).arrAt_eq_of_covers 14 _ (by decide +kernel) fun t _ y => ?_
  blk_simp
  rw [left14]
  refine block_entry (fun t => k0_pay4 (F := Ideal) (iblk m c 9 t) (iblk m c 1 t) (iblk m c 4 t) (iblk m c 7 t))
    (dgate (R m c) (B m c) (M m c) (Y2 m c) 1)
    (fun t => point_gate m c t 1 _ _ _ _ (g2_read m c t) (b2_read m c t) (y2_read m c t)) t y _ ?_ ?_ <;> blk_simp [idx_out t]

theorem final15 (c : Dev nD) : (dats m 0 c).arrAt 15 (cfgs 0).N
    = fun i : S2048x1024.Idx => dgate (R m c) (B m c) (M m c) (Y3 m c) 2 (i 0) (i 1) := by
  refine (dats m 0 c).arrAt_eq_of_covers 15 _ (by decide +kernel) fun t _ y => ?_
  blk_simp
  rw [left15]
  refine block_entry (fun t => k0_pay4 (F := Ideal) (iblk m c 9 t) (iblk m c 2 t) (iblk m c 5 t) (iblk m c 8 t))
    (dgate (R m c) (B m c) (M m c) (Y3 m c) 2)
    (fun t => point_gate m c t 2 _ _ _ _ (g3_read m c t) (b3_read m c t) (y3_read m c t)) t y _ ?_ ?_ <;> blk_simp [idx_out t]

/-- Four points' row sums are the whole column's sum. -/
theorem four_points (t : Fin cfg0.N) (ht : t.val % 4 = 4 - 1) (f : Fin 2048 → Fin 1024 → EReal) (e : Fin 512) :
    ∑ s : Fin 4, ∑ r : Fin 512, f (row ⟨4 * (t.val / 4) + s.val, Pipeline.run_point_lt_of_flush t ht s⟩ r)
        (col ⟨4 * (t.val / 4) + s.val, Pipeline.run_point_lt_of_flush t ht s⟩ e)
      = ∑ q : Fin 2048, f q (col t e) := by
  refine Fin.sum_mul_add_congr fun s k hl => ?_
  refine congrArg₂ f (Fin.ext ?_) (Fin.ext ?_)
  · show (4 * (t.val / 4) + s.val) % 4 * 512 + k.val = s.val * 512 + k.val
    omega
  · show (4 * (t.val / 4) + s.val) / 4 * 512 + e.val = t.val / 4 * 512 + e.val
    omega

theorem final16 (c : Dev nD) : (dats m 0 c).arrAt 16 (cfgs 0).N
    = fun i : S1x1024.Idx => ∑ q : Fin 2048, dgate (R m c) (B m c) (M m c) (Y1 m c) 0 q (i 1) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.1) 4 (fun _ => 0)
    (fun t => k0_pay5 (F := Ideal) (iblk m c 9 t) (iblk m c 0 t) (iblk m c 3 t) (iblk m c 6 t))
    (fun t h j => by rw [outsAt0_A m c t h (by omega) h (by omega) h (by omega)]; refine (congrFun (?_ : _ = k0_pay5 (F := Ideal) (iblk m c 9 t) (iblk m c 0 t) (iblk m c 3 t) (iblk m c 6 t)) j).trans (zero_add _).symm; refine Eq.trans ?_ (sum_first _ _ _ _); frame_out)
    (fun t h j => by rw [outsAt0_B m c t h (by omega) h (by omega) h (by omega)]; refine (congrFun (?_ : _ = k0_pay6 (F := Ideal) (iblk m c 9 t) (iblk m c 0 t) (iblk m c 3 t) (iblk m c 6 t) _) j).trans (acc_apply _ _ _ _ _ j); refine Eq.trans ?_ (acc_first _ _ _ _ _); frame_out)
    t ((flush0_16 t).mp hf) _, zero_add]
  obtain ⟨z, e, rfl⟩ : ∃ (z : Fin 1) (e : Fin 512), y = ix2 z e := ⟨y 0, y 1, eq_ix2 y⟩
  obtain rfl : z = 0 := Subsingleton.elim _ _
  refine ((Fin.sum_fin_congr fun s => point_sum m c _ 0 _ _ _ _ (g1_read m c _) (b1_read m c _) (y1_read m c _) e).trans
    (four_points t ((flush0_16 t).mp hf) (dgate (R m c) (B m c) (M m c) (Y1 m c) 0) e)).trans ?_
  refine Finset.sum_congr rfl fun q _ => congrArg (dgate (R m c) (B m c) (M m c) (Y1 m c) 0 q) (Fin.ext ?_)
  blk_simp [idx_out t]

theorem final17 (c : Dev nD) : (dats m 0 c).arrAt 17 (cfgs 0).N
    = fun i : S1x1024.Idx => ∑ q : Fin 2048, dgate (R m c) (B m c) (M m c) (Y2 m c) 1 q (i 1) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.2.1) 4 (fun _ => 0)
    (fun t => k0_pay5 (F := Ideal) (iblk m c 9 t) (iblk m c 1 t) (iblk m c 4 t) (iblk m c 7 t))
    (fun t h j => by rw [outsAt0_A m c t h (by omega) h (by omega) h (by omega)]; refine (congrFun (?_ : _ = k0_pay5 (F := Ideal) (iblk m c 9 t) (iblk m c 1 t) (iblk m c 4 t) (iblk m c 7 t)) j).trans (zero_add _).symm; refine Eq.trans ?_ (sum_second _ _ _ _); frame_out)
    (fun t h j => by rw [outsAt0_B m c t h (by omega) h (by omega) h (by omega)]; refine (congrFun (?_ : _ = k0_pay6 (F := Ideal) (iblk m c 9 t) (iblk m c 1 t) (iblk m c 4 t) (iblk m c 7 t) _) j).trans (acc_apply _ _ _ _ _ j); refine Eq.trans ?_ (acc_second _ _ _ _ _); frame_out)
    t ((flush0_17 t).mp hf) _, zero_add]
  obtain ⟨z, e, rfl⟩ : ∃ (z : Fin 1) (e : Fin 512), y = ix2 z e := ⟨y 0, y 1, eq_ix2 y⟩
  obtain rfl : z = 0 := Subsingleton.elim _ _
  refine ((Fin.sum_fin_congr fun s => point_sum m c _ 1 _ _ _ _ (g2_read m c _) (b2_read m c _) (y2_read m c _) e).trans
    (four_points t ((flush0_17 t).mp hf) (dgate (R m c) (B m c) (M m c) (Y2 m c) 1) e)).trans ?_
  refine Finset.sum_congr rfl fun q _ => congrArg (dgate (R m c) (B m c) (M m c) (Y2 m c) 1 q) (Fin.ext ?_)
  blk_simp [idx_out t]

theorem final18 (c : Dev nD) : (dats m 0 c).arrAt 18 (cfgs 0).N
    = fun i : S1x1024.Idx => ∑ q : Fin 2048, dgate (R m c) (B m c) (M m c) (Y3 m c) 2 q (i 1) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2.2.2) 4 (fun _ => 0)
    (fun t => k0_pay5 (F := Ideal) (iblk m c 9 t) (iblk m c 2 t) (iblk m c 5 t) (iblk m c 8 t))
    (fun t h j => by rw [outsAt0_A m c t h (by omega) h (by omega) h (by omega)]; refine (congrFun (?_ : _ = k0_pay5 (F := Ideal) (iblk m c 9 t) (iblk m c 2 t) (iblk m c 5 t) (iblk m c 8 t)) j).trans (zero_add _).symm; refine Eq.trans ?_ (congrArg (k0_pay5 (F := Ideal) _ _ · _) (same_bias _)); frame_out)
    (fun t h j => by rw [outsAt0_B m c t h (by omega) h (by omega) h (by omega)]; refine (congrFun (?_ : _ = k0_pay6 (F := Ideal) (iblk m c 9 t) (iblk m c 2 t) (iblk m c 5 t) (iblk m c 8 t) _) j).trans (acc_apply _ _ _ _ _ j); refine Eq.trans ?_ (congrArg (k0_pay6 (F := Ideal) _ _ · _ _) (same_bias _)); frame_out)
    t ((flush0_18 t).mp hf) _, zero_add]
  obtain ⟨z, e, rfl⟩ : ∃ (z : Fin 1) (e : Fin 512), y = ix2 z e := ⟨y 0, y 1, eq_ix2 y⟩
  obtain rfl : z = 0 := Subsingleton.elim _ _
  refine ((Fin.sum_fin_congr fun s => point_sum m c _ 2 _ _ _ _ (g3_read m c _) (b3_read m c _) (y3_read m c _) e).trans
    (four_points t ((flush0_18 t).mp hf) (dgate (R m c) (B m c) (M m c) (Y3 m c) 2) e)).trans ?_
  refine Finset.sum_congr rfl fun q _ => congrArg (dgate (R m c) (B m c) (M m c) (Y3 m c) 2 q) (Fin.ext ?_)
  blk_simp [idx_out t]

end Kernel

section Ref

open Cert.MergeRefIdeal Cert.MergeRefIdeal.Gen Cert.MergeRefIdeal.Read

variable (R : FVec Ideal S2048x4096 .f32) (B : FVec Ideal S3072 .f32) (Y1 Y2 Y3 : FVec Ideal S2048x1024 .bf16) (M : FVec Ideal S2048x1024 .f32)

theorem ref_gate (i : Fin 2048) (c : Fin 3072) : val_main_v12 (F := Ideal) R B (ix2 i c) = gate R B i c := by
  pointwise [val_main_v12, val_main_v11, val_main_v10, val_main_v9, val_main_v8, val_main_v7, val_main_v6, val_main_v5, val_main_v4, val_main_v0,
    val_main_cst, val_main_cst_0]
  rfl

theorem ref_branch1 (i : Fin 2048) (j : Fin 1024) : val_main_v42 (F := Ideal) R B M (ix2 i j) = dbranch R B M 0 i j := by
  pointwise [val_main_v42, val_main_v33, val_main_v24, val_main_v16]
  exact (mul_comm (_ : EReal) _).trans (congrArg (M (ix2 i j) * ·)
    ((congrArg (fun c => val_main_v12 (F := Ideal) R B (ix2 i c)) (Fin.ext (by simp))).trans (ref_gate R B i (part 0 j))))
theorem ref_branch2 (i : Fin 2048) (j : Fin 1024) : val_main_v43 (F := Ideal) R B M (ix2 i j) = dbranch R B M 1 i j := by
  pointwise [val_main_v43, val_main_v29, val_main_v24, val_main_v18]
  exact (mul_comm (_ : EReal) _).trans (congrArg (M (ix2 i j) * ·) (ref_gate R B i (part 1 j)))
theorem ref_branch3 (i : Fin 2048) (j : Fin 1024) : val_main_v44 (F := Ideal) R B M (ix2 i j) = dbranch R B M 2 i j := by
  pointwise [val_main_v44, val_main_v26, val_main_v25, val_main_v21]
  exact (mul_comm (_ : EReal) _).trans (congrArg (M (ix2 i j) * ·) (ref_gate R B i (part 2 j)))

/-- The three products with the incoming gradient, side by side. -/
theorem ref_in1 (i : Fin 2048) (j : Fin 1024) : val_main_v36 (F := Ideal) Y1 Y2 Y3 M (ix2 i (part 0 j)) = M (ix2 i j) * Y1 (ix2 i j) := by
  pointwise [val_main_v36, val_main_v35, val_main_v34, val_main_v32, val_main_v31, val_main_v30, val_main_v28, val_main_v27, val_main_v25, val_main_v24,
    val_main_v3, val_main_v2, val_main_v1, val_main_cst_2, val_main_cst_3, val_main_cst_4]
  rw [dif_neg (by omega), dif_neg (by simp), zero_add, zero_add]
theorem ref_in2 (i : Fin 2048) (j : Fin 1024) : val_main_v36 (F := Ideal) Y1 Y2 Y3 M (ix2 i (part 1 j)) = M (ix2 i j) * Y2 (ix2 i j) := by
  pointwise [val_main_v36, val_main_v35, val_main_v34, val_main_v32, val_main_v31, val_main_v30, val_main_v28, val_main_v27, val_main_v25, val_main_v24,
    val_main_v3, val_main_v2, val_main_v1, val_main_cst_2, val_main_cst_3, val_main_cst_4]
  rw [dif_neg (by omega), zero_add]
theorem ref_in3 (i : Fin 2048) (j : Fin 1024) : val_main_v36 (F := Ideal) Y1 Y2 Y3 M (ix2 i (part 2 j)) = M (ix2 i j) * Y3 (ix2 i j) := by
  pointwise [val_main_v36, val_main_v35, val_main_v34, val_main_v32, val_main_v31, val_main_v30, val_main_v28, val_main_v27, val_main_v25, val_main_v24,
    val_main_v3, val_main_v2, val_main_v1, val_main_cst_2, val_main_cst_3, val_main_cst_4]
  rw [dif_neg (by omega), dif_neg (by omega), add_zero, add_zero]

/-- The gradient before the three gates, at one entry. -/
theorem ref_wide (i : Fin 2048) (c : Fin 3072) : val_main_v37 (F := Ideal) R B Y1 Y2 Y3 M (ix2 i c)
    = val_main_v36 (F := Ideal) Y1 Y2 Y3 M (ix2 i c) * (gate R B i c * (1 - gate R B i c)) := by
  pointwise [val_main_v37, val_main_v15, val_main_v14, val_main_v13, val_main_cst_1]
  rw [ref_gate]

theorem ref_part1 (i : Fin 2048) (j : Fin 1024) : val_main_v37 (F := Ideal) R B Y1 Y2 Y3 M (ix2 i (part 0 j)) = dgate R B M Y1 0 i j := by
  rw [ref_wide, ref_in1]; exact (mul_assoc _ _ _).symm
theorem ref_part2 (i : Fin 2048) (j : Fin 1024) : val_main_v37 (F := Ideal) R B Y1 Y2 Y3 M (ix2 i (part 1 j)) = dgate R B M Y2 1 i j := by
  rw [ref_wide, ref_in2]; exact (mul_assoc _ _ _).symm
theorem ref_part3 (i : Fin 2048) (j : Fin 1024) : val_main_v37 (F := Ideal) R B Y1 Y2 Y3 M (ix2 i (part 2 j)) = dgate R B M Y3 2 i j := by
  rw [ref_wide, ref_in3]; exact (mul_assoc _ _ _).symm

theorem ref_dgate1 (i : Fin 2048) (j : Fin 1024) : val_main_v45 (F := Ideal) R B Y1 Y2 Y3 M (ix2 i j) = dgate R B M Y1 0 i j := by
  pointwise [val_main_v45, val_main_v41]
  exact (congrArg (fun c => val_main_v37 (F := Ideal) R B Y1 Y2 Y3 M (ix2 i c)) (Fin.ext (by simp))).trans (ref_part1 R B Y1 Y2 Y3 M i j)
theorem ref_dgate2 (i : Fin 2048) (j : Fin 1024) : val_main_v46 (F := Ideal) R B Y1 Y2 Y3 M (ix2 i j) = dgate R B M Y2 1 i j := by
  pointwise [val_main_v46, val_main_v41]
  exact (congrArg (fun c => val_main_v37 (F := Ideal) R B Y1 Y2 Y3 M (ix2 i c)) (Fin.ext (by simp))).trans (ref_part2 R B Y1 Y2 Y3 M i j)
theorem ref_dgate3 (i : Fin 2048) (j : Fin 1024) : val_main_v47 (F := Ideal) R B Y1 Y2 Y3 M (ix2 i j) = dgate R B M Y3 2 i j := by
  pointwise [val_main_v47, val_main_v41]
  exact (congrArg (fun c => val_main_v37 (F := Ideal) R B Y1 Y2 Y3 M (ix2 i c)) (Fin.ext (by simp))).trans (ref_part3 R B Y1 Y2 Y3 M i j)

/-- The bias's gradient at one entry: the sum over the rows. -/
theorem ref_rows (c : Fin 3072) : val_main_v40 (F := Ideal) R B Y1 Y2 Y3 M (ix1 c) = ∑ q : Fin 2048, val_main_v37 (F := Ideal) R B Y1 Y2 Y3 M (ix2 q c) := by
  pointwise [val_main_v40, val_main_v39, val_main_v38, val_main_cst_5, val_main_cst_6]
  first
    | exact Fin.sum_univ_one _
    | skip

theorem ref_sum1 (j : Fin 1024) : val_main_v49 (F := Ideal) R B Y1 Y2 Y3 M (ix2 0 j) = ∑ q : Fin 2048, dgate R B M Y1 0 q j := by
  pointwise [val_main_v49, val_main_v48]
  exact ((congrArg (fun c => val_main_v40 (F := Ideal) R B Y1 Y2 Y3 M (ix1 c)) (Fin.ext (by simp))).trans (ref_rows R B Y1 Y2 Y3 M (part 0 j))).trans
    (Finset.sum_congr rfl fun q _ => ref_part1 R B Y1 Y2 Y3 M q j)
theorem ref_sum2 (j : Fin 1024) : val_main_v51 (F := Ideal) R B Y1 Y2 Y3 M (ix2 0 j) = ∑ q : Fin 2048, dgate R B M Y2 1 q j := by
  pointwise [val_main_v51, val_main_v50]
  exact ((congrArg (fun c => val_main_v40 (F := Ideal) R B Y1 Y2 Y3 M (ix1 c)) (Fin.ext (by simp))).trans (ref_rows R B Y1 Y2 Y3 M (part 1 j))).trans
    (Finset.sum_congr rfl fun q _ => ref_part2 R B Y1 Y2 Y3 M q j)
theorem ref_sum3 (j : Fin 1024) : val_main_v53 (F := Ideal) R B Y1 Y2 Y3 M (ix2 0 j) = ∑ q : Fin 2048, dgate R B M Y3 2 q j := by
  pointwise [val_main_v53, val_main_v52]
  exact ((congrArg (fun c => val_main_v40 (F := Ideal) R B Y1 Y2 Y3 M (ix1 c)) (Fin.ext (by simp))).trans (ref_rows R B Y1 Y2 Y3 M (part 2 j))).trans
    (Finset.sum_congr rfl fun q _ => ref_part3 R B Y1 Y2 Y3 M q j)

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2.2.2.2.2.2.2, sem_eq_zero_of_no_sems (by decide) r.2⟩) (Cert.MergeRefIdeal.Value.run m ρ)

end Ref

theorem algebraic : Cert.algebraic_MergeIdeal_MergeRefIdeal := by
  intro m ρ m' ρ' _ hag
  refine ⟨fun c i => dbranch (R m c) (B m c) (M m c) 0 (i 0) (i 1),
    fun c i => dbranch (R m c) (B m c) (M m c) 1 (i 0) (i 1),
    fun c i => dbranch (R m c) (B m c) (M m c) 2 (i 0) (i 1),
    fun c i => dgate (R m c) (B m c) (M m c) (Y1 m c) 0 (i 0) (i 1),
    fun c i => dgate (R m c) (B m c) (M m c) (Y2 m c) 1 (i 0) (i 1),
    fun c i => dgate (R m c) (B m c) (M m c) (Y3 m c) 2 (i 0) (i 1),
    fun c (i : Cert.MergeIdeal.S1x1024.Idx) => (show EReal from ∑ q : Fin 2048, dgate (R m c) (B m c) (M m c) (Y1 m c) 0 q (i 1)),
    fun c (i : Cert.MergeIdeal.S1x1024.Idx) => (show EReal from ∑ q : Fin 2048, dgate (R m c) (B m c) (M m c) (Y2 m c) 1 q (i 1)),
    fun c (i : Cert.MergeIdeal.S1x1024.Idx) => (show EReal from ∑ q : Fin 2048, dgate (R m c) (B m c) (M m c) (Y3 m c) 2 q (i 1)),
    (θ_run _ _ _).mono (fun r h c => ?_) (Cert.MergeIdeal.Value.run_blocks m ρ),
    (θ_run _ _ _).mono (fun r h c => ?_) (Cert.MergeRefIdeal.Value.run m' ρ')⟩
  · exact ⟨(h c).1.trans (final10 m c), (h c).2.1.trans (final11 m c), (h c).2.2.1.trans (final12 m c), (h c).2.2.2.1.trans (final13 m c), (h c).2.2.2.2.1.trans (final14 m c), (h c).2.2.2.2.2.1.trans (final15 m c), (h c).2.2.2.2.2.2.1.trans (final16 m c), (h c).2.2.2.2.2.2.2.1.trans (final17 m c), (h c).2.2.2.2.2.2.2.2.1.trans (final18 m c), (h c).2.2.2.2.2.2.2.2.2⟩
  · refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    · rw [Cert.MergeRefIdeal.Read.val_main_v42_eq, (hag c).1, (hag c).2.1, (hag c).2.2.2.2.2]
      funext i
      exact (congrArg _ (eq_ix2 i)).trans (ref_branch1 _ _ _ (i 0) (i 1))
    · rw [Cert.MergeRefIdeal.Read.val_main_v43_eq, (hag c).1, (hag c).2.1, (hag c).2.2.2.2.2]
      funext i
      exact (congrArg _ (eq_ix2 i)).trans (ref_branch2 _ _ _ (i 0) (i 1))
    · rw [Cert.MergeRefIdeal.Read.val_main_v44_eq, (hag c).1, (hag c).2.1, (hag c).2.2.2.2.2]
      funext i
      exact (congrArg _ (eq_ix2 i)).trans (ref_branch3 _ _ _ (i 0) (i 1))
    · rw [Cert.MergeRefIdeal.Read.val_main_v45_eq, (hag c).1, (hag c).2.1, (hag c).2.2.1, (hag c).2.2.2.1, (hag c).2.2.2.2.1, (hag c).2.2.2.2.2]
      funext i
      exact (congrArg _ (eq_ix2 i)).trans (ref_dgate1 _ _ _ _ _ _ (i 0) (i 1))
    · rw [Cert.MergeRefIdeal.Read.val_main_v46_eq, (hag c).1, (hag c).2.1, (hag c).2.2.1, (hag c).2.2.2.1, (hag c).2.2.2.2.1, (hag c).2.2.2.2.2]
      funext i
      exact (congrArg _ (eq_ix2 i)).trans (ref_dgate2 _ _ _ _ _ _ (i 0) (i 1))
    · rw [Cert.MergeRefIdeal.Read.val_main_v47_eq, (hag c).1, (hag c).2.1, (hag c).2.2.1, (hag c).2.2.2.1, (hag c).2.2.2.2.1, (hag c).2.2.2.2.2]
      funext i
      exact (congrArg _ (eq_ix2 i)).trans (ref_dgate3 _ _ _ _ _ _ (i 0) (i 1))
    · rw [Cert.MergeRefIdeal.Read.val_main_v49_eq, (hag c).1, (hag c).2.1, (hag c).2.2.1, (hag c).2.2.2.1, (hag c).2.2.2.2.1, (hag c).2.2.2.2.2]
      funext i
      exact (congrArg _ ((eq_ix2 i).trans (congrArg (ix2 · _) (Subsingleton.elim (α := Fin 1) (i 0) 0)))).trans (ref_sum1 _ _ _ _ _ _ (i 1))
    · rw [Cert.MergeRefIdeal.Read.val_main_v51_eq, (hag c).1, (hag c).2.1, (hag c).2.2.1, (hag c).2.2.2.1, (hag c).2.2.2.2.1, (hag c).2.2.2.2.2]
      funext i
      exact (congrArg _ ((eq_ix2 i).trans (congrArg (ix2 · _) (Subsingleton.elim (α := Fin 1) (i 0) 0)))).trans (ref_sum2 _ _ _ _ _ _ (i 1))
    · rw [Cert.MergeRefIdeal.Read.val_main_v53_eq, (hag c).1, (hag c).2.1, (hag c).2.2.1, (hag c).2.2.2.1, (hag c).2.2.2.2.1, (hag c).2.2.2.2.2]
      funext i
      exact (congrArg _ ((eq_ix2 i).trans (congrArg (ix2 · _) (Subsingleton.elim (α := Fin 1) (i 0) 0)))).trans (ref_sum3 _ _ _ _ _ _ (i 1))

end Cert.MergeProof
-- ==== Proof.Sf.lean ====
/- The gelu and the spatial gating of one example, a chunk of 128 positions at a time. -/
module

public import proofs.«01_k».proof.Defs
public import proofs.«01_k».proof.Proof.Gen.SfIdeal.Value
public import proofs.«01_k».proof.Proof.Gen.SfRefIdeal.Run
public import proofs.«01_k».proof.Proof.Gen.SfRefIdeal.Read
public import Idealize.ShloMosaic.Lib.Pointwise
public import Idealize.ShloMosaic.Lib.IdealHost
public import Idealize.ShloMosaic.Lib.Pipeline.ValueKit

@[expose] public section

set_option maxRecDepth 16384

noncomputable section

namespace Cert.SfProof

open Idealize.ShloMosaic Idealize.ShloMosaic.TcCoe Idealize.SL.Sem

/-- The gelu by its tanh form. -/
def gel (x : EReal) : EReal :=
  Ideal.ofBits .f32 0x3F000000#32 * x * (1
    + Ideal.tanh (Ideal.ofBits .f32 0x3F4C422A#32 * (x + Ideal.ofBits .f32 0x3D372713#32 * x * x * x)))

/-- The same with the products taken in another order. -/
theorem gel_eq (x : EReal) : x * (Ideal.ofBits .f32 0x3F000000#32 * (1
    + Ideal.tanh (Ideal.ofBits .f32 0x3F4C422A#32 * (x + Ideal.ofBits .f32 0x3D372713#32 * (x * x * x))))) = gel x := by
  unfold gel
  rw [← mul_assoc x, mul_comm x, ← mul_assoc _ (x * x), ← mul_assoc _ x x]

/-- A row over its root mean square, times the gains. -/
def unit (z g : Fin 256 → EReal) (j : Fin 256) : EReal :=
  z j * Ideal.rsqrt (Ideal.div (∑ k : Fin 256, z k * z k) (Ideal.ofBits .f32 0x43800000#32) + Ideal.ofBits .f32 0x358637BD#32) * g j

/-- The causal weights. -/
abbrev causal (W : FVec Ideal ⟨3, ![4, 128, 128]⟩ .f32) : FVec Ideal ⟨3, ![4, 128, 128]⟩ .f32 := Cert.SfRefIdeal.Read.val_main_v34 (F := Ideal) W

/-- The group of a lane. -/
abbrev grp (j : Fin 256) : Fin 4 := ⟨j.val / 64, by omega⟩

/-- The normalised second half of the gelu. -/
def vals (X : FVec Ideal ⟨2, ![2048, 4096]⟩ .f32) (G : FVec Ideal ⟨1, ![256]⟩ .f32) (i : Fin 2048) (j : Fin 256) : EReal :=
  unit (fun k => gel (X (ix2 i ⟨768 + k.val, by omega⟩))) (fun k => G (ix1 k)) j

/-- The gated values. -/
def gated (X : FVec Ideal ⟨2, ![2048, 4096]⟩ .f32) (G : FVec Ideal ⟨1, ![256]⟩ .f32) (W : FVec Ideal ⟨3, ![4, 128, 128]⟩ .f32)
    (B : FVec Ideal ⟨2, ![4, 128]⟩ .f32) (i : Fin 2048) (j : Fin 256) : EReal :=
  gel (X (ix2 i ⟨512 + j.val, by omega⟩)) * (B (ix2 (grp j) ⟨i.val % 128, by omega⟩)
    + ∑ s : Fin 128, causal W (ix3 (grp j) ⟨i.val % 128, by omega⟩ s) * vals X G ⟨i.val / 128 * 128 + s.val, by omega⟩ j)

section Kernel

open Cert.SfIdeal Cert.SfIdeal.Gen

variable (m : (ℓ : Loc nD τ sig) → Buf (Elt Ideal) ℓ)

/-- The lanes' numbers. -/
abbrev lanes : IVec S128x256 32 := iota .tc S128x256 32 [1] iota_S128x256_d1_w32
theorem lanes_apply (t : Fin 128) (j : Fin 256) : lanes (ix2 t j) = BitVec.ofNat 32 j.val := by pointwise []

/-- An array on the lanes from `lo` to `hi`, zero elsewhere. -/
abbrev part (lo hi : BitVec 32) (y : FVec Ideal S128x256 .f32) : FVec Ideal S128x256 .f32 :=
  select (andi (cmpi .sge lanes (broadcast S128x256 lo)) (cmpi .slt lanes (broadcast S128x256 hi))) y
    (broadcast S128x256 (Scalar.ofBits (F := Ideal) .f32 0x00000000#32))

theorem mask_eq : ∀ (g : Fin 4) (j : Fin 256), Scalar.andi (Scalar.cmpi .sge (BitVec.ofNat 32 j.val) (BitVec.ofNat 32 (64 * g.val)))
    (Scalar.cmpi .slt (BitVec.ofNat 32 j.val) (BitVec.ofNat 32 (64 * g.val + 64))) = if grp j = g then 1#1 else 0#1 := by
  decide +kernel

theorem part_apply (g : Fin 4) (y : FVec Ideal S128x256 .f32) (t : Fin 128) (j : Fin 256) :
    part (BitVec.ofNat 32 (64 * g.val)) (BitVec.ofNat 32 (64 * g.val + 64)) y (ix2 t j) = if grp j = g then y (ix2 t j) else 0 := by
  refine (show _ = Scalar.select (Scalar.andi (Scalar.cmpi .sge (lanes (ix2 t j)) (BitVec.ofNat 32 (64 * g.val)))
    (Scalar.cmpi .slt (lanes (ix2 t j)) (BitVec.ofNat 32 (64 * g.val + 64)))) (y (ix2 t j)) (Scalar.ofBits (F := Ideal) .f32 0x00000000#32) from rfl).trans ?_
  rw [lanes_apply, mask_eq]
  split
  · rfl
  · exact Ideal.ofBits_zero_f32

/-- One group's product. -/
abbrev prod (w : Vec Ideal S1x128x128 .bf16) (v : FVec Ideal S128x256 .bf16) : FVec Ideal S128x256 .f32 :=
  matmul dot_S128x128_S128x256_S128x256_1_0_0_1_n_n none (shapeCast S128x128 w shapeCasts_S1x128x128_S128x128 : FVec Ideal S128x128 .bf16) v (constant S128x256 .f32 0x00000000#32)
theorem prod_apply (w : Vec Ideal S1x128x128 .bf16) (v : FVec Ideal S128x256 .bf16) (t : Fin 128) (j : Fin 256) :
    prod w v (ix2 t j) = ∑ s : Fin 128, w (ix3 0 t s) * v (ix2 s j) := by
  pointwise []

/-- The biases and the four groups' products. -/
abbrev mix (v : FVec Ideal S128x256 .bf16) (b : Vec Ideal S128x256 .f32) (w0 w1 w2 w3 : Vec Ideal S1x128x128 .bf16) : FVec Ideal S128x256 .f32 :=
  addf (addf (addf (addf (shapeCast S128x256 b shapeCasts_S128x256_S128x256) (part 0#32 64#32 (prod w0 v))) (part 64#32 128#32 (prod w1 v)))
    (part 128#32 192#32 (prod w2 v))) (part 192#32 256#32 (prod w3 v))

theorem mix_apply (v : FVec Ideal S128x256 .bf16) (b : Vec Ideal S128x256 .f32) (w : Fin 4 → Vec Ideal S1x128x128 .bf16) (t : Fin 128) (j : Fin 256) :
    mix v b (w 0) (w 1) (w 2) (w 3) (ix2 t j) = b (ix2 t j) + ∑ s : Fin 128, w (grp j) (ix3 0 t s) * v (ix2 s j) := by
  have e : mix v b (w 0) (w 1) (w 2) (w 3) (ix2 t j) = b (ix2 t j) + (if grp j = 0 then prod (w 0) v (ix2 t j) else 0)
      + (if grp j = 1 then prod (w 1) v (ix2 t j) else 0) + (if grp j = 2 then prod (w 2) v (ix2 t j) else 0)
      + (if grp j = 3 then prod (w 3) v (ix2 t j) else 0) := by
    have hb : shapeCast S128x256 b shapeCasts_S128x256_S128x256 (ix2 t j) = b (ix2 t j) := by pointwise []
    exact congrArg₂ (· + ·) (congrArg₂ (· + ·) (congrArg₂ (· + ·) (congrArg₂ (· + ·) hb (part_apply 0 _ t j)) (part_apply 1 _ t j)) (part_apply 2 _ t j))
      (part_apply 3 _ t j)
  rw [e, ← prod_apply]
  generalize grp j = g
  fin_cases g <;> simp

/-- The gelu of an array, times another. -/
abbrev gate (u : Vec Ideal S128x256 .f32) (y : FVec Ideal S128x256 .f32) : FVec Ideal S128x256 .bf16 :=
  truncf .bf16 (mulf (mulf (mulf (broadcast S128x256 (Scalar.ofBits (F := Ideal) .f32 0x3F000000#32)) u)
    (addf (broadcast S128x256 (Scalar.ofBits (F := Ideal) .f32 0x3F800000#32))
      (tanh (mulf (broadcast S128x256 (Scalar.ofBits (F := Ideal) .f32 0x3F4C422A#32))
        (addf u (mulf (mulf (mulf (broadcast S128x256 (Scalar.ofBits (F := Ideal) .f32 0x3D372713#32)) u) u) u)))))) y) bitsLt_bf16_f32
theorem gate_apply (u : Vec Ideal S128x256 .f32) (y : FVec Ideal S128x256 .f32) (t : Fin 128) (j : Fin 256) :
    gate u y (ix2 t j) = gel (u (ix2 t j)) * y (ix2 t j) := by
  pointwise []
  rfl

theorem norm_apply (x : Vec Ideal S512x256 .f32) (g : Vec Ideal S1x256 .f32) (q : Fin 512) (j : Fin 256) :
    k0_pay2 (F := Ideal) x g (ix2 q j) = unit (fun k => gel (x (ix2 q k))) (fun k => g (ix2 0 k)) j := by
  pointwise [k0_pay2]
  rfl

/-- The first chunk's values. -/
abbrev first (y : FVec Ideal S512x256 .f32) : FVec Ideal S128x256 .bf16 :=
  truncf .bf16 (extractStridedSlice S128x256 ![0, 0] y slices_S512x256_o0_0_S128x256) bitsLt_bf16_f32
theorem first_apply (y : FVec Ideal S512x256 .f32) (s : Fin 128) (j : Fin 256) : first y (ix2 s j) = y (ix2 ⟨128 * 0 + s.val, by omega⟩ j) := by
  pointwise []
theorem second_apply (y : FVec Ideal S512x256 .f32) (s : Fin 128) (j : Fin 256) : k0_pay9 (F := Ideal) y (ix2 s j) = y (ix2 ⟨128 * 1 + s.val, by omega⟩ j) := by
  pointwise [k0_pay9]
theorem third_apply (y : FVec Ideal S512x256 .f32) (s : Fin 128) (j : Fin 256) : k0_pay16 (F := Ideal) y (ix2 s j) = y (ix2 ⟨128 * 2 + s.val, by omega⟩ j) := by
  pointwise [k0_pay16]
theorem fourth_apply (y : FVec Ideal S512x256 .f32) (s : Fin 128) (j : Fin 256) : k0_pay20 (F := Ideal) y (ix2 s j) = y (ix2 ⟨128 * 3 + s.val, by omega⟩ j) := by
  pointwise [k0_pay20]

section Payloads

variable (x : Vec Ideal S512x256 .f32) (g : Vec Ideal S1x256 .f32) (b u : Vec Ideal S128x256 .f32) (w0 w1 w2 w3 : Vec Ideal S1x128x128 .bf16)

theorem pay_first : k0_pay8 (F := Ideal) (k0_pay7 lanes (k0_pay3 x g) (k0_pay4 b) k0_pay5 (k0_pay6 w0) (constant S128x256 .f32 0x00000000#32) w1 w2 w3) u
    = gate u (mix (first (k0_pay2 x g)) b w0 w1 w2 w3) := rfl
theorem pay_second (y : FVec Ideal S512x256 .f32) : k0_pay15 (F := Ideal) (k0_pay12 lanes (k0_pay9 y) (k0_pay10 y lanes b w0) (k0_pay11 lanes) w1 w2 w3) (k0_pay13 u)
    (k0_pay14 u) (Scalar.ofBits .f32 0x3F800000#32) = gate u (mix (k0_pay9 y) b w0 w1 w2 w3) := rfl
theorem pay_third (y : FVec Ideal S512x256 .f32) : k0_pay19 (F := Ideal) lanes (k0_pay16 y) (k0_pay17 y lanes b w0 w1) (k0_pay18 lanes) w2 w3 u
    = gate u (mix (k0_pay16 y) b w0 w1 w2 w3) := rfl
theorem pay_fourth (y : FVec Ideal S512x256 .f32) : k0_pay1 (F := Ideal) (k0_pay20 y) (k0_pay22 lanes (k0_pay20 y) (k0_pay21 b) 0#32 w0 w1 w2) (k0_pay23 lanes) w3 u
    = gate u (mix (k0_pay20 y) b w0 w1 w2 w3) := rfl

end Payloads

/-- One group's weights. -/
abbrev wgt (w : Vec Ideal S4x128x128 .bf16) : Fin 4 → Vec Ideal S1x128x128 .bf16 := fun g => match g with
  | 0 => View.ld w r0_3
  | 1 => View.ld w r0_4
  | 2 => View.ld w r0_5
  | 3 => View.ld w r0_6
theorem wgt_apply (w : Vec Ideal S4x128x128 .bf16) (g : Fin 4) (t s : Fin 128) : wgt w g (ix3 0 t s) = w (ix3 g t s) := by
  fin_cases g <;> (refine congrArg w ?_; funext a; fin_cases a <;> exact Fin.ext (by simp [Rect.unit, LoadRect.idx]))

/-- What one grid point leaves. -/
def blockOut (u : Vec Ideal S512x256 .f32) (y : FVec Ideal S512x256 .f32) (w : Vec Ideal S4x128x128 .bf16) (b : Vec Ideal S128x256 .f32)
    (q : Fin 512) (j : Fin 256) : EReal :=
  gel (u (ix2 q j)) * (b (ix2 ⟨q.val % 128, by omega⟩ j) + ∑ s : Fin 128, w (ix3 (grp j) ⟨q.val % 128, by omega⟩ s) * y (ix2 ⟨q.val / 128 * 128 + s.val, by omega⟩ j))

theorem piece_apply (k : Fin 4) (u : Vec Ideal S512x256 .f32) (y : FVec Ideal S512x256 .f32) (w : Vec Ideal S4x128x128 .bf16) (b : Vec Ideal S128x256 .f32)
    (v : FVec Ideal S128x256 .bf16) (uk : Vec Ideal S128x256 .f32) (hv : ∀ (s : Fin 128) (j : Fin 256), v (ix2 s j) = y (ix2 ⟨128 * k.val + s.val, by omega⟩ j))
    (t : Fin 128) (j : Fin 256) (q : Fin 512) (hq : q.val = 128 * k.val + t.val) (hu : uk (ix2 t j) = u (ix2 q j)) :
    gate uk (mix v b (View.ld w r0_3) (View.ld w r0_4) (View.ld w r0_5) (View.ld w r0_6)) (ix2 t j) = blockOut u y w b q j := by
  have ht : t = ⟨q.val % 128, by omega⟩ := Fin.ext (by show t.val = q.val % 128; omega)
  refine (gate_apply _ _ t j).trans (congrArg₂ (· * ·) (congrArg gel hu) ((mix_apply v b (wgt w) t j).trans ?_))
  refine congrArg₂ (· + ·) (congrArg (fun t => b (ix2 t j)) ht) (Finset.sum_congr rfl fun s _ => congrArg₂ (· * ·) ?_ ?_)
  · exact (wgt_apply w (grp j) t s).trans (congrArg (fun t => w (ix3 (grp j) t s)) ht)
  · refine (hv s j).trans (congrArg (fun i => y (ix2 i j)) (Fin.ext ?_))
    show 128 * k.val + s.val = q.val / 128 * 128 + s.val
    omega

theorem whole_v (x : Vec Ideal S512x256 .f32) : View.ld x r0_0 = x := by
  funext y
  refine congrArg x ?_
  funext a
  fin_cases a <;> exact Fin.ext (by simp [Rect.unit, LoadRect.idx])
theorem whole_g (x : Vec Ideal S1x256 .f32) : View.ld x r0_1 = x := by
  funext y
  refine congrArg x ?_
  funext a
  fin_cases a <;> exact Fin.ext (by simp [Rect.unit, LoadRect.idx])
theorem whole_b (x : Vec Ideal S128x256 .f32) : View.ld x r0_2 = x := by
  funext y
  refine congrArg x ?_
  funext a
  fin_cases a <;> exact Fin.ext (by simp [Rect.unit, LoadRect.idx])

theorem rect_row (z : S512x256.Idx) (q : Fin 512) (j : Fin 256) (h0 : (z 0).val = q.val) (h1 : (z 1).val = j.val) : z = ix2 q j :=
  (eq_ix2 z).trans (congrArg₂ ix2 (Fin.ext h0) (Fin.ext h1))

theorem left (x0 x1 : Vec Ideal S512x256 .f32) (x2 : Vec Ideal S1x256 .f32) (x3 : Vec Ideal S4x128x128 .bf16) (x4 : Vec Ideal S128x256 .f32)
    (q : Fin 512) (j : Fin 256) : out0_5 (F := Ideal) x0 x1 x2 x3 x4 (ix2 q j) = blockOut x0 (k0_pay2 (F := Ideal) x1 x2) x3 x4 q j := by
  have e : blockOut x0 (k0_pay2 (F := Ideal) x1 x2) x3 x4 q j
      = blockOut x0 (k0_pay2 (F := Ideal) (View.ld x1 r0_0) (View.ld x2 r0_1)) x3 (View.ld x4 r0_2) q j := by
    rw [whole_v, whole_g, whole_b]
  have lane : ∀ x : S128x256.Idx, j.val = (x 1).val → x = ix2 (x 0 : Fin 128) j := fun x h =>
    (eq_ix2 x).trans (congrArg (ix2 (x 0 : Fin 128)) (Fin.ext h.symm))
  rw [e]
  canon_tiles x h using cover0_5 ..
  · rw [lane x h1]
    refine (congrFun (pay_fourth (View.ld x4 r0_2) (View.ld x0 r0_10) (View.ld x3 r0_3) (View.ld x3 r0_4) (View.ld x3 r0_5) (View.ld x3 r0_6) (k0_pay2 (F := Ideal) (View.ld x1 r0_0) (View.ld x2 r0_1))) _).trans
      (piece_apply 3 x0 _ x3 _ _ (View.ld x0 r0_10) (fourth_apply _) (x 0) j q (h0.trans (by simp)) (congrArg x0 (rect_row _ _ _ ?_ ?_)))
    · exact (Rect.idx_unit_val ..).trans h0.symm
    · exact (Rect.idx_unit_val ..).trans (Nat.zero_add _)
  · rw [lane x h1]
    refine (congrFun (pay_third (View.ld x4 r0_2) (View.ld x0 r0_9) (View.ld x3 r0_3) (View.ld x3 r0_4) (View.ld x3 r0_5) (View.ld x3 r0_6) (k0_pay2 (F := Ideal) (View.ld x1 r0_0) (View.ld x2 r0_1))) _).trans
      (piece_apply 2 x0 _ x3 _ _ (View.ld x0 r0_9) (third_apply _) (x 0) j q (h0.trans (by simp)) (congrArg x0 (rect_row _ _ _ ?_ ?_)))
    · exact (Rect.idx_unit_val ..).trans h0.symm
    · exact (Rect.idx_unit_val ..).trans (Nat.zero_add _)
  · rw [lane x h1]
    refine (congrFun (pay_second (View.ld x4 r0_2) (View.ld x0 r0_8) (View.ld x3 r0_3) (View.ld x3 r0_4) (View.ld x3 r0_5) (View.ld x3 r0_6) (k0_pay2 (F := Ideal) (View.ld x1 r0_0) (View.ld x2 r0_1))) _).trans
      (piece_apply 1 x0 _ x3 _ _ (View.ld x0 r0_8) (second_apply _) (x 0) j q (h0.trans (by simp)) (congrArg x0 (rect_row _ _ _ ?_ ?_)))
    · exact (Rect.idx_unit_val ..).trans h0.symm
    · exact (Rect.idx_unit_val ..).trans (Nat.zero_add _)
  · rw [lane x h1]
    refine (congrFun (pay_first (View.ld x1 r0_0) (View.ld x2 r0_1) (View.ld x4 r0_2) (View.ld x0 r0_7) (View.ld x3 r0_3) (View.ld x3 r0_4) (View.ld x3 r0_5) (View.ld x3 r0_6)) _).trans
      (piece_apply 0 x0 _ x3 _ _ (View.ld x0 r0_7) (first_apply _) (x 0) j q (h0.trans (by simp)) (congrArg x0 (rect_row _ _ _ ?_ ?_)))
    · exact (Rect.idx_unit_val ..).trans ((Nat.zero_add _).trans h0.symm)
    · exact (Rect.idx_unit_val ..).trans (Nat.zero_add _)

theorem idx : ∀ t : Fin cfg0.N, win0_0.index t = ![t.val, 2] ∧ win0_1.index t = ![t.val, 3] ∧ win0_2.index t = ![0, 0] ∧ win0_3.index t = ![0, 0, 0]
    ∧ win0_4.index t = ![0, 0] ∧ win0_5.index t = ![t.val, 0] := by decide +kernel

abbrev X (c : Dev nD) : FVec Ideal S2048x4096 .f32 := m ((c.tc : Thread nD τ).loc main_arg0)
abbrev G (c : Dev nD) : FVec Ideal S256 .f32 := m ((c.tc : Thread nD τ).loc main_arg1)
abbrev Ws (c : Dev nD) : FVec Ideal S4x128x128 .f32 := m ((c.tc : Thread nD τ).loc main_arg2)
abbrev Bs (c : Dev nD) : FVec Ideal S4x128 .f32 := m ((c.tc : Thread nD τ).loc main_arg3)

/-- The row of a grid point. -/
abbrev row (t : Fin cfg0.N) (q : Fin 512) : Fin 2048 := ⟨t.val * 512 + q.val, by have h : t.val < 4 := t.isLt; omega⟩

theorem u_read (c : Dev nD) (t : Fin cfg0.N) (q : Fin 512) (j : Fin 256) :
    (show Vec Ideal S512x256 .f32 from iblk m c 0 t) (ix2 q j) = X m c (ix2 (row t q) ⟨512 + j.val, by omega⟩) := by
  blk_ext [iblk, V, idx t]
theorem v_read (c : Dev nD) (t : Fin cfg0.N) (q : Fin 512) (j : Fin 256) :
    (show Vec Ideal S512x256 .f32 from iblk m c 1 t) (ix2 q j) = X m c (ix2 (row t q) ⟨768 + j.val, by omega⟩) := by
  blk_ext [iblk, V, idx t]
theorem gain_eq (c : Dev nD) (j : Fin 256) : (show Vec Ideal S1x256 .f32 from V m c main_v9) (ix2 0 j) = G m c (ix1 j) := by
  have h : V m c main_v9 = shapeCast S1x256 (G m c) shapeCasts_S256_S1x256 := by
    unfold_abbrev_sides
    simp only [hostOps0, hostOps0_1, hostOps0_2, List.flatten_cons, List.flatten_nil, List.append_nil, List.cons_append, List.nil_append]
    after_results
    rfl
  rw [h]
  pointwise []
theorem weights_eq (c : Dev nD) : V m c main_v5 = causal (Ws m c) := by
  unfold_abbrev_sides
  simp only [hostOps0, hostOps0_1, hostOps0_2, List.flatten_cons, List.flatten_nil, List.append_nil, List.cons_append, List.nil_append]
  after_results
  rfl
theorem bias_eq (c : Dev nD) (t : Fin 128) (j : Fin 256) : (show Vec Ideal S128x256 .f32 from V m c main_v8) (ix2 t j) = Bs m c (ix2 (grp j) t) := by
  have h : V m c main_v8 = shapeCast S128x256 (broadcastInDim S128x4x64 ![0, 1] bcast_S128x4_S128x4x64_0_1
      (transpose S128x4 [1, 0] (Bs m c) transposes_S4x128_S128x4_1_0)) shapeCasts_S128x4x64_S128x256 := by
    unfold_abbrev_sides
    simp only [hostOps0, hostOps0_1, hostOps0_2, List.flatten_cons, List.flatten_nil, List.append_nil, List.cons_append, List.nil_append]
    after_results
    rfl
  rw [h]
  pointwise []
theorem g_read (c : Dev nD) (t : Fin cfg0.N) (j : Fin 256) : (show Vec Ideal S1x256 .f32 from iblk m c 2 t) (ix2 0 j) = G m c (ix1 j) := by
  refine Eq.trans ?_ (gain_eq m c j)
  blk_ext [iblk, idx t]
theorem w_read (c : Dev nD) (t : Fin cfg0.N) (g : Fin 4) (i s : Fin 128) :
    (show Vec Ideal S4x128x128 .bf16 from iblk m c 3 t) (ix3 g i s) = causal (Ws m c) (ix3 g i s) := by
  refine Eq.trans ?_ (congrFun (weights_eq m c) (ix3 g i s))
  blk_ext [iblk, idx t]
theorem b_read (c : Dev nD) (t : Fin cfg0.N) (i : Fin 128) (j : Fin 256) :
    (show Vec Ideal S128x256 .f32 from iblk m c 4 t) (ix2 i j) = Bs m c (ix2 (grp j) i) := by
  refine Eq.trans ?_ (bias_eq m c i j)
  blk_ext [iblk, idx t]

theorem point (c : Dev nD) (t : Fin cfg0.N) (q : Fin 512) (j : Fin 256) :
    blockOut (iblk m c 0 t) (k0_pay2 (F := Ideal) (iblk m c 1 t) (iblk m c 2 t)) (iblk m c 3 t) (iblk m c 4 t) q j
      = gated (X m c) (G m c) (Ws m c) (Bs m c) (row t q) j := by
  have e : (⟨q.val % 128, by omega⟩ : Fin 128) = ⟨(row t q).val % 128, by omega⟩ := Fin.ext (by show q.val % 128 = (t.val * 512 + q.val) % 128; omega)
  refine congrArg₂ (· * ·) (congrArg gel (u_read m c t q j)) (congrArg₂ (· + ·) ((b_read m c t _ j).trans (congrArg (fun i => Bs m c (ix2 (grp j) i)) e))
    (Finset.sum_congr rfl fun s _ => congrArg₂ (· * ·) ((w_read m c t _ _ s).trans (congrArg (fun i => causal (Ws m c) (ix3 (grp j) i s)) e)) ?_))
  refine (norm_apply _ _ _ j).trans ?_
  refine (congrArg₂ (unit · · j) (funext fun k => congrArg gel (v_read m c t _ k)) (funext fun k => g_read m c t k)).trans ?_
  refine congrArg (vals (X m c) (G m c) · j) (Fin.ext ?_)
  show t.val * 512 + (q.val / 128 * 128 + s.val) = (t.val * 512 + q.val) / 128 * 128 + s.val
  omega

theorem final (c : Dev nD) : (dats m 0 c).arrAt 5 (cfgs 0).N
    = fun i : S2048x256.Idx => gated (X m c) (G m c) (Ws m c) (Bs m c) (i 0) (i 1) := by
  refine (dats m 0 c).arrAt_eq_of_covers 5 _ (by decide +kernel) fun t _ y => ?_
  blk_simp
  rw [after0_5]
  obtain ⟨q, j, rfl⟩ : ∃ (q : Fin 512) (j : Fin 256), y = ix2 q j := ⟨y 0, y 1, eq_ix2 y⟩
  refine ((left _ _ _ _ _ q j).trans (point m c t q j)).trans
    (congrArg₂ (gated (X m c) (G m c) (Ws m c) (Bs m c)) (Fin.ext ?_) (Fin.ext ?_))
  · blk_simp [idx t]
  · blk_simp [idx t]

end Kernel

section Ref

open Cert.SfRefIdeal Cert.SfRefIdeal.Gen Cert.SfRefIdeal.Read

variable (X : FVec Ideal S2048x4096 .f32) (G : FVec Ideal S256 .f32) (W : FVec Ideal S4x128x128 .f32) (B : FVec Ideal S4x128 .f32)

theorem ref_act (i : Fin 2048) (l : Fin 512) : val_main_v13 (F := Ideal) X (ix2 i l) = gel (X (ix2 i ⟨512 + l.val, by omega⟩)) := by
  refine Eq.trans ?_ (gel_eq _)
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

theorem ref_u (i : Fin 2048) (j : Fin 256) : val_main_v14 (F := Ideal) X (ix2 i j) = gel (X (ix2 i ⟨512 + j.val, by omega⟩)) := by
  refine Eq.trans ?_ (ref_act X i ⟨j.val, by omega⟩)
  unfold val_main_v14
  generalize val_main_v13 (F := Ideal) X = y
  pointwise []
theorem ref_v (i : Fin 2048) (j : Fin 256) : val_main_v15 (F := Ideal) X (ix2 i j) = gel (X (ix2 i ⟨768 + j.val, by omega⟩)) := by
  refine Eq.trans ?_ ((ref_act X i ⟨256 + j.val, by omega⟩).trans (congrArg (fun k => gel (X (ix2 i k))) (Fin.ext (by show 512 + (256 + j.val) = 768 + j.val; omega))))
  unfold val_main_v15
  generalize val_main_v13 (F := Ideal) X = y
  pointwise []

theorem ref_vals (i : Fin 2048) (j : Fin 256) : val_main_v28 (F := Ideal) X G (ix2 i j) = vals X G i j := by
  have e : val_main_v28 (F := Ideal) X G (ix2 i j) = unit (fun k => val_main_v15 (F := Ideal) X (ix2 i k)) (fun k => G (ix1 k)) j := by
    pointwise [val_main_v28, val_main_v27, val_main_v26, val_main_v25, val_main_v24, val_main_v23, val_main_v22, val_main_v21, val_main_v20, val_main_v19,
      val_main_v18, val_main_v17, val_main_v16, val_main_cst_3, val_main_cst_4, val_main_cst_5]
    rfl
  exact e.trans (congrArg (unit · _ j) (funext fun k => ref_v X i k))

theorem ref_out (i : Fin 2048) (j : Fin 256) : val_main_v43 (F := Ideal) X G W B (ix2 i j) = gated X G W B i j := by
  have e : val_main_v43 (F := Ideal) X G W B (ix2 i j) = val_main_v14 (F := Ideal) X (ix2 i j)
      * ((∑ s : Fin 128, val_main_v28 (F := Ideal) X G (ix2 ⟨i.val / 128 * 128 + s.val, by omega⟩ j) * val_main_v34 (F := Ideal) W (ix3 (grp j) ⟨i.val % 128, by omega⟩ s))
        + B (ix2 (grp j) ⟨i.val % 128, by omega⟩)) := by
    unfold val_main_v43 val_main_v42 val_main_v41 val_main_v40 val_main_v36 val_main_v35 val_main_v29
    generalize val_main_v28 (F := Ideal) X G = y
    generalize val_main_v14 (F := Ideal) X = u
    generalize val_main_v34 (F := Ideal) W = w
    pointwise [val_main_v39, val_main_v38, val_main_v37]
  refine e.trans (congrArg₂ (· * ·) (ref_u X i j) ((add_comm _ _).trans (congrArg (_ + ·) (Finset.sum_congr rfl fun s _ =>
    (mul_comm _ _).trans (congrArg (_ * ·) (ref_vals X G _ j))))))

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (Cert.SfRefIdeal.Value.run m ρ)

end Ref

theorem algebraic : Cert.algebraic_SfIdeal_SfRefIdeal := by
  intro m ρ m' ρ' _ hag
  refine ⟨fun c i => gated (X m c) (G m c) (Ws m c) (Bs m c) (i 0) (i 1),
    (θ_run _ _ _).mono (fun r h c => ⟨(h c).1.trans (final m c), (h c).2⟩) (Cert.SfIdeal.Value.run_blocks m ρ),
    (θ_run _ _ _).mono (fun r h c => ⟨(h c).1.trans ?_, (h c).2⟩) (Cert.SfRefIdeal.Value.run m' ρ')⟩
  rw [Cert.SfRefIdeal.Read.val_main_v43_eq, (hag c).1, (hag c).2.1, (hag c).2.2.1, (hag c).2.2.2]
  funext i
  exact (congrArg _ (eq_ix2 i)).trans (ref_out _ _ _ _ (i 0) (i 1))

end Cert.SfProof
-- ==== Proof.Prefix.lean ====
/- Running sums down the rows of an array: by doubling, as a kernel forms them, and over a window, as the host does. -/
module

public import Idealize.ShloMosaic.Lib.Pointwise
public import Idealize.ShloMosaic.Lib.KernelVsHost
public import Idealize.ShloMosaic.Lib.Routing.OpsOne

@[expose] public section

noncomputable section

namespace Cert.Prefix

open Idealize.ShloMosaic
open Idealize.ShloMosaic.Routing (shape2)

/-- The sum of the `s` entries of `f` that end at `q`, those before entry zero left out. -/
def tail (s : ℕ) (f : ℕ → EReal) (q : ℕ) : EReal := ∑ k ∈ Finset.range s, if k ≤ q then f (q - k) else 0

theorem tail_one (f : ℕ → EReal) (q : ℕ) : tail 1 f q = f q := by
  unfold tail
  rw [Finset.sum_range_one, if_pos (Nat.zero_le q), Nat.sub_zero]

/-- A tail of twice the length is a tail and the tail that ends where it starts. -/
theorem tail_double (s : ℕ) (f : ℕ → EReal) (q : ℕ) : tail (s + s) f q = tail s f q + if s ≤ q then tail s f (q - s) else 0 := by
  unfold tail
  rw [Finset.sum_range_add]
  refine congrArg (_ + ·) ?_
  by_cases h : s ≤ q
  · rw [if_pos h]
    refine Finset.sum_congr rfl fun k _ => ?_
    by_cases hk : s + k ≤ q
    · rw [if_pos hk, if_pos (show k ≤ q - s by omega), Nat.sub_add_eq]
    · rw [if_neg hk, if_neg (show ¬ k ≤ q - s by omega)]
  · rw [if_neg h]
    exact Finset.sum_eq_zero fun k _ => if_neg (by omega)

/-- A left fold that adds is the sum. -/
theorem foldl_add {n : ℕ} (g : Fin n → EReal) : (List.finRange n).foldl (fun r k => r + g k) 0 = ∑ k : Fin n, g k := by
  rw [Fin.sum_univ_def, List.sum_eq_foldl, List.foldl_map]

/-- The host's running sum down the rows of a matrix. -/
theorem cumsum {R Rm1 C : ℕ} (hR : Rm1 + 1 = R) (x : FVec Ideal ⟨2, ![R, C]⟩ .f32) (init : FVec Ideal ⟨0, ![]⟩ .f32) (hinit : ∀ i, init i = (0 : EReal))
    (h : (⟨2, ![R, C]⟩ : Shape).ReduceWindows (![R, 1] : Fin 2 → ℕ) ![1, 1] ![Rm1, 0] ![0, 0] ⟨2, ![R, C]⟩) (hu : 0 < (⟨0, ![]⟩ : Shape).numel)
    (f : ℕ → Fin C → EReal) (hf : ∀ (q : Fin R) (j : Fin C), x (ix2 q j) = f q.val j) (q : Fin R) (j : Fin C) :
    Host.reduceWindowAdd ![R, 1] ![1, 1] ![Rm1, 0] ![0, 0] x init h hu (ix2 q j) = tail R (fun n => f n j) q.val := by
  have hq := q.isLt
  have hj := j.isLt
  have e : Host.reduceWindowAdd ![R, 1] ![1, 1] ![Rm1, 0] ![0, 0] x init h hu (ix2 q j)
      = Host.reduceWindow (fun a b : EReal => a + b) ![R, 1] ![1, 1] ![Rm1, 0] ![0, 0] x (fun _ : (⟨0, ![]⟩ : Shape).Idx => init (Shape.Idx.first hu)) h (by decide)
        (ix2 q j) := rfl
  rw [e, hinit]
  unfold Host.reduceWindow
  have hn : ∀ n : Fin (shape2 R 1).numel, n.val < R := fun n => (n.cast (Routing.numel_col R)).isLt
  have h0 : ∀ n : Fin (shape2 R 1).numel, ((shape2 R 1).rowMajor.symm n 0).val = n.val := fun n => by rw [Routing.symm_col]; rfl
  have h1 : ∀ n : Fin (shape2 R 1).numel, ((shape2 R 1).rowMajor.symm n 1).val = 0 := fun n => by rw [Routing.symm_col]; rfl
  refine (foldl_add (fun n : Fin (shape2 R 1).numel => _)).trans ?_
  refine (Finset.sum_congr rfl (g := fun n : Fin (shape2 R 1).numel =>
    (fun n : ℕ => if Rm1 - n ≤ q.val then f (q.val - (Rm1 - n)) j else 0) n.val) fun n _ => ?_).trans ?_
  · have hn := hn n
    dsimp only
    split
    · next hin =>
      have hin0 := hin 0
      change Rm1 ≤ q.val * 1 + ((shape2 R 1).rowMajor.symm n 0).val ∧ q.val * 1 + ((shape2 R 1).rowMajor.symm n 0).val - Rm1 < R at hin0
      rw [h0] at hin0
      rw [if_pos (by omega)]
      refine (congrArg x (funext fun a => Fin.ext ?_)).trans (hf ⟨q.val - (Rm1 - n.val), by omega⟩ j)
      match a with
      | ⟨0, _⟩ =>
        show q.val * 1 + ((shape2 R 1).rowMajor.symm n 0).val - Rm1 = q.val - (Rm1 - n.val)
        rw [h0]
        omega
      | ⟨1, _⟩ =>
        show j.val * 1 + ((shape2 R 1).rowMajor.symm n 1).val - 0 = j.val
        rw [h1]
        omega
    · next hin =>
      rw [if_neg fun hle => hin fun a => by
        match a with
        | ⟨0, _⟩ =>
          show Rm1 ≤ q.val * 1 + ((shape2 R 1).rowMajor.symm n 0).val ∧ q.val * 1 + ((shape2 R 1).rowMajor.symm n 0).val - Rm1 < R
          rw [h0]
          omega
        | ⟨1, _⟩ =>
          show 0 ≤ j.val * 1 + ((shape2 R 1).rowMajor.symm n 1).val ∧ j.val * 1 + ((shape2 R 1).rowMajor.symm n 1).val - 0 < C
          rw [h1]
          omega]
  · rw [Fin.sum_univ_eq_sum_range (fun n : ℕ => if Rm1 - n ≤ q.val then f (q.val - (Rm1 - n)) j else 0), Routing.numel_col]
    refine Eq.trans (Finset.sum_congr rfl fun n _ => ?_) (Finset.sum_range_reflect (fun k : ℕ => if k ≤ q.val then f (q.val - k) j else 0) R)
    rw [show R - 1 - n = Rm1 - n by omega]

/-- The logarithm of the logistic function, by the sign of its argument. -/
def logSig (z : EReal) : EReal := min z 0 - Ideal.log (1 + Ideal.exp (-max z (-z)))

theorem exp_real (z : EReal) : ∃ r : ℝ, 0 ≤ r ∧ Ideal.exp (-max z (-z)) = (r : EReal) := by
  induction z using EReal.rec with
  | bot => exact ⟨0, le_rfl, (congrArg Ideal.exp (show -max (⊥ : EReal) (-⊥) = ⊥ by simp)).trans rfl⟩
  | top => exact ⟨0, le_rfl, (congrArg Ideal.exp (show -max (⊤ : EReal) (-⊤) = ⊥ by simp)).trans rfl⟩
  | coe x =>
    refine ⟨Real.exp (-max x (-x)), (Real.exp_pos _).le, ?_⟩
    have e : -max (x : EReal) (-(x : EReal)) = ((-max x (-x) : ℝ) : EReal) := by
      rw [EReal.coe_neg, EReal.coe_strictMono.monotone.map_max, EReal.coe_neg]
    rw [e]
    rfl
theorem log_real (z : EReal) : ∃ r : ℝ, Ideal.log (1 + Ideal.exp (-max z (-z))) = (r : EReal) := by
  obtain ⟨r, hr, h⟩ := exp_real z
  refine ⟨Real.log (1 + r), ?_⟩
  rw [h, ← EReal.coe_one, ← EReal.coe_add]
  exact if_neg (by linarith)

/-- The same by the softplus of the opposite argument. -/
theorem neg_softplus (z : EReal) : -(max (-z) 0 + Ideal.log (1 + Ideal.exp (-max (-z - 0) (-(-z - 0))))) = logSig z := by
  unfold logSig
  rw [sub_zero, neg_neg, max_comm (-z) z]
  obtain ⟨r, h⟩ := log_real z
  rw [h, EReal.neg_add (.inr (EReal.coe_ne_top r)) (.inr (EReal.coe_ne_bot r))]
  refine congrArg (· - _) ?_
  rcases le_total z 0 with hz | hz
  · rw [min_eq_left hz, max_eq_left (EReal.neg_nonneg.mpr hz), neg_neg]
  · rw [min_eq_right hz, max_eq_right (by simpa using hz), neg_zero]

end Cert.Prefix
-- ==== Proof.Fp.lean ====
/- The forget gates' logarithms, summed down the sequence. -/
module

public import proofs.«01_k».proof.Defs
public import proofs.«01_k».proof.Proof.Gen.FpIdeal.Value
public import proofs.«01_k».proof.Proof.Gen.FpRefIdeal.Run
public import proofs.«01_k».proof.Proof.Gen.FpRefIdeal.Read
public import proofs.«01_k».proof.Proof.Prefix
public import Idealize.ShloMosaic.Lib.IdealHost
public import Idealize.ShloMosaic.Lib.Pipeline.ValueKit

@[expose] public section

set_option maxRecDepth 16384

noncomputable section

namespace Cert.FpProof

open Idealize.ShloMosaic Idealize.ShloMosaic.TcCoe Idealize.SL.Sem

open Cert.Prefix

/-- The biases of the eight heads, zeros to the right. -/
abbrev bias (B : FVec Ideal ⟨1, ![8]⟩ .f32) : FVec Ideal ⟨1, ![128]⟩ .f32 := Cert.FpRefIdeal.Read.val_main_v1 (F := Ideal) B

/-- The logarithm of lane `j`'s forget gate at position `n`, zero past the end. -/
def gate (X : FVec Ideal ⟨2, ![2048, 4096]⟩ .f32) (B : FVec Ideal ⟨1, ![8]⟩ .f32) (n : ℕ) (j : Fin 128) : EReal :=
  if h : n < 2048 then logSig (X (ix2 ⟨n, h⟩ ⟨256 + j.val, by omega⟩) + bias B (ix1 j)) else 0

theorem gate_apply (X : FVec Ideal ⟨2, ![2048, 4096]⟩ .f32) (B : FVec Ideal ⟨1, ![8]⟩ .f32) (q : Fin 2048) (j : Fin 128) :
    gate X B q.val j = logSig (X (ix2 q ⟨256 + j.val, by omega⟩) + bias B (ix1 j)) := dif_pos q.isLt

section Kernel

open Cert.FpIdeal Cert.FpIdeal.Gen

variable (m : (ℓ : Loc nD τ sig) → Buf (Elt Ideal) ℓ)

/-- The rows' numbers. -/
abbrev rows : IVec S2048x128 32 := iota .tc S2048x128 32 [0] iota_S2048x128_d0_w32

/-- One doubling: the array plus itself moved down by `s` rows, the first `s` rows left. -/
abbrev step (s : BitVec 32) (x : FVec Ideal S2048x128 .f32) : FVec Ideal S2048x128 .f32 :=
  addf x (select (cmpi .sge rows (broadcast S2048x128 s)) (dynamicRotate 0 s none x rotates_S2048x128_d0)
    (broadcast S2048x128 (Scalar.ofBits (F := Ideal) .f32 0x00000000#32)))

/-- The array's rows are the tails of length `s` of the columns `f`. -/
def Holds (s : ℕ) (f : ℕ → Fin 128 → EReal) (x : FVec Ideal S2048x128 .f32) : Prop :=
  ∀ (q : Fin 2048) (j : Fin 128), x (ix2 q j) = tail s (fun n => f n j) q.val

theorem sge_iff (s : ℕ) (hs : s < 2048) (q : Fin 2048) : (BitVec.ofNat 32 s).sle (BitVec.ofNat 32 q.val) = decide (s ≤ q.val) := by
  have hq := q.isLt
  have e : ∀ n : ℕ, n < 2048 → (BitVec.ofNat 32 n).toInt = n := fun n hn => by
    rw [BitVec.toInt_eq_toNat_of_lt (by rw [BitVec.toNat_ofNat]; omega), BitVec.toNat_ofNat, Nat.mod_eq_of_lt (by omega)]
  rw [BitVec.sle_eq_decide, e s hs, e q.val hq]
  exact decide_eq_decide.mpr Int.ofNat_le

theorem rows_apply (q : Fin 2048) (j : Fin 128) : rows (ix2 q j) = BitVec.ofNat 32 q.val := by pointwise []

theorem step_apply (s : ℕ) (hs : s < 2048) (x : FVec Ideal S2048x128 .f32) (q : Fin 2048) (j : Fin 128) :
    step (BitVec.ofNat 32 s) x (ix2 q j) = x (ix2 q j) + if h : s ≤ q.val then x (ix2 ⟨q.val - s, by omega⟩ j) else 0 := by
  have hq := q.isLt
  refine congrArg (x (ix2 q j) + ·) ?_
  by_cases h : s ≤ q.val
  · rw [dif_pos h]
    have hc : cmpi .sge rows (broadcast S2048x128 (BitVec.ofNat 32 s)) (ix2 q j) = 1#1 := by
      show BitVec.ofBool ((BitVec.ofNat 32 s).sle (rows (ix2 q j))) = 1#1
      rw [rows_apply, sge_iff s hs q, decide_eq_true h]
      rfl
    refine (show _ = Scalar.select _ _ _ from rfl).trans ?_
    rw [hc]
    refine dynamicRotate_apply 0 _ x rotates_S2048x128_d0 (ix2 q j) (ix2 ⟨q.val - s, by omega⟩ j) fun b => ?_
    have hb : (BitVec.ofNat 32 s).toNat = s := by rw [BitVec.toNat_ofNat]; omega
    match b with
    | ⟨0, _⟩ =>
      show q.val - s = (q.val + 2048 - (BitVec.ofNat 32 s).toNat % 2048) % 2048
      rw [hb]
      omega
    | ⟨1, _⟩ => rfl
  · rw [dif_neg h]
    have hc : cmpi .sge rows (broadcast S2048x128 (BitVec.ofNat 32 s)) (ix2 q j) = 0#1 := by
      show BitVec.ofBool ((BitVec.ofNat 32 s).sle (rows (ix2 q j))) = 0#1
      rw [rows_apply, sge_iff s hs q, decide_eq_false h]
      rfl
    refine (show _ = Scalar.select _ _ _ from rfl).trans ?_
    rw [hc]
    exact Ideal.ofBits_zero_f32

theorem Holds.step {s : ℕ} {f : ℕ → Fin 128 → EReal} {x : FVec Ideal S2048x128 .f32} (h : Holds s f x) (hs : s < 2048) :
    Holds (s + s) f (step (BitVec.ofNat 32 s) x) := fun q j => by
  rw [step_apply s hs, tail_double, h q j]
  refine congrArg (_ + ·) ?_
  split
  · exact h _ j
  · rfl

/-- The gates' logarithms of one block. -/
abbrev start (x : Vec Ideal S2048x128 .f32) (b : Vec Ideal S1x128 .f32) : FVec Ideal S2048x128 .f32 :=
  subf (minimumf (addf x (broadcastTo S2048x128 (shapeCast S1x128 b shapeCasts_S1x128_S1x128) broadcasts_S1x128_S2048x128))
      (broadcast S2048x128 (Scalar.ofBits (F := Ideal) .f32 0x00000000#32)))
    (log (addf (broadcast S2048x128 (Scalar.ofBits (F := Ideal) .f32 0x3F800000#32))
      (exp (subf (broadcast S2048x128 (Scalar.ofBits (F := Ideal) .f32 0x00000000#32))
        (absf (addf x (broadcastTo S2048x128 (shapeCast S1x128 b shapeCasts_S1x128_S1x128) broadcasts_S1x128_S2048x128)))))))
theorem start_apply (x : Vec Ideal S2048x128 .f32) (b : Vec Ideal S1x128 .f32) (q : Fin 2048) (j : Fin 128) :
    start x b (ix2 q j) = logSig (x (ix2 q j) + b (ix2 0 j)) := by
  have e : start x b (ix2 q j) = min (x (ix2 q j) + b (ix2 0 j)) (Ideal.ofBits .f32 0x00000000#32)
      - Ideal.log (Ideal.ofBits .f32 0x3F800000#32 + Ideal.exp (Ideal.ofBits .f32 0x00000000#32
        - max (x (ix2 q j) + b (ix2 0 j)) (-(x (ix2 q j) + b (ix2 0 j))))) := by
    pointwise []
    rfl
  rw [e, Ideal.ofBits_zero_f32, Ideal.ofBits_one_f32, zero_sub]
  rfl

/-- The body's array after all its doublings. -/
abbrev sums (x : Vec Ideal S2048x128 .f32) (b : Vec Ideal S1x128 .f32) : FVec Ideal S2048x128 .f32 :=
  step 1024#32 (step 512#32 (step 256#32 (step 128#32 (step 64#32 (step 32#32 (step 16#32 (step 8#32 (step 4#32 (step 2#32 (step 1#32 (start x b)))))))))))

theorem pay3_eq (x : Vec Ideal S2048x128 .f32) (b : Vec Ideal S1x128 .f32) :
    k0_pay3 (F := Ideal) x b = step 8#32 (step 4#32 (step 2#32 (step 1#32 (start x b)))) := rfl
theorem pay4_eq (y : FVec Ideal S2048x128 .f32) :
    k0_pay4 (F := Ideal) rows y = step 512#32 (step 256#32 (step 128#32 (step 64#32 (step 32#32 (step 16#32 y))))) := rfl
theorem pay1_eq (y z : FVec Ideal S2048x128 .f32) (h : k0_pay4 (F := Ideal) rows y = z) :
    k0_pay1 (F := Ideal) (k0_pay4 rows y) (k0_pay5 rows) (k0_pay6 rows y) (Scalar.ofBits (F := Ideal) .f32 0x00000000#32) = step 1024#32 z := by
  unfold k0_pay6
  rw [h]
  rfl
theorem pay_eq (x : Vec Ideal S2048x128 .f32) (b : Vec Ideal S1x128 .f32) :
    k0_pay1 (F := Ideal) (k0_pay4 rows (k0_pay3 x b)) (k0_pay5 rows) (k0_pay6 rows (k0_pay3 x b)) (Scalar.ofBits (F := Ideal) .f32 0x00000000#32) = sums x b :=
  pay1_eq _ _ ((pay4_eq _).trans (congrArg (fun y => step 512#32 (step 256#32 (step 128#32 (step 64#32 (step 32#32 (step 16#32 y))))) ) (pay3_eq x b)))

theorem sums_holds (x : Vec Ideal S2048x128 .f32) (b : Vec Ideal S1x128 .f32) (f : ℕ → Fin 128 → EReal)
    (h : ∀ (q : Fin 2048) (j : Fin 128), start x b (ix2 q j) = f q.val j) : Holds 2048 f (sums x b) := by
  have h1 : Holds 1 f (start x b) := fun q j => (h q j).trans (tail_one (fun n => f n j) q.val).symm
  have h5 := (((h1.step (by omega)).step (by omega)).step (by omega)).step (by omega)
  have h9 := (((h5.step (by omega)).step (by omega)).step (by omega)).step (by omega)
  exact ((h9.step (by omega)).step (by omega)).step (by omega)

theorem idx : ∀ t : Fin cfg0.N, win0_0.index t = ![0, 2] ∧ win0_1.index t = ![0, 0] ∧ win0_2.index t = ![0, 0] ∧ win0_3.index t = ![0, 0] :=
  (by decide +kernel : ∀ t : Fin grid0.N, _)

abbrev X (c : Dev nD) : FVec Ideal S2048x4096 .f32 := m ((c : Thread nD τ).loc main_arg0)
abbrev B (c : Dev nD) : FVec Ideal S8 .f32 := m ((c : Thread nD τ).loc main_arg1)

theorem x_read (c : Dev nD) (t : Fin cfg0.N) (q : Fin 2048) (j : Fin 128) :
    (show Vec Ideal S2048x128 .f32 from iblk m c 0 t) (ix2 q j) = X m c (ix2 q ⟨256 + j.val, by omega⟩) := by
  blk_ext [iblk, V, idx t]
theorem bias_eq (c : Dev nD) (j : Fin 128) : V m c main_v1 (ix2 0 j) = bias (B m c) (ix1 j) := by
  have h : V m c main_v1 = shapeCast S1x128 (bias (B m c)) shapeCasts_S128_S1x128 := by
    unfold_abbrev_sides
    simp only [hostOps0, hostOps0_1, hostOps0_2, List.flatten_cons, List.flatten_nil, List.append_nil, List.cons_append, List.nil_append]
    after_results
    rfl
  rw [h]
  generalize bias (B m c) = y
  pointwise []
theorem b_read (c : Dev nD) (t : Fin cfg0.N) (j : Fin 128) :
    (show Vec Ideal S1x128 .f32 from iblk m c 1 t) (ix2 0 j) = bias (B m c) (ix1 j) := by
  refine Eq.trans ?_ (bias_eq m c j)
  blk_ext [iblk, idx t]

theorem point (c : Dev nD) (t : Fin cfg0.N) (q : Fin 2048) (j : Fin 128) :
    sums (iblk m c 0 t) (iblk m c 1 t) (ix2 q j) = tail 2048 (fun n => gate (X m c) (B m c) n j) q.val :=
  sums_holds _ _ (gate (X m c) (B m c)) (fun q j => (start_apply _ _ q j).trans
    ((congrArg logSig (congrArg₂ (· + ·) (x_read m c t q j) (b_read m c t j))).trans (gate_apply _ _ q j).symm)) q j

/-- The sum down to row `i` of lane `j`. -/
def outRow (c : Dev nD) (i : Fin 2048) (j : Fin 128) : EReal := tail 2048 (fun n => gate (X m c) (B m c) n j) i.val

theorem left (c : Dev nD) (t : Fin cfg0.N) : (dats m 0 c).after 2 t = sums (iblk m c 0 t) (iblk m c 1 t) := by
  rw [after0_2]
  unfold_out out0_2
  frame_out
  exact pay_eq _ _
theorem left_t (c : Dev nD) (t : Fin cfg0.N) : (dats m 0 c).after 3 t
    = transpose S128x2048 [1, 0] (sums (iblk m c 0 t) (iblk m c 1 t)) transposes_S2048x128_p1_0_S128x2048 := by
  rw [after0_3]
  unfold_out out0_3
  frame_out
  exact congrArg (fun y => transpose S128x2048 [1, 0] y transposes_S2048x128_p1_0_S128x2048) (pay_eq _ _)

theorem final (c : Dev nD) : (dats m 0 c).arrAt 2 (cfgs 0).N
    = fun i : S2048x128.Idx => outRow m c (i 0) (i 1) := by
  refine (dats m 0 c).arrAt_eq_of_covers 2 _ (by decide +kernel) fun t _ y => ?_
  blk_simp
  rw [left]
  obtain ⟨q, j, rfl⟩ : ∃ (q : Fin 2048) (j : Fin 128), y = ix2 q j := ⟨y 0, y 1, eq_ix2 y⟩
  refine (point m c t q j).trans
    (congrArg₂ (outRow m c) (Fin.ext ?_) (Fin.ext ?_))
  · blk_simp [idx t]
  · blk_simp [idx t]
theorem final_t (c : Dev nD) : (dats m 0 c).arrAt 3 (cfgs 0).N
    = fun i : S128x2048.Idx => outRow m c (i 1) (i 0) := by
  refine (dats m 0 c).arrAt_eq_of_covers 3 _ (by decide +kernel) fun t _ y => ?_
  blk_simp
  rw [left_t]
  obtain ⟨j, q, rfl⟩ : ∃ (j : Fin 128) (q : Fin 2048), y = ix2 j q := ⟨y 0, y 1, eq_ix2 y⟩
  have e : transpose S128x2048 [1, 0] (sums (iblk m c 0 t) (iblk m c 1 t)) transposes_S2048x128_p1_0_S128x2048 (ix2 j q)
      = sums (iblk m c 0 t) (iblk m c 1 t) (ix2 q j) := by
    generalize sums (iblk m c 0 t) (iblk m c 1 t) = y
    pointwise []
  refine (e.trans (point m c t q j)).trans
    (congrArg₂ (outRow m c) (Fin.ext ?_) (Fin.ext ?_))
  · blk_simp [idx t]
  · blk_simp [idx t]

end Kernel

section Ref

open Cert.FpRefIdeal Cert.FpRefIdeal.Gen Cert.FpRefIdeal.Read

variable (X : FVec Ideal S2048x4096 .f32) (B : FVec Ideal S8 .f32)

theorem ref_arg (q : Fin 2048) (j : Fin 128) : val_main_v4 (F := Ideal) X B (ix2 q j) = X (ix2 q ⟨256 + j.val, by omega⟩) + bias B (ix1 j) := by
  pointwise [val_main_v4, val_main_v3, val_main_v2, val_main_v0]

theorem une_self (z : EReal) : Ideal.cmp .une z z = 0#1 := by simp [Ideal.cmp]

theorem ref_logs (z : EReal) : -(Scalar.select (Ideal.cmp .une (-z - Ideal.ofBits .f32 0x00000000#32) (-z - Ideal.ofBits .f32 0x00000000#32))
      (-z + Ideal.ofBits .f32 0x00000000#32) (max (-z) (Ideal.ofBits .f32 0x00000000#32) + Ideal.log1p (Ideal.exp
        (-max (-z - Ideal.ofBits .f32 0x00000000#32) (-(-z - Ideal.ofBits .f32 0x00000000#32)))))) = logSig z := by
  rw [une_self, Ideal.ofBits_zero_f32]
  exact neg_softplus z
theorem ref_gate (q : Fin 2048) (j : Fin 128) : val_main_v5 (F := Ideal) X B (ix2 q j) = gate X B q.val j := by
  rw [gate_apply, ← ref_arg X B q j]
  exact (show _ = _ from rfl).trans (ref_logs (val_main_v4 (F := Ideal) X B (ix2 q j)))

theorem ref_out (q : Fin 2048) (j : Fin 128) : val_main_v6 (F := Ideal) X B (ix2 q j) = tail 2048 (fun n => gate X B n j) q.val :=
  cumsum rfl (val_main_v5 (F := Ideal) X B) _ (fun _ => Ideal.ofBits_zero_f32) _ _ (gate X B) (ref_gate X B) q j
theorem ref_t (j : Fin 128) (q : Fin 2048) : val_main_v7 (F := Ideal) X B (ix2 j q) = tail 2048 (fun n => gate X B n j) q.val := by
  have e : val_main_v7 (F := Ideal) X B (ix2 j q) = val_main_v6 (F := Ideal) X B (ix2 q j) := by
    unfold val_main_v7
    generalize val_main_v6 (F := Ideal) X B = y
    pointwise []
  exact e.trans (ref_out X B q j)

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, sem_eq_zero_of_no_sems (by decide) r.2⟩) (Cert.FpRefIdeal.Value.run m ρ)

end Ref

theorem algebraic : Cert.algebraic_FpIdeal_FpRefIdeal := by
  intro m ρ m' ρ' _ hag
  refine ⟨fun c i => tail 2048 (fun n => gate (X m c) (B m c) n (i 1)) (i 0).val, fun c i => tail 2048 (fun n => gate (X m c) (B m c) n (i 0)) (i 1).val,
    (θ_run _ _ _).mono (fun r h c => ⟨(h c).1.trans (final m c), (h c).2.1.trans (final_t m c), (h c).2.2⟩) (Cert.FpIdeal.Value.run_blocks m ρ),
    (θ_run _ _ _).mono (fun r h c => ⟨(h c).1.trans ?_, (h c).2.1.trans ?_, (h c).2.2⟩) (Cert.FpRefIdeal.Value.run m' ρ')⟩
  · rw [Cert.FpRefIdeal.Read.val_main_v6_eq, (hag c).1, (hag c).2]
    funext i
    exact (congrArg _ (eq_ix2 i)).trans (ref_out _ _ (i 0) (i 1))
  · rw [Cert.FpRefIdeal.Read.val_main_v7_eq, (hag c).1, (hag c).2]
    funext i
    exact (congrArg _ (eq_ix2 i)).trans (ref_t _ _ (i 0) (i 1))

end Cert.FpProof
-- ==== Proof.Suffix.lean ====
/- Running sums up the rows of an array: by doubling, as a kernel forms them, and over a window, as the host does; and the slope of the logarithm of the
   logistic function. -/
module

public import proofs.«01_k».proof.Proof.Prefix

@[expose] public section

noncomputable section

namespace Cert.Suffix

open Idealize.ShloMosaic
open Idealize.ShloMosaic.Routing (shape2)

/-- The sum of the `s` entries of `f` from `q` on. -/
def head (s : ℕ) (f : ℕ → EReal) (q : ℕ) : EReal := ∑ k ∈ Finset.range s, f (q + k)

theorem head_one (f : ℕ → EReal) (q : ℕ) : head 1 f q = f q := Finset.sum_range_one _

/-- Twice as many entries are as many, and as many again after them. -/
theorem head_double (s : ℕ) (f : ℕ → EReal) (q : ℕ) : head (s + s) f q = head s f q + head s f (q + s) := by
  unfold head
  rw [Finset.sum_range_add]
  exact congrArg (_ + ·) (Finset.sum_congr rfl fun k _ => by rw [Nat.add_assoc])

/-- Past the last entry there is nothing to sum. -/
theorem head_past (s n : ℕ) (f : ℕ → EReal) (hf : ∀ i, n ≤ i → f i = 0) (q : ℕ) (h : n ≤ q) : head s f q = 0 :=
  Finset.sum_eq_zero fun k _ => hf _ (by omega)

/-- The host's running sum up the rows of a matrix. -/
theorem revsum {R Rm1 C : ℕ} (hR : Rm1 + 1 = R) (x : FVec Ideal ⟨2, ![R, C]⟩ .f32) (init : FVec Ideal ⟨0, ![]⟩ .f32) (hinit : ∀ i, init i = (0 : EReal))
    (h : (⟨2, ![R, C]⟩ : Shape).ReduceWindows (![R, 1] : Fin 2 → ℕ) ![1, 1] ![0, 0] ![Rm1, 0] ⟨2, ![R, C]⟩) (hu : 0 < (⟨0, ![]⟩ : Shape).numel)
    (f : ℕ → Fin C → EReal) (hz : ∀ (i : ℕ) (j : Fin C), R ≤ i → f i j = 0) (hf : ∀ (q : Fin R) (j : Fin C), x (ix2 q j) = f q.val j) (q : Fin R) (j : Fin C) :
    Host.reduceWindowAdd ![R, 1] ![1, 1] ![0, 0] ![Rm1, 0] x init h hu (ix2 q j) = head R (fun n => f n j) q.val := by
  have hq := q.isLt
  have hj := j.isLt
  have e : Host.reduceWindowAdd ![R, 1] ![1, 1] ![0, 0] ![Rm1, 0] x init h hu (ix2 q j)
      = Host.reduceWindow (fun a b : EReal => a + b) ![R, 1] ![1, 1] ![0, 0] ![Rm1, 0] x (fun _ : (⟨0, ![]⟩ : Shape).Idx => init (Shape.Idx.first hu)) h (by decide)
        (ix2 q j) := rfl
  rw [e, hinit]
  unfold Host.reduceWindow
  have h0 : ∀ n : Fin (shape2 R 1).numel, ((shape2 R 1).rowMajor.symm n 0).val = n.val := fun n => by rw [Routing.symm_col]; rfl
  have h1 : ∀ n : Fin (shape2 R 1).numel, ((shape2 R 1).rowMajor.symm n 1).val = 0 := fun n => by rw [Routing.symm_col]; rfl
  refine (Prefix.foldl_add (fun n : Fin (shape2 R 1).numel => _)).trans ?_
  refine (Finset.sum_congr rfl (g := fun n : Fin (shape2 R 1).numel => (fun n : ℕ => f (q.val + n) j) n.val) fun n _ => ?_).trans ?_
  · dsimp only
    split
    · next hin =>
      have hin0 := hin 0
      change 0 ≤ q.val * 1 + ((shape2 R 1).rowMajor.symm n 0).val ∧ q.val * 1 + ((shape2 R 1).rowMajor.symm n 0).val - 0 < R at hin0
      rw [h0] at hin0
      refine (congrArg x (funext fun a => Fin.ext ?_)).trans (hf ⟨q.val + n.val, by omega⟩ j)
      match a with
      | ⟨0, _⟩ =>
        show q.val * 1 + ((shape2 R 1).rowMajor.symm n 0).val - 0 = q.val + n.val
        rw [h0]
        omega
      | ⟨1, _⟩ =>
        show j.val * 1 + ((shape2 R 1).rowMajor.symm n 1).val - 0 = j.val
        rw [h1]
        omega
    · next hin =>
      refine (hz _ j (Nat.le_of_not_lt fun hlt => hin fun a => ?_)).symm
      match a with
      | ⟨0, _⟩ =>
        show 0 ≤ q.val * 1 + ((shape2 R 1).rowMajor.symm n 0).val ∧ q.val * 1 + ((shape2 R 1).rowMajor.symm n 0).val - 0 < R
        rw [h0]
        omega
      | ⟨1, _⟩ =>
        show 0 ≤ j.val * 1 + ((shape2 R 1).rowMajor.symm n 1).val ∧ j.val * 1 + ((shape2 R 1).rowMajor.symm n 1).val - 0 < C
        rw [h1]
        omega
  · rw [Fin.sum_univ_eq_sum_range (fun n : ℕ => f (q.val + n) j), Routing.numel_col]
    rfl

/-- The softplus of an argument, by its sign. -/
def softplus (y : EReal) : EReal := max y 0 + Ideal.log (1 + Ideal.exp (-max y (-y)))

/-- An infinite number put to zero. -/
def fin (y : EReal) : EReal := if y = ⊤ then 0 else y

theorem softplus_bot : softplus ⊥ = 0 := by
  unfold softplus
  have e : Ideal.exp (-max (⊥ : EReal) (-⊥)) = 0 := (congrArg Ideal.exp (show -max (⊥ : EReal) (-⊥) = ⊥ by simp)).trans rfl
  rw [e, add_zero, ← EReal.coe_one, show Ideal.log ((1 : ℝ) : EReal) = if (1 : ℝ) ≤ 0 then ⊥ else (Real.log 1 : EReal) from rfl]
  simp
theorem softplus_top : softplus ⊤ = ⊤ := by
  unfold softplus
  have e : Ideal.exp (-max (⊤ : EReal) (-⊤)) = 0 := (congrArg Ideal.exp (show -max (⊤ : EReal) (-⊤) = ⊥ by simp)).trans rfl
  rw [e, add_zero, ← EReal.coe_one, show Ideal.log ((1 : ℝ) : EReal) = if (1 : ℝ) ≤ 0 then ⊥ else (Real.log 1 : EReal) from rfl]
  simp
theorem softplus_coe (y : ℝ) : softplus (y : EReal) = ((max y 0 + Real.log (1 + Real.exp (-max y (-y))) : ℝ) : EReal) := by
  unfold softplus
  have e : -max (y : EReal) (-(y : EReal)) = ((-max y (-y) : ℝ) : EReal) := by
    rw [EReal.coe_neg, EReal.coe_strictMono.monotone.map_max, EReal.coe_neg]
  have hp := Real.exp_pos (-max y (-y))
  rw [e, show Ideal.exp ((-max y (-y) : ℝ) : EReal) = (Real.exp (-max y (-y)) : EReal) from rfl, ← EReal.coe_one, ← EReal.coe_add,
    show Ideal.log ((1 + Real.exp (-max y (-y)) : ℝ) : EReal) = (Real.log (1 + Real.exp (-max y (-y))) : EReal) from if_neg (by linarith),
    EReal.coe_add, EReal.coe_strictMono.monotone.map_max, EReal.coe_zero]

theorem exp_softplus (y : ℝ) : Real.exp (max y 0 + Real.log (1 + Real.exp (-max y (-y)))) = 1 + Real.exp y := by
  rw [Real.exp_add, Real.exp_log (by positivity)]
  rcases le_total y 0 with h | h
  · rw [max_eq_right h, max_eq_right (show y ≤ -y by linarith), neg_neg, Real.exp_zero, one_mul]
  · rw [max_eq_left h, max_eq_left (show -y ≤ y by linarith), mul_add, mul_one, ← Real.exp_add, add_neg_cancel, Real.exp_zero, add_comm]

/-- The slope of the softplus, as its own derivative rule writes it, is one minus the logistic function of the opposite argument. -/
theorem slope (z : EReal) : Ideal.exp (fin (-z) - fin (softplus (-z))) = 1 - Ideal.div 1 (1 + Ideal.exp (-z)) := by
  induction z using EReal.rec with
  | bot =>
    rw [EReal.neg_bot, softplus_top, show fin ⊤ = 0 from if_pos rfl, sub_zero, show Ideal.exp ⊤ = ⊤ from rfl,
      ← EReal.coe_one, EReal.coe_add_top, ← EReal.coe_zero, show Ideal.exp ((0 : ℝ) : EReal) = (Real.exp 0 : EReal) from rfl, Real.exp_zero]
    simp [Ideal.div]
  | top =>
    rw [EReal.neg_top, softplus_bot, show fin ⊥ = ⊥ from if_neg (by simp), show fin 0 = 0 from if_neg (by simp), sub_zero]
    simp [Ideal.div]
    rw [← EReal.coe_one, ← EReal.coe_sub, sub_self, EReal.coe_zero]
  | coe x =>
    rw [← EReal.coe_neg, softplus_coe, show ∀ r : ℝ, fin (r : EReal) = r from fun r => if_neg (EReal.coe_ne_top r),
      show fin ((max (-x) 0 + Real.log (1 + Real.exp (-max (-x) (- -x))) : ℝ) : EReal) = _ from if_neg (EReal.coe_ne_top _), ← EReal.coe_sub,
      show ∀ r : ℝ, Ideal.exp (r : EReal) = (Real.exp r : EReal) from fun _ => rfl, show ∀ r : ℝ, Ideal.exp (r : EReal) = (Real.exp r : EReal) from fun _ => rfl,
      Real.exp_sub, exp_softplus, ← EReal.coe_one, ← EReal.coe_add]
    have hp := Real.exp_pos (-x)
    rw [show Ideal.div ((1 : ℝ) : EReal) ((1 + Real.exp (-x) : ℝ) : EReal) = ((1 * (1 + Real.exp (-x))⁻¹ : ℝ) : EReal) from by
      unfold Ideal.div
      rw [if_neg (by rw [← EReal.coe_zero]; exact fun h => by have := EReal.coe_injective h; linarith), EReal.coe_mul, EReal.coe_inv], ← EReal.coe_sub]
    congr 1
    field_simp
    ring

end Cert.Suffix
-- ==== Proof.Fo.lean ====
/- The gradient of the forget gates' running sums: the incoming gradient summed up the sequence, times the slope of the logarithm of the gate. -/
module

public import proofs.«01_k».proof.Defs
public import proofs.«01_k».proof.Proof.Gen.FoIdeal.Value
public import proofs.«01_k».proof.Proof.Gen.FoRefIdeal.Run
public import proofs.«01_k».proof.Proof.Gen.FoRefIdeal.Read
public import proofs.«01_k».proof.Proof.Suffix
public import Idealize.ShloMosaic.Lib.IdealHost
public import Idealize.ShloMosaic.Lib.Pipeline.ValueKit

@[expose] public section

set_option maxRecDepth 16384

noncomputable section

namespace Cert.FoProof

open Idealize.ShloMosaic Idealize.ShloMosaic.TcCoe Idealize.SL.Sem

open Cert.Suffix

/-- The biases of the eight heads, zeros to the right. -/
abbrev bias (B : FVec Ideal ⟨1, ![8]⟩ .f32) : FVec Ideal ⟨1, ![128]⟩ .f32 := Cert.FoRefIdeal.Read.val_main_v1 (F := Ideal) B

/-- Lane `j` of the incoming gradient, zero past the end. -/
def lane (D : FVec Ideal ⟨2, ![2048, 128]⟩ .f32) (n : ℕ) (j : Fin 128) : EReal := if h : n < 2048 then D (ix2 ⟨n, h⟩ j) else 0

theorem lane_apply (D : FVec Ideal ⟨2, ![2048, 128]⟩ .f32) (q : Fin 2048) (j : Fin 128) : D (ix2 q j) = lane D q.val j := by
  rw [lane, dif_pos q.isLt]
theorem lane_past (D : FVec Ideal ⟨2, ![2048, 128]⟩ .f32) (n : ℕ) (j : Fin 128) (h : 2048 ≤ n) : lane D n j = 0 := dif_neg (by omega)

/-- The gradient at position `q` and lane `j`. -/
def grad (X : FVec Ideal ⟨2, ![2048, 4096]⟩ .f32) (B : FVec Ideal ⟨1, ![8]⟩ .f32) (D : FVec Ideal ⟨2, ![2048, 128]⟩ .f32) (q : Fin 2048) (j : Fin 128) : EReal :=
  head 2048 (fun n => lane D n j) q.val * (1 - Ideal.div 1 (1 + Ideal.exp (-(X (ix2 q ⟨256 + j.val, by omega⟩) + bias B (ix1 j)))))

/-- Its total over the positions, the biases' gradient at lane `j`. -/
def total (X : FVec Ideal ⟨2, ![2048, 4096]⟩ .f32) (B : FVec Ideal ⟨1, ![8]⟩ .f32) (D : FVec Ideal ⟨2, ![2048, 128]⟩ .f32) (j : Fin 128) : EReal :=
  ∑ q : Fin 2048, grad X B D q j

section Kernel

open Cert.FoIdeal Cert.FoIdeal.Gen

variable (m : (ℓ : Loc nD τ sig) → Buf (Elt Ideal) ℓ)

/-- The rows' numbers. -/
abbrev rows : IVec S2048x128 32 := iota .tc S2048x128 32 [0] iota_S2048x128_d0_w32

/-- One doubling: the array plus itself moved up, the rows from `r` on left. -/
abbrev step (r : BitVec 32) (x : FVec Ideal S2048x128 .f32) : FVec Ideal S2048x128 .f32 :=
  addf x (select (cmpi .slt rows (broadcast S2048x128 r)) (dynamicRotate 0 r none x rotates_S2048x128_d0)
    (broadcast S2048x128 (Scalar.ofBits (F := Ideal) .f32 0x00000000#32)))

/-- The array's rows are the sums of the next `s` entries of the columns `f`, which end. -/
def Holds (s : ℕ) (f : ℕ → Fin 128 → EReal) (x : FVec Ideal S2048x128 .f32) : Prop :=
  ∀ (q : Fin 2048) (j : Fin 128), x (ix2 q j) = head s (fun n => f n j) q.val

theorem slt_iff (r : ℕ) (hr : r < 2048) (q : Fin 2048) : (BitVec.ofNat 32 q.val).slt (BitVec.ofNat 32 r) = decide (q.val < r) := by
  have hq := q.isLt
  have e : ∀ n : ℕ, n < 2048 → (BitVec.ofNat 32 n).toInt = n := fun n hn => by
    rw [BitVec.toInt_eq_toNat_of_lt (by rw [BitVec.toNat_ofNat]; omega), BitVec.toNat_ofNat, Nat.mod_eq_of_lt (by omega)]
  rw [BitVec.slt_eq_decide, e r hr, e q.val hq]
  exact decide_eq_decide.mpr Int.ofNat_lt

theorem rows_apply (q : Fin 2048) (j : Fin 128) : rows (ix2 q j) = BitVec.ofNat 32 q.val := by pointwise []

theorem step_apply (s r : ℕ) (hs : 0 < s) (h : r + s = 2048) (x : FVec Ideal S2048x128 .f32) (q : Fin 2048) (j : Fin 128) :
    step (BitVec.ofNat 32 r) x (ix2 q j) = x (ix2 q j) + if h : q.val < r then x (ix2 ⟨q.val + s, by omega⟩ j) else 0 := by
  have hq := q.isLt
  refine congrArg (x (ix2 q j) + ·) ?_
  by_cases hlt : q.val < r
  · rw [dif_pos hlt]
    have hc : cmpi .slt rows (broadcast S2048x128 (BitVec.ofNat 32 r)) (ix2 q j) = 1#1 := by
      show BitVec.ofBool ((rows (ix2 q j)).slt (BitVec.ofNat 32 r)) = 1#1
      rw [rows_apply, slt_iff r (by omega) q, decide_eq_true hlt]
      rfl
    refine (show _ = Scalar.select _ _ _ from rfl).trans ?_
    rw [hc]
    refine dynamicRotate_apply 0 _ x rotates_S2048x128_d0 (ix2 q j) (ix2 ⟨q.val + s, by omega⟩ j) fun b => ?_
    have hb : (BitVec.ofNat 32 r).toNat = r := by rw [BitVec.toNat_ofNat]; omega
    match b with
    | ⟨0, _⟩ =>
      show q.val + s = (q.val + 2048 - (BitVec.ofNat 32 r).toNat % 2048) % 2048
      rw [hb]
      omega
    | ⟨1, _⟩ => rfl
  · rw [dif_neg hlt]
    have hc : cmpi .slt rows (broadcast S2048x128 (BitVec.ofNat 32 r)) (ix2 q j) = 0#1 := by
      show BitVec.ofBool ((rows (ix2 q j)).slt (BitVec.ofNat 32 r)) = 0#1
      rw [rows_apply, slt_iff r (by omega) q, decide_eq_false hlt]
      rfl
    refine (show _ = Scalar.select _ _ _ from rfl).trans ?_
    rw [hc]
    exact Ideal.ofBits_zero_f32

theorem Holds.step {s : ℕ} {f : ℕ → Fin 128 → EReal} {x : FVec Ideal S2048x128 .f32} (h : Holds s f x) (hf : ∀ n j, 2048 ≤ n → f n j = 0) (r : ℕ)
    (hs : 0 < s) (hr : r + s = 2048) : Holds (s + s) f (step (BitVec.ofNat 32 r) x) := fun q j => by
  rw [step_apply s r hs hr, head_double, h q j]
  refine congrArg (_ + ·) ?_
  split
  · exact h _ j
  · next hlt => exact (head_past s 2048 _ (fun i hi => hf i j hi) _ (by omega)).symm

/-- The body's array after all its doublings. -/
abbrev sums (d : FVec Ideal S2048x128 .f32) : FVec Ideal S2048x128 .f32 :=
  step 1024#32 (step 1536#32 (step 1792#32 (step 1920#32 (step 1984#32 (step 2016#32 (step 2032#32 (step 2040#32 (step 2044#32 (step 2046#32 (step 2047#32 d))))))))))

theorem pay4_eq (d : Vec Ideal S2048x128 .f32) :
    k0_pay4 (F := Ideal) d = step 2016#32 (step 2032#32 (step 2040#32 (step 2044#32 (step 2046#32 (step 2047#32 d))))) := rfl
theorem pay5_eq (y : FVec Ideal S2048x128 .f32) :
    k0_pay5 (F := Ideal) rows y 1984#32 = step 1024#32 (step 1536#32 (step 1792#32 (step 1920#32 (step 1984#32 y)))) := rfl
theorem pay_eq (d : Vec Ideal S2048x128 .f32) : k0_pay5 (F := Ideal) rows (k0_pay4 d) 1984#32 = sums d :=
  (pay5_eq _).trans (congrArg (fun y => step 1024#32 (step 1536#32 (step 1792#32 (step 1920#32 (step 1984#32 y))))) (pay4_eq d))

theorem sums_holds (d : Vec Ideal S2048x128 .f32) (f : ℕ → Fin 128 → EReal) (hf : ∀ n j, 2048 ≤ n → f n j = 0)
    (h : ∀ (q : Fin 2048) (j : Fin 128), d (ix2 q j) = f q.val j) : Holds 2048 f (sums d) := by
  have h1 : Holds 1 f d := fun q j => (h q j).trans (head_one (fun n => f n j) q.val).symm
  have h4 := ((h1.step hf 2047 (by omega) rfl).step hf 2046 (by omega) rfl).step hf 2044 (by omega) rfl
  have h8 := ((h4.step hf 2040 (by omega) rfl).step hf 2032 (by omega) rfl).step hf 2016 (by omega) rfl
  have h10 := ((h8.step hf 1984 (by omega) rfl).step hf 1920 (by omega) rfl).step hf 1792 (by omega) rfl
  exact (h10.step hf 1536 (by omega) rfl).step hf 1024 (by omega) rfl

theorem gate_apply (x : Vec Ideal S2048x128 .f32) (b : Vec Ideal S1x128 .f32) (q : Fin 2048) (j : Fin 128) :
    k0_pay6 (F := Ideal) x b (ix2 q j) = 1 + Ideal.exp (-(x (ix2 q j) + b (ix2 0 j))) := by
  have e : k0_pay6 (F := Ideal) x b (ix2 q j) = Ideal.ofBits .f32 0x3F800000#32 + Ideal.exp (Ideal.ofBits .f32 0x00000000#32 - (x (ix2 q j) + b (ix2 0 j))) := by
    pointwise [k0_pay6]
  rw [e, Ideal.ofBits_zero_f32, Ideal.ofBits_one_f32, zero_sub]
theorem slope_apply (y e : FVec Ideal S2048x128 .f32) (q : Fin 2048) (j : Fin 128) :
    k0_pay1 (F := Ideal) y e (ix2 q j) = y (ix2 q j) * (1 - Ideal.div 1 (e (ix2 q j))) := by
  have h : k0_pay1 (F := Ideal) y e (ix2 q j) = y (ix2 q j) * (Ideal.ofBits .f32 0x3F800000#32 - Ideal.div (Ideal.ofBits .f32 0x3F800000#32) (e (ix2 q j))) := rfl
  rw [h, Ideal.ofBits_one_f32]

theorem idx : ∀ t : Fin cfg0.N, win0_0.index t = ![0, 2] ∧ win0_1.index t = ![0, 0] ∧ win0_2.index t = ![0, 0] ∧ win0_3.index t = ![0, 0]
    ∧ win0_4.index t = ![0, 0] :=
  (by decide +kernel : ∀ t : Fin grid0.N, _)

abbrev X (c : Dev nD) : FVec Ideal S2048x4096 .f32 := m ((c : Thread nD τ).loc main_arg0)
abbrev B (c : Dev nD) : FVec Ideal S8 .f32 := m ((c : Thread nD τ).loc main_arg1)
abbrev D (c : Dev nD) : FVec Ideal S2048x128 .f32 := m ((c : Thread nD τ).loc main_arg2)

theorem x_read (c : Dev nD) (t : Fin cfg0.N) (q : Fin 2048) (j : Fin 128) :
    (show Vec Ideal S2048x128 .f32 from iblk m c 0 t) (ix2 q j) = X m c (ix2 q ⟨256 + j.val, by omega⟩) := by
  blk_ext [iblk, V, idx t]
theorem d_read (c : Dev nD) (t : Fin cfg0.N) (q : Fin 2048) (j : Fin 128) :
    (show Vec Ideal S2048x128 .f32 from iblk m c 2 t) (ix2 q j) = D m c (ix2 q j) := by
  blk_ext [iblk, V, idx t]
theorem bias_eq (c : Dev nD) (j : Fin 128) : V m c main_v1 (ix2 0 j) = bias (B m c) (ix1 j) := by
  have h : V m c main_v1 = shapeCast S1x128 (bias (B m c)) shapeCasts_S128_S1x128 := by
    unfold_abbrev_sides
    simp only [hostOps0, hostOps0_1, hostOps0_2, List.flatten_cons, List.flatten_nil, List.append_nil, List.cons_append, List.nil_append]
    after_results
    rfl
  rw [h]
  generalize bias (B m c) = y
  pointwise []
theorem b_read (c : Dev nD) (t : Fin cfg0.N) (j : Fin 128) :
    (show Vec Ideal S1x128 .f32 from iblk m c 1 t) (ix2 0 j) = bias (B m c) (ix1 j) := by
  refine Eq.trans ?_ (bias_eq m c j)
  blk_ext [iblk, idx t]

theorem point (c : Dev nD) (t : Fin cfg0.N) (q : Fin 2048) (j : Fin 128) :
    k0_pay1 (F := Ideal) (sums (iblk m c 2 t)) (k0_pay6 (iblk m c 0 t) (iblk m c 1 t)) (ix2 q j) = grad (X m c) (B m c) (D m c) q j := by
  refine (slope_apply _ _ q j).trans (congrArg₂ (· * ·) ?_ (congrArg (fun e => 1 - Ideal.div 1 e) ((gate_apply _ _ q j).trans
    (congrArg (fun z => 1 + Ideal.exp (-z)) (congrArg₂ (· + ·) (x_read m c t q j) (b_read m c t j))))))
  exact sums_holds _ (lane (D m c)) (fun n j => lane_past _ n j) (fun q j => (d_read m c t q j).trans (lane_apply _ q j)) q j

theorem left (c : Dev nD) (t : Fin cfg0.N) : (dats m 0 c).after 3 t
    = k0_pay1 (F := Ideal) (sums (iblk m c 2 t)) (k0_pay6 (iblk m c 0 t) (iblk m c 1 t)) := by
  rw [after0_3]
  unfold_out out0_3
  frame_out
  exact congrArg (fun y => k0_pay1 (F := Ideal) y (k0_pay6 (iblk m c 0 t) (iblk m c 1 t))) (pay_eq _)
theorem left_b (c : Dev nD) (t : Fin cfg0.N) : (dats m 0 c).after 4 t
    = k0_pay3 (F := Ideal) (sums (iblk m c 2 t)) (k0_pay6 (iblk m c 0 t) (iblk m c 1 t)) := by
  rw [after0_4]
  unfold_out out0_4
  frame_out
  exact congrArg (fun y => k0_pay3 (F := Ideal) y (k0_pay6 (iblk m c 0 t) (iblk m c 1 t))) (pay_eq _)

theorem column (y e : FVec Ideal S2048x128 .f32) (j : Fin 128) : k0_pay3 (F := Ideal) y e (ix2 0 j) = ∑ q : Fin 2048, k0_pay1 (F := Ideal) y e (ix2 q j) := by
  unfold k0_pay3
  generalize k0_pay1 (F := Ideal) y e = z
  pointwise []

theorem final (c : Dev nD) : (dats m 0 c).arrAt 3 (cfgs 0).N = fun i : S2048x128.Idx => grad (X m c) (B m c) (D m c) (i 0) (i 1) := by
  refine (dats m 0 c).arrAt_eq_of_covers 3 _ (by decide +kernel) fun t _ y => ?_
  blk_simp
  rw [left]
  obtain ⟨q, j, rfl⟩ : ∃ (q : Fin 2048) (j : Fin 128), y = ix2 q j := ⟨y 0, y 1, eq_ix2 y⟩
  refine (point m c t q j).trans (congrArg₂ (grad (X m c) (B m c) (D m c)) (Fin.ext ?_) (Fin.ext ?_))
  · blk_simp [idx t]
  · blk_simp [idx t]
theorem final_b (c : Dev nD) : (dats m 0 c).arrAt 4 (cfgs 0).N = fun i : S1x128.Idx => total (X m c) (B m c) (D m c) (i 1) := by
  refine (dats m 0 c).arrAt_eq_of_covers 4 _ (by decide +kernel) fun t _ y => ?_
  blk_simp
  rw [left_b]
  obtain ⟨j, rfl⟩ : ∃ j : Fin 128, y = ix2 0 j := ⟨y 1, (eq_ix2 y).trans (congrArg (ix2 · _) (Subsingleton.elim (α := Fin 1) _ _))⟩
  refine (column _ _ j).trans (Finset.sum_congr rfl fun q _ => (point m c t q j).trans (congrArg (grad (X m c) (B m c) (D m c) q) (Fin.ext ?_)))
  blk_simp [idx t]

end Kernel

section Ref

open Cert.FoRefIdeal Cert.FoRefIdeal.Gen Cert.FoRefIdeal.Read

variable (X : FVec Ideal S2048x4096 .f32) (B : FVec Ideal S8 .f32) (D : FVec Ideal S2048x128 .f32)

theorem ref_arg (q : Fin 2048) (j : Fin 128) : val_main_v4 (F := Ideal) X B (ix2 q j) = X (ix2 q ⟨256 + j.val, by omega⟩) + bias B (ix1 j) := by
  pointwise [val_main_v4, val_main_v3, val_main_v2, val_main_v0]

theorem une_self (z : EReal) : Ideal.cmp .une z z = 0#1 := by simp [Ideal.cmp]
theorem bits_top : Ideal.ofBits .f32 0x7F800000#32 = (⊤ : EReal) := by
  simp [Ideal.ofBits, Ideal.ieee]
theorem fin_eq (y : EReal) : Scalar.select (Ideal.cmp .oeq y ⊤) (0 : EReal) y = fin y := by
  unfold fin
  by_cases h : y = ⊤
  · rw [if_pos h, h]
    simp [Ideal.cmp]
    rfl
  · rw [if_neg h, show Ideal.cmp .oeq y ⊤ = 0#1 from congrArg BitVec.ofBool (decide_eq_false h)]
    rfl

/-- The softplus of an argument as the host writes it. -/
abbrev hostSoft (y : EReal) : EReal := Scalar.select (Ideal.cmp .une (y - Ideal.ofBits .f32 0x00000000#32) (y - Ideal.ofBits .f32 0x00000000#32))
  (y + Ideal.ofBits .f32 0x00000000#32) (max y (Ideal.ofBits .f32 0x00000000#32) + Ideal.log1p (Ideal.exp
    (-max (y - Ideal.ofBits .f32 0x00000000#32) (-(y - Ideal.ofBits .f32 0x00000000#32)))))
theorem hostSoft_eq (y : EReal) : hostSoft y = softplus y := by
  unfold hostSoft
  rw [une_self, Ideal.ofBits_zero_f32, sub_zero]
  rfl

theorem ref_slope (q : Fin 2048) (j : Fin 128) : val_main_v5_1 (F := Ideal) X B (ix2 q j)
    = 1 - Ideal.div 1 (1 + Ideal.exp (-(X (ix2 q ⟨256 + j.val, by omega⟩) + bias B (ix1 j)))) := by
  rw [← slope, ← ref_arg X B q j]
  have e : ∀ z : EReal, Ideal.exp (Scalar.select (Ideal.cmp .oeq (-z) (Ideal.ofBits .f32 0x7F800000#32)) (Ideal.ofBits .f32 0x00000000#32) (-z)
      - Scalar.select (Ideal.cmp .oeq (hostSoft (-z)) (Ideal.ofBits .f32 0x7F800000#32)) (Ideal.ofBits .f32 0x00000000#32) (hostSoft (-z)))
      = Ideal.exp (fin (-z) - fin (softplus (-z))) := fun z => by
    rw [hostSoft_eq, bits_top, Ideal.ofBits_zero_f32, fin_eq, fin_eq]
  exact (show _ = _ from rfl).trans (e (val_main_v4 (F := Ideal) X B (ix2 q j)))

theorem ref_out (q : Fin 2048) (j : Fin 128) : val_main_v8 (F := Ideal) X B D (ix2 q j) = grad X B D q j := by
  have e : val_main_v8 (F := Ideal) X B D (ix2 q j) = -(-val_main_v7 (F := Ideal) D (ix2 q j) * val_main_v5_1 (F := Ideal) X B (ix2 q j)) := rfl
  rw [e, EReal.neg_mul, neg_neg]
  exact congrArg₂ (· * ·) (revsum rfl D _ (fun _ => Ideal.ofBits_zero_f32) _ _ (lane D) (fun n j => lane_past D n j) (fun q j => lane_apply D q j) q j) (ref_slope X B q j)

theorem ref_bias (j : Fin 128) : val_main_v13 (F := Ideal) X B D (ix2 0 j) = total X B D j := by
  have e : val_main_v13 (F := Ideal) X B D (ix2 0 j) = ∑ q : Fin 2048, val_main_v8 (F := Ideal) X B D (ix2 q j) := by
    unfold val_main_v13 val_main_v11 val_main_v10 val_main_v9
    generalize val_main_v8 (F := Ideal) X B D = y
    pointwise [val_main_cst, val_main_cst_0]
    exact Fin.sum_univ_one _
  exact e.trans (Finset.sum_congr rfl fun q _ => ref_out X B D q j)

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.FoRefIdeal.Value.run m ρ)

end Ref

theorem algebraic : Cert.algebraic_FoIdeal_FoRefIdeal := by
  intro m ρ m' ρ' _ hag
  refine ⟨fun c i => grad (X m c) (B m c) (D m c) (i 0) (i 1), fun c i => total (X m c) (B m c) (D m c) (i 1),
    (θ_run _ _ _).mono (fun r h c => ⟨(h c).1.trans (final m c), (h c).2.1.trans (final_b m c), (h c).2.2⟩) (Cert.FoIdeal.Value.run_blocks m ρ),
    (θ_run _ _ _).mono (fun r h c => ⟨(h c).1.trans ?_, (h c).2.1.trans ?_, (h c).2.2⟩) (Cert.FoRefIdeal.Value.run m' ρ')⟩
  · rw [Cert.FoRefIdeal.Read.val_main_v12_eq, (hag c).1, (hag c).2.1, (hag c).2.2]
    funext i
    exact (congrArg _ (eq_ix2 i)).trans (ref_out _ _ _ (i 0) (i 1))
  · rw [Cert.FoRefIdeal.Read.val_main_v13_eq, (hag c).1, (hag c).2.1, (hag c).2.2]
    funext i
    have e : i = ix2 0 (i 1) := (eq_ix2 i).trans (congrArg (ix2 · _) (Subsingleton.elim (α := Fin 1) _ _))
    exact (congrArg _ e).trans (ref_bias _ _ _ (i 1))

end Cert.FoProof
-- ==== Proof.Sb.lean ====
/- The sum of the eight devices' packed small gradients. -/
module

public import proofs.«01_k».proof.Defs
public import proofs.«01_k».proof.Proof.Gen.SbIdeal.Value
public import proofs.«01_k».proof.Proof.Gen.SbRefIdeal.Run
public import proofs.«01_k».proof.Proof.Gen.SbRefIdeal.Read
public import Idealize.ShloMosaic.Lib.Pipeline.ValueKit

@[expose] public section

set_option maxRecDepth 16384

noncomputable section

namespace Cert.SbProof

open Idealize.ShloMosaic Idealize.ShloMosaic.TcCoe Idealize.SL.Sem

section Kernel

open Cert.SbIdeal Cert.SbIdeal.Gen

variable (m : (ℓ : Loc nD τ sig) → Buf (Elt Ideal) ℓ)

/-- Device `k`'s part of the packed gradients. -/
abbrev devs (k : ℕ) (h : ∀ a, (![k, 0, 0] : Fin 3 → ℕ) a + S1x184x128.size a ≤ S8x184x128.size a) (x : Vec Ideal S8x184x128 .f32) :
    Vec Ideal S1x184x128 .f32 :=
  View.ld x (Rect.unit (s := S8x184x128) ![k, 0, 0] S1x184x128.size h)
theorem devs_apply (k : Fin 8) (h : ∀ a, (![k.val, 0, 0] : Fin 3 → ℕ) a + S1x184x128.size a ≤ S8x184x128.size a) (x : Vec Ideal S8x184x128 .f32)
    (q : Fin 184) (j : Fin 128) : devs k.val h x (ix3 0 q j) = x (ix3 k q j) := by
  refine congrArg x ?_
  funext a
  fin_cases a <;> exact Fin.ext (by simp [Rect.unit, LoadRect.idx])

theorem add_apply (a b c d e f g h : Vec Ideal S1x184x128 .f32) (q : Fin 184) (j : Fin 128) :
    k0_pay1 (F := Ideal) a b c d e f g h (ix2 q j) = a (ix3 0 q j) + b (ix3 0 q j) + c (ix3 0 q j) + d (ix3 0 q j) + e (ix3 0 q j) + f (ix3 0 q j)
      + g (ix3 0 q j) + h (ix3 0 q j) := by
  pointwise [k0_pay1]

/-- The eight devices' parts, summed. -/
abbrev total (x : Vec Ideal S8x184x128 .f32) : FVec Ideal S184x128 .f32 :=
  k0_pay1 (F := Ideal) (devs 0 inb_S8x184x128_S1x184x128_0_0_0 x) (devs 1 inb_S8x184x128_S1x184x128_1_0_0 x) (devs 2 inb_S8x184x128_S1x184x128_2_0_0 x)
    (devs 3 inb_S8x184x128_S1x184x128_3_0_0 x) (devs 4 inb_S8x184x128_S1x184x128_4_0_0 x) (devs 5 inb_S8x184x128_S1x184x128_5_0_0 x)
    (devs 6 inb_S8x184x128_S1x184x128_6_0_0 x) (devs 7 inb_S8x184x128_S1x184x128_7_0_0 x)
theorem total_apply (x : Vec Ideal S8x184x128 .f32) (q : Fin 184) (j : Fin 128) : total x (ix2 q j) = ∑ d : Fin 8, x (ix3 d q j) := by
  refine (add_apply _ _ _ _ _ _ _ _ q j).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (devs_apply 0 _ x q j) (devs_apply 1 _ x q j)) (devs_apply 2 _ x q j)) (devs_apply 3 _ x q j)) (devs_apply 4 _ x q j)) (devs_apply 5 _ x q j))
    (devs_apply 6 _ x q j)) (devs_apply 7 _ x q j)

theorem idx : ∀ t : Fin cfg0.N, win0_0.index t = ![0, t.val, 0] ∧ win0_1.index t = ![t.val, 0] ∧ t.val < 1 :=
  (by decide +kernel : ∀ t : Fin grid0.N, _)

abbrev P (c : Dev nD) : FVec Ideal S8x184x128 .f32 := m ((c : Thread nD τ).loc main_arg0)
abbrev row (t : Fin cfg0.N) (q : Fin 184) : Fin 184 := ⟨t.val * 184 + q.val, by have := (idx t).2.2; omega⟩

theorem p_read (c : Dev nD) (t : Fin cfg0.N) (d : Fin 8) (q : Fin 184) (j : Fin 128) :
    (show Vec Ideal S8x184x128 .f32 from iblk m c 0 t) (ix3 d q j) = P m c (ix3 d (row t q) j) := by
  blk_ext [iblk, V, idx t]

theorem left (c : Dev nD) (t : Fin cfg0.N) : (dats m 0 c).after 1 t = total (iblk m c 0 t) := by
  rw [after0_1]; frame_out

theorem final (c : Dev nD) : (dats m 0 c).arrAt 1 (cfgs 0).N = fun i : S184x128.Idx => (show EReal from ∑ d : Fin 8, P m c (ix3 d (i 0) (i 1))) := by
  refine (dats m 0 c).arrAt_eq_of_covers 1 _ (by decide +kernel) fun t _ y => ?_
  blk_simp
  rw [left]
  obtain ⟨q, j, rfl⟩ : ∃ (q : Fin 184) (j : Fin 128), y = ix2 q j := ⟨y 0, y 1, eq_ix2 y⟩
  refine ((total_apply _ q j).trans (Finset.sum_congr rfl fun d _ => p_read m c t d q j)).trans
    (congrArg₂ (fun i j => (show EReal from ∑ d : Fin 8, P m c (ix3 d i j))) (Fin.ext ?_) (Fin.ext ?_))
  · blk_simp [idx t]
    have := (idx t).2.2
    show t.val * 184 + q.val = q.val
    omega
  · blk_simp [idx t]

end Kernel

section Ref

open Cert.SbRefIdeal Cert.SbRefIdeal.Gen Cert.SbRefIdeal.Read

variable (P : FVec Ideal S8x184x128 .f32)

theorem ref_out (q : Fin 184) (j : Fin 128) : val_main_v0 (F := Ideal) P (ix2 q j) = ∑ d : Fin 8, P (ix3 d q j) := by
  pointwise [val_main_v0, val_main_cst]

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run _ _ _).mono (fun r h => ⟨fun c => (h c).2, sem_eq_zero_of_no_sems (by decide) r.2⟩) (Cert.SbRefIdeal.Value.run m ρ)

end Ref

theorem algebraic : Cert.algebraic_SbIdeal_SbRefIdeal := by
  intro m ρ m' ρ' _ hag
  refine ⟨fun c i => (show EReal from ∑ d : Fin 8, P m c (ix3 d (i 0) (i 1))),
    (θ_run _ _ _).mono (fun r h c => ⟨(h c).1.trans (final m c), (h c).2⟩) (Cert.SbIdeal.Value.run_blocks m ρ),
    (θ_run _ _ _).mono (fun r h c => ⟨(h c).1.trans ?_, (h c).2⟩) (Cert.SbRefIdeal.Value.run m' ρ')⟩
  rw [Cert.SbRefIdeal.Read.val_main_v0_eq, hag c]
  funext i
  exact (congrArg _ (eq_ix2 i)).trans (ref_out _ (i 0) (i 1))

end Cert.SbProof
-- ==== Proof.Mf.lean ====
/- The gate merge's forward call: the three branches, each times its gate, added. -/
module

public import proofs.«01_k».proof.Defs
public import proofs.«01_k».proof.Proof.Gen.MfIdeal.Value
public import proofs.«01_k».proof.Proof.Gen.MfRefIdeal.Run
public import proofs.«01_k».proof.Proof.Gen.MfRefIdeal.Read
public import proofs.«01_k».proof.Proof.Merge
public import Idealize.ShloMosaic.Lib.Pipeline.ValueKit

@[expose] public section

set_option maxRecDepth 16384

noncomputable section

namespace Cert.MfProof

open Idealize.ShloMosaic Idealize.ShloMosaic.TcCoe Idealize.SL.Sem

open Cert.MergeProof (sigm part wide gate)

/-- The merged row: each branch times its gate. -/
def merged (R : FVec Ideal ⟨2, ![2048, 4096]⟩ .f32) (B : FVec Ideal ⟨1, ![3072]⟩ .f32) (Y1 Y2 Y3 : FVec Ideal ⟨2, ![2048, 1024]⟩ .bf16)
    (i : Fin 2048) (j : Fin 1024) : EReal :=
  gate R B i (part 0 j) * Y1 (ix2 i j) + gate R B i (part 1 j) * Y2 (ix2 i j) + gate R B i (part 2 j) * Y3 (ix2 i j)

section Kernel

open Cert.MfIdeal Cert.MfIdeal.Gen

variable (m : (ℓ : Loc nD τ sig) → Buf (Elt Ideal) ℓ)

theorem two_apply (g : Vec Ideal S512x512 .f32) (b : Vec Ideal S1x512 .f32) (y : Vec Ideal S512x512 .bf16) (g' : Vec Ideal S512x512 .f32)
    (b' : Vec Ideal S1x512 .f32) (y' : Vec Ideal S512x512 .bf16) (r e : Fin 512) :
    k0_pay2 (F := Ideal) g b y g' b' y' (ix2 r e)
      = sigm (g (ix2 r e) + b (ix2 0 e)) * y (ix2 r e) + sigm (g' (ix2 r e) + b' (ix2 0 e)) * y' (ix2 r e) := by
  pointwise [k0_pay2]
  rw [zero_sub, zero_sub]
  rfl

theorem three_apply (x : FVec Ideal S512x512 .f32) (g : Vec Ideal S512x512 .f32) (b : Vec Ideal S1x512 .f32) (y : Vec Ideal S512x512 .bf16)
    (r e : Fin 512) :
    k0_pay1 (F := Ideal) x (k0_pay3 (F := Ideal) g b) y (ix2 r e) = x (ix2 r e) + sigm (g (ix2 r e) + b (ix2 0 e)) * y (ix2 r e) := by
  pointwise [k0_pay1, k0_pay3]
  rw [zero_sub]
  rfl

theorem idx : ∀ t : Fin cfg0.N, win0_0.index t = ![t.val / 2, 2 + t.val % 2] ∧ win0_1.index t = ![t.val / 2, 4 + t.val % 2]
    ∧ win0_2.index t = ![t.val / 2, 6 + t.val % 2] ∧ win0_3.index t = ![0, t.val % 2] ∧ win0_4.index t = ![0, 2 + t.val % 2]
    ∧ win0_5.index t = ![0, 4 + t.val % 2] ∧ win0_6.index t = ![t.val / 2, t.val % 2] ∧ win0_7.index t = ![t.val / 2, t.val % 2]
    ∧ win0_8.index t = ![t.val / 2, t.val % 2] ∧ win0_9.index t = ![t.val / 2, t.val % 2] ∧ t.val < 8 :=
  (by decide +kernel : ∀ t : Fin grid0.N, _)

abbrev R (c : Dev nD) : FVec Ideal S2048x4096 .f32 := m ((c : Thread nD τ).loc main_arg0)
abbrev B (c : Dev nD) : FVec Ideal S3072 .f32 := m ((c : Thread nD τ).loc main_arg1)
abbrev Y1 (c : Dev nD) : FVec Ideal S2048x1024 .bf16 := m ((c : Thread nD τ).loc main_arg2)
abbrev Y2 (c : Dev nD) : FVec Ideal S2048x1024 .bf16 := m ((c : Thread nD τ).loc main_arg3)
abbrev Y3 (c : Dev nD) : FVec Ideal S2048x1024 .bf16 := m ((c : Thread nD τ).loc main_arg4)

abbrev row (t : Fin cfg0.N) (r : Fin 512) : Fin 2048 := ⟨t.val / 2 * 512 + r.val, by have := (idx t).2.2.2.2.2.2.2.2.2.2; omega⟩
abbrev col (t : Fin cfg0.N) (e : Fin 512) : Fin 1024 := ⟨t.val % 2 * 512 + e.val, by have := (idx t).2.2.2.2.2.2.2.2.2.2; omega⟩

theorem bias_eq (c : Dev nD) (j : Fin 3072) : V m c main_v0 (ix2 0 j) = B m c (ix1 j) := by
  have h : V m c main_v0 = shapeCast S1x3072 (B m c) shapeCasts_S3072_S1x3072 := by
    unfold_abbrev_sides
    after_results
    rfl
  rw [h]
  pointwise []
theorem g1_read (c : Dev nD) (t : Fin cfg0.N) (r e : Fin 512) :
    (show Vec Ideal S512x512 .f32 from iblk m c 0 t) (ix2 r e) = R m c (ix2 (row t r) (wide (part 0 (col t e)))) := by
  blk_ext [iblk, V, idx t]
theorem b1_read (c : Dev nD) (t : Fin cfg0.N) (e : Fin 512) :
    (show Vec Ideal S1x512 .f32 from iblk m c 3 t) (ix2 0 e) = B m c (ix1 (part 0 (col t e))) := by
  refine Eq.trans ?_ (bias_eq m c _)
  blk_ext [iblk, idx t]
theorem y1_read (c : Dev nD) (t : Fin cfg0.N) (r e : Fin 512) :
    (show Vec Ideal S512x512 .bf16 from iblk m c 6 t) (ix2 r e) = Y1 m c (ix2 (row t r) (col t e)) := by
  blk_ext [iblk, V, idx t]
theorem g2_read (c : Dev nD) (t : Fin cfg0.N) (r e : Fin 512) :
    (show Vec Ideal S512x512 .f32 from iblk m c 1 t) (ix2 r e) = R m c (ix2 (row t r) (wide (part 1 (col t e)))) := by
  blk_ext [iblk, V, idx t]
theorem b2_read (c : Dev nD) (t : Fin cfg0.N) (e : Fin 512) :
    (show Vec Ideal S1x512 .f32 from iblk m c 4 t) (ix2 0 e) = B m c (ix1 (part 1 (col t e))) := by
  refine Eq.trans ?_ (bias_eq m c _)
  blk_ext [iblk, idx t]
theorem y2_read (c : Dev nD) (t : Fin cfg0.N) (r e : Fin 512) :
    (show Vec Ideal S512x512 .bf16 from iblk m c 7 t) (ix2 r e) = Y2 m c (ix2 (row t r) (col t e)) := by
  blk_ext [iblk, V, idx t]
theorem g3_read (c : Dev nD) (t : Fin cfg0.N) (r e : Fin 512) :
    (show Vec Ideal S512x512 .f32 from iblk m c 2 t) (ix2 r e) = R m c (ix2 (row t r) (wide (part 2 (col t e)))) := by
  blk_ext [iblk, V, idx t]
theorem b3_read (c : Dev nD) (t : Fin cfg0.N) (e : Fin 512) :
    (show Vec Ideal S1x512 .f32 from iblk m c 5 t) (ix2 0 e) = B m c (ix1 (part 2 (col t e))) := by
  refine Eq.trans ?_ (bias_eq m c _)
  blk_ext [iblk, idx t]
theorem y3_read (c : Dev nD) (t : Fin cfg0.N) (r e : Fin 512) :
    (show Vec Ideal S512x512 .bf16 from iblk m c 8 t) (ix2 r e) = Y3 m c (ix2 (row t r) (col t e)) := by
  blk_ext [iblk, V, idx t]

/-- One point's block, from what its arguments' blocks hold. -/
theorem point_of (c : Dev nD) (t : Fin cfg0.N) (g1 : Vec Ideal S512x512 .f32) (b1 : Vec Ideal S1x512 .f32) (y1 : Vec Ideal S512x512 .bf16)
    (g2 : Vec Ideal S512x512 .f32) (b2 : Vec Ideal S1x512 .f32) (y2 : Vec Ideal S512x512 .bf16)
    (g3 : Vec Ideal S512x512 .f32) (b3 : Vec Ideal S1x512 .f32) (y3 : Vec Ideal S512x512 .bf16)
    (hg1 : ∀ r e, g1 (ix2 r e) = R m c (ix2 (row t r) (wide (part 0 (col t e))))) (hb1 : ∀ e, b1 (ix2 0 e) = B m c (ix1 (part 0 (col t e))))
    (hy1 : ∀ r e, y1 (ix2 r e) = Y1 m c (ix2 (row t r) (col t e)))
    (hg2 : ∀ r e, g2 (ix2 r e) = R m c (ix2 (row t r) (wide (part 1 (col t e))))) (hb2 : ∀ e, b2 (ix2 0 e) = B m c (ix1 (part 1 (col t e))))
    (hy2 : ∀ r e, y2 (ix2 r e) = Y2 m c (ix2 (row t r) (col t e)))
    (hg3 : ∀ r e, g3 (ix2 r e) = R m c (ix2 (row t r) (wide (part 2 (col t e))))) (hb3 : ∀ e, b3 (ix2 0 e) = B m c (ix1 (part 2 (col t e))))
    (hy3 : ∀ r e, y3 (ix2 r e) = Y3 m c (ix2 (row t r) (col t e))) (r e : Fin 512) :
    k0_pay1 (F := Ideal) (k0_pay2 (F := Ideal) g1 b1 y1 g2 b2 y2) (k0_pay3 (F := Ideal) g3 b3) y3 (ix2 r e)
      = merged (R m c) (B m c) (Y1 m c) (Y2 m c) (Y3 m c) (row t r) (col t e) := by
  rw [three_apply, two_apply, hg1, hb1, hy1, hg2, hb2, hy2, hg3, hb3, hy3]
  rfl

theorem point (c : Dev nD) (t : Fin cfg0.N) (r e : Fin 512) :
    k0_pay1 (F := Ideal) (k0_pay2 (F := Ideal) (iblk m c 0 t) (iblk m c 3 t) (iblk m c 6 t) (iblk m c 1 t) (iblk m c 4 t) (iblk m c 7 t))
      (k0_pay3 (F := Ideal) (iblk m c 2 t) (iblk m c 5 t)) (iblk m c 8 t) (ix2 r e)
      = merged (R m c) (B m c) (Y1 m c) (Y2 m c) (Y3 m c) (row t r) (col t e) :=
  point_of m c t _ _ _ _ _ _ _ _ _ (g1_read m c t) (b1_read m c t) (y1_read m c t) (g2_read m c t) (b2_read m c t) (y2_read m c t)
    (g3_read m c t) (b3_read m c t) (y3_read m c t) r e

theorem left (c : Dev nD) (t : Fin cfg0.N) : (dats m 0 c).after 9 t = k0_pay1 (F := Ideal) (k0_pay2 (F := Ideal) (iblk m c 0 t) (iblk m c 3 t) (iblk m c 6 t) (iblk m c 1 t) (iblk m c 4 t) (iblk m c 7 t))
      (k0_pay3 (F := Ideal) (iblk m c 2 t) (iblk m c 5 t)) (iblk m c 8 t) := by
  rw [after0_9]; frame_out

theorem final (c : Dev nD) :
    (dats m 0 c).arrAt 9 (cfgs 0).N = fun i : S2048x1024.Idx => merged (R m c) (B m c) (Y1 m c) (Y2 m c) (Y3 m c) (i 0) (i 1) := by
  refine (dats m 0 c).arrAt_eq_of_covers 9 _ (by decide +kernel) fun t _ y => ?_
  blk_simp
  rw [left]
  obtain ⟨r, e, rfl⟩ : ∃ (r e : Fin 512), y = ix2 r e := ⟨y 0, y 1, eq_ix2 y⟩
  refine (point m c t r e).trans (congrArg₂ (merged (R m c) (B m c) (Y1 m c) (Y2 m c) (Y3 m c)) (Fin.ext ?_) (Fin.ext ?_))
  · blk_simp [idx t]
  · blk_simp [idx t]

end Kernel

section Ref

open Cert.MfRefIdeal Cert.MfRefIdeal.Gen Cert.MfRefIdeal.Read

variable (R : FVec Ideal S2048x4096 .f32) (B : FVec Ideal S3072 .f32) (Y1 Y2 Y3 : FVec Ideal S2048x1024 .bf16)

theorem ref_gate (i : Fin 2048) (c : Fin 3072) : val_main_v12 (F := Ideal) R B (ix2 i c) = gate R B i c := by
  pointwise [val_main_v12, val_main_v11, val_main_v10, val_main_v9, val_main_v8, val_main_v7, val_main_v6, val_main_v5, val_main_v4, val_main_v0,
    val_main_cst, val_main_cst_0]
  rfl

theorem ref_out (i : Fin 2048) (j : Fin 1024) : val_main_v21 (F := Ideal) R B Y1 Y2 Y3 (ix2 i j) = merged R B Y1 Y2 Y3 i j := by
  pointwise [val_main_v21, val_main_v20, val_main_v19, val_main_v18, val_main_v17, val_main_v16, val_main_v15, val_main_v14, val_main_v13,
    val_main_v3, val_main_v2, val_main_v1]
  simp only [ref_gate]
  exact congrArg (fun c => gate R B i c * Y1 (ix2 i j) + gate R B i (part 1 j) * Y2 (ix2 i j) + gate R B i (part 2 j) * Y3 (ix2 i j))
    (Fin.ext (by simp))

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Cert.MfRefIdeal.Value.run m ρ)

end Ref

theorem algebraic : Cert.algebraic_MfIdeal_MfRefIdeal := by
  intro m ρ m' ρ' _ hag
  refine ⟨fun c i => merged (R m c) (B m c) (Y1 m c) (Y2 m c) (Y3 m c) (i 0) (i 1),
    (θ_run _ _ _).mono (fun r h c => ⟨(h c).1.trans (final m c), (h c).2⟩) (Cert.MfIdeal.Value.run_blocks m ρ),
    (θ_run _ _ _).mono (fun r h c => ⟨(h c).1.trans ?_, (h c).2⟩) (Cert.MfRefIdeal.Value.run m' ρ')⟩
  rw [Cert.MfRefIdeal.Read.val_main_v21_eq, (hag c).1, (hag c).2.1, (hag c).2.2.1, (hag c).2.2.2.1, (hag c).2.2.2.2]
  funext i
  exact (congrArg _ (eq_ix2 i)).trans (ref_out _ _ _ _ _ (i 0) (i 1))

end Cert.MfProof
-- ==== Proof.Xf.lean ====
/- The cross-attention's forward call: the softmax of the scaled scores against the values, head by head. -/
module

public import proofs.«01_k».proof.Defs
public import proofs.«01_k».proof.Proof.Gen.XfIdeal.Value
public import proofs.«01_k».proof.Proof.Gen.XfRefIdeal.Run
public import proofs.«01_k».proof.Proof.Gen.XfRefIdeal.Read
public import proofs.«01_k».proof.Proof.XattnMath
public import Idealize.ShloMosaic.Lib.Pipeline.ValueKit

@[expose] public section

set_option maxRecDepth 16384

noncomputable section

namespace Cert.XfProof

open Idealize.ShloMosaic Idealize.ShloMosaic.TcCoe Idealize.SL.Sem

open Cert.XattnMath Cert.Real

/-- One head's result: the softmax of the query's scores against the values. -/
def attend (X : FVec Ideal ⟨2, ![2048, 1024]⟩ .bf16) (KV : FVec Ideal ⟨2, ![256, 2048]⟩ .bf16) (q : Fin 2048) (e : Fin 1024) : EReal :=
  ∑ j : Fin 256, prob (score X KV (head e) q) j * KV (ix2 j (⟨1024 + e.val, by omega⟩ : Fin 2048))

section Kernel

open Cert.XfIdeal Cert.XfIdeal.Gen

variable (m : (ℓ : Loc nD τ sig) → Buf (Elt Ideal) ℓ)

/-- A block's scaled scores. -/
def bscore (q : Vec Ideal S512x256 .bf16) (k : Vec Ideal S256x256 .bf16) (r : Fin 512) (j : Fin 256) : EReal :=
  (∑ d : Fin 256, q (ix2 r d) * k (ix2 j d)) * scale

theorem block_apply (q : Vec Ideal S512x256 .bf16) (k v : Vec Ideal S256x256 .bf16) (r : Fin 512) (e : Fin 256) :
    k0_pay1 (F := Ideal) q k v (ix2 r e) = ∑ j : Fin 256, prob (bscore q k r) j * v (ix2 j e) := by
  pointwise [k0_pay1]
  rw [ofBits_neg_inf_f32]
  rfl

theorem idx : ∀ t : Fin cfg0.N, win0_0.index t = ![t.val / 4, t.val % 4] ∧ win0_1.index t = ![0, t.val % 4]
    ∧ win0_2.index t = ![0, t.val % 4 + 4] ∧ win0_3.index t = ![t.val / 4, t.val % 4] ∧ t.val < 16 :=
  (by decide +kernel : ∀ t : Fin grid0.N, _)

abbrev X (c : Dev nD) : FVec Ideal S2048x1024 .bf16 := m ((c : Thread nD τ).loc main_arg0)
abbrev KV (c : Dev nD) : FVec Ideal S256x2048 .bf16 := m ((c : Thread nD τ).loc main_arg1)

abbrev hd (t : Fin cfg0.N) : Fin 4 := ⟨t.val % 4, by omega⟩
abbrev row (t : Fin cfg0.N) (r : Fin 512) : Fin 2048 := ⟨t.val / 4 * 512 + r.val, by have := (idx t).2.2.2.2; omega⟩

theorem q_read (c : Dev nD) (t : Fin cfg0.N) (r : Fin 512) (d : Fin 256) :
    (show Vec Ideal S512x256 .bf16 from iblk m c 0 t) (ix2 r d) = X m c (ix2 (row t r) (col (hd t) d)) := by
  blk_ext [iblk, V, idx t]
theorem k_read (c : Dev nD) (t : Fin cfg0.N) (j d : Fin 256) :
    (show Vec Ideal S256x256 .bf16 from iblk m c 1 t) (ix2 j d) = KV m c (ix2 j (kcol (hd t) d)) := by
  blk_ext [iblk, V, idx t]
theorem v_read (c : Dev nD) (t : Fin cfg0.N) (j d : Fin 256) :
    (show Vec Ideal S256x256 .bf16 from iblk m c 2 t) (ix2 j d) = KV m c (ix2 j (vcol (hd t) d)) := by
  blk_ext [iblk, V, idx t]

theorem bscore_eq (c : Dev nD) (t : Fin cfg0.N) (r : Fin 512) :
    bscore (iblk m c 0 t) (iblk m c 1 t) r = score (X m c) (KV m c) (hd t) (row t r) := by
  funext j
  unfold bscore score
  exact congrArg (· * scale) (Finset.sum_congr rfl fun d _ => congrArg₂ (· * ·) (q_read m c t r d) (k_read m c t j d))

theorem point (c : Dev nD) (t : Fin cfg0.N) (r : Fin 512) (e : Fin 256) :
    k0_pay1 (F := Ideal) (iblk m c 0 t) (iblk m c 1 t) (iblk m c 2 t) (ix2 r e) = attend (X m c) (KV m c) (row t r) (col (hd t) e) := by
  refine (block_apply _ _ _ r e).trans ?_
  rw [bscore_eq]
  unfold attend
  have hh : head (col (hd t) e) = hd t := Fin.ext (by show (t.val % 4 * 256 + e.val) / 256 = t.val % 4; omega)
  rw [hh]
  have hv : vcol (hd t) e = (⟨1024 + (col (hd t) e).val, by omega⟩ : Fin 2048) := rfl
  refine Finset.sum_congr rfl fun j _ => congrArg (prob (score (X m c) (KV m c) (hd t) (row t r)) j * ·) ?_
  exact (v_read m c t j e).trans (congrArg (fun k => KV m c (ix2 j k)) hv)

theorem left (c : Dev nD) (t : Fin cfg0.N) :
    (dats m 0 c).after 3 t = k0_pay1 (F := Ideal) (iblk m c 0 t) (iblk m c 1 t) (iblk m c 2 t) := by
  rw [after0_3]; frame_out

theorem final (c : Dev nD) :
    (dats m 0 c).arrAt 3 (cfgs 0).N = fun i : S2048x1024.Idx => attend (X m c) (KV m c) (i 0) (i 1) := by
  refine (dats m 0 c).arrAt_eq_of_covers 3 _ (by decide +kernel) fun t _ y => ?_
  blk_simp
  rw [left]
  obtain ⟨r, e, rfl⟩ : ∃ (r : Fin 512) (e : Fin 256), y = ix2 r e := ⟨y 0, y 1, eq_ix2 y⟩
  refine (point m c t r e).trans (congrArg₂ (attend (X m c) (KV m c)) (Fin.ext ?_) (Fin.ext ?_))
  · blk_simp [idx t]
  · blk_simp [idx t]

end Kernel

section Ref

open Cert.XfRefIdeal Cert.XfRefIdeal.Gen Cert.XfRefIdeal.Read

variable (X : FVec Ideal S2048x1024 .bf16) (KV : FVec Ideal S256x2048 .bf16)

theorem ref_score (h : Fin 4) (q : Fin 2048) (j : Fin 256) : val_main_v9 (F := Ideal) X KV (ix3 h q j) = score X KV h q j := by
  pointwise [val_main_v9, val_main_v8, val_main_v7, val_main_v5, val_main_v4, val_main_v2, val_main_v0, val_main_v1, val_main_cst]
  rfl
theorem ref_max (h : Fin 4) (q : Fin 2048) : val_main_v10 (F := Ideal) X KV (ix2 h q) = Finset.univ.fold max ⊥ (score X KV h q) := by
  pointwise [val_main_v10, val_main_cst_0]
  simp only [ref_score, ofBits_neg_inf_f32]
theorem ref_top (h : Fin 4) (q : Fin 2048) : val_main_v12 (F := Ideal) X KV (ix2 h q) = Finset.univ.fold max ⊥ (score X KV h q) := by
  rw [val_main_v12_apply, ref_max, val_main_v11_apply, val_main_cst_1_apply]
  show max (Ideal.ofBits .f32 0xFF800000#32) _ = _
  rw [ofBits_neg_inf_f32]
  exact max_eq_right bot_le
theorem ref_exp (h : Fin 4) (q : Fin 2048) (j : Fin 256) : val_main_v16 (F := Ideal) X KV (ix3 h q j) = expRow (score X KV h q) j := by
  pointwise [val_main_v16, val_main_v15, val_main_v14, val_main_v13]
  rw [ref_score, ref_top]
  rfl
theorem ref_prob (h : Fin 4) (q : Fin 2048) (j : Fin 256) : val_main_v20 (F := Ideal) X KV (ix3 h q j) = prob (score X KV h q) j := by
  pointwise [val_main_v20, val_main_v19, val_main_v18, val_main_v17, val_main_cst_2]
  simp only [ref_exp]
  rfl
theorem ref_out (q : Fin 2048) (e : Fin 1024) : val_main_v24 (F := Ideal) X KV (ix2 q e) = attend X KV q e := by
  pointwise [val_main_v24, val_main_v23, val_main_v22, val_main_v21, val_main_v6, val_main_v3, val_main_v0]
  exact Finset.sum_congr rfl fun j _ => (mul_comm (_ : EReal) _).trans (congrArg (· * KV (ix2 j (⟨1024 + e.val, by omega⟩ : Fin 2048))) (ref_prob X KV (head e) q j))

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.XfRefIdeal.Value.run m ρ)

end Ref

theorem algebraic : Cert.algebraic_XfIdeal_XfRefIdeal := by
  intro m ρ m' ρ' _ hag
  refine ⟨fun c i => attend (X m c) (KV m c) (i 0) (i 1),
    (θ_run _ _ _).mono (fun r h c => ⟨(h c).1.trans (final m c), (h c).2⟩) (Cert.XfIdeal.Value.run_blocks m ρ),
    (θ_run _ _ _).mono (fun r h c => ⟨(h c).1.trans ?_, (h c).2⟩) (Cert.XfRefIdeal.Value.run m' ρ')⟩
  rw [Cert.XfRefIdeal.Read.val_main_v24_eq, (hag c).1, (hag c).2]
  funext i
  exact (congrArg _ (eq_ix2 i)).trans (ref_out _ _ (i 0) (i 1))

end Cert.XfProof
-- ==== Proof.Norm.lean ====
/- The residual sum and the root-mean-square norm of a row. -/
module

public import Idealize.ShloMosaic.Lib.Pointwise

@[expose] public section

noncomputable section

namespace Cert.Norm

open Idealize.ShloMosaic

/-- `a b + x` at row `q` and column `j`. -/
def resid {n k d : ℕ} {f g h : FTy} (a : FVec Ideal ⟨2, ![n, k]⟩ f) (b : FVec Ideal ⟨2, ![k, d]⟩ g) (x : FVec Ideal ⟨2, ![n, d]⟩ h)
    (q : Fin n) (j : Fin d) : EReal :=
  (∑ e : Fin k, a (ix2 q e) * b (ix2 e j)) + x (ix2 q j)

/-- The mean of a row's squares, with the norm's small number added. -/
def meanSq (x : Fin 1024 → EReal) : EReal :=
  Ideal.div (∑ k : Fin 1024, x k * x k) (Ideal.ofBits .f32 0x44800000#32) + Ideal.ofBits .f32 0x358637BD#32

/-- The row divided by the root of its mean square, times the gain. -/
def rms (x g : Fin 1024 → EReal) (j : Fin 1024) : EReal := x j * Ideal.rsqrt (meanSq x) * g j

end Cert.Norm
-- ==== Proof.Nx.lean ====
/- The norm of the residual stream ahead of the mixer. -/
module

public import proofs.«01_k».proof.Defs
public import proofs.«01_k».proof.Proof.Gen.NxIdeal.Value
public import proofs.«01_k».proof.Proof.Gen.NxRefIdeal.Run
public import proofs.«01_k».proof.Proof.Gen.NxRefIdeal.Read
public import proofs.«01_k».proof.Proof.Norm
public import Idealize.ShloMosaic.Lib.Pipeline.ValueKit

@[expose] public section

set_option maxRecDepth 16384

noncomputable section

namespace Cert.NxProof

open Idealize.ShloMosaic Idealize.ShloMosaic.TcCoe Idealize.SL.Sem

open Cert.Norm

section Kernel

open Cert.NxIdeal Cert.NxIdeal.Gen

variable (m : (ℓ : Loc nD τ sig) → Buf (Elt Ideal) ℓ)

theorem block_apply (x : Vec Ideal S256x1024 .f32) (g : Vec Ideal S1x1024 .f32) (q : Fin 256) (j : Fin 1024) :
    k0_pay1 (F := Ideal) x g (ix2 q j) = rms (fun k => x (ix2 q k)) (fun k => g (ix2 0 k)) j := by
  pointwise [k0_pay1]
  rfl

theorem idx : ∀ t : Fin cfg0.N, win0_0.index t = ![t.val, 0] ∧ win0_1.index t = ![0, 0] ∧ win0_3.index t = ![t.val, 0] ∧ t.val < 8 :=
  (by decide +kernel : ∀ t : Fin grid0.N, _)

abbrev X (c : Dev nD) : FVec Ideal S2048x1024 .f32 := m ((c : Thread nD τ).loc main_arg0)
abbrev G (c : Dev nD) : FVec Ideal S1024 .f32 := m ((c : Thread nD τ).loc main_arg1)

abbrev row (t : Fin cfg0.N) (q : Fin 256) : Fin 2048 := ⟨t.val * 256 + q.val, by have := (idx t).2.2.2; omega⟩

theorem x_read (c : Dev nD) (t : Fin cfg0.N) (q : Fin 256) (j : Fin 1024) :
    (show Vec Ideal S256x1024 .f32 from iblk m c 0 t) (ix2 q j) = X m c (ix2 (row t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 1 t) (ix2 0 j) = G m c (ix1 j) := by
  refine Eq.trans ?_ (gain_eq m c j)
  blk_ext [iblk, idx t]

theorem point (c : Dev nD) (t : Fin cfg0.N) (q : Fin 256) (j : Fin 1024) :
    k0_pay1 (F := Ideal) (iblk m c 0 t) (iblk m c 1 t) (ix2 q j) = rms (fun k => X m c (ix2 (row t q) k)) (fun k => G m c (ix1 k)) j :=
  (block_apply _ _ q j).trans (congrArg₂ (fun x g => rms x g j) (funext (x_read m c t q)) (funext (g_read m c t)))

theorem left (c : Dev nD) (t : Fin cfg0.N) : (dats m 0 c).after 3 t = k0_pay1 (F := Ideal) (iblk m c 0 t) (iblk m c 1 t) := by
  rw [after0_3]; frame_out

theorem final (c : Dev nD) : (dats m 0 c).arrAt 3 (cfgs 0).N
    = fun i : S2048x1024.Idx => rms (fun k => X m c (ix2 (i 0) k)) (fun k => G m c (ix1 k)) (i 1) := by
  refine (dats m 0 c).arrAt_eq_of_covers 3 _ (by decide +kernel) fun t _ y => ?_
  blk_simp
  rw [left]
  obtain ⟨q, j, rfl⟩ : ∃ (q : Fin 256) (j : Fin 1024), y = ix2 q j := ⟨y 0, y 1, eq_ix2 y⟩
  refine (point m c t q j).trans
    (congrArg₂ (fun i j => rms (fun k => X m c (ix2 i k)) (fun k => G m c (ix1 k)) j) (Fin.ext ?_) (Fin.ext ?_))
  · blk_simp [idx t]
  · blk_simp [idx t]

end Kernel

section Ref

open Cert.NxRefIdeal Cert.NxRefIdeal.Gen Cert.NxRefIdeal.Read

variable (X : FVec Ideal S2048x1024 .f32) (G : FVec Ideal S1024 .f32)

theorem ref_out (q : Fin 2048) (j : Fin 1024) :
    val_main_v13 (F := Ideal) X G (ix2 q j) = rms (fun k => X (ix2 q k)) (fun k => G (ix1 k)) j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.NxRefIdeal.Value.run m ρ)

end Ref

theorem algebraic : Cert.algebraic_NxIdeal_NxRefIdeal := by
  intro m ρ m' ρ' _ hag
  refine ⟨fun c i => rms (fun k => X m c (ix2 (i 0) k)) (fun k => G m c (ix1 k)) (i 1),
    (θ_run _ _ _).mono (fun r h c => ⟨(h c).1.trans (final m c), (h c).2⟩) (Cert.NxIdeal.Value.run_blocks m ρ),
    (θ_run _ _ _).mono (fun r h c => ⟨(h c).1.trans ?_, (h c).2⟩) (Cert.NxRefIdeal.Value.run m' ρ')⟩
  rw [Cert.NxRefIdeal.Read.val_main_v13_eq, (hag c).1, (hag c).2.1]
  funext i
  exact (congrArg _ (eq_ix2 i)).trans (ref_out _ _ (i 0) (i 1))

end Cert.NxProof
-- ==== Proof.Nm.lean ====
/- The norm of the memory. -/
module

public import proofs.«01_k».proof.Defs
public import proofs.«01_k».proof.Proof.Gen.NmIdeal.Value
public import proofs.«01_k».proof.Proof.Gen.NmRefIdeal.Run
public import proofs.«01_k».proof.Proof.Gen.NmRefIdeal.Read
public import proofs.«01_k».proof.Proof.Norm
public import Idealize.ShloMosaic.Lib.Pipeline.ValueKit

@[expose] public section

set_option maxRecDepth 16384

noncomputable section

namespace Cert.NmProof

open Idealize.ShloMosaic Idealize.ShloMosaic.TcCoe Idealize.SL.Sem

open Cert.Norm

section Kernel

open Cert.NmIdeal Cert.NmIdeal.Gen

variable (m : (ℓ : Loc nD τ sig) → Buf (Elt Ideal) ℓ)

theorem block_apply (x : Vec Ideal S256x1024 .f32) (g : Vec Ideal S1x1024 .f32) (q : Fin 256) (j : Fin 1024) :
    k0_pay1 (F := Ideal) x g (ix2 q j) = rms (fun k => x (ix2 q k)) (fun k => g (ix2 0 k)) j := by
  pointwise [k0_pay1]
  rfl

theorem idx : ∀ t : Fin cfg0.N, win0_0.index t = ![t.val, 0] ∧ win0_1.index t = ![0, 0] ∧ win0_2.index t = ![t.val, 0] ∧ t.val < 1 :=
  (by decide +kernel : ∀ t : Fin grid0.N, _)

abbrev X (c : Dev nD) : FVec Ideal S256x1024 .f32 := m ((c : Thread nD τ).loc main_arg0)
abbrev G (c : Dev nD) : FVec Ideal S1024 .f32 := m ((c : Thread nD τ).loc main_arg1)

abbrev row (t : Fin cfg0.N) (q : Fin 256) : Fin 256 := ⟨t.val * 256 + q.val, by have := (idx t).2.2.2; omega⟩

theorem x_read (c : Dev nD) (t : Fin cfg0.N) (q : Fin 256) (j : Fin 1024) :
    (show Vec Ideal S256x1024 .f32 from iblk m c 0 t) (ix2 q j) = X m c (ix2 (row t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 1 t) (ix2 0 j) = G m c (ix1 j) := by
  refine Eq.trans ?_ (gain_eq m c j)
  blk_ext [iblk, idx t]

theorem point (c : Dev nD) (t : Fin cfg0.N) (q : Fin 256) (j : Fin 1024) :
    k0_pay1 (F := Ideal) (iblk m c 0 t) (iblk m c 1 t) (ix2 q j) = rms (fun k => X m c (ix2 (row t q) k)) (fun k => G m c (ix1 k)) j :=
  (block_apply _ _ q j).trans (congrArg₂ (fun x g => rms x g j) (funext (x_read m c t q)) (funext (g_read m c t)))

theorem left (c : Dev nD) (t : Fin cfg0.N) : (dats m 0 c).after 2 t = k0_pay1 (F := Ideal) (iblk m c 0 t) (iblk m c 1 t) := by
  rw [after0_2]; frame_out

theorem final (c : Dev nD) : (dats m 0 c).arrAt 2 (cfgs 0).N
    = fun i : S256x1024.Idx => rms (fun k => X m c (ix2 (i 0) k)) (fun k => G m c (ix1 k)) (i 1) := by
  refine (dats m 0 c).arrAt_eq_of_covers 2 _ (by decide +kernel) fun t _ y => ?_
  blk_simp
  rw [left]
  obtain ⟨q, j, rfl⟩ : ∃ (q : Fin 256) (j : Fin 1024), y = ix2 q j := ⟨y 0, y 1, eq_ix2 y⟩
  refine (point m c t q j).trans
    (congrArg₂ (fun i j => rms (fun k => X m c (ix2 i k)) (fun k => G m c (ix1 k)) j) (Fin.ext ?_) (Fin.ext ?_))
  · blk_simp [idx t]
    have := (idx t).2.2.2
    show t.val * 256 + q.val = q.val
    omega
  · blk_simp [idx t]

end Kernel

section Ref

open Cert.NmRefIdeal Cert.NmRefIdeal.Gen Cert.NmRefIdeal.Read

variable (X : FVec Ideal S256x1024 .f32) (G : FVec Ideal S1024 .f32)

theorem ref_out (q : Fin 256) (j : Fin 1024) :
    val_main_v13 (F := Ideal) X G (ix2 q j) = rms (fun k => X (ix2 q k)) (fun k => G (ix1 k)) j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.NmRefIdeal.Value.run m ρ)

end Ref

theorem algebraic : Cert.algebraic_NmIdeal_NmRefIdeal := by
  intro m ρ m' ρ' _ hag
  refine ⟨fun c i => rms (fun k => X m c (ix2 (i 0) k)) (fun k => G m c (ix1 k)) (i 1),
    (θ_run _ _ _).mono (fun r h c => ⟨(h c).1.trans (final m c), (h c).2⟩) (Cert.NmIdeal.Value.run_blocks m ρ),
    (θ_run _ _ _).mono (fun r h c => ⟨(h c).1.trans ?_, (h c).2⟩) (Cert.NmRefIdeal.Value.run m' ρ')⟩
  rw [Cert.NmRefIdeal.Read.val_main_v13_eq, (hag c).1, (hag c).2]
  funext i
  exact (congrArg _ (eq_ix2 i)).trans (ref_out _ _ (i 0) (i 1))

end Cert.NmProof
-- ==== Proof.NormGrad.lean ====
/- The gradient of the root-mean-square norm with respect to the normalised row: the two ways it is written down are equal. -/
module

public import proofs.«01_k».proof.Proof.Norm
public import proofs.«01_k».proof.Proof.Real

@[expose] public section

noncomputable section

namespace Cert.Norm

open Idealize.ShloMosaic Cert.Real

/-- One over the root of the mean square. -/
def rstd (x : Fin 1024 → EReal) : EReal := Ideal.rsqrt (meanSq x)

/-- The gradient written with the normalised row, with the residual's gradient added. -/
def gradRow (d x : Fin 1024 → EReal) (e : EReal) (j : Fin 1024) : EReal :=
  rstd x * (d j - x j * rstd x * Ideal.div (∑ k : Fin 1024, d k * (x k * rstd x)) (Ideal.ofBits .f32 0x44800000#32)) + e

/-- The factor of the row through its mean square. -/
def through (d x : Fin 1024 → EReal) : EReal :=
  Ideal.div ((∑ k : Fin 1024, x k * d k) * (Ideal.ofBits .f32 0xBF000000#32 * Ideal.div (rstd x) (meanSq x))) (Ideal.ofBits .f32 0x44800000#32)

theorem half : Ideal.ofBits .f32 0xBF000000#32 = ((-(1 / 2) : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem small : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- A row with an infinite mean square has no reciprocal root; any other row is finite and its mean square positive. -/
theorem meanSq_cases (x : Fin 1024 → EReal) :
    meanSq x = ⊤ ∨ ∃ (v : ℝ) (y : Fin 1024 → ℝ), 0 < v ∧ meanSq x = (v : EReal) ∧ x = fun k => (y k : EReal) := by
  obtain ⟨e, he, hs⟩ := small
  by_cases h : ∀ k, Fin' (x k)
  · choose y hy using h
    obtain rfl : x = fun k => (y k : EReal) := funext hy
    refine .inr ⟨(∑ k, y k * y k) * 1024⁻¹ + e, y, ?_, ?_, rfl⟩
    · have : 0 ≤ ∑ k, y k * y k := Finset.sum_nonneg fun k _ => mul_self_nonneg _
      positivity
    unfold meanSq
    rw [width, div_coe _ (by norm_num), hs]
    simp only [← EReal.coe_mul, ← coe_sum, ← EReal.coe_add]
  · refine .inl ?_
    obtain ⟨k, hk⟩ := not_forall.mp h
    have hk' : x k * x k = ⊤ := by
      generalize x k = z at hk
      induction z with
      | bot => rfl
      | top => rfl
      | coe r => exact absurd ⟨r, rfl⟩ hk
    have hnn : ∀ z : EReal, 0 ≤ z * z := fun z => by
      rcases le_total 0 z with hz | hz
      · exact mul_nonneg hz hz
      · rw [← neg_mul_neg]; exact mul_nonneg (EReal.neg_nonneg.mpr hz) (EReal.neg_nonneg.mpr hz)
    have hsum : ∑ k : Fin 1024, x k * x k = ⊤ :=
      top_le_iff.mp (hk' ▸ Finset.single_le_sum (f := fun k => x k * x k) (fun i _ => hnn (x i)) (Finset.mem_univ k))
    unfold meanSq
    rw [hsum, width, div_coe _ (by norm_num), hs, EReal.top_mul_coe_of_pos (by norm_num)]
    rfl

theorem add_twice (s : EReal) (b : ℝ) : s * (b : EReal) + s * (b : EReal) = s * ((2 * b : ℝ) : EReal) := by
  rcases lt_trichotomy b 0 with hb | rfl | hb
  · induction s with
    | bot => rw [EReal.bot_mul_coe_of_neg hb, EReal.bot_mul_coe_of_neg (by linarith)]; rfl
    | top => rw [EReal.top_mul_coe_of_neg hb, EReal.top_mul_coe_of_neg (by linarith)]; rfl
    | coe r => norm_cast; ring
  · simp
  · induction s with
    | bot => rw [EReal.bot_mul_coe_of_pos hb, EReal.bot_mul_coe_of_pos (by linarith)]; rfl
    | top => rw [EReal.top_mul_coe_of_pos hb, EReal.top_mul_coe_of_pos (by linarith)]; rfl
    | coe r => norm_cast; ring

/-- The gradient written through the mean square: through the product and twice through the square. -/
theorem gradRow_eq (d x : Fin 1024 → EReal) (e : EReal) (j : Fin 1024) :
    e + d j * rstd x + x j * through d x + through d x * x j = gradRow d x e j := by
  unfold gradRow through
  rcases meanSq_cases x with h | ⟨v, y, hv, h, rfl⟩
  · have hr : rstd x = 0 := by unfold rstd; rw [h]; rfl
    have hz : Ideal.div 0 (⊤ : EReal) = 0 := by unfold Ideal.div; rw [if_neg (by simp)]; simp
    rw [h, hr, hz, half, width]
    simp only [mul_zero, div_coe _ (show (1024 : ℝ) ≠ 0 by norm_num), zero_mul, add_zero, zero_add]
  · have hq : 0 < Real.sqrt v := Real.sqrt_pos.mpr hv
    obtain ⟨r, hr0, hrv, hr⟩ : ∃ r : ℝ, 0 < r ∧ r * r * v = 1 ∧ rstd (fun k => (y k : EReal)) = (r : EReal) := by
      refine ⟨(Real.sqrt v)⁻¹, inv_pos.mpr hq, ?_, ?_⟩
      · have := Real.mul_self_sqrt hv.le
        field_simp
        rw [sq, this]
      · unfold rstd; rw [h, Ideal.rsqrt_coe, if_neg (by linarith), if_neg (by linarith)]
    rw [h, hr, half, width, div_coe _ hv.ne']
    simp only [div_coe _ (show (1024 : ℝ) ≠ 0 by norm_num)]
    have hS : ∑ k : Fin 1024, d k * ((y k : EReal) * (r : EReal)) = (r : EReal) * ∑ k : Fin 1024, (y k : EReal) * d k := by
      rw [mul_sum_of_nonneg _ _ _ hr0.le]
      exact Finset.sum_congr rfl fun k _ => by ac_rfl
    rw [hS]
    generalize (∑ k : Fin 1024, (y k : EReal) * d k) = s
    have hd : ∀ a b : EReal, (r : EReal) * (a - b) = (r : EReal) * a + -((r : EReal) * b) := fun a b => by
      rw [sub_eq_add_neg, EReal.left_distrib_of_nonneg_of_ne_top (by exact_mod_cast hr0.le) (EReal.coe_ne_top r), mul_neg]
    rw [hd]
    have h1 : (y j : EReal) * (s * (((-(1 / 2) : ℝ) : EReal) * ((r : EReal) * ((v⁻¹ : ℝ) : EReal))) * (((1024 : ℝ)⁻¹ : ℝ) : EReal))
        = s * ((y j * (-(1 / 2) * (r * v⁻¹)) * 1024⁻¹ : ℝ) : EReal) := by
      simp only [EReal.coe_mul]; ac_rfl
    have h2 : -((r : EReal) * ((y j : EReal) * (r : EReal) * ((r : EReal) * s * (((1024 : ℝ)⁻¹ : ℝ) : EReal))))
        = s * ((2 * (y j * (-(1 / 2) * (r * v⁻¹)) * 1024⁻¹) : ℝ) : EReal) := by
      have : (2 * (y j * (-(1 / 2) * (r * v⁻¹)) * 1024⁻¹) : ℝ) = -(r * (y j * r * (r * 1024⁻¹))) := by
        have hi : v⁻¹ = r * r := by field_simp; linarith
        rw [hi]; ring
      rw [this, EReal.coe_neg, mul_neg]
      simp only [EReal.coe_mul]
      congr 1; ac_rfl
    rw [mul_comm _ (y j : EReal), h1, h2, add_assoc (e + _), add_twice, mul_comm (d j), add_assoc e, add_comm e]

end Cert.Norm
-- ==== Proof.Nb.lean ====
/- The gradient of the norm of the memory, with the residual's gradient added, and of its gain. -/
module

public import proofs.«01_k».proof.Defs
public import proofs.«01_k».proof.Proof.Gen.NbIdeal.Value
public import proofs.«01_k».proof.Proof.Gen.NbRefIdeal.Run
public import proofs.«01_k».proof.Proof.Gen.NbRefIdeal.Read
public import proofs.«01_k».proof.Proof.NormGrad
public import Idealize.ShloMosaic.Lib.Pipeline.ValueKit

@[expose] public section

set_option maxRecDepth 16384

noncomputable section

namespace Cert.NbProof

open Idealize.ShloMosaic Idealize.ShloMosaic.TcCoe Idealize.SL.Sem

open Cert.Norm

/-- The gradient of the gain at one column. -/
def gainGrad {n : ℕ} (X DH : FVec Ideal ⟨2, ![n, 1024]⟩ .f32) (j : Fin 1024) : EReal :=
  ∑ q : Fin n, DH (ix2 q j) * (X (ix2 q j) * rstd fun k => X (ix2 q k))

section Kernel

open Cert.NbIdeal Cert.NbIdeal.Gen

variable (m : (ℓ : Loc nD τ sig) → Buf (Elt Ideal) ℓ)

theorem rstd_apply (x : Vec Ideal S256x1024 .f32) (q : Fin 256) : k0_pay2 (F := Ideal) x (ix2 q 0) = rstd fun k => x (ix2 q k) := by
  pointwise [k0_pay2]
  rfl
theorem unit_apply (x : Vec Ideal S256x1024 .f32) (q : Fin 256) (j : Fin 1024) :
    k0_pay3 (F := Ideal) x (ix2 q j) = x (ix2 q j) * rstd fun k => x (ix2 q k) := by
  pointwise [k0_pay3]
  rw [rstd_apply]
theorem dx_apply (x d : Vec Ideal S256x1024 .f32) (g : Vec Ideal S1x1024 .f32) (e : Vec Ideal S256x1024 .f32) (q : Fin 256) (j : Fin 1024) :
    k0_pay4 (F := Ideal) x d g e (ix2 q j)
      = gradRow (fun k => d (ix2 q k) * g (ix2 0 k)) (fun k => x (ix2 q k)) (e (ix2 q j)) j := by
  pointwise [k0_pay4]
  simp only [unit_apply, rstd_apply]
  rfl
theorem dg_apply (x d : Vec Ideal S256x1024 .f32) (j : Fin 1024) : k0_pay5 (F := Ideal) x d (ix2 0 j) = gainGrad x d j := by
  pointwise [k0_pay5]
  simp only [unit_apply]
  rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

abbrev X (c : Dev nD) : FVec Ideal S256x1024 .f32 := m ((c : Thread nD τ).loc main_arg0)
abbrev G (c : Dev nD) : FVec Ideal S1024 .f32 := m ((c : Thread nD τ).loc main_arg1)
abbrev DH (c : Dev nD) : FVec Ideal S256x1024 .f32 := m ((c : Thread nD τ).loc main_arg2)
abbrev E (c : Dev nD) : FVec Ideal S256x1024 .f32 := m ((c : Thread nD τ).loc main_arg3)

theorem x_read (c : Dev nD) (t : Fin cfg0.N) (q : Fin 256) (j : Fin 1024) :
    (show Vec Ideal S256x1024 .f32 from iblk m c 0 t) (ix2 q j) = X m c (ix2 q j) := by
  blk_ext [iblk, V, idx t]
theorem d_read (c : Dev nD) (t : Fin cfg0.N) (q : Fin 256) (j : Fin 1024) :
    (show Vec Ideal S256x1024 .f32 from iblk m c 2 t) (ix2 q j) = DH m c (ix2 q j) := by
  blk_ext [iblk, V, idx t]
theorem e_read (c : Dev nD) (t : Fin cfg0.N) (q : Fin 256) (j : Fin 1024) :
    (show Vec Ideal S256x1024 .f32 from iblk m c 3 t) (ix2 q j) = E m c (ix2 q j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 1 t) (ix2 0 j) = G m c (ix1 j) := by
  refine Eq.trans ?_ (gain_eq m c j)
  blk_ext [iblk, idx t]

theorem left_x (c : Dev nD) (t : Fin cfg0.N) :
    (dats m 0 c).after 4 t = k0_pay4 (F := Ideal) (iblk m c 0 t) (iblk m c 2 t) (iblk m c 1 t) (iblk m c 3 t) := by
  rw [after0_4]; unfold outsAt0; frame_out
theorem left_g (c : Dev nD) (t : Fin cfg0.N) : (dats m 0 c).after 5 t = k0_pay5 (F := Ideal) (iblk m c 0 t) (iblk m c 2 t) := by
  rw [after0_5]; unfold outsAt0; frame_out

/-- The gradient of the memory at one entry. -/
abbrev outX (c : Dev nD) (q : Fin 256) (j : Fin 1024) : EReal :=
  gradRow (fun k => DH m c (ix2 q k) * G m c (ix1 k)) (fun k => X m c (ix2 q k)) (E m c (ix2 q j)) j

theorem point_x (c : Dev nD) (t : Fin cfg0.N) (q : Fin 256) (j : Fin 1024) :
    k0_pay4 (F := Ideal) (iblk m c 0 t) (iblk m c 2 t) (iblk m c 1 t) (iblk m c 3 t) (ix2 q j) = outX m c q j := by
  refine (dx_apply _ _ _ _ q j).trans ?_
  exact congrFun (congr (congrArg₂ (fun d x => gradRow d x) (funext fun k => congrArg₂ (· * ·) (d_read m c t q k) (g_read m c t k))
    (funext fun k => x_read m c t q k)) (e_read m c t q j)) j
theorem point_g (c : Dev nD) (t : Fin cfg0.N) (j : Fin 1024) :
    k0_pay5 (F := Ideal) (iblk m c 0 t) (iblk m c 2 t) (ix2 0 j) = gainGrad (X m c) (DH m c) j := by
  refine (dg_apply _ _ j).trans ?_
  exact Finset.sum_congr rfl fun q _ => congrArg₂ (· * ·) (d_read m c t q j)
    (congrArg₂ (· * ·) (x_read m c t q j) (congrArg rstd (funext fun k => x_read m c t q k)))

theorem final_x (c : Dev nD) : (dats m 0 c).arrAt 4 (cfgs 0).N = fun i : S256x1024.Idx => outX m c (i 0) (i 1) := by
  refine (dats m 0 c).arrAt_eq_of_covers 4 _ (by decide +kernel) fun t _ y => ?_
  blk_simp
  rw [left_x]
  obtain ⟨q, j, rfl⟩ : ∃ (q : Fin 256) (j : Fin 1024), y = ix2 q j := ⟨y 0, y 1, eq_ix2 y⟩
  refine (point_x m c t q j).trans (congrArg₂ (outX m c) (Fin.ext ?_) (Fin.ext ?_))
  · blk_simp [idx t]
  · blk_simp [idx t]
theorem final_g (c : Dev nD) : (dats m 0 c).arrAt 5 (cfgs 0).N = fun i : S1x1024.Idx => gainGrad (X m c) (DH m c) (i 1) := by
  refine (dats m 0 c).arrAt_eq_of_covers 5 _ (by decide +kernel) fun t _ y => ?_
  blk_simp
  rw [left_g]
  obtain ⟨z, j, rfl⟩ : ∃ (z : Fin 1) (j : Fin 1024), y = ix2 z j := ⟨y 0, y 1, eq_ix2 y⟩
  obtain rfl : z = 0 := Subsingleton.elim _ _
  refine (point_g m c t j).trans (congrArg (gainGrad (X m c) (DH m c)) (Fin.ext ?_))
  blk_simp [idx t]

end Kernel

section Ref

open Cert.NbRefIdeal Cert.NbRefIdeal.Gen Cert.NbRefIdeal.Read

variable (X : FVec Ideal S256x1024 .f32) (G : FVec Ideal S1024 .f32) (DH E : FVec Ideal S256x1024 .f32)

theorem ref_mean (q : Fin 256) : val_main_v6 (F := Ideal) X (ix2 q 0) = meanSq fun k => X (ix2 q k) := by
  pointwise [val_main_v6, val_main_v5, val_main_v4, val_main_v3, val_main_v2, val_main_v1, val_main_v0, val_main_cst, val_main_cst_0, val_main_cst_1]
  rfl
theorem ref_rstd (q : Fin 256) : val_main_v7 (F := Ideal) X (ix2 q 0) = rstd fun k => X (ix2 q k) := by
  pointwise [val_main_v7]
  rw [ref_mean]; rfl
theorem ref_d (q : Fin 256) (j : Fin 1024) : val_main_v20 (F := Ideal) G DH (ix2 q j) = DH (ix2 q j) * G (ix1 j) := by
  pointwise [val_main_v20, val_main_v19, val_main_v13]
theorem ref_through (q : Fin 256) (j : Fin 1024) :
    val_main_v32 (F := Ideal) X G DH (ix2 q j) = through (fun k => DH (ix2 q k) * G (ix1 k)) fun k => X (ix2 q k) := by
  pointwise [val_main_v32, val_main_v31, val_main_cst_7, val_main_v30, val_main_v29, val_main_cst_6, val_main_v28, val_main_v24, val_main_v23,
    val_main_cst_5, val_main_v22, val_main_v10, val_main_v9, val_main_cst_2, val_main_v8]
  simp only [ref_d]
  refine (Fin.sum_univ_one _).trans ?_
  rw [ref_rstd, ref_mean]
  rfl
theorem ref_x (q : Fin 256) (j : Fin 1024) : val_main_v36 (F := Ideal) X G DH E (ix2 q j)
    = gradRow (fun k => DH (ix2 q k) * G (ix1 k)) (fun k => X (ix2 q k)) (E (ix2 q j)) j := by
  rw [← gradRow_eq]
  pointwise [val_main_v36, val_main_v35, val_main_v34, val_main_v33, val_main_v27, val_main_v26, val_main_v25]
  simp only [ref_d, ref_rstd, ref_through]
theorem ref_g (j : Fin 1024) : val_main_v37 (F := Ideal) X DH (ix2 0 j) = gainGrad X DH j := by
  pointwise [val_main_v37, val_main_v21, val_main_cst_4, val_main_v18, val_main_v17, val_main_cst_3, val_main_v16, val_main_v12, val_main_v11]
  simp only [ref_rstd]
  first
    | exact (Fin.sum_univ_one _).trans (Finset.sum_congr rfl fun q _ => mul_comm (_ : EReal) _)
    | exact Finset.sum_congr rfl fun q _ => mul_comm (_ : EReal) _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems (by decide) r.2⟩) (Cert.NbRefIdeal.Value.run m ρ)

end Ref

theorem algebraic : Cert.algebraic_NbIdeal_NbRefIdeal := by
  intro m ρ m' ρ' _ hag
  refine ⟨fun c i => outX m c (i 0) (i 1), fun c (i : Cert.NbIdeal.S1x1024.Idx) => (show EReal from gainGrad (X m c) (DH m c) (i 1)),
    (θ_run _ _ _).mono (fun r h c => ⟨(h c).1.trans (final_x m c), (h c).2.1.trans (final_g m c), (h c).2.2⟩) (Cert.NbIdeal.Value.run_blocks m ρ),
    (θ_run _ _ _).mono (fun r h c => ⟨(h c).1.trans ?_, (h c).2.1.trans ?_, (h c).2.2⟩) (Cert.NbRefIdeal.Value.run m' ρ')⟩
  · rw [Cert.NbRefIdeal.Read.val_main_v36_eq, (hag c).1, (hag c).2.1, (hag c).2.2.1, (hag c).2.2.2]
    funext i
    exact (congrArg _ (eq_ix2 i)).trans (ref_x _ _ _ _ (i 0) (i 1))
  · rw [Cert.NbRefIdeal.Read.val_main_v37_eq, (hag c).1, (hag c).2.2.1]
    funext i
    exact (congrArg _ ((eq_ix2 i).trans (congrArg (ix2 · _) (Subsingleton.elim (α := Fin 1) (i 0) 0)))).trans (ref_g _ _ (i 1))

end Cert.NbProof
-- ==== Proof.Loss.lean ====
/- The loss of the final norm, and its gradients with respect to the residual stream and the gain. -/
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.NormGrad
public import Idealize.ShloMosaic.Lib.Pipeline.ValueKit

@[expose] public section

set_option maxRecDepth 16384

noncomputable section

namespace Cert.LossProof

open Idealize.ShloMosaic Idealize.ShloMosaic.TcCoe Idealize.SL.Sem

open Cert.Norm Cert.Real

variable {n : ℕ}

/-- The error of the normalised row at one entry. -/
def err (X : FVec Ideal ⟨2, ![n, 1024]⟩ .f32) (G : Fin 1024 → EReal) (T : FVec Ideal ⟨2, ![n, 1024]⟩ .f32) (q : Fin n) (j : Fin 1024) : EReal :=
  (X (ix2 q j) * rstd fun k => X (ix2 q k)) * G j - T (ix2 q j)
/-- The gradient of the loss at the normalised row, the error over the width. -/
def dErr (X : FVec Ideal ⟨2, ![n, 1024]⟩ .f32) (G : Fin 1024 → EReal) (T : FVec Ideal ⟨2, ![n, 1024]⟩ .f32) (q : Fin n) (j : Fin 1024) : EReal :=
  err X G T q j * Ideal.ofBits .f32 0x3A800000#32
/-- A row's share of the loss. -/
def rowLoss (X : FVec Ideal ⟨2, ![n, 1024]⟩ .f32) (G : Fin 1024 → EReal) (T : FVec Ideal ⟨2, ![n, 1024]⟩ .f32) (q : Fin n) : EReal :=
  Ideal.ofBits .f32 0x3A000000#32 * ∑ j : Fin 1024, err X G T q j * err X G T q j
/-- The gradient of the loss with respect to the residual stream at one entry. -/
def dRow (X : FVec Ideal ⟨2, ![n, 1024]⟩ .f32) (G : Fin 1024 → EReal) (T : FVec Ideal ⟨2, ![n, 1024]⟩ .f32) (q : Fin n) (j : Fin 1024) : EReal :=
  gradRow (fun k => dErr X G T q k * G k) (fun k => X (ix2 q k)) 0 j
/-- A row's share of the gain's gradient. -/
def dGain (X : FVec Ideal ⟨2, ![n, 1024]⟩ .f32) (G : Fin 1024 → EReal) (T : FVec Ideal ⟨2, ![n, 1024]⟩ .f32) (j : Fin 1024) (q : Fin n) : EReal :=
  dErr X G T q j * (X (ix2 q j) * rstd fun k => X (ix2 q k))

theorem share : Ideal.ofBits .f32 0x3A000000#32 = ((1 / 2048 : ℝ) : EReal) := by
  simp [Ideal.ofBits, Ideal.ieee, -EReal.coe_mul]; norm_num
theorem overWidth : Ideal.ofBits .f32 0x3A800000#32 = ((1 / 1024 : ℝ) : EReal) := by
  simp [Ideal.ofBits, Ideal.ieee, -EReal.coe_mul]; norm_num
theorem oneHalf : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

section Kernel

open Cert.LossIdeal Cert.LossIdeal.Gen

variable (m : (ℓ : Loc nD τ sig) → Buf (Elt Ideal) ℓ)

section Block

variable (x : Vec Ideal S256x1024 .f32) (g : Vec Ideal S1x1024 .f32) (y : Vec Ideal S256x1024 .f32)

theorem rstd_apply (q : Fin 256) : k0_pay4 (F := Ideal) x (ix2 q 0) = rstd fun k => x (ix2 q k) := by
  pointwise [k0_pay4]
  rfl
theorem unit_apply (q : Fin 256) (j : Fin 1024) : k0_pay5 (F := Ideal) x (ix2 q j) = x (ix2 q j) * rstd fun k => x (ix2 q k) := by
  pointwise [k0_pay5]
  rw [rstd_apply]
theorem err_apply (q : Fin 256) (j : Fin 1024) : k0_pay7 (F := Ideal) x g y (ix2 q j) = err x (fun k => g (ix2 0 k)) y q j := by
  pointwise [k0_pay7, k0_pay6]
  rw [unit_apply]
  rfl
theorem derr_apply (q : Fin 256) (j : Fin 1024) : k0_pay9 (F := Ideal) x g y (ix2 q j) = dErr x (fun k => g (ix2 0 k)) y q j := by
  pointwise [k0_pay9]
  rw [err_apply]
  rfl
theorem dx_apply (q : Fin 256) (j : Fin 1024) : k0_pay10 (F := Ideal) x g y (ix2 q j) = dRow x (fun k => g (ix2 0 k)) y q j := by
  pointwise [k0_pay10, k0_pay6]
  simp only [unit_apply, rstd_apply, derr_apply]
  exact (add_zero _).symm
theorem dxb_apply (q : Fin 256) (j : Fin 1024) : k0_pay11 (F := Ideal) x g y (ix2 q j) = dRow x (fun k => g (ix2 0 k)) y q j := by
  pointwise [k0_pay11]
  exact dx_apply x g y q j
theorem loss_apply : k0_pay8 (F := Ideal) x g y (ix2 0 0) = ∑ q : Fin 256, rowLoss x (fun k => g (ix2 0 k)) y q := by
  pointwise [k0_pay8]
  simp only [err_apply]
  unfold rowLoss
  rw [share]
  exact mul_sum_of_nonneg _ _ _ (by norm_num)
theorem dg_apply (j : Fin 1024) :
    k0_pay1 (F := Ideal) (k0_pay5 (F := Ideal) x) (k0_pay9 (F := Ideal) x g y) (ix2 0 j) = ∑ q : Fin 256, dGain x (fun k => g (ix2 0 k)) y j q := by
  pointwise [k0_pay1]
  simp only [unit_apply, derr_apply]
  rfl
theorem addLoss_apply (a l : FVec Ideal S1x1 .f32) (i : S1x1.Idx) : k0_pay2 (F := Ideal) l a i = a i + l i := by
  obtain ⟨z, w, rfl⟩ : ∃ (z w : Fin 1), i = ix2 z w := ⟨i 0, i 1, eq_ix2 i⟩
  pointwise [k0_pay2]
theorem addGain_apply (u v : FVec Ideal S256x1024 .f32) (a : FVec Ideal S1x1024 .f32) (i : S1x1024.Idx) :
    k0_pay3 (F := Ideal) u v a i = a i + k0_pay1 (F := Ideal) u v i := by
  obtain ⟨z, e, rfl⟩ : ∃ (z : Fin 1) (e : Fin 1024), i = ix2 z e := ⟨i 0, i 1, eq_ix2 i⟩
  pointwise [k0_pay3]

end Block

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 8 :=
  (by decide +kernel : ∀ t : Fin grid0.N, _)

abbrev X (c : Dev nD) : FVec Ideal S2048x1024 .f32 := m ((c : Thread nD τ).loc main_arg0)
abbrev G (c : Dev nD) : FVec Ideal S1024 .f32 := m ((c : Thread nD τ).loc main_arg1)
abbrev T (c : Dev nD) : FVec Ideal S2048x1024 .f32 := m ((c : Thread nD τ).loc main_arg2)

abbrev row (t : Fin cfg0.N) (q : Fin 256) : Fin 2048 := ⟨t.val * 256 + q.val, by have := (idx t).2.2.2.2.2.2.2; omega⟩

theorem x_read (c : Dev nD) (t : Fin cfg0.N) (q : Fin 256) (j : Fin 1024) :
    (show Vec Ideal S256x1024 .f32 from iblk m c 0 t) (ix2 q j) = X m c (ix2 (row t q) j) := by
  blk_ext [iblk, V, idx t]
theorem t_read (c : Dev nD) (t : Fin cfg0.N) (q : Fin 256) (j : Fin 1024) :
    (show Vec Ideal S256x1024 .f32 from iblk m c 2 t) (ix2 q j) = T m c (ix2 (row t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 1 t) (ix2 0 j) = G m c (ix1 j) := by
  refine Eq.trans ?_ (gain_eq m c j)
  blk_ext [iblk, idx t]

section Point

variable (c : Dev nD) (t : Fin cfg0.N) (x : Vec Ideal S256x1024 .f32) (g : Vec Ideal S1x1024 .f32) (y : Vec Ideal S256x1024 .f32)
  (hx : ∀ q j, x (ix2 q j) = X m c (ix2 (row t q) j)) (hg : ∀ j, g (ix2 0 j) = G m c (ix1 j))
  (hy : ∀ q j, y (ix2 q j) = T m c (ix2 (row t q) j))
include hx hg hy

theorem err_eq (q : Fin 256) (j : Fin 1024) :
    err x (fun k => g (ix2 0 k)) y q j = err (X m c) (fun k => G m c (ix1 k)) (T m c) (row t q) j := by
  unfold err
  simp only [hx, hg, hy]
theorem derr_eq (q : Fin 256) (j : Fin 1024) :
    dErr x (fun k => g (ix2 0 k)) y q j = dErr (X m c) (fun k => G m c (ix1 k)) (T m c) (row t q) j :=
  congrArg (· * _) (err_eq m c t x g y hx hg hy q j)
theorem rowLoss_eq (q : Fin 256) :
    rowLoss x (fun k => g (ix2 0 k)) y q = rowLoss (X m c) (fun k => G m c (ix1 k)) (T m c) (row t q) := by
  unfold rowLoss
  simp only [err_eq m c t x g y hx hg hy]
theorem dRow_eq (q : Fin 256) (j : Fin 1024) :
    dRow x (fun k => g (ix2 0 k)) y q j = dRow (X m c) (fun k => G m c (ix1 k)) (T m c) (row t q) j := by
  unfold dRow
  simp only [derr_eq m c t x g y hx hg hy, hx]
  simp only [hg]
theorem dGain_eq (q : Fin 256) (j : Fin 1024) :
    dGain x (fun k => g (ix2 0 k)) y j q = dGain (X m c) (fun k => G m c (ix1 k)) (T m c) j (row t q) := by
  unfold dGain
  simp only [derr_eq m c t x g y hx hg hy, hx]

end Point

theorem left_x (c : Dev nD) (t : Fin cfg0.N) :
    (dats m 0 c).after 4 t = k0_pay10 (F := Ideal) (iblk m c 0 t) (iblk m c 1 t) (iblk m c 2 t) := by
  rw [after0_4]
  by_cases h0 : t.val % 8 = 0
  · rw [outsAt0_A m c t h0 (by have := (idx t).2.2.2.2.2.2.2; omega)]; frame_out
  · rw [outsAt0_B m c t h0 (by omega)]; frame_out
theorem left_b (c : Dev nD) (t : Fin cfg0.N) :
    (dats m 0 c).after 5 t = k0_pay11 (F := Ideal) (iblk m c 0 t) (iblk m c 1 t) (iblk m c 2 t) := by
  rw [after0_5]
  by_cases h0 : t.val % 8 = 0
  · rw [outsAt0_A m c t h0 (by have := (idx t).2.2.2.2.2.2.2; omega)]; frame_out
  · rw [outsAt0_B m c t h0 (by omega)]; frame_out

theorem final_x (c : Dev nD) :
    (dats m 0 c).arrAt 4 (cfgs 0).N = fun i : S2048x1024.Idx => dRow (X m c) (fun k => G m c (ix1 k)) (T m c) (i 0) (i 1) := by
  refine (dats m 0 c).arrAt_eq_of_covers 4 _ (by decide +kernel) fun t _ y => ?_
  blk_simp
  rw [left_x]
  obtain ⟨q, j, rfl⟩ : ∃ (q : Fin 256) (j : Fin 1024), y = ix2 q j := ⟨y 0, y 1, eq_ix2 y⟩
  refine ((dx_apply _ _ _ q j).trans (dRow_eq m c t _ _ _ (x_read m c t) (g_read m c t) (t_read m c t) q j)).trans
    (congrArg₂ (dRow (X m c) (fun k => G m c (ix1 k)) (T m c)) (Fin.ext ?_) (Fin.ext ?_))
  · blk_simp [idx t]
  · blk_simp [idx t]
theorem final_b (c : Dev nD) :
    (dats m 0 c).arrAt 5 (cfgs 0).N = fun i : S2048x1024.Idx => dRow (X m c) (fun k => G m c (ix1 k)) (T m c) (i 0) (i 1) := by
  refine (dats m 0 c).arrAt_eq_of_covers 5 _ (by decide +kernel) fun t _ y => ?_
  blk_simp
  rw [left_b]
  obtain ⟨q, j, rfl⟩ : ∃ (q : Fin 256) (j : Fin 1024), y = ix2 q j := ⟨y 0, y 1, eq_ix2 y⟩
  refine ((dxb_apply _ _ _ q j).trans (dRow_eq m c t _ _ _ (x_read m c t) (g_read m c t) (t_read m c t) q j)).trans
    (congrArg₂ (dRow (X m c) (fun k => G m c (ix1 k)) (T m c)) (Fin.ext ?_) (Fin.ext ?_))
  · blk_simp [idx t]
  · blk_simp [idx t]

/-- Eight points' row sums are the whole sum. -/
theorem eight_points (t : Fin cfg0.N) (ht : t.val % 8 = 8 - 1) (f : Fin 2048 → EReal) :
    ∑ s : Fin 8, ∑ r : Fin 256, f (row ⟨8 * (t.val / 8) + s.val, Pipeline.run_point_lt_of_flush t ht s⟩ r) = ∑ q : Fin 2048, f q := by
  refine Fin.sum_mul_add_congr fun s k hl => congrArg f (Fin.ext ?_)
  show (8 * (t.val / 8) + s.val) * 256 + k.val = s.val * 256 + k.val
  have := (idx t).2.2.2.2.2.2.2
  omega

/-- The whole loss. -/
abbrev total (c : Dev nD) : EReal := ∑ q : Fin 2048, rowLoss (X m c) (fun k => G m c (ix1 k)) (T m c) q

theorem final_l (c : Dev nD) : (dats m 0 c).arrAt 3 (cfgs 0).N = fun _ : S1x1.Idx => total m c := by
  refine (dats m 0 c).arrAt_eq_of_covers 3 _ (by decide +kernel) fun t hf y => ?_
  blk_simp
  rw [after0_3, Pipeline.eq_sum_fin_of_reset_step_apply_of_flush (fun n h => (outsAt0 m c n h).1) 8 (fun _ => 0)
    (fun t => k0_pay8 (F := Ideal) (iblk m c 0 t) (iblk m c 1 t) (iblk m c 2 t))
    (fun t h j => by rw [outsAt0_A m c t h (by have := (idx t).2.2.2.2.2.2.2; omega)]; refine (congrFun (?_ : _ = k0_pay8 (F := Ideal) (iblk m c 0 t) (iblk m c 1 t) (iblk m c 2 t)) j).trans (zero_add _).symm; frame_out)
    (fun t h j => by rw [outsAt0_B m c t h (by omega)]; refine (congrFun (?_ : _ = k0_pay2 (F := Ideal) (k0_pay8 (F := Ideal) (iblk m c 0 t) (iblk m c 1 t) (iblk m c 2 t)) _) j).trans (addLoss_apply _ _ j); frame_out)
    t ((flush0_3 t).mp hf) _, zero_add]
  obtain ⟨z, w, rfl⟩ : ∃ (z w : Fin 1), y = ix2 z w := ⟨y 0, y 1, eq_ix2 y⟩
  obtain rfl : z = 0 := Subsingleton.elim _ _
  obtain rfl : w = 0 := Subsingleton.elim _ _
  exact (Fin.sum_fin_congr fun s => (loss_apply _ _ _).trans (Finset.sum_congr rfl fun q _ =>
    rowLoss_eq m c _ _ _ _ (x_read m c _) (g_read m c _) (t_read m c _) q)).trans (eight_points t ((flush0_3 t).mp hf) _)

theorem final_g (c : Dev nD) : (dats m 0 c).arrAt 6 (cfgs 0).N
    = fun i : S1x1024.Idx => ∑ q : Fin 2048, dGain (X m c) (fun k => G m c (ix1 k)) (T m c) (i 1) q := by
  refine (dats m 0 c).arrAt_eq_of_covers 6 _ (by decide +kernel) fun t hf y => ?_
  blk_simp
  rw [after0_6, Pipeline.eq_sum_fin_of_reset_step_apply_of_flush (fun n h => (outsAt0 m c n h).2.2.2) 8 (fun _ => 0)
    (fun t => k0_pay1 (F := Ideal) (k0_pay5 (F := Ideal) (iblk m c 0 t)) (k0_pay9 (F := Ideal) (iblk m c 0 t) (iblk m c 1 t) (iblk m c 2 t)))
    (fun t h j => by rw [outsAt0_A m c t h (by have := (idx t).2.2.2.2.2.2.2; omega)]; refine (congrFun (?_ : _ = k0_pay1 (F := Ideal) (k0_pay5 (F := Ideal) (iblk m c 0 t)) (k0_pay9 (F := Ideal) (iblk m c 0 t) (iblk m c 1 t) (iblk m c 2 t))) j).trans (zero_add _).symm; frame_out)
    (fun t h j => by rw [outsAt0_B m c t h (by omega)]; refine (congrFun (?_ : _ = k0_pay3 (F := Ideal) (k0_pay5 (F := Ideal) (iblk m c 0 t)) (k0_pay9 (F := Ideal) (iblk m c 0 t) (iblk m c 1 t) (iblk m c 2 t)) _) j).trans (addGain_apply _ _ _ j); frame_out)
    t ((flush0_6 t).mp hf) _, zero_add]
  obtain ⟨z, e, rfl⟩ : ∃ (z : Fin 1) (e : Fin 1024), y = ix2 z e := ⟨y 0, y 1, eq_ix2 y⟩
  obtain rfl : z = 0 := Subsingleton.elim _ _
  refine ((Fin.sum_fin_congr fun s => (dg_apply _ _ _ e).trans (Finset.sum_congr rfl fun q _ =>
    dGain_eq m c _ _ _ _ (x_read m c _) (g_read m c _) (t_read m c _) q e)).trans (eight_points t ((flush0_6 t).mp hf) _)).trans ?_
  refine Finset.sum_congr rfl fun q _ => congrArg (dGain (X m c) (fun k => G m c (ix1 k)) (T m c) · q) (Fin.ext ?_)
  blk_simp [idx t]

end Kernel

section Ref

open Cert.LossRefIdeal Cert.LossRefIdeal.Gen Cert.LossRefIdeal.Read

variable (X : FVec Ideal S2048x1024 .f32) (G : FVec Ideal S1024 .f32) (T : FVec Ideal S2048x1024 .f32)

theorem ref_mean (q : Fin 2048) : val_main_v6 (F := Ideal) X (ix2 q 0) = meanSq fun k => X (ix2 q k) := by
  pointwise [val_main_v6, val_main_v5, val_main_v4, val_main_v3, val_main_v2, val_main_v1, val_main_v0, val_main_cst, val_main_cst_0, val_main_cst_1]
  rfl
theorem ref_rstd (q : Fin 2048) : val_main_v7 (F := Ideal) X (ix2 q 0) = rstd fun k => X (ix2 q k) := by
  pointwise [val_main_v7]
  rw [ref_mean]; rfl
theorem ref_err (q : Fin 2048) (j : Fin 1024) : val_main_v16 (F := Ideal) X G T (ix2 q j) = err X (fun k => G (ix1 k)) T q j := by
  pointwise [val_main_v16, val_main_v15, val_main_v14, val_main_v13, val_main_v12, val_main_v11]
  rw [ref_rstd]
  rfl
theorem ref_derr (q : Fin 2048) (j : Fin 1024) : val_main_v30 (F := Ideal) X G T (ix2 q j) = dErr X (fun k => G (ix1 k)) T q j := by
  pointwise [val_main_v30, val_main_v29, val_main_v28, val_main_v27, val_main_v26, val_main_v25, val_main_v19, val_main_v18, val_main_cst_3,
    val_main_cst_8, val_main_cst_9, val_main_cst_10]
  rw [ref_err]
  unfold dErr
  rw [overWidth, oneHalf, two, width, div_coe _ (by norm_num), mul_comm (err _ _ _ _ _)]
  simp only [mul_one, ← mul_assoc, ← EReal.coe_mul]
  norm_num
theorem ref_d (q : Fin 2048) (j : Fin 1024) : val_main_v35 (F := Ideal) X G T (ix2 q j) = dErr X (fun k => G (ix1 k)) T q j * G (ix1 j) := by
  pointwise [val_main_v35, val_main_v34, val_main_v13]
  rw [ref_derr]
theorem ref_through (q : Fin 2048) (j : Fin 1024) : val_main_v46 (F := Ideal) X G T (ix2 q j)
    = through (fun k => dErr X (fun k => G (ix1 k)) T q k * G (ix1 k)) fun k => X (ix2 q k) := by
  pointwise [val_main_v46, val_main_v45, val_main_cst_15, val_main_v44, val_main_v43, val_main_cst_14, val_main_v42, val_main_v39, val_main_v38,
    val_main_cst_13, val_main_v37, val_main_v10, val_main_v9, val_main_cst_2, val_main_v8]
  simp only [ref_d]
  refine (Fin.sum_univ_one _).trans ?_
  rw [ref_rstd, ref_mean]
  rfl
theorem ref_x (q : Fin 2048) (j : Fin 1024) : val_main_v50 (F := Ideal) X G T (ix2 q j) = dRow X (fun k => G (ix1 k)) T q j := by
  unfold dRow
  rw [← gradRow_eq, zero_add]
  pointwise [val_main_v50, val_main_v49, val_main_v48, val_main_v47, val_main_v41, val_main_v40]
  simp only [ref_d, ref_rstd, ref_through]
theorem ref_b (q : Fin 2048) (j : Fin 1024) : val_main_v52 (F := Ideal) X G T (ix2 q j) = dRow X (fun k => G (ix1 k)) T q j := by
  pointwise [val_main_v52]
  exact ref_x X G T q j
theorem ref_g (j : Fin 1024) : val_main_v53 (F := Ideal) X G T (ix2 0 j) = ∑ q : Fin 2048, dGain X (fun k => G (ix1 k)) T j q := by
  pointwise [val_main_v53, val_main_v36, val_main_cst_12, val_main_v33, val_main_v32, val_main_cst_11, val_main_v31, val_main_v12, val_main_v11]
  simp only [ref_rstd, ref_derr]
  first
    | exact (Fin.sum_univ_one _).trans (Finset.sum_congr rfl fun q _ => mul_comm (_ : EReal) _)
    | exact Finset.sum_congr rfl fun q _ => mul_comm (_ : EReal) _
theorem ref_l : val_main_v51 (F := Ideal) X G T (ix2 0 0) = ∑ q : Fin 2048, rowLoss X (fun k => G (ix1 k)) T q := by
  pointwise [val_main_v51, val_main_v24, val_main_cst_7, val_main_v23, val_main_cst_6, val_main_v22, val_main_v21, val_main_cst_5, val_main_v20,
    val_main_cst_4, val_main_v17]
  simp only [ref_err]
  rw [oneHalf, mul_sum_of_nonneg _ _ _ (by norm_num)]
  refine Finset.sum_congr rfl fun q _ => ?_
  unfold rowLoss
  rw [share, width, div_coe _ (by norm_num), mul_comm (∑ _, _), ← mul_assoc, ← EReal.coe_mul]
  norm_num

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, sem_eq_zero_of_no_sems (by decide) r.2⟩) (Cert.LossRefIdeal.Value.run m ρ)

end Ref

theorem algebraic : Cert.algebraic_LossIdeal_LossRefIdeal := by
  intro m ρ m' ρ' _ hag
  refine ⟨fun c (_ : Cert.LossIdeal.S1x1.Idx) => (show EReal from total m c), fun c i => dRow (X m c) (fun k => G m c (ix1 k)) (T m c) (i 0) (i 1),
    fun c i => dRow (X m c) (fun k => G m c (ix1 k)) (T m c) (i 0) (i 1),
    fun c (i : Cert.LossIdeal.S1x1024.Idx) => (show EReal from ∑ q : Fin 2048, dGain (X m c) (fun k => G m c (ix1 k)) (T m c) (i 1) q),
    (θ_run _ _ _).mono (fun r h c => ⟨(h c).1.trans (final_l m c), (h c).2.1.trans (final_x m c), (h c).2.2.1.trans (final_b m c), (h c).2.2.2.1.trans (final_g m c), (h c).2.2.2.2⟩) (Cert.LossIdeal.Value.run_blocks m ρ),
    (θ_run _ _ _).mono (fun r h c => ⟨(h c).1.trans ?_, (h c).2.1.trans ?_, (h c).2.2.1.trans ?_, (h c).2.2.2.1.trans ?_, (h c).2.2.2.2⟩) (Cert.LossRefIdeal.Value.run m' ρ')⟩
  · rw [Cert.LossRefIdeal.Read.val_main_v51_eq, (hag c).1, (hag c).2.1, (hag c).2.2]
    funext i
    exact (congrArg _ ((eq_ix2 i).trans (congrArg₂ ix2 (Subsingleton.elim (α := Fin 1) (i 0) 0) (Subsingleton.elim (α := Fin 1) (i 1) 0)))).trans (ref_l _ _ _)
  · rw [Cert.LossRefIdeal.Read.val_main_v50_eq, (hag c).1, (hag c).2.1, (hag c).2.2]
    funext i
    exact (congrArg _ (eq_ix2 i)).trans (ref_x _ _ _ (i 0) (i 1))
  · rw [Cert.LossRefIdeal.Read.val_main_v52_eq, (hag c).1, (hag c).2.1, (hag c).2.2]
    funext i
    exact (congrArg _ (eq_ix2 i)).trans (ref_b _ _ _ (i 0) (i 1))
  · rw [Cert.LossRefIdeal.Read.val_main_v53_eq, (hag c).1, (hag c).2.1, (hag c).2.2]
    funext i
    exact (congrArg _ ((eq_ix2 i).trans (congrArg (ix2 · _) (Subsingleton.elim (α := Fin 1) (i 0) 0)))).trans (ref_g _ _ _ (i 1))

end Cert.LossProof
-- ==== Proof.Adam.lean ====
/- The optimiser's call: the eight devices' gradients summed, and the AdamW step of the weight and of its two moments. -/
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit

@[expose] public section

set_option maxRecDepth 16384

noncomputable section

namespace Cert.AdamProof

open Idealize.ShloMosaic Idealize.ShloMosaic.TcCoe Idealize.SL.Sem

/-- The first moment after the step. -/
def moment (g m : EReal) : EReal := Ideal.ofBits .f32 0x3F666666#32 * m + Ideal.ofBits .f32 0x3DCCCCCD#32 * g
/-- The second moment after the step. -/
def second (g v : EReal) : EReal := Ideal.ofBits .f32 0x3F7FBE77#32 * v + Ideal.ofBits .f32 0x3A83126F#32 * (g * g)
/-- The weight's change. -/
def change (g w m v : EReal) : EReal :=
  Ideal.ofBits .f32 0xBA83126F#32 * (Ideal.div (Ideal.div (moment g m) (Ideal.ofBits .f32 0x3F26BD02#32))
    (Ideal.sqrt (Ideal.div (second g v) (Ideal.ofBits .f32 0x3C231ACC#32)) + Ideal.ofBits .f32 0x322BCC77#32)
      + Ideal.ofBits .f32 0x3C23D70A#32 * w)
/-- The summed gradient of layer `l` at one entry. -/
def grad (P R : FVec Ideal ⟨3, ![8, 512, 1024]⟩ .bf16) (l : Fin 2) (q : Fin 512) (j : Fin 1024) : EReal :=
  if l.val < 1 then ∑ d : Fin 8, P (ix3 d q j) else ∑ d : Fin 8, R (ix3 d q j)

section Kernel

open Cert.AdamIdeal Cert.AdamIdeal.Gen

variable (m : (ℓ : Loc nD τ sig) → Buf (Elt Ideal) ℓ)

/-- Device `k`'s part of a block of gradients. -/
abbrev devs (k : ℕ) (h : ∀ a, (![k, 0, 0] : Fin 3 → ℕ) a + S1x256x1024.size a ≤ S8x256x1024.size a) (x : Vec Ideal S8x256x1024 .bf16) : Vec Ideal S1x256x1024 .bf16 :=
  View.ld x (Rect.unit (s := S8x256x1024) ![k, 0, 0] S1x256x1024.size h)
theorem devs_apply (k : Fin 8) (h : ∀ a, (![k.val, 0, 0] : Fin 3 → ℕ) a + S1x256x1024.size a ≤ S8x256x1024.size a) (x : Vec Ideal S8x256x1024 .bf16) (q : Fin 256) (j : Fin 1024) :
    devs k.val h x (ix3 0 q j) = x (ix3 k q j) := by
  refine congrArg x ?_
  funext a
  fin_cases a <;> exact Fin.ext (by simp [Rect.unit, LoadRect.idx])

/-- The eight devices' parts of a block of the first layer's gradients, summed. -/
abbrev sumA (x : Vec Ideal S8x256x1024 .bf16) : FVec Ideal S256x1024 .f32 := k0_pay5 (F := Ideal) (devs 0 inb_S8x256x1024_S1x256x1024_0_0_0 x) (devs 1 inb_S8x256x1024_S1x256x1024_1_0_0 x) (devs 2 inb_S8x256x1024_S1x256x1024_2_0_0 x) (devs 3 inb_S8x256x1024_S1x256x1024_3_0_0 x) (devs 4 inb_S8x256x1024_S1x256x1024_4_0_0 x) (devs 5 inb_S8x256x1024_S1x256x1024_5_0_0 x) (devs 6 inb_S8x256x1024_S1x256x1024_6_0_0 x) (devs 7 inb_S8x256x1024_S1x256x1024_7_0_0 x)
/-- The same for the second layer. -/
abbrev sumB (x : Vec Ideal S8x256x1024 .bf16) : FVec Ideal S256x1024 .f32 := k0_pay11 (F := Ideal) (devs 0 inb_S8x256x1024_S1x256x1024_0_0_0 x) (devs 1 inb_S8x256x1024_S1x256x1024_1_0_0 x) (devs 2 inb_S8x256x1024_S1x256x1024_2_0_0 x) (devs 3 inb_S8x256x1024_S1x256x1024_3_0_0 x) (devs 4 inb_S8x256x1024_S1x256x1024_4_0_0 x) (devs 5 inb_S8x256x1024_S1x256x1024_5_0_0 x) (devs 6 inb_S8x256x1024_S1x256x1024_6_0_0 x) (devs 7 inb_S8x256x1024_S1x256x1024_7_0_0 x)
theorem addA (a b c d e f g h : Vec Ideal S1x256x1024 .bf16) (q : Fin 256) (j : Fin 1024) :
    k0_pay5 (F := Ideal) a b c d e f g h (ix2 q j) = a (ix3 0 q j) + b (ix3 0 q j) + c (ix3 0 q j) + d (ix3 0 q j) + e (ix3 0 q j) + f (ix3 0 q j) + g (ix3 0 q j) + h (ix3 0 q j) := by
  pointwise [k0_pay5]
theorem addB (a b c d e f g h : Vec Ideal S1x256x1024 .bf16) (q : Fin 256) (j : Fin 1024) :
    k0_pay11 (F := Ideal) a b c d e f g h (ix2 q j) = a (ix3 0 q j) + b (ix3 0 q j) + c (ix3 0 q j) + d (ix3 0 q j) + e (ix3 0 q j) + f (ix3 0 q j) + g (ix3 0 q j) + h (ix3 0 q j) := by
  pointwise [k0_pay11]
theorem sumA_apply (x : Vec Ideal S8x256x1024 .bf16) (q : Fin 256) (j : Fin 1024) : sumA x (ix2 q j) = ∑ d : Fin 8, x (ix3 d q j) := by
  refine (addA _ _ _ _ _ _ _ _ q j).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (devs_apply 0 _ x q j) (devs_apply 1 _ x q j)) (devs_apply 2 _ x q j)) (devs_apply 3 _ x q j)) (devs_apply 4 _ x q j)) (devs_apply 5 _ x q j))
    (devs_apply 6 _ x q j)) (devs_apply 7 _ x q j)
theorem sumB_apply (x : Vec Ideal S8x256x1024 .bf16) (q : Fin 256) (j : Fin 1024) : sumB x (ix2 q j) = ∑ d : Fin 8, x (ix3 d q j) := by
  refine (addB _ _ _ _ _ _ _ _ q j).trans ?_
  rw [Fin.sum_univ_eight]
  exact congrArg₂ (· + ·) (congrArg₂ (· + ·) (congrArg₂ (· + ·) (congrArg₂ (· + ·) (congrArg₂ (· + ·) (congrArg₂ (· + ·) (congrArg₂ (· + ·)
    (devs_apply 0 _ x q j) (devs_apply 1 _ x q j)) (devs_apply 2 _ x q j)) (devs_apply 3 _ x q j)) (devs_apply 4 _ x q j)) (devs_apply 5 _ x q j))
    (devs_apply 6 _ x q j)) (devs_apply 7 _ x q j)

section Block

variable (g : FVec Ideal S256x1024 .f32) (w u v : Vec Ideal S1x256x1024 .f32) (q : Fin 256) (j : Fin 1024)

theorem gradA_apply : k0_pay9 (F := Ideal) g (ix3 0 q j) = g (ix2 q j) := by
  pointwise [k0_pay9]
theorem momA_apply : k0_pay7 (F := Ideal) g u (ix2 q j) = moment (g (ix2 q j)) (u (ix3 0 q j)) := by
  pointwise [k0_pay7]
  rfl
theorem secA_apply : k0_pay8 (F := Ideal) g v (ix2 q j) = second (g (ix2 q j)) (v (ix3 0 q j)) := by
  pointwise [k0_pay8]
  rfl
theorem momOutA_apply : k0_pay1 (F := Ideal) (k0_pay7 (F := Ideal) g u) (ix3 0 q j) = moment (g (ix2 q j)) (u (ix3 0 q j)) := by
  pointwise [k0_pay1]
  exact momA_apply g u q j
theorem secOutA_apply : k0_pay2 (F := Ideal) (k0_pay8 (F := Ideal) g v) (ix3 0 q j) = second (g (ix2 q j)) (v (ix3 0 q j)) := by
  pointwise [k0_pay2]
  exact secA_apply g v q j
theorem changeA_apply : k0_pay10 (F := Ideal) g (k0_pay6 (F := Ideal) w) u v (ix3 0 q j)
    = change (g (ix2 q j)) (w (ix3 0 q j)) (u (ix3 0 q j)) (v (ix3 0 q j)) := by
  pointwise [k0_pay10, k0_pay6]
  rw [momA_apply, secA_apply]
  rfl
theorem gradB_apply : k0_pay15 (F := Ideal) g (ix3 0 q j) = g (ix2 q j) := by
  pointwise [k0_pay15]
theorem momB_apply : k0_pay13 (F := Ideal) g u (ix2 q j) = moment (g (ix2 q j)) (u (ix3 0 q j)) := by
  pointwise [k0_pay13]
  rfl
theorem secB_apply : k0_pay14 (F := Ideal) g v (ix2 q j) = second (g (ix2 q j)) (v (ix3 0 q j)) := by
  pointwise [k0_pay14]
  rfl
theorem momOutB_apply : k0_pay3 (F := Ideal) (k0_pay13 (F := Ideal) g u) (ix3 0 q j) = moment (g (ix2 q j)) (u (ix3 0 q j)) := by
  pointwise [k0_pay3]
  exact momB_apply g u q j
theorem secOutB_apply : k0_pay4 (F := Ideal) (k0_pay14 (F := Ideal) g v) (ix3 0 q j) = second (g (ix2 q j)) (v (ix3 0 q j)) := by
  pointwise [k0_pay4]
  exact secB_apply g v q j
theorem changeB_apply : k0_pay16 (F := Ideal) g (k0_pay12 (F := Ideal) w) u v (ix3 0 q j)
    = change (g (ix2 q j)) (w (ix3 0 q j)) (u (ix3 0 q j)) (v (ix3 0 q j)) := by
  pointwise [k0_pay16, k0_pay12]
  rw [momB_apply, secB_apply]
  rfl

end Block

theorem idx : ∀ t : Fin cfg0.N, (t.val < 2 → win0_0.index t = ![0, t.val % 2, 0]) ∧ (2 ≤ t.val → win0_1.index t = ![0, t.val % 2, 0])
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] ∧ t.val < 4 :=
  (by decide +kernel : ∀ t : Fin grid0.N, _)

abbrev P (c : Dev nD) : FVec Ideal S8x512x1024 .bf16 := m ((c : Thread nD τ).loc main_arg0)
abbrev R (c : Dev nD) : FVec Ideal S8x512x1024 .bf16 := m ((c : Thread nD τ).loc main_arg1)
abbrev W (c : Dev nD) : FVec Ideal S2x512x1024 .f32 := m ((c : Thread nD τ).loc main_arg2)
abbrev U (c : Dev nD) : FVec Ideal S2x512x1024 .f32 := m ((c : Thread nD τ).loc main_arg3)
abbrev Z (c : Dev nD) : FVec Ideal S2x512x1024 .f32 := m ((c : Thread nD τ).loc main_arg4)

abbrev lay (t : Fin cfg0.N) : Fin 2 := ⟨t.val / 2, by have := (idx t).2.2.2.2.2.2.2.2.2; omega⟩
abbrev row (t : Fin cfg0.N) (q : Fin 256) : Fin 512 := ⟨t.val % 2 * 256 + q.val, by omega⟩

theorem p_read (c : Dev nD) (t : Fin cfg0.N) (h : t.val < 2) (d : Fin 8) (q : Fin 256) (j : Fin 1024) :
    (show Vec Ideal S8x256x1024 .bf16 from iblk m c 0 t) (ix3 d q j) = P m c (ix3 d (row t q) j) := by
  blk_ext [iblk, V, (idx t).1 h]
theorem r_read (c : Dev nD) (t : Fin cfg0.N) (h : 2 ≤ t.val) (d : Fin 8) (q : Fin 256) (j : Fin 1024) :
    (show Vec Ideal S8x256x1024 .bf16 from iblk m c 1 t) (ix3 d q j) = R m c (ix3 d (row t q) j) := by
  blk_ext [iblk, V, (idx t).2.1 h]
theorem w_read (c : Dev nD) (t : Fin cfg0.N) (q : Fin 256) (j : Fin 1024) :
    (show Vec Ideal S1x256x1024 .f32 from iblk m c 2 t) (ix3 0 q j) = W m c (ix3 (lay t) (row t q) j) := by
  blk_ext [iblk, V, (idx t).2.2.1]
theorem u_read (c : Dev nD) (t : Fin cfg0.N) (q : Fin 256) (j : Fin 1024) :
    (show Vec Ideal S1x256x1024 .f32 from iblk m c 3 t) (ix3 0 q j) = U m c (ix3 (lay t) (row t q) j) := by
  blk_ext [iblk, V, (idx t).2.2.2.1]
theorem z_read (c : Dev nD) (t : Fin cfg0.N) (q : Fin 256) (j : Fin 1024) :
    (show Vec Ideal S1x256x1024 .f32 from iblk m c 4 t) (ix3 0 q j) = Z m c (ix3 (lay t) (row t q) j) := by
  blk_ext [iblk, V, (idx t).2.2.2.2.1]

theorem grad_lo (c : Dev nD) (t : Fin cfg0.N) (h : t.val < 2) (q : Fin 256) (j : Fin 1024) :
    sumA (iblk m c 0 t) (ix2 q j) = grad (P m c) (R m c) (lay t) (row t q) j := by
  refine (sumA_apply _ q j).trans ?_
  unfold grad
  rw [if_pos (show t.val / 2 < 1 by omega)]
  exact Finset.sum_congr rfl fun d _ => p_read m c t h d q j
theorem grad_hi (c : Dev nD) (t : Fin cfg0.N) (h : 2 ≤ t.val) (q : Fin 256) (j : Fin 1024) :
    sumB (iblk m c 1 t) (ix2 q j) = grad (P m c) (R m c) (lay t) (row t q) j := by
  refine (sumB_apply _ q j).trans ?_
  unfold grad
  rw [if_neg (show ¬ t.val / 2 < 1 by omega)]
  exact Finset.sum_congr rfl fun d _ => r_read m c t h d q j

abbrev outG (c : Dev nD) (l : Fin 2) (q : Fin 512) (j : Fin 1024) : EReal := grad (P m c) (R m c) l q j
abbrev outD (c : Dev nD) (l : Fin 2) (q : Fin 512) (j : Fin 1024) : EReal :=
  change (outG m c l q j) (W m c (ix3 l q j)) (U m c (ix3 l q j)) (Z m c (ix3 l q j))
abbrev outM (c : Dev nD) (l : Fin 2) (q : Fin 512) (j : Fin 1024) : EReal := moment (outG m c l q j) (U m c (ix3 l q j))
abbrev outV (c : Dev nD) (l : Fin 2) (q : Fin 512) (j : Fin 1024) : EReal := second (outG m c l q j) (Z m c (ix3 l q j))

theorem leftGA (c : Dev nD) (t : Fin cfg0.N) (h : t.val < 2) : (dats m 0 c).after 5 t = k0_pay9 (F := Ideal) (sumA (iblk m c 0 t)) := by
  rw [after0_5, outsAt0_A m c t h (by omega)]; frame_out
theorem pointGA (c : Dev nD) (t : Fin cfg0.N) (h : t.val < 2) (q : Fin 256) (j : Fin 1024) :
    k0_pay9 (F := Ideal) (sumA (iblk m c 0 t)) (ix3 0 q j) = outG m c (lay t) (row t q) j :=
  (gradA_apply _ q j).trans (grad_lo m c t h q j)
theorem leftGB (c : Dev nD) (t : Fin cfg0.N) (h : 2 ≤ t.val) : (dats m 0 c).after 5 t = k0_pay15 (F := Ideal) (sumB (iblk m c 1 t)) := by
  rw [after0_5, outsAt0_B m c t (by omega) h]; frame_out
theorem pointGB (c : Dev nD) (t : Fin cfg0.N) (h : 2 ≤ t.val) (q : Fin 256) (j : Fin 1024) :
    k0_pay15 (F := Ideal) (sumB (iblk m c 1 t)) (ix3 0 q j) = outG m c (lay t) (row t q) j :=
  (gradB_apply _ q j).trans (grad_hi m c t h q j)
theorem finalG (c : Dev nD) : (dats m 0 c).arrAt 5 (cfgs 0).N = fun i : S2x512x1024.Idx => outG m c (i 0) (i 1) (i 2) := by
  refine (dats m 0 c).arrAt_eq_of_covers 5 _ (by decide +kernel) fun t _ y => ?_
  blk_simp
  obtain ⟨z, q, j, rfl⟩ : ∃ (z : Fin 1) (q : Fin 256) (j : Fin 1024), y = ix3 z q j := ⟨y 0, y 1, y 2, eq_ix3 y⟩
  obtain rfl : z = 0 := Subsingleton.elim _ _
  have hp : ((dats m 0 c).after 5 t : Vec Ideal S1x256x1024 .f32) (ix3 0 q j) = outG m c (lay t) (row t q) j := by
    by_cases h : t.val < 2
    · rw [leftGA m c t h]; exact pointGA m c t h q j
    · rw [leftGB m c t (by omega)]; exact pointGB m c t (by omega) q j
  refine hp.trans (congr (congrArg₂ (outG m c) (Fin.ext ?_) (Fin.ext ?_)) (Fin.ext ?_))
  · blk_simp [idx t]
    rfl
  · blk_simp [idx t]
  · blk_simp [idx t]
theorem leftDA (c : Dev nD) (t : Fin cfg0.N) (h : t.val < 2) : (dats m 0 c).after 6 t = k0_pay10 (F := Ideal) (sumA (iblk m c 0 t)) (k0_pay6 (F := Ideal) (iblk m c 2 t)) (iblk m c 3 t) (iblk m c 4 t) := by
  rw [after0_6, outsAt0_A m c t h (by omega)]; frame_out
theorem pointDA (c : Dev nD) (t : Fin cfg0.N) (h : t.val < 2) (q : Fin 256) (j : Fin 1024) :
    k0_pay10 (F := Ideal) (sumA (iblk m c 0 t)) (k0_pay6 (F := Ideal) (iblk m c 2 t)) (iblk m c 3 t) (iblk m c 4 t) (ix3 0 q j) = outD m c (lay t) (row t q) j :=
  (changeA_apply _ _ _ _ q j).trans (by rw [grad_lo m c t h]; exact congr (congrArg₂ (change (outG m c (lay t) (row t q) j)) (w_read m c t q j) (u_read m c t q j)) (z_read m c t q j))
theorem leftDB (c : Dev nD) (t : Fin cfg0.N) (h : 2 ≤ t.val) : (dats m 0 c).after 6 t = k0_pay16 (F := Ideal) (sumB (iblk m c 1 t)) (k0_pay12 (F := Ideal) (iblk m c 2 t)) (iblk m c 3 t) (iblk m c 4 t) := by
  rw [after0_6, outsAt0_B m c t (by omega) h]; frame_out
theorem pointDB (c : Dev nD) (t : Fin cfg0.N) (h : 2 ≤ t.val) (q : Fin 256) (j : Fin 1024) :
    k0_pay16 (F := Ideal) (sumB (iblk m c 1 t)) (k0_pay12 (F := Ideal) (iblk m c 2 t)) (iblk m c 3 t) (iblk m c 4 t) (ix3 0 q j) = outD m c (lay t) (row t q) j :=
  (changeB_apply _ _ _ _ q j).trans (by rw [grad_hi m c t h]; exact congr (congrArg₂ (change (outG m c (lay t) (row t q) j)) (w_read m c t q j) (u_read m c t q j)) (z_read m c t q j))
theorem finalD (c : Dev nD) : (dats m 0 c).arrAt 6 (cfgs 0).N = fun i : S2x512x1024.Idx => outD m c (i 0) (i 1) (i 2) := by
  refine (dats m 0 c).arrAt_eq_of_covers 6 _ (by decide +kernel) fun t _ y => ?_
  blk_simp
  obtain ⟨z, q, j, rfl⟩ : ∃ (z : Fin 1) (q : Fin 256) (j : Fin 1024), y = ix3 z q j := ⟨y 0, y 1, y 2, eq_ix3 y⟩
  obtain rfl : z = 0 := Subsingleton.elim _ _
  have hp : ((dats m 0 c).after 6 t : Vec Ideal S1x256x1024 .f32) (ix3 0 q j) = outD m c (lay t) (row t q) j := by
    by_cases h : t.val < 2
    · rw [leftDA m c t h]; exact pointDA m c t h q j
    · rw [leftDB m c t (by omega)]; exact pointDB m c t (by omega) q j
  refine hp.trans (congr (congrArg₂ (outD m c) (Fin.ext ?_) (Fin.ext ?_)) (Fin.ext ?_))
  · blk_simp [idx t]
    rfl
  · blk_simp [idx t]
  · blk_simp [idx t]
theorem leftMA (c : Dev nD) (t : Fin cfg0.N) (h : t.val < 2) : (dats m 0 c).after 7 t = k0_pay1 (F := Ideal) (k0_pay7 (F := Ideal) (sumA (iblk m c 0 t)) (iblk m c 3 t)) := by
  rw [after0_7, outsAt0_A m c t h (by omega)]; frame_out
theorem pointMA (c : Dev nD) (t : Fin cfg0.N) (h : t.val < 2) (q : Fin 256) (j : Fin 1024) :
    k0_pay1 (F := Ideal) (k0_pay7 (F := Ideal) (sumA (iblk m c 0 t)) (iblk m c 3 t)) (ix3 0 q j) = outM m c (lay t) (row t q) j :=
  (momOutA_apply _ _ q j).trans (congrArg₂ moment (grad_lo m c t h q j) (u_read m c t q j))
theorem leftMB (c : Dev nD) (t : Fin cfg0.N) (h : 2 ≤ t.val) : (dats m 0 c).after 7 t = k0_pay3 (F := Ideal) (k0_pay13 (F := Ideal) (sumB (iblk m c 1 t)) (iblk m c 3 t)) := by
  rw [after0_7, outsAt0_B m c t (by omega) h]; frame_out
theorem pointMB (c : Dev nD) (t : Fin cfg0.N) (h : 2 ≤ t.val) (q : Fin 256) (j : Fin 1024) :
    k0_pay3 (F := Ideal) (k0_pay13 (F := Ideal) (sumB (iblk m c 1 t)) (iblk m c 3 t)) (ix3 0 q j) = outM m c (lay t) (row t q) j :=
  (momOutB_apply _ _ q j).trans (congrArg₂ moment (grad_hi m c t h q j) (u_read m c t q j))
theorem finalM (c : Dev nD) : (dats m 0 c).arrAt 7 (cfgs 0).N = fun i : S2x512x1024.Idx => outM m c (i 0) (i 1) (i 2) := by
  refine (dats m 0 c).arrAt_eq_of_covers 7 _ (by decide +kernel) fun t _ y => ?_
  blk_simp
  obtain ⟨z, q, j, rfl⟩ : ∃ (z : Fin 1) (q : Fin 256) (j : Fin 1024), y = ix3 z q j := ⟨y 0, y 1, y 2, eq_ix3 y⟩
  obtain rfl : z = 0 := Subsingleton.elim _ _
  have hp : ((dats m 0 c).after 7 t : Vec Ideal S1x256x1024 .f32) (ix3 0 q j) = outM m c (lay t) (row t q) j := by
    by_cases h : t.val < 2
    · rw [leftMA m c t h]; exact pointMA m c t h q j
    · rw [leftMB m c t (by omega)]; exact pointMB m c t (by omega) q j
  refine hp.trans (congr (congrArg₂ (outM m c) (Fin.ext ?_) (Fin.ext ?_)) (Fin.ext ?_))
  · blk_simp [idx t]
    rfl
  · blk_simp [idx t]
  · blk_simp [idx t]
theorem leftVA (c : Dev nD) (t : Fin cfg0.N) (h : t.val < 2) : (dats m 0 c).after 8 t = k0_pay2 (F := Ideal) (k0_pay8 (F := Ideal) (sumA (iblk m c 0 t)) (iblk m c 4 t)) := by
  rw [after0_8, outsAt0_A m c t h (by omega)]; frame_out
theorem pointVA (c : Dev nD) (t : Fin cfg0.N) (h : t.val < 2) (q : Fin 256) (j : Fin 1024) :
    k0_pay2 (F := Ideal) (k0_pay8 (F := Ideal) (sumA (iblk m c 0 t)) (iblk m c 4 t)) (ix3 0 q j) = outV m c (lay t) (row t q) j :=
  (secOutA_apply _ _ q j).trans (congrArg₂ second (grad_lo m c t h q j) (z_read m c t q j))
theorem leftVB (c : Dev nD) (t : Fin cfg0.N) (h : 2 ≤ t.val) : (dats m 0 c).after 8 t = k0_pay4 (F := Ideal) (k0_pay14 (F := Ideal) (sumB (iblk m c 1 t)) (iblk m c 4 t)) := by
  rw [after0_8, outsAt0_B m c t (by omega) h]; frame_out
theorem pointVB (c : Dev nD) (t : Fin cfg0.N) (h : 2 ≤ t.val) (q : Fin 256) (j : Fin 1024) :
    k0_pay4 (F := Ideal) (k0_pay14 (F := Ideal) (sumB (iblk m c 1 t)) (iblk m c 4 t)) (ix3 0 q j) = outV m c (lay t) (row t q) j :=
  (secOutB_apply _ _ q j).trans (congrArg₂ second (grad_hi m c t h q j) (z_read m c t q j))
theorem finalV (c : Dev nD) : (dats m 0 c).arrAt 8 (cfgs 0).N = fun i : S2x512x1024.Idx => outV m c (i 0) (i 1) (i 2) := by
  refine (dats m 0 c).arrAt_eq_of_covers 8 _ (by decide +kernel) fun t _ y => ?_
  blk_simp
  obtain ⟨z, q, j, rfl⟩ : ∃ (z : Fin 1) (q : Fin 256) (j : Fin 1024), y = ix3 z q j := ⟨y 0, y 1, y 2, eq_ix3 y⟩
  obtain rfl : z = 0 := Subsingleton.elim _ _
  have hp : ((dats m 0 c).after 8 t : Vec Ideal S1x256x1024 .f32) (ix3 0 q j) = outV m c (lay t) (row t q) j := by
    by_cases h : t.val < 2
    · rw [leftVA m c t h]; exact pointVA m c t h q j
    · rw [leftVB m c t (by omega)]; exact pointVB m c t (by omega) q j
  refine hp.trans (congr (congrArg₂ (outV m c) (Fin.ext ?_) (Fin.ext ?_)) (Fin.ext ?_))
  · blk_simp [idx t]
    rfl
  · blk_simp [idx t]
  · blk_simp [idx t]

end Kernel

section Ref

open Cert.AdamRefIdeal Cert.AdamRefIdeal.Gen Cert.AdamRefIdeal.Read

variable (P R : FVec Ideal S8x512x1024 .bf16) (W U Z : FVec Ideal S2x512x1024 .f32) (l : Fin 2) (q : Fin 512) (j : Fin 1024)

theorem ref_lo : val_main_v4 (F := Ideal) P (ix3 0 q j) = ∑ d : Fin 8, P (ix3 d q j) := by
  pointwise [val_main_v4, val_main_v1, val_main_v0, val_main_cst]
theorem ref_hi : val_main_v5 (F := Ideal) R (ix3 0 q j) = ∑ d : Fin 8, R (ix3 d q j) := by
  pointwise [val_main_v5, val_main_v3, val_main_v2, val_main_cst_0]
theorem ref_g : val_main_v6 (F := Ideal) P R (ix3 l q j) = grad P R l q j := by
  pointwise [val_main_v6, val_main_v5, val_main_v3, val_main_v2, val_main_cst_0, val_main_v4, val_main_v1, val_main_v0, val_main_cst]
  rfl
theorem ref_m : val_main_v11 (F := Ideal) P R U (ix3 l q j) = moment (grad P R l q j) (U (ix3 l q j)) := by
  pointwise [val_main_v11, val_main_v10, val_main_v9, val_main_v8, val_main_v7, val_main_cst_1, val_main_cst_2]
  rw [ref_g]
  rfl
theorem ref_v : val_main_v17 (F := Ideal) P R Z (ix3 l q j) = second (grad P R l q j) (Z (ix3 l q j)) := by
  pointwise [val_main_v17, val_main_v16, val_main_v15, val_main_v14, val_main_v13, val_main_v12, val_main_cst_3, val_main_cst_4]
  rw [ref_g]
  rfl
theorem ref_d : val_main_v30 (F := Ideal) P R W U Z (ix3 l q j) = change (grad P R l q j) (W (ix3 l q j)) (U (ix3 l q j)) (Z (ix3 l q j)) := by
  pointwise [val_main_v30, val_main_v29, val_main_v28, val_main_v27, val_main_v26, val_main_v25, val_main_v24, val_main_v23, val_main_v22,
    val_main_v21, val_main_v20, val_main_v19, val_main_v18, val_main_cst_5, val_main_cst_6, val_main_cst_7, val_main_cst_8, val_main_cst_9]
  rw [ref_m, ref_v]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2.2, sem_eq_zero_of_no_sems (by decide) r.2⟩) (Cert.AdamRefIdeal.Value.run m ρ)

end Ref

theorem algebraic : Cert.algebraic_AdamIdeal_AdamRefIdeal := by
  intro m ρ m' ρ' _ hag
  refine ⟨fun c i => outG m c (i 0) (i 1) (i 2), fun c i => outD m c (i 0) (i 1) (i 2), fun c i => outM m c (i 0) (i 1) (i 2), fun c i => outV m c (i 0) (i 1) (i 2),
    (θ_run _ _ _).mono (fun r h c => ⟨(h c).1.trans (finalG m c), (h c).2.1.trans (finalD m c), (h c).2.2.1.trans (finalM m c), (h c).2.2.2.1.trans (finalV m c), (h c).2.2.2.2⟩) (Cert.AdamIdeal.Value.run_blocks m ρ),
    (θ_run _ _ _).mono (fun r h c => ⟨(h c).1.trans ?_, (h c).2.1.trans ?_, (h c).2.2.1.trans ?_, (h c).2.2.2.1.trans ?_, (h c).2.2.2.2⟩) (Cert.AdamRefIdeal.Value.run m' ρ')⟩
  · rw [Cert.AdamRefIdeal.Read.val_main_v6_eq, (hag c).1, (hag c).2.1]
    funext i
    exact (congrArg _ (eq_ix3 i)).trans (ref_g _ _ (i 0) (i 1) (i 2))
  · rw [Cert.AdamRefIdeal.Read.val_main_v30_eq, (hag c).1, (hag c).2.1, (hag c).2.2.1, (hag c).2.2.2.1, (hag c).2.2.2.2]
    funext i
    refine (congrArg _ (eq_ix3 i)).trans ((ref_d _ _ _ _ _ (i 0) (i 1) (i 2)).trans ?_)
    rfl
  · rw [Cert.AdamRefIdeal.Read.val_main_v11_eq, (hag c).1, (hag c).2.1, (hag c).2.2.2.1]
    funext i
    exact (congrArg _ (eq_ix3 i)).trans (ref_m _ _ _ (i 0) (i 1) (i 2))
  · rw [Cert.AdamRefIdeal.Read.val_main_v17_eq, (hag c).1, (hag c).2.1, (hag c).2.2.2.2]
    funext i
    exact (congrArg _ (eq_ix3 i)).trans (ref_v _ _ _ (i 0) (i 1) (i 2))

end Cert.AdamProof
-- ==== Proof.Dz.lean ====
/- The gradient at the hidden layer: the kernel's result array and the reference's are one closed form. -/
module

public import proofs.«01_k».proof.Defs
public import proofs.«01_k».proof.Proof.Gen.DzIdeal.Value
public import proofs.«01_k».proof.Proof.Gen.DzRefIdeal.Run
public import proofs.«01_k».proof.Proof.Gen.DzRefIdeal.Read
public import Idealize.ShloMosaic.Lib.Pipeline.ValueKit
public import Idealize.ShloMosaic.Lib.Pointwise

@[expose] public section

set_option maxRecDepth 16384

noncomputable section

namespace Cert.DzProof

open Idealize.ShloMosaic Idealize.ShloMosaic.TcCoe Idealize.SL.Sem

/-- The gradient of `∑ q e, dy q e * (relu z)² w` at `z`: twice the positive part of `z` times `dy w` transposed. -/
def dz (Y : FVec Ideal ⟨2, ![2048, 1024]⟩ .bf16) (W : FVec Ideal ⟨2, ![4096, 1024]⟩ .bf16) (Z : FVec Ideal ⟨2, ![2048, 4096]⟩ .bf16)
    (q : Fin 2048) (f : Fin 4096) : EReal :=
  (∑ e : Fin 1024, Y (ix2 q e) * W (ix2 f e)) * Ideal.ofBits .f32 0x40000000#32 * max (Z (ix2 q f)) 0

section Kernel

open Cert.DzIdeal Cert.DzIdeal.Gen

variable (m : (ℓ : Loc nD τ sig) → Buf (Elt Ideal) ℓ)

theorem pay_apply (y : Vec Ideal S2048x1024 .bf16) (w : Vec Ideal S512x1024 .bf16) (z : Vec Ideal S2048x512 .bf16) (q : Fin 2048) (f : Fin 512) :
    k0_pay1 (F := Ideal) y w z (ix2 q f)
      = (∑ e : Fin 1024, y (ix2 q e) * w (ix2 f e)) * Ideal.ofBits .f32 0x40000000#32 * max (z (ix2 q f)) 0 := by
  pointwise [k0_pay1]

theorem idx : ∀ t : Fin cfg0.N, win0_0.index t = ![0, 0] ∧ win0_1.index t = ![t.val, 0]
    ∧ win0_2.index t = ![0, t.val] ∧ win0_3.index t = ![0, t.val] ∧ t.val < 8 :=
  (by decide +kernel : ∀ t : Fin grid0.N, _)

abbrev Y (c : Dev nD) : FVec Ideal S2048x1024 .bf16 := m ((c : Thread nD τ).loc main_arg0)
abbrev W (c : Dev nD) : FVec Ideal S4096x1024 .bf16 := m ((c : Thread nD τ).loc main_arg1)
abbrev Z (c : Dev nD) : FVec Ideal S2048x4096 .bf16 := m ((c : Thread nD τ).loc main_arg2)

abbrev col (t : Fin cfg0.N) (f : Fin 512) : Fin 4096 := ⟨t.val * 512 + f.val, by have := (idx t).2.2.2.2; omega⟩

theorem y_read (c : Dev nD) (t : Fin cfg0.N) (q : Fin 2048) (e : Fin 1024) :
    (show Vec Ideal S2048x1024 .bf16 from iblk m c 0 t) (ix2 q e) = Y m c (ix2 q e) := by
  blk_ext [iblk, V, idx t]
theorem w_read (c : Dev nD) (t : Fin cfg0.N) (f : Fin 512) (e : Fin 1024) :
    (show Vec Ideal S512x1024 .bf16 from iblk m c 1 t) (ix2 f e) = W m c (ix2 (col t f) e) := by
  blk_ext [iblk, V, idx t]
theorem z_read (c : Dev nD) (t : Fin cfg0.N) (q : Fin 2048) (f : Fin 512) :
    (show Vec Ideal S2048x512 .bf16 from iblk m c 2 t) (ix2 q f) = Z m c (ix2 q (col t f)) := by
  blk_ext [iblk, V, idx t]

theorem left_dz (c : Dev nD) (t : Fin cfg0.N) :
    (dats m 0 c).after 3 t = k0_pay1 (F := Ideal) (iblk m c 0 t) (iblk m c 1 t) (iblk m c 2 t) := by
  rw [after0_3]; frame_out

theorem final_dz (c : Dev nD) :
    (dats m 0 c).arrAt 3 (cfgs 0).N = fun i : S2048x4096.Idx => dz (Y m c) (W m c) (Z m c) (i 0) (i 1) := by
  refine (dats m 0 c).arrAt_eq_of_covers 3 _ (by decide +kernel) fun t _ y => ?_
  blk_simp
  rw [left_dz]
  obtain ⟨q, f, rfl⟩ : ∃ (q : Fin 2048) (f : Fin 512), y = ix2 q f := ⟨y 0, y 1, eq_ix2 y⟩
  have h : k0_pay1 (F := Ideal) (iblk m c 0 t) (iblk m c 1 t) (iblk m c 2 t) (ix2 q f) = dz (Y m c) (W m c) (Z m c) q (col t f) := by
    rw [pay_apply]
    exact congrArg₂ (fun s z => s * Ideal.ofBits .f32 0x40000000#32 * max z 0)
      (Finset.sum_congr rfl fun e _ => congrArg₂ (· * ·) (y_read m c t q e) (w_read m c t f e)) (z_read m c t q f)
  refine h.trans (congrArg₂ (dz (Y m c) (W m c) (Z m c)) (Fin.ext ?_) (Fin.ext ?_))
  · blk_simp [idx t]
  · blk_simp [idx t]

end Kernel

section Ref

open Cert.DzRefIdeal Cert.DzRefIdeal.Gen Cert.DzRefIdeal.Read

/-- The derivative of the squared positive part, written with a choice as the reference has it. -/
theorem choice_eq (d two z : EReal) :
    (if 0 < z then d * (two * max z 0) else 0) = d * two * max z 0 := by
  by_cases h : 0 < z
  · simp [h, mul_assoc]
  · simp [h, max_eq_right (not_lt.mp h)]

theorem ref_apply (Y : FVec Ideal S2048x1024 .bf16) (W : FVec Ideal S4096x1024 .bf16) (Z : FVec Ideal S2048x4096 .bf16) (q : Fin 2048) (f : Fin 4096) :
    val_main_v15 (F := Ideal) Y W Z (ix2 q f) = dz Y W Z q f := by
  pointwise [val_main_v15, val_main_v14, val_main_v13, val_main_v12, val_main_v11, val_main_v10, val_main_v8, val_main_v7, val_main_v6, val_main_v4, val_main_v3, val_main_v2, val_main_v1, val_main_v0, val_main_cst, val_main_cst_0, val_main_cst_1, val_main_cst_2, val_main_call0_v0, val_main_call0_cst]
  exact choice_eq _ _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.DzRefIdeal.Value.run m ρ)

end Ref

theorem algebraic : Cert.algebraic_DzIdeal_DzRefIdeal := by
  intro m ρ m' ρ' _ hag
  refine ⟨fun c i => dz (Y m c) (W m c) (Z m c) (i 0) (i 1),
    (θ_run _ _ _).mono (fun r h c => ?_) (Cert.DzIdeal.Value.run_blocks m ρ),
    (θ_run _ _ _).mono (fun r h c => ?_) (Cert.DzRefIdeal.Value.run m' ρ')⟩
  · exact ⟨(h c).1.trans (final_dz m c), (h c).2⟩
  · refine ⟨(h c).1.trans ?_, (h c).2⟩
    rw [Cert.DzRefIdeal.Read.val_main_v15_eq, (hag c).1, (hag c).2.1, (hag c).2.2]
    funext i
    exact (congrArg _ (eq_ix2 i)).trans (ref_apply _ _ _ (i 0) (i 1))

end Cert.DzProof
-- ==== Proof.Dw2.lean ====
/- The gradient of the second feed-forward weight: the kernel's result array and the reference's are one product. -/
module

public import proofs.«01_k».proof.Defs
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pointwise

@[expose] public section

set_option maxRecDepth 16384

noncomputable section

namespace Cert.Dw2Proof

open Idealize.ShloMosaic Idealize.ShloMosaic.TcCoe Idealize.SL.Sem

/-- The gradient of `∑ q e, dy q e * (act w) q e` at the weight: `act` transposed times `dy`. -/
def dw (A : FVec Ideal ⟨2, ![2048, 4096]⟩ .bf16) (Y : FVec Ideal ⟨2, ![2048, 1024]⟩ .bf16) (f : Fin 4096) (e : Fin 1024) : EReal :=
  ∑ q : Fin 2048, A (ix2 q f) * Y (ix2 q e)

section Kernel

open Cert.Dw2Ideal Cert.Dw2Ideal.Gen

variable (m : (ℓ : Loc nD τ sig) → Buf (Elt Ideal) ℓ)

theorem pay_apply (a : Vec Ideal S2048x1024 .bf16) (y : Vec Ideal S2048x512 .bf16) (f : Fin 1024) (e : Fin 512) :
    k0_pay1 (F := Ideal) a y (ix2 f e) = ∑ q : Fin 2048, a (ix2 q f) * y (ix2 q e) := by
  pointwise [k0_pay1]

theorem idx : ∀ t : Fin cfg0.N, win0_0.index t = ![0, t.val / 2] ∧ win0_1.index t = ![0, t.val % 2]
    ∧ win0_2.index t = ![t.val / 2, t.val % 2] ∧ t.val < 8 :=
  (by decide +kernel : ∀ t : Fin grid0.N, _)

abbrev A (c : Dev nD) : FVec Ideal S2048x4096 .bf16 := m ((c : Thread nD τ).loc main_arg0)
abbrev Y (c : Dev nD) : FVec Ideal S2048x1024 .bf16 := m ((c : Thread nD τ).loc main_arg1)

abbrev row (t : Fin cfg0.N) (f : Fin 1024) : Fin 4096 := ⟨t.val / 2 * 1024 + f.val, by have := (idx t).2.2.2; omega⟩
abbrev col (t : Fin cfg0.N) (e : Fin 512) : Fin 1024 := ⟨t.val % 2 * 512 + e.val, by omega⟩

theorem a_read (c : Dev nD) (t : Fin cfg0.N) (q : Fin 2048) (f : Fin 1024) :
    (show Vec Ideal S2048x1024 .bf16 from iblk m c 0 t) (ix2 q f) = A m c (ix2 q (row t f)) := by
  blk_ext [iblk, V, idx t]
theorem y_read (c : Dev nD) (t : Fin cfg0.N) (q : Fin 2048) (e : Fin 512) :
    (show Vec Ideal S2048x512 .bf16 from iblk m c 1 t) (ix2 q e) = Y m c (ix2 q (col t e)) := by
  blk_ext [iblk, V, idx t]

theorem left_dw (c : Dev nD) (t : Fin cfg0.N) :
    (dats m 0 c).after 2 t = k0_pay1 (F := Ideal) (iblk m c 0 t) (iblk m c 1 t) := by
  rw [after0_2]; frame_out

theorem final_dw (c : Dev nD) :
    (dats m 0 c).arrAt 2 (cfgs 0).N = fun i : S4096x1024.Idx => dw (A m c) (Y m c) (i 0) (i 1) := by
  refine (dats m 0 c).arrAt_eq_of_covers 2 _ (by decide +kernel) fun t _ y => ?_
  blk_simp
  rw [left_dw]
  obtain ⟨f, e, rfl⟩ : ∃ (f : Fin 1024) (e : Fin 512), y = ix2 f e := ⟨y 0, y 1, eq_ix2 y⟩
  refine ((pay_apply _ _ f e).trans (Finset.sum_congr rfl fun q _ => congrArg₂ (· * ·) (a_read m c t q f) (y_read m c t q e))).trans
    (congrArg₂ (dw (A m c) (Y m c)) (Fin.ext ?_) (Fin.ext ?_))
  · blk_simp [idx t]
  · blk_simp [idx t]

end Kernel

section Ref

open Cert.Dw2RefIdeal Cert.Dw2RefIdeal.Gen Cert.Dw2RefIdeal.Read

theorem ref_apply (A : FVec Ideal S2048x4096 .bf16) (Y : FVec Ideal S2048x1024 .bf16) (f : Fin 4096) (e : Fin 1024) :
    val_main_v6 (F := Ideal) A Y (ix2 f e) = dw A Y f e := by
  pointwise [val_main_v6, val_main_v5, val_main_v4, val_main_v3, val_main_v1]
  exact Finset.sum_congr rfl fun q _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Dw2RefIdeal.Value.run m ρ)

end Ref

theorem algebraic : Cert.algebraic_Dw2Ideal_Dw2RefIdeal := by
  intro m ρ m' ρ' _ hag
  refine ⟨fun c i => dw (A m c) (Y m c) (i 0) (i 1),
    (θ_run _ _ _).mono (fun r h c => ?_) (Cert.Dw2Ideal.Value.run_blocks m ρ),
    (θ_run _ _ _).mono (fun r h c => ?_) (Cert.Dw2RefIdeal.Value.run m' ρ')⟩
  · exact ⟨(h c).1.trans (final_dw m c), (h c).2⟩
  · refine ⟨(h c).1.trans ?_, (h c).2⟩
    rw [Cert.Dw2RefIdeal.Read.val_main_v6_eq, (hag c).1, (hag c).2]
    funext i
    exact (congrArg _ (eq_ix2 i)).trans (ref_apply _ _ (i 0) (i 1))

end Cert.Dw2Proof
-- ==== Proof.Dw1.lean ====
/- The gradient of the first feed-forward weight, one shard per device: the kernel's result array and the reference's are one product. -/
module

public import proofs.«01_k».proof.Defs
public import proofs.«01_k».proof.Proof.Gen.Dw1Ideal.Value
public import proofs.«01_k».proof.Proof.Gen.Dw1RefIdeal.Run
public import proofs.«01_k».proof.Proof.Gen.Dw1RefIdeal.Read
public import Idealize.ShloMosaic.Lib.Pipeline.ValueKit
public import Idealize.ShloMosaic.Lib.Pointwise

@[expose] public section

set_option maxRecDepth 16384

noncomputable section

namespace Cert.Dw1Proof

open Idealize.ShloMosaic Idealize.ShloMosaic.TcCoe Idealize.SL.Sem

/-- The gradient of `∑ q f, dz q f * (h w) q f` at the weight, as eight shards of columns: `h` transposed times `dz`. -/
def dw (H : FVec Ideal ⟨2, ![2048, 1024]⟩ .bf16) (Z : FVec Ideal ⟨2, ![2048, 4096]⟩ .bf16) (s : Fin 8) (e : Fin 1024) (f : Fin 512) : EReal :=
  ∑ q : Fin 2048, H (ix2 q e) * Z (ix2 q ⟨s.val * 512 + f.val, by omega⟩)

section Kernel

open Cert.Dw1Ideal Cert.Dw1Ideal.Gen

variable (m : (ℓ : Loc nD τ sig) → Buf (Elt Ideal) ℓ)

theorem pay_apply (h : Vec Ideal S2048x1024 .bf16) (z : Vec Ideal S2048x512 .bf16) (u : Fin 1) (e : Fin 1024) (f : Fin 512) :
    k0_pay1 (F := Ideal) h z (ix3 u e f) = ∑ q : Fin 2048, h (ix2 q e) * z (ix2 q f) := by
  pointwise [k0_pay1]

theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

abbrev H (c : Dev nD) : FVec Ideal S2048x1024 .bf16 := m ((c : Thread nD τ).loc main_arg0)
abbrev Z (c : Dev nD) : FVec Ideal S2048x4096 .bf16 := m ((c : Thread nD τ).loc main_arg1)

abbrev shard (t : Fin cfg0.N) : Fin 8 := ⟨t.val, (idx t).2.2.2⟩

theorem h_read (c : Dev nD) (t : Fin cfg0.N) (q : Fin 2048) (e : Fin 1024) :
    (show Vec Ideal S2048x1024 .bf16 from iblk m c 0 t) (ix2 q e) = H m c (ix2 q e) := by
  blk_ext [iblk, V, idx t]
theorem z_read (c : Dev nD) (t : Fin cfg0.N) (q : Fin 2048) (f : Fin 512) :
    (show Vec Ideal S2048x512 .bf16 from iblk m c 1 t) (ix2 q f) = Z m c (ix2 q ⟨(shard t).val * 512 + f.val, by omega⟩) := by
  blk_ext [iblk, V, idx t]

theorem left_dw (c : Dev nD) (t : Fin cfg0.N) :
    (dats m 0 c).after 2 t = k0_pay1 (F := Ideal) (iblk m c 0 t) (iblk m c 1 t) := by
  rw [after0_2]; frame_out

theorem final_dw (c : Dev nD) :
    (dats m 0 c).arrAt 2 (cfgs 0).N = fun i : S8x1024x512.Idx => dw (H m c) (Z m c) (i 0) (i 1) (i 2) := by
  refine (dats m 0 c).arrAt_eq_of_covers 2 _ (by decide +kernel) fun t _ y => ?_
  blk_simp
  rw [left_dw]
  obtain ⟨u, e, f, rfl⟩ : ∃ (u : Fin 1) (e : Fin 1024) (f : Fin 512), y = ix3 u e f := ⟨y 0, y 1, y 2, eq_ix3 y⟩
  refine ((pay_apply _ _ u e f).trans (Finset.sum_congr rfl fun q _ => congrArg₂ (· * ·) (h_read m c t q e) (z_read m c t q f))).trans ?_
  show dw (H m c) (Z m c) (shard t) e f = _
  have hs : ((win0_2.blk t).view.emb (ix3 u e f) 0) = shard t := Fin.ext (by blk_simp [idx t])
  have he : ((win0_2.blk t).view.emb (ix3 u e f) 1) = e := Fin.ext (by blk_simp [idx t])
  have hf : ((win0_2.blk t).view.emb (ix3 u e f) 2) = f := Fin.ext (by blk_simp [idx t])
  exact (congr (congrArg₂ (dw (H m c) (Z m c)) hs he) hf).symm

end Kernel

section Ref

open Cert.Dw1RefIdeal Cert.Dw1RefIdeal.Gen Cert.Dw1RefIdeal.Read

theorem ref_apply (H : FVec Ideal S2048x1024 .bf16) (Z : FVec Ideal S2048x4096 .bf16) (s : Fin 8) (e : Fin 1024) (f : Fin 512) :
    val_main_v8 (F := Ideal) H Z (ix3 s e f) = dw H Z s e f := by
  pointwise [val_main_v8, val_main_v7, val_main_v6, val_main_v5, val_main_v4, val_main_v3, val_main_v1]
  exact Finset.sum_congr rfl fun q _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Dw1RefIdeal.Value.run m ρ)

end Ref

theorem algebraic : Cert.algebraic_Dw1Ideal_Dw1RefIdeal := by
  intro m ρ m' ρ' _ hag
  refine ⟨fun c i => dw (H m c) (Z m c) (i 0) (i 1) (i 2),
    (θ_run _ _ _).mono (fun r h c => ?_) (Cert.Dw1Ideal.Value.run_blocks m ρ),
    (θ_run _ _ _).mono (fun r h c => ?_) (Cert.Dw1RefIdeal.Value.run m' ρ')⟩
  · exact ⟨(h c).1.trans (final_dw m c), (h c).2⟩
  · refine ⟨(h c).1.trans ?_, (h c).2⟩
    rw [Cert.Dw1RefIdeal.Read.val_main_v8_eq, (hag c).1, (hag c).2]
    funext i
    exact (congrArg _ (eq_ix3 i)).trans (ref_apply _ _ (i 0) (i 1) (i 2))

end Cert.Dw1Proof
-- ==== Proof.Prod.lean ====
/- The closed forms of the products: a matrix times a matrix, times a transposed one, transposed times a matrix. -/
module

public import Idealize.ShloMosaic.Lib.Pointwise

@[expose] public section

noncomputable section

namespace Cert.Prod

open Idealize.ShloMosaic

section

variable {m k n : ℕ} {f g : FTy}

/-- `a b` at row `i` and column `j`. -/
def mm (a : FVec Ideal ⟨2, ![m, k]⟩ f) (b : FVec Ideal ⟨2, ![k, n]⟩ g) (i : Fin m) (j : Fin n) : EReal :=
  ∑ e : Fin k, a (ix2 i e) * b (ix2 e j)

/-- `a bᵀ` at row `i` and column `j`. -/
def mmt (a : FVec Ideal ⟨2, ![m, k]⟩ f) (b : FVec Ideal ⟨2, ![n, k]⟩ g) (i : Fin m) (j : Fin n) : EReal :=
  ∑ e : Fin k, a (ix2 i e) * b (ix2 j e)

/-- `aᵀ b` at row `i` and column `j`. -/
def tmm (a : FVec Ideal ⟨2, ![k, m]⟩ f) (b : FVec Ideal ⟨2, ![k, n]⟩ g) (i : Fin m) (j : Fin n) : EReal :=
  ∑ e : Fin k, a (ix2 e i) * b (ix2 e j)

end

end Cert.Prod
-- ==== Proof.Rest.lean ====
/- The forward product of the gates and of the mixers' inputs: the kernel's result array and the reference's are one product. -/
module

public import proofs.«01_k».proof.Defs
public import proofs.«01_k».proof.Proof.Gen.RestIdeal.Value
public import proofs.«01_k».proof.Proof.Gen.RestRefIdeal.Run
public import proofs.«01_k».proof.Proof.Gen.RestRefIdeal.Read
public import proofs.«01_k».proof.Proof.Prod
public import Idealize.ShloMosaic.Lib.Pipeline.ValueKit

@[expose] public section

set_option maxRecDepth 16384

noncomputable section

namespace Cert.RestProof

open Cert.Prod
open Idealize.ShloMosaic Idealize.ShloMosaic.TcCoe Idealize.SL.Sem

section Kernel

open Cert.RestIdeal Cert.RestIdeal.Gen

variable (m : (ℓ : Loc nD τ sig) → Buf (Elt Ideal) ℓ)

theorem pay_apply (a : Vec Ideal S2048x1024 .bf16) (b : Vec Ideal S1024x512 .bf16) (i : Fin 2048) (j : Fin 512) :
    k0_pay1 (F := Ideal) a b (ix2 i j) = mm (f := .bf16) (g := .bf16) a b i j := by
  pointwise [k0_pay1]
  rfl

theorem idx : ∀ t : Fin cfg0.N, win0_0.index t = ![0, 0] ∧ win0_1.index t = ![0, t.val] ∧ win0_2.index t = ![0, t.val] ∧ t.val < 8 :=
  (by decide +kernel : ∀ t : Fin grid0.N, _)

abbrev A (c : Dev nD) : FVec Ideal S2048x1024 .bf16 := m ((c : Thread nD τ).loc main_arg0)
abbrev B (c : Dev nD) : FVec Ideal S1024x4096 .bf16 := m ((c : Thread nD τ).loc main_arg1)

abbrev col (t : Fin cfg0.N) (j : Fin 512) : Fin 4096 := ⟨t.val * 512 + j.val, by have := (idx t).2.2.2; omega⟩

theorem a_read (c : Dev nD) (t : Fin cfg0.N) (i : Fin 2048) (e : Fin 1024) :
    (show Vec Ideal S2048x1024 .bf16 from iblk m c 0 t) (ix2 i e) = A m c (ix2 i e) := by
  blk_ext [iblk, V, idx t]
theorem b_read (c : Dev nD) (t : Fin cfg0.N) (e : Fin 1024) (j : Fin 512) :
    (show Vec Ideal S1024x512 .bf16 from iblk m c 1 t) (ix2 e j) = B m c (ix2 e (col t j)) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S2048x4096.Idx => mm (A m c) (B m c) (i 0) (i 1) := by
  refine (dats m 0 c).arrAt_eq_of_covers 2 _ (by decide +kernel) fun t _ y => ?_
  blk_simp
  rw [left]
  obtain ⟨i, j, rfl⟩ : ∃ (i : Fin 2048) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mm (A m c) (B m c)) (Fin.ext ?_) (Fin.ext ?_))
  · blk_simp [idx t]
  · blk_simp [idx t]

end Kernel

section Ref

open Cert.RestRefIdeal Cert.RestRefIdeal.Gen Cert.RestRefIdeal.Read

theorem ref_apply (A : FVec Ideal S2048x1024 .bf16) (B : FVec Ideal S1024x4096 .bf16) (i : Fin 2048) (j : Fin 4096) :
    val_main_v2 (F := Ideal) A B (ix2 i j) = mm A B i j := by
  pointwise [val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.RestRefIdeal.Value.run m ρ)

end Ref

theorem algebraic : Cert.algebraic_RestIdeal_RestRefIdeal := by
  intro m ρ m' ρ' _ hag
  refine ⟨fun c i => mm (A m c) (B m c) (i 0) (i 1),
    (θ_run _ _ _).mono (fun r h c => ?_) (Cert.RestIdeal.Value.run_blocks m ρ),
    (θ_run _ _ _).mono (fun r h c => ?_) (Cert.RestRefIdeal.Value.run m' ρ')⟩
  · exact ⟨(h c).1.trans (final m c), (h c).2⟩
  · refine ⟨(h c).1.trans ?_, (h c).2⟩
    rw [Cert.RestRefIdeal.Read.val_main_v2_eq, (hag c).1, (hag c).2]
    funext i
    exact (congrArg _ (eq_ix2 i)).trans (ref_apply _ _ (i 0) (i 1))

end Cert.RestProof
-- ==== Proof.Qkv.lean ====
/- The forward product of the queries, keys and values: the kernel's result array and the reference's are one product. -/
module

public import proofs.«01_k».proof.Defs
public import proofs.«01_k».proof.Proof.Gen.QkvIdeal.Value
public import proofs.«01_k».proof.Proof.Gen.QkvRefIdeal.Run
public import proofs.«01_k».proof.Proof.Gen.QkvRefIdeal.Read
public import proofs.«01_k».proof.Proof.Prod
public import Idealize.ShloMosaic.Lib.Pipeline.ValueKit

@[expose] public section

set_option maxRecDepth 16384

noncomputable section

namespace Cert.QkvProof

open Cert.Prod
open Idealize.ShloMosaic Idealize.ShloMosaic.TcCoe Idealize.SL.Sem

section Kernel

open Cert.QkvIdeal Cert.QkvIdeal.Gen

variable (m : (ℓ : Loc nD τ sig) → Buf (Elt Ideal) ℓ)

theorem pay_apply (a : Vec Ideal S2048x1024 .bf16) (b : Vec Ideal S1024x512 .bf16) (i : Fin 2048) (j : Fin 512) :
    k0_pay1 (F := Ideal) a b (ix2 i j) = mm (f := .bf16) (g := .bf16) a b i j := by
  pointwise [k0_pay1]
  rfl

theorem idx : ∀ t : Fin cfg0.N, win0_0.index t = ![0, 0] ∧ win0_1.index t = ![0, t.val] ∧ win0_2.index t = ![0, t.val] ∧ t.val < 3 :=
  (by decide +kernel : ∀ t : Fin grid0.N, _)

abbrev A (c : Dev nD) : FVec Ideal S2048x1024 .bf16 := m ((c : Thread nD τ).loc main_arg0)
abbrev B (c : Dev nD) : FVec Ideal S1024x1536 .bf16 := m ((c : Thread nD τ).loc main_arg1)

abbrev col (t : Fin cfg0.N) (j : Fin 512) : Fin 1536 := ⟨t.val * 512 + j.val, by have := (idx t).2.2.2; omega⟩

theorem a_read (c : Dev nD) (t : Fin cfg0.N) (i : Fin 2048) (e : Fin 1024) :
    (show Vec Ideal S2048x1024 .bf16 from iblk m c 0 t) (ix2 i e) = A m c (ix2 i e) := by
  blk_ext [iblk, V, idx t]
theorem b_read (c : Dev nD) (t : Fin cfg0.N) (e : Fin 1024) (j : Fin 512) :
    (show Vec Ideal S1024x512 .bf16 from iblk m c 1 t) (ix2 e j) = B m c (ix2 e (col t j)) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S2048x1536.Idx => mm (A m c) (B m c) (i 0) (i 1) := by
  refine (dats m 0 c).arrAt_eq_of_covers 2 _ (by decide +kernel) fun t _ y => ?_
  blk_simp
  rw [left]
  obtain ⟨i, j, rfl⟩ : ∃ (i : Fin 2048) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mm (A m c) (B m c)) (Fin.ext ?_) (Fin.ext ?_))
  · blk_simp [idx t]
  · blk_simp [idx t]

end Kernel

section Ref

open Cert.QkvRefIdeal Cert.QkvRefIdeal.Gen Cert.QkvRefIdeal.Read

theorem ref_apply (A : FVec Ideal S2048x1024 .bf16) (B : FVec Ideal S1024x1536 .bf16) (i : Fin 2048) (j : Fin 1536) :
    val_main_v3 (F := Ideal) A B (ix2 i j) = mm A B i j := by
  pointwise [val_main_v3, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.QkvRefIdeal.Value.run m ρ)

end Ref

theorem algebraic : Cert.algebraic_QkvIdeal_QkvRefIdeal := by
  intro m ρ m' ρ' _ hag
  refine ⟨fun c i => mm (A m c) (B m c) (i 0) (i 1),
    (θ_run _ _ _).mono (fun r h c => ?_) (Cert.QkvIdeal.Value.run_blocks m ρ),
    (θ_run _ _ _).mono (fun r h c => ?_) (Cert.QkvRefIdeal.Value.run m' ρ')⟩
  · exact ⟨(h c).1.trans (final m c), (h c).2⟩
  · refine ⟨(h c).1.trans ?_, (h c).2⟩
    rw [Cert.QkvRefIdeal.Read.val_main_v3_eq, (hag c).1, (hag c).2]
    funext i
    exact (congrArg _ (eq_ix2 i)).trans (ref_apply _ _ (i 0) (i 1))

end Cert.QkvProof
-- ==== Proof.Xq.lean ====
/- The forward product of the cross-attention's queries: the kernel's result array and the reference's are one product. -/
module

public import proofs.«01_k».proof.Defs
public import proofs.«01_k».proof.Proof.Gen.XqIdeal.Value
public import proofs.«01_k».proof.Proof.Gen.XqRefIdeal.Run
public import proofs.«01_k».proof.Proof.Gen.XqRefIdeal.Read
public import proofs.«01_k».proof.Proof.Prod
public import Idealize.ShloMosaic.Lib.Pipeline.ValueKit

@[expose] public section

set_option maxRecDepth 16384

noncomputable section

namespace Cert.XqProof

open Cert.Prod
open Idealize.ShloMosaic Idealize.ShloMosaic.TcCoe Idealize.SL.Sem

section Kernel

open Cert.XqIdeal Cert.XqIdeal.Gen

variable (m : (ℓ : Loc nD τ sig) → Buf (Elt Ideal) ℓ)

theorem pay_apply (a : Vec Ideal S2048x1024 .bf16) (b : Vec Ideal S1024x512 .bf16) (i : Fin 2048) (j : Fin 512) :
    k0_pay1 (F := Ideal) a b (ix2 i j) = mm (f := .bf16) (g := .bf16) a b i j := by
  pointwise [k0_pay1]
  rfl

theorem idx : ∀ t : Fin cfg0.N, win0_0.index t = ![0, 0] ∧ win0_1.index t = ![0, t.val] ∧ win0_2.index t = ![0, t.val] ∧ t.val < 2 :=
  (by decide +kernel : ∀ t : Fin grid0.N, _)

abbrev A (c : Dev nD) : FVec Ideal S2048x1024 .bf16 := m ((c : Thread nD τ).loc main_arg0)
abbrev B (c : Dev nD) : FVec Ideal S1024x1024 .bf16 := m ((c : Thread nD τ).loc main_arg1)

abbrev col (t : Fin cfg0.N) (j : Fin 512) : Fin 1024 := ⟨t.val * 512 + j.val, by have := (idx t).2.2.2; omega⟩

theorem a_read (c : Dev nD) (t : Fin cfg0.N) (i : Fin 2048) (e : Fin 1024) :
    (show Vec Ideal S2048x1024 .bf16 from iblk m c 0 t) (ix2 i e) = A m c (ix2 i e) := by
  blk_ext [iblk, V, idx t]
theorem b_read (c : Dev nD) (t : Fin cfg0.N) (e : Fin 1024) (j : Fin 512) :
    (show Vec Ideal S1024x512 .bf16 from iblk m c 1 t) (ix2 e j) = B m c (ix2 e (col t j)) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S2048x1024.Idx => mm (A m c) (B m c) (i 0) (i 1) := by
  refine (dats m 0 c).arrAt_eq_of_covers 2 _ (by decide +kernel) fun t _ y => ?_
  blk_simp
  rw [left]
  obtain ⟨i, j, rfl⟩ : ∃ (i : Fin 2048) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mm (A m c) (B m c)) (Fin.ext ?_) (Fin.ext ?_))
  · blk_simp [idx t]
  · blk_simp [idx t]

end Kernel

section Ref

open Cert.XqRefIdeal Cert.XqRefIdeal.Gen Cert.XqRefIdeal.Read

theorem ref_apply (A : FVec Ideal S2048x1024 .bf16) (B : FVec Ideal S1024x1024 .bf16) (i : Fin 2048) (j : Fin 1024) :
    val_main_v3 (F := Ideal) A B (ix2 i j) = mm A B i j := by
  pointwise [val_main_v3, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.XqRefIdeal.Value.run m ρ)

end Ref

theorem algebraic : Cert.algebraic_XqIdeal_XqRefIdeal := by
  intro m ρ m' ρ' _ hag
  refine ⟨fun c i => mm (A m c) (B m c) (i 0) (i 1),
    (θ_run _ _ _).mono (fun r h c => ?_) (Cert.XqIdeal.Value.run_blocks m ρ),
    (θ_run _ _ _).mono (fun r h c => ?_) (Cert.XqRefIdeal.Value.run m' ρ')⟩
  · exact ⟨(h c).1.trans (final m c), (h c).2⟩
  · refine ⟨(h c).1.trans ?_, (h c).2⟩
    rw [Cert.XqRefIdeal.Read.val_main_v3_eq, (hag c).1, (hag c).2]
    funext i
    exact (congrArg _ (eq_ix2 i)).trans (ref_apply _ _ (i 0) (i 1))

end Cert.XqProof
-- ==== Proof.Xkv.lean ====
/- The forward product of the memory's keys and values: the kernel's result array and the reference's are one product. -/
module

public import proofs.«01_k».proof.Defs
public import proofs.«01_k».proof.Proof.Gen.XkvIdeal.Value
public import proofs.«01_k».proof.Proof.Gen.XkvRefIdeal.Run
public import proofs.«01_k».proof.Proof.Gen.XkvRefIdeal.Read
public import proofs.«01_k».proof.Proof.Prod
public import Idealize.ShloMosaic.Lib.Pipeline.ValueKit

@[expose] public section

set_option maxRecDepth 16384

noncomputable section

namespace Cert.XkvProof

open Cert.Prod
open Idealize.ShloMosaic Idealize.ShloMosaic.TcCoe Idealize.SL.Sem

section Kernel

open Cert.XkvIdeal Cert.XkvIdeal.Gen

variable (m : (ℓ : Loc nD τ sig) → Buf (Elt Ideal) ℓ)

theorem pay_apply (a : Vec Ideal S256x1024 .bf16) (b : Vec Ideal S1024x512 .bf16) (i : Fin 256) (j : Fin 512) :
    k0_pay1 (F := Ideal) a b (ix2 i j) = mm (f := .bf16) (g := .bf16) a b i j := by
  pointwise [k0_pay1]
  rfl

theorem idx : ∀ t : Fin cfg0.N, win0_0.index t = ![0, 0] ∧ win0_1.index t = ![0, t.val] ∧ win0_2.index t = ![0, t.val] ∧ t.val < 4 :=
  (by decide +kernel : ∀ t : Fin grid0.N, _)

abbrev A (c : Dev nD) : FVec Ideal S256x1024 .bf16 := m ((c : Thread nD τ).loc main_arg0)
abbrev B (c : Dev nD) : FVec Ideal S1024x2048 .bf16 := m ((c : Thread nD τ).loc main_arg1)

abbrev col (t : Fin cfg0.N) (j : Fin 512) : Fin 2048 := ⟨t.val * 512 + j.val, by have := (idx t).2.2.2; omega⟩

theorem a_read (c : Dev nD) (t : Fin cfg0.N) (i : Fin 256) (e : Fin 1024) :
    (show Vec Ideal S256x1024 .bf16 from iblk m c 0 t) (ix2 i e) = A m c (ix2 i e) := by
  blk_ext [iblk, V, idx t]
theorem b_read (c : Dev nD) (t : Fin cfg0.N) (e : Fin 1024) (j : Fin 512) :
    (show Vec Ideal S1024x512 .bf16 from iblk m c 1 t) (ix2 e j) = B m c (ix2 e (col t j)) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S256x2048.Idx => mm (A m c) (B m c) (i 0) (i 1) := by
  refine (dats m 0 c).arrAt_eq_of_covers 2 _ (by decide +kernel) fun t _ y => ?_
  blk_simp
  rw [left]
  obtain ⟨i, j, rfl⟩ : ∃ (i : Fin 256) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mm (A m c) (B m c)) (Fin.ext ?_) (Fin.ext ?_))
  · blk_simp [idx t]
  · blk_simp [idx t]

end Kernel

section Ref

open Cert.XkvRefIdeal Cert.XkvRefIdeal.Gen Cert.XkvRefIdeal.Read

theorem ref_apply (A : FVec Ideal S256x1024 .bf16) (B : FVec Ideal S1024x2048 .bf16) (i : Fin 256) (j : Fin 2048) :
    val_main_v3 (F := Ideal) A B (ix2 i j) = mm A B i j := by
  pointwise [val_main_v3, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.XkvRefIdeal.Value.run m ρ)

end Ref

theorem algebraic : Cert.algebraic_XkvIdeal_XkvRefIdeal := by
  intro m ρ m' ρ' _ hag
  refine ⟨fun c i => mm (A m c) (B m c) (i 0) (i 1),
    (θ_run _ _ _).mono (fun r h c => ?_) (Cert.XkvIdeal.Value.run_blocks m ρ),
    (θ_run _ _ _).mono (fun r h c => ?_) (Cert.XkvRefIdeal.Value.run m' ρ')⟩
  · exact ⟨(h c).1.trans (final m c), (h c).2⟩
  · refine ⟨(h c).1.trans ?_, (h c).2⟩
    rw [Cert.XkvRefIdeal.Read.val_main_v3_eq, (hag c).1, (hag c).2]
    funext i
    exact (congrArg _ (eq_ix2 i)).trans (ref_apply _ _ (i 0) (i 1))

end Cert.XkvProof
-- ==== Proof.Bc.lean ====
/- The forward product of the first and of the third branch: the kernel's result array and the reference's are one product. -/
module

public import proofs.«01_k».proof.Defs
public import proofs.«01_k».proof.Proof.Gen.BcIdeal.Value
public import proofs.«01_k».proof.Proof.Gen.BcRefIdeal.Run
public import proofs.«01_k».proof.Proof.Gen.BcRefIdeal.Read
public import Idealize.ShloMosaic.Lib.Pipeline.ValueKit

@[expose] public section

set_option maxRecDepth 16384

noncomputable section

namespace Cert.BcProof

open Idealize.ShloMosaic Idealize.ShloMosaic.TcCoe Idealize.SL.Sem

/-- `y w`, the weight's columns in eight shards. -/
def mix (Y : FVec Ideal ⟨2, ![2048, 256]⟩ .bf16) (W : FVec Ideal ⟨3, ![8, 256, 128]⟩ .bf16) (q : Fin 2048) (f : Fin 1024) : EReal :=
  ∑ e : Fin 256, Y (ix2 q e) * W (ix3 ⟨f.val / 128, by omega⟩ e ⟨f.val % 128, by omega⟩)

section Kernel

open Cert.BcIdeal Cert.BcIdeal.Gen

variable (m : (ℓ : Loc nD τ sig) → Buf (Elt Ideal) ℓ)

theorem pay_apply (y : Vec Ideal S2048x256 .bf16) (w : Vec Ideal S1x256x128 .bf16) (q : Fin 2048) (f : Fin 128) :
    k0_pay1 (F := Ideal) y w (ix2 q f) = ∑ e : Fin 256, y (ix2 q e) * w (ix3 0 e f) := by
  pointwise [k0_pay1]

theorem idx : ∀ t : Fin cfg0.N, win0_0.index t = ![0, 0] ∧ win0_1.index t = ![t.val, 0, 0] ∧ win0_2.index t = ![0, t.val] ∧ t.val < 8 :=
  (by decide +kernel : ∀ t : Fin grid0.N, _)

abbrev Y (c : Dev nD) : FVec Ideal S2048x256 .bf16 := m ((c : Thread nD τ).loc main_arg0)
abbrev W (c : Dev nD) : FVec Ideal S8x256x128 .bf16 := m ((c : Thread nD τ).loc main_arg1)

abbrev col (t : Fin cfg0.N) (f : Fin 128) : Fin 1024 := ⟨t.val * 128 + f.val, by have := (idx t).2.2.2; omega⟩

theorem y_read (c : Dev nD) (t : Fin cfg0.N) (q : Fin 2048) (e : Fin 256) :
    (show Vec Ideal S2048x256 .bf16 from iblk m c 0 t) (ix2 q e) = Y m c (ix2 q e) := by
  blk_ext [iblk, V, idx t]
theorem w_read (c : Dev nD) (t : Fin cfg0.N) (e : Fin 256) (f : Fin 128) :
    (show Vec Ideal S1x256x128 .bf16 from iblk m c 1 t) (ix3 0 e f)
      = W m c (ix3 ⟨(col t f).val / 128, by have := (idx t).2.2.2; omega⟩ e ⟨(col t f).val % 128, by omega⟩) := by
  blk_ext [iblk, V, idx t]
  all_goals omega

theorem left (c : Dev nD) (t : Fin cfg0.N) : (dats m 0 c).after 2 t = k0_pay1 (F := Ideal) (iblk m c 0 t) (iblk m c 1 t) := by
  rw [after0_2]; frame_out

/-- Every point leaves the columns of one shard. -/
theorem final (c : Dev nD) :
    (dats m 0 c).arrAt 2 (cfgs 0).N = fun i : S2048x1024.Idx => mix (Y m c) (W m c) (i 0) (i 1) := by
  refine (dats m 0 c).arrAt_eq_of_covers 2 _ (by decide +kernel) fun t _ y => ?_
  blk_simp
  rw [left]
  obtain ⟨q, f, rfl⟩ : ∃ (q : Fin 2048) (f : Fin 128), y = ix2 q f := ⟨y 0, y 1, eq_ix2 y⟩
  refine ((pay_apply _ _ q f).trans (Finset.sum_congr rfl fun e _ => congrArg₂ (· * ·) (y_read m c t q e) (w_read m c t e f))).trans
    (congrArg₂ (mix (Y m c) (W m c)) (Fin.ext ?_) (Fin.ext ?_))
  · blk_simp [idx t]
  · blk_simp [idx t]

end Kernel

section Ref

open Cert.BcRefIdeal Cert.BcRefIdeal.Gen Cert.BcRefIdeal.Read

theorem ref_apply (Y : FVec Ideal S2048x256 .bf16) (W : FVec Ideal S8x256x128 .bf16) (q : Fin 2048) (f : Fin 1024) :
    val_main_v5 (F := Ideal) Y W (ix2 q f) = mix Y W q f := by
  pointwise [val_main_v5, val_main_v4, val_main_v3, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.BcRefIdeal.Value.run m ρ)

end Ref

theorem algebraic : Cert.algebraic_BcIdeal_BcRefIdeal := by
  intro m ρ m' ρ' _ hag
  refine ⟨fun c i => mix (Y m c) (W m c) (i 0) (i 1),
    (θ_run _ _ _).mono (fun r h c => ?_) (Cert.BcIdeal.Value.run_blocks m ρ),
    (θ_run _ _ _).mono (fun r h c => ?_) (Cert.BcRefIdeal.Value.run m' ρ')⟩
  · exact ⟨(h c).1.trans (final m c), (h c).2⟩
  · refine ⟨(h c).1.trans ?_, (h c).2⟩
    rw [Cert.BcRefIdeal.Read.val_main_v5_eq, (hag c).1, (hag c).2]
    funext i
    exact (congrArg _ (eq_ix2 i)).trans (ref_apply _ _ (i 0) (i 1))

end Cert.BcProof
-- ==== Proof.Bb.lean ====
/- The forward product of the second branch: the kernel's result array and the reference's are one product. -/
module

public import proofs.«01_k».proof.Defs
public import proofs.«01_k».proof.Proof.Gen.BbIdeal.Value
public import proofs.«01_k».proof.Proof.Gen.BbRefIdeal.Run
public import proofs.«01_k».proof.Proof.Gen.BbRefIdeal.Read
public import Idealize.ShloMosaic.Lib.Pipeline.ValueKit

@[expose] public section

set_option maxRecDepth 16384

noncomputable section

namespace Cert.BbProof

open Idealize.ShloMosaic Idealize.ShloMosaic.TcCoe Idealize.SL.Sem

/-- `y w`, the weight's columns in eight shards. -/
def mix (Y : FVec Ideal ⟨2, ![2048, 512]⟩ .bf16) (W : FVec Ideal ⟨3, ![8, 512, 128]⟩ .bf16) (q : Fin 2048) (f : Fin 1024) : EReal :=
  ∑ e : Fin 512, Y (ix2 q e) * W (ix3 ⟨f.val / 128, by omega⟩ e ⟨f.val % 128, by omega⟩)

section Kernel

open Cert.BbIdeal Cert.BbIdeal.Gen

variable (m : (ℓ : Loc nD τ sig) → Buf (Elt Ideal) ℓ)

theorem pay_apply (y : Vec Ideal S2048x512 .bf16) (w : Vec Ideal S1x512x128 .bf16) (q : Fin 2048) (f : Fin 128) :
    k0_pay1 (F := Ideal) y w (ix2 q f) = ∑ e : Fin 512, y (ix2 q e) * w (ix3 0 e f) := by
  pointwise [k0_pay1]

theorem idx : ∀ t : Fin cfg0.N, win0_0.index t = ![0, 0] ∧ win0_1.index t = ![t.val, 0, 0] ∧ win0_2.index t = ![0, t.val] ∧ t.val < 8 :=
  (by decide +kernel : ∀ t : Fin grid0.N, _)

abbrev Y (c : Dev nD) : FVec Ideal S2048x512 .bf16 := m ((c : Thread nD τ).loc main_arg0)
abbrev W (c : Dev nD) : FVec Ideal S8x512x128 .bf16 := m ((c : Thread nD τ).loc main_arg1)

abbrev col (t : Fin cfg0.N) (f : Fin 128) : Fin 1024 := ⟨t.val * 128 + f.val, by have := (idx t).2.2.2; omega⟩

theorem y_read (c : Dev nD) (t : Fin cfg0.N) (q : Fin 2048) (e : Fin 512) :
    (show Vec Ideal S2048x512 .bf16 from iblk m c 0 t) (ix2 q e) = Y m c (ix2 q e) := by
  blk_ext [iblk, V, idx t]
theorem w_read (c : Dev nD) (t : Fin cfg0.N) (e : Fin 512) (f : Fin 128) :
    (show Vec Ideal S1x512x128 .bf16 from iblk m c 1 t) (ix3 0 e f)
      = W m c (ix3 ⟨(col t f).val / 128, by have := (idx t).2.2.2; omega⟩ e ⟨(col t f).val % 128, by omega⟩) := by
  blk_ext [iblk, V, idx t]
  all_goals omega

theorem left (c : Dev nD) (t : Fin cfg0.N) : (dats m 0 c).after 2 t = k0_pay1 (F := Ideal) (iblk m c 0 t) (iblk m c 1 t) := by
  rw [after0_2]; frame_out

/-- Every point leaves the columns of one shard. -/
theorem final (c : Dev nD) :
    (dats m 0 c).arrAt 2 (cfgs 0).N = fun i : S2048x1024.Idx => mix (Y m c) (W m c) (i 0) (i 1) := by
  refine (dats m 0 c).arrAt_eq_of_covers 2 _ (by decide +kernel) fun t _ y => ?_
  blk_simp
  rw [left]
  obtain ⟨q, f, rfl⟩ : ∃ (q : Fin 2048) (f : Fin 128), y = ix2 q f := ⟨y 0, y 1, eq_ix2 y⟩
  refine ((pay_apply _ _ q f).trans (Finset.sum_congr rfl fun e _ => congrArg₂ (· * ·) (y_read m c t q e) (w_read m c t e f))).trans
    (congrArg₂ (mix (Y m c) (W m c)) (Fin.ext ?_) (Fin.ext ?_))
  · blk_simp [idx t]
  · blk_simp [idx t]

end Kernel

section Ref

open Cert.BbRefIdeal Cert.BbRefIdeal.Gen Cert.BbRefIdeal.Read

theorem ref_apply (Y : FVec Ideal S2048x512 .bf16) (W : FVec Ideal S8x512x128 .bf16) (q : Fin 2048) (f : Fin 1024) :
    val_main_v5 (F := Ideal) Y W (ix2 q f) = mix Y W q f := by
  pointwise [val_main_v5, val_main_v4, val_main_v3, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.BbRefIdeal.Value.run m ρ)

end Ref

theorem algebraic : Cert.algebraic_BbIdeal_BbRefIdeal := by
  intro m ρ m' ρ' _ hag
  refine ⟨fun c i => mix (Y m c) (W m c) (i 0) (i 1),
    (θ_run _ _ _).mono (fun r h c => ?_) (Cert.BbIdeal.Value.run_blocks m ρ),
    (θ_run _ _ _).mono (fun r h c => ?_) (Cert.BbRefIdeal.Value.run m' ρ')⟩
  · exact ⟨(h c).1.trans (final m c), (h c).2⟩
  · refine ⟨(h c).1.trans ?_, (h c).2⟩
    rw [Cert.BbRefIdeal.Read.val_main_v5_eq, (hag c).1, (hag c).2]
    funext i
    exact (congrArg _ (eq_ix2 i)).trans (ref_apply _ _ (i 0) (i 1))

end Cert.BbProof
-- ==== Proof.Out.lean ====
/- The product with the residual added and its root-mean-square norm: the kernel's two result arrays and the reference's are
   the same. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import proofs.«01_k».proof.Proof.Norm
public import Idealize.ShloMosaic.Lib.Pipeline.ValueKit

@[expose] public section

set_option maxRecDepth 16384

noncomputable section

namespace Cert.OutProof

open Cert.Norm
open Idealize.ShloMosaic Idealize.ShloMosaic.TcCoe Idealize.SL.Sem

section Kernel

open Cert.OutIdeal Cert.OutIdeal.Gen

variable (m : (ℓ : Loc nD τ sig) → Buf (Elt Ideal) ℓ)

theorem sum_apply (a : Vec Ideal S1024x1024 .bf16) (b : Vec Ideal S1024x1024 .bf16) (x : Vec Ideal S1024x1024 .f32) (q : Fin 1024) (j : Fin 1024) :
    k0_pay1 (F := Ideal) a b x (ix2 q j) = (∑ e : Fin 1024, a (ix2 q e) * b (ix2 e j)) + x (ix2 q j) := by
  pointwise [k0_pay1]

theorem norm_apply (a : Vec Ideal S1024x1024 .bf16) (b : Vec Ideal S1024x1024 .bf16) (x : Vec Ideal S1024x1024 .f32) (g : Vec Ideal S1x1024 .f32)
    (q : Fin 1024) (j : Fin 1024) :
    k0_pay2 (F := Ideal) a b x g (ix2 q j) = rms (fun k => k0_pay1 (F := Ideal) a b x (ix2 q k)) (fun k => g (ix2 0 k)) j := by
  pointwise [k0_pay2]
  rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 2 :=
  (by decide +kernel : ∀ t : Fin grid0.N, _)

abbrev A (c : Dev nD) : FVec Ideal S2048x1024 .bf16 := m ((c : Thread nD τ).loc main_arg0)
abbrev B (c : Dev nD) : FVec Ideal S1024x1024 .bf16 := m ((c : Thread nD τ).loc main_arg1)
abbrev X (c : Dev nD) : FVec Ideal S2048x1024 .f32 := m ((c : Thread nD τ).loc main_arg2)
abbrev G (c : Dev nD) : FVec Ideal S1024 .f32 := m ((c : Thread nD τ).loc main_arg3)

abbrev row (t : Fin cfg0.N) (q : Fin 1024) : Fin 2048 := ⟨t.val * 1024 + q.val, by have := (idx t).2.2.2.2.2.2; omega⟩

theorem a_read (c : Dev nD) (t : Fin cfg0.N) (q e : Fin 1024) :
    (show Vec Ideal S1024x1024 .bf16 from iblk m c 0 t) (ix2 q e) = A m c (ix2 (row t q) e) := by
  blk_ext [iblk, V, idx t]
theorem b_read (c : Dev nD) (t : Fin cfg0.N) (e j : Fin 1024) :
    (show Vec Ideal S1024x1024 .bf16 from iblk m c 1 t) (ix2 e j) = B m c (ix2 e j) := by
  blk_ext [iblk, V, idx t]
theorem x_read (c : Dev nD) (t : Fin cfg0.N) (q j : Fin 1024) :
    (show Vec Ideal S1024x1024 .f32 from iblk m c 2 t) (ix2 q j) = X m c (ix2 (row t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []

theorem g_read (c : Dev nD) (t : Fin cfg0.N) (j : Fin 1024) :
    (show Vec Ideal S1x1024 .f32 from iblk m c 3 t) (ix2 0 j) = G m c (ix1 j) := by
  refine Eq.trans ?_ (gain_eq m c j)
  blk_ext [iblk, idx t]

/-- The block of sums is the whole sum's rows. -/
theorem block (c : Dev nD) (t : Fin cfg0.N) (q j : Fin 1024) :
    k0_pay1 (F := Ideal) (iblk m c 0 t) (iblk m c 1 t) (iblk m c 2 t) (ix2 q j) = resid (A m c) (B m c) (X m c) (row t q) j :=
  (sum_apply _ _ _ q j).trans (congrArg₂ (· + ·)
    (Finset.sum_congr rfl fun e _ => congrArg₂ (· * ·) (a_read m c t q e) (b_read m c t e j)) (x_read m c t q j))

theorem left_x (c : Dev nD) (t : Fin cfg0.N) :
    (dats m 0 c).after 4 t = k0_pay1 (F := Ideal) (iblk m c 0 t) (iblk m c 1 t) (iblk m c 2 t) := by
  rw [after0_4]; frame_out
theorem left_n (c : Dev nD) (t : Fin cfg0.N) :
    (dats m 0 c).after 5 t = k0_pay2 (F := Ideal) (iblk m c 0 t) (iblk m c 1 t) (iblk m c 2 t) (iblk m c 3 t) := by
  rw [after0_5]; frame_out

theorem final_x (c : Dev nD) :
    (dats m 0 c).arrAt 4 (cfgs 0).N = fun i : S2048x1024.Idx => resid (A m c) (B m c) (X m c) (i 0) (i 1) := by
  refine (dats m 0 c).arrAt_eq_of_covers 4 _ (by decide +kernel) fun t _ y => ?_
  blk_simp
  rw [left_x]
  obtain ⟨q, j, rfl⟩ : ∃ (q j : Fin 1024), y = ix2 q j := ⟨y 0, y 1, eq_ix2 y⟩
  refine (block m c t q j).trans (congrArg₂ (resid (A m c) (B m c) (X m c)) (Fin.ext ?_) (Fin.ext ?_))
  · blk_simp [idx t]
  · blk_simp [idx t]

theorem final_n (c : Dev nD) :
    (dats m 0 c).arrAt 5 (cfgs 0).N
      = fun i : S2048x1024.Idx => rms (resid (A m c) (B m c) (X m c) (i 0)) (fun k => G m c (ix1 k)) (i 1) := by
  refine (dats m 0 c).arrAt_eq_of_covers 5 _ (by decide +kernel) fun t _ y => ?_
  blk_simp
  rw [left_n]
  obtain ⟨q, j, rfl⟩ : ∃ (q j : Fin 1024), y = ix2 q j := ⟨y 0, y 1, eq_ix2 y⟩
  have h : k0_pay2 (F := Ideal) (iblk m c 0 t) (iblk m c 1 t) (iblk m c 2 t) (iblk m c 3 t) (ix2 q j)
      = rms (resid (A m c) (B m c) (X m c) (row t q)) (fun k => G m c (ix1 k)) j :=
    (norm_apply _ _ _ _ q j).trans (congrArg₂ (fun x g => rms x g j) (funext (block m c t q)) (funext (g_read m c t)))
  refine h.trans (congrArg₂ (fun i k => rms (resid (A m c) (B m c) (X m c) i) (fun k => G m c (ix1 k)) k) (Fin.ext ?_) (Fin.ext ?_))
  · blk_simp [idx t]
  · blk_simp [idx t]

end Kernel

section Ref

open Cert.OutRefIdeal Cert.OutRefIdeal.Gen Cert.OutRefIdeal.Read

variable (A : FVec Ideal S2048x1024 .bf16) (B : FVec Ideal S1024x1024 .bf16) (X : FVec Ideal S2048x1024 .f32) (G : FVec Ideal S1024 .f32)

theorem ref_x (q : Fin 2048) (j : Fin 1024) : val_main_v3 (F := Ideal) A B X (ix2 q j) = resid A B X q j := by
  pointwise [val_main_v3, val_main_v2, val_main_v1, val_main_v0]
  exact add_comm _ _

theorem ref_n (q : Fin 2048) (j : Fin 1024) :
    val_main_v17 (F := Ideal) A B X G (ix2 q j) = rms (resid A B X q) (fun k => G (ix1 k)) j := by
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]
  simp only [ref_x]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems (by decide) r.2⟩) (Cert.OutRefIdeal.Value.run m ρ)

end Ref

theorem algebraic : Cert.algebraic_OutIdeal_OutRefIdeal := by
  intro m ρ m' ρ' _ hag
  refine ⟨fun c i => resid (A m c) (B m c) (X m c) (i 0) (i 1),
    fun c i => rms (resid (A m c) (B m c) (X m c) (i 0)) (fun k => G m c (ix1 k)) (i 1),
    (θ_run _ _ _).mono (fun r h c => ?_) (Cert.OutIdeal.Value.run_blocks m ρ),
    (θ_run _ _ _).mono (fun r h c => ?_) (Cert.OutRefIdeal.Value.run m' ρ')⟩
  · exact ⟨(h c).1.trans (final_x m c), (h c).2.1.trans (final_n m c), (h c).2.2⟩
  · refine ⟨(h c).1.trans ?_, (h c).2.1.trans ?_, (h c).2.2⟩
    · rw [Cert.OutRefIdeal.Read.val_main_v3_eq, (hag c).1, (hag c).2.1, (hag c).2.2.1]
      funext i
      exact (congrArg _ (eq_ix2 i)).trans (ref_x _ _ _ (i 0) (i 1))
    · rw [Cert.OutRefIdeal.Read.val_main_v17_eq, (hag c).1, (hag c).2.1, (hag c).2.2.1, (hag c).2.2.2]
      funext i
      exact (congrArg _ (eq_ix2 i)).trans (ref_n _ _ _ _ (i 0) (i 1))

end Cert.OutProof
-- ==== Proof.Ff1.lean ====
/- The forward product into the hidden layer and its squared positive part: the kernel's two result arrays and the reference's are
   the same. -/
module

public import proofs.«01_k».proof.Defs
public import proofs.«01_k».proof.Proof.Gen.Ff1Ideal.Value
public import proofs.«01_k».proof.Proof.Gen.Ff1RefIdeal.Run
public import proofs.«01_k».proof.Proof.Gen.Ff1RefIdeal.Read
public import Idealize.ShloMosaic.Lib.Pipeline.ValueKit

@[expose] public section

set_option maxRecDepth 16384

noncomputable section

namespace Cert.Ff1Proof

open Idealize.ShloMosaic Idealize.ShloMosaic.TcCoe Idealize.SL.Sem

/-- `y w`, the weight's columns in eight shards. -/
def mix (Y : FVec Ideal ⟨2, ![2048, 1024]⟩ .bf16) (W : FVec Ideal ⟨3, ![8, 1024, 512]⟩ .bf16) (q : Fin 2048) (f : Fin 4096) : EReal :=
  ∑ e : Fin 1024, Y (ix2 q e) * W (ix3 ⟨f.val / 512, by omega⟩ e ⟨f.val % 512, by omega⟩)

/-- The square of the positive part. -/
def pos2 (z : EReal) : EReal := max z 0 * max z 0

section Kernel

open Cert.Ff1Ideal Cert.Ff1Ideal.Gen

variable (m : (ℓ : Loc nD τ sig) → Buf (Elt Ideal) ℓ)

theorem pay_apply (y : Vec Ideal S2048x1024 .bf16) (w : Vec Ideal S1x1024x512 .bf16) (q : Fin 2048) (f : Fin 512) :
    k0_pay1 (F := Ideal) y w (ix2 q f) = ∑ e : Fin 1024, y (ix2 q e) * w (ix3 0 e f) := by
  pointwise [k0_pay1]

theorem z_apply (y : Vec Ideal S2048x1024 .bf16) (w : Vec Ideal S1x1024x512 .bf16) (i : S2048x512.Idx) :
    k0_pay2 (F := Ideal) y w i = k0_pay1 (F := Ideal) y w i := by
  pointwise [k0_pay2]

theorem act_apply (y : Vec Ideal S2048x1024 .bf16) (w : Vec Ideal S1x1024x512 .bf16) (i : S2048x512.Idx) :
    k0_pay3 (F := Ideal) y w i = pos2 (k0_pay1 (F := Ideal) y w i) := by
  pointwise [k0_pay3]
  rfl

theorem idx : ∀ t : Fin cfg0.N, win0_0.index t = ![0, 0] ∧ win0_1.index t = ![t.val, 0, 0] ∧ win0_2.index t = ![0, t.val] ∧ win0_3.index t = ![0, t.val] ∧ t.val < 8 :=
  (by decide +kernel : ∀ t : Fin grid0.N, _)

abbrev Y (c : Dev nD) : FVec Ideal S2048x1024 .bf16 := m ((c : Thread nD τ).loc main_arg0)
abbrev W (c : Dev nD) : FVec Ideal S8x1024x512 .bf16 := m ((c : Thread nD τ).loc main_arg1)

abbrev col (t : Fin cfg0.N) (f : Fin 512) : Fin 4096 := ⟨t.val * 512 + f.val, by have := (idx t).2.2.2.2; omega⟩

theorem y_read (c : Dev nD) (t : Fin cfg0.N) (q : Fin 2048) (e : Fin 1024) :
    (show Vec Ideal S2048x1024 .bf16 from iblk m c 0 t) (ix2 q e) = Y m c (ix2 q e) := by
  blk_ext [iblk, V, idx t]
theorem w_read (c : Dev nD) (t : Fin cfg0.N) (e : Fin 1024) (f : Fin 512) :
    (show Vec Ideal S1x1024x512 .bf16 from iblk m c 1 t) (ix3 0 e f)
      = W m c (ix3 ⟨(col t f).val / 512, by have := (idx t).2.2.2.2; omega⟩ e ⟨(col t f).val % 512, by omega⟩) := by
  blk_ext [iblk, V, idx t]
  all_goals omega

theorem block (c : Dev nD) (t : Fin cfg0.N) (q : Fin 2048) (f : Fin 512) :
    k0_pay1 (F := Ideal) (iblk m c 0 t) (iblk m c 1 t) (ix2 q f) = mix (Y m c) (W m c) q (col t f) :=
  (pay_apply _ _ q f).trans (Finset.sum_congr rfl fun e _ => congrArg₂ (· * ·) (y_read m c t q e) (w_read m c t e f))

theorem left_z (c : Dev nD) (t : Fin cfg0.N) : (dats m 0 c).after 2 t = k0_pay2 (F := Ideal) (iblk m c 0 t) (iblk m c 1 t) := by
  rw [after0_2]; frame_out
theorem left_act (c : Dev nD) (t : Fin cfg0.N) : (dats m 0 c).after 3 t = k0_pay3 (F := Ideal) (iblk m c 0 t) (iblk m c 1 t) := by
  rw [after0_3]; frame_out

theorem final_z (c : Dev nD) :
    (dats m 0 c).arrAt 2 (cfgs 0).N = fun i : S2048x4096.Idx => mix (Y m c) (W m c) (i 0) (i 1) := by
  refine (dats m 0 c).arrAt_eq_of_covers 2 _ (by decide +kernel) fun t _ y => ?_
  blk_simp
  rw [left_z, z_apply]
  obtain ⟨q, f, rfl⟩ : ∃ (q : Fin 2048) (f : Fin 512), y = ix2 q f := ⟨y 0, y 1, eq_ix2 y⟩
  refine (block m c t q f).trans (congrArg₂ (mix (Y m c) (W m c)) (Fin.ext ?_) (Fin.ext ?_))
  · blk_simp [idx t]
  · blk_simp [idx t]

theorem final_act (c : Dev nD) :
    (dats m 0 c).arrAt 3 (cfgs 0).N = fun i : S2048x4096.Idx => pos2 (mix (Y m c) (W m c) (i 0) (i 1)) := by
  refine (dats m 0 c).arrAt_eq_of_covers 3 _ (by decide +kernel) fun t _ y => ?_
  blk_simp
  rw [left_act, act_apply]
  obtain ⟨q, f, rfl⟩ : ∃ (q : Fin 2048) (f : Fin 512), y = ix2 q f := ⟨y 0, y 1, eq_ix2 y⟩
  refine congrArg pos2 ((block m c t q f).trans (congrArg₂ (mix (Y m c) (W m c)) (Fin.ext ?_) (Fin.ext ?_)))
  · blk_simp [idx t]
  · blk_simp [idx t]

end Kernel

section Ref

open Cert.Ff1RefIdeal Cert.Ff1RefIdeal.Gen Cert.Ff1RefIdeal.Read

variable (Y : FVec Ideal S2048x1024 .bf16) (W : FVec Ideal S8x1024x512 .bf16)

theorem ref_z (q : Fin 2048) (f : Fin 4096) : val_main_v5 (F := Ideal) Y W (ix2 q f) = mix Y W q f := by
  pointwise [val_main_v5, val_main_v4, val_main_v3, val_main_v2, val_main_v1, val_main_v0]
  rfl

theorem ref_act (q : Fin 2048) (f : Fin 4096) : val_main_v8 (F := Ideal) Y W (ix2 q f) = pos2 (mix Y W q f) := by
  pointwise [val_main_v8, val_main_v7, val_main_v6, val_main_v4, val_main_v3, val_main_v2, val_main_v1, val_main_v0, val_main_call0_v0, val_main_call0_cst]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2.2, sem_eq_zero_of_no_sems (by decide) r.2⟩) (Cert.Ff1RefIdeal.Value.run m ρ)

end Ref

theorem algebraic : Cert.algebraic_Ff1Ideal_Ff1RefIdeal := by
  intro m ρ m' ρ' _ hag
  refine ⟨fun c i => mix (Y m c) (W m c) (i 0) (i 1), fun c i => pos2 (mix (Y m c) (W m c) (i 0) (i 1)),
    (θ_run _ _ _).mono (fun r h c => ?_) (Cert.Ff1Ideal.Value.run_blocks m ρ),
    (θ_run _ _ _).mono (fun r h c => ?_) (Cert.Ff1RefIdeal.Value.run m' ρ')⟩
  · exact ⟨(h c).1.trans (final_z m c), (h c).2.1.trans (final_act m c), (h c).2.2⟩
  · refine ⟨(h c).1.trans ?_, (h c).2.1.trans ?_, (h c).2.2⟩
    · rw [Cert.Ff1RefIdeal.Read.val_main_v5_eq, (hag c).1, (hag c).2]
      funext i
      exact (congrArg _ (eq_ix2 i)).trans (ref_z _ _ (i 0) (i 1))
    · rw [Cert.Ff1RefIdeal.Read.val_main_v8_eq, (hag c).1, (hag c).2]
      funext i
      exact (congrArg _ (eq_ix2 i)).trans (ref_act _ _ (i 0) (i 1))

end Cert.Ff1Proof
-- ==== Proof.Ff2n.lean ====
/- The second product of the feed-forward, its residual and the norm after it: the kernel adds up two halves of the hidden axis. -/
module

public import proofs.«01_k».proof.Defs
public import proofs.«01_k».proof.Proof.Norm
public import proofs.«01_k».proof.Proof.Gen.Ff2nIdeal.Value
public import proofs.«01_k».proof.Proof.Gen.Ff2nRefIdeal.Run
public import proofs.«01_k».proof.Proof.Gen.Ff2nRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff2nProof

open Cert.Norm
open Idealize.ShloMosaic Idealize.ShloMosaic.TcCoe Idealize.SL.Sem

section Kernel

open Cert.Ff2nIdeal Cert.Ff2nIdeal.Gen

variable (m : (ℓ : Loc nD τ sig) → Buf (Elt Ideal) ℓ)

theorem first_apply (a : Vec Ideal S1024x2048 .bf16) (b : Vec Ideal S2048x1024 .bf16) (i : S1024x1024.Idx) :
    k0_pay2 (F := Ideal) a b i = k0_pay1 (F := Ideal) a b i := by
  pointwise [k0_pay2]
theorem add_apply (a : Vec Ideal S1024x2048 .bf16) (b : Vec Ideal S2048x1024 .bf16) (s : Vec Ideal S1024x1024 .f32) (i : S1024x1024.Idx) :
    k0_pay3 (F := Ideal) a b s i = s i + k0_pay1 (F := Ideal) a b i := by
  pointwise [k0_pay3]
theorem end_apply (s x : Vec Ideal S1024x1024 .f32) (i : S1024x1024.Idx) : k0_pay4 (F := Ideal) s x i = s i + x i := by
  pointwise [k0_pay4]
theorem part_apply (a : Vec Ideal S1024x2048 .bf16) (b : Vec Ideal S2048x1024 .bf16) (q j : Fin 1024) :
    k0_pay1 (F := Ideal) a b (ix2 q j) = ∑ e : Fin 2048, a (ix2 q e) * b (ix2 e j) := by
  pointwise [k0_pay1]

theorem norm_apply (s x : Vec Ideal S1024x1024 .f32) (g : Vec Ideal S1x1024 .f32) (q j : Fin 1024) :
    k0_pay5 (F := Ideal) s x g (ix2 q j) = rms (fun k => k0_pay4 (F := Ideal) s x (ix2 q k)) (fun k => g (ix2 0 k)) j := by
  pointwise [k0_pay5]
  rfl

theorem idx : ∀ t : Fin cfg0.N, win0_0.index t = ![t.val / 2, t.val % 2] ∧ win0_1.index t = ![t.val % 2, 0] ∧ win0_2.index t = ![t.val / 2, 0]
    ∧ win0_3.index t = ![0, 0] ∧ win0_5.index t = ![t.val / 2, 0] ∧ win0_6.index t = ![t.val / 2, 0] ∧ t.val < 4 :=
  (by decide +kernel : ∀ t : Fin grid0.N, _)

abbrev A (c : Dev nD) : FVec Ideal S2048x4096 .bf16 := m ((c : Thread nD τ).loc main_arg0)
abbrev B (c : Dev nD) : FVec Ideal S4096x1024 .bf16 := m ((c : Thread nD τ).loc main_arg1)
abbrev X (c : Dev nD) : FVec Ideal S2048x1024 .f32 := m ((c : Thread nD τ).loc main_arg2)

abbrev G (c : Dev nD) : FVec Ideal S1024 .f32 := m ((c : Thread nD τ).loc main_arg3)

abbrev row (t : Fin cfg0.N) (q : Fin 1024) : Fin 2048 := ⟨t.val / 2 * 1024 + q.val, by have := (idx t).2.2.2.2.2.2; omega⟩
abbrev half (t : Fin cfg0.N) (e : Fin 2048) : Fin 4096 := ⟨t.val % 2 * 2048 + e.val, by omega⟩

theorem a_read (c : Dev nD) (t : Fin cfg0.N) (q : Fin 1024) (e : Fin 2048) :
    (show Vec Ideal S1024x2048 .bf16 from iblk m c 0 t) (ix2 q e) = A m c (ix2 (row t q) (half t e)) := by
  blk_ext [iblk, V, idx t]
theorem b_read (c : Dev nD) (t : Fin cfg0.N) (e : Fin 2048) (j : Fin 1024) :
    (show Vec Ideal S2048x1024 .bf16 from iblk m c 1 t) (ix2 e j) = B m c (ix2 (half t e) j) := by
  blk_ext [iblk, V, idx t]
theorem x_read (c : Dev nD) (t : Fin cfg0.N) (q j : Fin 1024) :
    (show Vec Ideal S1024x1024 .f32 from iblk m c 2 t) (ix2 q j) = X m c (ix2 (row t q) j) := by
  blk_ext [iblk, V, idx t]

/-- What the last half's point leaves for the sum, in the running sum. -/
theorem left_x (c : Dev nD) (t : Fin cfg0.N) (h : t.val % 2 = 1) :
    (outsAt0 m c t.val t.isLt).1 = k0_pay4 (F := Ideal) (outsAt0 m c t.val t.isLt).2.2 (iblk m c 2 t) := by
  rw [outsAt0_B m c t (by omega) h h]; frame_out
theorem left_n (c : Dev nD) (t : Fin cfg0.N) (h : t.val % 2 = 1) :
    (outsAt0 m c t.val t.isLt).2.1 = k0_pay5 (F := Ideal) (outsAt0 m c t.val t.isLt).2.2 (iblk m c 2 t) (iblk m c 3 t) := by
  rw [outsAt0_B m c t (by omega) h h]; frame_out

theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []

theorem g_read (c : Dev nD) (t : Fin cfg0.N) (j : Fin 1024) :
    (show Vec Ideal S1x1024 .f32 from iblk m c 3 t) (ix2 0 j) = G m c (ix1 j) := by
  refine Eq.trans ?_ (gain_eq m c j)
  blk_ext [iblk, idx t]

/-- The running sum after the last half is the whole product. -/
theorem total (c : Dev nD) (t : Fin cfg0.N) (h : t.val % 2 = 1) (q j : Fin 1024) :
    (outsAt0 m c t.val t.isLt).2.2 (ix2 q j) = ∑ e : Fin 4096, A m c (ix2 (row t q) e) * B m c (ix2 e j) := by
  rw [Pipeline.eq_sum_fin_of_reset_step_apply_of_flush (fun n h => (outsAt0 m c n h).2.2) 2 (fun _ => 0)
    (fun t => k0_pay1 (F := Ideal) (iblk m c 0 t) (iblk m c 1 t))
    (fun t h j => by rw [outsAt0_A m c t h (by omega) (by omega)]; frame_out; rw [zero_add]; exact first_apply _ _ j)
    (fun t h j => by rw [outsAt0_B m c t h (by omega) (by omega)]; frame_out; rw [read_unread_whole]; exact add_apply _ _ _ j)
    t h _, zero_add]
  refine (Fin.sum_fin_congr fun s => part_apply _ _ q j).trans (Fin.sum_mul_add_congr fun s e hl => ?_)
  refine congrArg₂ (· * ·) ((a_read m c _ q e).trans (congrArg₂ (fun k l => A m c (ix2 k l)) (Fin.ext ?_) (Fin.ext ?_))) ((b_read m c _ e j).trans
    (congrArg (fun k => B m c (ix2 k j)) (Fin.ext ?_)))
  · show (2 * (t.val / 2) + s.val) / 2 * 1024 + q.val = t.val / 2 * 1024 + q.val
    omega
  · show (2 * (t.val / 2) + s.val) % 2 * 2048 + e.val = s.val * 2048 + e.val
    omega
  · show (2 * (t.val / 2) + s.val) % 2 * 2048 + e.val = s.val * 2048 + e.val
    omega

/-- The last half's block of sums is the whole sum's rows. -/
theorem block (c : Dev nD) (t : Fin cfg0.N) (h : t.val % 2 = 1) (q j : Fin 1024) :
    k0_pay4 (F := Ideal) (outsAt0 m c t.val t.isLt).2.2 (iblk m c 2 t) (ix2 q j) = resid (A m c) (B m c) (X m c) (row t q) j :=
  (end_apply _ _ _).trans (congrArg₂ (· + ·) (total m c t h q j) (x_read m c t q j))

theorem final_x (c : Dev nD) :
    (dats m 0 c).arrAt 5 (cfgs 0).N = fun i : S2048x1024.Idx => resid (A m c) (B m c) (X m c) (i 0) (i 1) := by
  refine (dats m 0 c).arrAt_eq_of_covers 5 _ (by decide +kernel) fun t hf y => ?_
  have h : t.val % 2 = 1 := (flush0_5 t).mp hf
  blk_simp
  rw [after0_5, left_x m c t h]
  obtain ⟨q, j, rfl⟩ : ∃ (q j : Fin 1024), y = ix2 q j := ⟨y 0, y 1, eq_ix2 y⟩
  refine (block m c t h q j).trans (congrArg₂ (resid (A m c) (B m c) (X m c)) (Fin.ext ?_) (Fin.ext ?_))
  · blk_simp [idx t]
  · blk_simp [idx t]

theorem final_n (c : Dev nD) :
    (dats m 0 c).arrAt 6 (cfgs 0).N
      = fun i : S2048x1024.Idx => rms (resid (A m c) (B m c) (X m c) (i 0)) (fun k => G m c (ix1 k)) (i 1) := by
  refine (dats m 0 c).arrAt_eq_of_covers 6 _ (by decide +kernel) fun t hf y => ?_
  have h : t.val % 2 = 1 := (flush0_6 t).mp hf
  blk_simp
  rw [after0_6, left_n m c t h]
  obtain ⟨q, j, rfl⟩ : ∃ (q j : Fin 1024), y = ix2 q j := ⟨y 0, y 1, eq_ix2 y⟩
  have e : k0_pay5 (F := Ideal) (outsAt0 m c t.val t.isLt).2.2 (iblk m c 2 t) (iblk m c 3 t) (ix2 q j)
      = rms (resid (A m c) (B m c) (X m c) (row t q)) (fun k => G m c (ix1 k)) j :=
    (norm_apply _ _ _ q j).trans (congrArg₂ (fun x g => rms x g j) (funext (block m c t h q)) (funext (g_read m c t)))
  refine e.trans (congrArg₂ (fun i k => rms (resid (A m c) (B m c) (X m c) i) (fun k => G m c (ix1 k)) k) (Fin.ext ?_) (Fin.ext ?_))
  · blk_simp [idx t]
  · blk_simp [idx t]

end Kernel

section Ref

open Cert.Ff2nRefIdeal Cert.Ff2nRefIdeal.Gen Cert.Ff2nRefIdeal.Read

variable (A : FVec Ideal S2048x4096 .bf16) (B : FVec Ideal S4096x1024 .bf16) (X : FVec Ideal S2048x1024 .f32) (G : FVec Ideal S1024 .f32)

theorem ref_x (q : Fin 2048) (j : Fin 1024) : val_main_v3 (F := Ideal) A B X (ix2 q j) = resid A B X q j := by
  pointwise [val_main_v3, val_main_v2, val_main_v1, val_main_v0]
  exact add_comm _ _

theorem ref_n (q : Fin 2048) (j : Fin 1024) :
    val_main_v17 (F := Ideal) A B X G (ix2 q j) = rms (resid A B X q) (fun k => G (ix1 k)) j := by
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1]
  simp only [ref_x]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Cert.Ff2nRefIdeal.Value.run m ρ)

end Ref

theorem algebraic : Cert.algebraic_Ff2nIdeal_Ff2nRefIdeal := by
  intro m ρ m' ρ' _ hag
  refine ⟨fun c i => resid (A m c) (B m c) (X m c) (i 0) (i 1),
    fun c i => rms (resid (A m c) (B m c) (X m c) (i 0)) (fun k => G m c (ix1 k)) (i 1),
    (θ_run _ _ _).mono (fun r h c => ?_) (Cert.Ff2nIdeal.Value.run_blocks m ρ),
    (θ_run _ _ _).mono (fun r h c => ?_) (Cert.Ff2nRefIdeal.Value.run m' ρ')⟩
  · exact ⟨(h c).1.trans (final_x m c), (h c).2.1.trans (final_n m c), (h c).2.2⟩
  · refine ⟨(h c).1.trans ?_, (h c).2.1.trans ?_, (h c).2.2⟩
    · rw [Cert.Ff2nRefIdeal.Read.val_main_v3_eq, (hag c).1, (hag c).2.1, (hag c).2.2.1]
      funext i
      exact (congrArg _ (eq_ix2 i)).trans (ref_x _ _ _ (i 0) (i 1))
    · rw [Cert.Ff2nRefIdeal.Read.val_main_v17_eq, (hag c).1, (hag c).2.1, (hag c).2.2.1, (hag c).2.2.2.1]
      funext i
      exact (congrArg _ (eq_ix2 i)).trans (ref_n _ _ _ _ (i 0) (i 1))

end Cert.Ff2nProof
-- ==== Proof.Ff2.lean ====
/- The second product of the feed-forward and its residual: the kernel adds up two halves of the hidden axis. -/
module

public import proofs.«01_k».proof.Defs
public import proofs.«01_k».proof.Proof.Norm
public import proofs.«01_k».proof.Proof.Gen.Ff2Ideal.Value
public import proofs.«01_k».proof.Proof.Gen.Ff2RefIdeal.Run
public import proofs.«01_k».proof.Proof.Gen.Ff2RefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ff2Proof

open Cert.Norm
open Idealize.ShloMosaic Idealize.ShloMosaic.TcCoe Idealize.SL.Sem

section Kernel

open Cert.Ff2Ideal Cert.Ff2Ideal.Gen

variable (m : (ℓ : Loc nD τ sig) → Buf (Elt Ideal) ℓ)

theorem first_apply (a : Vec Ideal S2048x2048 .bf16) (b : Vec Ideal S2048x512 .bf16) (i : S2048x512.Idx) :
    k0_pay2 (F := Ideal) a b i = k0_pay1 (F := Ideal) a b i := by
  pointwise [k0_pay2]
theorem add_apply (a : Vec Ideal S2048x2048 .bf16) (b : Vec Ideal S2048x512 .bf16) (s : Vec Ideal S2048x512 .f32) (i : S2048x512.Idx) :
    k0_pay3 (F := Ideal) a b s i = s i + k0_pay1 (F := Ideal) a b i := by
  pointwise [k0_pay3]
theorem end_apply (s x : Vec Ideal S2048x512 .f32) (i : S2048x512.Idx) : k0_pay4 (F := Ideal) s x i = s i + x i := by
  pointwise [k0_pay4]
theorem part_apply (a : Vec Ideal S2048x2048 .bf16) (b : Vec Ideal S2048x512 .bf16) (q : Fin 2048) (j : Fin 512) :
    k0_pay1 (F := Ideal) a b (ix2 q j) = ∑ e : Fin 2048, a (ix2 q e) * b (ix2 e j) := by
  pointwise [k0_pay1]

theorem idx : ∀ t : Fin cfg0.N, win0_0.index t = ![0, t.val % 2] ∧ win0_1.index t = ![t.val % 2, t.val / 2] ∧ win0_2.index t = ![0, t.val / 2]
    ∧ win0_3.index t = ![0, t.val / 2] ∧ t.val < 4 :=
  (by decide +kernel : ∀ t : Fin grid0.N, _)

abbrev A (c : Dev nD) : FVec Ideal S2048x4096 .bf16 := m ((c : Thread nD τ).loc main_arg0)
abbrev B (c : Dev nD) : FVec Ideal S4096x1024 .bf16 := m ((c : Thread nD τ).loc main_arg1)
abbrev X (c : Dev nD) : FVec Ideal S2048x1024 .f32 := m ((c : Thread nD τ).loc main_arg2)

abbrev col (t : Fin cfg0.N) (j : Fin 512) : Fin 1024 := ⟨t.val / 2 * 512 + j.val, by have := (idx t).2.2.2.2; omega⟩
abbrev half (t : Fin cfg0.N) (e : Fin 2048) : Fin 4096 := ⟨t.val % 2 * 2048 + e.val, by omega⟩

theorem a_read (c : Dev nD) (t : Fin cfg0.N) (q e : Fin 2048) :
    (show Vec Ideal S2048x2048 .bf16 from iblk m c 0 t) (ix2 q e) = A m c (ix2 q (half t e)) := by
  blk_ext [iblk, V, idx t]
theorem b_read (c : Dev nD) (t : Fin cfg0.N) (e : Fin 2048) (j : Fin 512) :
    (show Vec Ideal S2048x512 .bf16 from iblk m c 1 t) (ix2 e j) = B m c (ix2 (half t e) (col t j)) := by
  blk_ext [iblk, V, idx t]
theorem x_read (c : Dev nD) (t : Fin cfg0.N) (q : Fin 2048) (j : Fin 512) :
    (show Vec Ideal S2048x512 .f32 from iblk m c 2 t) (ix2 q j) = X m c (ix2 q (col t j)) := by
  blk_ext [iblk, V, idx t]

/-- The last half's point leaves the running sum plus the residual. -/
theorem left (c : Dev nD) (t : Fin cfg0.N) (h : t.val % 2 = 1) (i : S2048x512.Idx) :
    (outsAt0 m c t.val t.isLt).1 i = (outsAt0 m c t.val t.isLt).2 i + (show Vec Ideal S2048x512 .f32 from iblk m c 2 t) i := by
  rw [outsAt0_B m c t (by omega) h h]; frame_out; exact end_apply _ _ i

/-- The running sum after the last half is the whole product. -/
theorem total (c : Dev nD) (t : Fin cfg0.N) (h : t.val % 2 = 1) (q : Fin 2048) (j : Fin 512) :
    (outsAt0 m c t.val t.isLt).2 (ix2 q j) = ∑ e : Fin 4096, A m c (ix2 q e) * B m c (ix2 e (col t j)) := by
  rw [Pipeline.eq_sum_fin_of_reset_step_apply_of_flush (fun n h => (outsAt0 m c n h).2) 2 (fun _ => 0)
    (fun t => k0_pay1 (F := Ideal) (iblk m c 0 t) (iblk m c 1 t))
    (fun t h j => by rw [outsAt0_A m c t h (by omega) (by omega)]; frame_out; rw [zero_add]; exact first_apply _ _ j)
    (fun t h j => by rw [outsAt0_B m c t h (by omega) (by omega)]; frame_out; rw [read_unread_whole]; exact add_apply _ _ _ j)
    t h _, zero_add]
  refine (Fin.sum_fin_congr fun s => part_apply _ _ q j).trans (Fin.sum_mul_add_congr fun s e hl => ?_)
  refine congrArg₂ (· * ·) ((a_read m c _ q e).trans (congrArg (fun k => A m c (ix2 q k)) (Fin.ext ?_))) ((b_read m c _ e j).trans
    (congrArg₂ (fun k l => B m c (ix2 k l)) (Fin.ext ?_) (Fin.ext ?_)))
  · show (2 * (t.val / 2) + s.val) % 2 * 2048 + e.val = s.val * 2048 + e.val
    omega
  · show (2 * (t.val / 2) + s.val) % 2 * 2048 + e.val = s.val * 2048 + e.val
    omega
  · show (2 * (t.val / 2) + s.val) / 2 * 512 + j.val = t.val / 2 * 512 + j.val
    omega

theorem final (c : Dev nD) :
    (dats m 0 c).arrAt 3 (cfgs 0).N = fun i : S2048x1024.Idx => resid (A m c) (B m c) (X m c) (i 0) (i 1) := by
  refine (dats m 0 c).arrAt_eq_of_covers 3 _ (by decide +kernel) fun t hf y => ?_
  have h : t.val % 2 = 1 := (flush0_3 t).mp hf
  blk_simp
  rw [after0_3]
  obtain ⟨q, j, rfl⟩ : ∃ (q : Fin 2048) (j : Fin 512), y = ix2 q j := ⟨y 0, y 1, eq_ix2 y⟩
  refine ((left m c t h _).trans (congrArg₂ (· + ·) (total m c t h q j) (x_read m c t q j))).trans
    (congrArg₂ (resid (A m c) (B m c) (X m c)) (Fin.ext ?_) (Fin.ext ?_))
  · blk_simp [idx t]
  · blk_simp [idx t]

end Kernel

section Ref

open Cert.Ff2RefIdeal Cert.Ff2RefIdeal.Gen Cert.Ff2RefIdeal.Read

variable (A : FVec Ideal S2048x4096 .bf16) (B : FVec Ideal S4096x1024 .bf16) (X : FVec Ideal S2048x1024 .f32)

theorem ref_apply (q : Fin 2048) (j : Fin 1024) : val_main_v3 (F := Ideal) A B X (ix2 q j) = resid A B X q j := by
  pointwise [val_main_v3, val_main_v2, val_main_v1, val_main_v0]
  exact add_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.Ff2RefIdeal.Value.run m ρ)

end Ref

theorem algebraic : Cert.algebraic_Ff2Ideal_Ff2RefIdeal := by
  intro m ρ m' ρ' _ hag
  refine ⟨fun c i => resid (A m c) (B m c) (X m c) (i 0) (i 1),
    (θ_run _ _ _).mono (fun r h c => ?_) (Cert.Ff2Ideal.Value.run_blocks m ρ),
    (θ_run _ _ _).mono (fun r h c => ?_) (Cert.Ff2RefIdeal.Value.run m' ρ')⟩
  · exact ⟨(h c).1.trans (final m c), (h c).2⟩
  · refine ⟨(h c).1.trans ?_, (h c).2⟩
    rw [Cert.Ff2RefIdeal.Read.val_main_v3_eq, (hag c).1, (hag c).2.1, (hag c).2.2]
    funext i
    exact (congrArg _ (eq_ix2 i)).trans (ref_apply _ _ _ (i 0) (i 1))

end Cert.Ff2Proof
-- ==== Proof.Dws.lean ====
/- The gradient of a square weight: the kernel's result array and the reference's are one product. -/
module

public import proofs.«01_k».proof.Defs
public import proofs.«01_k».proof.Proof.Gen.DwsIdeal.Value
public import proofs.«01_k».proof.Proof.Gen.DwsRefIdeal.Run
public import proofs.«01_k».proof.Proof.Gen.DwsRefIdeal.Read
public import proofs.«01_k».proof.Proof.Prod
public import Idealize.ShloMosaic.Lib.Pipeline.ValueKit

@[expose] public section

set_option maxRecDepth 16384

noncomputable section

namespace Cert.DwsProof

open Cert.Prod
open Idealize.ShloMosaic Idealize.ShloMosaic.TcCoe Idealize.SL.Sem

section Kernel

open Cert.DwsIdeal Cert.DwsIdeal.Gen

variable (m : (ℓ : Loc nD τ sig) → Buf (Elt Ideal) ℓ)

theorem pay_apply (a : Vec Ideal S2048x1024 .bf16) (b : Vec Ideal S2048x512 .bf16) (i : Fin 1024) (j : Fin 512) :
    k0_pay1 (F := Ideal) a b (ix2 i j) = tmm (f := .bf16) (g := .bf16) a b i j := by
  pointwise [k0_pay1]
  rfl

theorem idx : ∀ t : Fin cfg0.N, win0_0.index t = ![0, 0] ∧ win0_1.index t = ![0, t.val] ∧ win0_2.index t = ![0, t.val] ∧ t.val < 2 :=
  (by decide +kernel : ∀ t : Fin grid0.N, _)

abbrev A (c : Dev nD) : FVec Ideal S2048x1024 .bf16 := m ((c : Thread nD τ).loc main_arg0)
abbrev B (c : Dev nD) : FVec Ideal S2048x1024 .bf16 := m ((c : Thread nD τ).loc main_arg1)

abbrev col (t : Fin cfg0.N) (j : Fin 512) : Fin 1024 := ⟨t.val * 512 + j.val, by have := (idx t).2.2.2; omega⟩

theorem a_read (c : Dev nD) (t : Fin cfg0.N) (i : Fin 1024) (e : Fin 2048) :
    (show Vec Ideal S2048x1024 .bf16 from iblk m c 0 t) (ix2 e i) = A m c (ix2 e i) := by
  blk_ext [iblk, V, idx t]
theorem b_read (c : Dev nD) (t : Fin cfg0.N) (e : Fin 2048) (j : Fin 512) :
    (show Vec Ideal S2048x512 .bf16 from iblk m c 1 t) (ix2 e j) = B m c (ix2 e (col t j)) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S1024x1024.Idx => tmm (A m c) (B m c) (i 0) (i 1) := by
  refine (dats m 0 c).arrAt_eq_of_covers 2 _ (by decide +kernel) fun t _ y => ?_
  blk_simp
  rw [left]
  obtain ⟨i, j, rfl⟩ : ∃ (i : Fin 1024) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (tmm (A m c) (B m c)) (Fin.ext ?_) (Fin.ext ?_))
  · blk_simp [idx t]
  · blk_simp [idx t]

end Kernel

section Ref

open Cert.DwsRefIdeal Cert.DwsRefIdeal.Gen Cert.DwsRefIdeal.Read

theorem ref_apply (A : FVec Ideal S2048x1024 .bf16) (B : FVec Ideal S2048x1024 .bf16) (i : Fin 1024) (j : Fin 1024) :
    val_main_v6 (F := Ideal) A B (ix2 i j) = tmm A B i j := by
  pointwise [val_main_v6, val_main_v5, val_main_v4, val_main_v3, val_main_v1]
  exact Finset.sum_congr rfl fun e _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DwsRefIdeal.Value.run m ρ)

end Ref

theorem algebraic : Cert.algebraic_DwsIdeal_DwsRefIdeal := by
  intro m ρ m' ρ' _ hag
  refine ⟨fun c i => tmm (A m c) (B m c) (i 0) (i 1),
    (θ_run _ _ _).mono (fun r h c => ?_) (Cert.DwsIdeal.Value.run_blocks m ρ),
    (θ_run _ _ _).mono (fun r h c => ?_) (Cert.DwsRefIdeal.Value.run m' ρ')⟩
  · exact ⟨(h c).1.trans (final m c), (h c).2⟩
  · refine ⟨(h c).1.trans ?_, (h c).2⟩
    rw [Cert.DwsRefIdeal.Read.val_main_v6_eq, (hag c).1, (hag c).2]
    funext i
    exact (congrArg _ (eq_ix2 i)).trans (ref_apply _ _ (i 0) (i 1))

end Cert.DwsProof
-- ==== Proof.Dwkv.lean ====
/- The gradient of the weight of the memory's keys and values, one shard per device: the kernel's result array and the reference's are one product. -/
module

public import proofs.«01_k».proof.Defs
public import proofs.«01_k».proof.Proof.Gen.DwkvIdeal.Value
public import proofs.«01_k».proof.Proof.Gen.DwkvRefIdeal.Run
public import proofs.«01_k».proof.Proof.Gen.DwkvRefIdeal.Read
public import Idealize.ShloMosaic.Lib.Pipeline.ValueKit
public import Idealize.ShloMosaic.Lib.Pointwise

@[expose] public section

set_option maxRecDepth 16384

noncomputable section

namespace Cert.DwkvProof

open Idealize.ShloMosaic Idealize.ShloMosaic.TcCoe Idealize.SL.Sem

/-- The gradient of `∑ r f, dkv r f * (h w) r f` at the weight, as eight shards of columns: `h` transposed times `dkv`. -/
def dw (H : FVec Ideal ⟨2, ![256, 1024]⟩ .bf16) (Z : FVec Ideal ⟨2, ![256, 2048]⟩ .f32) (s : Fin 8) (e : Fin 1024) (f : Fin 256) : EReal :=
  ∑ q : Fin 256, H (ix2 q e) * Z (ix2 q ⟨s.val * 256 + f.val, by omega⟩)

section Kernel

open Cert.DwkvIdeal Cert.DwkvIdeal.Gen

variable (m : (ℓ : Loc nD τ sig) → Buf (Elt Ideal) ℓ)

theorem pay_apply (h : Vec Ideal S256x1024 .bf16) (z : Vec Ideal S256x256 .f32) (u : Fin 1) (e : Fin 1024) (f : Fin 256) :
    k0_pay1 (F := Ideal) h z (ix3 u e f) = ∑ q : Fin 256, h (ix2 q e) * z (ix2 q f) := by
  pointwise [k0_pay1]

theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

abbrev H (c : Dev nD) : FVec Ideal S256x1024 .bf16 := m ((c : Thread nD τ).loc main_arg0)
abbrev Z (c : Dev nD) : FVec Ideal S256x2048 .f32 := m ((c : Thread nD τ).loc main_arg1)

abbrev shard (t : Fin cfg0.N) : Fin 8 := ⟨t.val, (idx t).2.2.2⟩

theorem h_read (c : Dev nD) (t : Fin cfg0.N) (q : Fin 256) (e : Fin 1024) :
    (show Vec Ideal S256x1024 .bf16 from iblk m c 0 t) (ix2 q e) = H m c (ix2 q e) := by
  blk_ext [iblk, V, idx t]
theorem z_read (c : Dev nD) (t : Fin cfg0.N) (q : Fin 256) (f : Fin 256) :
    (show Vec Ideal S256x256 .f32 from iblk m c 1 t) (ix2 q f) = Z m c (ix2 q ⟨(shard t).val * 256 + f.val, by omega⟩) := by
  blk_ext [iblk, V, idx t]

theorem left_dw (c : Dev nD) (t : Fin cfg0.N) :
    (dats m 0 c).after 2 t = k0_pay1 (F := Ideal) (iblk m c 0 t) (iblk m c 1 t) := by
  rw [after0_2]; frame_out

theorem final_dw (c : Dev nD) :
    (dats m 0 c).arrAt 2 (cfgs 0).N = fun i : S8x1024x256.Idx => dw (H m c) (Z m c) (i 0) (i 1) (i 2) := by
  refine (dats m 0 c).arrAt_eq_of_covers 2 _ (by decide +kernel) fun t _ y => ?_
  blk_simp
  rw [left_dw]
  obtain ⟨u, e, f, rfl⟩ : ∃ (u : Fin 1) (e : Fin 1024) (f : Fin 256), y = ix3 u e f := ⟨y 0, y 1, y 2, eq_ix3 y⟩
  refine ((pay_apply _ _ u e f).trans (Finset.sum_congr rfl fun q _ => congrArg₂ (· * ·) (h_read m c t q e) (z_read m c t q f))).trans ?_
  show dw (H m c) (Z m c) (shard t) e f = _
  have hs : ((win0_2.blk t).view.emb (ix3 u e f) 0) = shard t := Fin.ext (by blk_simp [idx t])
  have he : ((win0_2.blk t).view.emb (ix3 u e f) 1) = e := Fin.ext (by blk_simp [idx t])
  have hf : ((win0_2.blk t).view.emb (ix3 u e f) 2) = f := Fin.ext (by blk_simp [idx t])
  exact (congr (congrArg₂ (dw (H m c) (Z m c)) hs he) hf).symm

end Kernel

section Ref

open Cert.DwkvRefIdeal Cert.DwkvRefIdeal.Gen Cert.DwkvRefIdeal.Read

theorem ref_apply (H : FVec Ideal S256x1024 .bf16) (Z : FVec Ideal S256x2048 .f32) (s : Fin 8) (e : Fin 1024) (f : Fin 256) :
    val_main_v7 (F := Ideal) H Z (ix3 s e f) = dw H Z s e f := by
  pointwise [val_main_v7, val_main_v6, val_main_v5, val_main_v4, val_main_v3, val_main_v1]
  exact Finset.sum_congr rfl fun q _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DwkvRefIdeal.Value.run m ρ)

end Ref

theorem algebraic : Cert.algebraic_DwkvIdeal_DwkvRefIdeal := by
  intro m ρ m' ρ' _ hag
  refine ⟨fun c i => dw (H m c) (Z m c) (i 0) (i 1) (i 2),
    (θ_run _ _ _).mono (fun r h c => ?_) (Cert.DwkvIdeal.Value.run_blocks m ρ),
    (θ_run _ _ _).mono (fun r h c => ?_) (Cert.DwkvRefIdeal.Value.run m' ρ')⟩
  · exact ⟨(h c).1.trans (final_dw m c), (h c).2⟩
  · refine ⟨(h c).1.trans ?_, (h c).2⟩
    rw [Cert.DwkvRefIdeal.Read.val_main_v7_eq, (hag c).1, (hag c).2]
    funext i
    exact (congrArg _ (eq_ix3 i)).trans (ref_apply _ _ (i 0) (i 1) (i 2))

end Cert.DwkvProof
-- ==== Proof.Dwa.lean ====
/- The gradient of the first and of the third branch's weight, one shard per device: the kernel's result array and the reference's are one product. -/
module

public import proofs.«01_k».proof.Defs
public import proofs.«01_k».proof.Proof.Gen.DwaIdeal.Value
public import proofs.«01_k».proof.Proof.Gen.DwaRefIdeal.Run
public import proofs.«01_k».proof.Proof.Gen.DwaRefIdeal.Read
public import Idealize.ShloMosaic.Lib.Pipeline.ValueKit
public import Idealize.ShloMosaic.Lib.Pointwise

@[expose] public section

set_option maxRecDepth 16384

noncomputable section

namespace Cert.DwaProof

open Idealize.ShloMosaic Idealize.ShloMosaic.TcCoe Idealize.SL.Sem

/-- The gradient of `∑ q f, dy q f * (h w) q f` at the weight, as eight shards of columns: `h` transposed times `dy`. -/
def dw (H : FVec Ideal ⟨2, ![2048, 256]⟩ .bf16) (Z : FVec Ideal ⟨2, ![2048, 1024]⟩ .bf16) (s : Fin 8) (e : Fin 256) (f : Fin 128) : EReal :=
  ∑ q : Fin 2048, H (ix2 q e) * Z (ix2 q ⟨s.val * 128 + f.val, by omega⟩)

section Kernel

open Cert.DwaIdeal Cert.DwaIdeal.Gen

variable (m : (ℓ : Loc nD τ sig) → Buf (Elt Ideal) ℓ)

theorem pay_apply (h : Vec Ideal S2048x256 .bf16) (z : Vec Ideal S2048x128 .bf16) (u : Fin 1) (e : Fin 256) (f : Fin 128) :
    k0_pay1 (F := Ideal) h z (ix3 u e f) = ∑ q : Fin 2048, h (ix2 q e) * z (ix2 q f) := by
  pointwise [k0_pay1]

theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

abbrev H (c : Dev nD) : FVec Ideal S2048x256 .bf16 := m ((c : Thread nD τ).loc main_arg0)
abbrev Z (c : Dev nD) : FVec Ideal S2048x1024 .bf16 := m ((c : Thread nD τ).loc main_arg1)

abbrev shard (t : Fin cfg0.N) : Fin 8 := ⟨t.val, (idx t).2.2.2⟩

theorem h_read (c : Dev nD) (t : Fin cfg0.N) (q : Fin 2048) (e : Fin 256) :
    (show Vec Ideal S2048x256 .bf16 from iblk m c 0 t) (ix2 q e) = H m c (ix2 q e) := by
  blk_ext [iblk, V, idx t]
theorem z_read (c : Dev nD) (t : Fin cfg0.N) (q : Fin 2048) (f : Fin 128) :
    (show Vec Ideal S2048x128 .bf16 from iblk m c 1 t) (ix2 q f) = Z m c (ix2 q ⟨(shard t).val * 128 + f.val, by omega⟩) := by
  blk_ext [iblk, V, idx t]

theorem left_dw (c : Dev nD) (t : Fin cfg0.N) :
    (dats m 0 c).after 2 t = k0_pay1 (F := Ideal) (iblk m c 0 t) (iblk m c 1 t) := by
  rw [after0_2]; frame_out

theorem final_dw (c : Dev nD) :
    (dats m 0 c).arrAt 2 (cfgs 0).N = fun i : S8x256x128.Idx => dw (H m c) (Z m c) (i 0) (i 1) (i 2) := by
  refine (dats m 0 c).arrAt_eq_of_covers 2 _ (by decide +kernel) fun t _ y => ?_
  blk_simp
  rw [left_dw]
  obtain ⟨u, e, f, rfl⟩ : ∃ (u : Fin 1) (e : Fin 256) (f : Fin 128), y = ix3 u e f := ⟨y 0, y 1, y 2, eq_ix3 y⟩
  refine ((pay_apply _ _ u e f).trans (Finset.sum_congr rfl fun q _ => congrArg₂ (· * ·) (h_read m c t q e) (z_read m c t q f))).trans ?_
  show dw (H m c) (Z m c) (shard t) e f = _
  have hs : ((win0_2.blk t).view.emb (ix3 u e f) 0) = shard t := Fin.ext (by blk_simp [idx t])
  have he : ((win0_2.blk t).view.emb (ix3 u e f) 1) = e := Fin.ext (by blk_simp [idx t])
  have hf : ((win0_2.blk t).view.emb (ix3 u e f) 2) = f := Fin.ext (by blk_simp [idx t])
  exact (congr (congrArg₂ (dw (H m c) (Z m c)) hs he) hf).symm

end Kernel

section Ref

open Cert.DwaRefIdeal Cert.DwaRefIdeal.Gen Cert.DwaRefIdeal.Read

theorem ref_apply (H : FVec Ideal S2048x256 .bf16) (Z : FVec Ideal S2048x1024 .bf16) (s : Fin 8) (e : Fin 256) (f : Fin 128) :
    val_main_v8 (F := Ideal) H Z (ix3 s e f) = dw H Z s e f := by
  pointwise [val_main_v8, val_main_v7, val_main_v6, val_main_v5, val_main_v4, val_main_v3, val_main_v1]
  exact Finset.sum_congr rfl fun q _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DwaRefIdeal.Value.run m ρ)

end Ref

theorem algebraic : Cert.algebraic_DwaIdeal_DwaRefIdeal := by
  intro m ρ m' ρ' _ hag
  refine ⟨fun c i => dw (H m c) (Z m c) (i 0) (i 1) (i 2),
    (θ_run _ _ _).mono (fun r h c => ?_) (Cert.DwaIdeal.Value.run_blocks m ρ),
    (θ_run _ _ _).mono (fun r h c => ?_) (Cert.DwaRefIdeal.Value.run m' ρ')⟩
  · exact ⟨(h c).1.trans (final_dw m c), (h c).2⟩
  · refine ⟨(h c).1.trans ?_, (h c).2⟩
    rw [Cert.DwaRefIdeal.Read.val_main_v8_eq, (hag c).1, (hag c).2]
    funext i
    exact (congrArg _ (eq_ix3 i)).trans (ref_apply _ _ (i 0) (i 1) (i 2))

end Cert.DwaProof
-- ==== Proof.Dwb.lean ====
/- The gradient of the second branch's weight, one shard per device: the kernel's result array and the reference's are one product. -/
module

public import proofs.«01_k».proof.Defs
public import proofs.«01_k».proof.Proof.Gen.DwbIdeal.Value
public import proofs.«01_k».proof.Proof.Gen.DwbRefIdeal.Run
public import proofs.«01_k».proof.Proof.Gen.DwbRefIdeal.Read
public import Idealize.ShloMosaic.Lib.Pipeline.ValueKit
public import Idealize.ShloMosaic.Lib.Pointwise

@[expose] public section

set_option maxRecDepth 16384

noncomputable section

namespace Cert.DwbProof

open Idealize.ShloMosaic Idealize.ShloMosaic.TcCoe Idealize.SL.Sem

/-- The gradient of `∑ q f, dy q f * (h w) q f` at the weight, as eight shards of columns: `h` transposed times `dy`. -/
def dw (H : FVec Ideal ⟨2, ![2048, 512]⟩ .bf16) (Z : FVec Ideal ⟨2, ![2048, 1024]⟩ .bf16) (s : Fin 8) (e : Fin 512) (f : Fin 128) : EReal :=
  ∑ q : Fin 2048, H (ix2 q e) * Z (ix2 q ⟨s.val * 128 + f.val, by omega⟩)

section Kernel

open Cert.DwbIdeal Cert.DwbIdeal.Gen

variable (m : (ℓ : Loc nD τ sig) → Buf (Elt Ideal) ℓ)

theorem pay_apply (h : Vec Ideal S2048x512 .bf16) (z : Vec Ideal S2048x128 .bf16) (u : Fin 1) (e : Fin 512) (f : Fin 128) :
    k0_pay1 (F := Ideal) h z (ix3 u e f) = ∑ q : Fin 2048, h (ix2 q e) * z (ix2 q f) := by
  pointwise [k0_pay1]

theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

abbrev H (c : Dev nD) : FVec Ideal S2048x512 .bf16 := m ((c : Thread nD τ).loc main_arg0)
abbrev Z (c : Dev nD) : FVec Ideal S2048x1024 .bf16 := m ((c : Thread nD τ).loc main_arg1)

abbrev shard (t : Fin cfg0.N) : Fin 8 := ⟨t.val, (idx t).2.2.2⟩

theorem h_read (c : Dev nD) (t : Fin cfg0.N) (q : Fin 2048) (e : Fin 512) :
    (show Vec Ideal S2048x512 .bf16 from iblk m c 0 t) (ix2 q e) = H m c (ix2 q e) := by
  blk_ext [iblk, V, idx t]
theorem z_read (c : Dev nD) (t : Fin cfg0.N) (q : Fin 2048) (f : Fin 128) :
    (show Vec Ideal S2048x128 .bf16 from iblk m c 1 t) (ix2 q f) = Z m c (ix2 q ⟨(shard t).val * 128 + f.val, by omega⟩) := by
  blk_ext [iblk, V, idx t]

theorem left_dw (c : Dev nD) (t : Fin cfg0.N) :
    (dats m 0 c).after 2 t = k0_pay1 (F := Ideal) (iblk m c 0 t) (iblk m c 1 t) := by
  rw [after0_2]; frame_out

theorem final_dw (c : Dev nD) :
    (dats m 0 c).arrAt 2 (cfgs 0).N = fun i : S8x512x128.Idx => dw (H m c) (Z m c) (i 0) (i 1) (i 2) := by
  refine (dats m 0 c).arrAt_eq_of_covers 2 _ (by decide +kernel) fun t _ y => ?_
  blk_simp
  rw [left_dw]
  obtain ⟨u, e, f, rfl⟩ : ∃ (u : Fin 1) (e : Fin 512) (f : Fin 128), y = ix3 u e f := ⟨y 0, y 1, y 2, eq_ix3 y⟩
  refine ((pay_apply _ _ u e f).trans (Finset.sum_congr rfl fun q _ => congrArg₂ (· * ·) (h_read m c t q e) (z_read m c t q f))).trans ?_
  show dw (H m c) (Z m c) (shard t) e f = _
  have hs : ((win0_2.blk t).view.emb (ix3 u e f) 0) = shard t := Fin.ext (by blk_simp [idx t])
  have he : ((win0_2.blk t).view.emb (ix3 u e f) 1) = e := Fin.ext (by blk_simp [idx t])
  have hf : ((win0_2.blk t).view.emb (ix3 u e f) 2) = f := Fin.ext (by blk_simp [idx t])
  exact (congr (congrArg₂ (dw (H m c) (Z m c)) hs he) hf).symm

end Kernel

section Ref

open Cert.DwbRefIdeal Cert.DwbRefIdeal.Gen Cert.DwbRefIdeal.Read

theorem ref_apply (H : FVec Ideal S2048x512 .bf16) (Z : FVec Ideal S2048x1024 .bf16) (s : Fin 8) (e : Fin 512) (f : Fin 128) :
    val_main_v8 (F := Ideal) H Z (ix3 s e f) = dw H Z s e f := by
  pointwise [val_main_v8, val_main_v7, val_main_v6, val_main_v5, val_main_v4, val_main_v3, val_main_v1]
  exact Finset.sum_congr rfl fun q _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DwbRefIdeal.Value.run m ρ)

end Ref

theorem algebraic : Cert.algebraic_DwbIdeal_DwbRefIdeal := by
  intro m ρ m' ρ' _ hag
  refine ⟨fun c i => dw (H m c) (Z m c) (i 0) (i 1) (i 2),
    (θ_run _ _ _).mono (fun r h c => ?_) (Cert.DwbIdeal.Value.run_blocks m ρ),
    (θ_run _ _ _).mono (fun r h c => ?_) (Cert.DwbRefIdeal.Value.run m' ρ')⟩
  · exact ⟨(h c).1.trans (final_dw m c), (h c).2⟩
  · refine ⟨(h c).1.trans ?_, (h c).2⟩
    rw [Cert.DwbRefIdeal.Read.val_main_v8_eq, (hag c).1, (hag c).2]
    funext i
    exact (congrArg _ (eq_ix3 i)).trans (ref_apply _ _ (i 0) (i 1) (i 2))

end Cert.DwbProof
-- ==== Proof.Do2.lean ====
/- The gradient at the input of a square weight: the kernel's result array and the reference's are one product. -/
module

public import proofs.«01_k».proof.Defs
public import proofs.«01_k».proof.Proof.Gen.Do2Ideal.Value
public import proofs.«01_k».proof.Proof.Gen.Do2RefIdeal.Run
public import proofs.«01_k».proof.Proof.Gen.Do2RefIdeal.Read
public import proofs.«01_k».proof.Proof.Prod
public import Idealize.ShloMosaic.Lib.Pipeline.ValueKit

@[expose] public section

set_option maxRecDepth 16384

noncomputable section

namespace Cert.Do2Proof

open Cert.Prod
open Idealize.ShloMosaic Idealize.ShloMosaic.TcCoe Idealize.SL.Sem

section Kernel

open Cert.Do2Ideal Cert.Do2Ideal.Gen

variable (m : (ℓ : Loc nD τ sig) → Buf (Elt Ideal) ℓ)

theorem pay_apply (a : Vec Ideal S2048x1024 .bf16) (b : Vec Ideal S512x1024 .bf16) (i : Fin 2048) (j : Fin 512) :
    k0_pay1 (F := Ideal) a b (ix2 i j) = mmt (f := .bf16) (g := .bf16) a b i j := by
  pointwise [k0_pay1]
  rfl

theorem idx : ∀ t : Fin cfg0.N, win0_0.index t = ![0, 0] ∧ win0_1.index t = ![t.val, 0] ∧ win0_2.index t = ![0, t.val] ∧ t.val < 2 :=
  (by decide +kernel : ∀ t : Fin grid0.N, _)

abbrev A (c : Dev nD) : FVec Ideal S2048x1024 .bf16 := m ((c : Thread nD τ).loc main_arg0)
abbrev B (c : Dev nD) : FVec Ideal S1024x1024 .bf16 := m ((c : Thread nD τ).loc main_arg1)

abbrev col (t : Fin cfg0.N) (j : Fin 512) : Fin 1024 := ⟨t.val * 512 + j.val, by have := (idx t).2.2.2; omega⟩

theorem a_read (c : Dev nD) (t : Fin cfg0.N) (i : Fin 2048) (e : Fin 1024) :
    (show Vec Ideal S2048x1024 .bf16 from iblk m c 0 t) (ix2 i e) = A m c (ix2 i e) := by
  blk_ext [iblk, V, idx t]
theorem b_read (c : Dev nD) (t : Fin cfg0.N) (e : Fin 1024) (j : Fin 512) :
    (show Vec Ideal S512x1024 .bf16 from iblk m c 1 t) (ix2 j e) = B m c (ix2 (col t j) e) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S2048x1024.Idx => mmt (A m c) (B m c) (i 0) (i 1) := by
  refine (dats m 0 c).arrAt_eq_of_covers 2 _ (by decide +kernel) fun t _ y => ?_
  blk_simp
  rw [left]
  obtain ⟨i, j, rfl⟩ : ∃ (i : Fin 2048) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mmt (A m c) (B m c)) (Fin.ext ?_) (Fin.ext ?_))
  · blk_simp [idx t]
  · blk_simp [idx t]

end Kernel

section Ref

open Cert.Do2RefIdeal Cert.Do2RefIdeal.Gen Cert.Do2RefIdeal.Read

theorem ref_apply (A : FVec Ideal S2048x1024 .bf16) (B : FVec Ideal S1024x1024 .bf16) (i : Fin 2048) (j : Fin 1024) :
    val_main_v5 (F := Ideal) A B (ix2 i j) = mmt A B i j := by
  pointwise [val_main_v5, val_main_v4, val_main_v3, val_main_v2, val_main_v1]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.Do2RefIdeal.Value.run m ρ)

end Ref

theorem algebraic : Cert.algebraic_Do2Ideal_Do2RefIdeal := by
  intro m ρ m' ρ' _ hag
  refine ⟨fun c i => mmt (A m c) (B m c) (i 0) (i 1),
    (θ_run _ _ _).mono (fun r h c => ?_) (Cert.Do2Ideal.Value.run_blocks m ρ),
    (θ_run _ _ _).mono (fun r h c => ?_) (Cert.Do2RefIdeal.Value.run m' ρ')⟩
  · exact ⟨(h c).1.trans (final m c), (h c).2⟩
  · refine ⟨(h c).1.trans ?_, (h c).2⟩
    rw [Cert.Do2RefIdeal.Read.val_main_v5_eq, (hag c).1, (hag c).2]
    funext i
    exact (congrArg _ (eq_ix2 i)).trans (ref_apply _ _ (i 0) (i 1))

end Cert.Do2Proof
-- ==== Proof.Dm.lean ====
/- The gradient at the merged branches: the kernel's result array and the reference's are one product. -/
module

public import proofs.«01_k».proof.Defs
public import proofs.«01_k».proof.Proof.Gen.DmIdeal.Value
public import proofs.«01_k».proof.Proof.Gen.DmRefIdeal.Run
public import proofs.«01_k».proof.Proof.Gen.DmRefIdeal.Read
public import proofs.«01_k».proof.Proof.Prod
public import Idealize.ShloMosaic.Lib.Pipeline.ValueKit

@[expose] public section

set_option maxRecDepth 16384

noncomputable section

namespace Cert.DmProof

open Cert.Prod
open Idealize.ShloMosaic Idealize.ShloMosaic.TcCoe Idealize.SL.Sem

section Kernel

open Cert.DmIdeal Cert.DmIdeal.Gen

variable (m : (ℓ : Loc nD τ sig) → Buf (Elt Ideal) ℓ)

theorem pay_apply (a : Vec Ideal S2048x1024 .bf16) (b : Vec Ideal S512x1024 .bf16) (i : Fin 2048) (j : Fin 512) :
    k0_pay1 (F := Ideal) a b (ix2 i j) = mmt (f := .bf16) (g := .bf16) a b i j := by
  pointwise [k0_pay1]
  rfl

theorem idx : ∀ t : Fin cfg0.N, win0_0.index t = ![0, 0] ∧ win0_1.index t = ![t.val, 0] ∧ win0_3.index t = ![0, t.val] ∧ t.val < 2 :=
  (by decide +kernel : ∀ t : Fin grid0.N, _)

abbrev A (c : Dev nD) : FVec Ideal S2048x1024 .bf16 := m ((c : Thread nD τ).loc main_arg0)
abbrev B (c : Dev nD) : FVec Ideal S1024x1024 .bf16 := m ((c : Thread nD τ).loc main_arg1)

abbrev col (t : Fin cfg0.N) (j : Fin 512) : Fin 1024 := ⟨t.val * 512 + j.val, by have := (idx t).2.2.2; omega⟩

theorem a_read (c : Dev nD) (t : Fin cfg0.N) (i : Fin 2048) (e : Fin 1024) :
    (show Vec Ideal S2048x1024 .bf16 from iblk m c 0 t) (ix2 i e) = A m c (ix2 i e) := by
  blk_ext [iblk, V, idx t]
theorem b_read (c : Dev nD) (t : Fin cfg0.N) (e : Fin 1024) (j : Fin 512) :
    (show Vec Ideal S512x1024 .bf16 from iblk m c 1 t) (ix2 j e) = B m c (ix2 (col t j) e) := by
  blk_ext [iblk, V, idx t]

theorem left (c : Dev nD) (t : Fin cfg0.N) : (dats m 0 c).after 3 t = k0_pay1 (F := Ideal) (iblk m c 0 t) (iblk m c 1 t) := by
  rw [after0_3]; frame_out

/-- Every point leaves its own columns of the product. -/
theorem final (c : Dev nD) :
    (dats m 0 c).arrAt 3 (cfgs 0).N = fun i : S2048x1024.Idx => mmt (A m c) (B m c) (i 0) (i 1) := by
  refine (dats m 0 c).arrAt_eq_of_covers 3 _ (by decide +kernel) fun t _ y => ?_
  blk_simp
  rw [left]
  obtain ⟨i, j, rfl⟩ : ∃ (i : Fin 2048) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mmt (A m c) (B m c)) (Fin.ext ?_) (Fin.ext ?_))
  · blk_simp [idx t]
  · blk_simp [idx t]

end Kernel

section Ref

open Cert.DmRefIdeal Cert.DmRefIdeal.Gen Cert.DmRefIdeal.Read

theorem ref_apply (A : FVec Ideal S2048x1024 .bf16) (B : FVec Ideal S1024x1024 .bf16) (i : Fin 2048) (j : Fin 1024) :
    val_main_v4 (F := Ideal) A B (ix2 i j) = mmt A B i j := by
  pointwise [val_main_v4, val_main_v3, val_main_v2, val_main_v1]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.DmRefIdeal.Value.run m ρ)

end Ref

theorem algebraic : Cert.algebraic_DmIdeal_DmRefIdeal := by
  intro m ρ m' ρ' _ hag
  refine ⟨fun c i => mmt (A m c) (B m c) (i 0) (i 1),
    (θ_run _ _ _).mono (fun r h c => ?_) (Cert.DmIdeal.Value.run_blocks m ρ),
    (θ_run _ _ _).mono (fun r h c => ?_) (Cert.DmRefIdeal.Value.run m' ρ')⟩
  · exact ⟨(h c).1.trans (final m c), (h c).2⟩
  · refine ⟨(h c).1.trans ?_, (h c).2⟩
    rw [Cert.DmRefIdeal.Read.val_main_v4_eq, (hag c).1, (hag c).2.1]
    funext i
    exact (congrArg _ (eq_ix2 i)).trans (ref_apply _ _ (i 0) (i 1))

end Cert.DmProof
-- ==== Proof.Dhm.lean ====
/- The gradient at the normalized memory: the kernel's result array and the reference's are one product. -/
module

public import proofs.«01_k».proof.Defs
public import proofs.«01_k».proof.Proof.Gen.DhmIdeal.Value
public import proofs.«01_k».proof.Proof.Gen.DhmRefIdeal.Run
public import proofs.«01_k».proof.Proof.Gen.DhmRefIdeal.Read
public import proofs.«01_k».proof.Proof.Prod
public import Idealize.ShloMosaic.Lib.Pipeline.ValueKit

@[expose] public section

set_option maxRecDepth 16384

noncomputable section

namespace Cert.DhmProof

open Cert.Prod
open Idealize.ShloMosaic Idealize.ShloMosaic.TcCoe Idealize.SL.Sem

section Kernel

open Cert.DhmIdeal Cert.DhmIdeal.Gen

variable (m : (ℓ : Loc nD τ sig) → Buf (Elt Ideal) ℓ)

theorem pay_apply (a : Vec Ideal S256x2048 .f32) (b : Vec Ideal S512x2048 .bf16) (i : Fin 256) (j : Fin 512) :
    k0_pay1 (F := Ideal) a b (ix2 i j) = mmt (f := .f32) (g := .bf16) a b i j := by
  pointwise [k0_pay1]
  rfl

theorem idx : ∀ t : Fin cfg0.N, win0_0.index t = ![0, 0] ∧ win0_1.index t = ![t.val, 0] ∧ win0_2.index t = ![0, t.val] ∧ t.val < 2 :=
  (by decide +kernel : ∀ t : Fin grid0.N, _)

abbrev A (c : Dev nD) : FVec Ideal S256x2048 .f32 := m ((c : Thread nD τ).loc main_arg0)
abbrev B (c : Dev nD) : FVec Ideal S1024x2048 .bf16 := m ((c : Thread nD τ).loc main_arg1)

abbrev col (t : Fin cfg0.N) (j : Fin 512) : Fin 1024 := ⟨t.val * 512 + j.val, by have := (idx t).2.2.2; omega⟩

theorem a_read (c : Dev nD) (t : Fin cfg0.N) (i : Fin 256) (e : Fin 2048) :
    (show Vec Ideal S256x2048 .f32 from iblk m c 0 t) (ix2 i e) = A m c (ix2 i e) := by
  blk_ext [iblk, V, idx t]
theorem b_read (c : Dev nD) (t : Fin cfg0.N) (e : Fin 2048) (j : Fin 512) :
    (show Vec Ideal S512x2048 .bf16 from iblk m c 1 t) (ix2 j e) = B m c (ix2 (col t j) e) := by
  blk_ext [iblk, V, idx t]

theorem left (c : Dev nD) (t : Fin cfg0.N) : (dats m 0 c).after 2 t = k0_pay1 (F := Ideal) (iblk m c 0 t) (iblk m c 1 t) := by
  rw [after0_2]; frame_out

/-- Every point leaves its own columns of the product. -/
theorem final (c : Dev nD) :
    (dats m 0 c).arrAt 2 (cfgs 0).N = fun i : S256x1024.Idx => mmt (A m c) (B m c) (i 0) (i 1) := by
  refine (dats m 0 c).arrAt_eq_of_covers 2 _ (by decide +kernel) fun t _ y => ?_
  blk_simp
  rw [left]
  obtain ⟨i, j, rfl⟩ : ∃ (i : Fin 256) (j : Fin 512), y = ix2 i j := ⟨y 0, y 1, eq_ix2 y⟩
  refine ((pay_apply _ _ i j).trans (Finset.sum_congr rfl fun e _ => congrArg₂ (· * ·) (a_read m c t i e) (b_read m c t e j))).trans
    (congrArg₂ (mmt (A m c) (B m c)) (Fin.ext ?_) (Fin.ext ?_))
  · blk_simp [idx t]
  · blk_simp [idx t]

end Kernel

section Ref

open Cert.DhmRefIdeal Cert.DhmRefIdeal.Gen Cert.DhmRefIdeal.Read

theorem ref_apply (A : FVec Ideal S256x2048 .f32) (B : FVec Ideal S1024x2048 .bf16) (i : Fin 256) (j : Fin 1024) :
    val_main_v3 (F := Ideal) A B (ix2 i j) = mmt A B i j := by
  pointwise [val_main_v3, val_main_v2, val_main_v1]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DhmRefIdeal.Value.run m ρ)

end Ref

theorem algebraic : Cert.algebraic_DhmIdeal_DhmRefIdeal := by
  intro m ρ m' ρ' _ hag
  refine ⟨fun c i => mmt (A m c) (B m c) (i 0) (i 1),
    (θ_run _ _ _).mono (fun r h c => ?_) (Cert.DhmIdeal.Value.run_blocks m ρ),
    (θ_run _ _ _).mono (fun r h c => ?_) (Cert.DhmRefIdeal.Value.run m' ρ')⟩
  · exact ⟨(h c).1.trans (final m c), (h c).2⟩
  · refine ⟨(h c).1.trans ?_, (h c).2⟩
    rw [Cert.DhmRefIdeal.Read.val_main_v3_eq, (hag c).1, (hag c).2]
    funext i
    exact (congrArg _ (eq_ix2 i)).trans (ref_apply _ _ (i 0) (i 1))

end Cert.DhmProof
-- ==== Proof.Dpa.lean ====
/- The gradient at a branch's input, its weight in eight shards of columns: the kernel adds up a product per shard, the reference joins the shards and multiplies once. -/
module

public import proofs.«01_k».proof.Defs
public import proofs.«01_k».proof.Proof.Gen.DpaIdeal.Value
public import proofs.«01_k».proof.Proof.Gen.DpaRefIdeal.Run
public import proofs.«01_k».proof.Proof.Gen.DpaRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DpaProof

open Idealize.ShloMosaic Idealize.ShloMosaic.TcCoe Idealize.SL.Sem

/-- `dy wᵀ` at row `q` and column `e`; column `f` of `w` is column `f % 128` of shard `f / 128`. -/
def back (Y : FVec Ideal ⟨2, ![2048, 1024]⟩ .bf16) (W : FVec Ideal ⟨3, ![8, 256, 128]⟩ .bf16) (q : Fin 2048) (e : Fin 256) : EReal :=
  ∑ f : Fin 1024, Y (ix2 q f) * W (ix3 ⟨f.val / 128, by omega⟩ e ⟨f.val % 128, by omega⟩)

section Kernel

open Cert.DpaIdeal Cert.DpaIdeal.Gen

variable (m : (ℓ : Loc nD τ sig) → Buf (Elt Ideal) ℓ)

theorem first_apply (y : Vec Ideal S2048x128 .bf16) (w : Vec Ideal S1x256x128 .bf16) (i : S2048x256.Idx) :
    k0_pay2 (F := Ideal) y w i = k0_pay1 (F := Ideal) y w i := by
  pointwise [k0_pay2]
theorem add_apply (y : Vec Ideal S2048x128 .bf16) (w : Vec Ideal S1x256x128 .bf16) (a : Vec Ideal S2048x256 .f32) (i : S2048x256.Idx) :
    k0_pay3 (F := Ideal) y w a i = a i + k0_pay1 (F := Ideal) y w i := by
  pointwise [k0_pay3]
theorem part_apply (y : Vec Ideal S2048x128 .bf16) (w : Vec Ideal S1x256x128 .bf16) (q : Fin 2048) (e : Fin 256) :
    k0_pay1 (F := Ideal) y w (ix2 q e) = ∑ f : Fin 128, y (ix2 q f) * w (ix3 0 e f) := by
  pointwise [k0_pay1]

theorem idx : ∀ t : Fin cfg0.N, win0_0.index t = ![0, t.val] ∧ win0_1.index t = ![t.val, 0, 0] ∧ win0_2.index t = ![0, 0] ∧ t.val < 8 :=
  (by decide +kernel : ∀ t : Fin grid0.N, _)

abbrev Y (c : Dev nD) : FVec Ideal S2048x1024 .bf16 := m ((c : Thread nD τ).loc main_arg0)
abbrev W (c : Dev nD) : FVec Ideal S8x256x128 .bf16 := m ((c : Thread nD τ).loc main_arg1)

abbrev shard (t : Fin cfg0.N) : Fin 8 := ⟨t.val, (idx t).2.2.2⟩

theorem y_read (c : Dev nD) (t : Fin cfg0.N) (q : Fin 2048) (f : Fin 128) :
    (show Vec Ideal S2048x128 .bf16 from iblk m c 0 t) (ix2 q f) = Y m c (ix2 q ⟨(shard t).val * 128 + f.val, by omega⟩) := by
  blk_ext [iblk, V, idx t]
theorem w_read (c : Dev nD) (t : Fin cfg0.N) (e : Fin 256) (f : Fin 128) :
    (show Vec Ideal S1x256x128 .bf16 from iblk m c 1 t) (ix3 0 e f) = W m c (ix3 (shard t) e f) := by
  blk_ext [iblk, V, idx t]

/-- The running sum grows by a shard's product. -/
theorem step_acc (c : Dev nD) (t : Fin cfg0.N) (h : ¬t.val % 8 = 0) (i : S2048x256.Idx) : (outsAt0 m c t.val t.isLt).2 i
    = (outsAt0 m c (t.val - 1) (Nat.lt_of_le_of_lt (Nat.sub_le _ _) t.isLt)).2 i + k0_pay1 (F := Ideal) (iblk m c 0 t) (iblk m c 1 t) i := by
  by_cases h7 : t.val % 8 = 7
  · rw [outsAt0_C m c t h (by omega) h7]; frame_out; rw [read_unread_whole]; exact add_apply _ _ _ i
  · rw [outsAt0_B m c t h (by omega) h7]; frame_out; rw [read_unread_whole]; exact add_apply _ _ _ i

/-- The last shard's point leaves the running sum. -/
theorem left (c : Dev nD) (t : Fin cfg0.N) (h7 : t.val % 8 = 7) : (outsAt0 m c t.val t.isLt).1 = (outsAt0 m c t.val t.isLt).2 := by
  rw [outsAt0_C m c t (by omega) (by omega) h7]; frame_out

theorem final (c : Dev nD) :
    (dats m 0 c).arrAt 2 (cfgs 0).N = fun i : S2048x256.Idx => back (Y m c) (W m c) (i 0) (i 1) := by
  refine (dats m 0 c).arrAt_eq_of_covers 2 _ (by decide +kernel) fun t hf y => ?_
  have h7 : t.val % 8 = 8 - 1 := (flush0_2 t).mp hf
  blk_simp
  rw [after0_2, left m c t h7, Pipeline.eq_sum_fin_of_reset_step_apply_of_flush (fun n h => (outsAt0 m c n h).2) 8 (fun _ => 0)
    (fun t => k0_pay1 (F := Ideal) (iblk m c 0 t) (iblk m c 1 t))
    (fun t h j => by rw [outsAt0_A m c t h (by have := (idx t).2.2.2; omega) (by omega)]; frame_out; rw [zero_add]; exact first_apply _ _ j)
    (step_acc m c) t h7 _, zero_add]
  obtain ⟨q, e, rfl⟩ : ∃ (q : Fin 2048) (e : Fin 256), y = ix2 q e := ⟨y 0, y 1, eq_ix2 y⟩
  have hq : ((win0_2.blk t).view.emb (ix2 q e) 0) = q := Fin.ext (by blk_simp [idx t])
  have he : ((win0_2.blk t).view.emb (ix2 q e) 1) = e := Fin.ext (by blk_simp [idx t])
  refine Eq.trans ?_ (congrArg₂ (back (Y m c) (W m c)) hq he).symm
  refine (Fin.sum_fin_congr fun s => part_apply _ _ q e).trans (Fin.sum_mul_add_congr fun s f hl => ?_)
  have ht := (idx t).2.2.2
  refine congrArg₂ (· * ·) ((y_read m c _ q f).trans (congrArg (fun k => Y m c (ix2 q k)) (Fin.ext ?_))) ((w_read m c _ e f).trans
    (congrArg₂ (fun a b => W m c (ix3 a e b)) (Fin.ext ?_) (Fin.ext ?_)))
  · show (8 * (t.val / 8) + s.val) * 128 + f.val = s.val * 128 + f.val
    omega
  · show 8 * (t.val / 8) + s.val = (s.val * 128 + f.val) / 128
    omega
  · show f.val = (s.val * 128 + f.val) % 128
    omega

end Kernel

section Ref

open Cert.DpaRefIdeal Cert.DpaRefIdeal.Gen Cert.DpaRefIdeal.Read

theorem ref_apply (Y : FVec Ideal S2048x1024 .bf16) (W : FVec Ideal S8x256x128 .bf16) (q : Fin 2048) (e : Fin 256) :
    val_main_v6 (F := Ideal) Y W (ix2 q e) = back Y W q e := by
  pointwise [val_main_v6, val_main_v5, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Cert.DpaRefIdeal.Value.run m ρ)

end Ref

theorem algebraic : Cert.algebraic_DpaIdeal_DpaRefIdeal := by
  intro m ρ m' ρ' _ hag
  refine ⟨fun c i => back (Y m c) (W m c) (i 0) (i 1),
    (θ_run _ _ _).mono (fun r h c => ?_) (Cert.DpaIdeal.Value.run_blocks m ρ),
    (θ_run _ _ _).mono (fun r h c => ?_) (Cert.DpaRefIdeal.Value.run m' ρ')⟩
  · exact ⟨(h c).1.trans (final m c), (h c).2⟩
  · refine ⟨(h c).1.trans ?_, (h c).2⟩
    rw [Cert.DpaRefIdeal.Read.val_main_v6_eq, (hag c).1, (hag c).2]
    funext i
    exact (congrArg _ (eq_ix2 i)).trans (ref_apply _ _ (i 0) (i 1))

end Cert.DpaProof

end
-- ==== Proof.Do.lean ====
/- The gradient at the attention's output, its weight in eight shards of columns: the kernel adds up a product per shard, the reference joins the shards and multiplies once. -/
module

public import proofs.«01_k».proof.Defs
public import proofs.«01_k».proof.Proof.Gen.DoIdeal.Value
public import proofs.«01_k».proof.Proof.Gen.DoRefIdeal.Run
public import proofs.«01_k».proof.Proof.Gen.DoRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DoProof

open Idealize.ShloMosaic Idealize.ShloMosaic.TcCoe Idealize.SL.Sem

/-- `dy wᵀ` at row `q` and column `e`; column `f` of `w` is column `f % 128` of shard `f / 128`. -/
def back (Y : FVec Ideal ⟨2, ![2048, 1024]⟩ .bf16) (W : FVec Ideal ⟨3, ![8, 512, 128]⟩ .bf16) (q : Fin 2048) (e : Fin 512) : EReal :=
  ∑ f : Fin 1024, Y (ix2 q f) * W (ix3 ⟨f.val / 128, by omega⟩ e ⟨f.val % 128, by omega⟩)

section Kernel

open Cert.DoIdeal Cert.DoIdeal.Gen

variable (m : (ℓ : Loc nD τ sig) → Buf (Elt Ideal) ℓ)

theorem first_apply (y : Vec Ideal S2048x128 .bf16) (w : Vec Ideal S1x512x128 .bf16) (i : S2048x512.Idx) :
    k0_pay2 (F := Ideal) y w i = k0_pay1 (F := Ideal) y w i := by
  pointwise [k0_pay2]
theorem add_apply (y : Vec Ideal S2048x128 .bf16) (w : Vec Ideal S1x512x128 .bf16) (a : Vec Ideal S2048x512 .f32) (i : S2048x512.Idx) :
    k0_pay3 (F := Ideal) y w a i = a i + k0_pay1 (F := Ideal) y w i := by
  pointwise [k0_pay3]
theorem cast_apply (a : Vec Ideal S2048x512 .f32) (i : S2048x512.Idx) : k0_pay4 (F := Ideal) a i = a i := by
  pointwise [k0_pay4]
theorem part_apply (y : Vec Ideal S2048x128 .bf16) (w : Vec Ideal S1x512x128 .bf16) (q : Fin 2048) (e : Fin 512) :
    k0_pay1 (F := Ideal) y w (ix2 q e) = ∑ f : Fin 128, y (ix2 q f) * w (ix3 0 e f) := by
  pointwise [k0_pay1]

theorem idx : ∀ t : Fin cfg0.N, win0_0.index t = ![0, t.val] ∧ win0_1.index t = ![t.val, 0, 0] ∧ win0_3.index t = ![0, 0] ∧ t.val < 8 :=
  (by decide +kernel : ∀ t : Fin grid0.N, _)

abbrev Y (c : Dev nD) : FVec Ideal S2048x1024 .bf16 := m ((c : Thread nD τ).loc main_arg0)
abbrev W (c : Dev nD) : FVec Ideal S8x512x128 .bf16 := m ((c : Thread nD τ).loc main_arg1)

abbrev shard (t : Fin cfg0.N) : Fin 8 := ⟨t.val, (idx t).2.2.2⟩

theorem y_read (c : Dev nD) (t : Fin cfg0.N) (q : Fin 2048) (f : Fin 128) :
    (show Vec Ideal S2048x128 .bf16 from iblk m c 0 t) (ix2 q f) = Y m c (ix2 q ⟨(shard t).val * 128 + f.val, by omega⟩) := by
  blk_ext [iblk, V, idx t]
theorem w_read (c : Dev nD) (t : Fin cfg0.N) (e : Fin 512) (f : Fin 128) :
    (show Vec Ideal S1x512x128 .bf16 from iblk m c 1 t) (ix3 0 e f) = W m c (ix3 (shard t) e f) := by
  blk_ext [iblk, V, idx t]

/-- The running sum grows by a shard's product. -/
theorem step_acc (c : Dev nD) (t : Fin cfg0.N) (h : ¬t.val % 8 = 0) (i : S2048x512.Idx) : (outsAt0 m c t.val t.isLt).2 i
    = (outsAt0 m c (t.val - 1) (Nat.lt_of_le_of_lt (Nat.sub_le _ _) t.isLt)).2 i + k0_pay1 (F := Ideal) (iblk m c 0 t) (iblk m c 1 t) i := by
  by_cases h7 : t.val % 8 = 7
  · rw [outsAt0_C m c t h (by omega) h7]; frame_out; rw [read_unread_whole]; exact add_apply _ _ _ i
  · rw [outsAt0_B m c t h (by omega) h7]; frame_out; rw [read_unread_whole]; exact add_apply _ _ _ i

/-- The last shard's point leaves the running sum. -/
theorem left (c : Dev nD) (t : Fin cfg0.N) (h7 : t.val % 8 = 7) (i : S2048x512.Idx) : (outsAt0 m c t.val t.isLt).1 i = (outsAt0 m c t.val t.isLt).2 i := by
  rw [outsAt0_C m c t (by omega) (by omega) h7]; frame_out; exact cast_apply _ i

theorem final (c : Dev nD) :
    (dats m 0 c).arrAt 3 (cfgs 0).N = fun i : S2048x512.Idx => back (Y m c) (W m c) (i 0) (i 1) := by
  refine (dats m 0 c).arrAt_eq_of_covers 3 _ (by decide +kernel) fun t hf y => ?_
  have h7 : t.val % 8 = 8 - 1 := (flush0_3 t).mp hf
  blk_simp
  rw [after0_3, left m c t h7 _, Pipeline.eq_sum_fin_of_reset_step_apply_of_flush (fun n h => (outsAt0 m c n h).2) 8 (fun _ => 0)
    (fun t => k0_pay1 (F := Ideal) (iblk m c 0 t) (iblk m c 1 t))
    (fun t h j => by rw [outsAt0_A m c t h (by have := (idx t).2.2.2; omega) (by omega)]; frame_out; rw [zero_add]; exact first_apply _ _ j)
    (step_acc m c) t h7 _, zero_add]
  obtain ⟨q, e, rfl⟩ : ∃ (q : Fin 2048) (e : Fin 512), y = ix2 q e := ⟨y 0, y 1, eq_ix2 y⟩
  have hq : ((win0_3.blk t).view.emb (ix2 q e) 0) = q := Fin.ext (by blk_simp [idx t])
  have he : ((win0_3.blk t).view.emb (ix2 q e) 1) = e := Fin.ext (by blk_simp [idx t])
  refine Eq.trans ?_ (congrArg₂ (back (Y m c) (W m c)) hq he).symm
  refine (Fin.sum_fin_congr fun s => part_apply _ _ q e).trans (Fin.sum_mul_add_congr fun s f hl => ?_)
  have ht := (idx t).2.2.2
  refine congrArg₂ (· * ·) ((y_read m c _ q f).trans (congrArg (fun k => Y m c (ix2 q k)) (Fin.ext ?_))) ((w_read m c _ e f).trans
    (congrArg₂ (fun a b => W m c (ix3 a e b)) (Fin.ext ?_) (Fin.ext ?_)))
  · show (8 * (t.val / 8) + s.val) * 128 + f.val = s.val * 128 + f.val
    omega
  · show 8 * (t.val / 8) + s.val = (s.val * 128 + f.val) / 128
    omega
  · show f.val = (s.val * 128 + f.val) % 128
    omega

end Kernel

section Ref

open Cert.DoRefIdeal Cert.DoRefIdeal.Gen Cert.DoRefIdeal.Read

theorem ref_apply (Y : FVec Ideal S2048x1024 .bf16) (W : FVec Ideal S8x512x128 .bf16) (q : Fin 2048) (e : Fin 512) :
    val_main_v7 (F := Ideal) Y W (ix2 q e) = back Y W q e := by
  pointwise [val_main_v7, val_main_v6, val_main_v5, val_main_v2, val_main_v1, val_main_v0]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.DoRefIdeal.Value.run m ρ)

end Ref

theorem algebraic : Cert.algebraic_DoIdeal_DoRefIdeal := by
  intro m ρ m' ρ' _ hag
  refine ⟨fun c i => back (Y m c) (W m c) (i 0) (i 1),
    (θ_run _ _ _).mono (fun r h c => ?_) (Cert.DoIdeal.Value.run_blocks m ρ),
    (θ_run _ _ _).mono (fun r h c => ?_) (Cert.DoRefIdeal.Value.run m' ρ')⟩
  · exact ⟨(h c).1.trans (final m c), (h c).2⟩
  · refine ⟨(h c).1.trans ?_, (h c).2⟩
    rw [Cert.DoRefIdeal.Read.val_main_v7_eq, (hag c).1, (hag c).2.1]
    funext i
    exact (congrArg _ (eq_ix2 i)).trans (ref_apply _ _ (i 0) (i 1))

end Cert.DoProof

end
-- ==== Proof.DhfIdealRun.lean ====
/- The run of `DhfIdeal`: the body at the three kinds of points, the product accumulated over the eight blocks of a row and the gain's
   gradient carried from the first row to the second. -/
module

public import proofs.«01_k».proof.Proof.Gen.DhfIdeal.Frame
public import proofs.«01_k».proof.Proof.Gen.DhfIdeal.Skeleton
public import Idealize.ShloMosaic.Lib.Claim
public import Idealize.ShloMosaic.Lib.Pipeline.TableIdle
public import Idealize.ShloMosaic.Lib.Pipeline.ValueKit.Basic

@[expose] public section

set_option maxRecDepth 16384

noncomputable section

namespace Cert.DhfIdealRun

open Cert.DhfIdeal Cert.DhfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rect : Rect S1024x1024 := Rect.unit (s := S1024x1024) ![0, 0] S1024x1024.size inb_S1024x1024_S1024x1024_0_0
abbrev row : Rect S1x1024 := Rect.unit (s := S1x1024) ![0, 0] S1x1024.size inb_S1x1024_S1x1024_0_0
abbrev dzr : Rect S1024x512 := Rect.unit (s := S1024x512) ![0, 0] S1024x512.size inb_S1024x512_S1024x512_0_0
abbrev wr : Rect S1x1024x512 := Rect.unit (s := S1x1024x512) ![0, 0, 0] S1x1024x512.size inb_S1x1024x512_S1x1024x512_0_0_0

theorem rect_cover {φ : EltTy} (p : Vec F S1024x1024 φ) (y : S1024x1024.Idx) :
    ∃ pc ∈ ([⟨rect, p⟩] : List (View.Piece (Elt F) S1024x1024 φ)), y ∈ pc.1.set :=
  View.cover_of_tiled [⟨rect, p⟩] S1024x1024.size (by rfl) y
theorem row_cover (p : Vec F S1x1024 .f32) (y : S1x1024.Idx) :
    ∃ pc ∈ ([⟨row, p⟩] : List (View.Piece (Elt F) S1x1024 .f32)), y ∈ pc.1.set :=
  View.cover_of_tiled [⟨row, p⟩] S1x1024.size (by rfl) y

/-- The point is the first of its row, -/
abbrev isFirst (i : grid0.Coords) : Prop := Scalar.cmpi .ne (Scalar.extui (Scalar.cmpi .eq (BitVec.ofNat 32 (i 2).val) 0#32)) 0#32 = 1#1
/-- a later one, -/
abbrev isLater (i : grid0.Coords) : Prop := Scalar.cmpi .ne (Scalar.extui (Scalar.cmpi .sgt (BitVec.ofNat 32 (i 2).val) 0#32)) 0#32 = 1#1
/-- or the last. -/
abbrev isLast (i : grid0.Coords) : Prop := k0_cond3 i = 1#1

theorem first_iff : ∀ t : Fin cfg0.N, isFirst (grid0.coords t) ↔ t.val % 8 = 0 :=
  (by decide +kernel : ∀ t : Fin grid0.N, isFirst (grid0.coords t) ↔ t.val % 8 = 0)
theorem later_iff : ∀ t : Fin cfg0.N, isLater (grid0.coords t) ↔ t.val % 8 ≠ 0 :=
  (by decide +kernel : ∀ t : Fin grid0.N, isLater (grid0.coords t) ↔ t.val % 8 ≠ 0)
theorem last_iff : ∀ t : Fin cfg0.N, isLast (grid0.coords t) ↔ t.val % 8 = 7 :=
  (by decide +kernel : ∀ t : Fin grid0.N, isLast (grid0.coords t) ↔ t.val % 8 = 7)

theorem idle_5 (t : Fin cfg0.N) (h : ¬ t.val % 8 = 7) : cfg0.idle 5 (grid0.coords t) = true :=
  (by decide +kernel : ∀ t : Fin grid0.N, ¬ t.val % 8 = 7 → cfg0.idle 5 (grid0.coords t) = true) t h
theorem idle_6 (t : Fin cfg0.N) (h : ¬ t.val % 8 = 7) : cfg0.idle 6 (grid0.coords t) = true :=
  (by decide +kernel : ∀ t : Fin grid0.N, ¬ t.val % 8 = 7 → cfg0.idle 6 (grid0.coords t) = true) t h
theorem idle_7 (t : Fin cfg0.N) (h : ¬ t.val % 8 = 7) : cfg0.idle 7 (grid0.coords t) = true :=
  (by decide +kernel : ∀ t : Fin grid0.N, ¬ t.val % 8 = 7 → cfg0.idle 7 (grid0.coords t) = true) t h
theorem live_5 (t : Fin cfg0.N) (h : t.val % 8 = 7) : cfg0.idle 5 (grid0.coords t) = false :=
  (by decide +kernel : ∀ t : Fin grid0.N, t.val % 8 = 7 → cfg0.idle 5 (grid0.coords t) = false) t h
theorem live_6 (t : Fin cfg0.N) (h : t.val % 8 = 7) : cfg0.idle 6 (grid0.coords t) = false :=
  (by decide +kernel : ∀ t : Fin grid0.N, t.val % 8 = 7 → cfg0.idle 6 (grid0.coords t) = false) t h
theorem live_7 (t : Fin cfg0.N) (h : t.val % 8 = 7) : cfg0.idle 7 (grid0.coords t) = false :=
  (by decide +kernel : ∀ t : Fin grid0.N, t.val % 8 = 7 → cfg0.idle 7 (grid0.coords t) = false) t h
theorem kept_5 (t : Fin cfg0.N) (h : ¬ t.val % 8 = 7) : (cfg0.win 5).flush t = false :=
  Bool.eq_false_of_not_eq_true fun e => h ((flush0_5 t).mp e)
theorem kept_6 (t : Fin cfg0.N) (h : ¬ t.val % 8 = 7) : (cfg0.win 6).flush t = false :=
  Bool.eq_false_of_not_eq_true fun e => h ((flush0_6 t).mp e)
theorem kept_7 (t : Fin cfg0.N) (h : ¬ t.val % 16 = 15) : (cfg0.win 7).flush t = false :=
  Bool.eq_false_of_not_eq_true fun e => h ((flush0_7 t).mp e)

/-- The accumulated product after the first block of a row, -/
def start (x0 : Vec F S1024x512 .bf16) (x1 : Vec F S1x1024x512 .bf16) : Vec F S1024x1024 .f32 :=
  k0_pay2 (View.ld x0 dzr) (View.ld x1 wr)
/-- after a later one, -/
def step (x0 : Vec F S1024x512 .bf16) (x1 : Vec F S1x1024x512 .bf16) (s : Vec F S1024x1024 .f32) : Vec F S1024x1024 .f32 :=
  k0_pay3 (View.ld x0 dzr) (View.ld x1 wr) (View.ld s rect)
/-- the residual's gradient from the whole product, -/
def dx (s x2 x3 : Vec F S1024x1024 .f32) (x4 : Vec F S1x1024 .f32) : Vec F S1024x1024 .f32 :=
  k0_pay7 s (View.ld x2 rect) (View.ld x3 rect) (View.ld x4 row)
/-- the same rounded, -/
def dxb (s x2 x3 : Vec F S1024x1024 .f32) (x4 : Vec F S1x1024 .f32) : Vec F S1024x1024 .bf16 :=
  k0_pay9 s (View.ld x2 rect) (View.ld x3 rect) (View.ld x4 row)
/-- and the gain's gradient, where the buffer held `z`. -/
def dg (i : grid0.Coords) (s x2 : Vec F S1024x1024 .f32) (z : Vec F S1x1024 .f32) : Vec F S1x1024 .f32 :=
  k0_pay4 (k0_pay8 s (View.ld x2 rect)) (Scalar.cmpi .eq (BitVec.ofNat 32 (i 0).val) 0#32) (k0_pay10 (View.ld z row))

/-- In the first row what the buffer held is not used. -/
theorem dg_first (i : grid0.Coords) (hi : (i 0).val = 0) (s x2 : Vec F S1024x1024 .f32) (z z' : Vec F S1x1024 .f32) :
    dg i s x2 z = dg i s x2 z' := by
  unfold dg k0_pay4
  rw [hi]
  rfl

theorem read_rect {φ : EltTy} {v : View sig .tc .vmem S1024x1024 φ} (f : v.ty.Contents (Elt F)) (p : Vec F S1024x1024 φ) :
    v.read (Elt F) (v.writes (Elt F) f [⟨rect, p⟩]) = p :=
  (View.read_writes_eq_canon _ _ _ (rect_cover _)).trans (View.canon_cons_unit_lit _ _ _ (by decide))
theorem read_row {v : View sig .tc .vmem S1x1024 .f32} (f : v.ty.Contents (Elt F)) (p : Vec F S1x1024 .f32) :
    v.read (Elt F) (v.writes (Elt F) f [⟨row, p⟩]) = p :=
  (View.read_writes_eq_canon _ _ _ (row_cover _)).trans (View.canon_cons_unit_lit _ _ _ (by decide))
theorem back_rect (v : View sig .tc .vmem S1024x1024 .f32) (p : Vec F S1024x1024 .f32) :
    v.readCov [(⟨rect, p⟩ : View.Piece (Elt F) S1024x1024 .f32)] rect.toLoadRect = p :=
  View.readCov_unit_lit v _ _ (by decide)

set_option maxHeartbeats 1600000 in
/-- The first point of a row starts the product. -/
theorem run_first (c : Dev nD) (E : Set ℕ) (i : grid0.Coords) (arg3 : Memref sig .tc .vmem S1024x512 .bf16) (harg3 : arg3.IsWhole)
    (arg4 : Memref sig .tc .vmem S1x1024x512 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .bf16) (harg9 : arg9.IsWhole)
    (arg10 : Memref sig .tc .vmem S1x1024 .f32) (harg10 : arg10.IsWhole) (arg11 : Memref sig .tc .vmem S1024x1024 .f32) (harg11 : arg11.IsWhole)
    (x0 : Vec F S1024x512 .bf16) (x1 : Vec F S1x1024x512 .bf16) (x2 x3 : Vec F S1024x1024 .f32) (x4 : Vec F S1x1024 .f32)
    (y5 : Vec F S1024x1024 .f32) (y6 : Vec F S1024x1024 .bf16) (z : Vec F S1x1024 .f32) (s : Vec F S1024x1024 .f32) (K : PUnit → sProp 𝕄)
    (h1 : isFirst i) (h2 : ¬isLater i) (h3 : ¬isLast i) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare y5 ∗ owns (c : Thread nD τ) arg9 fullShare y6
        ∗ owns (c : Thread nD τ) arg10 fullShare z ∗ owns (c : Thread nD τ) arg11 fullShare s
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare y5 ∗ owns (c : Thread nD τ) arg9 fullShare y6
          ∗ owns (c : Thread nD τ) arg10 fullShare z ∗ owns (c : Thread nD τ) arg11 fullShare (start x0 x1)) -∗ K ⟨⟩))
      ⊢ wp frame (wpE (defs₀ (F := F)) Variants.none c none) E
        (cc0_dhf i arg3 harg3 arg4 harg4 arg5 harg5 arg6 harg6 arg7 harg7 arg8 harg8 arg9 harg9 arg10 harg10 arg11 harg11) K := by
  simp only [cc0_dhf_eq_skeleton]; unfold cc0_dhf_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%fs, %hfs, HS⟩, Hk⟩
  subst hf0 hf1 hf2 hf3 hf4 hf5 hf6 hf7 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  exact read_rect _ _

set_option maxHeartbeats 1600000 in
/-- A middle point adds its block. -/
theorem run_mid (c : Dev nD) (E : Set ℕ) (i : grid0.Coords) (arg3 : Memref sig .tc .vmem S1024x512 .bf16) (harg3 : arg3.IsWhole)
    (arg4 : Memref sig .tc .vmem S1x1024x512 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .bf16) (harg9 : arg9.IsWhole)
    (arg10 : Memref sig .tc .vmem S1x1024 .f32) (harg10 : arg10.IsWhole) (arg11 : Memref sig .tc .vmem S1024x1024 .f32) (harg11 : arg11.IsWhole)
    (x0 : Vec F S1024x512 .bf16) (x1 : Vec F S1x1024x512 .bf16) (x2 x3 : Vec F S1024x1024 .f32) (x4 : Vec F S1x1024 .f32)
    (y5 : Vec F S1024x1024 .f32) (y6 : Vec F S1024x1024 .bf16) (z : Vec F S1x1024 .f32) (s : Vec F S1024x1024 .f32) (K : PUnit → sProp 𝕄)
    (h1 : ¬isFirst i) (h2 : isLater i) (h3 : ¬isLast i) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare y5 ∗ owns (c : Thread nD τ) arg9 fullShare y6
        ∗ owns (c : Thread nD τ) arg10 fullShare z ∗ owns (c : Thread nD τ) arg11 fullShare s
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare y5 ∗ owns (c : Thread nD τ) arg9 fullShare y6
          ∗ owns (c : Thread nD τ) arg10 fullShare z ∗ owns (c : Thread nD τ) arg11 fullShare (step x0 x1 s)) -∗ K ⟨⟩))
      ⊢ wp frame (wpE (defs₀ (F := F)) Variants.none c none) E
        (cc0_dhf i arg3 harg3 arg4 harg4 arg5 harg5 arg6 harg6 arg7 harg7 arg8 harg8 arg9 harg9 arg10 harg10 arg11 harg11) K := by
  simp only [cc0_dhf_eq_skeleton]; unfold cc0_dhf_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%fs, %hfs, HS⟩, Hk⟩
  subst hf0 hf1 hf2 hf3 hf4 hf5 hf6 hf7 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  exact read_rect _ _

set_option maxHeartbeats 1600000 in
/-- The last point adds its block and leaves the row's results. -/
theorem run_last (c : Dev nD) (E : Set ℕ) (i : grid0.Coords) (arg3 : Memref sig .tc .vmem S1024x512 .bf16) (harg3 : arg3.IsWhole)
    (arg4 : Memref sig .tc .vmem S1x1024x512 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .bf16) (harg9 : arg9.IsWhole)
    (arg10 : Memref sig .tc .vmem S1x1024 .f32) (harg10 : arg10.IsWhole) (arg11 : Memref sig .tc .vmem S1024x1024 .f32) (harg11 : arg11.IsWhole)
    (x0 : Vec F S1024x512 .bf16) (x1 : Vec F S1x1024x512 .bf16) (x2 x3 : Vec F S1024x1024 .f32) (x4 : Vec F S1x1024 .f32)
    (y5 : Vec F S1024x1024 .f32) (y6 : Vec F S1024x1024 .bf16) (z : Vec F S1x1024 .f32) (s : Vec F S1024x1024 .f32) (K : PUnit → sProp 𝕄)
    (h1 : ¬isFirst i) (h2 : isLater i) (h3 : isLast i) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ owns (c : Thread nD τ) arg8 fullShare y5 ∗ owns (c : Thread nD τ) arg9 fullShare y6
        ∗ owns (c : Thread nD τ) arg10 fullShare z ∗ owns (c : Thread nD τ) arg11 fullShare s
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (dx (step x0 x1 s) x2 x3 x4) ∗ owns (c : Thread nD τ) arg9 fullShare (dxb (step x0 x1 s) x2 x3 x4)
          ∗ owns (c : Thread nD τ) arg10 fullShare (dg i (step x0 x1 s) x2 z) ∗ owns (c : Thread nD τ) arg11 fullShare (step x0 x1 s)) -∗ K ⟨⟩))
      ⊢ wp frame (wpE (defs₀ (F := F)) Variants.none c none) E
        (cc0_dhf i arg3 harg3 arg4 harg4 arg5 harg5 arg6 harg6 arg7 harg7 arg8 harg8 arg9 harg9 arg10 harg10 arg11 harg11) K := by
  simp only [cc0_dhf_eq_skeleton]; unfold cc0_dhf_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%fs, %hfs, HS⟩, Hk⟩
  subst hf0 hf1 hf2 hf3 hf4 hf5 hf6 hf7 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (read_rect _ _).trans (congrArg (fun u => k0_pay7 u _ _ _) (back_rect _ _))
  isplitl [H6]
  · iexists _; isplitr
    swap; · iexact H6
    ipureintro
    exact (read_rect _ _).trans (congrArg (fun u => k0_pay9 u _ _ _) (back_rect _ _))
  isplitl [H7]
  · iexists _; isplitr
    swap; · iexact H7
    ipureintro
    exact (read_row _ _).trans (congrArg (fun u => k0_pay4 (k0_pay8 u _) _ _) (back_rect _ _))
  iexists _; isplitr
  swap; · iexact HS
  ipureintro
  exact read_rect _ _

/-- The accumulated product after each point, -/
def prod (c : Dev nD) : (n : ℕ) → n < cfg0.N → Vec F S1024x1024 .f32
  | 0, h => start (iblk m c 0 ⟨0, h⟩) (iblk m c 1 ⟨0, h⟩)
  | n + 1, h => if (n + 1) % 8 = 0 then start (iblk m c 0 ⟨n + 1, h⟩) (iblk m c 1 ⟨n + 1, h⟩)
      else step (iblk m c 0 ⟨n + 1, h⟩) (iblk m c 1 ⟨n + 1, h⟩) (prod c n (Nat.lt_of_succ_lt h))

theorem prod_first (c : Dev nD) (t : Fin cfg0.N) (h : t.val % 8 = 0) : prod m c t.val t.isLt = start (iblk m c 0 t) (iblk m c 1 t) := by
  obtain ⟨n, hn⟩ := t
  cases n with
  | zero => rfl
  | succ n => exact if_pos h

theorem prod_later (c : Dev nD) (t : Fin cfg0.N) (h : ¬ t.val % 8 = 0) :
    prod m c t.val t.isLt = step (iblk m c 0 t) (iblk m c 1 t) (prod m c (t.val - 1) (Nat.lt_of_le_of_lt (Nat.sub_le _ _) t.isLt)) := by
  obtain ⟨n, hn⟩ := t
  cases n with
  | zero => exact absurd rfl h
  | succ n => exact if_neg h

/-- and the gain's gradient. -/
def acc (c : Dev nD) : (n : ℕ) → n < cfg0.N → Vec F S1x1024 .f32
  | 0, _ => View.canon []
  | n + 1, h => if (n + 1) % 8 = 7 then dg (grid0.coords ⟨n + 1, h⟩) (prod m c (n + 1) h) (iblk m c 2 ⟨n + 1, h⟩) (acc c n (Nat.lt_of_succ_lt h))
      else acc c n (Nat.lt_of_succ_lt h)

theorem acc_idle (c : Dev nD) (t : Fin cfg0.N) (hz : t.val ≠ 0) (h : ¬ t.val % 8 = 7) :
    acc m c t.val t.isLt = acc m c (t.val - 1) (Nat.lt_of_le_of_lt (Nat.sub_le _ _) t.isLt) := by
  obtain ⟨n, hn⟩ := t
  cases n with
  | zero => exact absurd rfl hz
  | succ n => exact if_neg h

theorem acc_live (c : Dev nD) (t : Fin cfg0.N) (h : t.val % 8 = 7) (z : Vec F S1x1024 .f32)
    (hz : t.val = 15 → z = acc m c (t.val - 1) (Nat.lt_of_le_of_lt (Nat.sub_le _ _) t.isLt)) :
    acc m c t.val t.isLt = dg (grid0.coords t) (prod m c t.val t.isLt) (iblk m c 2 t) z := by
  have hN : t.val < 16 := lt_of_lt_of_eq t.isLt N_0
  by_cases h15 : t.val = 15
  · rw [hz h15]
    obtain ⟨n, hn⟩ := t
    cases n with
    | zero => exact absurd h15 (by simp)
    | succ n => exact if_pos h
  · obtain ⟨n, hn⟩ := t
    obtain rfl : n = 7 := by dsimp only at h h15 hN; omega
    exact (if_pos (by decide)).trans (dg_first _ (show (grid0.coords (⟨7, by decide⟩ : Fin grid0.N) 0).val = 0 by decide +kernel) _ _ _ _)

abbrev scratch : Memref sig .tc .vmem S1024x1024 .f32 := Memref.whole cc0_scratch0

theorem plain_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Between the points: the scratch at the accumulated product. -/
def between (c : Dev nD) : (n : ℕ) → n ≤ cfg0.N → sProp 𝕄
  | 0, _ => Pipeline.ΦA spec0 c
  | n + 1, hn => iprop(iprop(owns (c : Thread nD τ) scratch fullShare (prod m c n hn)) ∗ (∃ r, prngReg c r))

theorem between_succ (c : Dev nD) (n : ℕ) (hn : n < cfg0.N) :
    between m c (n + 1) hn = iprop(iprop(owns (c : Thread nD τ) scratch fullShare (prod m c n hn)) ∗ (∃ r, prngReg c r)) := rfl

theorem between_pos (c : Dev nD) (n : ℕ) (h : n ≤ cfg0.N) (hz : n ≠ 0) :
    between m c n h = iprop(iprop(owns (c : Thread nD τ) scratch fullShare (prod m c (n - 1) (by omega))) ∗ (∃ r, prngReg c r)) := by
  cases n with
  | zero => exact absurd rfl hz
  | succ n => rfl

theorem between_any (c : Dev nD) (n : ℕ) (h : n ≤ cfg0.N) :
    between m c n h ⊢ iprop(iprop((∃ d, owns (c : Thread nD τ) scratch fullShare d)) ∗ (∃ r, prngReg c r)) := by
  cases n with
  | zero => rw [← plain_eq]; exact .rfl
  | succ n =>
    rw [between_succ]
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dx (prod m c t.val t.isLt) (iblk m c 2 t) (iblk m c 3 t) (iblk m c 4 t)
    | ⟨6, _⟩ => dxb (prod m c t.val t.isLt) (iblk m c 2 t) (iblk m c 3 t) (iblk m c 4 t)
    | ⟨7, _⟩ => acc m c t.val t.isLt
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) : (dats m 0 c).Φ t.castSucc = between m c t.val (Nat.le_of_lt t.isLt) := by
  dsimp only [dats]; exact Pipeline.Dat.Φ_castSucc (between m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = dx (prod m c t.val t.isLt) (iblk m c 2 t) (iblk m c 3 t) (iblk m c 4 t) := by dsimp only [dats]
theorem after0_6 (c : Dev nD) (t : Fin cfg0.N) : (dats m 0 c).after 6 t
    = dxb (prod m c t.val t.isLt) (iblk m c 2 t) (iblk m c 3 t) (iblk m c 4 t) := by dsimp only [dats]
theorem after0_7 (c : Dev nD) (t : Fin cfg0.N) : (dats m 0 c).after 7 t = acc m c t.val t.isLt := by dsimp only [dats]

/-- The second row finds the gain's gradient the first one left. -/
theorem before0_7 (c : Dev nD) (t : Fin cfg0.N) (d) (hz : t.val = 15) :
    (dats m 0 c).before 7 t d = acc m c (t.val - 1) (Nat.lt_of_le_of_lt (Nat.sub_le _ _) t.isLt) := by
  have hf : cfg0.fresh 7 t.val = false := by
    rw [hz]
    exact (by decide +kernel : cfg0.fresh 7 15 = false)
  rw [(dats m 0 c).before_out_traj 7 rfl (fun _ _ => rfl) (fun u hu hi _ => ?_) t.val t rfl d, if_neg (by rw [hf]; exact Bool.false_ne_true), after0_7]
  rw [after0_7, after0_7]
  refine acc_idle m c u hu fun h => ?_
  rw [live_7 u h] at hi
  exact Bool.false_ne_true hi

def Pre (c : Dev nD) (t : Fin cfg0.N) : sProp 𝕄 :=
  iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))

def Post (c : Dev nD) (t : Fin cfg0.N) : sProp 𝕄 :=
  iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
theorem at_first (c : Dev nD) (t : Fin cfg0.N) (h0 : t.val % 8 = 0) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl,
    after0_0, after0_1, after0_2, after0_3, after0_4]
  have h7 : ¬ t.val % 8 = 7 := by omega
  rw [Dat.leavesExact_idle (dats m 0 c) 5 t (idle_5 t h7) (kept_5 t h7), Dat.leavesExact_idle (dats m 0 c) 6 t (idle_6 t h7) (kept_6 t h7),
    Dat.leavesExact_idle (dats m 0 c) 7 t (idle_7 t h7) (kept_7 t (by omega))]
  rw [prod_first m c t h0]
  refine BIBase.Entails.trans (BIClass.sep_mono (between_any m c _ _) .rfl) ?_
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c Set.univ (grid0.coords t) _ _ _ _ _ _ _ _ _ _ _ _ _ _ _ _ scratch _ (iblk m c 0 t) (iblk m c 1 t) (iblk m c 2 t) (iblk m c 3 t) (iblk m c 4 t)
    _ _ _ s _ ((first_iff t).mpr h0) (fun h => (later_iff t).mp h h0) (fun h => h7 ((last_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 1600000 in
theorem at_mid (c : Dev nD) (t : Fin cfg0.N) (h0 : ¬ t.val % 8 = 0) (h7 : ¬ t.val % 8 = 7) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl,
    after0_0, after0_1, after0_2, after0_3, after0_4]
  rw [Dat.leavesExact_idle (dats m 0 c) 5 t (idle_5 t h7) (kept_5 t h7), Dat.leavesExact_idle (dats m 0 c) 6 t (idle_6 t h7) (kept_6 t h7),
    Dat.leavesExact_idle (dats m 0 c) 7 t (idle_7 t h7) (kept_7 t (by omega))]
  rw [prod_later m c t h0, between_pos m c _ _ fun h => h0 (by rw [h])]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c Set.univ (grid0.coords t) _ _ _ _ _ _ _ _ _ _ _ _ _ _ _ _ scratch _ (iblk m c 0 t) (iblk m c 1 t) (iblk m c 2 t) (iblk m c 3 t) (iblk m c 4 t)
    _ _ _ _ _ (fun h => h0 ((first_iff t).mp h)) ((later_iff t).mpr h0) (fun h => h7 ((last_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

set_option maxHeartbeats 1600000 in
theorem at_last (c : Dev nD) (t : Fin cfg0.N) (h7 : t.val % 8 = 7) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl,
    after0_0, after0_1, after0_2, after0_3, after0_4]
  have h0 : ¬ t.val % 8 = 0 := by omega
  rw [leaves_live m c 5 t (live_5 t h7), leaves_live m c 6 t (live_6 t h7), leaves_live m c 7 t (live_7 t h7), after0_5, after0_6, after0_7,
    between_pos m c _ _ fun h => h0 (by rw [h])]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [acc_live m c t h7 _ (before0_7 m c t d7), prod_later m c t h0]
  iapply (run_last c Set.univ (grid0.coords t) _ _ _ _ _ _ _ _ _ _ _ _ _ _ _ _ scratch _ (iblk m c 0 t) (iblk m c 1 t) (iblk m c 2 t) (iblk m c 3 t) (iblk m c 4 t)
    _ _ _ _ _ (fun h => h0 ((first_iff t).mp h)) ((later_iff t).mpr h0) ((last_iff t).mpr h7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_at (c : Dev nD) (t : Fin cfg0.N) :
    Pre m c t ⊢ wp frame (wpE (defs₀ (F := F)) Variants.none c none) Set.univ (bodyAt0 t) (fun _ => Post m c t) :=
  if h0 : t.val % 8 = 0 then at_first m c t h0 else if h7 : t.val % 8 = 7 then at_last m c t h7 else at_mid m c t h0 h7

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

theorem hin (c : Dev nD) : Pipeline.ΦA spec0 c ⊢ (dats m 0 c).Φ 0 :=
  show Pipeline.ΦA spec0 c ⊢ between m c 0 (Nat.zero_le _) from .rfl

theorem hout (c : Dev nD) : (dats m 0 c).Φ (Fin.last cfg0.N) ⊢ Pipeline.ΦA spec0 c := by
  rw [plain_eq]
  exact between_any m c cfg0.N (Nat.le_refl _)

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.DhfIdealRun

end
-- ==== Proof.DhfRun.lean ====
/- The run of `Dhf`, which is the program of `DhfIdeal` under another name. -/
module

public import proofs.«01_k».proof.Proof.Gen.Dhf.Frame
public import proofs.«01_k».proof.Proof.DhfIdealRun

@[expose] public section

set_option maxRecDepth 16384

noncomputable section

namespace Cert.DhfRun

open Cert.Dhf Cert.Dhf.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs are one. -/
theorem main_eq : main (F := F) = Cert.DhfIdeal.main (F := F) := rfl

theorem part1_eq : @k0_part1 F _ _ = @Cert.DhfIdeal.k0_part1 F _ _ := rfl
theorem body_eq : @cc0_dhf F _ _ = @Cert.DhfIdeal.cc0_dhf F _ _ := rfl
theorem labels_eq : Λ₀ = Cert.DhfIdeal.Λ₀ := rfl
theorem cfg_eq : cfg0 = Cert.DhfIdeal.cfg0 := rfl
theorem pcfgs_eq : pcfgs (F := F) = Cert.DhfIdeal.pcfgs (F := F) := rfl
theorem defs₀_eq : defs₀ (F := F) = Cert.DhfIdeal.defs₀ (F := F) := by
  refine congrArg Defs.onTc (funext fun l => ?_)
  match l with
  | ⟨0, _⟩ => rfl

theorem defs_eq : defs (F := F) = Cert.DhfIdeal.defs (F := F) := congrArg (Pipeline.defs (pcfgs (F := F))) defs₀_eq

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.DhfIdealRun.frame m ρ

end Cert.DhfRun

end
-- ==== Proof.Dhf.lean ====
/- The gradient with respect to the residual through the gated product and its norm: the kernel's three result arrays and the
   reference's are the same. -/
module

public import proofs.«01_k».proof.Defs
public import proofs.«01_k».proof.Proof.DhfRun
public import proofs.«01_k».proof.Proof.DhfIdealRun
public import proofs.«01_k».proof.Proof.Gen.DhfRefIdeal.Run
public import proofs.«01_k».proof.Proof.Gen.DhfRefIdeal.Read
public import proofs.«01_k».proof.Proof.NormGrad
public import Idealize.ShloMosaic.Lib.Pipeline.ValueKit

@[expose] public section

set_option maxRecDepth 16384

noncomputable section

namespace Cert.DhfProof

open Cert.Norm
open Idealize.ShloMosaic Idealize.ShloMosaic.TcCoe Idealize.SL.Sem

/-- The gradient before the norm, at row `q` and column `j`: eight shards of 512 channels. -/
def back {n d : ℕ} {f g : FTy} (a : FVec Ideal ⟨2, ![n, 4096]⟩ f) (b : FVec Ideal ⟨3, ![8, d, 512]⟩ g) (q : Fin n) (j : Fin d) : EReal :=
  ∑ s : Fin 8, ∑ e : Fin 512, a (ix2 q ⟨s.val * 512 + e.val, by omega⟩) * b (ix3 s j e)

section Kernel

open Cert.DhfIdeal Cert.DhfIdeal.Gen Cert.DhfIdealRun

variable (m : (ℓ : Loc nD τ sig) → Buf (Elt Ideal) ℓ) (ρ : Dev nD → PrngReg)

theorem part_apply (a : Vec Ideal S1024x512 .bf16) (b : Vec Ideal S1x1024x512 .bf16) (q j : Fin 1024) :
    k0_pay1 (F := Ideal) a b (ix2 q j) = ∑ e : Fin 512, a (ix2 q e) * b (ix3 0 j e) := by
  pointwise [k0_pay1]

theorem first_apply (a : Vec Ideal S1024x512 .bf16) (b : Vec Ideal S1x1024x512 .bf16) (i : S1024x1024.Idx) :
    k0_pay2 (F := Ideal) a b i = k0_pay1 (F := Ideal) a b i := by
  obtain ⟨q, j, rfl⟩ : ∃ (q j : Fin 1024), i = ix2 q j := ⟨i 0, i 1, eq_ix2 i⟩
  pointwise [k0_pay2]

theorem add_apply (a : Vec Ideal S1024x512 .bf16) (b : Vec Ideal S1x1024x512 .bf16) (s : Vec Ideal S1024x1024 .f32) (i : S1024x1024.Idx) :
    k0_pay3 (F := Ideal) a b s i = s i + k0_pay1 (F := Ideal) a b i := by
  obtain ⟨q, j, rfl⟩ : ∃ (q j : Fin 1024), i = ix2 q j := ⟨i 0, i 1, eq_ix2 i⟩
  pointwise [k0_pay3]

theorem rstd_apply (x : Vec Ideal S1024x1024 .f32) (q : Fin 1024) :
    k0_pay5 (F := Ideal) x (ix2 q 0) = rstd fun k => x (ix2 q k) := by
  pointwise [k0_pay5]
  rfl

theorem unit_apply (x : Vec Ideal S1024x1024 .f32) (q j : Fin 1024) :
    k0_pay6 (F := Ideal) x (ix2 q j) = x (ix2 q j) * rstd fun k => x (ix2 q k) := by
  pointwise [k0_pay6]
  rw [rstd_apply]

theorem dx_apply (p x e : Vec Ideal S1024x1024 .f32) (g : Vec Ideal S1x1024 .f32) (q j : Fin 1024) :
    k0_pay7 (F := Ideal) p x e g (ix2 q j)
      = gradRow (fun k => p (ix2 q k) * g (ix2 0 k)) (fun k => x (ix2 q k)) (e (ix2 q j)) j := by
  pointwise [k0_pay7]
  simp only [unit_apply, rstd_apply]
  rfl

theorem dg_apply (p x : Vec Ideal S1024x1024 .f32) (j : Fin 1024) :
    k0_pay8 (F := Ideal) p x (ix2 0 j) = ∑ q : Fin 1024, p (ix2 q j) * (x (ix2 q j) * rstd fun k => x (ix2 q k)) := by
  pointwise [k0_pay8]
  simp only [unit_apply]

theorem idx : ∀ t : Fin cfg0.N, win0_0.index t = ![t.val / 8, t.val % 8] ∧ win0_1.index t = ![t.val % 8, 0, 0] ∧ win0_2.index t = ![t.val / 8, 0]
    ∧ win0_3.index t = ![t.val / 8, 0] ∧ win0_4.index t = ![0, 0] ∧ win0_5.index t = ![t.val / 8, 0] ∧ win0_6.index t = ![t.val / 8, 0]
    ∧ win0_7.index t = ![0, 0] ∧ t.val < 16 ∧ (grid0.coords t 0).val = t.val / 8 :=
  (by decide +kernel : ∀ t : Fin grid0.N, _)

abbrev A (c : Dev nD) : FVec Ideal S2048x4096 .bf16 := m ((c : Thread nD τ).loc main_arg0)
abbrev B (c : Dev nD) : FVec Ideal S8x1024x512 .bf16 := m ((c : Thread nD τ).loc main_arg1)
abbrev X (c : Dev nD) : FVec Ideal S2048x1024 .f32 := m ((c : Thread nD τ).loc main_arg2)
abbrev E (c : Dev nD) : FVec Ideal S2048x1024 .f32 := m ((c : Thread nD τ).loc main_arg3)
abbrev G (c : Dev nD) : FVec Ideal S1024 .f32 := m ((c : Thread nD τ).loc main_arg4)

abbrev row' (t : Fin cfg0.N) (q : Fin 1024) : Fin 2048 := ⟨t.val / 8 * 1024 + q.val, by have := (idx t).2.2.2.2.2.2.2.2.1; omega⟩

theorem a_read (c : Dev nD) (t : Fin cfg0.N) (q : Fin 1024) (e : Fin 512) :
    (show Vec Ideal S1024x512 .bf16 from iblk m c 0 t) (ix2 q e) = A m c (ix2 (row' t q) ⟨t.val % 8 * 512 + e.val, by omega⟩) := by
  blk_ext [iblk, V, idx t]
theorem b_read (c : Dev nD) (t : Fin cfg0.N) (j : Fin 1024) (e : Fin 512) :
    (show Vec Ideal S1x1024x512 .bf16 from iblk m c 1 t) (ix3 0 j e) = B m c (ix3 ⟨t.val % 8, by omega⟩ j e) := by
  blk_ext [iblk, V, idx t]
theorem x_read (c : Dev nD) (t : Fin cfg0.N) (q j : Fin 1024) :
    (show Vec Ideal S1024x1024 .f32 from iblk m c 2 t) (ix2 q j) = X m c (ix2 (row' t q) j) := by
  blk_ext [iblk, V, idx t]
theorem e_read (c : Dev nD) (t : Fin cfg0.N) (q j : Fin 1024) :
    (show Vec Ideal S1024x1024 .f32 from iblk m c 3 t) (ix2 q j) = E m c (ix2 (row' t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 4 t) (ix2 0 j) = G m c (ix1 j) := by
  refine Eq.trans ?_ (gain_eq m c j)
  blk_ext [iblk, idx t]

/-- The residual's gradient over the whole arrays. -/
def outX (c : Dev nD) (q : Fin 2048) (j : Fin 1024) : EReal :=
  gradRow (fun k => back (A m c) (B m c) q k * G m c (ix1 k)) (fun k => X m c (ix2 q k)) (E m c (ix2 q j)) j
/-- The gain's gradient's term of a row. -/
def term (c : Dev nD) (j : Fin 1024) (q : Fin 2048) : EReal :=
  back (A m c) (B m c) q j * (X m c (ix2 q j) * rstd fun k => X m c (ix2 q k))

theorem start_eq (a : Vec Ideal S1024x512 .bf16) (b : Vec Ideal S1x1024x512 .bf16) : start a b = k0_pay2 (F := Ideal) a b := by
  unfold start; frame_out
theorem step_eq (a : Vec Ideal S1024x512 .bf16) (b : Vec Ideal S1x1024x512 .bf16) (s : Vec Ideal S1024x1024 .f32) :
    step a b s = k0_pay3 (F := Ideal) a b s := by
  unfold step; frame_out

/-- The accumulated product after a row's last block is the whole product. -/
theorem prod_whole (c : Dev nD) (t : Fin cfg0.N) (h : t.val % 8 = 7) (q j : Fin 1024) :
    prod m c t.val t.isLt (ix2 q j) = back (A m c) (B m c) (row' t q) j := by
  rw [Pipeline.eq_sum_fin_of_reset_step_apply_of_flush (prod m c) 8 (fun _ => 0) (fun t => k0_pay1 (F := Ideal) (iblk m c 0 t) (iblk m c 1 t))
    (fun t h i => by rw [prod_first m c t h, start_eq, zero_add]; exact first_apply _ _ i)
    (fun t h i => by rw [prod_later m c t h, step_eq]; exact add_apply _ _ _ i) t h _, zero_add]
  refine Fin.sum_fin_congr fun s => (part_apply _ _ q j).trans (Finset.sum_congr rfl fun e _ => ?_)
  refine congrArg₂ (· * ·) ((a_read m c _ q e).trans (congrArg₂ (fun k l => A m c (ix2 k l)) (Fin.ext ?_) (Fin.ext ?_)))
    ((b_read m c _ j e).trans (congrArg (fun k => B m c (ix3 k j e)) (Fin.ext ?_)))
  · show (8 * (t.val / 8) + s.val) / 8 * 1024 + q.val = t.val / 8 * 1024 + q.val
    omega
  · show (8 * (t.val / 8) + s.val) % 8 * 512 + e.val = s.val * 512 + e.val
    omega
  · show (8 * (t.val / 8) + s.val) % 8 = s.val
    omega

theorem block_x (c : Dev nD) (t : Fin cfg0.N) (h : t.val % 8 = 7) (q j : Fin 1024) :
    k0_pay7 (F := Ideal) (prod m c t.val t.isLt) (iblk m c 2 t) (iblk m c 3 t) (iblk m c 4 t) (ix2 q j) = outX m c (row' t q) j := by
  refine (dx_apply _ _ _ _ q j).trans ?_
  unfold outX
  rw [show (fun k => prod m c t.val t.isLt (ix2 q k) * (show Vec Ideal S1x1024 .f32 from iblk m c 4 t) (ix2 0 k))
      = fun k => back (A m c) (B m c) (row' t q) k * G m c (ix1 k) from
    funext fun k => congrArg₂ (· * ·) (prod_whole m c t h q k) (g_read m c t k),
    show (fun k => (show Vec Ideal S1024x1024 .f32 from iblk m c 2 t) (ix2 q k)) = fun k => X m c (ix2 (row' t q) k) from funext (x_read m c t q)]
  exact congrArg (fun e => gradRow _ _ e j) (e_read m c t q j)

theorem block_g (c : Dev nD) (t : Fin cfg0.N) (h : t.val % 8 = 7) (j : Fin 1024) :
    k0_pay8 (F := Ideal) (prod m c t.val t.isLt) (iblk m c 2 t) (ix2 0 j) = ∑ q : Fin 1024, term m c j (row' t q) := by
  refine (dg_apply _ _ j).trans (Finset.sum_congr rfl fun q _ => ?_)
  unfold term
  refine congrArg₂ (· * ·) (prod_whole m c t h q j) (congrArg₂ (· * ·) (x_read m c t q j) (congrArg rstd (funext (x_read m c t q))))

theorem left_x (c : Dev nD) (t : Fin cfg0.N) :
    (dats m 0 c).after 5 t = k0_pay7 (F := Ideal) (prod m c t.val t.isLt) (iblk m c 2 t) (iblk m c 3 t) (iblk m c 4 t) := by
  rw [after0_5]; unfold dx; frame_out
theorem left_b (c : Dev nD) (t : Fin cfg0.N) :
    (dats m 0 c).after 6 t = k0_pay7 (F := Ideal) (prod m c t.val t.isLt) (iblk m c 2 t) (iblk m c 3 t) (iblk m c 4 t) := by
  rw [after0_6]; unfold dxb; frame_out; rfl
theorem dg_eq (i : grid0.Coords) (p x : Vec Ideal S1024x1024 .f32) (z : Vec Ideal S1x1024 .f32) :
    dg i p x z = k0_pay4 (F := Ideal) (k0_pay8 (F := Ideal) p x) (Scalar.cmpi .eq (BitVec.ofNat 32 (i 0).val) 0#32) (k0_pay10 (F := Ideal) z) := by
  unfold dg; frame_out

/-- The gain's gradient is kept through the second row's first points. -/
theorem acc_kept (c : Dev nD) : ∀ (k : ℕ) (_ : k ≤ 7) (h : 7 + k < cfg0.N),
    acc m c (7 + k) h = acc m c 7 (Nat.lt_of_le_of_lt (Nat.le_add_right _ _) h)
  | 0, _, _ => rfl
  | k + 1, hk, h => (acc_idle m c ⟨7 + k + 1, h⟩ (Nat.succ_ne_zero _) (by show ¬ (7 + k + 1) % 8 = 7; omega)).trans
      (acc_kept c k (Nat.le_of_succ_le hk) (Nat.lt_of_succ_lt h))

theorem pay4_first (u w : Vec Ideal S1x1024 .f32) : k0_pay4 (F := Ideal) u (Scalar.cmpi .eq (BitVec.ofNat 32 0) 0#32) w = u := rfl
theorem pay4_later (u v : Vec Ideal S1x1024 .f32) (j : Fin 1024) :
    k0_pay4 (F := Ideal) u (Scalar.cmpi .eq (BitVec.ofNat 32 1) 0#32) (k0_pay10 (F := Ideal) v) (ix2 0 j) = v (ix2 0 j) + u (ix2 0 j) := by
  show (shapeCast S1x1024 v shapeCasts_S1x1024_S1x1024) (ix2 0 j) + u (ix2 0 j) = _
  pointwise []

/-- After the first row: its sum, -/
theorem acc_first (c : Dev nD) (h : 7 < cfg0.N) (j : Fin 1024) :
    acc m c 7 h (ix2 0 j) = ∑ q : Fin 1024, term m c j (row' ⟨7, h⟩ q) := by
  have e := acc_live m c ⟨7, h⟩ (show 7 % 8 = 7 by decide) (acc m c 6 (Nat.lt_of_succ_lt h)) fun e => absurd e (show ¬ (7 = 15) by decide)
  rw [dg_eq, show (grid0.coords (⟨7, h⟩ : Fin cfg0.N) 0).val = 0 from ((idx ⟨7, h⟩).2.2.2.2.2.2.2.2.2.trans (show 7 / 8 = 0 by decide)), pay4_first] at e
  exact (congrFun e (ix2 0 j)).trans (block_g m c ⟨7, h⟩ (show 7 % 8 = 7 by decide) j)
theorem acc_between (c : Dev nD) (h : 14 < cfg0.N) (h7 : 7 < cfg0.N) : acc m c 14 h = acc m c 7 h7 :=
  acc_kept m c 7 (Nat.le_refl _) h
theorem acc_both (c : Dev nD) (h : 15 < cfg0.N) (h7 : 7 < cfg0.N) (j : Fin 1024) :
    acc m c 15 h (ix2 0 j) = acc m c 7 h7 (ix2 0 j)
      + k0_pay8 (F := Ideal) (prod m c 15 h) (iblk m c 2 ⟨15, h⟩) (ix2 0 j) := by
  have e := acc_live m c ⟨15, h⟩ (show 15 % 8 = 7 by decide) (acc m c 14 (Nat.lt_of_succ_lt h)) fun _ => rfl
  rw [dg_eq, show (grid0.coords (⟨15, h⟩ : Fin cfg0.N) 0).val = 1 from (idx ⟨15, h⟩).2.2.2.2.2.2.2.2.2.trans (show 15 / 8 = 1 by decide),
    acc_between m c _ h7] at e
  exact (congrFun e (ix2 0 j)).trans (pay4_later _ _ j)
theorem both_rows (c : Dev nD) (j : Fin 1024) (h7 : 7 < cfg0.N) (h : 15 < cfg0.N) :
    ∑ q : Fin 1024, term m c j (row' ⟨7, h7⟩ q) + ∑ q : Fin 1024, term m c j (row' ⟨15, h⟩ q) = ∑ q : Fin 2048, term m c j q := by
  rw [← Fin.sum_mul_add_congr (S := 2) (n := 1024) (F := fun s q => term m c j ⟨s.val * 1024 + q.val, by omega⟩) (f := term m c j) fun _ _ _ => rfl,
    Fin.sum_univ_two]
  refine congrArg₂ (· + ·) (Finset.sum_congr rfl fun q _ => congrArg (term m c j) (Fin.ext ?_))
    (Finset.sum_congr rfl fun q _ => congrArg (term m c j) (Fin.ext ?_))
  · show 7 / 8 * 1024 + q.val = 0 * 1024 + q.val
    omega
  · show 15 / 8 * 1024 + q.val = 1 * 1024 + q.val
    omega
/-- and after the second: both. -/
theorem acc_second (c : Dev nD) (h : 15 < cfg0.N) (j : Fin 1024) :
    acc m c 15 h (ix2 0 j) = ∑ q : Fin 2048, term m c j q := by
  have h7 : 7 < cfg0.N := Nat.lt_trans (by decide) h
  rw [acc_both m c h h7 j, acc_first m c h7 j, block_g m c ⟨15, h⟩ (show 15 % 8 = 7 by decide) j, both_rows]

theorem last_g (c : Dev nD) (t : Fin cfg0.N) (ht : t.val = 15) (j : Fin 1024) :
    (show Vec Ideal S1x1024 .f32 from (dats m 0 c).after 7 t) (ix2 0 j) = ∑ q : Fin 2048, term m c j q := by
  rw [after0_7]
  obtain ⟨n, h⟩ := t
  obtain rfl : n = 15 := ht
  exact acc_second m c h j

theorem final_x (c : Dev nD) : (dats m 0 c).arrAt 5 (cfgs 0).N = fun i : S2048x1024.Idx => outX m c (i 0) (i 1) := by
  refine (dats m 0 c).arrAt_eq_of_covers 5 _ (by decide +kernel) fun t hf y => ?_
  have h7 : t.val % 8 = 7 := (flush0_5 t).mp hf
  blk_simp
  rw [left_x]
  obtain ⟨q, j, rfl⟩ : ∃ (q j : Fin 1024), y = ix2 q j := ⟨y 0, y 1, eq_ix2 y⟩
  refine (block_x m c t h7 q j).trans (congrArg₂ (outX m c) (Fin.ext ?_) (Fin.ext ?_))
  · blk_simp [idx t]
  · blk_simp [idx t]
theorem final_b (c : Dev nD) : (dats m 0 c).arrAt 6 (cfgs 0).N = fun i : S2048x1024.Idx => outX m c (i 0) (i 1) := by
  refine (dats m 0 c).arrAt_eq_of_covers 6 _ (by decide +kernel) fun t hf y => ?_
  have h7 : t.val % 8 = 7 := (flush0_6 t).mp hf
  blk_simp
  rw [left_b]
  obtain ⟨q, j, rfl⟩ : ∃ (q j : Fin 1024), y = ix2 q j := ⟨y 0, y 1, eq_ix2 y⟩
  refine (block_x m c t h7 q j).trans (congrArg₂ (outX m c) (Fin.ext ?_) (Fin.ext ?_))
  · blk_simp [idx t]
  · blk_simp [idx t]
theorem final_g (c : Dev nD) : (dats m 0 c).arrAt 7 (cfgs 0).N = fun i : S1x1024.Idx => ∑ q : Fin 2048, term m c (i 1) q := by
  refine (dats m 0 c).arrAt_eq_of_covers 7 _ (by decide +kernel) fun t hf y => ?_
  have ht : t.val = 15 := by
    have h1 := (flush0_7 t).mp hf
    have h2 := (idx t).2.2.2.2.2.2.2.2.1
    omega
  blk_simp
  obtain ⟨j, rfl⟩ : ∃ j : Fin 1024, y = ix2 0 j := ⟨y 1, (eq_ix2 y).trans (congrArg (ix2 · _) (Subsingleton.elim _ _))⟩
  refine (last_g m c t ht j).trans (congrArg (fun j => ∑ q : Fin 2048, term m c j q) (Fin.ext ?_))
  blk_simp [idx t]

theorem run : θ_run (defs (F := Ideal)) (onTc (τ := τ) (main (F := Ideal))) ⟨m, fun _ => 0, ρ⟩ (fun r => ∀ c : Dev nD,
      r.2.mem ((c.tc : Thread nD τ).loc main_v1_0) = (fun i : S2048x1024.Idx => outX m c (i 0) (i 1))
      ∧ r.2.mem ((c.tc : Thread nD τ).loc main_v1_1) = (fun i : S2048x1024.Idx => outX m c (i 0) (i 1))
      ∧ r.2.mem ((c.tc : Thread nD τ).loc main_v1_2) = (fun i : S1x1024.Idx => ∑ q : Fin 2048, term m c (i 1) q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2 c).1 5).trans (final_x m c), ((h.2 c).1 6).trans (final_b m c), ((h.2 c).1 7).trans (final_g m c), h.1.1 c⟩)
    (θ_run_and (frame m ρ) (run_main m ρ))

end Kernel

section Ref

open Cert.DhfRefIdeal Cert.DhfRefIdeal.Gen Cert.DhfRefIdeal.Read

variable (A : FVec Ideal S2048x4096 .bf16) (B : FVec Ideal S8x1024x512 .bf16) (X E : FVec Ideal S2048x1024 .f32) (G : FVec Ideal S1024 .f32)

theorem ref_v9 (q : Fin 2048) : val_main_v9 (F := Ideal) X (ix2 q 0) = meanSq fun k => X (ix2 q k) := by
  pointwise [val_main_v9, val_main_v8, val_main_v7, val_main_v6, val_main_v5, val_main_v4, val_main_v3, val_main_cst, val_main_cst_0, val_main_cst_1]
  rfl
theorem ref_v10 (q : Fin 2048) : val_main_v10 (F := Ideal) X (ix2 q 0) = rstd fun k => X (ix2 q k) := by
  pointwise [val_main_v10]
  rw [ref_v9]; rfl
theorem ref_v2 (j : Fin 1024) (s : Fin 8) (e : Fin 512) (h : s.val * 512 + e.val < 4096) :
    val_main_v2 (F := Ideal) B (ix2 j ⟨s.val * 512 + e.val, h⟩) = B (ix3 s j e) := by
  pointwise [val_main_v2, val_main_v1, val_main_v0]
theorem ref_v21 (q : Fin 2048) (j : Fin 1024) : val_main_v21 (F := Ideal) A B (ix2 q j) = back A B q j := by
  pointwise [val_main_v21, val_main_v20]
  refine (Fin.sum_mul_add_congr fun s e hl => ?_).symm
  exact congrArg (A (ix2 q _) * ·) (ref_v2 B j s e hl).symm
theorem ref_v26 (q : Fin 2048) (j : Fin 1024) : val_main_v26 (F := Ideal) A B G (ix2 q j) = back A B q j * G (ix1 j) := by
  pointwise [val_main_v26, val_main_v25, val_main_v16]
  rw [ref_v21]
theorem ref_v38 (q : Fin 2048) (j : Fin 1024) :
    val_main_v38 (F := Ideal) A B X G (ix2 q j) = through (fun k => back A B q k * G (ix1 k)) fun k => X (ix2 q k) := by
  pointwise [val_main_v38, val_main_v37, val_main_cst_7, val_main_v36, val_main_v35, val_main_cst_6, val_main_v34, val_main_v30, val_main_v29,
    val_main_cst_5, val_main_v28, val_main_v13, val_main_v12, val_main_cst_2, val_main_v11]
  simp only [ref_v26]
  refine (Fin.sum_univ_one _).trans ?_
  rw [ref_v10, ref_v9]
  rfl
theorem ref_x (q : Fin 2048) (j : Fin 1024) :
    val_main_v42 (F := Ideal) A B X E G (ix2 q j)
      = gradRow (fun k => back A B q k * G (ix1 k)) (fun k => X (ix2 q k)) (E (ix2 q j)) j := by
  rw [← gradRow_eq]
  pointwise [val_main_v42, val_main_v41, val_main_v40, val_main_v39, val_main_v33, val_main_v32, val_main_v31]
  simp only [ref_v26, ref_v10, ref_v38]
theorem ref_g (j : Fin 1024) :
    val_main_v44 (F := Ideal) A B X (ix2 0 j) = ∑ q : Fin 2048, back A B q j * (X (ix2 q j) * rstd fun k => X (ix2 q k)) := by
  pointwise [val_main_v44, val_main_v27, val_main_cst_4, val_main_v24, val_main_v23, val_main_cst_3, val_main_v22, val_main_v15, val_main_v14]
  simp only [ref_v21, ref_v10]
  first
    | exact (Fin.sum_univ_one _).trans (Finset.sum_congr rfl fun q _ => mul_comm (_ : EReal) _)
    | exact Finset.sum_congr rfl fun q _ => mul_comm (_ : EReal) _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2, sem_eq_zero_of_no_sems (by decide) r.2⟩) (Cert.DhfRefIdeal.Value.run m ρ)

end Ref

theorem algebraic : Cert.algebraic_DhfIdeal_DhfRefIdeal := by
  intro m ρ m' ρ' _ hag
  refine ⟨fun c i => outX m c (i 0) (i 1), fun c i => outX m c (i 0) (i 1), fun c (i : Cert.DhfIdeal.S1x1024.Idx) => (show EReal from ∑ q : Fin 2048, term m c (i 1) q),
    run m ρ, (θ_run _ _ _).mono (fun r h c => ?_) (Cert.DhfRefIdeal.Value.run m' ρ')⟩
  refine ⟨(h c).1.trans ?_, (h c).2.1.trans ?_, (h c).2.2.1.trans ?_, (h c).2.2.2⟩
  · rw [Cert.DhfRefIdeal.Read.val_main_v42_eq, (hag c).1, (hag c).2.1, (hag c).2.2.1, (hag c).2.2.2.1, (hag c).2.2.2.2]
    funext i
    exact (congrArg _ (eq_ix2 i)).trans (ref_x _ _ _ _ _ (i 0) (i 1))
  · rw [Cert.DhfRefIdeal.Read.val_main_v43_eq, (hag c).1, (hag c).2.1, (hag c).2.2.1, (hag c).2.2.2.1, (hag c).2.2.2.2]
    funext i
    exact (congrArg (Cert.DhfRefIdeal.Read.val_main_v42 (F := Ideal) _ _ _ _ _) (eq_ix2 i)).trans (ref_x _ _ _ _ _ (i 0) (i 1))
  · rw [Cert.DhfRefIdeal.Read.val_main_v44_eq, (hag c).1, (hag c).2.1, (hag c).2.2.1]
    funext i
    refine (congrArg _ ((eq_ix2 i).trans (congrArg (ix2 · _) (Subsingleton.elim (α := Fin 1) (i 0) 0)))).trans (ref_g _ _ _ (i 1))

end Cert.DhfProof
-- ==== Proof.DhxIdealRun.lean ====
/- The run of `DhxIdeal`: the body at both points of the grid, the gain's gradient accumulated from the first point to the second. -/
module

public import proofs.«01_k».proof.Proof.Gen.DhxIdeal.Frame
public import proofs.«01_k».proof.Proof.Gen.DhxIdeal.Skeleton
public import Idealize.ShloMosaic.Lib.Claim

@[expose] public section

set_option maxRecDepth 16384

noncomputable section

namespace Cert.DhxIdealRun

open Cert.DhxIdeal Cert.DhxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rect : Rect S1024x1024 := Rect.unit (s := S1024x1024) ![0, 0] S1024x1024.size inb_S1024x1024_S1024x1024_0_0
abbrev row : Rect S1x1024 := Rect.unit (s := S1x1024) ![0, 0] S1x1024.size inb_S1x1024_S1x1024_0_0

theorem rect_cover {φ : EltTy} (p : Vec F S1024x1024 φ) (y : S1024x1024.Idx) :
    ∃ pc ∈ ([⟨rect, p⟩] : List (View.Piece (Elt F) S1024x1024 φ)), y ∈ pc.1.set :=
  View.cover_of_tiled [⟨rect, p⟩] S1024x1024.size (by rfl) y
theorem row_cover (p : Vec F S1x1024 .f32) (y : S1x1024.Idx) :
    ∃ pc ∈ ([⟨row, p⟩] : List (View.Piece (Elt F) S1x1024 .f32)), y ∈ pc.1.set :=
  View.cover_of_tiled [⟨row, p⟩] S1x1024.size (by rfl) y

/-- The residual's gradient a point leaves, -/
def dx (x0 x1 : Vec F S1024x1024 .bf16) (x2 x3 : Vec F S1024x1024 .f32) (x4 : Vec F S1x1024 .f32) : Vec F S1024x1024 .f32 :=
  View.canon [⟨rect, k0_pay5 (View.ld x0 rect) (View.ld x1 rect) (View.ld x2 rect) (View.ld x3 rect) (View.ld x4 row)⟩]
/-- the same rounded, -/
def dxb (x0 x1 : Vec F S1024x1024 .bf16) (x2 x3 : Vec F S1024x1024 .f32) (x4 : Vec F S1x1024 .f32) : Vec F S1024x1024 .bf16 :=
  View.canon [⟨rect, k0_pay7 (View.ld x0 rect) (View.ld x1 rect) (View.ld x2 rect) (View.ld x3 rect) (View.ld x4 row)⟩]
/-- and the gain's gradient, where the buffer held `z`. -/
def dg (i : grid0.Coords) (x0 x1 : Vec F S1024x1024 .bf16) (x2 : Vec F S1024x1024 .f32) (z : Vec F S1x1024 .f32) : Vec F S1x1024 .f32 :=
  View.canon [⟨row, k0_pay1 (BitVec.ofNat 32 (i 0).val) (k0_pay6 (View.ld x0 rect) (View.ld x1 rect) (View.ld x2 rect)) (View.ld z row)⟩]

/-- At the first point what the buffer held is not used. -/
theorem dg_first (i : grid0.Coords) (hi : (i 0).val = 0) (x0 x1 : Vec F S1024x1024 .bf16) (x2 : Vec F S1024x1024 .f32) (z z' : Vec F S1x1024 .f32) :
    dg i x0 x1 x2 z = dg i x0 x1 x2 z' := by
  unfold dg k0_pay1
  rw [hi]
  rfl

set_option maxHeartbeats 1000000 in
theorem body_run (c : Dev nD) (E : Set ℕ) (i : grid0.Coords) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S1024x1024 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .bf16) (harg9 : arg9.IsWhole)
    (arg10 : Memref sig .tc .vmem S1x1024 .f32) (harg10 : arg10.IsWhole)
    (x0 x1 : Vec F S1024x1024 .bf16) (x2 x3 : Vec F S1024x1024 .f32) (x4 z : Vec F S1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ owns (c : Thread nD τ) arg10 fullShare z
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (dx x0 x1 x2 x3 x4) ∗ owns (c : Thread nD τ) arg9 fullShare (dxb x0 x1 x2 x3 x4)
          ∗ owns (c : Thread nD τ) arg10 fullShare (dg i x0 x1 x2 z)) -∗ K ⟨⟩))
      ⊢ wp frame (wpE (defs₀ (F := F)) Variants.none c none) E
        (cc0_dhx i arg3 harg3 arg4 harg4 arg5 harg5 arg6 harg6 arg7 harg7 arg8 harg8 arg9 harg9 arg10 harg10) K := by
  simp only [cc0_dhx_eq_skeleton]; unfold cc0_dhx_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (rect_cover _)
  isplitl [H6]
  · iexists _; isplitr
    swap; · iexact H6
    ipureintro
    exact View.read_writes_eq_canon _ _ _ (rect_cover _)
  iexists _; isplitr
  swap; · iexact H7
  ipureintro
  exact View.read_writes_eq_canon _ _ _ (row_cover _)

/-- The gain's gradient after each point. -/
def acc (c : Dev nD) : (n : ℕ) → n < cfg0.N → Vec F S1x1024 .f32
  | 0, h => dg (grid0.coords ⟨0, h⟩) (iblk m c 0 ⟨0, h⟩) (iblk m c 1 ⟨0, h⟩) (iblk m c 2 ⟨0, h⟩) (View.canon [])
  | n + 1, h => dg (grid0.coords ⟨n + 1, h⟩) (iblk m c 0 ⟨n + 1, h⟩) (iblk m c 1 ⟨n + 1, h⟩) (iblk m c 2 ⟨n + 1, h⟩) (acc c n (Nat.lt_of_succ_lt h))

theorem acc_eq (c : Dev nD) (t : Fin cfg0.N) (z : Vec F S1x1024 .f32)
    (hz : t.val ≠ 0 → z = acc m c (t.val - 1) (Nat.lt_of_le_of_lt (Nat.sub_le _ _) t.isLt)) :
    acc m c t.val t.isLt = dg (grid0.coords t) (iblk m c 0 t) (iblk m c 1 t) (iblk m c 2 t) z := by
  obtain ⟨n, h⟩ := t
  cases n with
  | zero => exact dg_first _ (show (grid0.coords (⟨0, by decide⟩ : Fin grid0.N) 0).val = 0 by decide +kernel) _ _ _ _ _
  | succ n => rw [hz (Nat.succ_ne_zero n)]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dx (iblk m c 0 t) (iblk m c 1 t) (iblk m c 2 t) (iblk m c 3 t) (iblk m c 4 t)
    | ⟨6, _⟩ => dxb (iblk m c 0 t) (iblk m c 1 t) (iblk m c 2 t) (iblk m c 3 t) (iblk m c 4 t)
    | ⟨7, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = dx (iblk m c 0 t) (iblk m c 1 t) (iblk m c 2 t) (iblk m c 3 t) (iblk m c 4 t) := by dsimp only [dats]
theorem after0_6 (c : Dev nD) (t : Fin cfg0.N) : (dats m 0 c).after 6 t
    = dxb (iblk m c 0 t) (iblk m c 1 t) (iblk m c 2 t) (iblk m c 3 t) (iblk m c 4 t) := by dsimp only [dats]
theorem after0_7 (c : Dev nD) (t : Fin cfg0.N) : (dats m 0 c).after 7 t = acc m c t.val t.isLt := by dsimp only [dats]

theorem before0_7 (c : Dev nD) (t : Fin cfg0.N) (d) (hz : t.val ≠ 0) :
    (dats m 0 c).before 7 t d = acc m c (t.val - 1) (Nat.lt_of_le_of_lt (Nat.sub_le _ _) t.isLt) := by
  have hN : t.val < 2 := lt_of_lt_of_eq t.isLt N_0
  have hf : ¬(cfg0.win 7).flush ⟨t.val - 1, Nat.lt_of_le_of_lt (Nat.sub_le _ _) t.isLt⟩ = true := fun h => by
    have h' := (flush0_7 _).mp h
    dsimp only at h'
    omega
  rw [(dats m 0 c).before_out_kept 7 rfl t hz (Bool.eq_false_of_not_eq_true hf) (fun _ => rfl) (fun _ _ => rfl) d, after0_7]

theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t))) := by
  unfold bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [acc_eq m c t _ (before0_7 m c t d7)]
  iapply (body_run c Set.univ (grid0.coords t) _ _ _ _ _ _ _ _ _ _ _ _ _ _ _ _ (iblk m c 0 t) (iblk m c 1 t) (iblk m c 2 t) (iblk m c 3 t) (iblk m c 4 t)
    ((dats m 0 c).before 7 t d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.DhxIdealRun

end
-- ==== Proof.DhxRun.lean ====
/- The run of `Dhx`, which is the program of `DhxIdeal` under another name. -/
module

public import proofs.«01_k».proof.Proof.Gen.Dhx.Frame
public import proofs.«01_k».proof.Proof.DhxIdealRun

@[expose] public section

set_option maxRecDepth 16384

noncomputable section

namespace Cert.DhxRun

open Cert.Dhx Cert.Dhx.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs are one. -/
theorem main_eq : main (F := F) = Cert.DhxIdeal.main (F := F) := rfl

theorem part_eq : @k0_part1 F _ _ = @Cert.DhxIdeal.k0_part1 F _ _ := rfl
theorem body_eq : @cc0_dhx F _ _ = @Cert.DhxIdeal.cc0_dhx F _ _ := rfl
theorem labels_eq : Λ₀ = Cert.DhxIdeal.Λ₀ := rfl
theorem cfg_eq : cfg0 = Cert.DhxIdeal.cfg0 := rfl
theorem pcfgs_eq : pcfgs (F := F) = Cert.DhxIdeal.pcfgs (F := F) := rfl
theorem defs₀_eq : defs₀ (F := F) = Cert.DhxIdeal.defs₀ (F := F) := by
  refine congrArg Defs.onTc (funext fun l => ?_)
  match l with
  | ⟨0, _⟩ => rfl

theorem defs_eq : defs (F := F) = Cert.DhxIdeal.defs (F := F) := congrArg (Pipeline.defs (pcfgs (F := F))) defs₀_eq

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.DhxIdealRun.frame m ρ

end Cert.DhxRun

end
-- ==== Proof.Dhx.lean ====
/- The gradient with respect to the residual through a product and its norm: the kernel's three result arrays and the
   reference's are the same. -/
module

public import proofs.«01_k».proof.Defs
public import proofs.«01_k».proof.Proof.DhxRun
public import proofs.«01_k».proof.Proof.DhxIdealRun
public import proofs.«01_k».proof.Proof.Gen.DhxRefIdeal.Run
public import proofs.«01_k».proof.Proof.Gen.DhxRefIdeal.Read
public import proofs.«01_k».proof.Proof.NormGrad
public import Idealize.ShloMosaic.Lib.Pipeline.ValueKit

@[expose] public section

set_option maxRecDepth 16384

noncomputable section

namespace Cert.DhxProof

open Cert.Norm
open Idealize.ShloMosaic Idealize.ShloMosaic.TcCoe Idealize.SL.Sem

/-- The gradient before the norm, at row `q` and column `j`. -/
def back {n k d : ℕ} {f g : FTy} (a : FVec Ideal ⟨2, ![n, k]⟩ f) (b : FVec Ideal ⟨2, ![d, k]⟩ g) (q : Fin n) (j : Fin d) : EReal :=
  ∑ e : Fin k, a (ix2 q e) * b (ix2 j e)

section Kernel

open Cert.DhxIdeal Cert.DhxIdeal.Gen Cert.DhxIdealRun

variable (m : (ℓ : Loc nD τ sig) → Buf (Elt Ideal) ℓ) (ρ : Dev nD → PrngReg)

theorem back_apply (a b : Vec Ideal S1024x1024 .bf16) (q j : Fin 1024) :
    k0_pay2 (F := Ideal) a b (ix2 q j) = back (f := .bf16) (g := .bf16) a b q j := by
  pointwise [k0_pay2]
  rfl

theorem rstd_apply (x : Vec Ideal S1024x1024 .f32) (q : Fin 1024) :
    k0_pay3 (F := Ideal) x (ix2 q 0) = rstd fun k => x (ix2 q k) := by
  pointwise [k0_pay3]
  rfl

theorem unit_apply (x : Vec Ideal S1024x1024 .f32) (q j : Fin 1024) :
    k0_pay4 (F := Ideal) x (ix2 q j) = x (ix2 q j) * rstd fun k => x (ix2 q k) := by
  pointwise [k0_pay4]
  rw [rstd_apply]

theorem dx_apply (a b : Vec Ideal S1024x1024 .bf16) (x e : Vec Ideal S1024x1024 .f32) (g : Vec Ideal S1x1024 .f32) (q j : Fin 1024) :
    k0_pay5 (F := Ideal) a b x e g (ix2 q j)
      = gradRow (fun k => back (f := .bf16) (g := .bf16) a b q k * g (ix2 0 k)) (fun k => x (ix2 q k)) (e (ix2 q j)) j := by
  pointwise [k0_pay5]
  simp only [back_apply, unit_apply, rstd_apply]
  rfl

theorem dg_apply (a b : Vec Ideal S1024x1024 .bf16) (x : Vec Ideal S1024x1024 .f32) (j : Fin 1024) :
    k0_pay6 (F := Ideal) a b x (ix2 0 j)
      = ∑ q : Fin 1024, back (f := .bf16) (g := .bf16) a b q j * (x (ix2 q j) * rstd fun k => x (ix2 q k)) := by
  pointwise [k0_pay6]
  simp only [back_apply, unit_apply]

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ t.val < 2 ∧ (grid0.coords t 0).val = t.val :=
  (by decide +kernel : ∀ t : Fin grid0.N, _)

abbrev A (c : Dev nD) : FVec Ideal S2048x1024 .bf16 := m ((c : Thread nD τ).loc main_arg0)
abbrev B (c : Dev nD) : FVec Ideal S1024x1024 .bf16 := m ((c : Thread nD τ).loc main_arg1)
abbrev X (c : Dev nD) : FVec Ideal S2048x1024 .f32 := m ((c : Thread nD τ).loc main_arg2)
abbrev E (c : Dev nD) : FVec Ideal S2048x1024 .f32 := m ((c : Thread nD τ).loc main_arg3)
abbrev G (c : Dev nD) : FVec Ideal S1024 .f32 := m ((c : Thread nD τ).loc main_arg4)

abbrev row' (t : Fin cfg0.N) (q : Fin 1024) : Fin 2048 := ⟨t.val * 1024 + q.val, by have := (idx t).2.2.2.2.2.2.2.2.1; omega⟩

theorem a_read (c : Dev nD) (t : Fin cfg0.N) (q e : Fin 1024) :
    (show Vec Ideal S1024x1024 .bf16 from iblk m c 0 t) (ix2 q e) = A m c (ix2 (row' t q) e) := by
  blk_ext [iblk, V, idx t]
theorem b_read (c : Dev nD) (t : Fin cfg0.N) (j e : Fin 1024) :
    (show Vec Ideal S1024x1024 .bf16 from iblk m c 1 t) (ix2 j e) = B m c (ix2 j e) := by
  blk_ext [iblk, V, idx t]
theorem x_read (c : Dev nD) (t : Fin cfg0.N) (q j : Fin 1024) :
    (show Vec Ideal S1024x1024 .f32 from iblk m c 2 t) (ix2 q j) = X m c (ix2 (row' t q) j) := by
  blk_ext [iblk, V, idx t]
theorem e_read (c : Dev nD) (t : Fin cfg0.N) (q j : Fin 1024) :
    (show Vec Ideal S1024x1024 .f32 from iblk m c 3 t) (ix2 q j) = E m c (ix2 (row' t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 4 t) (ix2 0 j) = G m c (ix1 j) := by
  refine Eq.trans ?_ (gain_eq m c j)
  blk_ext [iblk, idx t]

/-- The residual's gradient over the whole arrays. -/
def outX (c : Dev nD) (q : Fin 2048) (j : Fin 1024) : EReal :=
  gradRow (fun k => back (A m c) (B m c) q k * G m c (ix1 k)) (fun k => X m c (ix2 q k)) (E m c (ix2 q j)) j
/-- The gain's gradient's term of a row. -/
def term (c : Dev nD) (j : Fin 1024) (q : Fin 2048) : EReal :=
  back (A m c) (B m c) q j * (X m c (ix2 q j) * rstd fun k => X m c (ix2 q k))

theorem back_blk (c : Dev nD) (t : Fin cfg0.N) (q j : Fin 1024) :
    back (f := .bf16) (g := .bf16) (n := 1024) (k := 1024) (d := 1024) (iblk m c 0 t) (iblk m c 1 t) q j = back (A m c) (B m c) (row' t q) j :=
  Finset.sum_congr rfl fun e _ => congrArg₂ (· * ·) (a_read m c t q e) (b_read m c t j e)

theorem block_x (c : Dev nD) (t : Fin cfg0.N) (q j : Fin 1024) :
    k0_pay5 (F := Ideal) (iblk m c 0 t) (iblk m c 1 t) (iblk m c 2 t) (iblk m c 3 t) (iblk m c 4 t) (ix2 q j) = outX m c (row' t q) j := by
  refine (dx_apply _ _ _ _ _ q j).trans ?_
  unfold outX
  rw [show (fun k => back (f := .bf16) (g := .bf16) (n := 1024) (k := 1024) (d := 1024) (iblk m c 0 t) (iblk m c 1 t) q k
      * (show Vec Ideal S1x1024 .f32 from iblk m c 4 t) (ix2 0 k)) = fun k => back (A m c) (B m c) (row' t q) k * G m c (ix1 k) from
    funext fun k => congrArg₂ (· * ·) (back_blk m c t q k) (g_read m c t k),
    show (fun k => (show Vec Ideal S1024x1024 .f32 from iblk m c 2 t) (ix2 q k)) = fun k => X m c (ix2 (row' t q) k) from funext (x_read m c t q)]
  exact congrArg (fun e => gradRow _ _ e j) (e_read m c t q j)

theorem block_g (c : Dev nD) (t : Fin cfg0.N) (j : Fin 1024) :
    k0_pay6 (F := Ideal) (iblk m c 0 t) (iblk m c 1 t) (iblk m c 2 t) (ix2 0 j) = ∑ q : Fin 1024, term m c j (row' t q) := by
  refine (dg_apply _ _ _ j).trans (Finset.sum_congr rfl fun q _ => ?_)
  unfold term
  refine congrArg₂ (· * ·) (back_blk m c t q j) (congrArg₂ (· * ·) (x_read m c t q j) (congrArg rstd (funext (x_read m c t q))))

theorem left_x (c : Dev nD) (t : Fin cfg0.N) :
    (dats m 0 c).after 5 t = k0_pay5 (F := Ideal) (iblk m c 0 t) (iblk m c 1 t) (iblk m c 2 t) (iblk m c 3 t) (iblk m c 4 t) := by
  rw [after0_5]; unfold dx; frame_out
theorem left_b (c : Dev nD) (t : Fin cfg0.N) :
    (dats m 0 c).after 6 t = k0_pay5 (F := Ideal) (iblk m c 0 t) (iblk m c 1 t) (iblk m c 2 t) (iblk m c 3 t) (iblk m c 4 t) := by
  rw [after0_6]; unfold dxb; frame_out; rfl
theorem dg_eq (i : grid0.Coords) (a b : Vec Ideal S1024x1024 .bf16) (x : Vec Ideal S1024x1024 .f32) (z : Vec Ideal S1x1024 .f32) :
    dg i a b x z = k0_pay1 (F := Ideal) (BitVec.ofNat 32 (i 0).val) (k0_pay6 (F := Ideal) a b x) z := by
  unfold dg; frame_out

theorem last_g (c : Dev nD) (t : Fin cfg0.N) (ht : t.val = 1) (j : Fin 1024) :
    (show Vec Ideal S1x1024 .f32 from (dats m 0 c).after 7 t) (ix2 0 j) = ∑ q : Fin 2048, term m c j q := by
  rw [after0_7]
  obtain ⟨n, h⟩ := t
  obtain rfl : n = 1 := ht
  have h0 : 0 < cfg0.N := Nat.lt_of_succ_lt h
  show acc m c 1 h (ix2 0 j) = _
  unfold acc
  rw [dg_eq, show acc m c 0 h0 = dg (grid0.coords ⟨0, h0⟩) (iblk m c 0 ⟨0, h0⟩) (iblk m c 1 ⟨0, h0⟩) (iblk m c 2 ⟨0, h0⟩) (View.canon []) from rfl,
    dg_eq, (idx ⟨1, h⟩).2.2.2.2.2.2.2.2.2, (idx ⟨0, h0⟩).2.2.2.2.2.2.2.2.2]
  have hp : ∀ u v w : Vec Ideal S1x1024 .f32, k0_pay1 (F := Ideal) (BitVec.ofNat 32 1) u (k0_pay1 (F := Ideal) (BitVec.ofNat 32 0) v w) (ix2 0 j)
      = v (ix2 0 j) + u (ix2 0 j) := fun u v w => by
    rw [show k0_pay1 (F := Ideal) (BitVec.ofNat 32 0) v w = v from rfl]
    show (shapeCast S1x1024 v shapeCasts_S1x1024_S1x1024) (ix2 0 j) + u (ix2 0 j) = _
    pointwise []
  refine (hp _ _ _).trans ?_
  rw [block_g, block_g, ← Fin.sum_mul_add_congr (S := 2) (n := 1024) (F := fun s q => term m c j ⟨s.val * 1024 + q.val, by omega⟩) (f := term m c j) fun _ _ _ => rfl,
    Fin.sum_univ_two]
  rfl

theorem final_x (c : Dev nD) : (dats m 0 c).arrAt 5 (cfgs 0).N = fun i : S2048x1024.Idx => outX m c (i 0) (i 1) := by
  refine (dats m 0 c).arrAt_eq_of_covers 5 _ (by decide +kernel) fun t _ y => ?_
  blk_simp
  rw [left_x]
  obtain ⟨q, j, rfl⟩ : ∃ (q j : Fin 1024), y = ix2 q j := ⟨y 0, y 1, eq_ix2 y⟩
  refine (block_x m c t q j).trans (congrArg₂ (outX m c) (Fin.ext ?_) (Fin.ext ?_))
  · blk_simp [idx t]
  · blk_simp [idx t]
theorem final_b (c : Dev nD) : (dats m 0 c).arrAt 6 (cfgs 0).N = fun i : S2048x1024.Idx => outX m c (i 0) (i 1) := by
  refine (dats m 0 c).arrAt_eq_of_covers 6 _ (by decide +kernel) fun t _ y => ?_
  blk_simp
  rw [left_b]
  obtain ⟨q, j, rfl⟩ : ∃ (q j : Fin 1024), y = ix2 q j := ⟨y 0, y 1, eq_ix2 y⟩
  refine (block_x m c t q j).trans (congrArg₂ (outX m c) (Fin.ext ?_) (Fin.ext ?_))
  · blk_simp [idx t]
  · blk_simp [idx t]
theorem final_g (c : Dev nD) : (dats m 0 c).arrAt 7 (cfgs 0).N = fun i : S1x1024.Idx => ∑ q : Fin 2048, term m c (i 1) q := by
  refine (dats m 0 c).arrAt_eq_of_covers 7 _ (by decide +kernel) fun t hf y => ?_
  have ht : t.val = 1 := by
    have h1 := (flush0_7 t).mp hf
    have h2 := (idx t).2.2.2.2.2.2.2.2.1
    omega
  blk_simp
  obtain ⟨j, rfl⟩ : ∃ j : Fin 1024, y = ix2 0 j := ⟨y 1, (eq_ix2 y).trans (congrArg (ix2 · _) (Subsingleton.elim _ _))⟩
  refine (last_g m c t ht j).trans (congrArg (fun j => ∑ q : Fin 2048, term m c j q) (Fin.ext ?_))
  blk_simp [idx t]

theorem run : θ_run (defs (F := Ideal)) (onTc (τ := τ) (main (F := Ideal))) ⟨m, fun _ => 0, ρ⟩ (fun r => ∀ c : Dev nD,
      r.2.mem ((c.tc : Thread nD τ).loc main_v1_0) = (fun i : S2048x1024.Idx => outX m c (i 0) (i 1))
      ∧ r.2.mem ((c.tc : Thread nD τ).loc main_v1_1) = (fun i : S2048x1024.Idx => outX m c (i 0) (i 1))
      ∧ r.2.mem ((c.tc : Thread nD τ).loc main_v1_2) = (fun i : S1x1024.Idx => ∑ q : Fin 2048, term m c (i 1) q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2 c).1 5).trans (final_x m c), ((h.2 c).1 6).trans (final_b m c), ((h.2 c).1 7).trans (final_g m c), h.1.1 c⟩)
    (θ_run_and (frame m ρ) (run_main m ρ))

end Kernel

section Ref

open Cert.DhxRefIdeal Cert.DhxRefIdeal.Gen Cert.DhxRefIdeal.Read

variable (A : FVec Ideal S2048x1024 .bf16) (B : FVec Ideal S1024x1024 .bf16) (X E : FVec Ideal S2048x1024 .f32) (G : FVec Ideal S1024 .f32)

theorem ref_v7 (q : Fin 2048) : val_main_v7 (F := Ideal) X (ix2 q 0) = meanSq fun k => X (ix2 q k) := by
  pointwise [val_main_v7, val_main_v6, val_main_v5, val_main_v4, val_main_v3, val_main_v2, val_main_v1, val_main_cst, val_main_cst_0, val_main_cst_1]
  rfl
theorem ref_v8 (q : Fin 2048) : val_main_v8 (F := Ideal) X (ix2 q 0) = rstd fun k => X (ix2 q k) := by
  pointwise [val_main_v8]
  rw [ref_v7]; rfl
theorem ref_v19 (q : Fin 2048) (j : Fin 1024) : val_main_v19 (F := Ideal) A B (ix2 q j) = back A B q j := by
  pointwise [val_main_v19, val_main_v18, val_main_v0]
  rfl
theorem ref_v24 (q : Fin 2048) (j : Fin 1024) : val_main_v24 (F := Ideal) A B G (ix2 q j) = back A B q j * G (ix1 j) := by
  pointwise [val_main_v24, val_main_v23, val_main_v14]
  rw [ref_v19]
theorem ref_v36 (q : Fin 2048) (j : Fin 1024) :
    val_main_v36 (F := Ideal) A B X G (ix2 q j) = through (fun k => back A B q k * G (ix1 k)) fun k => X (ix2 q k) := by
  pointwise [val_main_v36, val_main_v35, val_main_cst_7, val_main_v34, val_main_v33, val_main_cst_6, val_main_v32, val_main_v28, val_main_v27,
    val_main_cst_5, val_main_v26, val_main_v11, val_main_v10, val_main_cst_2, val_main_v9]
  simp only [ref_v24]
  refine (Fin.sum_univ_one _).trans ?_
  rw [ref_v8, ref_v7]
  rfl
theorem ref_x (q : Fin 2048) (j : Fin 1024) :
    val_main_v40 (F := Ideal) A B X E G (ix2 q j)
      = gradRow (fun k => back A B q k * G (ix1 k)) (fun k => X (ix2 q k)) (E (ix2 q j)) j := by
  rw [← gradRow_eq]
  pointwise [val_main_v40, val_main_v39, val_main_v38, val_main_v37, val_main_v31, val_main_v30, val_main_v29]
  simp only [ref_v24, ref_v8, ref_v36]
theorem ref_g (j : Fin 1024) :
    val_main_v42 (F := Ideal) A B X (ix2 0 j) = ∑ q : Fin 2048, back A B q j * (X (ix2 q j) * rstd fun k => X (ix2 q k)) := by
  pointwise [val_main_v42, val_main_v25, val_main_cst_4, val_main_v22, val_main_v21, val_main_cst_3, val_main_v20, val_main_v13, val_main_v12]
  simp only [ref_v19, ref_v8]
  first
    | exact (Fin.sum_univ_one _).trans (Finset.sum_congr rfl fun q _ => mul_comm (_ : EReal) _)
    | exact Finset.sum_congr rfl fun q _ => mul_comm (_ : EReal) _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2, sem_eq_zero_of_no_sems (by decide) r.2⟩) (Cert.DhxRefIdeal.Value.run m ρ)

end Ref

theorem algebraic : Cert.algebraic_DhxIdeal_DhxRefIdeal := by
  intro m ρ m' ρ' _ hag
  refine ⟨fun c i => outX m c (i 0) (i 1), fun c i => outX m c (i 0) (i 1), fun c (i : Cert.DhxIdeal.S1x1024.Idx) => (show EReal from ∑ q : Fin 2048, term m c (i 1) q),
    run m ρ, (θ_run _ _ _).mono (fun r h c => ?_) (Cert.DhxRefIdeal.Value.run m' ρ')⟩
  refine ⟨(h c).1.trans ?_, (h c).2.1.trans ?_, (h c).2.2.1.trans ?_, (h c).2.2.2⟩
  · rw [Cert.DhxRefIdeal.Read.val_main_v40_eq, (hag c).1, (hag c).2.1, (hag c).2.2.1, (hag c).2.2.2.1, (hag c).2.2.2.2]
    funext i
    exact (congrArg _ (eq_ix2 i)).trans (ref_x _ _ _ _ _ (i 0) (i 1))
  · rw [Cert.DhxRefIdeal.Read.val_main_v41_eq, (hag c).1, (hag c).2.1, (hag c).2.2.1, (hag c).2.2.2.1, (hag c).2.2.2.2]
    funext i
    exact (congrArg (Cert.DhxRefIdeal.Read.val_main_v40 (F := Ideal) _ _ _ _ _) (eq_ix2 i)).trans (ref_x _ _ _ _ _ (i 0) (i 1))
  · rw [Cert.DhxRefIdeal.Read.val_main_v42_eq, (hag c).1, (hag c).2.1, (hag c).2.2.1]
    funext i
    refine (congrArg _ ((eq_ix2 i).trans (congrArg (ix2 · _) (Subsingleton.elim (α := Fin 1) (i 0) 0)))).trans (ref_g _ _ _ (i 1))

end Cert.DhxProof
-- ==== Proof.Parts.lean ====
/- Three arrays side by side: what a host concatenation of the query, key and value parts holds. -/
module

public import Idealize.ShloMosaic.Lib.Pointwise

@[expose] public section

noncomputable section

namespace Cert.Parts

open Idealize.ShloMosaic

/-- Three arrays side by side. -/
def joined (D K V : FVec Ideal ⟨2, ![2048, 512]⟩ .bf16) : FVec Ideal ⟨2, ![2048, 1536]⟩ .bf16 := fun i =>
  if (i 1).val < 512 then D (ix2 (i 0) ⟨(i 1).val % 512, Nat.mod_lt _ (by decide)⟩)
  else if (i 1).val < 1024 then K (ix2 (i 0) ⟨(i 1).val % 512, Nat.mod_lt _ (by decide)⟩)
  else V (ix2 (i 0) ⟨(i 1).val % 512, Nat.mod_lt _ (by decide)⟩)

theorem joined_apply (D K V : FVec Ideal ⟨2, ![2048, 512]⟩ .bf16) (q : Fin 2048) (j : Fin 1536) (k : Fin 512) (hk : k.val = j.val % 512) :
    joined D K V (ix2 q j) = if j.val < 512 then D (ix2 q k) else if j.val < 1024 then K (ix2 q k) else V (ix2 q k) := by
  obtain rfl : k = ⟨j.val % 512, Nat.mod_lt _ (by decide)⟩ := Fin.ext hk
  rfl

end Cert.Parts
-- ==== Proof.Dwqkv.lean ====
/- The gradient of the query, key and value weights: the kernel reads three cotangents side by side, the reference one joined array. -/
module

public import proofs.«01_k».proof.Defs
public import proofs.«01_k».proof.Proof.Gen.DwqkvIdeal.Value
public import proofs.«01_k».proof.Proof.Gen.DwqkvRefIdeal.Run
public import proofs.«01_k».proof.Proof.Gen.DwqkvRefIdeal.Read
public import proofs.«01_k».proof.Proof.Prod
public import proofs.«01_k».proof.Proof.Parts
public import Idealize.ShloMosaic.Lib.Pipeline.ValueKit

@[expose] public section

set_option maxRecDepth 16384

noncomputable section

namespace Cert.DwqkvProof

open Cert.Prod Cert.Parts
open Idealize.ShloMosaic Idealize.ShloMosaic.TcCoe Idealize.SL.Sem

section Kernel

open Cert.DwqkvIdeal Cert.DwqkvIdeal.Gen

variable (m : (ℓ : Loc nD τ sig) → Buf (Elt Ideal) ℓ)

theorem pay_apply (a : Vec Ideal S2048x1024 .bf16) (b : Vec Ideal S2048x512 .bf16) (i : Fin 1024) (j : Fin 512) :
    k0_pay1 (F := Ideal) a b (ix2 i j) = tmm (f := .bf16) (g := .bf16) a b i j := by
  pointwise [k0_pay1]
  rfl

theorem idx : ∀ t : Fin cfg0.N, win0_0.index t = ![0, 0] ∧ win0_1.index t = ![0, 0] ∧ win0_2.index t = ![0, 0] ∧ win0_3.index t = ![0, 0]
    ∧ win0_4.index t = ![0, t.val] ∧ t.val < 3 :=
  (by decide +kernel : ∀ t : Fin grid0.N, _)

abbrev A (c : Dev nD) : FVec Ideal S2048x1024 .bf16 := m ((c : Thread nD τ).loc main_arg0)
abbrev DQ (c : Dev nD) : FVec Ideal S2048x512 .bf16 := m ((c : Thread nD τ).loc main_arg1)
abbrev DK (c : Dev nD) : FVec Ideal S2048x512 .bf16 := m ((c : Thread nD τ).loc main_arg2)
abbrev DV (c : Dev nD) : FVec Ideal S2048x512 .bf16 := m ((c : Thread nD τ).loc main_arg3)

abbrev col (t : Fin cfg0.N) (j : Fin 512) : Fin 1536 := ⟨t.val * 512 + j.val, by have := (idx t).2.2.2.2.2; omega⟩

theorem a_read (c : Dev nD) (t : Fin cfg0.N) (i : Fin 1024) (e : Fin 2048) :
    (show Vec Ideal S2048x1024 .bf16 from iblk m c 0 t) (ix2 e i) = A m c (ix2 e i) := by
  blk_ext [iblk, V, idx t]
theorem q_read (c : Dev nD) (t : Fin cfg0.N) (e : Fin 2048) (j : Fin 512) :
    (show Vec Ideal S2048x512 .bf16 from iblk m c 1 t) (ix2 e j) = DQ m c (ix2 e j) := by
  blk_ext [iblk, V, idx t]
theorem k_read (c : Dev nD) (t : Fin cfg0.N) (e : Fin 2048) (j : Fin 512) :
    (show Vec Ideal S2048x512 .bf16 from iblk m c 2 t) (ix2 e j) = DK m c (ix2 e j) := by
  blk_ext [iblk, V, idx t]
theorem v_read (c : Dev nD) (t : Fin cfg0.N) (e : Fin 2048) (j : Fin 512) :
    (show Vec Ideal S2048x512 .bf16 from iblk m c 3 t) (ix2 e j) = DV m c (ix2 e j) := by
  blk_ext [iblk, V, idx t]

/-- Every point leaves the product with the piece its columns lie in. -/
theorem left_apply (c : Dev nD) (t : Fin cfg0.N) (i : Fin 1024) (j : Fin 512) : outsAt0 m c t.val t.isLt (ix2 i j)
    = tmm (A m c) (joined (DQ m c) (DK m c) (DV m c)) i (col t j) := by
  have ht := (idx t).2.2.2.2.2
  have hc : (col t j).val = t.val * 512 + j.val := rfl
  have hk : j.val = (col t j).val % 512 := by omega
  obtain h | h | h : t.val = 0 ∨ t.val = 1 ∨ t.val = 2 := by omega
  · have e : outsAt0 m c t.val t.isLt = k0_pay1 (F := Ideal) (iblk m c 0 t) (iblk m c 1 t) := by
      rw [outsAt0_A m c t (by omega) (by omega) (by omega)]; frame_out <;> rfl
    refine (congrFun e _).trans ((pay_apply _ _ i j).trans (Finset.sum_congr rfl fun q _ => congrArg₂ (· * ·) (a_read m c t i q) ((q_read m c t q j).trans ?_)))
    rw [joined_apply _ _ _ _ _ j hk, if_pos (show (col t j).val < 512 by omega)]
  · have e : outsAt0 m c t.val t.isLt = k0_pay1 (F := Ideal) (iblk m c 0 t) (iblk m c 2 t) := by
      rw [outsAt0_B m c t (by omega) (by omega) (by omega)]; frame_out <;> rfl
    refine (congrFun e _).trans ((pay_apply _ _ i j).trans (Finset.sum_congr rfl fun q _ => congrArg₂ (· * ·) (a_read m c t i q) ((k_read m c t q j).trans ?_)))
    rw [joined_apply _ _ _ _ _ j hk, if_neg (show ¬(col t j).val < 512 by omega), if_pos (show (col t j).val < 1024 by omega)]
  · have e : outsAt0 m c t.val t.isLt = k0_pay1 (F := Ideal) (iblk m c 0 t) (iblk m c 3 t) := by
      rw [outsAt0_C m c t (by omega) (by omega) (by omega)]; frame_out <;> rfl
    refine (congrFun e _).trans ((pay_apply _ _ i j).trans (Finset.sum_congr rfl fun q _ => congrArg₂ (· * ·) (a_read m c t i q) ((v_read m c t q j).trans ?_)))
    rw [joined_apply _ _ _ _ _ j hk, if_neg (show ¬(col t j).val < 512 by omega), if_neg (show ¬(col t j).val < 1024 by omega)]

theorem final (c : Dev nD) :
    (dats m 0 c).arrAt 4 (cfgs 0).N = fun i : S1024x1536.Idx => tmm (A m c) (joined (DQ m c) (DK m c) (DV m c)) (i 0) (i 1) := by
  refine (dats m 0 c).arrAt_eq_of_covers 4 _ (by decide +kernel) fun t _ y => ?_
  blk_simp
  rw [after0_4]
  obtain ⟨i, j, rfl⟩ : ∃ (i : Fin 1024) (j : Fin 512), y = ix2 i j := ⟨y 0, y 1, eq_ix2 y⟩
  refine (left_apply m c t i j).trans (congrArg₂ (tmm (A m c) (joined (DQ m c) (DK m c) (DV m c))) (Fin.ext ?_) (Fin.ext ?_))
  · blk_simp [idx t]
  · blk_simp [idx t]

end Kernel

section Ref

open Cert.DwqkvRefIdeal Cert.DwqkvRefIdeal.Gen Cert.DwqkvRefIdeal.Read

theorem joined_eq (D K V : FVec Ideal S2048x512 .bf16) : val_main_v0 (F := Ideal) D K V = joined D K V := by
  funext i
  obtain ⟨q, j, rfl⟩ : ∃ (q : Fin 2048) (j : Fin 1536), i = ix2 q j := ⟨i 0, i 1, eq_ix2 i⟩
  rw [joined_apply _ _ _ _ _ ⟨j.val % 512, Nat.mod_lt _ (by decide)⟩ rfl]
  have hj := j.isLt
  pointwise [val_main_v0]
  by_cases h : j.val < 512
  · rw [dif_pos h, if_pos h]
    exact congrArg (fun k => D (ix2 q k)) (Fin.ext (by show j.val = j.val % 512; omega))
  by_cases h' : j.val < 1024
  · rw [dif_neg h, if_neg h, dif_pos (by omega), if_pos h']
    exact congrArg (fun k => K (ix2 q k)) (Fin.ext (by show j.val - 512 = j.val % 512; omega))
  · rw [dif_neg h, if_neg h, dif_neg (by omega), if_neg h']
    exact congrArg (fun k => V (ix2 q k)) (Fin.ext (by show j.val - 512 - 512 = j.val % 512; omega))

theorem ref_apply (A : FVec Ideal S2048x1024 .bf16) (D K V : FVec Ideal S2048x512 .bf16) (i : Fin 1024) (j : Fin 1536) :
    val_main_v7 (F := Ideal) A D K V (ix2 i j) = tmm A (joined D K V) i j := by
  rw [← joined_eq]
  pointwise [val_main_v7, val_main_v6, val_main_v5, val_main_v4, val_main_v2]
  exact Finset.sum_congr rfl fun e _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (Cert.DwqkvRefIdeal.Value.run m ρ)

end Ref

theorem algebraic : Cert.algebraic_DwqkvIdeal_DwqkvRefIdeal := by
  intro m ρ m' ρ' _ hag
  refine ⟨fun c i => tmm (A m c) (joined (DQ m c) (DK m c) (DV m c)) (i 0) (i 1),
    (θ_run _ _ _).mono (fun r h c => ?_) (Cert.DwqkvIdeal.Value.run_blocks m ρ),
    (θ_run _ _ _).mono (fun r h c => ?_) (Cert.DwqkvRefIdeal.Value.run m' ρ')⟩
  · exact ⟨(h c).1.trans (final m c), (h c).2⟩
  · refine ⟨(h c).1.trans ?_, (h c).2⟩
    rw [Cert.DwqkvRefIdeal.Read.val_main_v7_eq, (hag c).1, (hag c).2.1, (hag c).2.2.1, (hag c).2.2.2]
    funext i
    exact (congrArg _ (eq_ix2 i)).trans (ref_apply _ _ _ _ (i 0) (i 1))

end Cert.DwqkvProof
-- ==== Proof.Dwrest.lean ====
/- The gradient of the weights of the gates and the branches: the kernel reads four cotangents side by side, the reference one joined array. -/
module

public import proofs.«01_k».proof.Defs
public import proofs.«01_k».proof.Proof.Gen.DwrestIdeal.Value
public import proofs.«01_k».proof.Proof.Gen.DwrestRefIdeal.Run
public import proofs.«01_k».proof.Proof.Gen.DwrestRefIdeal.Read
public import proofs.«01_k».proof.Proof.Prod
public import Idealize.ShloMosaic.Lib.Pipeline.ValueKit

@[expose] public section

set_option maxRecDepth 16384

noncomputable section

namespace Cert.DwrestProof

open Cert.Prod
open Idealize.ShloMosaic Idealize.ShloMosaic.TcCoe Idealize.SL.Sem

/-- Four arrays side by side. -/
def joined (D₀ D₁ D₂ D₃ : FVec Ideal ⟨2, ![2048, 1024]⟩ .bf16) : FVec Ideal ⟨2, ![2048, 4096]⟩ .bf16 := fun i =>
  if (i 1).val < 1024 then D₀ (ix2 (i 0) ⟨(i 1).val % 1024, Nat.mod_lt _ (by decide)⟩)
  else if (i 1).val < 2048 then D₁ (ix2 (i 0) ⟨(i 1).val % 1024, Nat.mod_lt _ (by decide)⟩)
  else if (i 1).val < 3072 then D₂ (ix2 (i 0) ⟨(i 1).val % 1024, Nat.mod_lt _ (by decide)⟩)
  else D₃ (ix2 (i 0) ⟨(i 1).val % 1024, Nat.mod_lt _ (by decide)⟩)

theorem joined_apply (D₀ D₁ D₂ D₃ : FVec Ideal ⟨2, ![2048, 1024]⟩ .bf16) (q : Fin 2048) (j : Fin 4096) (k : Fin 1024) (hk : k.val = j.val % 1024) :
    joined D₀ D₁ D₂ D₃ (ix2 q j) = if j.val < 1024 then D₀ (ix2 q k) else if j.val < 2048 then D₁ (ix2 q k)
      else if j.val < 3072 then D₂ (ix2 q k) else D₃ (ix2 q k) := by
  obtain rfl : k = ⟨j.val % 1024, Nat.mod_lt _ (by decide)⟩ := Fin.ext hk
  rfl

section Kernel

open Cert.DwrestIdeal Cert.DwrestIdeal.Gen

variable (m : (ℓ : Loc nD τ sig) → Buf (Elt Ideal) ℓ)

theorem pay_apply (a : Vec Ideal S2048x1024 .bf16) (b : Vec Ideal S2048x512 .bf16) (i : Fin 1024) (j : Fin 512) :
    k0_pay1 (F := Ideal) a b (ix2 i j) = tmm (f := .bf16) (g := .bf16) a b i j := by
  pointwise [k0_pay1]
  rfl

theorem idx : ∀ t : Fin cfg0.N, win0_0.index t = ![0, 0] ∧ win0_1.index t = ![0, min t.val 1] ∧ win0_2.index t = ![0, min (t.val - 2) 1]
    ∧ win0_3.index t = ![0, min (t.val - 4) 1] ∧ win0_4.index t = ![0, min (t.val - 6) 1] ∧ win0_5.index t = ![0, t.val] ∧ t.val < 8 :=
  (by decide +kernel : ∀ t : Fin grid0.N, _)

abbrev A (c : Dev nD) : FVec Ideal S2048x1024 .bf16 := m ((c : Thread nD τ).loc main_arg0)
abbrev D0 (c : Dev nD) : FVec Ideal S2048x1024 .bf16 := m ((c : Thread nD τ).loc main_arg1)
abbrev D1 (c : Dev nD) : FVec Ideal S2048x1024 .bf16 := m ((c : Thread nD τ).loc main_arg2)
abbrev D2 (c : Dev nD) : FVec Ideal S2048x1024 .bf16 := m ((c : Thread nD τ).loc main_arg3)
abbrev D3 (c : Dev nD) : FVec Ideal S2048x1024 .bf16 := m ((c : Thread nD τ).loc main_arg4)

abbrev col (t : Fin cfg0.N) (j : Fin 512) : Fin 4096 := ⟨t.val * 512 + j.val, by have := (idx t).2.2.2.2.2.2; omega⟩
/-- The column within its piece. -/
abbrev pcol (p : ℕ) (t : Fin cfg0.N) (j : Fin 512) : Fin 1024 := ⟨min (t.val - p) 1 * 512 + j.val, by omega⟩

theorem a_read (c : Dev nD) (t : Fin cfg0.N) (i : Fin 1024) (e : Fin 2048) :
    (show Vec Ideal S2048x1024 .bf16 from iblk m c 0 t) (ix2 e i) = A m c (ix2 e i) := by
  blk_ext [iblk, V, idx t]
theorem d0_read (c : Dev nD) (t : Fin cfg0.N) (e : Fin 2048) (j : Fin 512) :
    (show Vec Ideal S2048x512 .bf16 from iblk m c 1 t) (ix2 e j) = D0 m c (ix2 e (pcol 0 t j)) := by
  blk_ext [iblk, V, idx t]
theorem d1_read (c : Dev nD) (t : Fin cfg0.N) (e : Fin 2048) (j : Fin 512) :
    (show Vec Ideal S2048x512 .bf16 from iblk m c 2 t) (ix2 e j) = D1 m c (ix2 e (pcol 2 t j)) := by
  blk_ext [iblk, V, idx t]
theorem d2_read (c : Dev nD) (t : Fin cfg0.N) (e : Fin 2048) (j : Fin 512) :
    (show Vec Ideal S2048x512 .bf16 from iblk m c 3 t) (ix2 e j) = D2 m c (ix2 e (pcol 4 t j)) := by
  blk_ext [iblk, V, idx t]
theorem d3_read (c : Dev nD) (t : Fin cfg0.N) (e : Fin 2048) (j : Fin 512) :
    (show Vec Ideal S2048x512 .bf16 from iblk m c 4 t) (ix2 e j) = D3 m c (ix2 e (pcol 6 t j)) := by
  blk_ext [iblk, V, idx t]

abbrev JJ (c : Dev nD) := joined (D0 m c) (D1 m c) (D2 m c) (D3 m c)

/-- Every point leaves the product with the piece its columns lie in. -/
theorem left_apply (c : Dev nD) (t : Fin cfg0.N) (i : Fin 1024) (j : Fin 512) : outsAt0 m c t.val t.isLt (ix2 i j)
    = tmm (A m c) (JJ m c) i (col t j) := by
  have ht := (idx t).2.2.2.2.2.2
  have hc : (col t j).val = t.val * 512 + j.val := rfl
  obtain h | h | h | h : t.val / 2 = 0 ∨ t.val / 2 = 1 ∨ t.val / 2 = 2 ∨ t.val / 2 = 3 := by omega
  · have e : outsAt0 m c t.val t.isLt = k0_pay1 (F := Ideal) (iblk m c 0 t) (iblk m c 1 t) := by
      rw [outsAt0_A m c t (by omega) (by omega) (by omega) (by omega)]; frame_out <;> rfl
    refine (congrFun e _).trans ((pay_apply _ _ i j).trans (Finset.sum_congr rfl fun q _ => congrArg₂ (· * ·) (a_read m c t i q) ((d0_read m c t q j).trans ?_)))
    refine Eq.trans ?_ (joined_apply (D0 m c) (D1 m c) (D2 m c) (D3 m c) q (col t j) (pcol 0 t j) (by show min (t.val - 0) 1 * 512 + j.val = _; omega)).symm
    rw [if_pos (show (col t j).val < 1024 by omega)]
  · have e : outsAt0 m c t.val t.isLt = k0_pay1 (F := Ideal) (iblk m c 0 t) (iblk m c 2 t) := by
      rw [outsAt0_B m c t (by omega) (by omega) (by omega) (by omega)]; frame_out <;> rfl
    refine (congrFun e _).trans ((pay_apply _ _ i j).trans (Finset.sum_congr rfl fun q _ => congrArg₂ (· * ·) (a_read m c t i q) ((d1_read m c t q j).trans ?_)))
    refine Eq.trans ?_ (joined_apply (D0 m c) (D1 m c) (D2 m c) (D3 m c) q (col t j) (pcol 2 t j) (by show min (t.val - 2) 1 * 512 + j.val = _; omega)).symm
    rw [if_neg (show ¬(col t j).val < 1024 by omega), if_pos (show (col t j).val < 2048 by omega)]
  · have e : outsAt0 m c t.val t.isLt = k0_pay1 (F := Ideal) (iblk m c 0 t) (iblk m c 3 t) := by
      rw [outsAt0_C m c t (by omega) (by omega) (by omega) (by omega)]; frame_out <;> rfl
    refine (congrFun e _).trans ((pay_apply _ _ i j).trans (Finset.sum_congr rfl fun q _ => congrArg₂ (· * ·) (a_read m c t i q) ((d2_read m c t q j).trans ?_)))
    refine Eq.trans ?_ (joined_apply (D0 m c) (D1 m c) (D2 m c) (D3 m c) q (col t j) (pcol 4 t j) (by show min (t.val - 4) 1 * 512 + j.val = _; omega)).symm
    rw [if_neg (show ¬(col t j).val < 1024 by omega), if_neg (show ¬(col t j).val < 2048 by omega), if_pos (show (col t j).val < 3072 by omega)]
  · have e : outsAt0 m c t.val t.isLt = k0_pay1 (F := Ideal) (iblk m c 0 t) (iblk m c 4 t) := by
      rw [outsAt0_D m c t (by omega) (by omega) (by omega) (by omega)]; frame_out <;> rfl
    refine (congrFun e _).trans ((pay_apply _ _ i j).trans (Finset.sum_congr rfl fun q _ => congrArg₂ (· * ·) (a_read m c t i q) ((d3_read m c t q j).trans ?_)))
    refine Eq.trans ?_ (joined_apply (D0 m c) (D1 m c) (D2 m c) (D3 m c) q (col t j) (pcol 6 t j) (by show min (t.val - 6) 1 * 512 + j.val = _; omega)).symm
    rw [if_neg (show ¬(col t j).val < 1024 by omega), if_neg (show ¬(col t j).val < 2048 by omega), if_neg (show ¬(col t j).val < 3072 by omega)]

theorem final (c : Dev nD) :
    (dats m 0 c).arrAt 5 (cfgs 0).N = fun i : S1024x4096.Idx => tmm (A m c) (JJ m c) (i 0) (i 1) := by
  refine (dats m 0 c).arrAt_eq_of_covers 5 _ (by decide +kernel) fun t _ y => ?_
  blk_simp
  rw [after0_5]
  obtain ⟨i, j, rfl⟩ : ∃ (i : Fin 1024) (j : Fin 512), y = ix2 i j := ⟨y 0, y 1, eq_ix2 y⟩
  refine (left_apply m c t i j).trans (congrArg₂ (tmm (A m c) (JJ m c)) (Fin.ext ?_) (Fin.ext ?_))
  · blk_simp [idx t]
  · blk_simp [idx t]

end Kernel

section Ref

open Cert.DwrestRefIdeal Cert.DwrestRefIdeal.Gen Cert.DwrestRefIdeal.Read

theorem joined_eq (D₀ D₁ D₂ D₃ : FVec Ideal S2048x1024 .bf16) : val_main_v0 (F := Ideal) D₀ D₁ D₂ D₃ = joined D₀ D₁ D₂ D₃ := by
  funext i
  obtain ⟨q, j, rfl⟩ : ∃ (q : Fin 2048) (j : Fin 4096), i = ix2 q j := ⟨i 0, i 1, eq_ix2 i⟩
  rw [joined_apply _ _ _ _ q j ⟨j.val % 1024, Nat.mod_lt _ (by decide)⟩ rfl]
  have hj := j.isLt
  pointwise [val_main_v0]
  by_cases h : j.val < 1024
  · rw [dif_pos h, if_pos h]
    exact congrArg (fun k => D₀ (ix2 q k)) (Fin.ext (by show j.val = j.val % 1024; omega))
  by_cases h' : j.val < 2048
  · rw [dif_neg h, if_neg h, dif_pos (by omega), if_pos h']
    exact congrArg (fun k => D₁ (ix2 q k)) (Fin.ext (by show j.val - 1024 = j.val % 1024; omega))
  by_cases h'' : j.val < 3072
  · rw [dif_neg h, if_neg h, dif_neg (by omega), if_neg h', dif_pos (by omega), if_pos h'']
    exact congrArg (fun k => D₂ (ix2 q k)) (Fin.ext (by show j.val - 1024 - 1024 = j.val % 1024; omega))
  · rw [dif_neg h, if_neg h, dif_neg (by omega), if_neg h', dif_neg (by omega), if_neg h'']
    exact congrArg (fun k => D₃ (ix2 q k)) (Fin.ext (by show j.val - 1024 - 1024 - 1024 = j.val % 1024; omega))

theorem ref_apply (A : FVec Ideal S2048x1024 .bf16) (D₀ D₁ D₂ D₃ : FVec Ideal S2048x1024 .bf16) (i : Fin 1024) (j : Fin 4096) :
    val_main_v7 (F := Ideal) A D₀ D₁ D₂ D₃ (ix2 i j) = tmm A (joined D₀ D₁ D₂ D₃) i j := by
  rw [← joined_eq]
  pointwise [val_main_v7, val_main_v6, val_main_v5, val_main_v4, val_main_v2]
  exact Finset.sum_congr rfl fun e _ => mul_comm _ _

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Cert.DwrestRefIdeal.Value.run m ρ)

end Ref

theorem algebraic : Cert.algebraic_DwrestIdeal_DwrestRefIdeal := by
  intro m ρ m' ρ' _ hag
  refine ⟨fun c i => tmm (A m c) (JJ m c) (i 0) (i 1),
    (θ_run _ _ _).mono (fun r h c => ?_) (Cert.DwrestIdeal.Value.run_blocks m ρ),
    (θ_run _ _ _).mono (fun r h c => ?_) (Cert.DwrestRefIdeal.Value.run m' ρ')⟩
  · exact ⟨(h c).1.trans (final m c), (h c).2⟩
  · refine ⟨(h c).1.trans ?_, (h c).2⟩
    rw [Cert.DwrestRefIdeal.Read.val_main_v7_eq, (hag c).1, (hag c).2.1, (hag c).2.2.1, (hag c).2.2.2.1, (hag c).2.2.2.2]
    funext i
    exact (congrArg _ (eq_ix2 i)).trans (ref_apply _ _ _ _ _ (i 0) (i 1))

end Cert.DwrestProof
-- ==== Proof.Dhqkv.lean ====
/- The gradient at the input of the query, key and value products: the kernel adds up three products, the reference joins the parts and multiplies once. -/
module

public import proofs.«01_k».proof.Defs
public import proofs.«01_k».proof.Proof.Gen.DhqkvIdeal.Value
public import proofs.«01_k».proof.Proof.Gen.DhqkvRefIdeal.Run
public import proofs.«01_k».proof.Proof.Gen.DhqkvRefIdeal.Read
public import proofs.«01_k».proof.Proof.Prod
public import proofs.«01_k».proof.Proof.Parts
public import Idealize.ShloMosaic.Lib.Pipeline.ValueKit
public import Idealize.ShloMosaic.Lib.Pipeline.ReadBack

@[expose] public section

set_option maxRecDepth 16384

noncomputable section

namespace Cert.DhqkvProof

open Cert.Prod Cert.Parts
open Idealize.ShloMosaic Idealize.ShloMosaic.TcCoe Idealize.SL.Sem

section Kernel

open Cert.DhqkvIdeal Cert.DhqkvIdeal.Gen

variable (m : (ℓ : Loc nD τ sig) → Buf (Elt Ideal) ℓ)

theorem first_apply (a : Vec Ideal S2048x512 .bf16) (b : Vec Ideal S512x512 .bf16) (i : S2048x512.Idx) :
    k0_pay2 (F := Ideal) a b i = k0_pay1 (F := Ideal) a b i := by
  pointwise [k0_pay2]
theorem add_apply (a : Vec Ideal S2048x512 .bf16) (b : Vec Ideal S512x512 .bf16) (s : Vec Ideal S2048x512 .f32) (i : S2048x512.Idx) :
    k0_pay3 (F := Ideal) a b s i = s i + k0_pay1 (F := Ideal) a b i := by
  pointwise [k0_pay3]
theorem part_apply (a : Vec Ideal S2048x512 .bf16) (b : Vec Ideal S512x512 .bf16) (q : Fin 2048) (j : Fin 512) :
    k0_pay1 (F := Ideal) a b (ix2 q j) = ∑ e : Fin 512, a (ix2 q e) * b (ix2 j e) := by
  pointwise [k0_pay1]

theorem idx : ∀ t : Fin cfg0.N, win0_0.index t = ![0, 0] ∧ win0_1.index t = ![0, 0] ∧ win0_2.index t = ![0, 0]
    ∧ win0_3.index t = ![t.val / 3, t.val % 3] ∧ win0_5.index t = ![0, t.val / 3] ∧ t.val < 6 :=
  (by decide +kernel : ∀ t : Fin grid0.N, _)

abbrev DQ (c : Dev nD) : FVec Ideal S2048x512 .bf16 := m ((c : Thread nD τ).loc main_arg0)
abbrev DK (c : Dev nD) : FVec Ideal S2048x512 .bf16 := m ((c : Thread nD τ).loc main_arg1)
abbrev DV (c : Dev nD) : FVec Ideal S2048x512 .bf16 := m ((c : Thread nD τ).loc main_arg2)
abbrev W (c : Dev nD) : FVec Ideal S1024x1536 .bf16 := m ((c : Thread nD τ).loc main_arg3)

abbrev col (t : Fin cfg0.N) (j : Fin 512) : Fin 1024 := ⟨t.val / 3 * 512 + j.val, by have := (idx t).2.2.2.2.2; omega⟩
abbrev lane (t : Fin cfg0.N) (e : Fin 512) : Fin 1536 := ⟨t.val % 3 * 512 + e.val, by omega⟩

/-- The part a point multiplies. -/
def part (c : Dev nD) (t : Fin cfg0.N) : Vec Ideal S2048x512 .bf16 :=
  if t.val % 3 = 0 then iblk m c 0 t else if t.val % 3 = 1 then iblk m c 1 t else iblk m c 2 t

theorem q_read (c : Dev nD) (t : Fin cfg0.N) (q : Fin 2048) (e : Fin 512) :
    (show Vec Ideal S2048x512 .bf16 from iblk m c 0 t) (ix2 q e) = DQ m c (ix2 q e) := by
  blk_ext [iblk, V, idx t]
theorem k_read (c : Dev nD) (t : Fin cfg0.N) (q : Fin 2048) (e : Fin 512) :
    (show Vec Ideal S2048x512 .bf16 from iblk m c 1 t) (ix2 q e) = DK m c (ix2 q e) := by
  blk_ext [iblk, V, idx t]
theorem v_read (c : Dev nD) (t : Fin cfg0.N) (q : Fin 2048) (e : Fin 512) :
    (show Vec Ideal S2048x512 .bf16 from iblk m c 2 t) (ix2 q e) = DV m c (ix2 q e) := by
  blk_ext [iblk, V, idx t]
theorem w_read (c : Dev nD) (t : Fin cfg0.N) (j e : Fin 512) :
    (show Vec Ideal S512x512 .bf16 from iblk m c 3 t) (ix2 j e) = W m c (ix2 (col t j) (lane t e)) := by
  blk_ext [iblk, V, idx t]

theorem part_read (c : Dev nD) (t : Fin cfg0.N) (q : Fin 2048) (e : Fin 512) :
    part m c t (ix2 q e) = joined (DQ m c) (DK m c) (DV m c) (ix2 q (lane t e)) := by
  have hl : (lane t e).val = t.val % 3 * 512 + e.val := rfl
  refine Eq.trans ?_ (joined_apply _ _ _ q (lane t e) e (by omega)).symm
  unfold part
  obtain h | h | h : t.val % 3 = 0 ∨ t.val % 3 = 1 ∨ t.val % 3 = 2 := by omega
  · rw [if_pos h, if_pos (by omega)]; exact q_read m c t q e
  · rw [if_neg (by omega), if_pos h, if_neg (by omega), if_pos (by omega)]; exact k_read m c t q e
  · rw [if_neg (by omega), if_neg (by omega), if_neg (by omega), if_neg (by omega)]; exact v_read m c t q e

/-- The first part's point starts the running sum, -/
theorem start_acc (c : Dev nD) (t : Fin cfg0.N) (h : t.val % 3 = 0) (i : S2048x512.Idx) : (outsAt0 m c t.val t.isLt).2 i
    = 0 + k0_pay1 (F := Ideal) (part m c t) (iblk m c 3 t) i := by
  rw [outsAt0_A m c t h h (by omega) (by omega) (by omega) (by omega), part, if_pos h]; frame_out; rw [zero_add]; exact first_apply _ _ i
/-- and each later one adds its product. -/
theorem step_acc (c : Dev nD) (t : Fin cfg0.N) (h : ¬t.val % 3 = 0) (i : S2048x512.Idx) : (outsAt0 m c t.val t.isLt).2 i
    = (outsAt0 m c (t.val - 1) (Nat.lt_of_le_of_lt (Nat.sub_le _ _) t.isLt)).2 i + k0_pay1 (F := Ideal) (part m c t) (iblk m c 3 t) i := by
  by_cases h1 : t.val % 3 = 1
  · rw [outsAt0_B m c t h h1 (by omega) (by omega) (by omega) (by omega), part, if_neg h, if_pos h1]
    frame_out; rw [read_unread_whole]; exact add_apply _ _ _ i
  · rw [outsAt0_C m c t h h1 (by omega) (by omega) (by omega) (by omega), part, if_neg h, if_neg h1]
    frame_out; rw [read_unread_whole]; exact add_apply _ _ _ i

/-- The last part's point leaves the running sum. -/
theorem left (c : Dev nD) (t : Fin cfg0.N) (h : t.val % 3 = 2) : (outsAt0 m c t.val t.isLt).1 = (outsAt0 m c t.val t.isLt).2 := by
  rw [outsAt0_C m c t (by omega) (by omega) h (by omega) (by omega) h]; frame_out

theorem final (c : Dev nD) :
    (dats m 0 c).arrAt 5 (cfgs 0).N = fun i : S2048x1024.Idx => mmt (joined (DQ m c) (DK m c) (DV m c)) (W m c) (i 0) (i 1) := by
  refine (dats m 0 c).arrAt_eq_of_covers 5 _ (by decide +kernel) fun t hf y => ?_
  have h : t.val % 3 = 3 - 1 := (flush0_5 t).mp hf
  blk_simp
  rw [after0_5, left m c t h, Pipeline.eq_sum_fin_of_reset_step_apply_of_flush (fun n h => (outsAt0 m c n h).2) 3 (fun _ => 0)
    (fun t => k0_pay1 (F := Ideal) (part m c t) (iblk m c 3 t)) (start_acc m c) (step_acc m c) t h _, zero_add]
  obtain ⟨q, j, rfl⟩ : ∃ (q : Fin 2048) (j : Fin 512), y = ix2 q j := ⟨y 0, y 1, eq_ix2 y⟩
  have hq : ((win0_5.blk t).view.emb (ix2 q j) 0) = q := Fin.ext (by blk_simp [idx t])
  have hj : ((win0_5.blk t).view.emb (ix2 q j) 1) = col t j := Fin.ext (by blk_simp [idx t])
  refine Eq.trans ?_ (congrArg₂ (mmt (joined (DQ m c) (DK m c) (DV m c)) (W m c)) hq hj).symm
  refine (Fin.sum_fin_congr fun s => part_apply _ _ q j).trans (Fin.sum_mul_add_congr fun s e hl => ?_)
  refine congrArg₂ (· * ·) ((part_read m c _ q e).trans (congrArg (fun k => joined (DQ m c) (DK m c) (DV m c) (ix2 q k)) (Fin.ext ?_)))
    ((w_read m c _ j e).trans (congrArg₂ (fun k l => W m c (ix2 k l)) (Fin.ext ?_) (Fin.ext ?_)))
  · show (3 * (t.val / 3) + s.val) % 3 * 512 + e.val = s.val * 512 + e.val
    omega
  · show (3 * (t.val / 3) + s.val) / 3 * 512 + j.val = t.val / 3 * 512 + j.val
    omega
  · show (3 * (t.val / 3) + s.val) % 3 * 512 + e.val = s.val * 512 + e.val
    omega

end Kernel

section Ref

open Cert.DhqkvRefIdeal Cert.DhqkvRefIdeal.Gen Cert.DhqkvRefIdeal.Read

theorem joined_eq (D K V : FVec Ideal S2048x512 .bf16) : val_main_v0 (F := Ideal) D K V = joined D K V := by
  funext i
  obtain ⟨q, j, rfl⟩ : ∃ (q : Fin 2048) (j : Fin 1536), i = ix2 q j := ⟨i 0, i 1, eq_ix2 i⟩
  rw [joined_apply _ _ _ _ _ ⟨j.val % 512, Nat.mod_lt _ (by decide)⟩ rfl]
  have hj := j.isLt
  pointwise [val_main_v0]
  by_cases h : j.val < 512
  · rw [dif_pos h, if_pos h]
    exact congrArg (fun k => D (ix2 q k)) (Fin.ext (by show j.val = j.val % 512; omega))
  by_cases h' : j.val < 1024
  · rw [dif_neg h, if_neg h, dif_pos (by omega), if_pos h']
    exact congrArg (fun k => K (ix2 q k)) (Fin.ext (by show j.val - 512 = j.val % 512; omega))
  · rw [dif_neg h, if_neg h, dif_neg (by omega), if_neg h']
    exact congrArg (fun k => V (ix2 q k)) (Fin.ext (by show j.val - 512 - 512 = j.val % 512; omega))

theorem ref_apply (D K V : FVec Ideal S2048x512 .bf16) (W : FVec Ideal S1024x1536 .bf16) (q : Fin 2048) (j : Fin 1024) :
    val_main_v5 (F := Ideal) D K V W (ix2 q j) = mmt (joined D K V) W q j := by
  rw [← joined_eq]
  pointwise [val_main_v5, val_main_v4, val_main_v2]
  rfl

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Cert.DhqkvRefIdeal.Value.run m ρ)

end Ref

theorem algebraic : Cert.algebraic_DhqkvIdeal_DhqkvRefIdeal := by
  intro m ρ m' ρ' _ hag
  refine ⟨fun c i => mmt (joined (DQ m c) (DK m c) (DV m c)) (W m c) (i 0) (i 1),
    (θ_run _ _ _).mono (fun r h c => ?_) (Cert.DhqkvIdeal.Value.run_blocks m ρ),
    (θ_run _ _ _).mono (fun r h c => ?_) (Cert.DhqkvRefIdeal.Value.run m' ρ')⟩
  · exact ⟨(h c).1.trans (final m c), (h c).2⟩
  · refine ⟨(h c).1.trans ?_, (h c).2⟩
    rw [Cert.DhqkvRefIdeal.Read.val_main_v5_eq, (hag c).1, (hag c).2.1, (hag c).2.2.1, (hag c).2.2.2.1]
    funext i
    exact (congrArg _ (eq_ix2 i)).trans (ref_apply _ _ _ _ (i 0) (i 1))

end Cert.DhqkvProof
-- ==== Proof.DhIdealRun.lean ====
/- The run of `DhIdeal`: the body at the points of a row of the grid, the product accumulated over the four incoming gradients and the gain's
   gradient carried from each row to the next. -/
module

public import proofs.«01_k».proof.Proof.Gen.DhIdeal.Frame
public import proofs.«01_k».proof.Proof.Gen.DhIdeal.Skeleton
public import Idealize.ShloMosaic.Lib.Claim
public import Idealize.ShloMosaic.Lib.Pipeline.TableIdle
public import Idealize.ShloMosaic.Lib.Pipeline.ValueKit.Basic

@[expose] public section

set_option maxRecDepth 16384

noncomputable section

namespace Cert.DhIdealRun

open Cert.DhIdeal Cert.DhIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rect : Rect S512x1024 := Rect.unit (s := S512x1024) ![0, 0] S512x1024.size inb_S512x1024_S512x1024_0_0
abbrev row : Rect S1x1024 := Rect.unit (s := S1x1024) ![0, 0] S1x1024.size inb_S1x1024_S1x1024_0_0
abbrev wr : Rect S1024x1024 := Rect.unit (s := S1024x1024) ![0, 0] S1024x1024.size inb_S1024x1024_S1024x1024_0_0

theorem rect_cover {φ : EltTy} (p : Vec F S512x1024 φ) (y : S512x1024.Idx) :
    ∃ pc ∈ ([⟨rect, p⟩] : List (View.Piece (Elt F) S512x1024 φ)), y ∈ pc.1.set :=
  View.cover_of_tiled [⟨rect, p⟩] S512x1024.size (by rfl) y
theorem row_cover (p : Vec F S1x1024 .f32) (y : S1x1024.Idx) :
    ∃ pc ∈ ([⟨row, p⟩] : List (View.Piece (Elt F) S1x1024 .f32)), y ∈ pc.1.set :=
  View.cover_of_tiled [⟨row, p⟩] S1x1024.size (by rfl) y

/-- The point is the first of its row, -/
abbrev isFirst (i : grid0.Coords) : Prop := Scalar.cmpi .ne (Scalar.extui (Scalar.cmpi .eq (BitVec.ofNat 32 (i 2).val) 0#32)) 0#32 = 1#1
/-- a later one, -/
abbrev isLater (i : grid0.Coords) : Prop := Scalar.cmpi .ne (Scalar.extui (Scalar.cmpi .sgt (BitVec.ofNat 32 (i 2).val) 0#32)) 0#32 = 1#1
/-- or the last. -/
abbrev isLast (i : grid0.Coords) : Prop := k0_cond4 i = 1#1

theorem first_iff : ∀ t : Fin cfg0.N, isFirst (grid0.coords t) ↔ t.val % 4 = 0 :=
  (by decide +kernel : ∀ t : Fin grid0.N, isFirst (grid0.coords t) ↔ t.val % 4 = 0)
theorem later_iff : ∀ t : Fin cfg0.N, isLater (grid0.coords t) ↔ t.val % 4 ≠ 0 :=
  (by decide +kernel : ∀ t : Fin grid0.N, isLater (grid0.coords t) ↔ t.val % 4 ≠ 0)
theorem last_iff : ∀ t : Fin cfg0.N, isLast (grid0.coords t) ↔ t.val % 4 = 3 :=
  (by decide +kernel : ∀ t : Fin grid0.N, isLast (grid0.coords t) ↔ t.val % 4 = 3)
/-- The point takes the second, third or fourth of the incoming gradients. -/
theorem second_iff : ∀ t : Fin cfg0.N, k0_cond5 (grid0.coords t) = 1#1 ↔ t.val % 4 = 1 :=
  (by decide +kernel : ∀ t : Fin grid0.N, k0_cond5 (grid0.coords t) = 1#1 ↔ t.val % 4 = 1)
theorem third_iff : ∀ t : Fin cfg0.N, k0_cond9 (grid0.coords t) = 1#1 ↔ t.val % 4 = 2 :=
  (by decide +kernel : ∀ t : Fin grid0.N, k0_cond9 (grid0.coords t) = 1#1 ↔ t.val % 4 = 2)
theorem fourth_iff : ∀ t : Fin cfg0.N, k0_cond13 (grid0.coords t) = 1#1 ↔ t.val % 4 = 3 :=
  (by decide +kernel : ∀ t : Fin grid0.N, k0_cond13 (grid0.coords t) = 1#1 ↔ t.val % 4 = 3)

theorem idle_9 (t : Fin cfg0.N) (h : ¬ t.val % 4 = 3) : cfg0.idle 9 (grid0.coords t) = true :=
  (by decide +kernel : ∀ t : Fin grid0.N, ¬ t.val % 4 = 3 → cfg0.idle 9 (grid0.coords t) = true) t h
theorem live_9 (t : Fin cfg0.N) (h : t.val % 4 = 3) : cfg0.idle 9 (grid0.coords t) = false :=
  (by decide +kernel : ∀ t : Fin grid0.N, t.val % 4 = 3 → cfg0.idle 9 (grid0.coords t) = false) t h
theorem idle_10 (t : Fin cfg0.N) (h : ¬ t.val % 4 = 3) : cfg0.idle 10 (grid0.coords t) = true :=
  (by decide +kernel : ∀ t : Fin grid0.N, ¬ t.val % 4 = 3 → cfg0.idle 10 (grid0.coords t) = true) t h
theorem live_10 (t : Fin cfg0.N) (h : t.val % 4 = 3) : cfg0.idle 10 (grid0.coords t) = false :=
  (by decide +kernel : ∀ t : Fin grid0.N, t.val % 4 = 3 → cfg0.idle 10 (grid0.coords t) = false) t h
theorem idle_11 (t : Fin cfg0.N) (h : ¬ t.val % 4 = 3) : cfg0.idle 11 (grid0.coords t) = true :=
  (by decide +kernel : ∀ t : Fin grid0.N, ¬ t.val % 4 = 3 → cfg0.idle 11 (grid0.coords t) = true) t h
theorem live_11 (t : Fin cfg0.N) (h : t.val % 4 = 3) : cfg0.idle 11 (grid0.coords t) = false :=
  (by decide +kernel : ∀ t : Fin grid0.N, t.val % 4 = 3 → cfg0.idle 11 (grid0.coords t) = false) t h
theorem kept_9 (t : Fin cfg0.N) (h : ¬ t.val % 4 = 3) : (cfg0.win 9).flush t = false :=
  Bool.eq_false_of_not_eq_true fun e => h ((flush0_9 t).mp e)
theorem kept_10 (t : Fin cfg0.N) (h : ¬ t.val % 4 = 3) : (cfg0.win 10).flush t = false :=
  Bool.eq_false_of_not_eq_true fun e => h ((flush0_10 t).mp e)
theorem kept_11 (t : Fin cfg0.N) (h : ¬ t.val % 16 = 15) : (cfg0.win 11).flush t = false :=
  Bool.eq_false_of_not_eq_true fun e => h ((flush0_11 t).mp e)

/-- The accumulated product after the first incoming gradient, -/
def start (x : Vec F S512x1024 .bf16) (w : Vec F S1024x1024 .bf16) : Vec F S512x1024 .f32 :=
  k0_pay2 (View.ld x rect) (View.ld w wr)
/-- after a later one, -/
def step (x : Vec F S512x1024 .bf16) (w : Vec F S1024x1024 .bf16) (s : Vec F S512x1024 .f32) : Vec F S512x1024 .f32 :=
  k0_pay3 (View.ld x rect) (View.ld w wr) (View.ld s rect)
/-- the residual's gradient from the whole product, -/
def dx (s x5 x6 x7 : Vec F S512x1024 .f32) (x8 : Vec F S1x1024 .f32) : Vec F S512x1024 .f32 :=
  k0_pay38 s (View.ld x5 rect) (View.ld x6 rect) (View.ld x7 rect) (View.ld x8 row)
/-- the same rounded, -/
def dxb (s x5 x6 x7 : Vec F S512x1024 .f32) (x8 : Vec F S1x1024 .f32) : Vec F S512x1024 .bf16 :=
  k0_pay40 s (View.ld x5 rect) (View.ld x6 rect) (View.ld x7 rect) (View.ld x8 row)
/-- and the gain's gradient, where the buffer held `z`. -/
def dg (i : grid0.Coords) (s x5 x6 : Vec F S512x1024 .f32) (z : Vec F S1x1024 .f32) : Vec F S1x1024 .f32 :=
  k0_pay16 (k0_pay39 s (View.ld x5 rect) (View.ld x6 rect)) (Scalar.cmpi .eq (BitVec.ofNat 32 (i 0).val) 0#32) (View.ld z row)

/-- In the first row what the buffer held is not used. -/
theorem dg_first (i : grid0.Coords) (hi : (i 0).val = 0) (s x5 x6 : Vec F S512x1024 .f32) (z z' : Vec F S1x1024 .f32) :
    dg i s x5 x6 z = dg i s x5 x6 z' := by
  unfold dg k0_pay16
  rw [hi]
  rfl

theorem read_rect {φ : EltTy} {v : View sig .tc .vmem S512x1024 φ} (f : v.ty.Contents (Elt F)) (p : Vec F S512x1024 φ) :
    v.read (Elt F) (v.writes (Elt F) f [⟨rect, p⟩]) = p :=
  (View.read_writes_eq_canon _ _ _ (rect_cover _)).trans (View.canon_cons_unit_lit _ _ _ (by decide))
theorem read_row {v : View sig .tc .vmem S1x1024 .f32} (f : v.ty.Contents (Elt F)) (p : Vec F S1x1024 .f32) :
    v.read (Elt F) (v.writes (Elt F) f [⟨row, p⟩]) = p :=
  (View.read_writes_eq_canon _ _ _ (row_cover _)).trans (View.canon_cons_unit_lit _ _ _ (by decide))
theorem back_rect (v : View sig .tc .vmem S512x1024 .f32) (p : Vec F S512x1024 .f32) :
    v.readCov [(⟨rect, p⟩ : View.Piece (Elt F) S512x1024 .f32)] rect.toLoadRect = p :=
  View.readCov_unit_lit v _ _ (by decide)

set_option maxHeartbeats 3200000 in
/-- The first point of a row starts the product. -/
theorem run_first (c : Dev nD) (E : Set ℕ) (i : grid0.Coords) (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S1024x1024 .bf16) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (arg11 : Memref sig .tc .vmem S1x1024 .f32) (harg11 : arg11.IsWhole) (arg12 : Memref sig .tc .vmem S512x1024 .f32) (harg12 : arg12.IsWhole)
    (arg13 : Memref sig .tc .vmem S512x1024 .bf16) (harg13 : arg13.IsWhole) (arg14 : Memref sig .tc .vmem S1x1024 .f32) (harg14 : arg14.IsWhole)
    (arg15 : Memref sig .tc .vmem S512x1024 .f32) (harg15 : arg15.IsWhole)
    (x0 x1 x2 x3 : Vec F S512x1024 .bf16) (x4 : Vec F S1024x1024 .bf16) (x5 x6 x7 : Vec F S512x1024 .f32) (x8 : Vec F S1x1024 .f32)
    (y9 : Vec F S512x1024 .f32) (y10 : Vec F S512x1024 .bf16) (z : Vec F S1x1024 .f32) (s : Vec F S512x1024 .f32) (K : PUnit → sProp 𝕄)
    (p0 : k0_cond1 i = 1#1) (p1 : ¬k0_cond5 i = 1#1) (p2 : ¬k0_cond9 i = 1#1) (p3 : ¬k0_cond13 i = 1#1)
    (h1 : isFirst i) (h2 : ¬isLater i) (h3 : ¬isLast i) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare x8 ∗ owns (c : Thread nD τ) arg12 fullShare y9 ∗ owns (c : Thread nD τ) arg13 fullShare y10 ∗ owns (c : Thread nD τ) arg14 fullShare z ∗ owns (c : Thread nD τ) arg15 fullShare s
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6 ∗ owns (c : Thread nD τ) arg10 fullShare x7
          ∗ owns (c : Thread nD τ) arg11 fullShare x8 ∗ owns (c : Thread nD τ) arg12 fullShare y9 ∗ owns (c : Thread nD τ) arg13 fullShare y10 ∗ owns (c : Thread nD τ) arg14 fullShare z ∗ owns (c : Thread nD τ) arg15 fullShare (start x0 x4)) -∗ K ⟨⟩))
      ⊢ wp frame (wpE (defs₀ (F := F)) Variants.none c none) E (cc0_dh i arg3 harg3 arg4 harg4 arg5 harg5 arg6 harg6 arg7 harg7 arg8 harg8 arg9 harg9 arg10 harg10 arg11 harg11 arg12 harg12 arg13 harg13 arg14 harg14 arg15 harg15) K := by
  simp only [cc0_dh_eq_skeleton]; unfold cc0_dh_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, Hk⟩
  subst hf0 hf1 hf2 hf3 hf4 hf5 hf6 hf7 hf8 hf9 hf10 hf11 hfs
  sl_exec (disch := first | sl_exact p0 | sl_exact p1 | sl_exact p2 | sl_exact p3 | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact HS
  ipureintro
  exact read_rect _ _

set_option maxHeartbeats 3200000 in
/-- A middle point adds the product of the second or of the third. -/
theorem run_mid (c : Dev nD) (E : Set ℕ) (i : grid0.Coords) (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S1024x1024 .bf16) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (arg11 : Memref sig .tc .vmem S1x1024 .f32) (harg11 : arg11.IsWhole) (arg12 : Memref sig .tc .vmem S512x1024 .f32) (harg12 : arg12.IsWhole)
    (arg13 : Memref sig .tc .vmem S512x1024 .bf16) (harg13 : arg13.IsWhole) (arg14 : Memref sig .tc .vmem S1x1024 .f32) (harg14 : arg14.IsWhole)
    (arg15 : Memref sig .tc .vmem S512x1024 .f32) (harg15 : arg15.IsWhole)
    (x0 x1 x2 x3 : Vec F S512x1024 .bf16) (x4 : Vec F S1024x1024 .bf16) (x5 x6 x7 : Vec F S512x1024 .f32) (x8 : Vec F S1x1024 .f32)
    (y9 : Vec F S512x1024 .f32) (y10 : Vec F S512x1024 .bf16) (z : Vec F S1x1024 .f32) (s : Vec F S512x1024 .f32) (x : Vec F S512x1024 .bf16) (K : PUnit → sProp 𝕄)
    (p0 : ¬k0_cond1 i = 1#1) (p3 : ¬k0_cond13 i = 1#1) (h1 : ¬isFirst i) (h2 : isLater i) (h3 : ¬isLast i)
    (hp : k0_cond5 i = 1#1 ∧ ¬k0_cond9 i = 1#1 ∧ x = x1 ∨ ¬k0_cond5 i = 1#1 ∧ k0_cond9 i = 1#1 ∧ x = x2) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare x8 ∗ owns (c : Thread nD τ) arg12 fullShare y9 ∗ owns (c : Thread nD τ) arg13 fullShare y10 ∗ owns (c : Thread nD τ) arg14 fullShare z ∗ owns (c : Thread nD τ) arg15 fullShare s
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6 ∗ owns (c : Thread nD τ) arg10 fullShare x7
          ∗ owns (c : Thread nD τ) arg11 fullShare x8 ∗ owns (c : Thread nD τ) arg12 fullShare y9 ∗ owns (c : Thread nD τ) arg13 fullShare y10 ∗ owns (c : Thread nD τ) arg14 fullShare z ∗ owns (c : Thread nD τ) arg15 fullShare (step x x4 s)) -∗ K ⟨⟩))
      ⊢ wp frame (wpE (defs₀ (F := F)) Variants.none c none) E (cc0_dh i arg3 harg3 arg4 harg4 arg5 harg5 arg6 harg6 arg7 harg7 arg8 harg8 arg9 harg9 arg10 harg10 arg11 harg11 arg12 harg12 arg13 harg13 arg14 harg14 arg15 harg15) K := by
  simp only [cc0_dh_eq_skeleton]; unfold cc0_dh_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, Hk⟩
  subst hf0 hf1 hf2 hf3 hf4 hf5 hf6 hf7 hf8 hf9 hf10 hf11 hfs
  obtain ⟨p1, p2, rfl⟩ | ⟨p1, p2, rfl⟩ := hp
  all_goals
    sl_exec (disch := first | sl_exact p0 | sl_exact p1 | sl_exact p2 | sl_exact p3 | sl_exact h1 | sl_exact h2 | sl_exact h3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    iexists _; isplitr
    swap; · iexact HS
    ipureintro
    exact read_rect _ _

set_option maxHeartbeats 3200000 in
/-- The last point adds the product of the fourth and leaves the row's results. -/
theorem run_last (c : Dev nD) (E : Set ℕ) (i : grid0.Coords) (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S1024x1024 .bf16) (harg7 : arg7.IsWhole) (arg8 : Memref sig .tc .vmem S512x1024 .f32) (harg8 : arg8.IsWhole)
    (arg9 : Memref sig .tc .vmem S512x1024 .f32) (harg9 : arg9.IsWhole) (arg10 : Memref sig .tc .vmem S512x1024 .f32) (harg10 : arg10.IsWhole)
    (arg11 : Memref sig .tc .vmem S1x1024 .f32) (harg11 : arg11.IsWhole) (arg12 : Memref sig .tc .vmem S512x1024 .f32) (harg12 : arg12.IsWhole)
    (arg13 : Memref sig .tc .vmem S512x1024 .bf16) (harg13 : arg13.IsWhole) (arg14 : Memref sig .tc .vmem S1x1024 .f32) (harg14 : arg14.IsWhole)
    (arg15 : Memref sig .tc .vmem S512x1024 .f32) (harg15 : arg15.IsWhole)
    (x0 x1 x2 x3 : Vec F S512x1024 .bf16) (x4 : Vec F S1024x1024 .bf16) (x5 x6 x7 : Vec F S512x1024 .f32) (x8 : Vec F S1x1024 .f32)
    (y9 : Vec F S512x1024 .f32) (y10 : Vec F S512x1024 .bf16) (z : Vec F S1x1024 .f32) (s : Vec F S512x1024 .f32) (K : PUnit → sProp 𝕄)
    (p0 : ¬k0_cond1 i = 1#1) (p1 : ¬k0_cond5 i = 1#1) (p2 : ¬k0_cond9 i = 1#1) (p3 : k0_cond13 i = 1#1)
    (h1 : ¬isFirst i) (h2 : isLater i) (h3 : isLast i) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare x8 ∗ owns (c : Thread nD τ) arg12 fullShare y9 ∗ owns (c : Thread nD τ) arg13 fullShare y10 ∗ owns (c : Thread nD τ) arg14 fullShare z ∗ owns (c : Thread nD τ) arg15 fullShare s
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare x4 ∗ owns (c : Thread nD τ) arg8 fullShare x5 ∗ owns (c : Thread nD τ) arg9 fullShare x6 ∗ owns (c : Thread nD τ) arg10 fullShare x7
          ∗ owns (c : Thread nD τ) arg11 fullShare x8 ∗ owns (c : Thread nD τ) arg12 fullShare (dx (step x3 x4 s) x5 x6 x7 x8) ∗ owns (c : Thread nD τ) arg13 fullShare (dxb (step x3 x4 s) x5 x6 x7 x8) ∗ owns (c : Thread nD τ) arg14 fullShare (dg i (step x3 x4 s) x5 x6 z) ∗ owns (c : Thread nD τ) arg15 fullShare (step x3 x4 s)) -∗ K ⟨⟩))
      ⊢ wp frame (wpE (defs₀ (F := F)) Variants.none c none) E (cc0_dh i arg3 harg3 arg4 harg4 arg5 harg5 arg6 harg6 arg7 harg7 arg8 harg8 arg9 harg9 arg10 harg10 arg11 harg11 arg12 harg12 arg13 harg13 arg14 harg14 arg15 harg15) K := by
  simp only [cc0_dh_eq_skeleton]; unfold cc0_dh_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, Hk⟩
  subst hf0 hf1 hf2 hf3 hf4 hf5 hf6 hf7 hf8 hf9 hf10 hf11 hfs
  sl_exec (disch := first | sl_exact p0 | sl_exact p1 | sl_exact p2 | sl_exact p3 | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (read_rect _ _).trans (congrArg (fun u => k0_pay38 u _ _ _ _) (back_rect _ _))
  isplitl [H10]
  · iexists _; isplitr
    swap; · iexact H10
    ipureintro
    exact (read_rect _ _).trans (congrArg (fun u => k0_pay40 u _ _ _ _) (back_rect _ _))
  isplitl [H11]
  · iexists _; isplitr
    swap; · iexact H11
    ipureintro
    exact (read_row _ _).trans (congrArg (fun u => k0_pay16 (k0_pay39 u _ _) _ _) (back_rect _ _))
  iexists _; isplitr
  swap; · iexact HS
  ipureintro
  exact read_rect _ _

/-- The incoming gradient a point takes. -/
def incoming (c : Dev nD) (t : Fin cfg0.N) : Vec F S512x1024 .bf16 :=
  if t.val % 4 = 0 then iblk m c 0 t else if t.val % 4 = 1 then iblk m c 1 t else if t.val % 4 = 2 then iblk m c 2 t else iblk m c 3 t

/-- The accumulated product after each point, -/
def prod (c : Dev nD) : (n : ℕ) → n < cfg0.N → Vec F S512x1024 .f32
  | 0, h => start (incoming m c ⟨0, h⟩) (iblk m c 4 ⟨0, h⟩)
  | n + 1, h => if (n + 1) % 4 = 0 then start (incoming m c ⟨n + 1, h⟩) (iblk m c 4 ⟨n + 1, h⟩)
      else step (incoming m c ⟨n + 1, h⟩) (iblk m c 4 ⟨n + 1, h⟩) (prod c n (Nat.lt_of_succ_lt h))

theorem prod_first (c : Dev nD) (t : Fin cfg0.N) (h : t.val % 4 = 0) : prod m c t.val t.isLt = start (incoming m c t) (iblk m c 4 t) := by
  obtain ⟨n, hn⟩ := t
  cases n with
  | zero => rfl
  | succ n => exact if_pos h

theorem prod_later (c : Dev nD) (t : Fin cfg0.N) (h : ¬ t.val % 4 = 0) :
    prod m c t.val t.isLt = step (incoming m c t) (iblk m c 4 t) (prod m c (t.val - 1) (Nat.lt_of_le_of_lt (Nat.sub_le _ _) t.isLt)) := by
  obtain ⟨n, hn⟩ := t
  cases n with
  | zero => exact absurd rfl h
  | succ n => exact if_neg h

/-- and the gain's gradient. -/
def acc (c : Dev nD) : (n : ℕ) → n < cfg0.N → Vec F S1x1024 .f32
  | 0, _ => View.canon []
  | n + 1, h => if (n + 1) % 4 = 3 then dg (grid0.coords ⟨n + 1, h⟩) (prod m c (n + 1) h) (iblk m c 5 ⟨n + 1, h⟩) (iblk m c 6 ⟨n + 1, h⟩) (acc c n (Nat.lt_of_succ_lt h))
      else acc c n (Nat.lt_of_succ_lt h)

theorem acc_idle (c : Dev nD) (t : Fin cfg0.N) (hz : t.val ≠ 0) (h : ¬ t.val % 4 = 3) :
    acc m c t.val t.isLt = acc m c (t.val - 1) (Nat.lt_of_le_of_lt (Nat.sub_le _ _) t.isLt) := by
  obtain ⟨n, hn⟩ := t
  cases n with
  | zero => exact absurd rfl hz
  | succ n => exact if_neg h

theorem acc_live (c : Dev nD) (t : Fin cfg0.N) (h : t.val % 4 = 3) (z : Vec F S1x1024 .f32)
    (hz : t.val ≠ 3 → z = acc m c (t.val - 1) (Nat.lt_of_le_of_lt (Nat.sub_le _ _) t.isLt)) :
    acc m c t.val t.isLt = dg (grid0.coords t) (prod m c t.val t.isLt) (iblk m c 5 t) (iblk m c 6 t) z := by
  by_cases h3 : t.val = 3
  · obtain ⟨n, hn⟩ := t
    obtain rfl : n = 3 := h3
    exact (if_pos (by decide)).trans (dg_first _ (show (grid0.coords (⟨3, by decide⟩ : Fin grid0.N) 0).val = 0 by decide +kernel) _ _ _ _ _)
  · rw [hz h3]
    obtain ⟨n, hn⟩ := t
    cases n with
    | zero => exact absurd h (show ¬ 0 % 4 = 3 by decide)
    | succ n => exact if_pos h

abbrev scratch : Memref sig .tc .vmem S512x1024 .f32 := Memref.whole cc0_scratch0

theorem plain_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Between the points: the scratch at the accumulated product. -/
def between (c : Dev nD) : (n : ℕ) → n ≤ cfg0.N → sProp 𝕄
  | 0, _ => Pipeline.ΦA spec0 c
  | n + 1, hn => iprop(iprop(owns (c : Thread nD τ) scratch fullShare (prod m c n hn)) ∗ (∃ r, prngReg c r))

theorem between_succ (c : Dev nD) (n : ℕ) (hn : n < cfg0.N) :
    between m c (n + 1) hn = iprop(iprop(owns (c : Thread nD τ) scratch fullShare (prod m c n hn)) ∗ (∃ r, prngReg c r)) := rfl

theorem between_pos (c : Dev nD) (n : ℕ) (h : n ≤ cfg0.N) (hz : n ≠ 0) :
    between m c n h = iprop(iprop(owns (c : Thread nD τ) scratch fullShare (prod m c (n - 1) (by omega))) ∗ (∃ r, prngReg c r)) := by
  cases n with
  | zero => exact absurd rfl hz
  | succ n => rfl

theorem between_any (c : Dev nD) (n : ℕ) (h : n ≤ cfg0.N) :
    between m c n h ⊢ iprop(iprop((∃ d, owns (c : Thread nD τ) scratch fullShare d)) ∗ (∃ r, prngReg c r)) := by
  cases n with
  | zero => rw [← plain_eq]; exact .rfl
  | succ n =>
    rw [between_succ]
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dx (prod m c t.val t.isLt) (iblk m c 5 t) (iblk m c 6 t) (iblk m c 7 t) (iblk m c 8 t)
    | ⟨10, _⟩ => dxb (prod m c t.val t.isLt) (iblk m c 5 t) (iblk m c 6 t) (iblk m c 7 t) (iblk m c 8 t)
    | ⟨11, _⟩ => acc m c t.val t.isLt
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) : (dats m 0 c).Φ t.castSucc = between m c t.val (Nat.le_of_lt t.isLt) := by
  dsimp only [dats]; exact Pipeline.Dat.Φ_castSucc (between m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dx (prod m c t.val t.isLt) (iblk m c 5 t) (iblk m c 6 t) (iblk m c 7 t) (iblk m c 8 t) := by dsimp only [dats]
theorem after0_10 (c : Dev nD) (t : Fin cfg0.N) : (dats m 0 c).after 10 t = dxb (prod m c t.val t.isLt) (iblk m c 5 t) (iblk m c 6 t) (iblk m c 7 t) (iblk m c 8 t) := by dsimp only [dats]
theorem after0_11 (c : Dev nD) (t : Fin cfg0.N) : (dats m 0 c).after 11 t = acc m c t.val t.isLt := by dsimp only [dats]

/-- Each later row finds the gain's gradient the row before it left. -/
theorem before0_11 (c : Dev nD) (t : Fin cfg0.N) (d) (h : t.val % 4 = 3) (hz : t.val ≠ 3) :
    (dats m 0 c).before 11 t d = acc m c (t.val - 1) (Nat.lt_of_le_of_lt (Nat.sub_le _ _) t.isLt) := by
  have hf : cfg0.fresh 11 t.val = false :=
    (by decide +kernel : ∀ t : Fin grid0.N, t.val % 4 = 3 → t.val ≠ 3 → cfg0.fresh 11 t.val = false) t h hz
  rw [(dats m 0 c).before_out_traj 11 rfl (fun _ _ => rfl) (fun u hu hi _ => ?_) t.val t rfl d, if_neg (by rw [hf]; exact Bool.false_ne_true), after0_11]
  rw [after0_11, after0_11]
  refine acc_idle m c u hu fun h => ?_
  rw [live_11 u h] at hi
  exact Bool.false_ne_true hi

def Pre (c : Dev nD) (t : Fin cfg0.N) : sProp 𝕄 :=
  iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))

def Post (c : Dev nD) (t : Fin cfg0.N) : sProp 𝕄 :=
  iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t
      ∗ (dats m 0 c).leavesExact 8 t ∗ (dats m 0 c).leavesExact 9 t ∗ (dats m 0 c).leavesExact 10 t ∗ (dats m 0 c).leavesExact 11 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem incoming_mid (c : Dev nD) (t : Fin cfg0.N) (h0 : ¬ t.val % 4 = 0) (h3 : ¬ t.val % 4 = 3) :
    k0_cond5 (grid0.coords t) = 1#1 ∧ ¬k0_cond9 (grid0.coords t) = 1#1 ∧ incoming m c t = iblk m c 1 t
      ∨ ¬k0_cond5 (grid0.coords t) = 1#1 ∧ k0_cond9 (grid0.coords t) = 1#1 ∧ incoming m c t = iblk m c 2 t := by
  by_cases h1 : t.val % 4 = 1
  · exact .inl ⟨(second_iff t).mpr h1, fun h => by have := (third_iff t).mp h; omega, (if_neg h0).trans (if_pos h1)⟩
  · have h2 : t.val % 4 = 2 := by omega
    exact .inr ⟨fun h => h1 ((second_iff t).mp h), (third_iff t).mpr h2, (if_neg h0).trans ((if_neg h1).trans (if_pos h2))⟩
theorem incoming_last (c : Dev nD) (t : Fin cfg0.N) (h3 : t.val % 4 = 3) : incoming m c t = iblk m c 3 t :=
  (if_neg (by omega)).trans ((if_neg (by omega)).trans (if_neg (by omega)))

set_option maxHeartbeats 3200000 in
theorem at_first (c : Dev nD) (t : Fin cfg0.N) (h0 : t.val % 4 = 0) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c), before0_2_of m (dats m 0 c) (A_eq m c 2) (after0_2 m c),
    before0_3_of m (dats m 0 c) (A_eq m c 3) (after0_3 m c), before0_4_of m (dats m 0 c) (A_eq m c 4) (after0_4 m c), before0_5_of m (dats m 0 c) (A_eq m c 5) (after0_5 m c),
    before0_6_of m (dats m 0 c) (A_eq m c 6) (after0_6 m c), before0_7_of m (dats m 0 c) (A_eq m c 7) (after0_7 m c), before0_8_of m (dats m 0 c) (A_eq m c 8) (after0_8 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl,
    after0_0, after0_1, after0_2, after0_3, after0_4, after0_5, after0_6, after0_7, after0_8]
  have h3 : ¬ t.val % 4 = 3 := by omega
  rw [Dat.leavesExact_idle (dats m 0 c) 9 t (idle_9 t h3) (kept_9 t h3), Dat.leavesExact_idle (dats m 0 c) 10 t (idle_10 t h3) (kept_10 t h3),
    Dat.leavesExact_idle (dats m 0 c) 11 t (idle_11 t h3) (kept_11 t (by omega))]
  rw [prod_first m c t h0, show incoming m c t = iblk m c 0 t from if_pos h0]
  refine BIBase.Entails.trans (BIClass.sep_mono (between_any m c _ _) .rfl) ?_
  iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_first c Set.univ (grid0.coords t) _ _ _ _ _ _ _ _ _ _ _ _ _ _ _ _ _ _ _ _ _ _ _ _ scratch _ (iblk m c 0 t) (iblk m c 1 t) (iblk m c 2 t) (iblk m c 3 t) (iblk m c 4 t) (iblk m c 5 t) (iblk m c 6 t) (iblk m c 7 t) (iblk m c 8 t)
    _ _ _ s _ ((first_iff t).mpr h0) (fun h => by have := (second_iff t).mp h; omega) (fun h => by have := (third_iff t).mp h; omega)
    (fun h => by have := (fourth_iff t).mp h; omega) ((first_iff t).mpr h0) (fun h => (later_iff t).mp h h0) (fun h => h3 ((last_iff t).mp h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

set_option maxHeartbeats 3200000 in
theorem at_mid (c : Dev nD) (t : Fin cfg0.N) (h0 : ¬ t.val % 4 = 0) (h3 : ¬ t.val % 4 = 3) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c), before0_2_of m (dats m 0 c) (A_eq m c 2) (after0_2 m c),
    before0_3_of m (dats m 0 c) (A_eq m c 3) (after0_3 m c), before0_4_of m (dats m 0 c) (A_eq m c 4) (after0_4 m c), before0_5_of m (dats m 0 c) (A_eq m c 5) (after0_5 m c),
    before0_6_of m (dats m 0 c) (A_eq m c 6) (after0_6 m c), before0_7_of m (dats m 0 c) (A_eq m c 7) (after0_7 m c), before0_8_of m (dats m 0 c) (A_eq m c 8) (after0_8 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl,
    after0_0, after0_1, after0_2, after0_3, after0_4, after0_5, after0_6, after0_7, after0_8]
  rw [Dat.leavesExact_idle (dats m 0 c) 9 t (idle_9 t h3) (kept_9 t h3), Dat.leavesExact_idle (dats m 0 c) 10 t (idle_10 t h3) (kept_10 t h3),
    Dat.leavesExact_idle (dats m 0 c) 11 t (idle_11 t h3) (kept_11 t (by omega))]
  rw [prod_later m c t h0, between_pos m c _ _ fun h => h0 (by rw [h])]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_mid c Set.univ (grid0.coords t) _ _ _ _ _ _ _ _ _ _ _ _ _ _ _ _ _ _ _ _ _ _ _ _ scratch _ (iblk m c 0 t) (iblk m c 1 t) (iblk m c 2 t) (iblk m c 3 t) (iblk m c 4 t) (iblk m c 5 t) (iblk m c 6 t) (iblk m c 7 t) (iblk m c 8 t)
    _ _ _ _ (incoming m c t) _ (fun h => h0 ((first_iff t).mp h)) (fun h => h3 ((fourth_iff t).mp h)) (fun h => h0 ((first_iff t).mp h)) ((later_iff t).mpr h0)
    (fun h => h3 ((last_iff t).mp h)) (incoming_mid m c t h0 h3))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

set_option maxHeartbeats 3200000 in
theorem at_last (c : Dev nD) (t : Fin cfg0.N) (h3 : t.val % 4 = 3) :
    Pre m c t ⊢ wp frame (wpE (defs₀ (F := F)) Variants.none c none) Set.univ (bodyAt0 t) (fun _ => Post m c t) := by
  unfold Pre Post bodyAt0
  simp only [before0_0_of m (dats m 0 c) (A_eq m c 0) (after0_0 m c), before0_1_of m (dats m 0 c) (A_eq m c 1) (after0_1 m c), before0_2_of m (dats m 0 c) (A_eq m c 2) (after0_2 m c),
    before0_3_of m (dats m 0 c) (A_eq m c 3) (after0_3 m c), before0_4_of m (dats m 0 c) (A_eq m c 4) (after0_4 m c), before0_5_of m (dats m 0 c) (A_eq m c 5) (after0_5 m c),
    before0_6_of m (dats m 0 c) (A_eq m c 6) (after0_6 m c), before0_7_of m (dats m 0 c) (A_eq m c 7) (after0_7 m c), before0_8_of m (dats m 0 c) (A_eq m c 8) (after0_8 m c)]
  rw [show (dats m 0 c).owesAt () t.succ = (dats m 0 c).owesAt () t.castSucc from rfl,
    show (dats m 0 c).Φ t.succ = between m c (t.val + 1) t.isLt from rfl, between_succ, between_castSucc,
    leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl,
    after0_0, after0_1, after0_2, after0_3, after0_4, after0_5, after0_6, after0_7, after0_8]
  have h0 : ¬ t.val % 4 = 0 := by omega
  rw [leaves_live m c 9 t (live_9 t h3), leaves_live m c 10 t (live_10 t h3), leaves_live m c 11 t (live_11 t h3), after0_9, after0_10, after0_11,
    between_pos m c _ _ fun h => h0 (by rw [h])]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [acc_live m c t h3 _ (before0_11 m c t d11 h3), prod_later m c t h0, incoming_last m c t h3]
  iapply (run_last c Set.univ (grid0.coords t) _ _ _ _ _ _ _ _ _ _ _ _ _ _ _ _ _ _ _ _ _ _ _ _ scratch _ (iblk m c 0 t) (iblk m c 1 t) (iblk m c 2 t) (iblk m c 3 t) (iblk m c 4 t) (iblk m c 5 t) (iblk m c 6 t) (iblk m c 7 t) (iblk m c 8 t)
    _ _ _ _ _ (fun h => h0 ((first_iff t).mp h)) (fun h => by have := (second_iff t).mp h; omega) (fun h => by have := (third_iff t).mp h; omega)
    ((fourth_iff t).mpr h3) (fun h => h0 ((first_iff t).mp h)) ((later_iff t).mpr h0) ((last_iff t).mpr h3))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_at (c : Dev nD) (t : Fin cfg0.N) :
    Pre m c t ⊢ wp frame (wpE (defs₀ (F := F)) Variants.none c none) Set.univ (bodyAt0 t) (fun _ => Post m c t) :=
  if h0 : t.val % 4 = 0 then at_first m c t h0 else if h3 : t.val % 4 = 3 then at_last m c t h3 else at_mid m c t h0 h3

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_at m c t) rfl .rfl fun _ => .rfl

theorem hin (c : Dev nD) : Pipeline.ΦA spec0 c ⊢ (dats m 0 c).Φ 0 :=
  show Pipeline.ΦA spec0 c ⊢ between m c 0 (Nat.zero_le _) from .rfl

theorem hout (c : Dev nD) : (dats m 0 c).Φ (Fin.last cfg0.N) ⊢ Pipeline.ΦA spec0 c := by
  rw [plain_eq]
  exact between_any m c cfg0.N (Nat.le_refl _)

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiet m ρ))

end Cert.DhIdealRun

end
-- ==== Proof.DhRun.lean ====
/- The run of `Dh`, which is the program of `DhIdeal` under another name. -/
module

public import proofs.«01_k».proof.Proof.Gen.Dh.Frame
public import proofs.«01_k».proof.Proof.DhIdealRun

@[expose] public section

set_option maxRecDepth 16384

noncomputable section

namespace Cert.DhRun

open Cert.Dh Cert.Dh.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs are one. -/
theorem main_eq : main (F := F) = Cert.DhIdeal.main (F := F) := rfl

theorem part1_eq : @k0_part1 F _ _ = @Cert.DhIdeal.k0_part1 F _ _ := rfl
theorem part2_eq : @k0_part2 F _ _ = @Cert.DhIdeal.k0_part2 F _ _ := rfl
theorem part3_eq : @k0_part3 F _ _ = @Cert.DhIdeal.k0_part3 F _ _ := rfl
theorem part4_eq : @k0_part4 F _ _ = @Cert.DhIdeal.k0_part4 F _ _ := rfl
theorem body_eq : @cc0_dh F _ _ = @Cert.DhIdeal.cc0_dh F _ _ := rfl
theorem labels_eq : Λ₀ = Cert.DhIdeal.Λ₀ := rfl
theorem cfg_eq : cfg0 = Cert.DhIdeal.cfg0 := rfl
theorem pcfgs_eq : pcfgs (F := F) = Cert.DhIdeal.pcfgs (F := F) := rfl
theorem defs₀_eq : defs₀ (F := F) = Cert.DhIdeal.defs₀ (F := F) := by
  refine congrArg Defs.onTc (funext fun l => ?_)
  match l with
  | ⟨0, _⟩ => rfl

theorem defs_eq : defs (F := F) = Cert.DhIdeal.defs (F := F) := congrArg (Pipeline.defs (pcfgs (F := F))) defs₀_eq

/-- The program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.DhIdealRun.frame m ρ

end Cert.DhRun

end
-- ==== Proof.Dh.lean ====
/- The gradient with respect to the residual through the input product, the added gradient and the norm: the kernel's three result arrays
   and the reference's are the same. -/
module

public import proofs.«01_k».proof.Defs
public import proofs.«01_k».proof.Proof.DhRun
public import proofs.«01_k».proof.Proof.DhIdealRun
public import proofs.«01_k».proof.Proof.Gen.DhRefIdeal.Run
public import proofs.«01_k».proof.Proof.Gen.DhRefIdeal.Read
public import proofs.«01_k».proof.Proof.NormGrad
public import proofs.«01_k».proof.Proof.Prod
public import Idealize.ShloMosaic.Lib.Pipeline.ValueKit

@[expose] public section

set_option maxRecDepth 16384

noncomputable section

namespace Cert.DhProof

open Cert.Norm Cert.Prod
open Idealize.ShloMosaic Idealize.ShloMosaic.TcCoe Idealize.SL.Sem

/-- Four arrays side by side. -/
def four (D0 D1 D2 D3 : FVec Ideal ⟨2, ![2048, 1024]⟩ .bf16) : FVec Ideal ⟨2, ![2048, 4096]⟩ .bf16 := fun i =>
  if (i 1).val < 1024 then D0 (ix2 (i 0) ⟨(i 1).val % 1024, Nat.mod_lt _ (by decide)⟩)
  else if (i 1).val < 2048 then D1 (ix2 (i 0) ⟨(i 1).val % 1024, Nat.mod_lt _ (by decide)⟩)
  else if (i 1).val < 3072 then D2 (ix2 (i 0) ⟨(i 1).val % 1024, Nat.mod_lt _ (by decide)⟩)
  else D3 (ix2 (i 0) ⟨(i 1).val % 1024, Nat.mod_lt _ (by decide)⟩)

theorem four_apply (D0 D1 D2 D3 : FVec Ideal ⟨2, ![2048, 1024]⟩ .bf16) (q : Fin 2048) (j : Fin 4096) (k : Fin 1024) (hk : k.val = j.val % 1024) :
    four D0 D1 D2 D3 (ix2 q j) = if j.val < 1024 then D0 (ix2 q k) else if j.val < 2048 then D1 (ix2 q k)
      else if j.val < 3072 then D2 (ix2 q k) else D3 (ix2 q k) := by
  obtain rfl : k = ⟨j.val % 1024, Nat.mod_lt _ (by decide)⟩ := Fin.ext hk
  rfl

section Kernel

open Cert.DhIdeal Cert.DhIdeal.Gen Cert.DhIdealRun

variable (m : (ℓ : Loc nD τ sig) → Buf (Elt Ideal) ℓ) (ρ : Dev nD → PrngReg)

theorem part_apply (a : Vec Ideal S512x1024 .bf16) (b : Vec Ideal S1024x1024 .bf16) (q : Fin 512) (j : Fin 1024) :
    k0_pay1 (F := Ideal) a b (ix2 q j) = ∑ e : Fin 1024, a (ix2 q e) * b (ix2 j e) := by
  pointwise [k0_pay1]

theorem first_apply (a : Vec Ideal S512x1024 .bf16) (b : Vec Ideal S1024x1024 .bf16) (i : S512x1024.Idx) :
    k0_pay2 (F := Ideal) a b i = k0_pay1 (F := Ideal) a b i := by
  obtain ⟨q, j, rfl⟩ : ∃ (q : Fin 512) (j : Fin 1024), i = ix2 q j := ⟨i 0, i 1, eq_ix2 i⟩
  pointwise [k0_pay2]

theorem add_apply (a : Vec Ideal S512x1024 .bf16) (b : Vec Ideal S1024x1024 .bf16) (s : Vec Ideal S512x1024 .f32) (i : S512x1024.Idx) :
    k0_pay3 (F := Ideal) a b s i = s i + k0_pay1 (F := Ideal) a b i := by
  obtain ⟨q, j, rfl⟩ : ∃ (q : Fin 512) (j : Fin 1024), i = ix2 q j := ⟨i 0, i 1, eq_ix2 i⟩
  pointwise [k0_pay3]

theorem both_apply (p r : Vec Ideal S512x1024 .f32) (q : Fin 512) (j : Fin 1024) :
    k0_pay35 (F := Ideal) p r (ix2 q j) = p (ix2 q j) + r (ix2 q j) := by
  pointwise [k0_pay35]

theorem rstd_apply (x : Vec Ideal S512x1024 .f32) (q : Fin 512) :
    k0_pay36 (F := Ideal) x (ix2 q 0) = rstd fun k => x (ix2 q k) := by
  pointwise [k0_pay36]
  rfl

theorem unit_apply (x : Vec Ideal S512x1024 .f32) (q : Fin 512) (j : Fin 1024) :
    k0_pay37 (F := Ideal) x (ix2 q j) = x (ix2 q j) * rstd fun k => x (ix2 q k) := by
  pointwise [k0_pay37]
  rw [rstd_apply]

theorem dx_apply (p r x e : Vec Ideal S512x1024 .f32) (g : Vec Ideal S1x1024 .f32) (q : Fin 512) (j : Fin 1024) :
    k0_pay38 (F := Ideal) p r x e g (ix2 q j)
      = gradRow (fun k => (p (ix2 q k) + r (ix2 q k)) * g (ix2 0 k)) (fun k => x (ix2 q k)) (e (ix2 q j)) j := by
  pointwise [k0_pay38]
  simp only [both_apply, unit_apply, rstd_apply]
  rfl

theorem dg_apply (p r x : Vec Ideal S512x1024 .f32) (j : Fin 1024) :
    k0_pay39 (F := Ideal) p r x (ix2 0 j) = ∑ q : Fin 512, (p (ix2 q j) + r (ix2 q j)) * (x (ix2 q j) * rstd fun k => x (ix2 q k)) := by
  pointwise [k0_pay39]
  simp only [both_apply, unit_apply]

theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![0, t.val % 4] ∧ win0_5.index t = ![t.val / 4, 0] ∧ win0_6.index t = ![t.val / 4, 0]
    ∧ win0_7.index t = ![t.val / 4, 0] ∧ win0_8.index t = ![0, 0] ∧ win0_9.index t = ![t.val / 4, 0] ∧ win0_10.index t = ![t.val / 4, 0]
    ∧ win0_11.index t = ![0, 0] :=
  (by decide +kernel : ∀ t : Fin grid0.N, _)
theorem points (t : Fin cfg0.N) : t.val < 16 := lt_of_lt_of_eq t.isLt N_0
theorem row_of : ∀ t : Fin cfg0.N, (grid0.coords t 0).val = t.val / 4 := (by decide +kernel : ∀ t : Fin grid0.N, _)

abbrev D0 (c : Dev nD) : FVec Ideal S2048x1024 .bf16 := m ((c : Thread nD τ).loc main_arg0)
abbrev D1 (c : Dev nD) : FVec Ideal S2048x1024 .bf16 := m ((c : Thread nD τ).loc main_arg1)
abbrev D2 (c : Dev nD) : FVec Ideal S2048x1024 .bf16 := m ((c : Thread nD τ).loc main_arg2)
abbrev D3 (c : Dev nD) : FVec Ideal S2048x1024 .bf16 := m ((c : Thread nD τ).loc main_arg3)
abbrev W (c : Dev nD) : FVec Ideal S1024x4096 .bf16 := m ((c : Thread nD τ).loc main_arg4)
abbrev R (c : Dev nD) : FVec Ideal S2048x1024 .f32 := m ((c : Thread nD τ).loc main_arg5)
abbrev X (c : Dev nD) : FVec Ideal S2048x1024 .f32 := m ((c : Thread nD τ).loc main_arg6)
abbrev E (c : Dev nD) : FVec Ideal S2048x1024 .f32 := m ((c : Thread nD τ).loc main_arg7)
abbrev G (c : Dev nD) : FVec Ideal S1024 .f32 := m ((c : Thread nD τ).loc main_arg8)
abbrev D (c : Dev nD) : FVec Ideal ⟨2, ![2048, 4096]⟩ .bf16 := four (D0 m c) (D1 m c) (D2 m c) (D3 m c)

abbrev row' (t : Fin cfg0.N) (q : Fin 512) : Fin 2048 := ⟨t.val / 4 * 512 + q.val, by have := points t; omega⟩
abbrev lane (t : Fin cfg0.N) (e : Fin 1024) : Fin 4096 := ⟨t.val % 4 * 1024 + e.val, by omega⟩

theorem d0_read (c : Dev nD) (t : Fin cfg0.N) (q : Fin 512) (e : Fin 1024) :
    (show Vec Ideal S512x1024 .bf16 from iblk m c 0 t) (ix2 q e) = D0 m c (ix2 (row' t q) e) := by
  blk_ext [iblk, V, idx t]
theorem d1_read (c : Dev nD) (t : Fin cfg0.N) (q : Fin 512) (e : Fin 1024) :
    (show Vec Ideal S512x1024 .bf16 from iblk m c 1 t) (ix2 q e) = D1 m c (ix2 (row' t q) e) := by
  blk_ext [iblk, V, idx t]
theorem d2_read (c : Dev nD) (t : Fin cfg0.N) (q : Fin 512) (e : Fin 1024) :
    (show Vec Ideal S512x1024 .bf16 from iblk m c 2 t) (ix2 q e) = D2 m c (ix2 (row' t q) e) := by
  blk_ext [iblk, V, idx t]
theorem d3_read (c : Dev nD) (t : Fin cfg0.N) (q : Fin 512) (e : Fin 1024) :
    (show Vec Ideal S512x1024 .bf16 from iblk m c 3 t) (ix2 q e) = D3 m c (ix2 (row' t q) e) := by
  blk_ext [iblk, V, idx t]
theorem w_read (c : Dev nD) (t : Fin cfg0.N) (j e : Fin 1024) :
    (show Vec Ideal S1024x1024 .bf16 from iblk m c 4 t) (ix2 j e) = W m c (ix2 j (lane t e)) := by
  blk_ext [iblk, V, idx t]
theorem r_read (c : Dev nD) (t : Fin cfg0.N) (q : Fin 512) (j : Fin 1024) :
    (show Vec Ideal S512x1024 .f32 from iblk m c 5 t) (ix2 q j) = R m c (ix2 (row' t q) j) := by
  blk_ext [iblk, V, idx t]
theorem x_read (c : Dev nD) (t : Fin cfg0.N) (q : Fin 512) (j : Fin 1024) :
    (show Vec Ideal S512x1024 .f32 from iblk m c 6 t) (ix2 q j) = X m c (ix2 (row' t q) j) := by
  blk_ext [iblk, V, idx t]
theorem e_read (c : Dev nD) (t : Fin cfg0.N) (q : Fin 512) (j : Fin 1024) :
    (show Vec Ideal S512x1024 .f32 from iblk m c 7 t) (ix2 q j) = E m c (ix2 (row' t q) j) := by
  blk_ext [iblk, V, idx t]
theorem gain_eq (c : Dev nD) (j : Fin 1024) : V m c main_v0 (ix2 0 j) = G m c (ix1 j) := by
  have h : V m c main_v0 = shapeCast S1x1024 (G m c) shapeCasts_S1024_S1x1024 := by
    unfold_abbrev_sides
    after_results
    rfl
  rw [h]
  pointwise []
theorem g_read (c : Dev nD) (t : Fin cfg0.N) (j : Fin 1024) :
    (show Vec Ideal S1x1024 .f32 from iblk m c 8 t) (ix2 0 j) = G m c (ix1 j) := by
  refine Eq.trans ?_ (gain_eq m c j)
  blk_ext [iblk, idx t]

theorem incoming_read (c : Dev nD) (t : Fin cfg0.N) (q : Fin 512) (e : Fin 1024) :
    incoming m c t (ix2 q e) = D m c (ix2 (row' t q) (lane t e)) := by
  have hl : (lane t e).val = t.val % 4 * 1024 + e.val := rfl
  refine Eq.trans ?_ (four_apply _ _ _ _ (row' t q) (lane t e) e (by omega)).symm
  unfold incoming
  obtain h | h | h | h : t.val % 4 = 0 ∨ t.val % 4 = 1 ∨ t.val % 4 = 2 ∨ t.val % 4 = 3 := by omega
  · rw [if_pos h, if_pos (by omega)]; exact d0_read m c t q e
  · rw [if_neg (by omega), if_pos h, if_neg (by omega), if_pos (by omega)]; exact d1_read m c t q e
  · rw [if_neg (by omega), if_neg (by omega), if_pos h, if_neg (by omega), if_neg (by omega), if_pos (by omega)]; exact d2_read m c t q e
  · rw [if_neg (by omega), if_neg (by omega), if_neg (by omega), if_neg (by omega), if_neg (by omega), if_neg (by omega)]; exact d3_read m c t q e

/-- The gradient before the norm: the product's and the added one. -/
abbrev back (c : Dev nD) (q : Fin 2048) (j : Fin 1024) : EReal := mmt (D m c) (W m c) q j + R m c (ix2 q j)
/-- The residual's gradient over the whole arrays. -/
def outX (c : Dev nD) (q : Fin 2048) (j : Fin 1024) : EReal :=
  gradRow (fun k => back m c q k * G m c (ix1 k)) (fun k => X m c (ix2 q k)) (E m c (ix2 q j)) j
/-- The gain's gradient's term of a row. -/
def term (c : Dev nD) (j : Fin 1024) (q : Fin 2048) : EReal :=
  back m c q j * (X m c (ix2 q j) * rstd fun k => X m c (ix2 q k))

theorem start_eq (a : Vec Ideal S512x1024 .bf16) (b : Vec Ideal S1024x1024 .bf16) : start a b = k0_pay2 (F := Ideal) a b := by
  unfold start; frame_out
theorem step_eq (a : Vec Ideal S512x1024 .bf16) (b : Vec Ideal S1024x1024 .bf16) (s : Vec Ideal S512x1024 .f32) :
    step a b s = k0_pay3 (F := Ideal) a b s := by
  unfold step; frame_out

/-- The accumulated product after a row's last point is the whole product. -/
theorem prod_whole (c : Dev nD) (t : Fin cfg0.N) (h : t.val % 4 = 3) (q : Fin 512) (j : Fin 1024) :
    prod m c t.val t.isLt (ix2 q j) = mmt (D m c) (W m c) (row' t q) j := by
  rw [Pipeline.eq_sum_fin_of_reset_step_apply_of_flush (prod m c) 4 (fun _ => 0) (fun t => k0_pay1 (F := Ideal) (incoming m c t) (iblk m c 4 t))
    (fun t h i => by rw [prod_first m c t h, start_eq, zero_add]; exact first_apply _ _ i)
    (fun t h i => by rw [prod_later m c t h, step_eq]; exact add_apply _ _ _ i) t h _, zero_add]
  refine (Fin.sum_fin_congr fun s => part_apply _ _ q j).trans (Fin.sum_mul_add_congr fun s e hl => ?_)
  refine congrArg₂ (· * ·) ((incoming_read m c _ q e).trans (congrArg₂ (fun k l => D m c (ix2 k l)) (Fin.ext ?_) (Fin.ext ?_)))
    ((w_read m c _ j e).trans (congrArg (fun l => W m c (ix2 j l)) (Fin.ext ?_)))
  · show (4 * (t.val / 4) + s.val) / 4 * 512 + q.val = t.val / 4 * 512 + q.val
    omega
  · show (4 * (t.val / 4) + s.val) % 4 * 1024 + e.val = s.val * 1024 + e.val
    omega
  · show (4 * (t.val / 4) + s.val) % 4 * 1024 + e.val = s.val * 1024 + e.val
    omega

theorem block_x (c : Dev nD) (t : Fin cfg0.N) (h : t.val % 4 = 3) (q : Fin 512) (j : Fin 1024) :
    k0_pay38 (F := Ideal) (prod m c t.val t.isLt) (iblk m c 5 t) (iblk m c 6 t) (iblk m c 7 t) (iblk m c 8 t) (ix2 q j) = outX m c (row' t q) j := by
  refine (dx_apply _ _ _ _ _ q j).trans ?_
  unfold outX
  rw [show (fun k => (prod m c t.val t.isLt (ix2 q k) + (show Vec Ideal S512x1024 .f32 from iblk m c 5 t) (ix2 q k))
        * (show Vec Ideal S1x1024 .f32 from iblk m c 8 t) (ix2 0 k))
      = fun k => back m c (row' t q) k * G m c (ix1 k) from
    funext fun k => congrArg₂ (· * ·) (congrArg₂ (· + ·) (prod_whole m c t h q k) (r_read m c t q k)) (g_read m c t k),
    show (fun k => (show Vec Ideal S512x1024 .f32 from iblk m c 6 t) (ix2 q k)) = fun k => X m c (ix2 (row' t q) k) from funext (x_read m c t q)]
  exact congrArg (fun e => gradRow _ _ e j) (e_read m c t q j)

theorem block_g (c : Dev nD) (t : Fin cfg0.N) (h : t.val % 4 = 3) (j : Fin 1024) :
    k0_pay39 (F := Ideal) (prod m c t.val t.isLt) (iblk m c 5 t) (iblk m c 6 t) (ix2 0 j) = ∑ q : Fin 512, term m c j (row' t q) := by
  refine (dg_apply _ _ _ j).trans (Finset.sum_congr rfl fun q _ => ?_)
  unfold term
  refine congrArg₂ (· * ·) (congrArg₂ (· + ·) (prod_whole m c t h q j) (r_read m c t q j))
    (congrArg₂ (· * ·) (x_read m c t q j) (congrArg rstd (funext (x_read m c t q))))

theorem left_x (c : Dev nD) (t : Fin cfg0.N) : (dats m 0 c).after 9 t
    = k0_pay38 (F := Ideal) (prod m c t.val t.isLt) (iblk m c 5 t) (iblk m c 6 t) (iblk m c 7 t) (iblk m c 8 t) := by
  rw [after0_9]; unfold dx; frame_out
theorem left_b (c : Dev nD) (t : Fin cfg0.N) : (dats m 0 c).after 10 t
    = k0_pay38 (F := Ideal) (prod m c t.val t.isLt) (iblk m c 5 t) (iblk m c 6 t) (iblk m c 7 t) (iblk m c 8 t) := by
  rw [after0_10]; unfold dxb; frame_out; rfl
theorem dg_eq (i : grid0.Coords) (p r x : Vec Ideal S512x1024 .f32) (z : Vec Ideal S1x1024 .f32) :
    dg i p r x z = k0_pay16 (F := Ideal) (k0_pay39 (F := Ideal) p r x) (Scalar.cmpi .eq (BitVec.ofNat 32 (i 0).val) 0#32) z := by
  unfold dg; frame_out

theorem pay16_first (u z : Vec Ideal S1x1024 .f32) : k0_pay16 (F := Ideal) u (Scalar.cmpi .eq (BitVec.ofNat 32 0) 0#32) z = u := rfl
theorem pay16_later (k : ℕ) (hk : k = 1 ∨ k = 2 ∨ k = 3) (u z : Vec Ideal S1x1024 .f32) (j : Fin 1024) :
    k0_pay16 (F := Ideal) u (Scalar.cmpi .eq (BitVec.ofNat 32 k) 0#32) z (ix2 0 j) = z (ix2 0 j) + u (ix2 0 j) := by
  refine Eq.trans (b := (shapeCast S1x1024 z shapeCasts_S1x1024_S1x1024) (ix2 0 j) + u (ix2 0 j)) ?_ (by pointwise [])
  obtain rfl | rfl | rfl := hk <;> rfl

/-- The gain's gradient is kept through a row's first points. -/
theorem acc_kept (c : Dev nD) (n : ℕ) (h3 : n % 4 = 3) (h : n + 1 + 1 + 1 < cfg0.N) :
    acc m c (n + 1 + 1 + 1) h = acc m c n (by omega) :=
  (acc_idle m c ⟨n + 1 + 1 + 1, h⟩ (Nat.succ_ne_zero _) (by show ¬ (n + 1 + 1 + 1) % 4 = 3; omega)).trans
    ((acc_idle m c ⟨n + 1 + 1, by omega⟩ (Nat.succ_ne_zero _) (by show ¬ (n + 1 + 1) % 4 = 3; omega)).trans
      (acc_idle m c ⟨n + 1, by omega⟩ (Nat.succ_ne_zero _) (by show ¬ (n + 1) % 4 = 3; omega)))

/-- After the first row: its sum, -/
theorem acc_first (c : Dev nD) (t : Fin cfg0.N) (ht : t.val = 3) (j : Fin 1024) :
    acc m c t.val t.isLt (ix2 0 j) = ∑ q : Fin 512, term m c j (row' t q) := by
  have h3 : t.val % 4 = 3 := by rw [ht]
  have e := acc_live m c t h3 (acc m c t.val t.isLt) fun h => absurd ht h
  rw [dg_eq, show (grid0.coords t 0).val = 0 from (row_of t).trans (by rw [ht]), pay16_first] at e
  exact (congrFun e (ix2 0 j)).trans (block_g m c t h3 j)
/-- after each later row: its sum more, -/
theorem acc_next (c : Dev nD) (n : ℕ) (h3 : n % 4 = 3) (h : n + 1 + 1 + 1 + 1 < cfg0.N) (j : Fin 1024) :
    acc m c (n + 1 + 1 + 1 + 1) h (ix2 0 j) = acc m c n (by omega) (ix2 0 j) + ∑ q : Fin 512, term m c j (row' ⟨n + 1 + 1 + 1 + 1, h⟩ q) := by
  have h3' : (n + 1 + 1 + 1 + 1) % 4 = 3 := by omega
  have hN : n + 1 + 1 + 1 + 1 < 16 := points ⟨_, h⟩
  have e := acc_live m c ⟨n + 1 + 1 + 1 + 1, h⟩ h3' (acc m c (n + 1 + 1 + 1) (Nat.lt_of_succ_lt h)) fun _ => rfl
  rw [dg_eq, row_of, acc_kept m c n h3] at e
  refine ((congrFun e (ix2 0 j)).trans (pay16_later _ ?_ _ _ j)).trans (congrArg (acc m c n (by omega) (ix2 0 j) + ·) (block_g m c ⟨_, h⟩ h3' j))
  show (n + 1 + 1 + 1 + 1) / 4 = 1 ∨ (n + 1 + 1 + 1 + 1) / 4 = 2 ∨ (n + 1 + 1 + 1 + 1) / 4 = 3
  omega
theorem all_rows (c : Dev nD) (j : Fin 1024) (t0 t1 t2 t3 : Fin cfg0.N) (h0 : t0.val = 3) (h1 : t1.val = 7) (h2 : t2.val = 11) (h3 : t3.val = 15) :
    ∑ q : Fin 512, term m c j (row' t0 q) + ∑ q : Fin 512, term m c j (row' t1 q) + ∑ q : Fin 512, term m c j (row' t2 q)
      + ∑ q : Fin 512, term m c j (row' t3 q) = ∑ q : Fin 2048, term m c j q := by
  rw [← Fin.sum_mul_add_congr (S := 4) (n := 512) (F := fun s q => term m c j ⟨s.val * 512 + q.val, by omega⟩) (f := term m c j) fun _ _ _ => rfl,
    Fin.sum_univ_four]
  have row_eq : ∀ (s : Fin 4) (t : Fin cfg0.N), t.val = 4 * s.val + 3 → ∑ q : Fin 512, term m c j (row' t q)
      = ∑ q : Fin 512, term m c j ⟨s.val * 512 + q.val, by omega⟩ := fun s t h =>
    Finset.sum_congr rfl fun q _ => congrArg (term m c j) (Fin.ext (show t.val / 4 * 512 + q.val = s.val * 512 + q.val by omega))
  exact congrArg₂ (· + ·) (congrArg₂ (· + ·) (congrArg₂ (· + ·) (row_eq 0 t0 h0) (row_eq 1 t1 h1)) (row_eq 2 t2 h2)) (row_eq 3 t3 h3)
/-- and after the last: all of them. -/
theorem acc_last (c : Dev nD) (h : 15 < cfg0.N) (j : Fin 1024) :
    acc m c 15 h (ix2 0 j) = ∑ q : Fin 2048, term m c j q := by
  have l : ∀ k, k ≤ 15 → k < cfg0.N := fun k hk => Nat.lt_of_le_of_lt hk h
  have e0 := acc_first m c ⟨3, l 3 (by decide)⟩ rfl j
  have e1 := acc_next m c 3 (by decide) (l 7 (by decide)) j
  have e2 := acc_next m c 7 (by decide) (l 11 (by decide)) j
  have e3 := acc_next m c 11 (by decide) h j
  refine e3.trans ((congrArg (· + _) (e2.trans (congrArg (· + _) (e1.trans (congrArg (· + _) e0))))).trans ?_)
  exact all_rows m c j _ _ _ _ rfl rfl rfl rfl

theorem last_g (c : Dev nD) (t : Fin cfg0.N) (ht : t.val = 15) (j : Fin 1024) :
    (show Vec Ideal S1x1024 .f32 from (dats m 0 c).after 11 t) (ix2 0 j) = ∑ q : Fin 2048, term m c j q := by
  rw [after0_11]
  obtain ⟨n, h⟩ := t
  obtain rfl : n = 15 := ht
  exact acc_last m c h j

theorem final_x (c : Dev nD) : (dats m 0 c).arrAt 9 (cfgs 0).N = fun i : S2048x1024.Idx => outX m c (i 0) (i 1) := by
  refine (dats m 0 c).arrAt_eq_of_covers 9 _ (by decide +kernel) fun t hf y => ?_
  have h3 : t.val % 4 = 3 := (flush0_9 t).mp hf
  blk_simp
  rw [left_x]
  obtain ⟨q, j, rfl⟩ : ∃ (q : Fin 512) (j : Fin 1024), y = ix2 q j := ⟨y 0, y 1, eq_ix2 y⟩
  refine (block_x m c t h3 q j).trans (congrArg₂ (outX m c) (Fin.ext ?_) (Fin.ext ?_))
  · blk_simp [idx t]
  · blk_simp [idx t]
theorem final_b (c : Dev nD) : (dats m 0 c).arrAt 10 (cfgs 0).N = fun i : S2048x1024.Idx => outX m c (i 0) (i 1) := by
  refine (dats m 0 c).arrAt_eq_of_covers 10 _ (by decide +kernel) fun t hf y => ?_
  have h3 : t.val % 4 = 3 := (flush0_10 t).mp hf
  blk_simp
  rw [left_b]
  obtain ⟨q, j, rfl⟩ : ∃ (q : Fin 512) (j : Fin 1024), y = ix2 q j := ⟨y 0, y 1, eq_ix2 y⟩
  refine (block_x m c t h3 q j).trans (congrArg₂ (outX m c) (Fin.ext ?_) (Fin.ext ?_))
  · blk_simp [idx t]
  · blk_simp [idx t]
theorem final_g (c : Dev nD) : (dats m 0 c).arrAt 11 (cfgs 0).N = fun i : S1x1024.Idx => ∑ q : Fin 2048, term m c (i 1) q := by
  refine (dats m 0 c).arrAt_eq_of_covers 11 _ (by decide +kernel) fun t hf y => ?_
  have ht : t.val = 15 := by
    have h1 := (flush0_11 t).mp hf
    have h2 := points t
    omega
  blk_simp
  obtain ⟨j, rfl⟩ : ∃ j : Fin 1024, y = ix2 0 j := ⟨y 1, (eq_ix2 y).trans (congrArg (ix2 · _) (Subsingleton.elim _ _))⟩
  refine (last_g m c t ht j).trans (congrArg (fun j => ∑ q : Fin 2048, term m c j q) (Fin.ext ?_))
  blk_simp [idx t]

theorem run : θ_run (defs (F := Ideal)) (onTc (τ := τ) (main (F := Ideal))) ⟨m, fun _ => 0, ρ⟩ (fun r => ∀ c : Dev nD,
      r.2.mem ((c.tc : Thread nD τ).loc main_v1_0) = (fun i : S2048x1024.Idx => outX m c (i 0) (i 1))
      ∧ r.2.mem ((c.tc : Thread nD τ).loc main_v1_1) = (fun i : S2048x1024.Idx => outX m c (i 0) (i 1))
      ∧ r.2.mem ((c.tc : Thread nD τ).loc main_v1_2) = (fun i : S1x1024.Idx => ∑ q : Fin 2048, term m c (i 1) q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.2 c).1 9).trans (final_x m c), ((h.2 c).1 10).trans (final_b m c), ((h.2 c).1 11).trans (final_g m c), h.1.1 c⟩)
    (θ_run_and (frame m ρ) (run_main m ρ))

end Kernel

section Ref

open Cert.DhRefIdeal Cert.DhRefIdeal.Gen Cert.DhRefIdeal.Read

variable (D0 D1 D2 D3 : FVec Ideal S2048x1024 .bf16) (W : FVec Ideal S1024x4096 .bf16) (R X E : FVec Ideal S2048x1024 .f32) (G : FVec Ideal S1024 .f32)

theorem four_eq : val_main_v18 (F := Ideal) D0 D1 D2 D3 = four D0 D1 D2 D3 := by
  funext i
  obtain ⟨q, j, rfl⟩ : ∃ (q : Fin 2048) (j : Fin 4096), i = ix2 q j := ⟨i 0, i 1, eq_ix2 i⟩
  rw [four_apply _ _ _ _ _ _ ⟨j.val % 1024, Nat.mod_lt _ (by decide)⟩ rfl]
  have hj := j.isLt
  pointwise [val_main_v18]
  by_cases h : j.val < 1024
  · rw [dif_pos h, if_pos h]
    exact congrArg (fun k => D0 (ix2 q k)) (Fin.ext (by show j.val = j.val % 1024; omega))
  by_cases h' : j.val < 2048
  · rw [dif_neg h, if_neg h, dif_pos (by omega), if_pos h']
    exact congrArg (fun k => D1 (ix2 q k)) (Fin.ext (by show j.val - 1024 = j.val % 1024; omega))
  by_cases h'' : j.val < 3072
  · rw [dif_neg h, if_neg h, dif_neg (by omega), if_neg h', dif_pos (by omega), if_pos h'']
    exact congrArg (fun k => D2 (ix2 q k)) (Fin.ext (by show j.val - 1024 - 1024 = j.val % 1024; omega))
  · rw [dif_neg h, if_neg h, dif_neg (by omega), if_neg h', dif_neg (by omega), if_neg h'']
    exact congrArg (fun k => D3 (ix2 q k)) (Fin.ext (by show j.val - 1024 - 1024 - 1024 = j.val % 1024; omega))

/-- The gradient before the norm. -/
abbrev dn (q : Fin 2048) (j : Fin 1024) : EReal := mmt (four D0 D1 D2 D3) W q j + R (ix2 q j)

theorem ref_v6 (q : Fin 2048) : val_main_v6 (F := Ideal) X (ix2 q 0) = meanSq fun k => X (ix2 q k) := by
  pointwise [val_main_v6, val_main_v5, val_main_v4, val_main_v3, val_main_v2, val_main_v1, val_main_v0, val_main_cst, val_main_cst_0, val_main_cst_1]
  rfl
theorem ref_v7 (q : Fin 2048) : val_main_v7 (F := Ideal) X (ix2 q 0) = rstd fun k => X (ix2 q k) := by
  pointwise [val_main_v7]
  rw [ref_v6]; rfl
theorem ref_v20 (q : Fin 2048) (j : Fin 1024) : val_main_v20 (F := Ideal) D0 D1 D2 D3 W (ix2 q j) = mmt (four D0 D1 D2 D3) W q j := by
  rw [← four_eq]
  pointwise [val_main_v20, val_main_v19, val_main_v16]
  rfl
theorem ref_v21 (q : Fin 2048) (j : Fin 1024) : val_main_v21 (F := Ideal) D0 D1 D2 D3 W R (ix2 q j) = dn D0 D1 D2 D3 W R q j := by
  pointwise [val_main_v21]
  rw [ref_v20]
  exact add_comm (_ : EReal) _
theorem ref_v26 (q : Fin 2048) (j : Fin 1024) :
    val_main_v26 (F := Ideal) D0 D1 D2 D3 W R G (ix2 q j) = dn D0 D1 D2 D3 W R q j * G (ix1 j) := by
  pointwise [val_main_v26, val_main_v25, val_main_v13]
  rw [ref_v21]
theorem ref_v38 (q : Fin 2048) (j : Fin 1024) : val_main_v38 (F := Ideal) D0 D1 D2 D3 W R X G (ix2 q j)
    = through (fun k => dn D0 D1 D2 D3 W R q k * G (ix1 k)) fun k => X (ix2 q k) := by
  pointwise [val_main_v38, val_main_v37, val_main_cst_7, val_main_v36, val_main_v35, val_main_cst_6, val_main_v34, val_main_v30, val_main_v29,
    val_main_cst_5, val_main_v28, val_main_v10, val_main_v9, val_main_cst_2, val_main_v8]
  simp only [ref_v26]
  refine (Fin.sum_univ_one _).trans ?_
  rw [ref_v7, ref_v6]
  rfl
theorem ref_x (q : Fin 2048) (j : Fin 1024) : val_main_v42 (F := Ideal) D0 D1 D2 D3 W R X E G (ix2 q j)
    = gradRow (fun k => dn D0 D1 D2 D3 W R q k * G (ix1 k)) (fun k => X (ix2 q k)) (E (ix2 q j)) j := by
  rw [← gradRow_eq]
  pointwise [val_main_v42, val_main_v41, val_main_v40, val_main_v39, val_main_v33, val_main_v32, val_main_v31]
  simp only [ref_v26, ref_v7, ref_v38]
theorem ref_g (j : Fin 1024) : val_main_v44 (F := Ideal) D0 D1 D2 D3 W R X (ix2 0 j)
    = ∑ q : Fin 2048, dn D0 D1 D2 D3 W R q j * (X (ix2 q j) * rstd fun k => X (ix2 q k)) := by
  pointwise [val_main_v44, val_main_v27, val_main_cst_4, val_main_v24, val_main_v23, val_main_cst_3, val_main_v22, val_main_v12, val_main_v11]
  simp only [ref_v21, ref_v7]
  exact (Fin.sum_univ_one _).trans (Finset.sum_congr rfl fun q _ => mul_comm (_ : EReal) _)

theorem ref_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2.2.2, sem_eq_zero_of_no_sems (by decide) r.2⟩) (Cert.DhRefIdeal.Value.run m ρ)

end Ref

theorem algebraic : Cert.algebraic_DhIdeal_DhRefIdeal := by
  intro m ρ m' ρ' _ hag
  refine ⟨fun c i => outX m c (i 0) (i 1), fun c i => outX m c (i 0) (i 1), fun c (i : Cert.DhIdeal.S1x1024.Idx) => (show EReal from ∑ q : Fin 2048, term m c (i 1) q),
    run m ρ, (θ_run _ _ _).mono (fun r h c => ?_) (Cert.DhRefIdeal.Value.run m' ρ')⟩
  obtain ⟨a0, a1, a2, a3, a4, a5, a6, a7, a8⟩ := hag c
  refine ⟨(h c).1.trans ?_, (h c).2.1.trans ?_, (h c).2.2.1.trans ?_, (h c).2.2.2⟩
  · rw [Cert.DhRefIdeal.Read.val_main_v42_eq, a0, a1, a2, a3, a4, a5, a6, a7, a8]
    funext i
    exact (congrArg _ (eq_ix2 i)).trans (ref_x _ _ _ _ _ _ _ _ _ (i 0) (i 1))
  · rw [Cert.DhRefIdeal.Read.val_main_v43_eq, a0, a1, a2, a3, a4, a5, a6, a7, a8]
    funext i
    exact (congrArg (Cert.DhRefIdeal.Read.val_main_v42 (F := Ideal) _ _ _ _ _ _ _ _ _) (eq_ix2 i)).trans (ref_x _ _ _ _ _ _ _ _ _ (i 0) (i 1))
  · rw [Cert.DhRefIdeal.Read.val_main_v44_eq, a0, a1, a2, a3, a4, a5, a6]
    funext i
    refine (congrArg _ ((eq_ix2 i).trans (congrArg (ix2 · _) (Subsingleton.elim (α := Fin 1) (i 0) 0)))).trans (ref_g _ _ _ _ _ _ _ (i 1))

end Cert.DhProof

end
-- ==== Proof.lean ====
module

public import proofs.«01_k».proof.Defs
public import proofs.«01_k».proof.Proof.Gen.Xattn.Frame
public import proofs.«01_k».proof.Proof.Gen.XattnIdeal.Frame
public import proofs.«01_k».proof.Proof.Xattn
public import proofs.«01_k».proof.Proof.Gen.Merge.Frame
public import proofs.«01_k».proof.Proof.Gen.MergeIdeal.Frame
public import proofs.«01_k».proof.Proof.Merge
public import proofs.«01_k».proof.Proof.Gen.Sf.Frame
public import proofs.«01_k».proof.Proof.Gen.SfIdeal.Frame
public import proofs.«01_k».proof.Proof.Sf
public import proofs.«01_k».proof.Proof.Gen.Fp.Frame
public import proofs.«01_k».proof.Proof.Gen.FpIdeal.Frame
public import proofs.«01_k».proof.Proof.Fp
public import proofs.«01_k».proof.Proof.Gen.Fo.Frame
public import proofs.«01_k».proof.Proof.Gen.FoIdeal.Frame
public import proofs.«01_k».proof.Proof.Fo
public import proofs.«01_k».proof.Proof.Gen.Sb.Frame
public import proofs.«01_k».proof.Proof.Gen.SbIdeal.Frame
public import proofs.«01_k».proof.Proof.Sb
public import proofs.«01_k».proof.Proof.Gen.Mf.Frame
public import proofs.«01_k».proof.Proof.Gen.MfIdeal.Frame
public import proofs.«01_k».proof.Proof.Mf
public import proofs.«01_k».proof.Proof.Gen.Xf.Frame
public import proofs.«01_k».proof.Proof.Gen.XfIdeal.Frame
public import proofs.«01_k».proof.Proof.Xf
public import proofs.«01_k».proof.Proof.Gen.Nx.Frame
public import proofs.«01_k».proof.Proof.Gen.NxIdeal.Frame
public import proofs.«01_k».proof.Proof.Nx
public import proofs.«01_k».proof.Proof.Gen.Nm.Frame
public import proofs.«01_k».proof.Proof.Gen.NmIdeal.Frame
public import proofs.«01_k».proof.Proof.Nm
public import proofs.«01_k».proof.Proof.Gen.Nb.Frame
public import proofs.«01_k».proof.Proof.Gen.NbIdeal.Frame
public import proofs.«01_k».proof.Proof.Nb
public import proofs.«01_k».proof.Proof.Gen.Loss.Frame
public import proofs.«01_k».proof.Proof.Gen.LossIdeal.Frame
public import proofs.«01_k».proof.Proof.Loss
public import proofs.«01_k».proof.Proof.Gen.Adam.Frame
public import proofs.«01_k».proof.Proof.Gen.AdamIdeal.Frame
public import proofs.«01_k».proof.Proof.Adam
public import proofs.«01_k».proof.Proof.Gen.Dz.Frame
public import proofs.«01_k».proof.Proof.Gen.DzIdeal.Frame
public import proofs.«01_k».proof.Proof.Dz
public import proofs.«01_k».proof.Proof.Gen.Dw2.Frame
public import proofs.«01_k».proof.Proof.Gen.Dw2Ideal.Frame
public import proofs.«01_k».proof.Proof.Dw2
public import proofs.«01_k».proof.Proof.Gen.Dw1.Frame
public import proofs.«01_k».proof.Proof.Gen.Dw1Ideal.Frame
public import proofs.«01_k».proof.Proof.Dw1
public import proofs.«01_k».proof.Proof.Gen.Rest.Frame
public import proofs.«01_k».proof.Proof.Gen.RestIdeal.Frame
public import proofs.«01_k».proof.Proof.Rest
public import proofs.«01_k».proof.Proof.Gen.Qkv.Frame
public import proofs.«01_k».proof.Proof.Gen.QkvIdeal.Frame
public import proofs.«01_k».proof.Proof.Qkv
public import proofs.«01_k».proof.Proof.Gen.Xq.Frame
public import proofs.«01_k».proof.Proof.Gen.XqIdeal.Frame
public import proofs.«01_k».proof.Proof.Xq
public import proofs.«01_k».proof.Proof.Gen.Xkv.Frame
public import proofs.«01_k».proof.Proof.Gen.XkvIdeal.Frame
public import proofs.«01_k».proof.Proof.Xkv
public import proofs.«01_k».proof.Proof.Gen.Bc.Frame
public import proofs.«01_k».proof.Proof.Gen.BcIdeal.Frame
public import proofs.«01_k».proof.Proof.Bc
public import proofs.«01_k».proof.Proof.Gen.Bb.Frame
public import proofs.«01_k».proof.Proof.Gen.BbIdeal.Frame
public import proofs.«01_k».proof.Proof.Bb
public import proofs.«01_k».proof.Proof.Gen.Out.Frame
public import proofs.«01_k».proof.Proof.Gen.OutIdeal.Frame
public import proofs.«01_k».proof.Proof.Out
public import proofs.«01_k».proof.Proof.Gen.Ff1.Frame
public import proofs.«01_k».proof.Proof.Gen.Ff1Ideal.Frame
public import proofs.«01_k».proof.Proof.Ff1
public import proofs.«01_k».proof.Proof.Gen.Ff2n.Frame
public import proofs.«01_k».proof.Proof.Gen.Ff2nIdeal.Frame
public import proofs.«01_k».proof.Proof.Ff2n
public import proofs.«01_k».proof.Proof.Gen.Ff2.Frame
public import proofs.«01_k».proof.Proof.Gen.Ff2Ideal.Frame
public import proofs.«01_k».proof.Proof.Ff2
public import proofs.«01_k».proof.Proof.Gen.Dws.Frame
public import proofs.«01_k».proof.Proof.Gen.DwsIdeal.Frame
public import proofs.«01_k».proof.Proof.Dws
public import proofs.«01_k».proof.Proof.Gen.Dwkv.Frame
public import proofs.«01_k».proof.Proof.Gen.DwkvIdeal.Frame
public import proofs.«01_k».proof.Proof.Dwkv
public import proofs.«01_k».proof.Proof.Gen.Dwa.Frame
public import proofs.«01_k».proof.Proof.Gen.DwaIdeal.Frame
public import proofs.«01_k».proof.Proof.Dwa
public import proofs.«01_k».proof.Proof.Gen.Dwb.Frame
public import proofs.«01_k».proof.Proof.Gen.DwbIdeal.Frame
public import proofs.«01_k».proof.Proof.Dwb
public import proofs.«01_k».proof.Proof.Gen.Do2.Frame
public import proofs.«01_k».proof.Proof.Gen.Do2Ideal.Frame
public import proofs.«01_k».proof.Proof.Do2
public import proofs.«01_k».proof.Proof.Gen.Dm.Frame
public import proofs.«01_k».proof.Proof.Gen.DmIdeal.Frame
public import proofs.«01_k».proof.Proof.Dm
public import proofs.«01_k».proof.Proof.Gen.Dhm.Frame
public import proofs.«01_k».proof.Proof.Gen.DhmIdeal.Frame
public import proofs.«01_k».proof.Proof.Dhm
public import proofs.«01_k».proof.Proof.Gen.Dpa.Frame
public import proofs.«01_k».proof.Proof.Gen.DpaIdeal.Frame
public import proofs.«01_k».proof.Proof.Dpa
public import proofs.«01_k».proof.Proof.Gen.Do.Frame
public import proofs.«01_k».proof.Proof.Gen.DoIdeal.Frame
public import proofs.«01_k».proof.Proof.Do
public import proofs.«01_k».proof.Proof.DhfRun
public import proofs.«01_k».proof.Proof.DhfIdealRun
public import proofs.«01_k».proof.Proof.Dhf
public import proofs.«01_k».proof.Proof.DhxRun
public import proofs.«01_k».proof.Proof.DhxIdealRun
public import proofs.«01_k».proof.Proof.Dhx
public import proofs.«01_k».proof.Proof.Gen.Dwqkv.Frame
public import proofs.«01_k».proof.Proof.Gen.DwqkvIdeal.Frame
public import proofs.«01_k».proof.Proof.Dwqkv
public import proofs.«01_k».proof.Proof.Gen.Dwrest.Frame
public import proofs.«01_k».proof.Proof.Gen.DwrestIdeal.Frame
public import proofs.«01_k».proof.Proof.Dwrest
public import proofs.«01_k».proof.Proof.Gen.Dhqkv.Frame
public import proofs.«01_k».proof.Proof.Gen.DhqkvIdeal.Frame
public import proofs.«01_k».proof.Proof.Dhqkv
public import proofs.«01_k».proof.Proof.DhRun
public import proofs.«01_k».proof.Proof.DhIdealRun
public import proofs.«01_k».proof.Proof.Dh
public import Idealize.ShloMosaic.Adequacy
public import Idealize.ShloMosaic.Init

@[expose] public section

noncomputable section

namespace Cert.Proof

open Idealize.ShloMosaic Idealize.SL.Sem

theorem claim : Cert.Claim := ⟨
  Cert.Xattn.Gen.facts, Cert.XattnIdeal.Gen.facts, Cert.XattnRefIdeal.Gen.facts,
  Cert.Merge.Gen.facts, Cert.MergeIdeal.Gen.facts, Cert.MergeRefIdeal.Gen.facts,
  Cert.Sf.Gen.facts, Cert.SfIdeal.Gen.facts, Cert.SfRefIdeal.Gen.facts,
  Cert.Fp.Gen.facts, Cert.FpIdeal.Gen.facts, Cert.FpRefIdeal.Gen.facts,
  Cert.Fo.Gen.facts, Cert.FoIdeal.Gen.facts, Cert.FoRefIdeal.Gen.facts,
  Cert.Sb.Gen.facts, Cert.SbIdeal.Gen.facts, Cert.SbRefIdeal.Gen.facts,
  Cert.Mf.Gen.facts, Cert.MfIdeal.Gen.facts, Cert.MfRefIdeal.Gen.facts,
  Cert.Xf.Gen.facts, Cert.XfIdeal.Gen.facts, Cert.XfRefIdeal.Gen.facts,
  Cert.Nx.Gen.facts, Cert.NxIdeal.Gen.facts, Cert.NxRefIdeal.Gen.facts,
  Cert.Nm.Gen.facts, Cert.NmIdeal.Gen.facts, Cert.NmRefIdeal.Gen.facts,
  Cert.Nb.Gen.facts, Cert.NbIdeal.Gen.facts, Cert.NbRefIdeal.Gen.facts,
  Cert.Loss.Gen.facts, Cert.LossIdeal.Gen.facts, Cert.LossRefIdeal.Gen.facts,
  Cert.Adam.Gen.facts, Cert.AdamIdeal.Gen.facts, Cert.AdamRefIdeal.Gen.facts,
  Cert.Dz.Gen.facts, Cert.DzIdeal.Gen.facts, Cert.DzRefIdeal.Gen.facts,
  Cert.Dw2.Gen.facts, Cert.Dw2Ideal.Gen.facts, Cert.Dw2RefIdeal.Gen.facts,
  Cert.Dw1.Gen.facts, Cert.Dw1Ideal.Gen.facts, Cert.Dw1RefIdeal.Gen.facts,
  Cert.Rest.Gen.facts, Cert.RestIdeal.Gen.facts, Cert.RestRefIdeal.Gen.facts,
  Cert.Qkv.Gen.facts, Cert.QkvIdeal.Gen.facts, Cert.QkvRefIdeal.Gen.facts,
  Cert.Xq.Gen.facts, Cert.XqIdeal.Gen.facts, Cert.XqRefIdeal.Gen.facts,
  Cert.Xkv.Gen.facts, Cert.XkvIdeal.Gen.facts, Cert.XkvRefIdeal.Gen.facts,
  Cert.Bc.Gen.facts, Cert.BcIdeal.Gen.facts, Cert.BcRefIdeal.Gen.facts,
  Cert.Bb.Gen.facts, Cert.BbIdeal.Gen.facts, Cert.BbRefIdeal.Gen.facts,
  Cert.Out.Gen.facts, Cert.OutIdeal.Gen.facts, Cert.OutRefIdeal.Gen.facts,
  Cert.Ff1.Gen.facts, Cert.Ff1Ideal.Gen.facts, Cert.Ff1RefIdeal.Gen.facts,
  Cert.Ff2n.Gen.facts, Cert.Ff2nIdeal.Gen.facts, Cert.Ff2nRefIdeal.Gen.facts,
  Cert.Ff2.Gen.facts, Cert.Ff2Ideal.Gen.facts, Cert.Ff2RefIdeal.Gen.facts,
  Cert.Dws.Gen.facts, Cert.DwsIdeal.Gen.facts, Cert.DwsRefIdeal.Gen.facts,
  Cert.Dwkv.Gen.facts, Cert.DwkvIdeal.Gen.facts, Cert.DwkvRefIdeal.Gen.facts,
  Cert.Dwa.Gen.facts, Cert.DwaIdeal.Gen.facts, Cert.DwaRefIdeal.Gen.facts,
  Cert.Dwb.Gen.facts, Cert.DwbIdeal.Gen.facts, Cert.DwbRefIdeal.Gen.facts,
  Cert.Do2.Gen.facts, Cert.Do2Ideal.Gen.facts, Cert.Do2RefIdeal.Gen.facts,
  Cert.Dm.Gen.facts, Cert.DmIdeal.Gen.facts, Cert.DmRefIdeal.Gen.facts,
  Cert.Dhm.Gen.facts, Cert.DhmIdeal.Gen.facts, Cert.DhmRefIdeal.Gen.facts,
  Cert.Dpa.Gen.facts, Cert.DpaIdeal.Gen.facts, Cert.DpaRefIdeal.Gen.facts,
  Cert.Do.Gen.facts, Cert.DoIdeal.Gen.facts, Cert.DoRefIdeal.Gen.facts,
  Cert.Dhf.Gen.facts, Cert.DhfIdeal.Gen.facts, Cert.DhfRefIdeal.Gen.facts,
  Cert.Dhx.Gen.facts, Cert.DhxIdeal.Gen.facts, Cert.DhxRefIdeal.Gen.facts,
  Cert.Dwqkv.Gen.facts, Cert.DwqkvIdeal.Gen.facts, Cert.DwqkvRefIdeal.Gen.facts,
  Cert.Dwrest.Gen.facts, Cert.DwrestIdeal.Gen.facts, Cert.DwrestRefIdeal.Gen.facts,
  Cert.Dhqkv.Gen.facts, Cert.DhqkvIdeal.Gen.facts, Cert.DhqkvRefIdeal.Gen.facts,
  Cert.Dh.Gen.facts, Cert.DhIdeal.Gen.facts, Cert.DhRefIdeal.Gen.facts,
  Cert.XattnProof.preFacts,
  fun m ρ _ => Cert.Xattn.Gen.frame m ρ, fun m ρ _ => Cert.XattnIdeal.Gen.frame m ρ, fun m ρ _ => Cert.XattnIdeal.Gen.frame m ρ, fun m ρ _ => Cert.XattnProof.ref_frame m ρ, fun m ρ _ => Cert.XattnProof.ref_frame m ρ,
  fun m ρ _ => Cert.Merge.Gen.frame m ρ, fun m ρ _ => Cert.MergeIdeal.Gen.frame m ρ, fun m ρ _ => Cert.MergeProof.ref_frame m ρ,
  fun m ρ _ => Cert.Sf.Gen.frame m ρ, fun m ρ _ => Cert.SfIdeal.Gen.frame m ρ, fun m ρ _ => Cert.SfProof.ref_frame m ρ,
  fun m ρ _ => Cert.Fp.Gen.frame m ρ, fun m ρ _ => Cert.FpIdeal.Gen.frame m ρ, fun m ρ _ => Cert.FpProof.ref_frame m ρ,
  fun m ρ _ => Cert.Fo.Gen.frame m ρ, fun m ρ _ => Cert.FoIdeal.Gen.frame m ρ, fun m ρ _ => Cert.FoProof.ref_frame m ρ,
  fun m ρ _ => Cert.Sb.Gen.frame m ρ, fun m ρ _ => Cert.SbIdeal.Gen.frame m ρ, fun m ρ _ => Cert.SbProof.ref_frame m ρ,
  fun m ρ _ => Cert.Mf.Gen.frame m ρ, fun m ρ _ => Cert.MfIdeal.Gen.frame m ρ, fun m ρ _ => Cert.MfProof.ref_frame m ρ,
  fun m ρ _ => Cert.Xf.Gen.frame m ρ, fun m ρ _ => Cert.XfIdeal.Gen.frame m ρ, fun m ρ _ => Cert.XfProof.ref_frame m ρ,
  fun m ρ _ => Cert.Nx.Gen.frame m ρ, fun m ρ _ => Cert.NxIdeal.Gen.frame m ρ, fun m ρ _ => Cert.NxProof.ref_frame m ρ,
  fun m ρ _ => Cert.Nm.Gen.frame m ρ, fun m ρ _ => Cert.NmIdeal.Gen.frame m ρ, fun m ρ _ => Cert.NmProof.ref_frame m ρ,
  fun m ρ _ => Cert.Nb.Gen.frame m ρ, fun m ρ _ => Cert.NbIdeal.Gen.frame m ρ, fun m ρ _ => Cert.NbProof.ref_frame m ρ,
  fun m ρ _ => Cert.Loss.Gen.frame m ρ, fun m ρ _ => Cert.LossIdeal.Gen.frame m ρ, fun m ρ _ => Cert.LossProof.ref_frame m ρ,
  fun m ρ _ => Cert.Adam.Gen.frame m ρ, fun m ρ _ => Cert.AdamIdeal.Gen.frame m ρ, fun m ρ _ => Cert.AdamProof.ref_frame m ρ,
  fun m ρ _ => Cert.Dz.Gen.frame m ρ, fun m ρ _ => Cert.DzIdeal.Gen.frame m ρ, fun m ρ _ => Cert.DzProof.ref_frame m ρ,
  fun m ρ _ => Cert.Dw2.Gen.frame m ρ, fun m ρ _ => Cert.Dw2Ideal.Gen.frame m ρ, fun m ρ _ => Cert.Dw2Proof.ref_frame m ρ,
  fun m ρ _ => Cert.Dw1.Gen.frame m ρ, fun m ρ _ => Cert.Dw1Ideal.Gen.frame m ρ, fun m ρ _ => Cert.Dw1Proof.ref_frame m ρ,
  fun m ρ _ => Cert.Rest.Gen.frame m ρ, fun m ρ _ => Cert.RestIdeal.Gen.frame m ρ, fun m ρ _ => Cert.RestProof.ref_frame m ρ,
  fun m ρ _ => Cert.Qkv.Gen.frame m ρ, fun m ρ _ => Cert.QkvIdeal.Gen.frame m ρ, fun m ρ _ => Cert.QkvProof.ref_frame m ρ,
  fun m ρ _ => Cert.Xq.Gen.frame m ρ, fun m ρ _ => Cert.XqIdeal.Gen.frame m ρ, fun m ρ _ => Cert.XqProof.ref_frame m ρ,
  fun m ρ _ => Cert.Xkv.Gen.frame m ρ, fun m ρ _ => Cert.XkvIdeal.Gen.frame m ρ, fun m ρ _ => Cert.XkvProof.ref_frame m ρ,
  fun m ρ _ => Cert.Bc.Gen.frame m ρ, fun m ρ _ => Cert.BcIdeal.Gen.frame m ρ, fun m ρ _ => Cert.BcProof.ref_frame m ρ,
  fun m ρ _ => Cert.Bb.Gen.frame m ρ, fun m ρ _ => Cert.BbIdeal.Gen.frame m ρ, fun m ρ _ => Cert.BbProof.ref_frame m ρ,
  fun m ρ _ => Cert.Out.Gen.frame m ρ, fun m ρ _ => Cert.OutIdeal.Gen.frame m ρ, fun m ρ _ => Cert.OutProof.ref_frame m ρ,
  fun m ρ _ => Cert.Ff1.Gen.frame m ρ, fun m ρ _ => Cert.Ff1Ideal.Gen.frame m ρ, fun m ρ _ => Cert.Ff1Proof.ref_frame m ρ,
  fun m ρ _ => Cert.Ff2n.Gen.frame m ρ, fun m ρ _ => Cert.Ff2nIdeal.Gen.frame m ρ, fun m ρ _ => Cert.Ff2nProof.ref_frame m ρ,
  fun m ρ _ => Cert.Ff2.Gen.frame m ρ, fun m ρ _ => Cert.Ff2Ideal.Gen.frame m ρ, fun m ρ _ => Cert.Ff2Proof.ref_frame m ρ,
  fun m ρ _ => Cert.Dws.Gen.frame m ρ, fun m ρ _ => Cert.DwsIdeal.Gen.frame m ρ, fun m ρ _ => Cert.DwsProof.ref_frame m ρ,
  fun m ρ _ => Cert.Dwkv.Gen.frame m ρ, fun m ρ _ => Cert.DwkvIdeal.Gen.frame m ρ, fun m ρ _ => Cert.DwkvProof.ref_frame m ρ,
  fun m ρ _ => Cert.Dwa.Gen.frame m ρ, fun m ρ _ => Cert.DwaIdeal.Gen.frame m ρ, fun m ρ _ => Cert.DwaProof.ref_frame m ρ,
  fun m ρ _ => Cert.Dwb.Gen.frame m ρ, fun m ρ _ => Cert.DwbIdeal.Gen.frame m ρ, fun m ρ _ => Cert.DwbProof.ref_frame m ρ,
  fun m ρ _ => Cert.Do2.Gen.frame m ρ, fun m ρ _ => Cert.Do2Ideal.Gen.frame m ρ, fun m ρ _ => Cert.Do2Proof.ref_frame m ρ,
  fun m ρ _ => Cert.Dm.Gen.frame m ρ, fun m ρ _ => Cert.DmIdeal.Gen.frame m ρ, fun m ρ _ => Cert.DmProof.ref_frame m ρ,
  fun m ρ _ => Cert.Dhm.Gen.frame m ρ, fun m ρ _ => Cert.DhmIdeal.Gen.frame m ρ, fun m ρ _ => Cert.DhmProof.ref_frame m ρ,
  fun m ρ _ => Cert.Dpa.Gen.frame m ρ, fun m ρ _ => Cert.DpaIdeal.Gen.frame m ρ, fun m ρ _ => Cert.DpaProof.ref_frame m ρ,
  fun m ρ _ => Cert.Do.Gen.frame m ρ, fun m ρ _ => Cert.DoIdeal.Gen.frame m ρ, fun m ρ _ => Cert.DoProof.ref_frame m ρ,
  fun m ρ _ => Cert.DhfRun.frame m ρ, fun m ρ _ => Cert.DhfIdealRun.frame m ρ, fun m ρ _ => Cert.DhfProof.ref_frame m ρ,
  fun m ρ _ => Cert.DhxRun.frame m ρ, fun m ρ _ => Cert.DhxIdealRun.frame m ρ, fun m ρ _ => Cert.DhxProof.ref_frame m ρ,
  fun m ρ _ => Cert.Dwqkv.Gen.frame m ρ, fun m ρ _ => Cert.DwqkvIdeal.Gen.frame m ρ, fun m ρ _ => Cert.DwqkvProof.ref_frame m ρ,
  fun m ρ _ => Cert.Dwrest.Gen.frame m ρ, fun m ρ _ => Cert.DwrestIdeal.Gen.frame m ρ, fun m ρ _ => Cert.DwrestProof.ref_frame m ρ,
  fun m ρ _ => Cert.Dhqkv.Gen.frame m ρ, fun m ρ _ => Cert.DhqkvIdeal.Gen.frame m ρ, fun m ρ _ => Cert.DhqkvProof.ref_frame m ρ,
  fun m ρ _ => Cert.DhRun.frame m ρ, fun m ρ _ => Cert.DhIdealRun.frame m ρ, fun m ρ _ => Cert.DhProof.ref_frame m ρ,
  trivial, Cert.XattnProof.algebraic,
  trivial, Cert.MergeProof.algebraic,
  trivial, Cert.SfProof.algebraic,
  trivial, Cert.FpProof.algebraic,
  trivial, Cert.FoProof.algebraic,
  trivial, Cert.SbProof.algebraic,
  trivial, Cert.MfProof.algebraic,
  trivial, Cert.XfProof.algebraic,
  trivial, Cert.NxProof.algebraic,
  trivial, Cert.NmProof.algebraic,
  trivial, Cert.NbProof.algebraic,
  trivial, Cert.LossProof.algebraic,
  trivial, Cert.AdamProof.algebraic,
  trivial, Cert.DzProof.algebraic,
  trivial, Cert.Dw2Proof.algebraic,
  trivial, Cert.Dw1Proof.algebraic,
  trivial, Cert.RestProof.algebraic,
  trivial, Cert.QkvProof.algebraic,
  trivial, Cert.XqProof.algebraic,
  trivial, Cert.XkvProof.algebraic,
  trivial, Cert.BcProof.algebraic,
  trivial, Cert.BbProof.algebraic,
  trivial, Cert.OutProof.algebraic,
  trivial, Cert.Ff1Proof.algebraic,
  trivial, Cert.Ff2nProof.algebraic,
  trivial, Cert.Ff2Proof.algebraic,
  trivial, Cert.DwsProof.algebraic,
  trivial, Cert.DwkvProof.algebraic,
  trivial, Cert.DwaProof.algebraic,
  trivial, Cert.DwbProof.algebraic,
  trivial, Cert.Do2Proof.algebraic,
  trivial, Cert.DmProof.algebraic,
  trivial, Cert.DhmProof.algebraic,
  trivial, Cert.DpaProof.algebraic,
  trivial, Cert.DoProof.algebraic,
  trivial, Cert.DhfProof.algebraic,
  trivial, Cert.DhxProof.algebraic,
  trivial, Cert.DwqkvProof.algebraic,
  trivial, Cert.DwrestProof.algebraic,
  trivial, Cert.DhqkvProof.algebraic,
  trivial, Cert.DhProof.algebraic⟩

end Cert.Proof

end
